-- ==== Defs.lean ====
def Pre_SwigluBwd (m : (ℓ : Loc Cert.SwigluBwd.nD Cert.SwigluBwd.τ Cert.SwigluBwd.sig) → Buf (Elt Bits) ℓ) : Prop :=
  True

def Pre_SwigluBwdIdeal (m : (ℓ : Loc Cert.SwigluBwdIdeal.nD Cert.SwigluBwdIdeal.τ Cert.SwigluBwdIdeal.sig) → Buf (Elt Ideal) ℓ) : Prop :=
  True

def Pre_SwigluBwdIdeal_swiglu_finite [hPre_swiglu_finite : Cert.Pre_swiglu_finite.Facts] (m : (ℓ : Loc Cert.SwigluBwdIdeal.nD Cert.SwigluBwdIdeal.τ Cert.SwigluBwdIdeal.sig) → Buf (Elt Ideal) ℓ) : Prop :=
  ∀ c : Dev Cert.SwigluBwdIdeal.nD,
    (Cert.Pre_swiglu_finite.fn (F := Ideal) (m ((c.tc : Thread Cert.SwigluBwdIdeal.nD Cert.SwigluBwdIdeal.τ).loc Cert.SwigluBwdIdeal.main_arg0)) (m ((c.tc : Thread Cert.SwigluBwdIdeal.nD Cert.SwigluBwdIdeal.τ).loc Cert.SwigluBwdIdeal.main_arg1)) (m ((c.tc : Thread Cert.SwigluBwdIdeal.nD Cert.SwigluBwdIdeal.τ).loc Cert.SwigluBwdIdeal.main_arg2)) (m ((c.tc : Thread Cert.SwigluBwdIdeal.nD Cert.SwigluBwdIdeal.τ).loc Cert.SwigluBwdIdeal.main_arg3))) = (fun _ => 1#1)

def Pre_SwigluBwdRefIdeal (m : (ℓ : Loc Cert.SwigluBwdRefIdeal.nD Cert.SwigluBwdRefIdeal.τ Cert.SwigluBwdRefIdeal.sig) → Buf (Elt Ideal) ℓ) : Prop :=
  True

def Pre_SwigluBwdRefIdeal_swiglu_finite [hPre_swiglu_finite : Cert.Pre_swiglu_finite.Facts] (m : (ℓ : Loc Cert.SwigluBwdRefIdeal.nD Cert.SwigluBwdRefIdeal.τ Cert.SwigluBwdRefIdeal.sig) → Buf (Elt Ideal) ℓ) : Prop :=
  ∀ c : Dev Cert.SwigluBwdRefIdeal.nD,
    (Cert.Pre_swiglu_finite.fn (F := Ideal) (m ((c.tc : Thread Cert.SwigluBwdRefIdeal.nD Cert.SwigluBwdRefIdeal.τ).loc Cert.SwigluBwdRefIdeal.main_arg0)) (m ((c.tc : Thread Cert.SwigluBwdRefIdeal.nD Cert.SwigluBwdRefIdeal.τ).loc Cert.SwigluBwdRefIdeal.main_arg1)) (m ((c.tc : Thread Cert.SwigluBwdRefIdeal.nD Cert.SwigluBwdRefIdeal.τ).loc Cert.SwigluBwdRefIdeal.main_arg2)) (m ((c.tc : Thread Cert.SwigluBwdRefIdeal.nD Cert.SwigluBwdRefIdeal.τ).loc Cert.SwigluBwdRefIdeal.main_arg3))) = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_LossGrad (m : (ℓ : Loc Cert.LossGrad.nD Cert.LossGrad.τ Cert.LossGrad.sig) → Buf (Elt Bits) ℓ) : Prop :=
  True

def Pre_LossGradIdeal (m : (ℓ : Loc Cert.LossGradIdeal.nD Cert.LossGradIdeal.τ Cert.LossGradIdeal.sig) → Buf (Elt Ideal) ℓ) : Prop :=
  True

def Pre_LossGradRefIdeal (m : (ℓ : Loc Cert.LossGradRefIdeal.nD Cert.LossGradRefIdeal.τ Cert.LossGradRefIdeal.sig) → Buf (Elt Ideal) ℓ) : Prop :=
  True

def Pre_ProjInBwd (m : (ℓ : Loc Cert.ProjInBwd.nD Cert.ProjInBwd.τ Cert.ProjInBwd.sig) → Buf (Elt Bits) ℓ) : Prop :=
  True

def Pre_ProjInBwdIdeal (m : (ℓ : Loc Cert.ProjInBwdIdeal.nD Cert.ProjInBwdIdeal.τ Cert.ProjInBwdIdeal.sig) → Buf (Elt Ideal) ℓ) : Prop :=
  True

def Pre_ProjInBwdRefIdeal (m : (ℓ : Loc Cert.ProjInBwdRefIdeal.nD Cert.ProjInBwdRefIdeal.τ Cert.ProjInBwdRefIdeal.sig) → Buf (Elt Ideal) ℓ) : Prop :=
  True

def Pre_FfnInBwd (m : (ℓ : Loc Cert.FfnInBwd.nD Cert.FfnInBwd.τ Cert.FfnInBwd.sig) → Buf (Elt Bits) ℓ) : Prop :=
  True

def Pre_FfnInBwdIdeal (m : (ℓ : Loc Cert.FfnInBwdIdeal.nD Cert.FfnInBwdIdeal.τ Cert.FfnInBwdIdeal.sig) → Buf (Elt Ideal) ℓ) : Prop :=
  True

def Pre_FfnInBwdRefIdeal (m : (ℓ : Loc Cert.FfnInBwdRefIdeal.nD Cert.FfnInBwdRefIdeal.τ Cert.FfnInBwdRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_attn_finite [hPre_attn_finite : Cert.Pre_attn_finite.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_attn_finite.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2))) = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_attn_finite [hPre_attn_finite : Cert.Pre_attn_finite.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_attn_finite.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2))) = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_conv_finite [hPre_conv_finite : Cert.Pre_conv_finite.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_conv_finite.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3)) (m ((c.tc : Thread Cert.ConvBwdIdeal.nD Cert.ConvBwdIdeal.τ).loc Cert.ConvBwdIdeal.main_arg4)) (m ((c.tc : Thread Cert.ConvBwdIdeal.nD Cert.ConvBwdIdeal.τ).loc Cert.ConvBwdIdeal.main_arg5))) = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_conv_finite [hPre_conv_finite : Cert.Pre_conv_finite.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_conv_finite.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3)) (m ((c.tc : Thread Cert.ConvBwdRefIdeal.nD Cert.ConvBwdRefIdeal.τ).loc Cert.ConvBwdRefIdeal.main_arg4)) (m ((c.tc : Thread Cert.ConvBwdRefIdeal.nD Cert.ConvBwdRefIdeal.τ).loc Cert.ConvBwdRefIdeal.main_arg5))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SwigluFwd (m : (ℓ : Loc Cert.SwigluFwd.nD Cert.SwigluFwd.τ Cert.SwigluFwd.sig) → Buf (Elt Bits) ℓ) : Prop :=
  True

def Pre_SwigluFwdIdeal (m : (ℓ : Loc Cert.SwigluFwdIdeal.nD Cert.SwigluFwdIdeal.τ Cert.SwigluFwdIdeal.sig) → Buf (Elt Ideal) ℓ) : Prop :=
  True

def Pre_SwigluFwdRefIdeal (m : (ℓ : Loc Cert.SwigluFwdRefIdeal.nD Cert.SwigluFwdRefIdeal.τ Cert.SwigluFwdRefIdeal.sig) → Buf (Elt Ideal) ℓ) : Prop :=
  True

def Pre_ProjMerge (m : (ℓ : Loc Cert.ProjMerge.nD Cert.ProjMerge.τ Cert.ProjMerge.sig) → Buf (Elt Bits) ℓ) : Prop :=
  True

def Pre_ProjMergeIdeal (m : (ℓ : Loc Cert.ProjMergeIdeal.nD Cert.ProjMergeIdeal.τ Cert.ProjMergeIdeal.sig) → Buf (Elt Ideal) ℓ) : Prop :=
  True

def Pre_ProjMergeRefIdeal (m : (ℓ : Loc Cert.ProjMergeRefIdeal.nD Cert.ProjMergeRefIdeal.τ Cert.ProjMergeRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1))) = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1))) = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_FirstNorm (m : (ℓ : Loc Cert.FirstNorm.nD Cert.FirstNorm.τ Cert.FirstNorm.sig) → Buf (Elt Bits) ℓ) : Prop :=
  True

def Pre_FirstNormIdeal (m : (ℓ : Loc Cert.FirstNormIdeal.nD Cert.FirstNormIdeal.τ Cert.FirstNormIdeal.sig) → Buf (Elt Ideal) ℓ) : Prop :=
  True

def Pre_FirstNormRefIdeal (m : (ℓ : Loc Cert.FirstNormRefIdeal.nD Cert.FirstNormRefIdeal.τ Cert.FirstNormRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_StackedDw (m : (ℓ : Loc Cert.StackedDw.nD Cert.StackedDw.τ Cert.StackedDw.sig) → Buf (Elt Bits) ℓ) : Prop :=
  True

def Pre_StackedDwIdeal (m : (ℓ : Loc Cert.StackedDwIdeal.nD Cert.StackedDwIdeal.τ Cert.StackedDwIdeal.sig) → Buf (Elt Ideal) ℓ) : Prop :=
  True

def Pre_StackedDwRefIdeal (m : (ℓ : Loc Cert.StackedDwRefIdeal.nD Cert.StackedDwRefIdeal.τ Cert.StackedDwRefIdeal.sig) → Buf (Elt Ideal) ℓ) : Prop :=
  True

def quiescent_SwigluBwd [hSwigluBwd : Cert.SwigluBwd.Facts] : Prop :=
  ∀ (m : (ℓ : Loc Cert.SwigluBwd.nD Cert.SwigluBwd.τ Cert.SwigluBwd.sig) → Buf (Elt Bits) ℓ) (g : Dev Cert.SwigluBwd.nD → PrngReg), Pre_SwigluBwd m →
    θ_run (Cert.SwigluBwd.defs (F := Bits)) (onTc (τ := Cert.SwigluBwd.τ) (Cert.SwigluBwd.main (F := Bits))) ⟨m, fun _ => 0, g⟩ (fun r => (∀ c : Dev Cert.SwigluBwd.nD,
      r.2.mem ((c.tc : Thread Cert.SwigluBwd.nD Cert.SwigluBwd.τ).loc Cert.SwigluBwd.main_arg0) = m ((c.tc : Thread Cert.SwigluBwd.nD Cert.SwigluBwd.τ).loc Cert.SwigluBwd.main_arg0)
      ∧ r.2.mem ((c.tc : Thread Cert.SwigluBwd.nD Cert.SwigluBwd.τ).loc Cert.SwigluBwd.main_arg1) = m ((c.tc : Thread Cert.SwigluBwd.nD Cert.SwigluBwd.τ).loc Cert.SwigluBwd.main_arg1)
      ∧ r.2.mem ((c.tc : Thread Cert.SwigluBwd.nD Cert.SwigluBwd.τ).loc Cert.SwigluBwd.main_arg2) = m ((c.tc : Thread Cert.SwigluBwd.nD Cert.SwigluBwd.τ).loc Cert.SwigluBwd.main_arg2)
      ∧ r.2.mem ((c.tc : Thread Cert.SwigluBwd.nD Cert.SwigluBwd.τ).loc Cert.SwigluBwd.main_arg3) = m ((c.tc : Thread Cert.SwigluBwd.nD Cert.SwigluBwd.τ).loc Cert.SwigluBwd.main_arg3))
      ∧ r.2.sem = fun _ => 0)

def quiescent_SwigluBwdIdeal [hSwigluBwdIdeal : Cert.SwigluBwdIdeal.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdIdeal_pre_swiglu_finite [hSwigluBwdIdeal : Cert.SwigluBwdIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg), Pre_SwigluBwdIdeal_swiglu_finite m →
    θ_run (Cert.SwigluBwdIdeal.defs (F := Ideal)) (onTc (τ := Cert.SwigluBwdIdeal.τ) (Cert.SwigluBwdIdeal.main (F := Ideal))) ⟨m, fun _ => 0, g⟩ (fun r => (∀ c : Dev Cert.SwigluBwdIdeal.nD,
      r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
      ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
      ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
      ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ r.2.sem = fun _ => 0)

def quiescent_SwigluBwdRefIdeal [hSwigluBwdRefIdeal : Cert.SwigluBwdRefIdeal.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_SwigluBwdRefIdeal_pre_swiglu_finite [hSwigluBwdRefIdeal : Cert.SwigluBwdRefIdeal.Facts] [hPre_swiglu_finite : Cert.Pre_swiglu_finite.Facts] : Prop :=
  ∀ (m : (ℓ : Loc Cert.SwigluBwdRefIdeal.nD Cert.SwigluBwdRefIdeal.τ Cert.SwigluBwdRefIdeal.sig) → Buf (Elt Ideal) ℓ) (g : Dev Cert.SwigluBwdRefIdeal.nD → PrngReg), Pre_SwigluBwdRefIdeal_swiglu_finite m →
    θ_run (Cert.SwigluBwdRefIdeal.defs (F := Ideal)) (onTc (τ := Cert.SwigluBwdRefIdeal.τ) (Cert.SwigluBwdRefIdeal.main (F := Ideal))) ⟨m, fun _ => 0, g⟩ (fun r => (∀ c : Dev Cert.SwigluBwdRefIdeal.nD,
      r.2.mem ((c.tc : Thread Cert.SwigluBwdRefIdeal.nD Cert.SwigluBwdRefIdeal.τ).loc Cert.SwigluBwdRefIdeal.main_arg0) = m ((c.tc : Thread Cert.SwigluBwdRefIdeal.nD Cert.SwigluBwdRefIdeal.τ).loc Cert.SwigluBwdRefIdeal.main_arg0)
      ∧ r.2.mem ((c.tc : Thread Cert.SwigluBwdRefIdeal.nD Cert.SwigluBwdRefIdeal.τ).loc Cert.SwigluBwdRefIdeal.main_arg1) = m ((c.tc : Thread Cert.SwigluBwdRefIdeal.nD Cert.SwigluBwdRefIdeal.τ).loc Cert.SwigluBwdRefIdeal.main_arg1)
      ∧ r.2.mem ((c.tc : Thread Cert.SwigluBwdRefIdeal.nD Cert.SwigluBwdRefIdeal.τ).loc Cert.SwigluBwdRefIdeal.main_arg2) = m ((c.tc : Thread Cert.SwigluBwdRefIdeal.nD Cert.SwigluBwdRefIdeal.τ).loc Cert.SwigluBwdRefIdeal.main_arg2)
      ∧ r.2.mem ((c.tc : Thread Cert.SwigluBwdRefIdeal.nD Cert.SwigluBwdRefIdeal.τ).loc Cert.SwigluBwdRefIdeal.main_arg3) = m ((c.tc : Thread Cert.SwigluBwdRefIdeal.nD Cert.SwigluBwdRefIdeal.τ).loc Cert.SwigluBwdRefIdeal.main_arg3))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_LossGrad [hLossGrad : Cert.LossGrad.Facts] : Prop :=
  ∀ (m : (ℓ : Loc Cert.LossGrad.nD Cert.LossGrad.τ Cert.LossGrad.sig) → Buf (Elt Bits) ℓ) (g : Dev Cert.LossGrad.nD → PrngReg), Pre_LossGrad m →
    θ_run (Cert.LossGrad.defs (F := Bits)) (onTc (τ := Cert.LossGrad.τ) (Cert.LossGrad.main (F := Bits))) ⟨m, fun _ => 0, g⟩ (fun r => (∀ c : Dev Cert.LossGrad.nD,
      r.2.mem ((c.tc : Thread Cert.LossGrad.nD Cert.LossGrad.τ).loc Cert.LossGrad.main_arg0) = m ((c.tc : Thread Cert.LossGrad.nD Cert.LossGrad.τ).loc Cert.LossGrad.main_arg0)
      ∧ r.2.mem ((c.tc : Thread Cert.LossGrad.nD Cert.LossGrad.τ).loc Cert.LossGrad.main_arg1) = m ((c.tc : Thread Cert.LossGrad.nD Cert.LossGrad.τ).loc Cert.LossGrad.main_arg1)
      ∧ r.2.mem ((c.tc : Thread Cert.LossGrad.nD Cert.LossGrad.τ).loc Cert.LossGrad.main_arg2) = m ((c.tc : Thread Cert.LossGrad.nD Cert.LossGrad.τ).loc Cert.LossGrad.main_arg2)
      ∧ r.2.mem ((c.tc : Thread Cert.LossGrad.nD Cert.LossGrad.τ).loc Cert.LossGrad.main_arg3) = m ((c.tc : Thread Cert.LossGrad.nD Cert.LossGrad.τ).loc Cert.LossGrad.main_arg3)
      ∧ r.2.mem ((c.tc : Thread Cert.LossGrad.nD Cert.LossGrad.τ).loc Cert.LossGrad.main_arg4) = m ((c.tc : Thread Cert.LossGrad.nD Cert.LossGrad.τ).loc Cert.LossGrad.main_arg4))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
      ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4))
      ∧ r.2.sem = fun _ => 0)

def quiescent_LossGradRefIdeal [hLossGradRefIdeal : Cert.LossGradRefIdeal.Facts] : Prop :=
  ∀ (m : (ℓ : Loc Cert.LossGradRefIdeal.nD Cert.LossGradRefIdeal.τ Cert.LossGradRefIdeal.sig) → Buf (Elt Ideal) ℓ) (g : Dev Cert.LossGradRefIdeal.nD → PrngReg), Pre_LossGradRefIdeal m →
    θ_run (Cert.LossGradRefIdeal.defs (F := Ideal)) (onTc (τ := Cert.LossGradRefIdeal.τ) (Cert.LossGradRefIdeal.main (F := Ideal))) ⟨m, fun _ => 0, g⟩ (fun r => (∀ c : Dev Cert.LossGradRefIdeal.nD,
      r.2.mem ((c.tc : Thread Cert.LossGradRefIdeal.nD Cert.LossGradRefIdeal.τ).loc Cert.LossGradRefIdeal.main_arg0) = m ((c.tc : Thread Cert.LossGradRefIdeal.nD Cert.LossGradRefIdeal.τ).loc Cert.LossGradRefIdeal.main_arg0)
      ∧ r.2.mem ((c.tc : Thread Cert.LossGradRefIdeal.nD Cert.LossGradRefIdeal.τ).loc Cert.LossGradRefIdeal.main_arg1) = m ((c.tc : Thread Cert.LossGradRefIdeal.nD Cert.LossGradRefIdeal.τ).loc Cert.LossGradRefIdeal.main_arg1)
      ∧ r.2.mem ((c.tc : Thread Cert.LossGradRefIdeal.nD Cert.LossGradRefIdeal.τ).loc Cert.LossGradRefIdeal.main_arg2) = m ((c.tc : Thread Cert.LossGradRefIdeal.nD Cert.LossGradRefIdeal.τ).loc Cert.LossGradRefIdeal.main_arg2)
      ∧ r.2.mem ((c.tc : Thread Cert.LossGradRefIdeal.nD Cert.LossGradRefIdeal.τ).loc Cert.LossGradRefIdeal.main_arg3) = m ((c.tc : Thread Cert.LossGradRefIdeal.nD Cert.LossGradRefIdeal.τ).loc Cert.LossGradRefIdeal.main_arg3)
      ∧ r.2.mem ((c.tc : Thread Cert.LossGradRefIdeal.nD Cert.LossGradRefIdeal.τ).loc Cert.LossGradRefIdeal.main_arg4) = m ((c.tc : Thread Cert.LossGradRefIdeal.nD Cert.LossGradRefIdeal.τ).loc Cert.LossGradRefIdeal.main_arg4))
      ∧ r.2.sem = fun _ => 0)

def quiescent_ProjInBwd [hProjInBwd : Cert.ProjInBwd.Facts] : Prop :=
  ∀ (m : (ℓ : Loc Cert.ProjInBwd.nD Cert.ProjInBwd.τ Cert.ProjInBwd.sig) → Buf (Elt Bits) ℓ) (g : Dev Cert.ProjInBwd.nD → PrngReg), Pre_ProjInBwd m →
    θ_run (Cert.ProjInBwd.defs (F := Bits)) (onTc (τ := Cert.ProjInBwd.τ) (Cert.ProjInBwd.main (F := Bits))) ⟨m, fun _ => 0, g⟩ (fun r => (∀ c : Dev Cert.ProjInBwd.nD,
      r.2.mem ((c.tc : Thread Cert.ProjInBwd.nD Cert.ProjInBwd.τ).loc Cert.ProjInBwd.main_arg0) = m ((c.tc : Thread Cert.ProjInBwd.nD Cert.ProjInBwd.τ).loc Cert.ProjInBwd.main_arg0)
      ∧ r.2.mem ((c.tc : Thread Cert.ProjInBwd.nD Cert.ProjInBwd.τ).loc Cert.ProjInBwd.main_arg1) = m ((c.tc : Thread Cert.ProjInBwd.nD Cert.ProjInBwd.τ).loc Cert.ProjInBwd.main_arg1)
      ∧ r.2.mem ((c.tc : Thread Cert.ProjInBwd.nD Cert.ProjInBwd.τ).loc Cert.ProjInBwd.main_arg2) = m ((c.tc : Thread Cert.ProjInBwd.nD Cert.ProjInBwd.τ).loc Cert.ProjInBwd.main_arg2)
      ∧ r.2.mem ((c.tc : Thread Cert.ProjInBwd.nD Cert.ProjInBwd.τ).loc Cert.ProjInBwd.main_arg3) = m ((c.tc : Thread Cert.ProjInBwd.nD Cert.ProjInBwd.τ).loc Cert.ProjInBwd.main_arg3)
      ∧ r.2.mem ((c.tc : Thread Cert.ProjInBwd.nD Cert.ProjInBwd.τ).loc Cert.ProjInBwd.main_arg4) = m ((c.tc : Thread Cert.ProjInBwd.nD Cert.ProjInBwd.τ).loc Cert.ProjInBwd.main_arg4))
      ∧ r.2.sem = fun _ => 0)

def quiescent_ProjInBwdIdeal [hProjInBwdIdeal : Cert.ProjInBwdIdeal.Facts] : Prop :=
  ∀ (m : (ℓ : Loc Cert.ProjInBwdIdeal.nD Cert.ProjInBwdIdeal.τ Cert.ProjInBwdIdeal.sig) → Buf (Elt Ideal) ℓ) (g : Dev Cert.ProjInBwdIdeal.nD → PrngReg), Pre_ProjInBwdIdeal m →
    θ_run (Cert.ProjInBwdIdeal.defs (F := Ideal)) (onTc (τ := Cert.ProjInBwdIdeal.τ) (Cert.ProjInBwdIdeal.main (F := Ideal))) ⟨m, fun _ => 0, g⟩ (fun r => (∀ c : Dev Cert.ProjInBwdIdeal.nD,
      r.2.mem ((c.tc : Thread Cert.ProjInBwdIdeal.nD Cert.ProjInBwdIdeal.τ).loc Cert.ProjInBwdIdeal.main_arg0) = m ((c.tc : Thread Cert.ProjInBwdIdeal.nD Cert.ProjInBwdIdeal.τ).loc Cert.ProjInBwdIdeal.main_arg0)
      ∧ r.2.mem ((c.tc : Thread Cert.ProjInBwdIdeal.nD Cert.ProjInBwdIdeal.τ).loc Cert.ProjInBwdIdeal.main_arg1) = m ((c.tc : Thread Cert.ProjInBwdIdeal.nD Cert.ProjInBwdIdeal.τ).loc Cert.ProjInBwdIdeal.main_arg1)
      ∧ r.2.mem ((c.tc : Thread Cert.ProjInBwdIdeal.nD Cert.ProjInBwdIdeal.τ).loc Cert.ProjInBwdIdeal.main_arg2) = m ((c.tc : Thread Cert.ProjInBwdIdeal.nD Cert.ProjInBwdIdeal.τ).loc Cert.ProjInBwdIdeal.main_arg2)
      ∧ r.2.mem ((c.tc : Thread Cert.ProjInBwdIdeal.nD Cert.ProjInBwdIdeal.τ).loc Cert.ProjInBwdIdeal.main_arg3) = m ((c.tc : Thread Cert.ProjInBwdIdeal.nD Cert.ProjInBwdIdeal.τ).loc Cert.ProjInBwdIdeal.main_arg3)
      ∧ r.2.mem ((c.tc : Thread Cert.ProjInBwdIdeal.nD Cert.ProjInBwdIdeal.τ).loc Cert.ProjInBwdIdeal.main_arg4) = m ((c.tc : Thread Cert.ProjInBwdIdeal.nD Cert.ProjInBwdIdeal.τ).loc Cert.ProjInBwdIdeal.main_arg4))
      ∧ r.2.sem = fun _ => 0)

def quiescent_ProjInBwdRefIdeal [hProjInBwdRefIdeal : Cert.ProjInBwdRefIdeal.Facts] : Prop :=
  ∀ (m : (ℓ : Loc Cert.ProjInBwdRefIdeal.nD Cert.ProjInBwdRefIdeal.τ Cert.ProjInBwdRefIdeal.sig) → Buf (Elt Ideal) ℓ) (g : Dev Cert.ProjInBwdRefIdeal.nD → PrngReg), Pre_ProjInBwdRefIdeal m →
    θ_run (Cert.ProjInBwdRefIdeal.defs (F := Ideal)) (onTc (τ := Cert.ProjInBwdRefIdeal.τ) (Cert.ProjInBwdRefIdeal.main (F := Ideal))) ⟨m, fun _ => 0, g⟩ (fun r => (∀ c : Dev Cert.ProjInBwdRefIdeal.nD,
      r.2.mem ((c.tc : Thread Cert.ProjInBwdRefIdeal.nD Cert.ProjInBwdRefIdeal.τ).loc Cert.ProjInBwdRefIdeal.main_arg0) = m ((c.tc : Thread Cert.ProjInBwdRefIdeal.nD Cert.ProjInBwdRefIdeal.τ).loc Cert.ProjInBwdRefIdeal.main_arg0)
      ∧ r.2.mem ((c.tc : Thread Cert.ProjInBwdRefIdeal.nD Cert.ProjInBwdRefIdeal.τ).loc Cert.ProjInBwdRefIdeal.main_arg1) = m ((c.tc : Thread Cert.ProjInBwdRefIdeal.nD Cert.ProjInBwdRefIdeal.τ).loc Cert.ProjInBwdRefIdeal.main_arg1)
      ∧ r.2.mem ((c.tc : Thread Cert.ProjInBwdRefIdeal.nD Cert.ProjInBwdRefIdeal.τ).loc Cert.ProjInBwdRefIdeal.main_arg2) = m ((c.tc : Thread Cert.ProjInBwdRefIdeal.nD Cert.ProjInBwdRefIdeal.τ).loc Cert.ProjInBwdRefIdeal.main_arg2)
      ∧ r.2.mem ((c.tc : Thread Cert.ProjInBwdRefIdeal.nD Cert.ProjInBwdRefIdeal.τ).loc Cert.ProjInBwdRefIdeal.main_arg3) = m ((c.tc : Thread Cert.ProjInBwdRefIdeal.nD Cert.ProjInBwdRefIdeal.τ).loc Cert.ProjInBwdRefIdeal.main_arg3)
      ∧ r.2.mem ((c.tc : Thread Cert.ProjInBwdRefIdeal.nD Cert.ProjInBwdRefIdeal.τ).loc Cert.ProjInBwdRefIdeal.main_arg4) = m ((c.tc : Thread Cert.ProjInBwdRefIdeal.nD Cert.ProjInBwdRefIdeal.τ).loc Cert.ProjInBwdRefIdeal.main_arg4))
      ∧ r.2.sem = fun _ => 0)

def quiescent_FfnInBwd [hFfnInBwd : Cert.FfnInBwd.Facts] : Prop :=
  ∀ (m : (ℓ : Loc Cert.FfnInBwd.nD Cert.FfnInBwd.τ Cert.FfnInBwd.sig) → Buf (Elt Bits) ℓ) (g : Dev Cert.FfnInBwd.nD → PrngReg), Pre_FfnInBwd m →
    θ_run (Cert.FfnInBwd.defs (F := Bits)) (onTc (τ := Cert.FfnInBwd.τ) (Cert.FfnInBwd.main (F := Bits))) ⟨m, fun _ => 0, g⟩ (fun r => (∀ c : Dev Cert.FfnInBwd.nD,
      r.2.mem ((c.tc : Thread Cert.FfnInBwd.nD Cert.FfnInBwd.τ).loc Cert.FfnInBwd.main_arg0) = m ((c.tc : Thread Cert.FfnInBwd.nD Cert.FfnInBwd.τ).loc Cert.FfnInBwd.main_arg0)
      ∧ r.2.mem ((c.tc : Thread Cert.FfnInBwd.nD Cert.FfnInBwd.τ).loc Cert.FfnInBwd.main_arg1) = m ((c.tc : Thread Cert.FfnInBwd.nD Cert.FfnInBwd.τ).loc Cert.FfnInBwd.main_arg1)
      ∧ r.2.mem ((c.tc : Thread Cert.FfnInBwd.nD Cert.FfnInBwd.τ).loc Cert.FfnInBwd.main_arg2) = m ((c.tc : Thread Cert.FfnInBwd.nD Cert.FfnInBwd.τ).loc Cert.FfnInBwd.main_arg2)
      ∧ r.2.mem ((c.tc : Thread Cert.FfnInBwd.nD Cert.FfnInBwd.τ).loc Cert.FfnInBwd.main_arg3) = m ((c.tc : Thread Cert.FfnInBwd.nD Cert.FfnInBwd.τ).loc Cert.FfnInBwd.main_arg3)
      ∧ r.2.mem ((c.tc : Thread Cert.FfnInBwd.nD Cert.FfnInBwd.τ).loc Cert.FfnInBwd.main_arg4) = m ((c.tc : Thread Cert.FfnInBwd.nD Cert.FfnInBwd.τ).loc Cert.FfnInBwd.main_arg4))
      ∧ r.2.sem = fun _ => 0)

def quiescent_FfnInBwdIdeal [hFfnInBwdIdeal : Cert.FfnInBwdIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg), Pre_FfnInBwdIdeal m →
    θ_run (Cert.FfnInBwdIdeal.defs (F := Ideal)) (onTc (τ := Cert.FfnInBwdIdeal.τ) (Cert.FfnInBwdIdeal.main (F := Ideal))) ⟨m, fun _ => 0, g⟩ (fun r => (∀ c : Dev Cert.FfnInBwdIdeal.nD,
      r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
      ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
      ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
      ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
      ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4))
      ∧ r.2.sem = fun _ => 0)

def quiescent_FfnInBwdRefIdeal [hFfnInBwdRefIdeal : Cert.FfnInBwdRefIdeal.Facts] : Prop :=
  ∀ (m : (ℓ : Loc Cert.FfnInBwdRefIdeal.nD Cert.FfnInBwdRefIdeal.τ Cert.FfnInBwdRefIdeal.sig) → Buf (Elt Ideal) ℓ) (g : Dev Cert.FfnInBwdRefIdeal.nD → PrngReg), Pre_FfnInBwdRefIdeal m →
    θ_run (Cert.FfnInBwdRefIdeal.defs (F := Ideal)) (onTc (τ := Cert.FfnInBwdRefIdeal.τ) (Cert.FfnInBwdRefIdeal.main (F := Ideal))) ⟨m, fun _ => 0, g⟩ (fun r => (∀ c : Dev Cert.FfnInBwdRefIdeal.nD,
      r.2.mem ((c.tc : Thread Cert.FfnInBwdRefIdeal.nD Cert.FfnInBwdRefIdeal.τ).loc Cert.FfnInBwdRefIdeal.main_arg0) = m ((c.tc : Thread Cert.FfnInBwdRefIdeal.nD Cert.FfnInBwdRefIdeal.τ).loc Cert.FfnInBwdRefIdeal.main_arg0)
      ∧ r.2.mem ((c.tc : Thread Cert.FfnInBwdRefIdeal.nD Cert.FfnInBwdRefIdeal.τ).loc Cert.FfnInBwdRefIdeal.main_arg1) = m ((c.tc : Thread Cert.FfnInBwdRefIdeal.nD Cert.FfnInBwdRefIdeal.τ).loc Cert.FfnInBwdRefIdeal.main_arg1)
      ∧ r.2.mem ((c.tc : Thread Cert.FfnInBwdRefIdeal.nD Cert.FfnInBwdRefIdeal.τ).loc Cert.FfnInBwdRefIdeal.main_arg2) = m ((c.tc : Thread Cert.FfnInBwdRefIdeal.nD Cert.FfnInBwdRefIdeal.τ).loc Cert.FfnInBwdRefIdeal.main_arg2)
      ∧ r.2.mem ((c.tc : Thread Cert.FfnInBwdRefIdeal.nD Cert.FfnInBwdRefIdeal.τ).loc Cert.FfnInBwdRefIdeal.main_arg3) = m ((c.tc : Thread Cert.FfnInBwdRefIdeal.nD Cert.FfnInBwdRefIdeal.τ).loc Cert.FfnInBwdRefIdeal.main_arg3)
      ∧ r.2.mem ((c.tc : Thread Cert.FfnInBwdRefIdeal.nD Cert.FfnInBwdRefIdeal.τ).loc Cert.FfnInBwdRefIdeal.main_arg4) = m ((c.tc : Thread Cert.FfnInBwdRefIdeal.nD Cert.FfnInBwdRefIdeal.τ).loc Cert.FfnInBwdRefIdeal.main_arg4))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdIdeal_pre_attn_finite [hAttnBwdIdeal : Cert.AttnBwdIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_attn_finite m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_AttnBwdRefIdeal_pre_attn_finite [hAttnBwdRefIdeal : Cert.AttnBwdRefIdeal.Facts] [hPre_attn_finite : Cert.Pre_attn_finite.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_attn_finite m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3)
      ∧ r.2.mem ((c.tc : Thread Cert.ConvBwd.nD Cert.ConvBwd.τ).loc Cert.ConvBwd.main_arg4) = m ((c.tc : Thread Cert.ConvBwd.nD Cert.ConvBwd.τ).loc Cert.ConvBwd.main_arg4)
      ∧ r.2.mem ((c.tc : Thread Cert.ConvBwd.nD Cert.ConvBwd.τ).loc Cert.ConvBwd.main_arg5) = m ((c.tc : Thread Cert.ConvBwd.nD Cert.ConvBwd.τ).loc Cert.ConvBwd.main_arg5))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdIdeal_pre_conv_finite [hConvBwdIdeal : Cert.ConvBwdIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_conv_finite m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
      ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
      ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_ConvBwdRefIdeal_pre_conv_finite [hConvBwdRefIdeal : Cert.ConvBwdRefIdeal.Facts] [hPre_conv_finite : Cert.Pre_conv_finite.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_conv_finite m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3)
      ∧ r.2.mem ((c.tc : Thread Cert.ConvBwdRefIdeal.nD Cert.ConvBwdRefIdeal.τ).loc Cert.ConvBwdRefIdeal.main_arg4) = m ((c.tc : Thread Cert.ConvBwdRefIdeal.nD Cert.ConvBwdRefIdeal.τ).loc Cert.ConvBwdRefIdeal.main_arg4)
      ∧ r.2.mem ((c.tc : Thread Cert.ConvBwdRefIdeal.nD Cert.ConvBwdRefIdeal.τ).loc Cert.ConvBwdRefIdeal.main_arg5) = m ((c.tc : Thread Cert.ConvBwdRefIdeal.nD Cert.ConvBwdRefIdeal.τ).loc Cert.ConvBwdRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_SwigluFwd [hSwigluFwd : Cert.SwigluFwd.Facts] : Prop :=
  ∀ (m : (ℓ : Loc Cert.SwigluFwd.nD Cert.SwigluFwd.τ Cert.SwigluFwd.sig) → Buf (Elt Bits) ℓ) (g : Dev Cert.SwigluFwd.nD → PrngReg), Pre_SwigluFwd m →
    θ_run (Cert.SwigluFwd.defs (F := Bits)) (onTc (τ := Cert.SwigluFwd.τ) (Cert.SwigluFwd.main (F := Bits))) ⟨m, fun _ => 0, g⟩ (fun r => (∀ c : Dev Cert.SwigluFwd.nD,
      r.2.mem ((c.tc : Thread Cert.SwigluFwd.nD Cert.SwigluFwd.τ).loc Cert.SwigluFwd.main_arg0) = m ((c.tc : Thread Cert.SwigluFwd.nD Cert.SwigluFwd.τ).loc Cert.SwigluFwd.main_arg0)
      ∧ r.2.mem ((c.tc : Thread Cert.SwigluFwd.nD Cert.SwigluFwd.τ).loc Cert.SwigluFwd.main_arg1) = m ((c.tc : Thread Cert.SwigluFwd.nD Cert.SwigluFwd.τ).loc Cert.SwigluFwd.main_arg1))
      ∧ r.2.sem = fun _ => 0)

def quiescent_SwigluFwdIdeal [hSwigluFwdIdeal : Cert.SwigluFwdIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg), Pre_SwigluFwdIdeal m →
    θ_run (Cert.SwigluFwdIdeal.defs (F := Ideal)) (onTc (τ := Cert.SwigluFwdIdeal.τ) (Cert.SwigluFwdIdeal.main (F := Ideal))) ⟨m, fun _ => 0, g⟩ (fun r => (∀ c : Dev Cert.SwigluFwdIdeal.nD,
      r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
      ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ r.2.sem = fun _ => 0)

def quiescent_SwigluFwdRefIdeal [hSwigluFwdRefIdeal : Cert.SwigluFwdRefIdeal.Facts] : Prop :=
  ∀ (m : (ℓ : Loc Cert.SwigluFwdRefIdeal.nD Cert.SwigluFwdRefIdeal.τ Cert.SwigluFwdRefIdeal.sig) → Buf (Elt Ideal) ℓ) (g : Dev Cert.SwigluFwdRefIdeal.nD → PrngReg), Pre_SwigluFwdRefIdeal m →
    θ_run (Cert.SwigluFwdRefIdeal.defs (F := Ideal)) (onTc (τ := Cert.SwigluFwdRefIdeal.τ) (Cert.SwigluFwdRefIdeal.main (F := Ideal))) ⟨m, fun _ => 0, g⟩ (fun r => (∀ c : Dev Cert.SwigluFwdRefIdeal.nD,
      r.2.mem ((c.tc : Thread Cert.SwigluFwdRefIdeal.nD Cert.SwigluFwdRefIdeal.τ).loc Cert.SwigluFwdRefIdeal.main_arg0) = m ((c.tc : Thread Cert.SwigluFwdRefIdeal.nD Cert.SwigluFwdRefIdeal.τ).loc Cert.SwigluFwdRefIdeal.main_arg0)
      ∧ r.2.mem ((c.tc : Thread Cert.SwigluFwdRefIdeal.nD Cert.SwigluFwdRefIdeal.τ).loc Cert.SwigluFwdRefIdeal.main_arg1) = m ((c.tc : Thread Cert.SwigluFwdRefIdeal.nD Cert.SwigluFwdRefIdeal.τ).loc Cert.SwigluFwdRefIdeal.main_arg1))
      ∧ r.2.sem = fun _ => 0)

def quiescent_ProjMerge [hProjMerge : Cert.ProjMerge.Facts] : Prop :=
  ∀ (m : (ℓ : Loc Cert.ProjMerge.nD Cert.ProjMerge.τ Cert.ProjMerge.sig) → Buf (Elt Bits) ℓ) (g : Dev Cert.ProjMerge.nD → PrngReg), Pre_ProjMerge m →
    θ_run (Cert.ProjMerge.defs (F := Bits)) (onTc (τ := Cert.ProjMerge.τ) (Cert.ProjMerge.main (F := Bits))) ⟨m, fun _ => 0, g⟩ (fun r => (∀ c : Dev Cert.ProjMerge.nD,
      r.2.mem ((c.tc : Thread Cert.ProjMerge.nD Cert.ProjMerge.τ).loc Cert.ProjMerge.main_arg0) = m ((c.tc : Thread Cert.ProjMerge.nD Cert.ProjMerge.τ).loc Cert.ProjMerge.main_arg0)
      ∧ r.2.mem ((c.tc : Thread Cert.ProjMerge.nD Cert.ProjMerge.τ).loc Cert.ProjMerge.main_arg1) = m ((c.tc : Thread Cert.ProjMerge.nD Cert.ProjMerge.τ).loc Cert.ProjMerge.main_arg1)
      ∧ r.2.mem ((c.tc : Thread Cert.ProjMerge.nD Cert.ProjMerge.τ).loc Cert.ProjMerge.main_arg2) = m ((c.tc : Thread Cert.ProjMerge.nD Cert.ProjMerge.τ).loc Cert.ProjMerge.main_arg2)
      ∧ r.2.mem ((c.tc : Thread Cert.ProjMerge.nD Cert.ProjMerge.τ).loc Cert.ProjMerge.main_arg3) = m ((c.tc : Thread Cert.ProjMerge.nD Cert.ProjMerge.τ).loc Cert.ProjMerge.main_arg3)
      ∧ r.2.mem ((c.tc : Thread Cert.ProjMerge.nD Cert.ProjMerge.τ).loc Cert.ProjMerge.main_arg4) = m ((c.tc : Thread Cert.ProjMerge.nD Cert.ProjMerge.τ).loc Cert.ProjMerge.main_arg4)
      ∧ r.2.mem ((c.tc : Thread Cert.ProjMerge.nD Cert.ProjMerge.τ).loc Cert.ProjMerge.main_arg5) = m ((c.tc : Thread Cert.ProjMerge.nD Cert.ProjMerge.τ).loc Cert.ProjMerge.main_arg5))
      ∧ r.2.sem = fun _ => 0)

def quiescent_ProjMergeIdeal [hProjMergeIdeal : Cert.ProjMergeIdeal.Facts] : Prop :=
  ∀ (m : (ℓ : Loc Cert.ProjMergeIdeal.nD Cert.ProjMergeIdeal.τ Cert.ProjMergeIdeal.sig) → Buf (Elt Ideal) ℓ) (g : Dev Cert.ProjMergeIdeal.nD → PrngReg), Pre_ProjMergeIdeal m →
    θ_run (Cert.ProjMergeIdeal.defs (F := Ideal)) (onTc (τ := Cert.ProjMergeIdeal.τ) (Cert.ProjMergeIdeal.main (F := Ideal))) ⟨m, fun _ => 0, g⟩ (fun r => (∀ c : Dev Cert.ProjMergeIdeal.nD,
      r.2.mem ((c.tc : Thread Cert.ProjMergeIdeal.nD Cert.ProjMergeIdeal.τ).loc Cert.ProjMergeIdeal.main_arg0) = m ((c.tc : Thread Cert.ProjMergeIdeal.nD Cert.ProjMergeIdeal.τ).loc Cert.ProjMergeIdeal.main_arg0)
      ∧ r.2.mem ((c.tc : Thread Cert.ProjMergeIdeal.nD Cert.ProjMergeIdeal.τ).loc Cert.ProjMergeIdeal.main_arg1) = m ((c.tc : Thread Cert.ProjMergeIdeal.nD Cert.ProjMergeIdeal.τ).loc Cert.ProjMergeIdeal.main_arg1)
      ∧ r.2.mem ((c.tc : Thread Cert.ProjMergeIdeal.nD Cert.ProjMergeIdeal.τ).loc Cert.ProjMergeIdeal.main_arg2) = m ((c.tc : Thread Cert.ProjMergeIdeal.nD Cert.ProjMergeIdeal.τ).loc Cert.ProjMergeIdeal.main_arg2)
      ∧ r.2.mem ((c.tc : Thread Cert.ProjMergeIdeal.nD Cert.ProjMergeIdeal.τ).loc Cert.ProjMergeIdeal.main_arg3) = m ((c.tc : Thread Cert.ProjMergeIdeal.nD Cert.ProjMergeIdeal.τ).loc Cert.ProjMergeIdeal.main_arg3)
      ∧ r.2.mem ((c.tc : Thread Cert.ProjMergeIdeal.nD Cert.ProjMergeIdeal.τ).loc Cert.ProjMergeIdeal.main_arg4) = m ((c.tc : Thread Cert.ProjMergeIdeal.nD Cert.ProjMergeIdeal.τ).loc Cert.ProjMergeIdeal.main_arg4)
      ∧ r.2.mem ((c.tc : Thread Cert.ProjMergeIdeal.nD Cert.ProjMergeIdeal.τ).loc Cert.ProjMergeIdeal.main_arg5) = m ((c.tc : Thread Cert.ProjMergeIdeal.nD Cert.ProjMergeIdeal.τ).loc Cert.ProjMergeIdeal.main_arg5))
      ∧ r.2.sem = fun _ => 0)

def quiescent_ProjMergeRefIdeal [hProjMergeRefIdeal : Cert.ProjMergeRefIdeal.Facts] : Prop :=
  ∀ (m : (ℓ : Loc Cert.ProjMergeRefIdeal.nD Cert.ProjMergeRefIdeal.τ Cert.ProjMergeRefIdeal.sig) → Buf (Elt Ideal) ℓ) (g : Dev Cert.ProjMergeRefIdeal.nD → PrngReg), Pre_ProjMergeRefIdeal m →
    θ_run (Cert.ProjMergeRefIdeal.defs (F := Ideal)) (onTc (τ := Cert.ProjMergeRefIdeal.τ) (Cert.ProjMergeRefIdeal.main (F := Ideal))) ⟨m, fun _ => 0, g⟩ (fun r => (∀ c : Dev Cert.ProjMergeRefIdeal.nD,
      r.2.mem ((c.tc : Thread Cert.ProjMergeRefIdeal.nD Cert.ProjMergeRefIdeal.τ).loc Cert.ProjMergeRefIdeal.main_arg0) = m ((c.tc : Thread Cert.ProjMergeRefIdeal.nD Cert.ProjMergeRefIdeal.τ).loc Cert.ProjMergeRefIdeal.main_arg0)
      ∧ r.2.mem ((c.tc : Thread Cert.ProjMergeRefIdeal.nD Cert.ProjMergeRefIdeal.τ).loc Cert.ProjMergeRefIdeal.main_arg1) = m ((c.tc : Thread Cert.ProjMergeRefIdeal.nD Cert.ProjMergeRefIdeal.τ).loc Cert.ProjMergeRefIdeal.main_arg1)
      ∧ r.2.mem ((c.tc : Thread Cert.ProjMergeRefIdeal.nD Cert.ProjMergeRefIdeal.τ).loc Cert.ProjMergeRefIdeal.main_arg2) = m ((c.tc : Thread Cert.ProjMergeRefIdeal.nD Cert.ProjMergeRefIdeal.τ).loc Cert.ProjMergeRefIdeal.main_arg2)
      ∧ r.2.mem ((c.tc : Thread Cert.ProjMergeRefIdeal.nD Cert.ProjMergeRefIdeal.τ).loc Cert.ProjMergeRefIdeal.main_arg3) = m ((c.tc : Thread Cert.ProjMergeRefIdeal.nD Cert.ProjMergeRefIdeal.τ).loc Cert.ProjMergeRefIdeal.main_arg3)
      ∧ r.2.mem ((c.tc : Thread Cert.ProjMergeRefIdeal.nD Cert.ProjMergeRefIdeal.τ).loc Cert.ProjMergeRefIdeal.main_arg4) = m ((c.tc : Thread Cert.ProjMergeRefIdeal.nD Cert.ProjMergeRefIdeal.τ).loc Cert.ProjMergeRefIdeal.main_arg4)
      ∧ r.2.mem ((c.tc : Thread Cert.ProjMergeRefIdeal.nD Cert.ProjMergeRefIdeal.τ).loc Cert.ProjMergeRefIdeal.main_arg5) = m ((c.tc : Thread Cert.ProjMergeRefIdeal.nD Cert.ProjMergeRefIdeal.τ).loc Cert.ProjMergeRefIdeal.main_arg5))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def quiescent_FirstNorm [hFirstNorm : Cert.FirstNorm.Facts] : Prop :=
  ∀ (m : (ℓ : Loc Cert.FirstNorm.nD Cert.FirstNorm.τ Cert.FirstNorm.sig) → Buf (Elt Bits) ℓ) (g : Dev Cert.FirstNorm.nD → PrngReg), Pre_FirstNorm m →
    θ_run (Cert.FirstNorm.defs (F := Bits)) (onTc (τ := Cert.FirstNorm.τ) (Cert.FirstNorm.main (F := Bits))) ⟨m, fun _ => 0, g⟩ (fun r => (∀ c : Dev Cert.FirstNorm.nD,
      r.2.mem ((c.tc : Thread Cert.FirstNorm.nD Cert.FirstNorm.τ).loc Cert.FirstNorm.main_arg0) = m ((c.tc : Thread Cert.FirstNorm.nD Cert.FirstNorm.τ).loc Cert.FirstNorm.main_arg0)
      ∧ r.2.mem ((c.tc : Thread Cert.FirstNorm.nD Cert.FirstNorm.τ).loc Cert.FirstNorm.main_arg1) = m ((c.tc : Thread Cert.FirstNorm.nD Cert.FirstNorm.τ).loc Cert.FirstNorm.main_arg1))
      ∧ r.2.sem = fun _ => 0)

def quiescent_FirstNormIdeal [hFirstNormIdeal : Cert.FirstNormIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg), Pre_FirstNormIdeal m →
    θ_run (Cert.FirstNormIdeal.defs (F := Ideal)) (onTc (τ := Cert.FirstNormIdeal.τ) (Cert.FirstNormIdeal.main (F := Ideal))) ⟨m, fun _ => 0, g⟩ (fun r => (∀ c : Dev Cert.FirstNormIdeal.nD,
      r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
      ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ r.2.sem = fun _ => 0)

def quiescent_FirstNormRefIdeal [hFirstNormRefIdeal : Cert.FirstNormRefIdeal.Facts] : Prop :=
  ∀ (m : (ℓ : Loc Cert.FirstNormRefIdeal.nD Cert.FirstNormRefIdeal.τ Cert.FirstNormRefIdeal.sig) → Buf (Elt Ideal) ℓ) (g : Dev Cert.FirstNormRefIdeal.nD → PrngReg), Pre_FirstNormRefIdeal m →
    θ_run (Cert.FirstNormRefIdeal.defs (F := Ideal)) (onTc (τ := Cert.FirstNormRefIdeal.τ) (Cert.FirstNormRefIdeal.main (F := Ideal))) ⟨m, fun _ => 0, g⟩ (fun r => (∀ c : Dev Cert.FirstNormRefIdeal.nD,
      r.2.mem ((c.tc : Thread Cert.FirstNormRefIdeal.nD Cert.FirstNormRefIdeal.τ).loc Cert.FirstNormRefIdeal.main_arg0) = m ((c.tc : Thread Cert.FirstNormRefIdeal.nD Cert.FirstNormRefIdeal.τ).loc Cert.FirstNormRefIdeal.main_arg0)
      ∧ r.2.mem ((c.tc : Thread Cert.FirstNormRefIdeal.nD Cert.FirstNormRefIdeal.τ).loc Cert.FirstNormRefIdeal.main_arg1) = m ((c.tc : Thread Cert.FirstNormRefIdeal.nD Cert.FirstNormRefIdeal.τ).loc Cert.FirstNormRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def quiescent_StackedDw [hStackedDw : Cert.StackedDw.Facts] : Prop :=
  ∀ (m : (ℓ : Loc Cert.StackedDw.nD Cert.StackedDw.τ Cert.StackedDw.sig) → Buf (Elt Bits) ℓ) (g : Dev Cert.StackedDw.nD → PrngReg), Pre_StackedDw m →
    θ_run (Cert.StackedDw.defs (F := Bits)) (onTc (τ := Cert.StackedDw.τ) (Cert.StackedDw.main (F := Bits))) ⟨m, fun _ => 0, g⟩ (fun r => (∀ c : Dev Cert.StackedDw.nD,
      r.2.mem ((c.tc : Thread Cert.StackedDw.nD Cert.StackedDw.τ).loc Cert.StackedDw.main_arg0) = m ((c.tc : Thread Cert.StackedDw.nD Cert.StackedDw.τ).loc Cert.StackedDw.main_arg0)
      ∧ r.2.mem ((c.tc : Thread Cert.StackedDw.nD Cert.StackedDw.τ).loc Cert.StackedDw.main_arg1) = m ((c.tc : Thread Cert.StackedDw.nD Cert.StackedDw.τ).loc Cert.StackedDw.main_arg1)
      ∧ r.2.mem ((c.tc : Thread Cert.StackedDw.nD Cert.StackedDw.τ).loc Cert.StackedDw.main_arg2) = m ((c.tc : Thread Cert.StackedDw.nD Cert.StackedDw.τ).loc Cert.StackedDw.main_arg2))
      ∧ r.2.sem = fun _ => 0)

def quiescent_StackedDwIdeal [hStackedDwIdeal : Cert.StackedDwIdeal.Facts] : Prop :=
  ∀ (m : (ℓ : Loc Cert.StackedDwIdeal.nD Cert.StackedDwIdeal.τ Cert.StackedDwIdeal.sig) → Buf (Elt Ideal) ℓ) (g : Dev Cert.StackedDwIdeal.nD → PrngReg), Pre_StackedDwIdeal m →
    θ_run (Cert.StackedDwIdeal.defs (F := Ideal)) (onTc (τ := Cert.StackedDwIdeal.τ) (Cert.StackedDwIdeal.main (F := Ideal))) ⟨m, fun _ => 0, g⟩ (fun r => (∀ c : Dev Cert.StackedDwIdeal.nD,
      r.2.mem ((c.tc : Thread Cert.StackedDwIdeal.nD Cert.StackedDwIdeal.τ).loc Cert.StackedDwIdeal.main_arg0) = m ((c.tc : Thread Cert.StackedDwIdeal.nD Cert.StackedDwIdeal.τ).loc Cert.StackedDwIdeal.main_arg0)
      ∧ r.2.mem ((c.tc : Thread Cert.StackedDwIdeal.nD Cert.StackedDwIdeal.τ).loc Cert.StackedDwIdeal.main_arg1) = m ((c.tc : Thread Cert.StackedDwIdeal.nD Cert.StackedDwIdeal.τ).loc Cert.StackedDwIdeal.main_arg1)
      ∧ r.2.mem ((c.tc : Thread Cert.StackedDwIdeal.nD Cert.StackedDwIdeal.τ).loc Cert.StackedDwIdeal.main_arg2) = m ((c.tc : Thread Cert.StackedDwIdeal.nD Cert.StackedDwIdeal.τ).loc Cert.StackedDwIdeal.main_arg2))
      ∧ r.2.sem = fun _ => 0)

def quiescent_StackedDwRefIdeal [hStackedDwRefIdeal : Cert.StackedDwRefIdeal.Facts] : Prop :=
  ∀ (m : (ℓ : Loc Cert.StackedDwRefIdeal.nD Cert.StackedDwRefIdeal.τ Cert.StackedDwRefIdeal.sig) → Buf (Elt Ideal) ℓ) (g : Dev Cert.StackedDwRefIdeal.nD → PrngReg), Pre_StackedDwRefIdeal m →
    θ_run (Cert.StackedDwRefIdeal.defs (F := Ideal)) (onTc (τ := Cert.StackedDwRefIdeal.τ) (Cert.StackedDwRefIdeal.main (F := Ideal))) ⟨m, fun _ => 0, g⟩ (fun r => (∀ c : Dev Cert.StackedDwRefIdeal.nD,
      r.2.mem ((c.tc : Thread Cert.StackedDwRefIdeal.nD Cert.StackedDwRefIdeal.τ).loc Cert.StackedDwRefIdeal.main_arg0) = m ((c.tc : Thread Cert.StackedDwRefIdeal.nD Cert.StackedDwRefIdeal.τ).loc Cert.StackedDwRefIdeal.main_arg0)
      ∧ r.2.mem ((c.tc : Thread Cert.StackedDwRefIdeal.nD Cert.StackedDwRefIdeal.τ).loc Cert.StackedDwRefIdeal.main_arg1) = m ((c.tc : Thread Cert.StackedDwRefIdeal.nD Cert.StackedDwRefIdeal.τ).loc Cert.StackedDwRefIdeal.main_arg1)
      ∧ r.2.mem ((c.tc : Thread Cert.StackedDwRefIdeal.nD Cert.StackedDwRefIdeal.τ).loc Cert.StackedDwRefIdeal.main_arg2) = m ((c.tc : Thread Cert.StackedDwRefIdeal.nD Cert.StackedDwRefIdeal.τ).loc Cert.StackedDwRefIdeal.main_arg2))
      ∧ r.2.sem = fun _ => 0)

def preserves_SwigluBwd_SwigluBwdIdeal : Prop :=
  True

def algebraic_SwigluBwdIdeal_SwigluBwdRefIdeal_pre_swiglu_finite [hSwigluBwdIdeal : Cert.SwigluBwdIdeal.Facts] [hSwigluBwdRefIdeal : Cert.SwigluBwdRefIdeal.Facts] [hPre_swiglu_finite : Cert.Pre_swiglu_finite.Facts] : Prop :=
  ∀ (m : (ℓ : Loc Cert.SwigluBwdIdeal.nD Cert.SwigluBwdIdeal.τ Cert.SwigluBwdIdeal.sig) → Buf (Elt Ideal) ℓ) (g : Dev Cert.SwigluBwdIdeal.nD → PrngReg)
    (m' : (ℓ : Loc Cert.SwigluBwdRefIdeal.nD Cert.SwigluBwdRefIdeal.τ Cert.SwigluBwdRefIdeal.sig) → Buf (Elt Ideal) ℓ) (g' : Dev Cert.SwigluBwdRefIdeal.nD → PrngReg), Pre_SwigluBwdIdeal_swiglu_finite m →
    (∀ c : Dev Cert.SwigluBwdIdeal.nD,
      m' ((c.tc : Thread Cert.SwigluBwdRefIdeal.nD Cert.SwigluBwdRefIdeal.τ).loc Cert.SwigluBwdRefIdeal.main_arg0) = m ((c.tc : Thread Cert.SwigluBwdIdeal.nD Cert.SwigluBwdIdeal.τ).loc Cert.SwigluBwdIdeal.main_arg0)
      ∧ m' ((c.tc : Thread Cert.SwigluBwdRefIdeal.nD Cert.SwigluBwdRefIdeal.τ).loc Cert.SwigluBwdRefIdeal.main_arg1) = m ((c.tc : Thread Cert.SwigluBwdIdeal.nD Cert.SwigluBwdIdeal.τ).loc Cert.SwigluBwdIdeal.main_arg1)
      ∧ m' ((c.tc : Thread Cert.SwigluBwdRefIdeal.nD Cert.SwigluBwdRefIdeal.τ).loc Cert.SwigluBwdRefIdeal.main_arg2) = m ((c.tc : Thread Cert.SwigluBwdIdeal.nD Cert.SwigluBwdIdeal.τ).loc Cert.SwigluBwdIdeal.main_arg2)
      ∧ m' ((c.tc : Thread Cert.SwigluBwdRefIdeal.nD Cert.SwigluBwdRefIdeal.τ).loc Cert.SwigluBwdRefIdeal.main_arg3) = m ((c.tc : Thread Cert.SwigluBwdIdeal.nD Cert.SwigluBwdIdeal.τ).loc Cert.SwigluBwdIdeal.main_arg3)) →
    ∃ (v0 : (c : Dev Cert.SwigluBwdIdeal.nD) → Buf (Elt Ideal) ((c.tc : Thread Cert.SwigluBwdIdeal.nD Cert.SwigluBwdIdeal.τ).loc Cert.SwigluBwdIdeal.main_v8_0)) (v1 : (c : Dev Cert.SwigluBwdIdeal.nD) → Buf (Elt Ideal) ((c.tc : Thread Cert.SwigluBwdIdeal.nD Cert.SwigluBwdIdeal.τ).loc Cert.SwigluBwdIdeal.main_v8_1)),
      θ_run (Cert.SwigluBwdIdeal.defs (F := Ideal)) (onTc (τ := Cert.SwigluBwdIdeal.τ) (Cert.SwigluBwdIdeal.main (F := Ideal))) ⟨m, fun _ => 0, g⟩ (fun r => ∀ c : Dev Cert.SwigluBwdIdeal.nD,
          r.2.mem ((c.tc : Thread Cert.SwigluBwdIdeal.nD Cert.SwigluBwdIdeal.τ).loc Cert.SwigluBwdIdeal.main_v8_0) = v0 c
          ∧ r.2.mem ((c.tc : Thread Cert.SwigluBwdIdeal.nD Cert.SwigluBwdIdeal.τ).loc Cert.SwigluBwdIdeal.main_v8_1) = v1 c
          ∧ r.2.mem ((c.tc : Thread Cert.SwigluBwdIdeal.nD Cert.SwigluBwdIdeal.τ).loc Cert.SwigluBwdIdeal.main_arg0) = m ((c.tc : Thread Cert.SwigluBwdIdeal.nD Cert.SwigluBwdIdeal.τ).loc Cert.SwigluBwdIdeal.main_arg0)
          ∧ r.2.mem ((c.tc : Thread Cert.SwigluBwdIdeal.nD Cert.SwigluBwdIdeal.τ).loc Cert.SwigluBwdIdeal.main_arg1) = m ((c.tc : Thread Cert.SwigluBwdIdeal.nD Cert.SwigluBwdIdeal.τ).loc Cert.SwigluBwdIdeal.main_arg1)
          ∧ r.2.mem ((c.tc : Thread Cert.SwigluBwdIdeal.nD Cert.SwigluBwdIdeal.τ).loc Cert.SwigluBwdIdeal.main_arg2) = m ((c.tc : Thread Cert.SwigluBwdIdeal.nD Cert.SwigluBwdIdeal.τ).loc Cert.SwigluBwdIdeal.main_arg2)
          ∧ r.2.mem ((c.tc : Thread Cert.SwigluBwdIdeal.nD Cert.SwigluBwdIdeal.τ).loc Cert.SwigluBwdIdeal.main_arg3) = m ((c.tc : Thread Cert.SwigluBwdIdeal.nD Cert.SwigluBwdIdeal.τ).loc Cert.SwigluBwdIdeal.main_arg3))
      ∧ θ_run (Cert.SwigluBwdRefIdeal.defs (F := Ideal)) (onTc (τ := Cert.SwigluBwdRefIdeal.τ) (Cert.SwigluBwdRefIdeal.main (F := Ideal))) ⟨m', fun _ => 0, g'⟩ (fun r => ∀ c : Dev Cert.SwigluBwdRefIdeal.nD,
          r.2.mem ((c.tc : Thread Cert.SwigluBwdRefIdeal.nD Cert.SwigluBwdRefIdeal.τ).loc Cert.SwigluBwdRefIdeal.main_v9) = v0 c
          ∧ r.2.mem ((c.tc : Thread Cert.SwigluBwdRefIdeal.nD Cert.SwigluBwdRefIdeal.τ).loc Cert.SwigluBwdRefIdeal.main_v11) = v1 c
          ∧ r.2.mem ((c.tc : Thread Cert.SwigluBwdRefIdeal.nD Cert.SwigluBwdRefIdeal.τ).loc Cert.SwigluBwdRefIdeal.main_arg0) = m' ((c.tc : Thread Cert.SwigluBwdRefIdeal.nD Cert.SwigluBwdRefIdeal.τ).loc Cert.SwigluBwdRefIdeal.main_arg0)
          ∧ r.2.mem ((c.tc : Thread Cert.SwigluBwdRefIdeal.nD Cert.SwigluBwdRefIdeal.τ).loc Cert.SwigluBwdRefIdeal.main_arg1) = m' ((c.tc : Thread Cert.SwigluBwdRefIdeal.nD Cert.SwigluBwdRefIdeal.τ).loc Cert.SwigluBwdRefIdeal.main_arg1)
          ∧ r.2.mem ((c.tc : Thread Cert.SwigluBwdRefIdeal.nD Cert.SwigluBwdRefIdeal.τ).loc Cert.SwigluBwdRefIdeal.main_arg2) = m' ((c.tc : Thread Cert.SwigluBwdRefIdeal.nD Cert.SwigluBwdRefIdeal.τ).loc Cert.SwigluBwdRefIdeal.main_arg2)
          ∧ r.2.mem ((c.tc : Thread Cert.SwigluBwdRefIdeal.nD Cert.SwigluBwdRefIdeal.τ).loc Cert.SwigluBwdRefIdeal.main_arg3) = m' ((c.tc : Thread Cert.SwigluBwdRefIdeal.nD Cert.SwigluBwdRefIdeal.τ).loc Cert.SwigluBwdRefIdeal.main_arg3))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v10_0)) (v1 : (c : Dev Cert.MergeBwdIdeal.nD) → Buf (Elt Ideal) ((c.tc : Thread Cert.MergeBwdIdeal.nD Cert.MergeBwdIdeal.τ).loc Cert.MergeBwdIdeal.main_v10_1)) (v2 : (c : Dev Cert.MergeBwdIdeal.nD) → Buf (Elt Ideal) ((c.tc : Thread Cert.MergeBwdIdeal.nD Cert.MergeBwdIdeal.τ).loc Cert.MergeBwdIdeal.main_v10_2)) (v3 : (c : Dev Cert.MergeBwdIdeal.nD) → Buf (Elt Ideal) ((c.tc : Thread Cert.MergeBwdIdeal.nD Cert.MergeBwdIdeal.τ).loc Cert.MergeBwdIdeal.main_v10_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v10_0) = v0 c
          ∧ r.2.mem ((c.tc : Thread Cert.MergeBwdIdeal.nD Cert.MergeBwdIdeal.τ).loc Cert.MergeBwdIdeal.main_v10_1) = v1 c
          ∧ r.2.mem ((c.tc : Thread Cert.MergeBwdIdeal.nD Cert.MergeBwdIdeal.τ).loc Cert.MergeBwdIdeal.main_v10_2) = v2 c
          ∧ r.2.mem ((c.tc : Thread Cert.MergeBwdIdeal.nD Cert.MergeBwdIdeal.τ).loc Cert.MergeBwdIdeal.main_v10_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v33) = v0 c
          ∧ r.2.mem ((c.tc : Thread Cert.MergeBwdRefIdeal.nD Cert.MergeBwdRefIdeal.τ).loc Cert.MergeBwdRefIdeal.main_v35) = v1 c
          ∧ r.2.mem ((c.tc : Thread Cert.MergeBwdRefIdeal.nD Cert.MergeBwdRefIdeal.τ).loc Cert.MergeBwdRefIdeal.main_v38) = v2 c
          ∧ r.2.mem ((c.tc : Thread Cert.MergeBwdRefIdeal.nD Cert.MergeBwdRefIdeal.τ).loc Cert.MergeBwdRefIdeal.main_v41) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_LossGrad_LossGradIdeal : Prop :=
  True

def algebraic_LossGradIdeal_LossGradRefIdeal [hLossGradIdeal : Cert.LossGradIdeal.Facts] [hLossGradRefIdeal : Cert.LossGradRefIdeal.Facts] : Prop :=
  ∀ (m : (ℓ : Loc Cert.LossGradIdeal.nD Cert.LossGradIdeal.τ Cert.LossGradIdeal.sig) → Buf (Elt Ideal) ℓ) (g : Dev Cert.LossGradIdeal.nD → PrngReg)
    (m' : (ℓ : Loc Cert.LossGradRefIdeal.nD Cert.LossGradRefIdeal.τ Cert.LossGradRefIdeal.sig) → Buf (Elt Ideal) ℓ) (g' : Dev Cert.LossGradRefIdeal.nD → PrngReg), Pre_LossGradIdeal m →
    (∀ c : Dev Cert.LossGradIdeal.nD,
      m' ((c.tc : Thread Cert.LossGradRefIdeal.nD Cert.LossGradRefIdeal.τ).loc Cert.LossGradRefIdeal.main_arg0) = m ((c.tc : Thread Cert.LossGradIdeal.nD Cert.LossGradIdeal.τ).loc Cert.LossGradIdeal.main_arg0)
      ∧ m' ((c.tc : Thread Cert.LossGradRefIdeal.nD Cert.LossGradRefIdeal.τ).loc Cert.LossGradRefIdeal.main_arg1) = m ((c.tc : Thread Cert.LossGradIdeal.nD Cert.LossGradIdeal.τ).loc Cert.LossGradIdeal.main_arg1)
      ∧ m' ((c.tc : Thread Cert.LossGradRefIdeal.nD Cert.LossGradRefIdeal.τ).loc Cert.LossGradRefIdeal.main_arg2) = m ((c.tc : Thread Cert.LossGradIdeal.nD Cert.LossGradIdeal.τ).loc Cert.LossGradIdeal.main_arg2)
      ∧ m' ((c.tc : Thread Cert.LossGradRefIdeal.nD Cert.LossGradRefIdeal.τ).loc Cert.LossGradRefIdeal.main_arg3) = m ((c.tc : Thread Cert.LossGradIdeal.nD Cert.LossGradIdeal.τ).loc Cert.LossGradIdeal.main_arg3)
      ∧ m' ((c.tc : Thread Cert.LossGradRefIdeal.nD Cert.LossGradRefIdeal.τ).loc Cert.LossGradRefIdeal.main_arg4) = m ((c.tc : Thread Cert.LossGradIdeal.nD Cert.LossGradIdeal.τ).loc Cert.LossGradIdeal.main_arg4)) →
    ∃ (v0 : (c : Dev Cert.LossGradIdeal.nD) → Buf (Elt Ideal) ((c.tc : Thread Cert.LossGradIdeal.nD Cert.LossGradIdeal.τ).loc Cert.LossGradIdeal.main_v7_0)) (v1 : (c : Dev Cert.LossGradIdeal.nD) → Buf (Elt Ideal) ((c.tc : Thread Cert.LossGradIdeal.nD Cert.LossGradIdeal.τ).loc Cert.LossGradIdeal.main_v7_1)) (v2 : (c : Dev Cert.LossGradIdeal.nD) → Buf (Elt Ideal) ((c.tc : Thread Cert.LossGradIdeal.nD Cert.LossGradIdeal.τ).loc Cert.LossGradIdeal.main_v7_2)) (v3 : (c : Dev Cert.LossGradIdeal.nD) → Buf (Elt Ideal) ((c.tc : Thread Cert.LossGradIdeal.nD Cert.LossGradIdeal.τ).loc Cert.LossGradIdeal.main_v7_3)),
      θ_run (Cert.LossGradIdeal.defs (F := Ideal)) (onTc (τ := Cert.LossGradIdeal.τ) (Cert.LossGradIdeal.main (F := Ideal))) ⟨m, fun _ => 0, g⟩ (fun r => ∀ c : Dev Cert.LossGradIdeal.nD,
          r.2.mem ((c.tc : Thread Cert.LossGradIdeal.nD Cert.LossGradIdeal.τ).loc Cert.LossGradIdeal.main_v7_0) = v0 c
          ∧ r.2.mem ((c.tc : Thread Cert.LossGradIdeal.nD Cert.LossGradIdeal.τ).loc Cert.LossGradIdeal.main_v7_1) = v1 c
          ∧ r.2.mem ((c.tc : Thread Cert.LossGradIdeal.nD Cert.LossGradIdeal.τ).loc Cert.LossGradIdeal.main_v7_2) = v2 c
          ∧ r.2.mem ((c.tc : Thread Cert.LossGradIdeal.nD Cert.LossGradIdeal.τ).loc Cert.LossGradIdeal.main_v7_3) = v3 c
          ∧ r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3)
          ∧ r.2.mem ((c.tc : Thread Cert.LossGradIdeal.nD Cert.LossGradIdeal.τ).loc Cert.LossGradIdeal.main_arg4) = m ((c.tc : Thread Cert.LossGradIdeal.nD Cert.LossGradIdeal.τ).loc Cert.LossGradIdeal.main_arg4))
      ∧ θ_run (Cert.LossGradRefIdeal.defs (F := Ideal)) (onTc (τ := Cert.LossGradRefIdeal.τ) (Cert.LossGradRefIdeal.main (F := Ideal))) ⟨m', fun _ => 0, g'⟩ (fun r => ∀ c : Dev Cert.LossGradRefIdeal.nD,
          r.2.mem ((c.tc : Thread Cert.LossGradRefIdeal.nD Cert.LossGradRefIdeal.τ).loc Cert.LossGradRefIdeal.main_v55) = v0 c
          ∧ r.2.mem ((c.tc : Thread Cert.LossGradRefIdeal.nD Cert.LossGradRefIdeal.τ).loc Cert.LossGradRefIdeal.main_v57) = v1 c
          ∧ r.2.mem ((c.tc : Thread Cert.LossGradRefIdeal.nD Cert.LossGradRefIdeal.τ).loc Cert.LossGradRefIdeal.main_v58) = v2 c
          ∧ r.2.mem ((c.tc : Thread Cert.LossGradRefIdeal.nD Cert.LossGradRefIdeal.τ).loc Cert.LossGradRefIdeal.main_v59) = v3 c
          ∧ r.2.mem ((c.tc : Thread Cert.LossGradRefIdeal.nD Cert.LossGradRefIdeal.τ).loc Cert.LossGradRefIdeal.main_arg0) = m' ((c.tc : Thread Cert.LossGradRefIdeal.nD Cert.LossGradRefIdeal.τ).loc Cert.LossGradRefIdeal.main_arg0)
          ∧ r.2.mem ((c.tc : Thread Cert.LossGradRefIdeal.nD Cert.LossGradRefIdeal.τ).loc Cert.LossGradRefIdeal.main_arg1) = m' ((c.tc : Thread Cert.LossGradRefIdeal.nD Cert.LossGradRefIdeal.τ).loc Cert.LossGradRefIdeal.main_arg1)
          ∧ r.2.mem ((c.tc : Thread Cert.LossGradRefIdeal.nD Cert.LossGradRefIdeal.τ).loc Cert.LossGradRefIdeal.main_arg2) = m' ((c.tc : Thread Cert.LossGradRefIdeal.nD Cert.LossGradRefIdeal.τ).loc Cert.LossGradRefIdeal.main_arg2)
          ∧ r.2.mem ((c.tc : Thread Cert.LossGradRefIdeal.nD Cert.LossGradRefIdeal.τ).loc Cert.LossGradRefIdeal.main_arg3) = m' ((c.tc : Thread Cert.LossGradRefIdeal.nD Cert.LossGradRefIdeal.τ).loc Cert.LossGradRefIdeal.main_arg3)
          ∧ r.2.mem ((c.tc : Thread Cert.LossGradRefIdeal.nD Cert.LossGradRefIdeal.τ).loc Cert.LossGradRefIdeal.main_arg4) = m' ((c.tc : Thread Cert.LossGradRefIdeal.nD Cert.LossGradRefIdeal.τ).loc Cert.LossGradRefIdeal.main_arg4))

def preserves_ProjInBwd_ProjInBwdIdeal : Prop :=
  True

def algebraic_ProjInBwdIdeal_ProjInBwdRefIdeal [hProjInBwdIdeal : Cert.ProjInBwdIdeal.Facts] [hProjInBwdRefIdeal : Cert.ProjInBwdRefIdeal.Facts] : Prop :=
  ∀ (m : (ℓ : Loc Cert.ProjInBwdIdeal.nD Cert.ProjInBwdIdeal.τ Cert.ProjInBwdIdeal.sig) → Buf (Elt Ideal) ℓ) (g : Dev Cert.ProjInBwdIdeal.nD → PrngReg)
    (m' : (ℓ : Loc Cert.ProjInBwdRefIdeal.nD Cert.ProjInBwdRefIdeal.τ Cert.ProjInBwdRefIdeal.sig) → Buf (Elt Ideal) ℓ) (g' : Dev Cert.ProjInBwdRefIdeal.nD → PrngReg), Pre_ProjInBwdIdeal m →
    (∀ c : Dev Cert.ProjInBwdIdeal.nD,
      m' ((c.tc : Thread Cert.ProjInBwdRefIdeal.nD Cert.ProjInBwdRefIdeal.τ).loc Cert.ProjInBwdRefIdeal.main_arg0) = m ((c.tc : Thread Cert.ProjInBwdIdeal.nD Cert.ProjInBwdIdeal.τ).loc Cert.ProjInBwdIdeal.main_arg0)
      ∧ m' ((c.tc : Thread Cert.ProjInBwdRefIdeal.nD Cert.ProjInBwdRefIdeal.τ).loc Cert.ProjInBwdRefIdeal.main_arg1) = m ((c.tc : Thread Cert.ProjInBwdIdeal.nD Cert.ProjInBwdIdeal.τ).loc Cert.ProjInBwdIdeal.main_arg1)
      ∧ m' ((c.tc : Thread Cert.ProjInBwdRefIdeal.nD Cert.ProjInBwdRefIdeal.τ).loc Cert.ProjInBwdRefIdeal.main_arg2) = m ((c.tc : Thread Cert.ProjInBwdIdeal.nD Cert.ProjInBwdIdeal.τ).loc Cert.ProjInBwdIdeal.main_arg2)
      ∧ m' ((c.tc : Thread Cert.ProjInBwdRefIdeal.nD Cert.ProjInBwdRefIdeal.τ).loc Cert.ProjInBwdRefIdeal.main_arg3) = m ((c.tc : Thread Cert.ProjInBwdIdeal.nD Cert.ProjInBwdIdeal.τ).loc Cert.ProjInBwdIdeal.main_arg3)
      ∧ m' ((c.tc : Thread Cert.ProjInBwdRefIdeal.nD Cert.ProjInBwdRefIdeal.τ).loc Cert.ProjInBwdRefIdeal.main_arg4) = m ((c.tc : Thread Cert.ProjInBwdIdeal.nD Cert.ProjInBwdIdeal.τ).loc Cert.ProjInBwdIdeal.main_arg4)) →
    ∃ (v0 : (c : Dev Cert.ProjInBwdIdeal.nD) → Buf (Elt Ideal) ((c.tc : Thread Cert.ProjInBwdIdeal.nD Cert.ProjInBwdIdeal.τ).loc Cert.ProjInBwdIdeal.main_v19_0)) (v1 : (c : Dev Cert.ProjInBwdIdeal.nD) → Buf (Elt Ideal) ((c.tc : Thread Cert.ProjInBwdIdeal.nD Cert.ProjInBwdIdeal.τ).loc Cert.ProjInBwdIdeal.main_v19_1)) (v2 : (c : Dev Cert.ProjInBwdIdeal.nD) → Buf (Elt Ideal) ((c.tc : Thread Cert.ProjInBwdIdeal.nD Cert.ProjInBwdIdeal.τ).loc Cert.ProjInBwdIdeal.main_v19_2)),
      θ_run (Cert.ProjInBwdIdeal.defs (F := Ideal)) (onTc (τ := Cert.ProjInBwdIdeal.τ) (Cert.ProjInBwdIdeal.main (F := Ideal))) ⟨m, fun _ => 0, g⟩ (fun r => ∀ c : Dev Cert.ProjInBwdIdeal.nD,
          r.2.mem ((c.tc : Thread Cert.ProjInBwdIdeal.nD Cert.ProjInBwdIdeal.τ).loc Cert.ProjInBwdIdeal.main_v19_0) = v0 c
          ∧ r.2.mem ((c.tc : Thread Cert.ProjInBwdIdeal.nD Cert.ProjInBwdIdeal.τ).loc Cert.ProjInBwdIdeal.main_v19_1) = v1 c
          ∧ r.2.mem ((c.tc : Thread Cert.ProjInBwdIdeal.nD Cert.ProjInBwdIdeal.τ).loc Cert.ProjInBwdIdeal.main_v19_2) = v2 c
          ∧ r.2.mem ((c.tc : Thread Cert.ProjInBwdIdeal.nD Cert.ProjInBwdIdeal.τ).loc Cert.ProjInBwdIdeal.main_arg0) = m ((c.tc : Thread Cert.ProjInBwdIdeal.nD Cert.ProjInBwdIdeal.τ).loc Cert.ProjInBwdIdeal.main_arg0)
          ∧ r.2.mem ((c.tc : Thread Cert.ProjInBwdIdeal.nD Cert.ProjInBwdIdeal.τ).loc Cert.ProjInBwdIdeal.main_arg1) = m ((c.tc : Thread Cert.ProjInBwdIdeal.nD Cert.ProjInBwdIdeal.τ).loc Cert.ProjInBwdIdeal.main_arg1)
          ∧ r.2.mem ((c.tc : Thread Cert.ProjInBwdIdeal.nD Cert.ProjInBwdIdeal.τ).loc Cert.ProjInBwdIdeal.main_arg2) = m ((c.tc : Thread Cert.ProjInBwdIdeal.nD Cert.ProjInBwdIdeal.τ).loc Cert.ProjInBwdIdeal.main_arg2)
          ∧ r.2.mem ((c.tc : Thread Cert.ProjInBwdIdeal.nD Cert.ProjInBwdIdeal.τ).loc Cert.ProjInBwdIdeal.main_arg3) = m ((c.tc : Thread Cert.ProjInBwdIdeal.nD Cert.ProjInBwdIdeal.τ).loc Cert.ProjInBwdIdeal.main_arg3)
          ∧ r.2.mem ((c.tc : Thread Cert.ProjInBwdIdeal.nD Cert.ProjInBwdIdeal.τ).loc Cert.ProjInBwdIdeal.main_arg4) = m ((c.tc : Thread Cert.ProjInBwdIdeal.nD Cert.ProjInBwdIdeal.τ).loc Cert.ProjInBwdIdeal.main_arg4))
      ∧ θ_run (Cert.ProjInBwdRefIdeal.defs (F := Ideal)) (onTc (τ := Cert.ProjInBwdRefIdeal.τ) (Cert.ProjInBwdRefIdeal.main (F := Ideal))) ⟨m', fun _ => 0, g'⟩ (fun r => ∀ c : Dev Cert.ProjInBwdRefIdeal.nD,
          r.2.mem ((c.tc : Thread Cert.ProjInBwdRefIdeal.nD Cert.ProjInBwdRefIdeal.τ).loc Cert.ProjInBwdRefIdeal.main_v43) = v0 c
          ∧ r.2.mem ((c.tc : Thread Cert.ProjInBwdRefIdeal.nD Cert.ProjInBwdRefIdeal.τ).loc Cert.ProjInBwdRefIdeal.main_v45) = v1 c
          ∧ r.2.mem ((c.tc : Thread Cert.ProjInBwdRefIdeal.nD Cert.ProjInBwdRefIdeal.τ).loc Cert.ProjInBwdRefIdeal.main_v42) = v2 c
          ∧ r.2.mem ((c.tc : Thread Cert.ProjInBwdRefIdeal.nD Cert.ProjInBwdRefIdeal.τ).loc Cert.ProjInBwdRefIdeal.main_arg0) = m' ((c.tc : Thread Cert.ProjInBwdRefIdeal.nD Cert.ProjInBwdRefIdeal.τ).loc Cert.ProjInBwdRefIdeal.main_arg0)
          ∧ r.2.mem ((c.tc : Thread Cert.ProjInBwdRefIdeal.nD Cert.ProjInBwdRefIdeal.τ).loc Cert.ProjInBwdRefIdeal.main_arg1) = m' ((c.tc : Thread Cert.ProjInBwdRefIdeal.nD Cert.ProjInBwdRefIdeal.τ).loc Cert.ProjInBwdRefIdeal.main_arg1)
          ∧ r.2.mem ((c.tc : Thread Cert.ProjInBwdRefIdeal.nD Cert.ProjInBwdRefIdeal.τ).loc Cert.ProjInBwdRefIdeal.main_arg2) = m' ((c.tc : Thread Cert.ProjInBwdRefIdeal.nD Cert.ProjInBwdRefIdeal.τ).loc Cert.ProjInBwdRefIdeal.main_arg2)
          ∧ r.2.mem ((c.tc : Thread Cert.ProjInBwdRefIdeal.nD Cert.ProjInBwdRefIdeal.τ).loc Cert.ProjInBwdRefIdeal.main_arg3) = m' ((c.tc : Thread Cert.ProjInBwdRefIdeal.nD Cert.ProjInBwdRefIdeal.τ).loc Cert.ProjInBwdRefIdeal.main_arg3)
          ∧ r.2.mem ((c.tc : Thread Cert.ProjInBwdRefIdeal.nD Cert.ProjInBwdRefIdeal.τ).loc Cert.ProjInBwdRefIdeal.main_arg4) = m' ((c.tc : Thread Cert.ProjInBwdRefIdeal.nD Cert.ProjInBwdRefIdeal.τ).loc Cert.ProjInBwdRefIdeal.main_arg4))

def preserves_FfnInBwd_FfnInBwdIdeal : Prop :=
  True

def algebraic_FfnInBwdIdeal_FfnInBwdRefIdeal [hFfnInBwdIdeal : Cert.FfnInBwdIdeal.Facts] [hFfnInBwdRefIdeal : Cert.FfnInBwdRefIdeal.Facts] : Prop :=
  ∀ (m : (ℓ : Loc Cert.FfnInBwdIdeal.nD Cert.FfnInBwdIdeal.τ Cert.FfnInBwdIdeal.sig) → Buf (Elt Ideal) ℓ) (g : Dev Cert.FfnInBwdIdeal.nD → PrngReg)
    (m' : (ℓ : Loc Cert.FfnInBwdRefIdeal.nD Cert.FfnInBwdRefIdeal.τ Cert.FfnInBwdRefIdeal.sig) → Buf (Elt Ideal) ℓ) (g' : Dev Cert.FfnInBwdRefIdeal.nD → PrngReg), Pre_FfnInBwdIdeal m →
    (∀ c : Dev Cert.FfnInBwdIdeal.nD,
      m' ((c.tc : Thread Cert.FfnInBwdRefIdeal.nD Cert.FfnInBwdRefIdeal.τ).loc Cert.FfnInBwdRefIdeal.main_arg0) = m ((c.tc : Thread Cert.FfnInBwdIdeal.nD Cert.FfnInBwdIdeal.τ).loc Cert.FfnInBwdIdeal.main_arg0)
      ∧ m' ((c.tc : Thread Cert.FfnInBwdRefIdeal.nD Cert.FfnInBwdRefIdeal.τ).loc Cert.FfnInBwdRefIdeal.main_arg1) = m ((c.tc : Thread Cert.FfnInBwdIdeal.nD Cert.FfnInBwdIdeal.τ).loc Cert.FfnInBwdIdeal.main_arg1)
      ∧ m' ((c.tc : Thread Cert.FfnInBwdRefIdeal.nD Cert.FfnInBwdRefIdeal.τ).loc Cert.FfnInBwdRefIdeal.main_arg2) = m ((c.tc : Thread Cert.FfnInBwdIdeal.nD Cert.FfnInBwdIdeal.τ).loc Cert.FfnInBwdIdeal.main_arg2)
      ∧ m' ((c.tc : Thread Cert.FfnInBwdRefIdeal.nD Cert.FfnInBwdRefIdeal.τ).loc Cert.FfnInBwdRefIdeal.main_arg3) = m ((c.tc : Thread Cert.FfnInBwdIdeal.nD Cert.FfnInBwdIdeal.τ).loc Cert.FfnInBwdIdeal.main_arg3)
      ∧ m' ((c.tc : Thread Cert.FfnInBwdRefIdeal.nD Cert.FfnInBwdRefIdeal.τ).loc Cert.FfnInBwdRefIdeal.main_arg4) = m ((c.tc : Thread Cert.FfnInBwdIdeal.nD Cert.FfnInBwdIdeal.τ).loc Cert.FfnInBwdIdeal.main_arg4)) →
    ∃ (v0 : (c : Dev Cert.FfnInBwdIdeal.nD) → Buf (Elt Ideal) ((c.tc : Thread Cert.FfnInBwdIdeal.nD Cert.FfnInBwdIdeal.τ).loc Cert.FfnInBwdIdeal.main_v17_0)) (v1 : (c : Dev Cert.FfnInBwdIdeal.nD) → Buf (Elt Ideal) ((c.tc : Thread Cert.FfnInBwdIdeal.nD Cert.FfnInBwdIdeal.τ).loc Cert.FfnInBwdIdeal.main_v17_1)) (v2 : (c : Dev Cert.FfnInBwdIdeal.nD) → Buf (Elt Ideal) ((c.tc : Thread Cert.FfnInBwdIdeal.nD Cert.FfnInBwdIdeal.τ).loc Cert.FfnInBwdIdeal.main_v17_2)),
      θ_run (Cert.FfnInBwdIdeal.defs (F := Ideal)) (onTc (τ := Cert.FfnInBwdIdeal.τ) (Cert.FfnInBwdIdeal.main (F := Ideal))) ⟨m, fun _ => 0, g⟩ (fun r => ∀ c : Dev Cert.FfnInBwdIdeal.nD,
          r.2.mem ((c.tc : Thread Cert.FfnInBwdIdeal.nD Cert.FfnInBwdIdeal.τ).loc Cert.FfnInBwdIdeal.main_v17_0) = v0 c
          ∧ r.2.mem ((c.tc : Thread Cert.FfnInBwdIdeal.nD Cert.FfnInBwdIdeal.τ).loc Cert.FfnInBwdIdeal.main_v17_1) = v1 c
          ∧ r.2.mem ((c.tc : Thread Cert.FfnInBwdIdeal.nD Cert.FfnInBwdIdeal.τ).loc Cert.FfnInBwdIdeal.main_v17_2) = v2 c
          ∧ r.2.mem ((c.tc : Thread Cert.FfnInBwdIdeal.nD Cert.FfnInBwdIdeal.τ).loc Cert.FfnInBwdIdeal.main_arg0) = m ((c.tc : Thread Cert.FfnInBwdIdeal.nD Cert.FfnInBwdIdeal.τ).loc Cert.FfnInBwdIdeal.main_arg0)
          ∧ r.2.mem ((c.tc : Thread Cert.FfnInBwdIdeal.nD Cert.FfnInBwdIdeal.τ).loc Cert.FfnInBwdIdeal.main_arg1) = m ((c.tc : Thread Cert.FfnInBwdIdeal.nD Cert.FfnInBwdIdeal.τ).loc Cert.FfnInBwdIdeal.main_arg1)
          ∧ r.2.mem ((c.tc : Thread Cert.FfnInBwdIdeal.nD Cert.FfnInBwdIdeal.τ).loc Cert.FfnInBwdIdeal.main_arg2) = m ((c.tc : Thread Cert.FfnInBwdIdeal.nD Cert.FfnInBwdIdeal.τ).loc Cert.FfnInBwdIdeal.main_arg2)
          ∧ r.2.mem ((c.tc : Thread Cert.FfnInBwdIdeal.nD Cert.FfnInBwdIdeal.τ).loc Cert.FfnInBwdIdeal.main_arg3) = m ((c.tc : Thread Cert.FfnInBwdIdeal.nD Cert.FfnInBwdIdeal.τ).loc Cert.FfnInBwdIdeal.main_arg3)
          ∧ r.2.mem ((c.tc : Thread Cert.FfnInBwdIdeal.nD Cert.FfnInBwdIdeal.τ).loc Cert.FfnInBwdIdeal.main_arg4) = m ((c.tc : Thread Cert.FfnInBwdIdeal.nD Cert.FfnInBwdIdeal.τ).loc Cert.FfnInBwdIdeal.main_arg4))
      ∧ θ_run (Cert.FfnInBwdRefIdeal.defs (F := Ideal)) (onTc (τ := Cert.FfnInBwdRefIdeal.τ) (Cert.FfnInBwdRefIdeal.main (F := Ideal))) ⟨m', fun _ => 0, g'⟩ (fun r => ∀ c : Dev Cert.FfnInBwdRefIdeal.nD,
          r.2.mem ((c.tc : Thread Cert.FfnInBwdRefIdeal.nD Cert.FfnInBwdRefIdeal.τ).loc Cert.FfnInBwdRefIdeal.main_v43) = v0 c
          ∧ r.2.mem ((c.tc : Thread Cert.FfnInBwdRefIdeal.nD Cert.FfnInBwdRefIdeal.τ).loc Cert.FfnInBwdRefIdeal.main_v45) = v1 c
          ∧ r.2.mem ((c.tc : Thread Cert.FfnInBwdRefIdeal.nD Cert.FfnInBwdRefIdeal.τ).loc Cert.FfnInBwdRefIdeal.main_v42) = v2 c
          ∧ r.2.mem ((c.tc : Thread Cert.FfnInBwdRefIdeal.nD Cert.FfnInBwdRefIdeal.τ).loc Cert.FfnInBwdRefIdeal.main_arg0) = m' ((c.tc : Thread Cert.FfnInBwdRefIdeal.nD Cert.FfnInBwdRefIdeal.τ).loc Cert.FfnInBwdRefIdeal.main_arg0)
          ∧ r.2.mem ((c.tc : Thread Cert.FfnInBwdRefIdeal.nD Cert.FfnInBwdRefIdeal.τ).loc Cert.FfnInBwdRefIdeal.main_arg1) = m' ((c.tc : Thread Cert.FfnInBwdRefIdeal.nD Cert.FfnInBwdRefIdeal.τ).loc Cert.FfnInBwdRefIdeal.main_arg1)
          ∧ r.2.mem ((c.tc : Thread Cert.FfnInBwdRefIdeal.nD Cert.FfnInBwdRefIdeal.τ).loc Cert.FfnInBwdRefIdeal.main_arg2) = m' ((c.tc : Thread Cert.FfnInBwdRefIdeal.nD Cert.FfnInBwdRefIdeal.τ).loc Cert.FfnInBwdRefIdeal.main_arg2)
          ∧ r.2.mem ((c.tc : Thread Cert.FfnInBwdRefIdeal.nD Cert.FfnInBwdRefIdeal.τ).loc Cert.FfnInBwdRefIdeal.main_arg3) = m' ((c.tc : Thread Cert.FfnInBwdRefIdeal.nD Cert.FfnInBwdRefIdeal.τ).loc Cert.FfnInBwdRefIdeal.main_arg3)
          ∧ r.2.mem ((c.tc : Thread Cert.FfnInBwdRefIdeal.nD Cert.FfnInBwdRefIdeal.τ).loc Cert.FfnInBwdRefIdeal.main_arg4) = m' ((c.tc : Thread Cert.FfnInBwdRefIdeal.nD Cert.FfnInBwdRefIdeal.τ).loc Cert.FfnInBwdRefIdeal.main_arg4))

def preserves_AttnBwd_AttnBwdIdeal : Prop :=
  IdealRules.named_const.Statement Cert.AttnBwdIdeal.κ "mask" .f32 0xF149F2CA#32 ⊥

def algebraic_AttnBwdIdeal_AttnBwdRefIdeal_pre_attn_finite [hAttnBwdIdeal : Cert.AttnBwdIdeal.Facts] [hAttnBwdRefIdeal : Cert.AttnBwdRefIdeal.Facts] [hPre_attn_finite : Cert.Pre_attn_finite.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_attn_finite m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)) →
    ∃ (v0 : (c : Dev Cert.AttnBwdIdeal.nD) → Buf (Elt Ideal) ((c.tc : Thread Cert.AttnBwdIdeal.nD Cert.AttnBwdIdeal.τ).loc Cert.AttnBwdIdeal.main_v4_0)) (v1 : (c : Dev Cert.AttnBwdIdeal.nD) → Buf (Elt Ideal) ((c.tc : Thread Cert.AttnBwdIdeal.nD Cert.AttnBwdIdeal.τ).loc Cert.AttnBwdIdeal.main_v4_1)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v4_0) = v0 c
          ∧ r.2.mem ((c.tc : Thread Cert.AttnBwdIdeal.nD Cert.AttnBwdIdeal.τ).loc Cert.AttnBwdIdeal.main_v4_1) = v1 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v104) = v0 c
          ∧ r.2.mem ((c.tc : Thread Cert.AttnBwdRefIdeal.nD Cert.AttnBwdRefIdeal.τ).loc Cert.AttnBwdRefIdeal.main_v105) = v1 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2))

def preserves_ConvBwd_ConvBwdIdeal : Prop :=
  True

def algebraic_ConvBwdIdeal_ConvBwdRefIdeal_pre_conv_finite [hConvBwdIdeal : Cert.ConvBwdIdeal.Facts] [hConvBwdRefIdeal : Cert.ConvBwdRefIdeal.Facts] [hPre_conv_finite : Cert.Pre_conv_finite.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_conv_finite m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)
      ∧ m' ((c.tc : Thread Cert.ConvBwdRefIdeal.nD Cert.ConvBwdRefIdeal.τ).loc Cert.ConvBwdRefIdeal.main_arg4) = m ((c.tc : Thread Cert.ConvBwdIdeal.nD Cert.ConvBwdIdeal.τ).loc Cert.ConvBwdIdeal.main_arg4)
      ∧ m' ((c.tc : Thread Cert.ConvBwdRefIdeal.nD Cert.ConvBwdRefIdeal.τ).loc Cert.ConvBwdRefIdeal.main_arg5) = m ((c.tc : Thread Cert.ConvBwdIdeal.nD Cert.ConvBwdIdeal.τ).loc Cert.ConvBwdIdeal.main_arg5)) →
    ∃ (v0 : (c : Dev Cert.ConvBwdIdeal.nD) → Buf (Elt Ideal) ((c.tc : Thread Cert.ConvBwdIdeal.nD Cert.ConvBwdIdeal.τ).loc Cert.ConvBwdIdeal.main_v34_0)) (v1 : (c : Dev Cert.ConvBwdIdeal.nD) → Buf (Elt Ideal) ((c.tc : Thread Cert.ConvBwdIdeal.nD Cert.ConvBwdIdeal.τ).loc Cert.ConvBwdIdeal.main_v34_1)) (v2 : (c : Dev Cert.ConvBwdIdeal.nD) → Buf (Elt Ideal) ((c.tc : Thread Cert.ConvBwdIdeal.nD Cert.ConvBwdIdeal.τ).loc Cert.ConvBwdIdeal.main_v34_2)) (v3 : (c : Dev Cert.ConvBwdIdeal.nD) → Buf (Elt Ideal) ((c.tc : Thread Cert.ConvBwdIdeal.nD Cert.ConvBwdIdeal.τ).loc Cert.ConvBwdIdeal.main_v34_3)) (v4 : (c : Dev Cert.ConvBwdIdeal.nD) → Buf (Elt Ideal) ((c.tc : Thread Cert.ConvBwdIdeal.nD Cert.ConvBwdIdeal.τ).loc Cert.ConvBwdIdeal.main_v34_4)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v34_0) = v0 c
          ∧ r.2.mem ((c.tc : Thread Cert.ConvBwdIdeal.nD Cert.ConvBwdIdeal.τ).loc Cert.ConvBwdIdeal.main_v34_1) = v1 c
          ∧ r.2.mem ((c.tc : Thread Cert.ConvBwdIdeal.nD Cert.ConvBwdIdeal.τ).loc Cert.ConvBwdIdeal.main_v34_2) = v2 c
          ∧ r.2.mem ((c.tc : Thread Cert.ConvBwdIdeal.nD Cert.ConvBwdIdeal.τ).loc Cert.ConvBwdIdeal.main_v34_3) = v3 c
          ∧ r.2.mem ((c.tc : Thread Cert.ConvBwdIdeal.nD Cert.ConvBwdIdeal.τ).loc Cert.ConvBwdIdeal.main_v34_4) = v4 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3)
          ∧ r.2.mem ((c.tc : Thread Cert.ConvBwdIdeal.nD Cert.ConvBwdIdeal.τ).loc Cert.ConvBwdIdeal.main_arg4) = m ((c.tc : Thread Cert.ConvBwdIdeal.nD Cert.ConvBwdIdeal.τ).loc Cert.ConvBwdIdeal.main_arg4)
          ∧ r.2.mem ((c.tc : Thread Cert.ConvBwdIdeal.nD Cert.ConvBwdIdeal.τ).loc Cert.ConvBwdIdeal.main_arg5) = m ((c.tc : Thread Cert.ConvBwdIdeal.nD Cert.ConvBwdIdeal.τ).loc Cert.ConvBwdIdeal.main_arg5))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v117) = v0 c
          ∧ r.2.mem ((c.tc : Thread Cert.ConvBwdRefIdeal.nD Cert.ConvBwdRefIdeal.τ).loc Cert.ConvBwdRefIdeal.main_v115) = v1 c
          ∧ r.2.mem ((c.tc : Thread Cert.ConvBwdRefIdeal.nD Cert.ConvBwdRefIdeal.τ).loc Cert.ConvBwdRefIdeal.main_v96) = v2 c
          ∧ r.2.mem ((c.tc : Thread Cert.ConvBwdRefIdeal.nD Cert.ConvBwdRefIdeal.τ).loc Cert.ConvBwdRefIdeal.main_v70) = v3 c
          ∧ r.2.mem ((c.tc : Thread Cert.ConvBwdRefIdeal.nD Cert.ConvBwdRefIdeal.τ).loc Cert.ConvBwdRefIdeal.main_v67) = v4 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3)
          ∧ r.2.mem ((c.tc : Thread Cert.ConvBwdRefIdeal.nD Cert.ConvBwdRefIdeal.τ).loc Cert.ConvBwdRefIdeal.main_arg4) = m' ((c.tc : Thread Cert.ConvBwdRefIdeal.nD Cert.ConvBwdRefIdeal.τ).loc Cert.ConvBwdRefIdeal.main_arg4)
          ∧ r.2.mem ((c.tc : Thread Cert.ConvBwdRefIdeal.nD Cert.ConvBwdRefIdeal.τ).loc Cert.ConvBwdRefIdeal.main_arg5) = m' ((c.tc : Thread Cert.ConvBwdRefIdeal.nD Cert.ConvBwdRefIdeal.τ).loc Cert.ConvBwdRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v5_0)) (v1 : (c : Dev Cert.OutProjIdeal.nD) → Buf (Elt Ideal) ((c.tc : Thread Cert.OutProjIdeal.nD Cert.OutProjIdeal.τ).loc Cert.OutProjIdeal.main_v5_1)) (v2 : (c : Dev Cert.OutProjIdeal.nD) → Buf (Elt Ideal) ((c.tc : Thread Cert.OutProjIdeal.nD Cert.OutProjIdeal.τ).loc Cert.OutProjIdeal.main_v5_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v5_0) = v0 c
          ∧ r.2.mem ((c.tc : Thread Cert.OutProjIdeal.nD Cert.OutProjIdeal.τ).loc Cert.OutProjIdeal.main_v5_1) = v1 c
          ∧ r.2.mem ((c.tc : Thread Cert.OutProjIdeal.nD Cert.OutProjIdeal.τ).loc Cert.OutProjIdeal.main_v5_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v11) = v0 c
          ∧ r.2.mem ((c.tc : Thread Cert.OutProjRefIdeal.nD Cert.OutProjRefIdeal.τ).loc Cert.OutProjRefIdeal.main_v27) = v1 c
          ∧ r.2.mem ((c.tc : Thread Cert.OutProjRefIdeal.nD Cert.OutProjRefIdeal.τ).loc Cert.OutProjRefIdeal.main_v28) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_SwigluFwd_SwigluFwdIdeal : Prop :=
  True

def algebraic_SwigluFwdIdeal_SwigluFwdRefIdeal [hSwigluFwdIdeal : Cert.SwigluFwdIdeal.Facts] [hSwigluFwdRefIdeal : Cert.SwigluFwdRefIdeal.Facts] : Prop :=
  ∀ (m : (ℓ : Loc Cert.SwigluFwdIdeal.nD Cert.SwigluFwdIdeal.τ Cert.SwigluFwdIdeal.sig) → Buf (Elt Ideal) ℓ) (g : Dev Cert.SwigluFwdIdeal.nD → PrngReg)
    (m' : (ℓ : Loc Cert.SwigluFwdRefIdeal.nD Cert.SwigluFwdRefIdeal.τ Cert.SwigluFwdRefIdeal.sig) → Buf (Elt Ideal) ℓ) (g' : Dev Cert.SwigluFwdRefIdeal.nD → PrngReg), Pre_SwigluFwdIdeal m →
    (∀ c : Dev Cert.SwigluFwdIdeal.nD,
      m' ((c.tc : Thread Cert.SwigluFwdRefIdeal.nD Cert.SwigluFwdRefIdeal.τ).loc Cert.SwigluFwdRefIdeal.main_arg0) = m ((c.tc : Thread Cert.SwigluFwdIdeal.nD Cert.SwigluFwdIdeal.τ).loc Cert.SwigluFwdIdeal.main_arg0)
      ∧ m' ((c.tc : Thread Cert.SwigluFwdRefIdeal.nD Cert.SwigluFwdRefIdeal.τ).loc Cert.SwigluFwdRefIdeal.main_arg1) = m ((c.tc : Thread Cert.SwigluFwdIdeal.nD Cert.SwigluFwdIdeal.τ).loc Cert.SwigluFwdIdeal.main_arg1)) →
    ∃ (v0 : (c : Dev Cert.SwigluFwdIdeal.nD) → Buf (Elt Ideal) ((c.tc : Thread Cert.SwigluFwdIdeal.nD Cert.SwigluFwdIdeal.τ).loc Cert.SwigluFwdIdeal.main_v5_0)) (v1 : (c : Dev Cert.SwigluFwdIdeal.nD) → Buf (Elt Ideal) ((c.tc : Thread Cert.SwigluFwdIdeal.nD Cert.SwigluFwdIdeal.τ).loc Cert.SwigluFwdIdeal.main_v5_1)) (v2 : (c : Dev Cert.SwigluFwdIdeal.nD) → Buf (Elt Ideal) ((c.tc : Thread Cert.SwigluFwdIdeal.nD Cert.SwigluFwdIdeal.τ).loc Cert.SwigluFwdIdeal.main_v5_2)),
      θ_run (Cert.SwigluFwdIdeal.defs (F := Ideal)) (onTc (τ := Cert.SwigluFwdIdeal.τ) (Cert.SwigluFwdIdeal.main (F := Ideal))) ⟨m, fun _ => 0, g⟩ (fun r => ∀ c : Dev Cert.SwigluFwdIdeal.nD,
          r.2.mem ((c.tc : Thread Cert.SwigluFwdIdeal.nD Cert.SwigluFwdIdeal.τ).loc Cert.SwigluFwdIdeal.main_v5_0) = v0 c
          ∧ r.2.mem ((c.tc : Thread Cert.SwigluFwdIdeal.nD Cert.SwigluFwdIdeal.τ).loc Cert.SwigluFwdIdeal.main_v5_1) = v1 c
          ∧ r.2.mem ((c.tc : Thread Cert.SwigluFwdIdeal.nD Cert.SwigluFwdIdeal.τ).loc Cert.SwigluFwdIdeal.main_v5_2) = v2 c
          ∧ r.2.mem ((c.tc : Thread Cert.SwigluFwdIdeal.nD Cert.SwigluFwdIdeal.τ).loc Cert.SwigluFwdIdeal.main_arg0) = m ((c.tc : Thread Cert.SwigluFwdIdeal.nD Cert.SwigluFwdIdeal.τ).loc Cert.SwigluFwdIdeal.main_arg0)
          ∧ r.2.mem ((c.tc : Thread Cert.SwigluFwdIdeal.nD Cert.SwigluFwdIdeal.τ).loc Cert.SwigluFwdIdeal.main_arg1) = m ((c.tc : Thread Cert.SwigluFwdIdeal.nD Cert.SwigluFwdIdeal.τ).loc Cert.SwigluFwdIdeal.main_arg1))
      ∧ θ_run (Cert.SwigluFwdRefIdeal.defs (F := Ideal)) (onTc (τ := Cert.SwigluFwdRefIdeal.τ) (Cert.SwigluFwdRefIdeal.main (F := Ideal))) ⟨m', fun _ => 0, g'⟩ (fun r => ∀ c : Dev Cert.SwigluFwdRefIdeal.nD,
          r.2.mem ((c.tc : Thread Cert.SwigluFwdRefIdeal.nD Cert.SwigluFwdRefIdeal.τ).loc Cert.SwigluFwdRefIdeal.main_v7) = v0 c
          ∧ r.2.mem ((c.tc : Thread Cert.SwigluFwdRefIdeal.nD Cert.SwigluFwdRefIdeal.τ).loc Cert.SwigluFwdRefIdeal.main_v9) = v1 c
          ∧ r.2.mem ((c.tc : Thread Cert.SwigluFwdRefIdeal.nD Cert.SwigluFwdRefIdeal.τ).loc Cert.SwigluFwdRefIdeal.main_v11) = v2 c
          ∧ r.2.mem ((c.tc : Thread Cert.SwigluFwdRefIdeal.nD Cert.SwigluFwdRefIdeal.τ).loc Cert.SwigluFwdRefIdeal.main_arg0) = m' ((c.tc : Thread Cert.SwigluFwdRefIdeal.nD Cert.SwigluFwdRefIdeal.τ).loc Cert.SwigluFwdRefIdeal.main_arg0)
          ∧ r.2.mem ((c.tc : Thread Cert.SwigluFwdRefIdeal.nD Cert.SwigluFwdRefIdeal.τ).loc Cert.SwigluFwdRefIdeal.main_arg1) = m' ((c.tc : Thread Cert.SwigluFwdRefIdeal.nD Cert.SwigluFwdRefIdeal.τ).loc Cert.SwigluFwdRefIdeal.main_arg1))

def preserves_ProjMerge_ProjMergeIdeal : Prop :=
  True

def algebraic_ProjMergeIdeal_ProjMergeRefIdeal [hProjMergeIdeal : Cert.ProjMergeIdeal.Facts] [hProjMergeRefIdeal : Cert.ProjMergeRefIdeal.Facts] : Prop :=
  ∀ (m : (ℓ : Loc Cert.ProjMergeIdeal.nD Cert.ProjMergeIdeal.τ Cert.ProjMergeIdeal.sig) → Buf (Elt Ideal) ℓ) (g : Dev Cert.ProjMergeIdeal.nD → PrngReg)
    (m' : (ℓ : Loc Cert.ProjMergeRefIdeal.nD Cert.ProjMergeRefIdeal.τ Cert.ProjMergeRefIdeal.sig) → Buf (Elt Ideal) ℓ) (g' : Dev Cert.ProjMergeRefIdeal.nD → PrngReg), Pre_ProjMergeIdeal m →
    (∀ c : Dev Cert.ProjMergeIdeal.nD,
      m' ((c.tc : Thread Cert.ProjMergeRefIdeal.nD Cert.ProjMergeRefIdeal.τ).loc Cert.ProjMergeRefIdeal.main_arg0) = m ((c.tc : Thread Cert.ProjMergeIdeal.nD Cert.ProjMergeIdeal.τ).loc Cert.ProjMergeIdeal.main_arg0)
      ∧ m' ((c.tc : Thread Cert.ProjMergeRefIdeal.nD Cert.ProjMergeRefIdeal.τ).loc Cert.ProjMergeRefIdeal.main_arg1) = m ((c.tc : Thread Cert.ProjMergeIdeal.nD Cert.ProjMergeIdeal.τ).loc Cert.ProjMergeIdeal.main_arg1)
      ∧ m' ((c.tc : Thread Cert.ProjMergeRefIdeal.nD Cert.ProjMergeRefIdeal.τ).loc Cert.ProjMergeRefIdeal.main_arg2) = m ((c.tc : Thread Cert.ProjMergeIdeal.nD Cert.ProjMergeIdeal.τ).loc Cert.ProjMergeIdeal.main_arg2)
      ∧ m' ((c.tc : Thread Cert.ProjMergeRefIdeal.nD Cert.ProjMergeRefIdeal.τ).loc Cert.ProjMergeRefIdeal.main_arg3) = m ((c.tc : Thread Cert.ProjMergeIdeal.nD Cert.ProjMergeIdeal.τ).loc Cert.ProjMergeIdeal.main_arg3)
      ∧ m' ((c.tc : Thread Cert.ProjMergeRefIdeal.nD Cert.ProjMergeRefIdeal.τ).loc Cert.ProjMergeRefIdeal.main_arg4) = m ((c.tc : Thread Cert.ProjMergeIdeal.nD Cert.ProjMergeIdeal.τ).loc Cert.ProjMergeIdeal.main_arg4)
      ∧ m' ((c.tc : Thread Cert.ProjMergeRefIdeal.nD Cert.ProjMergeRefIdeal.τ).loc Cert.ProjMergeRefIdeal.main_arg5) = m ((c.tc : Thread Cert.ProjMergeIdeal.nD Cert.ProjMergeIdeal.τ).loc Cert.ProjMergeIdeal.main_arg5)) →
    ∃ (v0 : (c : Dev Cert.ProjMergeIdeal.nD) → Buf (Elt Ideal) ((c.tc : Thread Cert.ProjMergeIdeal.nD Cert.ProjMergeIdeal.τ).loc Cert.ProjMergeIdeal.main_v12_0)) (v1 : (c : Dev Cert.ProjMergeIdeal.nD) → Buf (Elt Ideal) ((c.tc : Thread Cert.ProjMergeIdeal.nD Cert.ProjMergeIdeal.τ).loc Cert.ProjMergeIdeal.main_v12_1)) (v2 : (c : Dev Cert.ProjMergeIdeal.nD) → Buf (Elt Ideal) ((c.tc : Thread Cert.ProjMergeIdeal.nD Cert.ProjMergeIdeal.τ).loc Cert.ProjMergeIdeal.main_v12_2)),
      θ_run (Cert.ProjMergeIdeal.defs (F := Ideal)) (onTc (τ := Cert.ProjMergeIdeal.τ) (Cert.ProjMergeIdeal.main (F := Ideal))) ⟨m, fun _ => 0, g⟩ (fun r => ∀ c : Dev Cert.ProjMergeIdeal.nD,
          r.2.mem ((c.tc : Thread Cert.ProjMergeIdeal.nD Cert.ProjMergeIdeal.τ).loc Cert.ProjMergeIdeal.main_v12_0) = v0 c
          ∧ r.2.mem ((c.tc : Thread Cert.ProjMergeIdeal.nD Cert.ProjMergeIdeal.τ).loc Cert.ProjMergeIdeal.main_v12_1) = v1 c
          ∧ r.2.mem ((c.tc : Thread Cert.ProjMergeIdeal.nD Cert.ProjMergeIdeal.τ).loc Cert.ProjMergeIdeal.main_v12_2) = v2 c
          ∧ r.2.mem ((c.tc : Thread Cert.ProjMergeIdeal.nD Cert.ProjMergeIdeal.τ).loc Cert.ProjMergeIdeal.main_arg0) = m ((c.tc : Thread Cert.ProjMergeIdeal.nD Cert.ProjMergeIdeal.τ).loc Cert.ProjMergeIdeal.main_arg0)
          ∧ r.2.mem ((c.tc : Thread Cert.ProjMergeIdeal.nD Cert.ProjMergeIdeal.τ).loc Cert.ProjMergeIdeal.main_arg1) = m ((c.tc : Thread Cert.ProjMergeIdeal.nD Cert.ProjMergeIdeal.τ).loc Cert.ProjMergeIdeal.main_arg1)
          ∧ r.2.mem ((c.tc : Thread Cert.ProjMergeIdeal.nD Cert.ProjMergeIdeal.τ).loc Cert.ProjMergeIdeal.main_arg2) = m ((c.tc : Thread Cert.ProjMergeIdeal.nD Cert.ProjMergeIdeal.τ).loc Cert.ProjMergeIdeal.main_arg2)
          ∧ r.2.mem ((c.tc : Thread Cert.ProjMergeIdeal.nD Cert.ProjMergeIdeal.τ).loc Cert.ProjMergeIdeal.main_arg3) = m ((c.tc : Thread Cert.ProjMergeIdeal.nD Cert.ProjMergeIdeal.τ).loc Cert.ProjMergeIdeal.main_arg3)
          ∧ r.2.mem ((c.tc : Thread Cert.ProjMergeIdeal.nD Cert.ProjMergeIdeal.τ).loc Cert.ProjMergeIdeal.main_arg4) = m ((c.tc : Thread Cert.ProjMergeIdeal.nD Cert.ProjMergeIdeal.τ).loc Cert.ProjMergeIdeal.main_arg4)
          ∧ r.2.mem ((c.tc : Thread Cert.ProjMergeIdeal.nD Cert.ProjMergeIdeal.τ).loc Cert.ProjMergeIdeal.main_arg5) = m ((c.tc : Thread Cert.ProjMergeIdeal.nD Cert.ProjMergeIdeal.τ).loc Cert.ProjMergeIdeal.main_arg5))
      ∧ θ_run (Cert.ProjMergeRefIdeal.defs (F := Ideal)) (onTc (τ := Cert.ProjMergeRefIdeal.τ) (Cert.ProjMergeRefIdeal.main (F := Ideal))) ⟨m', fun _ => 0, g'⟩ (fun r => ∀ c : Dev Cert.ProjMergeRefIdeal.nD,
          r.2.mem ((c.tc : Thread Cert.ProjMergeRefIdeal.nD Cert.ProjMergeRefIdeal.τ).loc Cert.ProjMergeRefIdeal.main_v24) = v0 c
          ∧ r.2.mem ((c.tc : Thread Cert.ProjMergeRefIdeal.nD Cert.ProjMergeRefIdeal.τ).loc Cert.ProjMergeRefIdeal.main_v26) = v1 c
          ∧ r.2.mem ((c.tc : Thread Cert.ProjMergeRefIdeal.nD Cert.ProjMergeRefIdeal.τ).loc Cert.ProjMergeRefIdeal.main_v28) = v2 c
          ∧ r.2.mem ((c.tc : Thread Cert.ProjMergeRefIdeal.nD Cert.ProjMergeRefIdeal.τ).loc Cert.ProjMergeRefIdeal.main_arg0) = m' ((c.tc : Thread Cert.ProjMergeRefIdeal.nD Cert.ProjMergeRefIdeal.τ).loc Cert.ProjMergeRefIdeal.main_arg0)
          ∧ r.2.mem ((c.tc : Thread Cert.ProjMergeRefIdeal.nD Cert.ProjMergeRefIdeal.τ).loc Cert.ProjMergeRefIdeal.main_arg1) = m' ((c.tc : Thread Cert.ProjMergeRefIdeal.nD Cert.ProjMergeRefIdeal.τ).loc Cert.ProjMergeRefIdeal.main_arg1)
          ∧ r.2.mem ((c.tc : Thread Cert.ProjMergeRefIdeal.nD Cert.ProjMergeRefIdeal.τ).loc Cert.ProjMergeRefIdeal.main_arg2) = m' ((c.tc : Thread Cert.ProjMergeRefIdeal.nD Cert.ProjMergeRefIdeal.τ).loc Cert.ProjMergeRefIdeal.main_arg2)
          ∧ r.2.mem ((c.tc : Thread Cert.ProjMergeRefIdeal.nD Cert.ProjMergeRefIdeal.τ).loc Cert.ProjMergeRefIdeal.main_arg3) = m' ((c.tc : Thread Cert.ProjMergeRefIdeal.nD Cert.ProjMergeRefIdeal.τ).loc Cert.ProjMergeRefIdeal.main_arg3)
          ∧ r.2.mem ((c.tc : Thread Cert.ProjMergeRefIdeal.nD Cert.ProjMergeRefIdeal.τ).loc Cert.ProjMergeRefIdeal.main_arg4) = m' ((c.tc : Thread Cert.ProjMergeRefIdeal.nD Cert.ProjMergeRefIdeal.τ).loc Cert.ProjMergeRefIdeal.main_arg4)
          ∧ r.2.mem ((c.tc : Thread Cert.ProjMergeRefIdeal.nD Cert.ProjMergeRefIdeal.τ).loc Cert.ProjMergeRefIdeal.main_arg5) = m' ((c.tc : Thread Cert.ProjMergeRefIdeal.nD Cert.ProjMergeRefIdeal.τ).loc Cert.ProjMergeRefIdeal.main_arg5))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)) →
    ∃ (v0 : (c : Dev Cert.AttnFwdIdeal.nD) → Buf (Elt Ideal) ((c.tc : Thread Cert.AttnFwdIdeal.nD Cert.AttnFwdIdeal.τ).loc Cert.AttnFwdIdeal.main_v2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v2) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v51) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v8_0)) (v1 : (c : Dev Cert.ConvFwdIdeal.nD) → Buf (Elt Ideal) ((c.tc : Thread Cert.ConvFwdIdeal.nD Cert.ConvFwdIdeal.τ).loc Cert.ConvFwdIdeal.main_v8_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v8_0) = v0 c
          ∧ r.2.mem ((c.tc : Thread Cert.ConvFwdIdeal.nD Cert.ConvFwdIdeal.τ).loc Cert.ConvFwdIdeal.main_v8_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v51) = v0 c
          ∧ r.2.mem ((c.tc : Thread Cert.ConvFwdRefIdeal.nD Cert.ConvFwdRefIdeal.τ).loc Cert.ConvFwdRefIdeal.main_v23) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def preserves_FirstNorm_FirstNormIdeal : Prop :=
  True

def algebraic_FirstNormIdeal_FirstNormRefIdeal [hFirstNormIdeal : Cert.FirstNormIdeal.Facts] [hFirstNormRefIdeal : Cert.FirstNormRefIdeal.Facts] : Prop :=
  ∀ (m : (ℓ : Loc Cert.FirstNormIdeal.nD Cert.FirstNormIdeal.τ Cert.FirstNormIdeal.sig) → Buf (Elt Ideal) ℓ) (g : Dev Cert.FirstNormIdeal.nD → PrngReg)
    (m' : (ℓ : Loc Cert.FirstNormRefIdeal.nD Cert.FirstNormRefIdeal.τ Cert.FirstNormRefIdeal.sig) → Buf (Elt Ideal) ℓ) (g' : Dev Cert.FirstNormRefIdeal.nD → PrngReg), Pre_FirstNormIdeal m →
    (∀ c : Dev Cert.FirstNormIdeal.nD,
      m' ((c.tc : Thread Cert.FirstNormRefIdeal.nD Cert.FirstNormRefIdeal.τ).loc Cert.FirstNormRefIdeal.main_arg0) = m ((c.tc : Thread Cert.FirstNormIdeal.nD Cert.FirstNormIdeal.τ).loc Cert.FirstNormIdeal.main_arg0)
      ∧ m' ((c.tc : Thread Cert.FirstNormRefIdeal.nD Cert.FirstNormRefIdeal.τ).loc Cert.FirstNormRefIdeal.main_arg1) = m ((c.tc : Thread Cert.FirstNormIdeal.nD Cert.FirstNormIdeal.τ).loc Cert.FirstNormIdeal.main_arg1)) →
    ∃ (v0 : (c : Dev Cert.FirstNormIdeal.nD) → Buf (Elt Ideal) ((c.tc : Thread Cert.FirstNormIdeal.nD Cert.FirstNormIdeal.τ).loc Cert.FirstNormIdeal.main_v1_0)) (v1 : (c : Dev Cert.FirstNormIdeal.nD) → Buf (Elt Ideal) ((c.tc : Thread Cert.FirstNormIdeal.nD Cert.FirstNormIdeal.τ).loc Cert.FirstNormIdeal.main_v1_1)),
      θ_run (Cert.FirstNormIdeal.defs (F := Ideal)) (onTc (τ := Cert.FirstNormIdeal.τ) (Cert.FirstNormIdeal.main (F := Ideal))) ⟨m, fun _ => 0, g⟩ (fun r => ∀ c : Dev Cert.FirstNormIdeal.nD,
          r.2.mem ((c.tc : Thread Cert.FirstNormIdeal.nD Cert.FirstNormIdeal.τ).loc Cert.FirstNormIdeal.main_v1_0) = v0 c
          ∧ r.2.mem ((c.tc : Thread Cert.FirstNormIdeal.nD Cert.FirstNormIdeal.τ).loc Cert.FirstNormIdeal.main_v1_1) = v1 c
          ∧ r.2.mem ((c.tc : Thread Cert.FirstNormIdeal.nD Cert.FirstNormIdeal.τ).loc Cert.FirstNormIdeal.main_arg0) = m ((c.tc : Thread Cert.FirstNormIdeal.nD Cert.FirstNormIdeal.τ).loc Cert.FirstNormIdeal.main_arg0)
          ∧ r.2.mem ((c.tc : Thread Cert.FirstNormIdeal.nD Cert.FirstNormIdeal.τ).loc Cert.FirstNormIdeal.main_arg1) = m ((c.tc : Thread Cert.FirstNormIdeal.nD Cert.FirstNormIdeal.τ).loc Cert.FirstNormIdeal.main_arg1))
      ∧ θ_run (Cert.FirstNormRefIdeal.defs (F := Ideal)) (onTc (τ := Cert.FirstNormRefIdeal.τ) (Cert.FirstNormRefIdeal.main (F := Ideal))) ⟨m', fun _ => 0, g'⟩ (fun r => ∀ c : Dev Cert.FirstNormRefIdeal.nD,
          r.2.mem ((c.tc : Thread Cert.FirstNormRefIdeal.nD Cert.FirstNormRefIdeal.τ).loc Cert.FirstNormRefIdeal.main_v23) = v0 c
          ∧ r.2.mem ((c.tc : Thread Cert.FirstNormRefIdeal.nD Cert.FirstNormRefIdeal.τ).loc Cert.FirstNormRefIdeal.main_v24) = v1 c
          ∧ r.2.mem ((c.tc : Thread Cert.FirstNormRefIdeal.nD Cert.FirstNormRefIdeal.τ).loc Cert.FirstNormRefIdeal.main_arg0) = m' ((c.tc : Thread Cert.FirstNormRefIdeal.nD Cert.FirstNormRefIdeal.τ).loc Cert.FirstNormRefIdeal.main_arg0)
          ∧ r.2.mem ((c.tc : Thread Cert.FirstNormRefIdeal.nD Cert.FirstNormRefIdeal.τ).loc Cert.FirstNormRefIdeal.main_arg1) = m' ((c.tc : Thread Cert.FirstNormRefIdeal.nD Cert.FirstNormRefIdeal.τ).loc Cert.FirstNormRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v4)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v4) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v3_0)) (v1 : (c : Dev Cert.AdamWIdeal.nD) → Buf (Elt Ideal) ((c.tc : Thread Cert.AdamWIdeal.nD Cert.AdamWIdeal.τ).loc Cert.AdamWIdeal.main_v3_1)) (v2 : (c : Dev Cert.AdamWIdeal.nD) → Buf (Elt Ideal) ((c.tc : Thread Cert.AdamWIdeal.nD Cert.AdamWIdeal.τ).loc Cert.AdamWIdeal.main_v3_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v3_0) = v0 c
          ∧ r.2.mem ((c.tc : Thread Cert.AdamWIdeal.nD Cert.AdamWIdeal.τ).loc Cert.AdamWIdeal.main_v3_1) = v1 c
          ∧ r.2.mem ((c.tc : Thread Cert.AdamWIdeal.nD Cert.AdamWIdeal.τ).loc Cert.AdamWIdeal.main_v3_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v26) = v0 c
          ∧ r.2.mem ((c.tc : Thread Cert.AdamWRefIdeal.nD Cert.AdamWRefIdeal.τ).loc Cert.AdamWRefIdeal.main_v7) = v1 c
          ∧ r.2.mem ((c.tc : Thread Cert.AdamWRefIdeal.nD Cert.AdamWRefIdeal.τ).loc Cert.AdamWRefIdeal.main_v13) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def preserves_StackedDw_StackedDwIdeal : Prop :=
  True

def algebraic_StackedDwIdeal_StackedDwRefIdeal [hStackedDwIdeal : Cert.StackedDwIdeal.Facts] [hStackedDwRefIdeal : Cert.StackedDwRefIdeal.Facts] : Prop :=
  ∀ (m : (ℓ : Loc Cert.StackedDwIdeal.nD Cert.StackedDwIdeal.τ Cert.StackedDwIdeal.sig) → Buf (Elt Ideal) ℓ) (g : Dev Cert.StackedDwIdeal.nD → PrngReg)
    (m' : (ℓ : Loc Cert.StackedDwRefIdeal.nD Cert.StackedDwRefIdeal.τ Cert.StackedDwRefIdeal.sig) → Buf (Elt Ideal) ℓ) (g' : Dev Cert.StackedDwRefIdeal.nD → PrngReg), Pre_StackedDwIdeal m →
    (∀ c : Dev Cert.StackedDwIdeal.nD,
      m' ((c.tc : Thread Cert.StackedDwRefIdeal.nD Cert.StackedDwRefIdeal.τ).loc Cert.StackedDwRefIdeal.main_arg0) = m ((c.tc : Thread Cert.StackedDwIdeal.nD Cert.StackedDwIdeal.τ).loc Cert.StackedDwIdeal.main_arg0)
      ∧ m' ((c.tc : Thread Cert.StackedDwRefIdeal.nD Cert.StackedDwRefIdeal.τ).loc Cert.StackedDwRefIdeal.main_arg1) = m ((c.tc : Thread Cert.StackedDwIdeal.nD Cert.StackedDwIdeal.τ).loc Cert.StackedDwIdeal.main_arg1)
      ∧ m' ((c.tc : Thread Cert.StackedDwRefIdeal.nD Cert.StackedDwRefIdeal.τ).loc Cert.StackedDwRefIdeal.main_arg2) = m ((c.tc : Thread Cert.StackedDwIdeal.nD Cert.StackedDwIdeal.τ).loc Cert.StackedDwIdeal.main_arg2)) →
    ∃ (v0 : (c : Dev Cert.StackedDwIdeal.nD) → Buf (Elt Ideal) ((c.tc : Thread Cert.StackedDwIdeal.nD Cert.StackedDwIdeal.τ).loc Cert.StackedDwIdeal.main_v6_0)) (v1 : (c : Dev Cert.StackedDwIdeal.nD) → Buf (Elt Ideal) ((c.tc : Thread Cert.StackedDwIdeal.nD Cert.StackedDwIdeal.τ).loc Cert.StackedDwIdeal.main_v6_1)),
      θ_run (Cert.StackedDwIdeal.defs (F := Ideal)) (onTc (τ := Cert.StackedDwIdeal.τ) (Cert.StackedDwIdeal.main (F := Ideal))) ⟨m, fun _ => 0, g⟩ (fun r => ∀ c : Dev Cert.StackedDwIdeal.nD,
          r.2.mem ((c.tc : Thread Cert.StackedDwIdeal.nD Cert.StackedDwIdeal.τ).loc Cert.StackedDwIdeal.main_v6_0) = v0 c
          ∧ r.2.mem ((c.tc : Thread Cert.StackedDwIdeal.nD Cert.StackedDwIdeal.τ).loc Cert.StackedDwIdeal.main_v6_1) = v1 c
          ∧ r.2.mem ((c.tc : Thread Cert.StackedDwIdeal.nD Cert.StackedDwIdeal.τ).loc Cert.StackedDwIdeal.main_arg0) = m ((c.tc : Thread Cert.StackedDwIdeal.nD Cert.StackedDwIdeal.τ).loc Cert.StackedDwIdeal.main_arg0)
          ∧ r.2.mem ((c.tc : Thread Cert.StackedDwIdeal.nD Cert.StackedDwIdeal.τ).loc Cert.StackedDwIdeal.main_arg1) = m ((c.tc : Thread Cert.StackedDwIdeal.nD Cert.StackedDwIdeal.τ).loc Cert.StackedDwIdeal.main_arg1)
          ∧ r.2.mem ((c.tc : Thread Cert.StackedDwIdeal.nD Cert.StackedDwIdeal.τ).loc Cert.StackedDwIdeal.main_arg2) = m ((c.tc : Thread Cert.StackedDwIdeal.nD Cert.StackedDwIdeal.τ).loc Cert.StackedDwIdeal.main_arg2))
      ∧ θ_run (Cert.StackedDwRefIdeal.defs (F := Ideal)) (onTc (τ := Cert.StackedDwRefIdeal.τ) (Cert.StackedDwRefIdeal.main (F := Ideal))) ⟨m', fun _ => 0, g'⟩ (fun r => ∀ c : Dev Cert.StackedDwRefIdeal.nD,
          r.2.mem ((c.tc : Thread Cert.StackedDwRefIdeal.nD Cert.StackedDwRefIdeal.τ).loc Cert.StackedDwRefIdeal.main_v5) = v0 c
          ∧ r.2.mem ((c.tc : Thread Cert.StackedDwRefIdeal.nD Cert.StackedDwRefIdeal.τ).loc Cert.StackedDwRefIdeal.main_v7) = v1 c
          ∧ r.2.mem ((c.tc : Thread Cert.StackedDwRefIdeal.nD Cert.StackedDwRefIdeal.τ).loc Cert.StackedDwRefIdeal.main_arg0) = m' ((c.tc : Thread Cert.StackedDwRefIdeal.nD Cert.StackedDwRefIdeal.τ).loc Cert.StackedDwRefIdeal.main_arg0)
          ∧ r.2.mem ((c.tc : Thread Cert.StackedDwRefIdeal.nD Cert.StackedDwRefIdeal.τ).loc Cert.StackedDwRefIdeal.main_arg1) = m' ((c.tc : Thread Cert.StackedDwRefIdeal.nD Cert.StackedDwRefIdeal.τ).loc Cert.StackedDwRefIdeal.main_arg1)
          ∧ r.2.mem ((c.tc : Thread Cert.StackedDwRefIdeal.nD Cert.StackedDwRefIdeal.τ).loc Cert.StackedDwRefIdeal.main_arg2) = m' ((c.tc : Thread Cert.StackedDwRefIdeal.nD Cert.StackedDwRefIdeal.τ).loc Cert.StackedDwRefIdeal.main_arg2))

def Claim : Prop :=
  ∃ (hSwigluBwd : Cert.SwigluBwd.Facts) (hSwigluBwdIdeal : Cert.SwigluBwdIdeal.Facts) (hSwigluBwdRefIdeal : Cert.SwigluBwdRefIdeal.Facts) (hMergeBwd : Cert.MergeBwd.Facts) (hMergeBwdIdeal : Cert.MergeBwdIdeal.Facts) (hMergeBwdRefIdeal : Cert.MergeBwdRefIdeal.Facts) (hLossGrad : Cert.LossGrad.Facts) (hLossGradIdeal : Cert.LossGradIdeal.Facts) (hLossGradRefIdeal : Cert.LossGradRefIdeal.Facts) (hProjInBwd : Cert.ProjInBwd.Facts) (hProjInBwdIdeal : Cert.ProjInBwdIdeal.Facts) (hProjInBwdRefIdeal : Cert.ProjInBwdRefIdeal.Facts) (hFfnInBwd : Cert.FfnInBwd.Facts) (hFfnInBwdIdeal : Cert.FfnInBwdIdeal.Facts) (hFfnInBwdRefIdeal : Cert.FfnInBwdRefIdeal.Facts) (hAttnBwd : Cert.AttnBwd.Facts) (hAttnBwdIdeal : Cert.AttnBwdIdeal.Facts) (hAttnBwdRefIdeal : Cert.AttnBwdRefIdeal.Facts) (hConvBwd : Cert.ConvBwd.Facts) (hConvBwdIdeal : Cert.ConvBwdIdeal.Facts) (hConvBwdRefIdeal : Cert.ConvBwdRefIdeal.Facts) (hOutProj : Cert.OutProj.Facts) (hOutProjIdeal : Cert.OutProjIdeal.Facts) (hOutProjRefIdeal : Cert.OutProjRefIdeal.Facts) (hSwigluFwd : Cert.SwigluFwd.Facts) (hSwigluFwdIdeal : Cert.SwigluFwdIdeal.Facts) (hSwigluFwdRefIdeal : Cert.SwigluFwdRefIdeal.Facts) (hProjMerge : Cert.ProjMerge.Facts) (hProjMergeIdeal : Cert.ProjMergeIdeal.Facts) (hProjMergeRefIdeal : Cert.ProjMergeRefIdeal.Facts) (hAttnFwd : Cert.AttnFwd.Facts) (hAttnFwdIdeal : Cert.AttnFwdIdeal.Facts) (hAttnFwdRefIdeal : Cert.AttnFwdRefIdeal.Facts) (hConvFwd : Cert.ConvFwd.Facts) (hConvFwdIdeal : Cert.ConvFwdIdeal.Facts) (hConvFwdRefIdeal : Cert.ConvFwdRefIdeal.Facts) (hFirstNorm : Cert.FirstNorm.Facts) (hFirstNormIdeal : Cert.FirstNormIdeal.Facts) (hFirstNormRefIdeal : Cert.FirstNormRefIdeal.Facts) (hDownDw : Cert.DownDw.Facts) (hDownDwIdeal : Cert.DownDwIdeal.Facts) (hDownDwRefIdeal : Cert.DownDwRefIdeal.Facts) (hAdamW : Cert.AdamW.Facts) (hAdamWIdeal : Cert.AdamWIdeal.Facts) (hAdamWRefIdeal : Cert.AdamWRefIdeal.Facts) (hStackedDw : Cert.StackedDw.Facts) (hStackedDwIdeal : Cert.StackedDwIdeal.Facts) (hStackedDwRefIdeal : Cert.StackedDwRefIdeal.Facts) (hPre_swiglu_finite : Cert.Pre_swiglu_finite.Facts) (hPre_attn_finite : Cert.Pre_attn_finite.Facts) (hPre_conv_finite : Cert.Pre_conv_finite.Facts) (hPre_attn_fwd_finite : Cert.Pre_attn_fwd_finite.Facts),
    quiescent_SwigluBwd (hSwigluBwd := hSwigluBwd)
    ∧ quiescent_SwigluBwdIdeal (hSwigluBwdIdeal := hSwigluBwdIdeal)
    ∧ quiescent_SwigluBwdIdeal_pre_swiglu_finite (hSwigluBwdIdeal := hSwigluBwdIdeal) (hPre_swiglu_finite := hPre_swiglu_finite)
    ∧ quiescent_SwigluBwdRefIdeal (hSwigluBwdRefIdeal := hSwigluBwdRefIdeal)
    ∧ quiescent_SwigluBwdRefIdeal_pre_swiglu_finite (hSwigluBwdRefIdeal := hSwigluBwdRefIdeal) (hPre_swiglu_finite := hPre_swiglu_finite)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_LossGrad (hLossGrad := hLossGrad)
    ∧ quiescent_LossGradIdeal (hLossGradIdeal := hLossGradIdeal)
    ∧ quiescent_LossGradRefIdeal (hLossGradRefIdeal := hLossGradRefIdeal)
    ∧ quiescent_ProjInBwd (hProjInBwd := hProjInBwd)
    ∧ quiescent_ProjInBwdIdeal (hProjInBwdIdeal := hProjInBwdIdeal)
    ∧ quiescent_ProjInBwdRefIdeal (hProjInBwdRefIdeal := hProjInBwdRefIdeal)
    ∧ quiescent_FfnInBwd (hFfnInBwd := hFfnInBwd)
    ∧ quiescent_FfnInBwdIdeal (hFfnInBwdIdeal := hFfnInBwdIdeal)
    ∧ quiescent_FfnInBwdRefIdeal (hFfnInBwdRefIdeal := hFfnInBwdRefIdeal)
    ∧ quiescent_AttnBwd (hAttnBwd := hAttnBwd)
    ∧ quiescent_AttnBwdIdeal (hAttnBwdIdeal := hAttnBwdIdeal)
    ∧ quiescent_AttnBwdIdeal_pre_attn_finite (hAttnBwdIdeal := hAttnBwdIdeal) (hPre_attn_finite := hPre_attn_finite)
    ∧ quiescent_AttnBwdRefIdeal (hAttnBwdRefIdeal := hAttnBwdRefIdeal)
    ∧ quiescent_AttnBwdRefIdeal_pre_attn_finite (hAttnBwdRefIdeal := hAttnBwdRefIdeal) (hPre_attn_finite := hPre_attn_finite)
    ∧ quiescent_ConvBwd (hConvBwd := hConvBwd)
    ∧ quiescent_ConvBwdIdeal (hConvBwdIdeal := hConvBwdIdeal)
    ∧ quiescent_ConvBwdIdeal_pre_conv_finite (hConvBwdIdeal := hConvBwdIdeal) (hPre_conv_finite := hPre_conv_finite)
    ∧ quiescent_ConvBwdRefIdeal (hConvBwdRefIdeal := hConvBwdRefIdeal)
    ∧ quiescent_ConvBwdRefIdeal_pre_conv_finite (hConvBwdRefIdeal := hConvBwdRefIdeal) (hPre_conv_finite := hPre_conv_finite)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SwigluFwd (hSwigluFwd := hSwigluFwd)
    ∧ quiescent_SwigluFwdIdeal (hSwigluFwdIdeal := hSwigluFwdIdeal)
    ∧ quiescent_SwigluFwdRefIdeal (hSwigluFwdRefIdeal := hSwigluFwdRefIdeal)
    ∧ quiescent_ProjMerge (hProjMerge := hProjMerge)
    ∧ quiescent_ProjMergeIdeal (hProjMergeIdeal := hProjMergeIdeal)
    ∧ quiescent_ProjMergeRefIdeal (hProjMergeRefIdeal := hProjMergeRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_FirstNorm (hFirstNorm := hFirstNorm)
    ∧ quiescent_FirstNormIdeal (hFirstNormIdeal := hFirstNormIdeal)
    ∧ quiescent_FirstNormRefIdeal (hFirstNormRefIdeal := hFirstNormRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_StackedDw (hStackedDw := hStackedDw)
    ∧ quiescent_StackedDwIdeal (hStackedDwIdeal := hStackedDwIdeal)
    ∧ quiescent_StackedDwRefIdeal (hStackedDwRefIdeal := hStackedDwRefIdeal)
    ∧ preserves_SwigluBwd_SwigluBwdIdeal
    ∧ algebraic_SwigluBwdIdeal_SwigluBwdRefIdeal_pre_swiglu_finite (hSwigluBwdIdeal := hSwigluBwdIdeal) (hSwigluBwdRefIdeal := hSwigluBwdRefIdeal) (hPre_swiglu_finite := hPre_swiglu_finite)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_LossGrad_LossGradIdeal
    ∧ algebraic_LossGradIdeal_LossGradRefIdeal (hLossGradIdeal := hLossGradIdeal) (hLossGradRefIdeal := hLossGradRefIdeal)
    ∧ preserves_ProjInBwd_ProjInBwdIdeal
    ∧ algebraic_ProjInBwdIdeal_ProjInBwdRefIdeal (hProjInBwdIdeal := hProjInBwdIdeal) (hProjInBwdRefIdeal := hProjInBwdRefIdeal)
    ∧ preserves_FfnInBwd_FfnInBwdIdeal
    ∧ algebraic_FfnInBwdIdeal_FfnInBwdRefIdeal (hFfnInBwdIdeal := hFfnInBwdIdeal) (hFfnInBwdRefIdeal := hFfnInBwdRefIdeal)
    ∧ preserves_AttnBwd_AttnBwdIdeal
    ∧ algebraic_AttnBwdIdeal_AttnBwdRefIdeal_pre_attn_finite (hAttnBwdIdeal := hAttnBwdIdeal) (hAttnBwdRefIdeal := hAttnBwdRefIdeal) (hPre_attn_finite := hPre_attn_finite)
    ∧ preserves_ConvBwd_ConvBwdIdeal
    ∧ algebraic_ConvBwdIdeal_ConvBwdRefIdeal_pre_conv_finite (hConvBwdIdeal := hConvBwdIdeal) (hConvBwdRefIdeal := hConvBwdRefIdeal) (hPre_conv_finite := hPre_conv_finite)
    ∧ preserves_OutProj_OutProjIdeal
    ∧ algebraic_OutProjIdeal_OutProjRefIdeal (hOutProjIdeal := hOutProjIdeal) (hOutProjRefIdeal := hOutProjRefIdeal)
    ∧ preserves_SwigluFwd_SwigluFwdIdeal
    ∧ algebraic_SwigluFwdIdeal_SwigluFwdRefIdeal (hSwigluFwdIdeal := hSwigluFwdIdeal) (hSwigluFwdRefIdeal := hSwigluFwdRefIdeal)
    ∧ preserves_ProjMerge_ProjMergeIdeal
    ∧ algebraic_ProjMergeIdeal_ProjMergeRefIdeal (hProjMergeIdeal := hProjMergeIdeal) (hProjMergeRefIdeal := hProjMergeRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_ConvFwd_ConvFwdIdeal
    ∧ algebraic_ConvFwdIdeal_ConvFwdRefIdeal (hConvFwdIdeal := hConvFwdIdeal) (hConvFwdRefIdeal := hConvFwdRefIdeal)
    ∧ preserves_FirstNorm_FirstNormIdeal
    ∧ algebraic_FirstNormIdeal_FirstNormRefIdeal (hFirstNormIdeal := hFirstNormIdeal) (hFirstNormRefIdeal := hFirstNormRefIdeal)
    ∧ preserves_DownDw_DownDwIdeal
    ∧ algebraic_DownDwIdeal_DownDwRefIdeal (hDownDwIdeal := hDownDwIdeal) (hDownDwRefIdeal := hDownDwRefIdeal)
    ∧ preserves_AdamW_AdamWIdeal
    ∧ algebraic_AdamWIdeal_AdamWRefIdeal (hAdamWIdeal := hAdamWIdeal) (hAdamWRefIdeal := hAdamWRefIdeal)
    ∧ preserves_StackedDw_StackedDwIdeal
    ∧ algebraic_StackedDwIdeal_StackedDwRefIdeal (hStackedDwIdeal := hStackedDwIdeal) (hStackedDwRefIdeal := hStackedDwRefIdeal)
-- ==== Pre_attn_finite.lean ====
abbrev S1x2048x3840 : Shape := ⟨3, ![1, 2048, 3840]⟩
abbrev S1x8 : Shape := ⟨2, ![1, 8]⟩
abbrev S1x2048x512 : Shape := ⟨3, ![1, 2048, 512]⟩
abbrev S1x2048x768 : Shape := ⟨3, ![1, 2048, 768]⟩
abbrev S_ : Shape := ⟨0, ![]⟩

class Facts : Prop where
  slices_S1x2048x3840_S1x2048x768_0_0_0 : S1x2048x3840.Slices ![0, 0, 0] S1x2048x768
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S1x8 : S_.BroadcastsInDim S1x8 (![] : Fin 0 → Fin S1x8.rank)
  reducesTo_S1x8_S_d0_1 : S1x8.ReducesTo [0, 1] S_
  bcast_S_S1x2048x512 : S_.BroadcastsInDim S1x2048x512 (![] : Fin 0 → Fin S1x2048x512.rank)
  reducesTo_S1x2048x512_S_d0_1_2 : S1x2048x512.ReducesTo [0, 1, 2] S_

variable [Facts]

def fn {F : FTy → Type} [FloatOps F] (main_arg0 : FVec F S1x2048x3840 .f32) (main_arg1 : FVec F S1x8 .f32) (main_arg2 : FVec F S1x2048x512 .f32) : IVec S_ 1 :=
  let main_v0 : FVec F S1x2048x768 .f32 := (extractStridedSlice S1x2048x768 ![0, 0, 0] · slices_S1x2048x3840_S1x2048x768_0_0_0) main_arg0
  let main_v1 : FVec F S1x2048x768 .f32 := Host.absf main_v0
  let main_cst : FVec F S_ .f32 := constant S_ .f32 0x7F800000#32
  let main_v2 : FVec F S1x2048x768 .f32 := broadcastInDim S1x2048x768 ![] bcast_S_S1x2048x768 main_cst
  let main_v3 : IVec S1x2048x768 1 := cmpf .olt main_v1 main_v2
  let main_c : IVec S_ 1 := constantI S_ 1 1#1
  let main_v4 : IVec S_ 1 := (fun x v => Host.reduce IntOp.andi x v reducesTo_S1x2048x768_S_d0_1_2 h_S_) main_v3 main_c
  let main_v5 : FVec F S1x8 .f32 := Host.absf main_arg1
  let main_cst_0 : FVec F S_ .f32 := constant S_ .f32 0x7F800000#32
  let main_v6 : FVec F S1x8 .f32 := broadcastInDim S1x8 ![] bcast_S_S1x8 main_cst_0
  let main_v7 : IVec S1x8 1 := cmpf .olt main_v5 main_v6
  let main_c_1 : IVec S_ 1 := constantI S_ 1 1#1
  let main_v8 : IVec S_ 1 := (fun x v => Host.reduce IntOp.andi x v reducesTo_S1x8_S_d0_1 h_S_) main_v7 main_c_1
  let main_v9 : FVec F S1x2048x512 .f32 := Host.absf main_arg2
  let main_cst_2 : FVec F S_ .f32 := constant S_ .f32 0x7F800000#32
  let main_v10 : FVec F S1x2048x512 .f32 := broadcastInDim S1x2048x512 ![] bcast_S_S1x2048x512 main_cst_2
  let main_v11 : IVec S1x2048x512 1 := cmpf .olt main_v9 main_v10
  let main_c_3 : IVec S_ 1 := constantI S_ 1 1#1
  let main_v12 : IVec S_ 1 := (fun x v => Host.reduce IntOp.andi x v reducesTo_S1x2048x512_S_d0_1_2 h_S_) main_v11 main_c_3
  let main_v13 : IVec S_ 1 := andi main_v4 main_v8
  let main_v14 : IVec S_ 1 := andi main_v13 main_v12
  main_v14
-- ==== Pre_attn_fwd_finite.lean ====
abbrev S1x2048x3840 : Shape := ⟨3, ![1, 2048, 3840]⟩
abbrev S1x8 : Shape := ⟨2, ![1, 8]⟩
abbrev S1x2048x640 : Shape := ⟨3, ![1, 2048, 640]⟩
abbrev S_ : Shape := ⟨0, ![]⟩

class Facts : Prop where
  slices_S1x2048x3840_S1x2048x640_0_0_0 : S1x2048x3840.Slices ![0, 0, 0] S1x2048x640
  bcast_S_S1x2048x640 : S_.BroadcastsInDim S1x2048x640 (![] : Fin 0 → Fin S1x2048x640.rank)
  reducesTo_S1x2048x640_S_d0_1_2 : S1x2048x640.ReducesTo [0, 1, 2] S_
  h_S_ : 0 < S_.numel
  bcast_S_S1x8 : S_.BroadcastsInDim S1x8 (![] : Fin 0 → Fin S1x8.rank)
  reducesTo_S1x8_S_d0_1 : S1x8.ReducesTo [0, 1] S_

variable [Facts]

def fn {F : FTy → Type} [FloatOps F] (main_arg0 : FVec F S1x2048x3840 .f32) (main_arg1 : FVec F S1x8 .f32) : IVec S_ 1 :=
  let main_v0 : FVec F S1x2048x640 .f32 := (extractStridedSlice S1x2048x640 ![0, 0, 0] · slices_S1x2048x3840_S1x2048x640_0_0_0) main_arg0
  let main_v1 : FVec F S1x2048x640 .f32 := Host.absf main_v0
  let main_cst : FVec F S_ .f32 := constant S_ .f32 0x7F800000#32
  let main_v2 : FVec F S1x2048x640 .f32 := broadcastInDim S1x2048x640 ![] bcast_S_S1x2048x640 main_cst
  let main_v3 : IVec S1x2048x640 1 := cmpf .olt main_v1 main_v2
  let main_c : IVec S_ 1 := constantI S_ 1 1#1
  let main_v4 : IVec S_ 1 := (fun x v => Host.reduce IntOp.andi x v reducesTo_S1x2048x640_S_d0_1_2 h_S_) main_v3 main_c
  let main_v5 : FVec F S1x8 .f32 := Host.absf main_arg1
  let main_cst_0 : FVec F S_ .f32 := constant S_ .f32 0x7F800000#32
  let main_v6 : FVec F S1x8 .f32 := broadcastInDim S1x8 ![] bcast_S_S1x8 main_cst_0
  let main_v7 : IVec S1x8 1 := cmpf .olt main_v5 main_v6
  let main_c_1 : IVec S_ 1 := constantI S_ 1 1#1
  let main_v8 : IVec S_ 1 := (fun x v => Host.reduce IntOp.andi x v reducesTo_S1x8_S_d0_1 h_S_) main_v7 main_c_1
  let main_v9 : IVec S_ 1 := andi main_v4 main_v8
  main_v9
-- ==== Pre_conv_finite.lean ====
abbrev S1x2048x3840 : Shape := ⟨3, ![1, 2048, 3840]⟩
abbrev S1x31x512 : Shape := ⟨3, ![1, 31, 512]⟩
abbrev S1x512 : Shape := ⟨2, ![1, 512]⟩
abbrev S1x2048x512 : Shape := ⟨3, ![1, 2048, 512]⟩
abbrev S_ : Shape := ⟨0, ![]⟩

class Facts : Prop where
  slices_S1x2048x3840_S1x2048x512_0_0_768 : S1x2048x3840.Slices ![0, 0, 768] S1x2048x512
  bcast_S_S1x2048x512 : S_.BroadcastsInDim S1x2048x512 (![] : Fin 0 → Fin S1x2048x512.rank)
  reducesTo_S1x2048x512_S_d0_1_2 : S1x2048x512.ReducesTo [0, 1, 2] S_
  h_S_ : 0 < S_.numel
  bcast_S_S1x31x512 : S_.BroadcastsInDim S1x31x512 (![] : Fin 0 → Fin S1x31x512.rank)
  reducesTo_S1x31x512_S_d0_1_2 : S1x31x512.ReducesTo [0, 1, 2] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg5 : FVec F S1x2048x512 .f32) (main_v4 : IVec S_ 1) (main_v8 : IVec S_ 1) (main_v12 : IVec S_ 1) (main_v15 : IVec S1x512 1) (main_c_5 : IVec S_ 1) : IVec S_ 1 :=
  let main_v16 : IVec S_ 1 := (fun x v => Host.reduce IntOp.andi x v reducesTo_S1x512_S_d0_1 h_S_) main_v15 main_c_5
  let main_v17 : FVec F S1x2048x512 .f32 := Host.absf main_arg5
  let main_cst_6 : FVec F S_ .f32 := constant S_ .f32 0x7F800000#32
  let main_v18 : FVec F S1x2048x512 .f32 := broadcastInDim S1x2048x512 ![] bcast_S_S1x2048x512 main_cst_6
  let main_v19 : IVec S1x2048x512 1 := cmpf .olt main_v17 main_v18
  let main_c_7 : IVec S_ 1 := constantI S_ 1 1#1
  let main_v20 : IVec S_ 1 := (fun x v => Host.reduce IntOp.andi x v reducesTo_S1x2048x512_S_d0_1_2 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S1x2048x3840 .f32) (main_arg1 : FVec F S1x31x512 .f32) (main_arg2 : FVec F S1x512 .f32) (main_arg3 : FVec F S1x512 .f32) (main_arg4 : FVec F S1x512 .f32) (main_arg5 : FVec F S1x2048x512 .f32) : IVec S_ 1 :=
  let main_v0 : FVec F S1x2048x512 .f32 := (extractStridedSlice S1x2048x512 ![0, 0, 768] · slices_S1x2048x3840_S1x2048x512_0_0_768) main_arg0
  let main_v1 : FVec F S1x2048x512 .f32 := Host.absf main_v0
  let main_cst : FVec F S_ .f32 := constant S_ .f32 0x7F800000#32
  let main_v2 : FVec F S1x2048x512 .f32 := broadcastInDim S1x2048x512 ![] bcast_S_S1x2048x512 main_cst
  let main_v3 : IVec S1x2048x512 1 := cmpf .olt main_v1 main_v2
  let main_c : IVec S_ 1 := constantI S_ 1 1#1
  let main_v4 : IVec S_ 1 := (fun x v => Host.reduce IntOp.andi x v reducesTo_S1x2048x512_S_d0_1_2 h_S_) main_v3 main_c
  let main_v5 : FVec F S1x31x512 .f32 := Host.absf main_arg1
  let main_cst_0 : FVec F S_ .f32 := constant S_ .f32 0x7F800000#32
  let main_v6 : FVec F S1x31x512 .f32 := broadcastInDim S1x31x512 ![] bcast_S_S1x31x512 main_cst_0
  let main_v7 : IVec S1x31x512 1 := cmpf .olt main_v5 main_v6
  let main_c_1 : IVec S_ 1 := constantI S_ 1 1#1
  let main_v8 : IVec S_ 1 := (fun x v => Host.reduce IntOp.andi x v reducesTo_S1x31x512_S_d0_1_2 h_S_) main_v7 main_c_1
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : FVec F S1x512 .f32 := Host.absf main_arg3
  let main_cst_4 : FVec F S_ .f32 := constant S_ .f32 0x7F800000#32
  let main_v14 : FVec F S1x512 .f32 := broadcastInDim S1x512 ![] bcast_S_S1x512 main_cst_4
  let main_v15 : IVec S1x512 1 := cmpf .olt main_v13 main_v14
  let main_c_5 : IVec S_ 1 := constantI S_ 1 1#1
  fn_part1 (F := F) main_arg5 main_v4 main_v8 main_v12 main_v15 main_c_5
-- ==== Pre_swiglu_finite.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S_ : Shape := ⟨0, ![]⟩

class Facts : Prop where
  bcast_S_S1x2048x2816 : S_.BroadcastsInDim S1x2048x2816 (![] : Fin 0 → Fin S1x2048x2816.rank)
  reducesTo_S1x2048x2816_S_d0_1_2 : S1x2048x2816.ReducesTo [0, 1, 2] S_
  h_S_ : 0 < S_.numel
  bcast_S_S1x2816x1024 : S_.BroadcastsInDim S1x2816x1024 (![] : Fin 0 → Fin S1x2816x1024.rank)
  reducesTo_S1x2816x1024_S_d0_1_2 : S1x2816x1024.ReducesTo [0, 1, 2] S_
  bcast_S_S1x2048x1024 : S_.BroadcastsInDim S1x2048x1024 (![] : Fin 0 → Fin S1x2048x1024.rank)
  reducesTo_S1x2048x1024_S_d0_1_2 : S1x2048x1024.ReducesTo [0, 1, 2] S_

variable [Facts]

def fn {F : FTy → Type} [FloatOps F] (main_arg0 : FVec F S1x2048x2816 .f32) (main_arg1 : FVec F S1x2048x2816 .f32) (main_arg2 : FVec F S1x2816x1024 .f32) (main_arg3 : FVec F S1x2048x1024 .f32) : IVec S_ 1 :=
  let main_v0 : FVec F S1x2048x2816 .f32 := Host.absf main_arg1
  let main_cst : FVec F S_ .f32 := constant S_ .f32 0x7F800000#32
  let main_v1 : FVec F S1x2048x2816 .f32 := broadcastInDim S1x2048x2816 ![] bcast_S_S1x2048x2816 main_cst
  let main_v2 : IVec S1x2048x2816 1 := cmpf .olt main_v0 main_v1
  let main_c : IVec S_ 1 := constantI S_ 1 1#1
  let main_v3 : IVec S_ 1 := (fun x v => Host.reduce IntOp.andi x v reducesTo_S1x2048x2816_S_d0_1_2 h_S_) main_v2 main_c
  let main_v4 : FVec F S1x2816x1024 .f32 := Host.absf main_arg2
  let main_cst_0 : FVec F S_ .f32 := constant S_ .f32 0x7F800000#32
  let main_v5 : FVec F S1x2816x1024 .f32 := broadcastInDim S1x2816x1024 ![] bcast_S_S1x2816x1024 main_cst_0
  let main_v6 : IVec S1x2816x1024 1 := cmpf .olt main_v4 main_v5
  let main_c_1 : IVec S_ 1 := constantI S_ 1 1#1
  let main_v7 : IVec S_ 1 := (fun x v => Host.reduce IntOp.andi x v reducesTo_S1x2816x1024_S_d0_1_2 h_S_) main_v6 main_c_1
  let main_v8 : FVec F S1x2048x1024 .f32 := Host.absf main_arg3
  let main_cst_2 : FVec F S_ .f32 := constant S_ .f32 0x7F800000#32
  let main_v9 : FVec F S1x2048x1024 .f32 := broadcastInDim S1x2048x1024 ![] bcast_S_S1x2048x1024 main_cst_2
  let main_v10 : IVec S1x2048x1024 1 := cmpf .olt main_v8 main_v9
  let main_c_3 : IVec S_ 1 := constantI S_ 1 1#1
  let main_v11 : IVec S_ 1 := (fun x v => Host.reduce IntOp.andi x v reducesTo_S1x2048x1024_S_d0_1_2 h_S_) main_v10 main_c_3
  let main_v12 : IVec S_ 1 := andi main_v3 main_v7
  let main_v13 : IVec S_ 1 := andi main_v12 main_v11
  main_v13
-- ==== SwigluBwd.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S2048x1024 : Shape := ⟨2, ![2048, 1024]⟩
abbrev S2816x1024 : Shape := ⟨2, ![2816, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 14
  | .vmem => 12
  | .smem => 0
  | _ => 0

abbrev bufTy : (tb : Table) → Fin (tcTables nBuf tb) → BufTy
  | .hbm, ⟨0, _⟩ => ⟨S1x2048x2816, .f32⟩
  | .hbm, ⟨1, _⟩ => ⟨S1x2048x2816, .f32⟩
  | .hbm, ⟨2, _⟩ => ⟨S1x2816x1024, .f32⟩
  | .hbm, ⟨3, _⟩ => ⟨S1x2048x1024, .f32⟩
  | .hbm, ⟨4, _⟩ => ⟨S2048x1024, .f32⟩
  | .hbm, ⟨5, _⟩ => ⟨S2048x1024, .bf16⟩
  | .hbm, ⟨6, _⟩ => ⟨S2816x1024, .f32⟩
  | .hbm, ⟨7, _⟩ => ⟨S2816x1024, .bf16⟩
  | .hbm, ⟨8, _⟩ => ⟨S2048x2816, .f32⟩
  | .hbm, ⟨9, _⟩ => ⟨S2048x2816, .bf16⟩
  | .hbm, ⟨10, _⟩ => ⟨S2048x2816, .f32⟩
  | .hbm, ⟨11, _⟩ => ⟨S2048x2816, .bf16⟩
  | .hbm, ⟨12, _⟩ => ⟨S2048x2816, .bf16⟩
  | .hbm, ⟨13, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== SwigluBwdRefIdeal.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S_ : Shape := ⟨0, ![]⟩
abbrev S2816x1024 : Shape := ⟨2, ![2816, 1024]⟩
abbrev S2048x2816 : Shape := ⟨2, ![2048, 2816]⟩

abbrev nBuf : Space → Nat
  | .hbm => 31
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2048x2816, .f32⟩
  | .hbm, ⟨2, _⟩ => ⟨S1x2816x1024, .f32⟩
  | .hbm, ⟨3, _⟩ => ⟨S1x2048x1024, .f32⟩
  | .hbm, ⟨4, _⟩ => ⟨S1x2048x2816, .f32⟩
  | .hbm, ⟨5, _⟩ => ⟨S1x2048x2816, .f32⟩
  | .hbm, ⟨6, _⟩ => ⟨S_, .f32⟩
  | .hbm, ⟨7, _⟩ => ⟨S1x2048x2816, .f32⟩
  | .hbm, ⟨8, _⟩ => ⟨S1x2048x2816, .f32⟩
  | .hbm, ⟨9, _⟩ => ⟨S_, .f32⟩
  | .hbm, ⟨10, _⟩ => ⟨S1x2048x2816, .f32⟩
  | .hbm, ⟨11, _⟩ => ⟨S1x2048x2816, .f32⟩
  | .hbm, ⟨12, _⟩ => ⟨S_, .f32⟩
  | .hbm, ⟨13, _⟩ => ⟨S1x2048x2816, .f32⟩
  | .hbm, ⟨14, _⟩ => ⟨S1x2048x2816, .f32⟩
  | .hbm, ⟨15, _⟩ => ⟨S1x2048x2816, .f32⟩
  | .hbm, ⟨16, _⟩ => ⟨S1x2048x2816, .f32⟩
  | .hbm, ⟨17, _⟩ => ⟨S1x2048x2816, .f32⟩
  | .hbm, ⟨18, _⟩ => ⟨S2816x1024, .f32⟩
  | .hbm, ⟨19, _⟩ => ⟨S1x2048x1024, .f32⟩
  | .hbm, ⟨20, _⟩ => ⟨S1x2048x2816, .f32⟩
  | .hbm, ⟨21, _⟩ => ⟨S1x2048x2816, .f32⟩
  | .hbm, ⟨22, _⟩ => ⟨S1x2048x2816, .f32⟩
  | .hbm, ⟨23, _⟩ => ⟨S1x2048x2816, .f32⟩
  | .hbm, ⟨24, _⟩ => ⟨S1x2048x2816, .f32⟩
  | .hbm, ⟨25, _⟩ => ⟨S1x2048x2816, .f32⟩
  | .hbm, ⟨26, _⟩ => ⟨S1x2048x2816, .f32⟩
  | .hbm, ⟨27, _⟩ => ⟨S2048x2816, .f32⟩
  | .hbm, ⟨28, _⟩ => ⟨S2048x2816, .bf16⟩
  | .hbm, ⟨29, _⟩ => ⟨S2048x2816, .f32⟩
  | .hbm, ⟨30, _⟩ => ⟨S2048x2816, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== MergeBwd.lean ====
abbrev S1x2048x1024 : Shape := ⟨3, ![1, 2048, 1024]⟩
abbrev S1x2048x3840 : Shape := ⟨3, ![1, 2048, 3840]⟩
abbrev S1x1024x1024 : Shape := ⟨3, ![1, 1024, 1024]⟩
abbrev S2048x1024 : Shape := ⟨2, ![2048, 1024]⟩
abbrev S1024x1024 : Shape := ⟨2, ![1024, 1024]⟩
abbrev S2048x3840 : Shape := ⟨2, ![2048, 3840]⟩
abbrev S256x1024 : Shape := ⟨2, ![256, 1024]⟩
abbrev S2048x256 : Shape := ⟨2, ![2048, 256]⟩

abbrev nBuf : Space → Nat
  | .hbm => 19
  | .vmem => 19
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x3840, .f32⟩
  | .hbm, ⟨3, _⟩ => ⟨S1x1024x1024, .f32⟩
  | .hbm, ⟨4, _⟩ => ⟨S1x2048x1024, .f32⟩
  | .hbm, ⟨5, _⟩ => ⟨S2048x1024, .f32⟩
  | .hbm, ⟨6, _⟩ => ⟨S2048x1024, .bf16⟩
  | .hbm, ⟨7, _⟩ => ⟨S1024x1024, .f32⟩
  | .hbm, ⟨8, _⟩ => ⟨S1024x1024, .bf16⟩
  | .hbm, ⟨9, _⟩ => ⟨S2048x1024, .f32⟩
  | .hbm, ⟨10, _⟩ => ⟨S2048x1024, .bf16⟩
  | .hbm, ⟨11, _⟩ => ⟨S2048x1024, .f32⟩
  | .hbm, ⟨12, _⟩ => ⟨S2048x1024, .bf16⟩
  | .hbm, ⟨13, _⟩ => ⟨S2048x3840, .f32⟩
  | .hbm, ⟨14, _⟩ => ⟨S2048x3840, .bf16⟩
  | .hbm, ⟨15, _⟩ => ⟨S2048x1024, .bf16⟩
  | .hbm, ⟨16, _⟩ => ⟨S2048x1024, .bf16⟩
  | .hbm, ⟨17, _⟩ => ⟨S2048x1024, .bf16⟩
  | .hbm, ⟨18, _⟩ => ⟨S2048x1024, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .bf16⟩
  | .local _ .vmem, ⟨4, _⟩ => ⟨S2048x256, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v10_3 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let v1 : BitVec 32 := Scalar.addi c0_i32_0 arg2
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.addi c7_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== MergeBwdRefIdeal.lean ====
abbrev S1x2048x1024 : Shape := ⟨3, ![1, 2048, 1024]⟩
abbrev S1x2048x3840 : Shape := ⟨3, ![1, 2048, 3840]⟩
abbrev S1x1024x1024 : Shape := ⟨3, ![1, 1024, 1024]⟩
abbrev S1x2048x2048 : Shape := ⟨3, ![1, 2048, 2048]⟩
abbrev S1x2048x2x1024 : Shape := ⟨4, ![1, 2048, 2, 1024]⟩
abbrev S_ : Shape := ⟨0, ![]⟩
abbrev S1x2048x1x1024 : Shape := ⟨4, ![1, 2048, 1, 1024]⟩
abbrev S1024x1024 : Shape := ⟨2, ![1024, 1024]⟩
abbrev S2048x1024 : Shape := ⟨2, ![2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x2048x1024, .f32⟩
  | .hbm, ⟨2, _⟩ => ⟨S1x2048x3840, .f32⟩
  | .hbm, ⟨3, _⟩ => ⟨S1x1024x1024, .f32⟩
  | .hbm, ⟨4, _⟩ => ⟨S1x2048x1024, .f32⟩
  | .hbm, ⟨5, _⟩ => ⟨S1x2048x2048, .f32⟩
  | .hbm, ⟨6, _⟩ => ⟨S1x2048x2x1024, .f32⟩
  | .hbm, ⟨7, _⟩ => ⟨S1x2048x2x1024, .f32⟩
  | .hbm, ⟨8, _⟩ => ⟨S1x2048x2x1024, .f32⟩
  | .hbm, ⟨9, _⟩ => ⟨S_, .f32⟩
  | .hbm, ⟨10, _⟩ => ⟨S1x2048x2x1024, .f32⟩
  | .hbm, ⟨11, _⟩ => ⟨S1x2048x2x1024, .f32⟩
  | .hbm, ⟨12, _⟩ => ⟨S_, .f32⟩
  | .hbm, ⟨13, _⟩ => ⟨S1x2048x2x1024, .f32⟩
  | .hbm, ⟨14, _⟩ => ⟨S1x2048x2x1024, .f32⟩
  | .hbm, ⟨15, _⟩ => ⟨S_, .f32⟩
  | .hbm, ⟨16, _⟩ => ⟨S1x2048x2x1024, .f32⟩
  | .hbm, ⟨17, _⟩ => ⟨S1x2048x2x1024, .f32⟩
  | .hbm, ⟨18, _⟩ => ⟨S1x2048x2x1024, .f32⟩
  | .hbm, ⟨19, _⟩ => ⟨S1x2048x1x1024, .f32⟩
  | .hbm, ⟨20, _⟩ => ⟨S1x2048x1024, .f32⟩
  | .hbm, ⟨21, _⟩ => ⟨S1x2048x1024, .f32⟩
  | .hbm, ⟨22, _⟩ => ⟨S1x2048x1x1024, .f32⟩
  | .hbm, ⟨23, _⟩ => ⟨S1x2048x1024, .f32⟩
  | .hbm, ⟨24, _⟩ => ⟨S1x2048x1024, .f32⟩
  | .hbm, ⟨25, _⟩ => ⟨S1x2048x1024, .f32⟩
  | .hbm, ⟨26, _⟩ => ⟨S1024x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S1x2048x1x1024, .f32⟩
  | .hbm, ⟨32, _⟩ => ⟨S_, .f32⟩
  | .hbm, ⟨33, _⟩ => ⟨S1x2048x2x1024, .f32⟩
  | .hbm, ⟨34, _⟩ => ⟨S1x2048x1024, .f32⟩
  | .hbm, ⟨35, _⟩ => ⟨S1x2048x1024, .f32⟩
  | .hbm, ⟨36, _⟩ => ⟨S1x2048x1x1024, .f32⟩
  | .hbm, ⟨37, _⟩ => ⟨S_, .f32⟩
  | .hbm, ⟨38, _⟩ => ⟨S1x2048x2x1024, .f32⟩
  | .hbm, ⟨39, _⟩ => ⟨S1x2048x2x1024, .f32⟩
  | .hbm, ⟨40, _⟩ => ⟨S1x2048x2x1024, .f32⟩
  | .hbm, ⟨41, _⟩ => ⟨S1x2048x2048, .f32⟩
  | .hbm, ⟨42, _⟩ => ⟨S2048x1024, .f32⟩
  | .hbm, ⟨43, _⟩ => ⟨S2048x1024, .bf16⟩
  | .hbm, ⟨44, _⟩ => ⟨S2048x1024, .f32⟩
  | .hbm, ⟨45, _⟩ => ⟨S2048x1024, .bf16⟩
  | .hbm, ⟨46, _⟩ => ⟨S1x2048x1024, .f32⟩
  | .hbm, ⟨47, _⟩ => ⟨S2048x1024, .f32⟩
  | .hbm, ⟨48, _⟩ => ⟨S2048x1024, .bf16⟩
  | .hbm, ⟨49, _⟩ => ⟨S1x2048x1024, .f32⟩
  | .hbm, ⟨50, _⟩ => ⟨S2048x1024, .f32⟩
  | .hbm, ⟨51, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== LossGrad.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S1024 : Shape := ⟨1, ![1024]⟩
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1x1 : Shape := ⟨2, ![1, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 16
  | .vmem => 14
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S1024, .f32⟩
  | .hbm, ⟨4, _⟩ => ⟨S1x2048x1024, .f32⟩
  | .hbm, ⟨5, _⟩ => ⟨S2048x2816, .f32⟩
  | .hbm, ⟨6, _⟩ => ⟨S2048x2816, .bf16⟩
  | .hbm, ⟨7, _⟩ => ⟨S2816x1024, .f32⟩
  | .hbm, ⟨8, _⟩ => ⟨S2816x1024, .bf16⟩
  | .hbm, ⟨9, _⟩ => ⟨S2048x1024, .f32⟩
  | .hbm, ⟨10, _⟩ => ⟨S1x1024, .f32⟩
  | .hbm, ⟨11, _⟩ => ⟨S2048x1024, .f32⟩
  | .hbm, ⟨12, _⟩ => ⟨S2048x1024, .f32⟩
  | .hbm, ⟨13, _⟩ => ⟨S2048x1024, .bf16⟩
  | .hbm, ⟨14, _⟩ => ⟨S1x1024, .f32⟩
  | .hbm, ⟨15, _⟩ => ⟨S1x1, .f32⟩
  | .local _ .vmem, ⟨0, _⟩ => ⟨S256x2816, .bf16⟩
  | .local _ .vmem, ⟨1, _⟩ => ⟨S256x2816, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .bf16⟩
  | .local _ .vmem, ⟨11, _⟩ => ⟨S256x1024, .bf16⟩
  | .local _ .vmem, ⟨12, _⟩ => ⟨S1x1024, .f32⟩
  | .local _ .vmem, ⟨13, _⟩ => ⟨S1x1, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v56 : BitVec 1 := Scalar.cmpi .eq arg1 c0_i32
  let v57 : BitVec 32 := Scalar.extui v56
  let c0_i32_24 : BitVec 32 := 0#32
  let v58 : BitVec 1 := Scalar.cmpi .ne v57 c0_i32_24
  v58

def k0_cond2 (i : grid0.Coords) : BitVec 1 :=
  let arg1 : BitVec 32 := BitVec.ofNat 32 (i 1).val
  let c0_i32 : BitVec 32 := 0#32
  let v56 : BitVec 1 := Scalar.cmpi .eq arg1 c0_i32
  let v_true : BitVec 1 := 1#1
  let v59 : BitVec 1 := Scalar.xori v56 v_true
  let v60 : BitVec 32 := Scalar.extui v59
  let c0_i32_25 : BitVec 32 := 0#32
  let v61 : BitVec 1 := Scalar.cmpi .ne v60 c0_i32_25
  v61

def k0_cond3 (i : grid0.Coords) : BitVec 1 :=
  let arg1 : BitVec 32 := BitVec.ofNat 32 (i 1).val
  let c0_i32_26 : BitVec 32 := 0#32
  let v62 : BitVec 1 := Scalar.cmpi .eq arg1 c0_i32_26
  let v63 : BitVec 32 := Scalar.extui v62
  let c0_i32_27 : BitVec 32 := 0#32
  let v64 : BitVec 1 := Scalar.cmpi .ne v63 c0_i32_27
  v64

def k0_cond4 (i : grid0.Coords) : BitVec 1 :=
  let arg1 : BitVec 32 := BitVec.ofNat 32 (i 1).val
  let c0_i32_26 : BitVec 32 := 0#32
  let v62 : BitVec 1 := Scalar.cmpi .eq arg1 c0_i32_26
  let true_28 : BitVec 1 := 1#1
  let v65 : BitVec 1 := Scalar.xori v62 true_28
  let v66 : BitVec 32 := Scalar.extui v65
  let c0_i32_29 : BitVec 32 := 0#32
  let v67 : BitVec 1 := Scalar.cmpi .ne v66 c0_i32_29
  v67

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]
-- ==== LossGradRefIdeal.lean ====
abbrev S1x2048x2816 : Shape := ⟨3, ![1, 2048, 2816]⟩
abbrev S1x2816x1024 : Shape := ⟨3, ![1, 2816, 1024]⟩
abbrev S1x2048x1024 : Shape := ⟨3, ![1, 2048, 1024]⟩
abbrev S1024 : Shape := ⟨1, ![1024]⟩
abbrev S2816x1024 : Shape := ⟨2, ![2816, 1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1x1024 : Shape := ⟨2, ![1, 1024]⟩
abbrev S2048 : Shape := ⟨1, ![2048]⟩
abbrev S2048x1024 : Shape := ⟨2, ![2048, 1024]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2816x1024, .f32⟩
  | .hbm, ⟨2, _⟩ => ⟨S1x2048x1024, .f32⟩
  | .hbm, ⟨3, _⟩ => ⟨S1024, .f32⟩
  | .hbm, ⟨4, _⟩ => ⟨S1x2048x1024, .f32⟩
  | .hbm, ⟨5, _⟩ => ⟨S2816x1024, .f32⟩
  | .hbm, ⟨6, _⟩ => ⟨S1x2048x1024, .f32⟩
  | .hbm, ⟨7, _⟩ => ⟨S1x2048x1024, .f32⟩
  | .hbm, ⟨8, _⟩ => ⟨S1x2048x1024, .f32⟩
  | .hbm, ⟨9, _⟩ => ⟨S_, .f32⟩
  | .hbm, ⟨10, _⟩ => ⟨S1x2048, .f32⟩
  | .hbm, ⟨11, _⟩ => ⟨S1x2048x1, .f32⟩
  | .hbm, ⟨12, _⟩ => ⟨S_, .f32⟩
  | .hbm, ⟨13, _⟩ => ⟨S1x2048x1, .f32⟩
  | .hbm, ⟨14, _⟩ => ⟨S1x2048x1, .f32⟩
  | .hbm, ⟨15, _⟩ => ⟨S_, .f32⟩
  | .hbm, ⟨16, _⟩ => ⟨S1x2048x1, .f32⟩
  | .hbm, ⟨17, _⟩ => ⟨S1x2048x1, .f32⟩
  | .hbm, ⟨18, _⟩ => ⟨S1x2048x1, .f32⟩
  | .hbm, ⟨19, _⟩ => ⟨S1x2048x1, .f32⟩
  | .hbm, ⟨20, _⟩ => ⟨S_, .f32⟩
  | .hbm, ⟨21, _⟩ => ⟨S1x2048x1, .f32⟩
  | .hbm, ⟨22, _⟩ => ⟨S1x2048x1, .f32⟩
  | .hbm, ⟨23, _⟩ => ⟨S1x2048x1024, .f32⟩
  | .hbm, ⟨24, _⟩ => ⟨S1x2048x1024, .f32⟩
  | .hbm, ⟨25, _⟩ => ⟨S1x1x1024, .f32⟩
  | .hbm, ⟨26, _⟩ => ⟨S1x2048x1024, .f32⟩
  | .hbm, ⟨27, _⟩ => ⟨S1x2048x1024, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x2048x1024, .f32⟩
  | .hbm, ⟨32, _⟩ => ⟨S1x2048x1024, .f32⟩
  | .hbm, ⟨33, _⟩ => ⟨S_, .f32⟩
  | .hbm, ⟨34, _⟩ => ⟨S1x2048, .f32⟩
  | .hbm, ⟨35, _⟩ => ⟨S_, .f32⟩
  | .hbm, ⟨36, _⟩ => ⟨S1x2048, .f32⟩
  | .hbm, ⟨37, _⟩ => ⟨S1x2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S1x2048, .f32⟩
  | .hbm, ⟨46, _⟩ => ⟨S_, .f32⟩
  | .hbm, ⟨47, _⟩ => ⟨S1x2048, .f32⟩
  | .hbm, ⟨48, _⟩ => ⟨S1x2048, .f32⟩
  | .hbm, ⟨49, _⟩ => ⟨S1x2048x1024, .f32⟩
  | .hbm, ⟨50, _⟩ => ⟨S1x2048x1024, .f32⟩
  | .hbm, ⟨51, _⟩ => ⟨S1x2048x1024, .f32⟩
  | .hbm, ⟨52, _⟩ => ⟨S_, .f32⟩
  | .hbm, ⟨53, _⟩ => ⟨S1x1024, .f32⟩
  | .hbm, ⟨54, _⟩ => ⟨S1x1x1024, .f32⟩
  | .hbm, ⟨55, _⟩ => ⟨S1x2048x1024, .f32⟩
  | .hbm, ⟨56, _⟩ => ⟨S1x2048x1024, .f32⟩
  | .hbm, ⟨57, _⟩ => ⟨S_, .f32⟩
  | .hbm, ⟨58, _⟩ => ⟨S1024, .f32⟩
  | .hbm, ⟨59, _⟩ => ⟨S1x2048x1024, .f32⟩
  | .hbm, ⟨60, _⟩ => ⟨S_, .f32⟩
  | .hbm, ⟨61, _⟩ => ⟨S1x2048, .f32⟩
  | .hbm, ⟨62, _⟩ => ⟨S1x2048x1, .f32⟩
  | .hbm, ⟨63, _⟩ => ⟨S1x2048x1024, .f32⟩
  | .hbm, ⟨64, _⟩ => ⟨S1x2048x1024, .f32⟩
  | .hbm, ⟨65, _⟩ => ⟨S1x2048x1, .f32⟩
  | .hbm, ⟨66, _⟩ => ⟨S_, .f32⟩
  | .hbm, ⟨67, _⟩ => ⟨S1x2048x1, .f32⟩
  | .hbm, ⟨68, _⟩ => ⟨S1x2048x1, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S1x2048x1024, .f32⟩
  | .hbm, ⟨73, _⟩ => ⟨S1x2048x1024, .f32⟩
  | .hbm, ⟨74, _⟩ => ⟨S1x2048x1024, .f32⟩
  | .hbm, ⟨75, _⟩ => ⟨S1x2048x1024, .f32⟩
  | .hbm, ⟨76, _⟩ => ⟨S1x2048x1024, .f32⟩
  | .hbm, ⟨77, _⟩ => ⟨S2048x1024, .f32⟩
  | .hbm, ⟨78, _⟩ => ⟨S2048x1024, .f32⟩
  | .hbm, ⟨79, _⟩ => ⟨S2048x1024, .bf16⟩
  | .hbm, ⟨80, _⟩ => ⟨S1x1024, .f32⟩
  | .hbm, ⟨81, _⟩ => ⟨S1x1, .f32⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== ProjInBwd.lean ====
abbrev S1x2048x1024 : Shape := ⟨3, ![1, 2048, 1024]⟩
abbrev S1x1024 : Shape := ⟨2, ![1, 1024]⟩
abbrev S1x1024x3840 : Shape := ⟨3, ![1, 1024, 3840]⟩
abbrev S1x2048x3840 : Shape := ⟨3, ![1, 2048, 3840]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x3840 : Shape := ⟨2, ![2048, 3840]⟩
abbrev S2048x768 : Shape := ⟨2, ![2048, 768]⟩
abbrev S1024x3840 : Shape := ⟨2, ![1024, 3840]⟩
abbrev S3840x1024 : Shape := ⟨2, ![3840, 1024]⟩
abbrev S256x768 : Shape := ⟨2, ![256, 768]⟩
abbrev S256x1024 : Shape := ⟨2, ![256, 1024]⟩
abbrev S256x1 : Shape := ⟨2, ![256, 1]⟩
abbrev S768x1024 : Shape := ⟨2, ![768, 1024]⟩
abbrev S1024x1024 : Shape := ⟨2, ![1024, 1024]⟩
abbrev S256 : Shape := ⟨1, ![256]⟩
abbrev S1024 : Shape := ⟨1, ![1024]⟩

abbrev nBuf : Space → Nat
  | .hbm => 30
  | .vmem => 21
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3840, .f32⟩
  | .hbm, ⟨3, _⟩ => ⟨S1x2048x3840, .f32⟩
  | .hbm, ⟨4, _⟩ => ⟨S1x2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x3840, .f32⟩
  | .hbm, ⟨18, _⟩ => ⟨S2048x3840, .bf16⟩
  | .hbm, ⟨19, _⟩ => ⟨S2048x768, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S1024x3840, .f32⟩
  | .hbm, ⟨24, _⟩ => ⟨S3840x1024, .f32⟩
  | .hbm, ⟨25, _⟩ => ⟨S3840x1024, .bf16⟩
  | .hbm, ⟨26, _⟩ => ⟨S2048x1024, .f32⟩
  | .hbm, ⟨27, _⟩ => ⟨S2048x1024, .f32⟩
  | .hbm, ⟨28, _⟩ => ⟨S2048x1024, .bf16⟩
  | .hbm, ⟨29, _⟩ => ⟨S1x1024, .f32⟩
  | .local _ .vmem, ⟨0, _⟩ => ⟨S256x768, .bf16⟩
  | .local _ .vmem, ⟨1, _⟩ => ⟨S256x768, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S3840x1024, .bf16⟩
  | .local _ .vmem, ⟨9, _⟩ => ⟨S256x1024, .f32⟩
  | .local _ .vmem, ⟨10, _⟩ => ⟨S256x1024, .f32⟩
  | .local _ .vmem, ⟨11, _⟩ => ⟨S256x1, .f32⟩
  | .local _ .vmem, ⟨12, _⟩ => ⟨S256x1, .f32⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev main_v19_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v51 : BitVec 1 := Scalar.cmpi .eq arg1 c0_i32
  let v52 : BitVec 32 := Scalar.extui v51
  let c0_i32_30 : BitVec 32 := 0#32
  let v53 : BitVec 1 := Scalar.cmpi .ne v52 c0_i32_30
  v53

def k0_cond2 (i : grid0.Coords) : BitVec 1 :=
  let arg1 : BitVec 32 := BitVec.ofNat 32 (i 1).val
  let c0_i32 : BitVec 32 := 0#32
  let v51 : BitVec 1 := Scalar.cmpi .eq arg1 c0_i32
  let v_true : BitVec 1 := 1#1
  let v54 : BitVec 1 := Scalar.xori v51 v_true
  let v55 : BitVec 32 := Scalar.extui v54
  let c0_i32_31 : BitVec 32 := 0#32
  let v56 : BitVec 1 := Scalar.cmpi .ne v55 c0_i32_31
  v56

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 1 → Memref sig .tc .vmem S3840x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false, false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false, false]
-- ==== ProjInBwdRefIdeal.lean ====
abbrev S1x2048x1024 : Shape := ⟨3, ![1, 2048, 1024]⟩
abbrev S1x1024 : Shape := ⟨2, ![1, 1024]⟩
abbrev S1x1024x3840 : Shape := ⟨3, ![1, 1024, 3840]⟩
abbrev S1x2048x3840 : Shape := ⟨3, ![1, 2048, 3840]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x3840 : Shape := ⟨2, ![1024, 3840]⟩
abbrev S2048 : Shape := ⟨1, ![2048]⟩
abbrev S2048x1024 : Shape := ⟨2, ![2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x3840, .f32⟩
  | .hbm, ⟨3, _⟩ => ⟨S1x2048x3840, .f32⟩
  | .hbm, ⟨4, _⟩ => ⟨S1x2048x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x3840, .f32⟩
  | .hbm, ⟨27, _⟩ => ⟨S1x2048x3840, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== FfnInBwd.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S2048x1024 : Shape := ⟨2, ![2048, 1024]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S2048x2816 : Shape := ⟨2, ![2048, 2816]⟩
abbrev S1024x5632 : Shape := ⟨2, ![1024, 5632]⟩
abbrev S5632x1024 : Shape := ⟨2, ![5632, 1024]⟩
abbrev S256x2816 : Shape := ⟨2, ![256, 2816]⟩
abbrev S256x1024 : Shape := ⟨2, ![256, 1024]⟩
abbrev S256x1 : Shape := ⟨2, ![256, 1]⟩
abbrev S2816x1024 : Shape := ⟨2, ![2816, 1024]⟩
abbrev S256 : Shape := ⟨1, ![256]⟩
abbrev S1024 : Shape := ⟨1, ![1024]⟩

abbrev nBuf : Space → Nat
  | .hbm => 28
  | .vmem => 17
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2048x5632, .f32⟩
  | .hbm, ⟨4, _⟩ => ⟨S1x2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x5632, .f32⟩
  | .hbm, ⟨18, _⟩ => ⟨S2048x5632, .bf16⟩
  | .hbm, ⟨19, _⟩ => ⟨S2048x2816, .bf16⟩
  | .hbm, ⟨20, _⟩ => ⟨S2048x2816, .bf16⟩
  | .hbm, ⟨21, _⟩ => ⟨S1024x5632, .f32⟩
  | .hbm, ⟨22, _⟩ => ⟨S5632x1024, .f32⟩
  | .hbm, ⟨23, _⟩ => ⟨S5632x1024, .bf16⟩
  | .hbm, ⟨24, _⟩ => ⟨S2048x1024, .f32⟩
  | .hbm, ⟨25, _⟩ => ⟨S2048x1024, .f32⟩
  | .hbm, ⟨26, _⟩ => ⟨S2048x1024, .bf16⟩
  | .hbm, ⟨27, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S5632x1024, .bf16⟩
  | .local _ .vmem, ⟨5, _⟩ => ⟨S256x1024, .f32⟩
  | .local _ .vmem, ⟨6, _⟩ => ⟨S256x1024, .f32⟩
  | .local _ .vmem, ⟨7, _⟩ => ⟨S256x1, .f32⟩
  | .local _ .vmem, ⟨8, _⟩ => ⟨S256x1, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17_0 : Ref sig .tc := ⟨.hbm, 25, rfl⟩
abbrev main_v17_1 : Ref sig .tc := ⟨.hbm, 26, rfl⟩
abbrev main_v17_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨3, ![1, 8, 1], ![false, false, false]⟩

def k0_cond1 (i : grid0.Coords) : BitVec 1 :=
  let arg1 : BitVec 32 := BitVec.ofNat 32 (i 1).val
  let c0_i32 : BitVec 32 := 0#32
  let v39 : BitVec 1 := Scalar.cmpi .eq arg1 c0_i32
  let v40 : BitVec 32 := Scalar.extui v39
  let c0_i32_22 : BitVec 32 := 0#32
  let v41 : BitVec 1 := Scalar.cmpi .ne v40 c0_i32_22
  v41

def k0_cond2 (i : grid0.Coords) : BitVec 1 :=
  let arg1 : BitVec 32 := BitVec.ofNat 32 (i 1).val
  let c0_i32 : BitVec 32 := 0#32
  let v39 : BitVec 1 := Scalar.cmpi .eq arg1 c0_i32
  let v_true : BitVec 1 := 1#1
  let v42 : BitVec 1 := Scalar.xori v39 v_true
  let v43 : BitVec 32 := Scalar.extui v42
  let c0_i32_23 : BitVec 32 := 0#32
  let v44 : BitVec 1 := Scalar.cmpi .ne v43 c0_i32_23
  v44

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false, false]
-- ==== FfnInBwdRefIdeal.lean ====
abbrev S1x2048x1024 : Shape := ⟨3, ![1, 2048, 1024]⟩
abbrev S1x1024 : Shape := ⟨2, ![1, 1024]⟩
abbrev S1x1024x5632 : Shape := ⟨3, ![1, 1024, 5632]⟩
abbrev S1x2048x5632 : Shape := ⟨3, ![1, 2048, 5632]⟩
abbrev S1024 : Shape := ⟨1, ![1024]⟩
abbrev S_ : Shape := ⟨0, ![]⟩
abbrev S1x2048 : Shape := ⟨2, ![1, 2048]⟩
abbrev S1x2048x1 : Shape := ⟨3, ![1, 2048, 1]⟩
abbrev S1x1x1024 : Shape := ⟨3, ![1, 1, 1024]⟩
abbrev S1024x5632 : Shape := ⟨2, ![1024, 5632]⟩
abbrev S2048 : Shape := ⟨1, ![2048]⟩
abbrev S2048x1024 : Shape := ⟨2, ![2048, 1024]⟩

abbrev nBuf : Space → Nat
  | .hbm => 60
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x1024x5632, .f32⟩
  | .hbm, ⟨3, _⟩ => ⟨S1x2048x5632, .f32⟩
  | .hbm, ⟨4, _⟩ => ⟨S1x2048x1024, .f32⟩
  | .hbm, ⟨5, _⟩ => ⟨S1024, .f32⟩
  | .hbm, ⟨6, _⟩ => ⟨S1x2048x1024, .f32⟩
  | .hbm, ⟨7, _⟩ => ⟨S_, .f32⟩
  | .hbm, ⟨8, _⟩ => ⟨S1x2048, .f32⟩
  | .hbm, ⟨9, _⟩ => ⟨S1x2048x1, .f32⟩
  | .hbm, ⟨10, _⟩ => ⟨S_, .f32⟩
  | .hbm, ⟨11, _⟩ => ⟨S1x2048x1, .f32⟩
  | .hbm, ⟨12, _⟩ => ⟨S1x2048x1, .f32⟩
  | .hbm, ⟨13, _⟩ => ⟨S_, .f32⟩
  | .hbm, ⟨14, _⟩ => ⟨S1x2048x1, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S1x2048x1024, .f32⟩
  | .hbm, ⟨22, _⟩ => ⟨S1x2048x1024, .f32⟩
  | .hbm, ⟨23, _⟩ => ⟨S1x1x1024, .f32⟩
  | .hbm, ⟨24, _⟩ => ⟨S1x2048x1024, .f32⟩
  | .hbm, ⟨25, _⟩ => ⟨S1x2048x1024, .f32⟩
  | .hbm, ⟨26, _⟩ => ⟨S1024x5632, .f32⟩
  | .hbm, ⟨27, _⟩ => ⟨S1x2048x5632, .f32⟩
  | .hbm, ⟨28, _⟩ => ⟨S1x2048x1024, .f32⟩
  | .hbm, ⟨29, _⟩ => ⟨S1x2048x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x2048x1024, .f32⟩
  | .hbm, ⟨34, _⟩ => ⟨S1x2048x1024, .f32⟩
  | .hbm, ⟨35, _⟩ => ⟨S_, .f32⟩
  | .hbm, ⟨36, _⟩ => ⟨S1024, .f32⟩
  | .hbm, ⟨37, _⟩ => ⟨S1x2048x1024, .f32⟩
  | .hbm, ⟨38, _⟩ => ⟨S_, .f32⟩
  | .hbm, ⟨39, _⟩ => ⟨S1x2048, .f32⟩
  | .hbm, ⟨40, _⟩ => ⟨S1x2048x1, .f32⟩
  | .hbm, ⟨41, _⟩ => ⟨S1x2048x1024, .f32⟩
  | .hbm, ⟨42, _⟩ => ⟨S1x2048x1024, .f32⟩
  | .hbm, ⟨43, _⟩ => ⟨S1x2048x1024, .f32⟩
  | .hbm, ⟨44, _⟩ => ⟨S1x2048x1, .f32⟩
  | .hbm, ⟨45, _⟩ => ⟨S_, .f32⟩
  | .hbm, ⟨46, _⟩ => ⟨S1x2048x1, .f32⟩
  | .hbm, ⟨47, _⟩ => ⟨S1x2048x1, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S1x2048x1024, .f32⟩
  | .hbm, ⟨52, _⟩ => ⟨S1x2048x1024, .f32⟩
  | .hbm, ⟨53, _⟩ => ⟨S1x2048x1024, .f32⟩
  | .hbm, ⟨54, _⟩ => ⟨S1x2048x1024, .f32⟩
  | .hbm, ⟨55, _⟩ => ⟨S1x2048x1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== AttnBwd.lean ====
abbrev S1x2048x3840 : Shape := ⟨3, ![1, 2048, 3840]⟩
abbrev S1x8 : Shape := ⟨2, ![1, 8]⟩
abbrev S1x2048x512 : Shape := ⟨3, ![1, 2048, 512]⟩
abbrev S2048x3840 : Shape := ⟨2, ![2048, 3840]⟩
abbrev S2048x512 : Shape := ⟨2, ![2048, 512]⟩
abbrev S2048x768 : Shape := ⟨2, ![2048, 768]⟩
abbrev S1x128 : Shape := ⟨2, ![1, 128]⟩
abbrev S2048x128 : Shape := ⟨2, ![2048, 128]⟩
abbrev S128x128 : Shape := ⟨2, ![128, 128]⟩
abbrev S256x128 : Shape := ⟨2, ![256, 128]⟩
abbrev S512x128 : Shape := ⟨2, ![512, 128]⟩
abbrev S512x256 : Shape := ⟨2, ![512, 256]⟩
abbrev S512x1 : Shape := ⟨2, ![512, 1]⟩
abbrev S1x1 : Shape := ⟨2, ![1, 1]⟩
abbrev S512 : Shape := ⟨1, ![512]⟩
abbrev S128x1 : Shape := ⟨2, ![128, 1]⟩
abbrev S1 : Shape := ⟨1, ![1]⟩

abbrev nBuf : Space → Nat
  | .hbm => 9
  | .vmem => 6
  | .smem => 1
  | _ => 0

abbrev bufTy : (tb : Table) → Fin (tcTables nBuf tb) → BufTy
  | .hbm, ⟨0, _⟩ => ⟨S1x2048x3840, .f32⟩
  | .hbm, ⟨1, _⟩ => ⟨S1x8, .f32⟩
  | .hbm, ⟨2, _⟩ => ⟨S1x2048x512, .f32⟩
  | .hbm, ⟨3, _⟩ => ⟨S2048x3840, .f32⟩
  | .hbm, ⟨4, _⟩ => ⟨S2048x3840, .bf16⟩
  | .hbm, ⟨5, _⟩ => ⟨S2048x512, .f32⟩
  | .hbm, ⟨6, _⟩ => ⟨S2048x512, .bf16⟩
  | .hbm, ⟨7, _⟩ => ⟨S2048x768, .bf16⟩
  | .hbm, ⟨8, _⟩ => ⟨S1x128, .f32⟩
  | .local _ .vmem, ⟨0, _⟩ => ⟨S2048x768, .bf16⟩
  | .local _ .vmem, ⟨1, _⟩ => ⟨S2048x512, .bf16⟩
  | .local _ .vmem, ⟨2, _⟩ => ⟨S2048x768, .bf16⟩
  | .local _ .vmem, ⟨3, _⟩ => ⟨S1x128, .f32⟩
  | .local _ .vmem, ⟨4, _⟩ => ⟨S2048x128, .f32⟩
  | .local _ .vmem, ⟨5, _⟩ => ⟨S2048x128, .f32⟩
  | .local _ .smem, ⟨0, _⟩ => ⟨S1x8, .f32⟩
  | _, _ => ⟨S1x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_scratch0 : Ref sig .tc := ⟨.vmem, 4, rfl⟩
abbrev cc0_scratch1 : Ref sig .tc := ⟨.vmem, 5, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32 : BitVec 32 := 16#32
  let v10 : BitVec 32 := Scalar.addi c0_i32 c16_i32
  let c1_i32 : BitVec 32 := 1#32
  ⟨c0_i32, v10, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  v17
def k0_mult2 (k0_t1 : Fin k0_t1_loop.trips) : BitVec 32 :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  v21
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  let v22 : BitVec 32 := v21
  let v23 : Index := Scalar.indexCast v22
  let c512_17 : Index := 512#32
  ![v23.toNat, 512]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v26 : Index := Scalar.indexCast v18
  let c512_18 : Index := 512#32
  ![v26.toNat, 512]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  let v22 : BitVec 32 := v21
  let v30 : Index := Scalar.indexCast v22
  let c640_19 : Index := 640#32
  ![v30.toNat, 640]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v33 : Index := Scalar.indexCast v18
  let c640_20 : Index := 640#32
  ![v33.toNat, 640]
def k0_off5 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v37 : Index := Scalar.indexCast v18
  let c0_21 : Index := 0#32
  ![v37.toNat, 0]
def k0_off6 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v62 : Index := Scalar.indexCast v18
  let c128 : Index := 128#32
  ![v62.toNat, 128]
def k0_off7 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v162 : Index := Scalar.indexCast v18
  let c0_59 : Index := 0#32
  ![v162.toNat, 0]
def k0_off8 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v187 : Index := Scalar.indexCast v18
  let c128_68 : Index := 128#32
  ![v187.toNat, 128]
def k0_off9 (k0_t1 : Fin k0_t1_loop.trips) : Fin 2 → Nat :=
  let c0_i32 : BitVec 32 := 0#32
  let c1_i32 : BitVec 32 := 1#32
  let arg8 : BitVec 32 := Scf.iv c0_i32 c1_i32 k0_t1
  let c1_i32_14 : BitVec 32 := 1#32
  let v19 : BitVec 32 := Scalar.subi arg8 c1_i32_14
  let c0_i32_15 : BitVec 32 := 0#32
  let v20 : BitVec 32 := Scalar.maxsi v19 c0_i32_15
  let c128_i32_16 : BitVec 32 := 128#32
  let v21 : BitVec 32 := Scalar.muli v20 c128_i32_16
  let v22 : BitVec 32 := v21
  let v293 : Index := Scalar.indexCast v22
  let c0_113 : Index := 0#32
  ![v293.toNat, 0]
def k0_off10 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32 : BitVec 32 := 128#32
  let v17 : BitVec 32 := Scalar.muli arg8 c128_i32
  let v18 : BitVec 32 := v17
  let v301 : Index := Scalar.indexCast v18
  let c0_115 : Index := 0#32
  ![v301.toNat, 0]
def k0_mult3 (k0_t1 : Fin k0_t1_loop.trips) : BitVec 32 :=
  let c0_i32 : BitVec 32 := 0#32
  let c1_i32 : BitVec 32 := 1#32
  let arg8 : BitVec 32 := Scf.iv c0_i32 c1_i32 k0_t1
  let c128_i32_135 : BitVec 32 := 128#32
  let v365 : BitVec 32 := Scalar.muli arg8 c128_i32_135
  v365
def k0_mult4 (k0_t1 : Fin k0_t1_loop.trips) : BitVec 32 :=
  let c0_i32 : BitVec 32 := 0#32
  let c1_i32 : BitVec 32 := 1#32
  let arg8 : BitVec 32 := Scf.iv c0_i32 c1_i32 k0_t1
  let c1_i32_136 : BitVec 32 := 1#32
  let v367 : BitVec 32 := Scalar.subi arg8 c1_i32_136
  let c0_i32_137 : BitVec 32 := 0#32
  let v368 : BitVec 32 := Scalar.maxsi v367 c0_i32_137
  let c128_i32_138 : BitVec 32 := 128#32
  let v369 : BitVec 32 := Scalar.muli v368 c128_i32_138
  v369
def k0_off11 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v365 : BitVec 32 := Scalar.muli arg8 c128_i32_135
  let v366 : BitVec 32 := v365
  let v385 : Index := Scalar.indexCast v366
  let c256 : Index := 256#32
  ![v385.toNat, 256]
def k0_off12 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v365 : BitVec 32 := Scalar.muli arg8 c128_i32_135
  let v366 : BitVec 32 := v365
  let v410 : Index := Scalar.indexCast v366
  let c384 : Index := 384#32
  ![v410.toNat, 384]
def k0_off13 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v365 : BitVec 32 := Scalar.muli arg8 c128_i32_135
  let v366 : BitVec 32 := v365
  let v510 : Index := Scalar.indexCast v366
  let c256_184 : Index := 256#32
  ![v510.toNat, 256]
def k0_off14 (k0_t1 : Fin k0_t1_loop.trips) : Fin 2 → Nat :=
  let c0_i32 : BitVec 32 := 0#32
  let c1_i32 : BitVec 32 := 1#32
  let arg8 : BitVec 32 := Scf.iv c0_i32 c1_i32 k0_t1
  let c128_i32_135 : BitVec 32 := 128#32
  let v365 : BitVec 32 := Scalar.muli arg8 c128_i32_135
  let v366 : BitVec 32 := v365
  let v535 : Index := Scalar.indexCast v366
  let c384_193 : Index := 384#32
  ![v535.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S1x2048x3840 : Shape := ⟨3, ![1, 2048, 3840]⟩
abbrev S1x8 : Shape := ⟨2, ![1, 8]⟩
abbrev S1x2048x512 : Shape := ⟨3, ![1, 2048, 512]⟩
abbrev S16x128x2x4x64 : Shape := ⟨5, ![16, 128, 2, 4, 64]⟩
abbrev S1x2048x128 : Shape := ⟨3, ![1, 2048, 128]⟩
abbrev S16x128x2x64 : Shape := ⟨4, ![16, 128, 2, 64]⟩
abbrev S_ : Shape := ⟨0, ![]⟩
abbrev S1x128x2x64 : Shape := ⟨4, ![1, 128, 2, 64]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S1x2x4x1x1 : Shape := ⟨5, ![1, 2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩
abbrev S16x2x64x256 : Shape := ⟨4, ![16, 2, 64, 256]⟩
abbrev S2x4 : Shape := ⟨2, ![2, 4]⟩
abbrev S16x2x128x4x64 : Shape := ⟨5, ![16, 2, 128, 4, 64]⟩
abbrev S16x2x256x64 : Shape := ⟨4, ![16, 2, 256, 64]⟩
abbrev S2048x512 : Shape := ⟨2, ![2048, 512]⟩
abbrev S2048x128 : Shape := ⟨2, ![2048, 128]⟩
abbrev S2048x768 : Shape := ⟨2, ![2048, 768]⟩
abbrev S1x128 : Shape := ⟨2, ![1, 128]⟩

abbrev nBuf : Space → Nat
  | .hbm => 131
  | .vmem => 0
  | .smem => 0
  | _ => 0

abbrev hbmTy0_0 (i : Nat) : BufTy := match i % 128 with
  | 0 => ⟨S1x2048x3840, .f32⟩
  | 1 => ⟨S1x8, .f32⟩
  | 2 => ⟨S1x2048x512, .f32⟩
  | 3 => ⟨S1x2048x512, .f32⟩
  | 4 => ⟨S16x128x2x4x64, .f32⟩
  | 5 => ⟨S1x2048x128, .f32⟩
  | 6 => ⟨S16x128x2x64, .f32⟩
  | 7 => ⟨S1x2048x128, .f32⟩
  | 8 => ⟨S16x128x2x64, .f32⟩
  | 9 => ⟨S_, .f32⟩
  | 10 => ⟨S1x128x2x64, .f32⟩
  | 11 => ⟨S15x128x2x64, .f32⟩
  | 12 => ⟨S16x128x2x64, .f32⟩
  | 13 => ⟨S_, .f32⟩
  | 14 => ⟨S1x128x2x64, .f32⟩
  | 15 => ⟨S16x256x2x64, .f32⟩
  | 16 => ⟨S_, .f32⟩
  | 17 => ⟨S1x128x2x64, .f32⟩
  | 18 => ⟨S15x128x2x64, .f32⟩
  | 19 => ⟨S16x128x2x64, .f32⟩
  | 20 => ⟨S_, .f32⟩
  | 21 => ⟨S1x128x2x64, .f32⟩
  | 22 => ⟨S16x256x2x64, .f32⟩
  | 23 => ⟨S16x2x256x128x4, .f32⟩
  | 24 => ⟨S16x2x4x128x256, .f32⟩
  | 25 => ⟨S_, .f32⟩
  | 26 => ⟨S16x2x4x128x256, .f32⟩
  | 27 => ⟨S16x2x4x128x256, .f32⟩
  | 28 => ⟨S16x2x4x128x256, .i32⟩
  | 29 => ⟨S16x2x4x128x256, .i32⟩
  | 30 => ⟨S16x2x4x128x256, .i32⟩
  | 31 => ⟨S_, .i32⟩
  | 32 => ⟨S16x2x4x128x256, .i32⟩
  | 33 => ⟨S16x2x4x128x256, .i32⟩
  | 34 => ⟨S16x2x4x128x256, .i1⟩
  | 35 => ⟨S16x2x4x128x256, .i1⟩
  | 36 => ⟨S16x2x4x128x256, .i1⟩
  | 37 => ⟨S_, .i32⟩
  | 38 => ⟨S16x2x4x128x256, .i32⟩
  | 39 => ⟨S16x2x4x128x256, .i32⟩
  | 40 => ⟨S16x2x4x128x256, .i32⟩
  | 41 => ⟨S_, .i32⟩
  | 42 => ⟨S16x2x4x128x256, .i32⟩
  | 43 => ⟨S16x2x4x128x256, .i1⟩
  | 44 => ⟨S16x2x4x128x256, .i1⟩
  | 45 => ⟨S_, .f32⟩
  | 46 => ⟨S16x2x4x128x256, .f32⟩
  | 47 => ⟨S16x2x4x128x256, .f32⟩
  | 48 => ⟨S_, .f32⟩
  | 49 => ⟨S16x2x4x128x256, .f32⟩
  | 50 => ⟨S1x2x4x1x1, .f32⟩
  | 51 => ⟨S16x2x4x128x1, .f32⟩
  | 52 => ⟨S16x2x4x128x257, .f32⟩
  | 53 => ⟨S_, .f32⟩
  | 54 => ⟨S16x2x4x128, .f32⟩
  | 55 => ⟨S16x2x4x128x1, .f32⟩
  | 56 => ⟨S16x2x4x128x257, .f32⟩
  | 57 => ⟨S16x2x4x128x257, .f32⟩
  | 58 => ⟨S16x2x4x128x257, .f32⟩
  | 59 => ⟨S_, .f32⟩
  | 60 => ⟨S16x2x4x128, .f32⟩
  | 61 => ⟨S16x2x4x128x1, .f32⟩
  | 62 => ⟨S16x2x4x128x257, .f32⟩
  | 63 => ⟨S16x2x4x128x257, .f32⟩
  | 64 => ⟨S16x2x4x128x1, .f32⟩
  | 65 => ⟨S_, .f32⟩
  | 66 => ⟨S16x2x4x128x1, .f32⟩
  | 67 => ⟨S16x2x4x128x1, .f32⟩
  | 68 => ⟨S16x2x4x128x256, .f32⟩
  | 69 => ⟨S16x2x64x4x128, .f32⟩
  | 70 => ⟨S16x128x2x4x64, .f32⟩
  | 71 => ⟨S1x2048x512, .f32⟩
  | 72 => ⟨S16x128x2x4x64, .f32⟩
  | 73 => ⟨S16x2x64x4x128, .f32⟩
  | 74 => ⟨S16x2x4x128x256, .f32⟩
  | 75 => ⟨S16x2x64x256, .f32⟩
  | 76 => ⟨S16x256x2x64, .f32⟩
  | 77 => ⟨S_, .f32⟩
  | 78 => ⟨S16x2x4x128x257, .f32⟩
  | 79 => ⟨S16x2x4x128x257, .f32⟩
  | 80 => ⟨S16x2x4x128x257, .f32⟩
  | 81 => ⟨S16x2x4x128x257, .f32⟩
  | 82 => ⟨S_, .f32⟩
  | 83 => ⟨S16x2x4x128, .f32⟩
  | 84 => ⟨S16x2x4x128x1, .f32⟩
  | 85 => ⟨S16x2x4x128x1, .f32⟩
  | 86 => ⟨S16x2x4x128x257, .f32⟩
  | 87 => ⟨S16x2x4x128x257, .f32⟩
  | 88 => ⟨S_, .f32⟩
  | 89 => ⟨S16x2x4x128, .f32⟩
  | 90 => ⟨S16x2x4x128x257, .f32⟩
  | 91 => ⟨S16x2x4x128x257, .f32⟩
  | 92 => ⟨S16x2x4x128x257, .f32⟩
  | 93 => ⟨S16x2x4x128x256, .f32⟩
  | 94 => ⟨S16x2x4x128x1, .f32⟩
  | 95 => ⟨S_, .f32⟩
  | 96 => ⟨S2x4, .f32⟩
  | 97 => ⟨S1x2x4x1x1, .f32⟩
  | 98 => ⟨S1x8, .f32⟩
  | 99 => ⟨S_, .f32⟩
  | 100 => ⟨S16x2x4x128x256, .f32⟩
  | 101 => ⟨S16x2x4x128x256, .f32⟩
  | 102 => ⟨S_, .f32⟩
  | 103 => ⟨S16x2x4x128x256, .f32⟩
  | 104 => ⟨S16x2x4x128x256, .f32⟩
  | 105 => ⟨S16x2x256x128x4, .f32⟩
  | 106 => ⟨S16x2x128x4x64, .f32⟩
  | 107 => ⟨S16x128x2x4x64, .f32⟩
  | 108 => ⟨S16x2x256x64, .f32⟩
  | 109 => ⟨S16x256x2x64, .f32⟩
  | 110 => ⟨S16x128x2x64, .f32⟩
  | 111 => ⟨S16x128x2x64, .f32⟩
  | 112 => ⟨S1x128x2x64, .f32⟩
  | 113 => ⟨S15x128x2x64, .f32⟩
  | 114 => ⟨S_, .f32⟩
  | 115 => ⟨S16x128x2x64, .f32⟩
  | 116 => ⟨S16x128x2x64, .f32⟩
  | 117 => ⟨S16x128x2x64, .f32⟩
  | 118 => ⟨S16x128x2x64, .f32⟩
  | 119 => ⟨S1x128x2x64, .f32⟩
  | 120 => ⟨S15x128x2x64, .f32⟩
  | 121 => ⟨S_, .f32⟩
  | 122 => ⟨S16x128x2x64, .f32⟩
  | 123 => ⟨S16x128x2x64, .f32⟩
  | 124 => ⟨S2048x512, .f32⟩
  | 125 => ⟨S2048x128, .f32⟩
  | 126 => ⟨S2048x128, .f32⟩
  | 127 => ⟨S2048x768, .f32⟩
  | _ => ⟨S1x2048x3840, .f32⟩

abbrev hbmTy0_1 (i : Nat) : BufTy := match i % 128 with
  | 0 => ⟨S2048x768, .bf16⟩
  | 1 => ⟨S_, .f32⟩
  | 2 => ⟨S1x128, .f32⟩
  | _ => ⟨S1x2048x3840, .f32⟩

abbrev hbmTy (i : Nat) : BufTy := match i / 128 with
  | 0 => hbmTy0_0 i
  | 1 => hbmTy0_1 i
  | _ => ⟨S1x2048x3840, .f32⟩

abbrev bufTy : (tb : Table) → Fin (tcTables nBuf tb) → BufTy
  | .hbm, ⟨i, _⟩ => hbmTy i
  | _, _ => ⟨S1x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_6 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_cst_10 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_12 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_13 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_cst_14 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_15 : Ref sig .tc := ⟨.hbm, 99, rfl⟩
abbrev main_v79 : Ref sig .tc := ⟨.hbm, 100, rfl⟩
abbrev main_v80 : Ref sig .tc := ⟨.hbm, 101, rfl⟩
abbrev main_cst_16 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_17 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_18 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_cst_19 : Ref sig .tc := ⟨.hbm, 129, rfl⟩
abbrev main_v105 : Ref sig .tc := ⟨.hbm, 130, rfl⟩

abbrev nD : Nat := 1
abbrev τ : Topo := Topo.v7x

variable {F : FTy → Type} [FloatOps F]
-- ==== ConvBwd.lean ====
abbrev S1x2048x3840 : Shape := ⟨3, ![1, 2048, 3840]⟩
abbrev S1x31x512 : Shape := ⟨3, ![1, 31, 512]⟩
abbrev S1x512 : Shape := ⟨2, ![1, 512]⟩
abbrev S1x2048x512 : Shape := ⟨3, ![1, 2048, 512]⟩
abbrev S2048x3840 : Shape := ⟨2, ![2048, 3840]⟩
abbrev S31x512 : Shape := ⟨2, ![31, 512]⟩
abbrev S512x31 : Shape := ⟨2, ![512, 31]⟩
abbrev S_ : Shape := ⟨0, ![]⟩
abbrev S512x32 : Shape := ⟨2, ![512, 32]⟩
abbrev S128x128 : Shape := ⟨2, ![128, 128]⟩
abbrev S32x512 : Shape := ⟨2, ![32, 512]⟩
abbrev S2048x512 : Shape := ⟨2, ![2048, 512]⟩
abbrev S31x1x512 : Shape := ⟨3, ![31, 1, 512]⟩
abbrev S2079x512 : Shape := ⟨2, ![2079, 512]⟩
abbrev S32x2079x512 : Shape := ⟨3, ![32, 2079, 512]⟩
abbrev S66528x512 : Shape := ⟨2, ![66528, 512]⟩
abbrev S64480x512 : Shape := ⟨2, ![64480, 512]⟩
abbrev S31x2080x512 : Shape := ⟨3, ![31, 2080, 512]⟩
abbrev S31x2048x512 : Shape := ⟨3, ![31, 2048, 512]⟩
abbrev S2048x1024 : Shape := ⟨2, ![2048, 1024]⟩
abbrev S2048x256 : Shape := ⟨2, ![2048, 256]⟩
abbrev S2112x512 : Shape := ⟨2, ![2112, 512]⟩
abbrev S8x288x512 : Shape := ⟨3, ![8, 288, 512]⟩
abbrev S256x512 : Shape := ⟨2, ![256, 512]⟩
abbrev S64x512 : Shape := ⟨2, ![64, 512]⟩
abbrev S280x512 : Shape := ⟨2, ![280, 512]⟩
abbrev S1x280x512 : Shape := ⟨3, ![1, 280, 512]⟩
abbrev S256 : Shape := ⟨1, ![256]⟩
abbrev S256x1 : Shape := ⟨2, ![256, 1]⟩
abbrev S512 : Shape := ⟨1, ![512]⟩
abbrev S1x32x512 : Shape := ⟨3, ![1, 32, 512]⟩
abbrev S8x512 : Shape := ⟨2, ![8, 512]⟩
abbrev S256x256 : Shape := ⟨2, ![256, 256]⟩

abbrev nBuf : Space → Nat
  | .hbm => 51
  | .vmem => 20
  | .smem => 0
  | _ => 0

abbrev bufTy : (tb : Table) → Fin (tcTables nBuf tb) → BufTy
  | .hbm, ⟨0, _⟩ => ⟨S1x2048x3840, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x2048x512, .f32⟩
  | .hbm, ⟨6, _⟩ => ⟨S2048x3840, .f32⟩
  | .hbm, ⟨7, _⟩ => ⟨S2048x3840, .bf16⟩
  | .hbm, ⟨8, _⟩ => ⟨S31x512, .f32⟩
  | .hbm, ⟨9, _⟩ => ⟨S512x31, .f32⟩
  | .hbm, ⟨10, _⟩ => ⟨S_, .i32⟩
  | .hbm, ⟨11, _⟩ => ⟨S_, .f32⟩
  | .hbm, ⟨12, _⟩ => ⟨S512x32, .f32⟩
  | .hbm, ⟨13, _⟩ => ⟨S128x128, .f32⟩
  | .hbm, ⟨14, _⟩ => ⟨S512x32, .f32⟩
  | .hbm, ⟨15, _⟩ => ⟨S32x512, .f32⟩
  | .hbm, ⟨16, _⟩ => ⟨S1x2048x512, .f32⟩
  | .hbm, ⟨17, _⟩ => ⟨S2048x512, .f32⟩
  | .hbm, ⟨18, _⟩ => ⟨S1x2048x512, .f32⟩
  | .hbm, ⟨19, _⟩ => ⟨S2048x512, .f32⟩
  | .hbm, ⟨20, _⟩ => ⟨S31x1x512, .f32⟩
  | .hbm, ⟨21, _⟩ => ⟨S2048x512, .f32⟩
  | .hbm, ⟨22, _⟩ => ⟨S2048x512, .f32⟩
  | .hbm, ⟨23, _⟩ => ⟨S_, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S2048x512, .f32⟩
  | .hbm, ⟨28, _⟩ => ⟨S2048x512, .f32⟩
  | .hbm, ⟨29, _⟩ => ⟨S2048x512, .f32⟩
  | .hbm, ⟨30, _⟩ => ⟨S_, .f32⟩
  | .hbm, ⟨31, _⟩ => ⟨S31x512, .f32⟩
  | .hbm, ⟨32, _⟩ => ⟨S2079x512, .f32⟩
  | .hbm, ⟨33, _⟩ => ⟨S32x2079x512, .f32⟩
  | .hbm, ⟨34, _⟩ => ⟨S66528x512, .f32⟩
  | .hbm, ⟨35, _⟩ => ⟨S64480x512, .f32⟩
  | .hbm, ⟨36, _⟩ => ⟨S31x2080x512, .f32⟩
  | .hbm, ⟨37, _⟩ => ⟨S31x2048x512, .f32⟩
  | .hbm, ⟨38, _⟩ => ⟨S31x2048x512, .f32⟩
  | .hbm, ⟨39, _⟩ => ⟨S31x2048x512, .f32⟩
  | .hbm, ⟨40, _⟩ => ⟨S_, .f32⟩
  | .hbm, ⟨41, _⟩ => ⟨S2048x512, .f32⟩
  | .hbm, ⟨42, _⟩ => ⟨S2048x512, .f32⟩
  | .hbm, ⟨43, _⟩ => ⟨S2048x512, .f32⟩
  | .hbm, ⟨44, _⟩ => ⟨S2048x512, .f32⟩
  | .hbm, ⟨45, _⟩ => ⟨S2048x512, .bf16⟩
  | .hbm, ⟨46, _⟩ => ⟨S2048x1024, .bf16⟩
  | .hbm, ⟨47, _⟩ => ⟨S32x512, .f32⟩
  | .hbm, ⟨48, _⟩ => ⟨S1x512, .f32⟩
  | .hbm, ⟨49, _⟩ => ⟨S1x512, .f32⟩
  | .hbm, ⟨50, _⟩ => ⟨S1x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x512, .f32⟩
  | .local _ .vmem, ⟨5, _⟩ => ⟨S2048x512, .bf16⟩
  | .local _ .vmem, ⟨6, _⟩ => ⟨S32x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S2048x1024, .bf16⟩
  | .local _ .vmem, ⟨11, _⟩ => ⟨S32x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S2112x512, .f32⟩
  | .local _ .vmem, ⟨16, _⟩ => ⟨S2112x512, .f32⟩
  | .local _ .vmem, ⟨17, _⟩ => ⟨S8x288x512, .f32⟩
  | .local _ .vmem, ⟨18, _⟩ => ⟨S256x512, .f32⟩
  | .local _ .vmem, ⟨19, _⟩ => ⟨S256x512, .f32⟩
  | _, _ => ⟨S1x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev main_v34_4 : Ref sig .tc := ⟨.hbm, 50, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c8_i32 : BitVec 32 := 8#32
  let v152 : BitVec 32 := Scalar.addi c0_i32 c8_i32
  let c1_i32 : BitVec 32 := 1#32
  ⟨c0_i32, v152, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  v1610
def k0_off1 (k0_t1 : Fin k0_t1_loop.trips) : Fin 2 → Nat :=
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1613 : Index := Scalar.indexCast v1611
  let c0_1234 : Index := 0#32
  ![v1613.toNat, 0]
def k0_off2 (k0_t1 : Fin k0_t1_loop.trips) (c0_i32_1235 : BitVec 32) : Fin 3 → Nat :=
  let c0_1236 : Index := 0#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1615 : BitVec 32 := Scalar.addi v1611 c0_i32_1235
  let v1616 : Index := Scalar.indexCast v1615
  let c0_1237 : Index := 0#32
  ![0, v1616.toNat, 0]
def k0_off3 (k0_t1 : Fin k0_t1_loop.trips) (c0_i32_1242 : BitVec 32) : Fin 3 → Nat :=
  let c1_1243 : Index := 1#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1632 : BitVec 32 := Scalar.addi v1611 c0_i32_1242
  let v1633 : Index := Scalar.indexCast v1632
  let c0_1244 : Index := 0#32
  ![1, v1633.toNat, 0]
def k0_off4 (k0_t1 : Fin k0_t1_loop.trips) (c0_i32_1249 : BitVec 32) : Fin 3 → Nat :=
  let c2_1250 : Index := 2#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1649 : BitVec 32 := Scalar.addi v1611 c0_i32_1249
  let v1650 : Index := Scalar.indexCast v1649
  let c0_1251 : Index := 0#32
  ![2, v1650.toNat, 0]
def k0_off5 (k0_t1 : Fin k0_t1_loop.trips) (c0_i32_1256 : BitVec 32) : Fin 3 → Nat :=
  let c3_1257 : Index := 3#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1666 : BitVec 32 := Scalar.addi v1611 c0_i32_1256
  let v1667 : Index := Scalar.indexCast v1666
  let c0_1258 : Index := 0#32
  ![3, v1667.toNat, 0]
def k0_off6 (k0_t1 : Fin k0_t1_loop.trips) (c0_i32_1263 : BitVec 32) : Fin 3 → Nat :=
  let c4_1264 : Index := 4#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1683 : BitVec 32 := Scalar.addi v1611 c0_i32_1263
  let v1684 : Index := Scalar.indexCast v1683
  let c0_1265 : Index := 0#32
  ![4, v1684.toNat, 0]
def k0_off7 (k0_t1 : Fin k0_t1_loop.trips) (c0_i32_1270 : BitVec 32) : Fin 3 → Nat :=
  let c5_1271 : Index := 5#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1700 : BitVec 32 := Scalar.addi v1611 c0_i32_1270
  let v1701 : Index := Scalar.indexCast v1700
  let c0_1272 : Index := 0#32
  ![5, v1701.toNat, 0]
def k0_off8 (k0_t1 : Fin k0_t1_loop.trips) (c0_i32_1277 : BitVec 32) : Fin 3 → Nat :=
  let c6_1278 : Index := 6#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1717 : BitVec 32 := Scalar.addi v1611 c0_i32_1277
  let v1718 : Index := Scalar.indexCast v1717
  let c0_1279 : Index := 0#32
  ![6, v1718.toNat, 0]
def k0_off9 (k0_t1 : Fin k0_t1_loop.trips) (c0_i32_1284 : BitVec 32) : Fin 3 → Nat :=
  let c7_1285 : Index := 7#32
  let c0_i32 : BitVec 32 := 0#32
  let c1_i32 : BitVec 32 := 1#32
  let arg21 : BitVec 32 := Scf.iv c0_i32 c1_i32 k0_t1
  let c32_i32 : BitVec 32 := 32#32
  let v1610 : BitVec 32 := Scalar.muli arg21 c32_i32
  let v1611 : BitVec 32 := v1610
  let v1734 : BitVec 32 := Scalar.addi v1611 c0_i32_1284
  let v1735 : Index := Scalar.indexCast v1734
  let c0_1286 : Index := 0#32
  ![7, v1735.toNat, 0]
@[reducible] def k0_t2_loop : Scf.Loop 32 :=
  let c0_i32_167 : BitVec 32 := 0#32
  let c8_i32_168 : BitVec 32 := 8#32
  let v261 : BitVec 32 := Scalar.addi c0_i32_167 c8_i32_168
  let c1_i32_169 : BitVec 32 := 1#32
  ⟨c0_i32_167, v261, c1_i32_169⟩
def k0_mult2 (k0_t2 : Fin k0_t2_loop.trips) : BitVec 32 :=
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  v1610
def k0_off10 (k0_t2 : Fin k0_t2_loop.trips) : Fin 2 → Nat :=
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1613 : Index := Scalar.indexCast v1611
  let c0_1233 : Index := 0#32
  ![v1613.toNat, 0]
def k0_off11 (k0_t2 : Fin k0_t2_loop.trips) (c0_i32_1234 : BitVec 32) : Fin 3 → Nat :=
  let c0_1235 : Index := 0#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1615 : BitVec 32 := Scalar.addi v1611 c0_i32_1234
  let v1616 : Index := Scalar.indexCast v1615
  let c0_1236 : Index := 0#32
  ![0, v1616.toNat, 0]
def k0_off12 (k0_t2 : Fin k0_t2_loop.trips) (c0_i32_1241 : BitVec 32) : Fin 3 → Nat :=
  let c1_1242 : Index := 1#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1632 : BitVec 32 := Scalar.addi v1611 c0_i32_1241
  let v1633 : Index := Scalar.indexCast v1632
  let c0_1243 : Index := 0#32
  ![1, v1633.toNat, 0]
def k0_off13 (k0_t2 : Fin k0_t2_loop.trips) (c0_i32_1248 : BitVec 32) : Fin 3 → Nat :=
  let c2_1249 : Index := 2#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1649 : BitVec 32 := Scalar.addi v1611 c0_i32_1248
  let v1650 : Index := Scalar.indexCast v1649
  let c0_1250 : Index := 0#32
  ![2, v1650.toNat, 0]
def k0_off14 (k0_t2 : Fin k0_t2_loop.trips) (c0_i32_1255 : BitVec 32) : Fin 3 → Nat :=
  let c3_1256 : Index := 3#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1666 : BitVec 32 := Scalar.addi v1611 c0_i32_1255
  let v1667 : Index := Scalar.indexCast v1666
  let c0_1257 : Index := 0#32
  ![3, v1667.toNat, 0]
def k0_off15 (k0_t2 : Fin k0_t2_loop.trips) (c0_i32_1262 : BitVec 32) : Fin 3 → Nat :=
  let c4_1263 : Index := 4#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1683 : BitVec 32 := Scalar.addi v1611 c0_i32_1262
  let v1684 : Index := Scalar.indexCast v1683
  let c0_1264 : Index := 0#32
  ![4, v1684.toNat, 0]
def k0_off16 (k0_t2 : Fin k0_t2_loop.trips) (c0_i32_1269 : BitVec 32) : Fin 3 → Nat :=
  let c5_1270 : Index := 5#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1700 : BitVec 32 := Scalar.addi v1611 c0_i32_1269
  let v1701 : Index := Scalar.indexCast v1700
  let c0_1271 : Index := 0#32
  ![5, v1701.toNat, 0]
def k0_off17 (k0_t2 : Fin k0_t2_loop.trips) (c0_i32_1276 : BitVec 32) : Fin 3 → Nat :=
  let c6_1277 : Index := 6#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1717 : BitVec 32 := Scalar.addi v1611 c0_i32_1276
  let v1718 : Index := Scalar.indexCast v1717
  let c0_1278 : Index := 0#32
  ![6, v1718.toNat, 0]
def k0_off18 (k0_t2 : Fin k0_t2_loop.trips) (c0_i32_1283 : BitVec 32) : Fin 3 → Nat :=
  let c7_1284 : Index := 7#32
  let c0_i32_167 : BitVec 32 := 0#32
  let c1_i32_169 : BitVec 32 := 1#32
  let arg21 : BitVec 32 := Scf.iv c0_i32_167 c1_i32_169 k0_t2
  let c32_i32 : BitVec 32 := 32#32
  let v1610 : BitVec 32 := Scalar.muli arg21 c32_i32
  let v1611 : BitVec 32 := v1610
  let v1734 : BitVec 32 := Scalar.addi v1611 c0_i32_1283
  let v1735 : Index := Scalar.indexCast v1734
  let c0_1285 : Index := 0#32
  ![7, v1735.toNat, 0]
@[reducible] def k0_t3_loop : Scf.Loop 32 :=
  let c0_i32_240 : BitVec 32 := 0#32
  let c8_i32_241 : BitVec 32 := 8#32
  let v370 : BitVec 32 := Scalar.addi c0_i32_240 c8_i32_241
  let c1_i32_242 : BitVec 32 := 1#32
  ⟨c0_i32_240, v370, c1_i32_242⟩
def k0_mult3 (k0_t3 : Fin k0_t3_loop.trips) : BitVec 32 :=
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  v1610
def k0_off19 (k0_t3 : Fin k0_t3_loop.trips) : Fin 2 → Nat :=
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1613 : Index := Scalar.indexCast v1611
  let c0_1233 : Index := 0#32
  ![v1613.toNat, 0]
def k0_off20 (k0_t3 : Fin k0_t3_loop.trips) (c0_i32_1234 : BitVec 32) : Fin 3 → Nat :=
  let c0_1235 : Index := 0#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1615 : BitVec 32 := Scalar.addi v1611 c0_i32_1234
  let v1616 : Index := Scalar.indexCast v1615
  let c0_1236 : Index := 0#32
  ![0, v1616.toNat, 0]
def k0_off21 (k0_t3 : Fin k0_t3_loop.trips) (c0_i32_1241 : BitVec 32) : Fin 3 → Nat :=
  let c1_1242 : Index := 1#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1632 : BitVec 32 := Scalar.addi v1611 c0_i32_1241
  let v1633 : Index := Scalar.indexCast v1632
  let c0_1243 : Index := 0#32
  ![1, v1633.toNat, 0]
def k0_off22 (k0_t3 : Fin k0_t3_loop.trips) (c0_i32_1248 : BitVec 32) : Fin 3 → Nat :=
  let c2_1249 : Index := 2#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1649 : BitVec 32 := Scalar.addi v1611 c0_i32_1248
  let v1650 : Index := Scalar.indexCast v1649
  let c0_1250 : Index := 0#32
  ![2, v1650.toNat, 0]
def k0_off23 (k0_t3 : Fin k0_t3_loop.trips) (c0_i32_1255 : BitVec 32) : Fin 3 → Nat :=
  let c3_1256 : Index := 3#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1666 : BitVec 32 := Scalar.addi v1611 c0_i32_1255
  let v1667 : Index := Scalar.indexCast v1666
  let c0_1257 : Index := 0#32
  ![3, v1667.toNat, 0]
def k0_off24 (k0_t3 : Fin k0_t3_loop.trips) (c0_i32_1262 : BitVec 32) : Fin 3 → Nat :=
  let c4_1263 : Index := 4#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1683 : BitVec 32 := Scalar.addi v1611 c0_i32_1262
  let v1684 : Index := Scalar.indexCast v1683
  let c0_1264 : Index := 0#32
  ![4, v1684.toNat, 0]
def k0_off25 (k0_t3 : Fin k0_t3_loop.trips) (c0_i32_1269 : BitVec 32) : Fin 3 → Nat :=
  let c5_1270 : Index := 5#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1700 : BitVec 32 := Scalar.addi v1611 c0_i32_1269
  let v1701 : Index := Scalar.indexCast v1700
  let c0_1271 : Index := 0#32
  ![5, v1701.toNat, 0]
def k0_off26 (k0_t3 : Fin k0_t3_loop.trips) (c0_i32_1276 : BitVec 32) : Fin 3 → Nat :=
  let c6_1277 : Index := 6#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1717 : BitVec 32 := Scalar.addi v1611 c0_i32_1276
  let v1718 : Index := Scalar.indexCast v1717
  let c0_1278 : Index := 0#32
  ![6, v1718.toNat, 0]
def k0_off27 (k0_t3 : Fin k0_t3_loop.trips) (c0_i32_1283 : BitVec 32) : Fin 3 → Nat :=
  let c7_1284 : Index := 7#32
  let c0_i32_240 : BitVec 32 := 0#32
  let c1_i32_242 : BitVec 32 := 1#32
  let arg21 : BitVec 32 := Scf.iv c0_i32_240 c1_i32_242 k0_t3
  let c32_i32 : BitVec 32 := 32#32
  let v1610 : BitVec 32 := Scalar.muli arg21 c32_i32
  let v1611 : BitVec 32 := v1610
  let v1734 : BitVec 32 := Scalar.addi v1611 c0_i32_1283
  let v1735 : Index := Scalar.indexCast v1734
  let c0_1285 : Index := 0#32
  ![7, v1735.toNat, 0]
@[reducible] def k0_t4_loop : Scf.Loop 32 :=
  let c0_i32_313 : BitVec 32 := 0#32
  let c8_i32_314 : BitVec 32 := 8#32
  let v479 : BitVec 32 := Scalar.addi c0_i32_313 c8_i32_314
  let c1_i32_315 : BitVec 32 := 1#32
  ⟨c0_i32_313, v479, c1_i32_315⟩
def k0_mult4 (k0_t4 : Fin k0_t4_loop.trips) : BitVec 32 :=
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  v1610
def k0_off28 (k0_t4 : Fin k0_t4_loop.trips) : Fin 2 → Nat :=
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1613 : Index := Scalar.indexCast v1611
  let c0_1233 : Index := 0#32
  ![v1613.toNat, 0]
def k0_off29 (k0_t4 : Fin k0_t4_loop.trips) (c0_i32_1234 : BitVec 32) : Fin 3 → Nat :=
  let c0_1235 : Index := 0#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1615 : BitVec 32 := Scalar.addi v1611 c0_i32_1234
  let v1616 : Index := Scalar.indexCast v1615
  let c0_1236 : Index := 0#32
  ![0, v1616.toNat, 0]
def k0_off30 (k0_t4 : Fin k0_t4_loop.trips) (c0_i32_1241 : BitVec 32) : Fin 3 → Nat :=
  let c1_1242 : Index := 1#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1632 : BitVec 32 := Scalar.addi v1611 c0_i32_1241
  let v1633 : Index := Scalar.indexCast v1632
  let c0_1243 : Index := 0#32
  ![1, v1633.toNat, 0]
def k0_off31 (k0_t4 : Fin k0_t4_loop.trips) (c0_i32_1248 : BitVec 32) : Fin 3 → Nat :=
  let c2_1249 : Index := 2#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1649 : BitVec 32 := Scalar.addi v1611 c0_i32_1248
  let v1650 : Index := Scalar.indexCast v1649
  let c0_1250 : Index := 0#32
  ![2, v1650.toNat, 0]
def k0_off32 (k0_t4 : Fin k0_t4_loop.trips) (c0_i32_1255 : BitVec 32) : Fin 3 → Nat :=
  let c3_1256 : Index := 3#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1666 : BitVec 32 := Scalar.addi v1611 c0_i32_1255
  let v1667 : Index := Scalar.indexCast v1666
  let c0_1257 : Index := 0#32
  ![3, v1667.toNat, 0]
def k0_off33 (k0_t4 : Fin k0_t4_loop.trips) (c0_i32_1262 : BitVec 32) : Fin 3 → Nat :=
  let c4_1263 : Index := 4#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1683 : BitVec 32 := Scalar.addi v1611 c0_i32_1262
  let v1684 : Index := Scalar.indexCast v1683
  let c0_1264 : Index := 0#32
  ![4, v1684.toNat, 0]
def k0_off34 (k0_t4 : Fin k0_t4_loop.trips) (c0_i32_1269 : BitVec 32) : Fin 3 → Nat :=
  let c5_1270 : Index := 5#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1700 : BitVec 32 := Scalar.addi v1611 c0_i32_1269
  let v1701 : Index := Scalar.indexCast v1700
  let c0_1271 : Index := 0#32
  ![5, v1701.toNat, 0]
def k0_off35 (k0_t4 : Fin k0_t4_loop.trips) (c0_i32_1276 : BitVec 32) : Fin 3 → Nat :=
  let c6_1277 : Index := 6#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1717 : BitVec 32 := Scalar.addi v1611 c0_i32_1276
  let v1718 : Index := Scalar.indexCast v1717
  let c0_1278 : Index := 0#32
  ![6, v1718.toNat, 0]
def k0_off36 (k0_t4 : Fin k0_t4_loop.trips) (c0_i32_1283 : BitVec 32) : Fin 3 → Nat :=
  let c7_1284 : Index := 7#32
  let c0_i32_313 : BitVec 32 := 0#32
  let c1_i32_315 : BitVec 32 := 1#32
  let arg21 : BitVec 32 := Scf.iv c0_i32_313 c1_i32_315 k0_t4
  let c32_i32 : BitVec 32 := 32#32
  let v1610 : BitVec 32 := Scalar.muli arg21 c32_i32
  let v1611 : BitVec 32 := v1610
  let v1734 : BitVec 32 := Scalar.addi v1611 c0_i32_1283
  let v1735 : Index := Scalar.indexCast v1734
  let c0_1285 : Index := 0#32
  ![7, v1735.toNat, 0]
@[reducible] def k0_t5_loop : Scf.Loop 32 :=
  let c0_i32_386 : BitVec 32 := 0#32
  let c8_i32_387 : BitVec 32 := 8#32
  let v588 : BitVec 32 := Scalar.addi c0_i32_386 c8_i32_387
  let c1_i32_388 : BitVec 32 := 1#32
  ⟨c0_i32_386, v588, c1_i32_388⟩
def k0_mult5 (k0_t5 : Fin k0_t5_loop.trips) : BitVec 32 :=
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  v1610
def k0_off37 (k0_t5 : Fin k0_t5_loop.trips) : Fin 2 → Nat :=
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1613 : Index := Scalar.indexCast v1611
  let c0_1233 : Index := 0#32
  ![v1613.toNat, 0]
def k0_off38 (k0_t5 : Fin k0_t5_loop.trips) (c0_i32_1234 : BitVec 32) : Fin 3 → Nat :=
  let c0_1235 : Index := 0#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1615 : BitVec 32 := Scalar.addi v1611 c0_i32_1234
  let v1616 : Index := Scalar.indexCast v1615
  let c0_1236 : Index := 0#32
  ![0, v1616.toNat, 0]
def k0_off39 (k0_t5 : Fin k0_t5_loop.trips) (c0_i32_1241 : BitVec 32) : Fin 3 → Nat :=
  let c1_1242 : Index := 1#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1632 : BitVec 32 := Scalar.addi v1611 c0_i32_1241
  let v1633 : Index := Scalar.indexCast v1632
  let c0_1243 : Index := 0#32
  ![1, v1633.toNat, 0]
def k0_off40 (k0_t5 : Fin k0_t5_loop.trips) (c0_i32_1248 : BitVec 32) : Fin 3 → Nat :=
  let c2_1249 : Index := 2#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1649 : BitVec 32 := Scalar.addi v1611 c0_i32_1248
  let v1650 : Index := Scalar.indexCast v1649
  let c0_1250 : Index := 0#32
  ![2, v1650.toNat, 0]
def k0_off41 (k0_t5 : Fin k0_t5_loop.trips) (c0_i32_1255 : BitVec 32) : Fin 3 → Nat :=
  let c3_1256 : Index := 3#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1666 : BitVec 32 := Scalar.addi v1611 c0_i32_1255
  let v1667 : Index := Scalar.indexCast v1666
  let c0_1257 : Index := 0#32
  ![3, v1667.toNat, 0]
def k0_off42 (k0_t5 : Fin k0_t5_loop.trips) (c0_i32_1262 : BitVec 32) : Fin 3 → Nat :=
  let c4_1263 : Index := 4#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1683 : BitVec 32 := Scalar.addi v1611 c0_i32_1262
  let v1684 : Index := Scalar.indexCast v1683
  let c0_1264 : Index := 0#32
  ![4, v1684.toNat, 0]
def k0_off43 (k0_t5 : Fin k0_t5_loop.trips) (c0_i32_1269 : BitVec 32) : Fin 3 → Nat :=
  let c5_1270 : Index := 5#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1700 : BitVec 32 := Scalar.addi v1611 c0_i32_1269
  let v1701 : Index := Scalar.indexCast v1700
  let c0_1271 : Index := 0#32
  ![5, v1701.toNat, 0]
def k0_off44 (k0_t5 : Fin k0_t5_loop.trips) (c0_i32_1276 : BitVec 32) : Fin 3 → Nat :=
  let c6_1277 : Index := 6#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1717 : BitVec 32 := Scalar.addi v1611 c0_i32_1276
  let v1718 : Index := Scalar.indexCast v1717
  let c0_1278 : Index := 0#32
  ![6, v1718.toNat, 0]
def k0_off45 (k0_t5 : Fin k0_t5_loop.trips) (c0_i32_1283 : BitVec 32) : Fin 3 → Nat :=
  let c7_1284 : Index := 7#32
  let c0_i32_386 : BitVec 32 := 0#32
  let c1_i32_388 : BitVec 32 := 1#32
  let arg21 : BitVec 32 := Scf.iv c0_i32_386 c1_i32_388 k0_t5
  let c32_i32 : BitVec 32 := 32#32
  let v1610 : BitVec 32 := Scalar.muli arg21 c32_i32
  let v1611 : BitVec 32 := v1610
  let v1734 : BitVec 32 := Scalar.addi v1611 c0_i32_1283
  let v1735 : Index := Scalar.indexCast v1734
  let c0_1285 : Index := 0#32
  ![7, v1735.toNat, 0]
@[reducible] def k0_t6_loop : Scf.Loop 32 :=
  let c0_i32_459 : BitVec 32 := 0#32
  let c8_i32_460 : BitVec 32 := 8#32
  let v697 : BitVec 32 := Scalar.addi c0_i32_459 c8_i32_460
  let c1_i32_461 : BitVec 32 := 1#32
  ⟨c0_i32_459, v697, c1_i32_461⟩
def k0_mult6 (k0_t6 : Fin k0_t6_loop.trips) : BitVec 32 :=
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  v1610
def k0_off46 (k0_t6 : Fin k0_t6_loop.trips) : Fin 2 → Nat :=
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1613 : Index := Scalar.indexCast v1611
  let c0_1233 : Index := 0#32
  ![v1613.toNat, 0]
def k0_off47 (k0_t6 : Fin k0_t6_loop.trips) (c0_i32_1234 : BitVec 32) : Fin 3 → Nat :=
  let c0_1235 : Index := 0#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1615 : BitVec 32 := Scalar.addi v1611 c0_i32_1234
  let v1616 : Index := Scalar.indexCast v1615
  let c0_1236 : Index := 0#32
  ![0, v1616.toNat, 0]
def k0_off48 (k0_t6 : Fin k0_t6_loop.trips) (c0_i32_1241 : BitVec 32) : Fin 3 → Nat :=
  let c1_1242 : Index := 1#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1632 : BitVec 32 := Scalar.addi v1611 c0_i32_1241
  let v1633 : Index := Scalar.indexCast v1632
  let c0_1243 : Index := 0#32
  ![1, v1633.toNat, 0]
def k0_off49 (k0_t6 : Fin k0_t6_loop.trips) (c0_i32_1248 : BitVec 32) : Fin 3 → Nat :=
  let c2_1249 : Index := 2#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1649 : BitVec 32 := Scalar.addi v1611 c0_i32_1248
  let v1650 : Index := Scalar.indexCast v1649
  let c0_1250 : Index := 0#32
  ![2, v1650.toNat, 0]
def k0_off50 (k0_t6 : Fin k0_t6_loop.trips) (c0_i32_1255 : BitVec 32) : Fin 3 → Nat :=
  let c3_1256 : Index := 3#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1666 : BitVec 32 := Scalar.addi v1611 c0_i32_1255
  let v1667 : Index := Scalar.indexCast v1666
  let c0_1257 : Index := 0#32
  ![3, v1667.toNat, 0]
def k0_off51 (k0_t6 : Fin k0_t6_loop.trips) (c0_i32_1262 : BitVec 32) : Fin 3 → Nat :=
  let c4_1263 : Index := 4#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1683 : BitVec 32 := Scalar.addi v1611 c0_i32_1262
  let v1684 : Index := Scalar.indexCast v1683
  let c0_1264 : Index := 0#32
  ![4, v1684.toNat, 0]
def k0_off52 (k0_t6 : Fin k0_t6_loop.trips) (c0_i32_1269 : BitVec 32) : Fin 3 → Nat :=
  let c5_1270 : Index := 5#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1700 : BitVec 32 := Scalar.addi v1611 c0_i32_1269
  let v1701 : Index := Scalar.indexCast v1700
  let c0_1271 : Index := 0#32
  ![5, v1701.toNat, 0]
def k0_off53 (k0_t6 : Fin k0_t6_loop.trips) (c0_i32_1276 : BitVec 32) : Fin 3 → Nat :=
  let c6_1277 : Index := 6#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1717 : BitVec 32 := Scalar.addi v1611 c0_i32_1276
  let v1718 : Index := Scalar.indexCast v1717
  let c0_1278 : Index := 0#32
  ![6, v1718.toNat, 0]
def k0_off54 (k0_t6 : Fin k0_t6_loop.trips) (c0_i32_1283 : BitVec 32) : Fin 3 → Nat :=
  let c7_1284 : Index := 7#32
  let c0_i32_459 : BitVec 32 := 0#32
  let c1_i32_461 : BitVec 32 := 1#32
  let arg21 : BitVec 32 := Scf.iv c0_i32_459 c1_i32_461 k0_t6
  let c32_i32 : BitVec 32 := 32#32
  let v1610 : BitVec 32 := Scalar.muli arg21 c32_i32
  let v1611 : BitVec 32 := v1610
  let v1734 : BitVec 32 := Scalar.addi v1611 c0_i32_1283
  let v1735 : Index := Scalar.indexCast v1734
  let c0_1285 : Index := 0#32
  ![7, v1735.toNat, 0]
@[reducible] def k0_t7_loop : Scf.Loop 32 :=
  let c0_i32_532 : BitVec 32 := 0#32
  let c8_i32_533 : BitVec 32 := 8#32
  let v806 : BitVec 32 := Scalar.addi c0_i32_532 c8_i32_533
  let c1_i32_534 : BitVec 32 := 1#32
  ⟨c0_i32_532, v806, c1_i32_534⟩
def k0_mult7 (k0_t7 : Fin k0_t7_loop.trips) : BitVec 32 :=
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  v1610
def k0_off55 (k0_t7 : Fin k0_t7_loop.trips) : Fin 2 → Nat :=
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1613 : Index := Scalar.indexCast v1611
  let c0_1233 : Index := 0#32
  ![v1613.toNat, 0]
def k0_off56 (k0_t7 : Fin k0_t7_loop.trips) (c0_i32_1234 : BitVec 32) : Fin 3 → Nat :=
  let c0_1235 : Index := 0#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1615 : BitVec 32 := Scalar.addi v1611 c0_i32_1234
  let v1616 : Index := Scalar.indexCast v1615
  let c0_1236 : Index := 0#32
  ![0, v1616.toNat, 0]
def k0_off57 (k0_t7 : Fin k0_t7_loop.trips) (c0_i32_1241 : BitVec 32) : Fin 3 → Nat :=
  let c1_1242 : Index := 1#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1632 : BitVec 32 := Scalar.addi v1611 c0_i32_1241
  let v1633 : Index := Scalar.indexCast v1632
  let c0_1243 : Index := 0#32
  ![1, v1633.toNat, 0]
def k0_off58 (k0_t7 : Fin k0_t7_loop.trips) (c0_i32_1248 : BitVec 32) : Fin 3 → Nat :=
  let c2_1249 : Index := 2#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1649 : BitVec 32 := Scalar.addi v1611 c0_i32_1248
  let v1650 : Index := Scalar.indexCast v1649
  let c0_1250 : Index := 0#32
  ![2, v1650.toNat, 0]
def k0_off59 (k0_t7 : Fin k0_t7_loop.trips) (c0_i32_1255 : BitVec 32) : Fin 3 → Nat :=
  let c3_1256 : Index := 3#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1666 : BitVec 32 := Scalar.addi v1611 c0_i32_1255
  let v1667 : Index := Scalar.indexCast v1666
  let c0_1257 : Index := 0#32
  ![3, v1667.toNat, 0]
def k0_off60 (k0_t7 : Fin k0_t7_loop.trips) (c0_i32_1262 : BitVec 32) : Fin 3 → Nat :=
  let c4_1263 : Index := 4#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1683 : BitVec 32 := Scalar.addi v1611 c0_i32_1262
  let v1684 : Index := Scalar.indexCast v1683
  let c0_1264 : Index := 0#32
  ![4, v1684.toNat, 0]
def k0_off61 (k0_t7 : Fin k0_t7_loop.trips) (c0_i32_1269 : BitVec 32) : Fin 3 → Nat :=
  let c5_1270 : Index := 5#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1700 : BitVec 32 := Scalar.addi v1611 c0_i32_1269
  let v1701 : Index := Scalar.indexCast v1700
  let c0_1271 : Index := 0#32
  ![5, v1701.toNat, 0]
def k0_off62 (k0_t7 : Fin k0_t7_loop.trips) (c0_i32_1276 : BitVec 32) : Fin 3 → Nat :=
  let c6_1277 : Index := 6#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1717 : BitVec 32 := Scalar.addi v1611 c0_i32_1276
  let v1718 : Index := Scalar.indexCast v1717
  let c0_1278 : Index := 0#32
  ![6, v1718.toNat, 0]
def k0_off63 (k0_t7 : Fin k0_t7_loop.trips) (c0_i32_1283 : BitVec 32) : Fin 3 → Nat :=
  let c7_1284 : Index := 7#32
  let c0_i32_532 : BitVec 32 := 0#32
  let c1_i32_534 : BitVec 32 := 1#32
  let arg21 : BitVec 32 := Scf.iv c0_i32_532 c1_i32_534 k0_t7
  let c32_i32 : BitVec 32 := 32#32
  let v1610 : BitVec 32 := Scalar.muli arg21 c32_i32
  let v1611 : BitVec 32 := v1610
  let v1734 : BitVec 32 := Scalar.addi v1611 c0_i32_1283
  let v1735 : Index := Scalar.indexCast v1734
  let c0_1285 : Index := 0#32
  ![7, v1735.toNat, 0]
@[reducible] def k0_t8_loop : Scf.Loop 32 :=
  let c0_i32_605 : BitVec 32 := 0#32
  let c8_i32_606 : BitVec 32 := 8#32
  let v915 : BitVec 32 := Scalar.addi c0_i32_605 c8_i32_606
  let c1_i32_607 : BitVec 32 := 1#32
  ⟨c0_i32_605, v915, c1_i32_607⟩
def k0_mult8 (k0_t8 : Fin k0_t8_loop.trips) : BitVec 32 :=
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  v1610
def k0_off64 (k0_t8 : Fin k0_t8_loop.trips) : Fin 2 → Nat :=
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1613 : Index := Scalar.indexCast v1611
  let c0_1233 : Index := 0#32
  ![v1613.toNat, 0]
def k0_off65 (k0_t8 : Fin k0_t8_loop.trips) (c0_i32_1234 : BitVec 32) : Fin 3 → Nat :=
  let c0_1235 : Index := 0#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1615 : BitVec 32 := Scalar.addi v1611 c0_i32_1234
  let v1616 : Index := Scalar.indexCast v1615
  let c0_1236 : Index := 0#32
  ![0, v1616.toNat, 0]
def k0_off66 (k0_t8 : Fin k0_t8_loop.trips) (c0_i32_1241 : BitVec 32) : Fin 3 → Nat :=
  let c1_1242 : Index := 1#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1632 : BitVec 32 := Scalar.addi v1611 c0_i32_1241
  let v1633 : Index := Scalar.indexCast v1632
  let c0_1243 : Index := 0#32
  ![1, v1633.toNat, 0]
def k0_off67 (k0_t8 : Fin k0_t8_loop.trips) (c0_i32_1248 : BitVec 32) : Fin 3 → Nat :=
  let c2_1249 : Index := 2#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1649 : BitVec 32 := Scalar.addi v1611 c0_i32_1248
  let v1650 : Index := Scalar.indexCast v1649
  let c0_1250 : Index := 0#32
  ![2, v1650.toNat, 0]
def k0_off68 (k0_t8 : Fin k0_t8_loop.trips) (c0_i32_1255 : BitVec 32) : Fin 3 → Nat :=
  let c3_1256 : Index := 3#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1666 : BitVec 32 := Scalar.addi v1611 c0_i32_1255
  let v1667 : Index := Scalar.indexCast v1666
  let c0_1257 : Index := 0#32
  ![3, v1667.toNat, 0]
def k0_off69 (k0_t8 : Fin k0_t8_loop.trips) (c0_i32_1262 : BitVec 32) : Fin 3 → Nat :=
  let c4_1263 : Index := 4#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1683 : BitVec 32 := Scalar.addi v1611 c0_i32_1262
  let v1684 : Index := Scalar.indexCast v1683
  let c0_1264 : Index := 0#32
  ![4, v1684.toNat, 0]
def k0_off70 (k0_t8 : Fin k0_t8_loop.trips) (c0_i32_1269 : BitVec 32) : Fin 3 → Nat :=
  let c5_1270 : Index := 5#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1700 : BitVec 32 := Scalar.addi v1611 c0_i32_1269
  let v1701 : Index := Scalar.indexCast v1700
  let c0_1271 : Index := 0#32
  ![5, v1701.toNat, 0]
def k0_off71 (k0_t8 : Fin k0_t8_loop.trips) (c0_i32_1276 : BitVec 32) : Fin 3 → Nat :=
  let c6_1277 : Index := 6#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1717 : BitVec 32 := Scalar.addi v1611 c0_i32_1276
  let v1718 : Index := Scalar.indexCast v1717
  let c0_1278 : Index := 0#32
  ![6, v1718.toNat, 0]
def k0_off72 (k0_t8 : Fin k0_t8_loop.trips) (c0_i32_1283 : BitVec 32) : Fin 3 → Nat :=
  let c7_1284 : Index := 7#32
  let c0_i32_605 : BitVec 32 := 0#32
  let c1_i32_607 : BitVec 32 := 1#32
  let arg21 : BitVec 32 := Scf.iv c0_i32_605 c1_i32_607 k0_t8
  let c32_i32 : BitVec 32 := 32#32
  let v1610 : BitVec 32 := Scalar.muli arg21 c32_i32
  let v1611 : BitVec 32 := v1610
  let v1734 : BitVec 32 := Scalar.addi v1611 c0_i32_1283
  let v1735 : Index := Scalar.indexCast v1734
  let c0_1285 : Index := 0#32
  ![7, v1735.toNat, 0]
@[reducible] def k0_t9_loop : Scf.Loop 32 :=
  let c0_i32_760 : BitVec 32 := 0#32
  let c8_i32_761 : BitVec 32 := 8#32
  let v1075 : BitVec 32 := Scalar.addi c0_i32_760 c8_i32_761
  let c1_i32_762 : BitVec 32 := 1#32
  ⟨c0_i32_760, v1075, c1_i32_762⟩
def k0_mult9 (k0_t9 : Fin k0_t9_loop.trips) : BitVec 32 :=
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  v1610
def k0_off73 (k0_t9 : Fin k0_t9_loop.trips) (c0_i32_1234 : BitVec 32) : Fin 3 → Nat :=
  let c0_1235 : Index := 0#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off74 (k0_t9 : Fin k0_t9_loop.trips) (c0_i32_1239 : BitVec 32) : Fin 3 → Nat :=
  let c1_1240 : Index := 1#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off75 (k0_t9 : Fin k0_t9_loop.trips) (c0_i32_1244 : BitVec 32) : Fin 3 → Nat :=
  let c2_1245 : Index := 2#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off76 (k0_t9 : Fin k0_t9_loop.trips) (c0_i32_1249 : BitVec 32) : Fin 3 → Nat :=
  let c3_1250 : Index := 3#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off77 (k0_t9 : Fin k0_t9_loop.trips) (c0_i32_1254 : BitVec 32) : Fin 3 → Nat :=
  let c4_1255 : Index := 4#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off78 (k0_t9 : Fin k0_t9_loop.trips) (c0_i32_1259 : BitVec 32) : Fin 3 → Nat :=
  let c5_1260 : Index := 5#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off79 (k0_t9 : Fin k0_t9_loop.trips) (c0_i32_1264 : BitVec 32) : Fin 3 → Nat :=
  let c6_1265 : Index := 6#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off80 (k0_t9 : Fin k0_t9_loop.trips) (c0_i32_1269 : BitVec 32) : Fin 3 → Nat :=
  let c7_1270 : Index := 7#32
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off81 (k0_t9 : Fin k0_t9_loop.trips) : Fin 2 → Nat :=
  let c0_i32_760 : BitVec 32 := 0#32
  let c1_i32_762 : BitVec 32 := 1#32
  let arg21 : BitVec 32 := Scf.iv c0_i32_760 c1_i32_762 k0_t9
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
@[reducible] def k0_t10_loop : Scf.Loop 32 :=
  let c0_i32_824 : BitVec 32 := 0#32
  let c8_i32_825 : BitVec 32 := 8#32
  let v1146 : BitVec 32 := Scalar.addi c0_i32_824 c8_i32_825
  let c1_i32_826 : BitVec 32 := 1#32
  ⟨c0_i32_824, v1146, c1_i32_826⟩
def k0_mult10 (k0_t10 : Fin k0_t10_loop.trips) : BitVec 32 :=
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  v1610
def k0_off82 (k0_t10 : Fin k0_t10_loop.trips) (c0_i32_1234 : BitVec 32) : Fin 3 → Nat :=
  let c0_1235 : Index := 0#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off83 (k0_t10 : Fin k0_t10_loop.trips) (c0_i32_1239 : BitVec 32) : Fin 3 → Nat :=
  let c1_1240 : Index := 1#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off84 (k0_t10 : Fin k0_t10_loop.trips) (c0_i32_1244 : BitVec 32) : Fin 3 → Nat :=
  let c2_1245 : Index := 2#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off85 (k0_t10 : Fin k0_t10_loop.trips) (c0_i32_1249 : BitVec 32) : Fin 3 → Nat :=
  let c3_1250 : Index := 3#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off86 (k0_t10 : Fin k0_t10_loop.trips) (c0_i32_1254 : BitVec 32) : Fin 3 → Nat :=
  let c4_1255 : Index := 4#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off87 (k0_t10 : Fin k0_t10_loop.trips) (c0_i32_1259 : BitVec 32) : Fin 3 → Nat :=
  let c5_1260 : Index := 5#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off88 (k0_t10 : Fin k0_t10_loop.trips) (c0_i32_1264 : BitVec 32) : Fin 3 → Nat :=
  let c6_1265 : Index := 6#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off89 (k0_t10 : Fin k0_t10_loop.trips) (c0_i32_1269 : BitVec 32) : Fin 3 → Nat :=
  let c7_1270 : Index := 7#32
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off90 (k0_t10 : Fin k0_t10_loop.trips) : Fin 2 → Nat :=
  let c0_i32_824 : BitVec 32 := 0#32
  let c1_i32_826 : BitVec 32 := 1#32
  let arg21 : BitVec 32 := Scf.iv c0_i32_824 c1_i32_826 k0_t10
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
@[reducible] def k0_t11_loop : Scf.Loop 32 :=
  let c0_i32_888 : BitVec 32 := 0#32
  let c8_i32_889 : BitVec 32 := 8#32
  let v1217 : BitVec 32 := Scalar.addi c0_i32_888 c8_i32_889
  let c1_i32_890 : BitVec 32 := 1#32
  ⟨c0_i32_888, v1217, c1_i32_890⟩
def k0_mult11 (k0_t11 : Fin k0_t11_loop.trips) : BitVec 32 :=
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  v1610
def k0_off91 (k0_t11 : Fin k0_t11_loop.trips) (c0_i32_1234 : BitVec 32) : Fin 3 → Nat :=
  let c0_1235 : Index := 0#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off92 (k0_t11 : Fin k0_t11_loop.trips) (c0_i32_1239 : BitVec 32) : Fin 3 → Nat :=
  let c1_1240 : Index := 1#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off93 (k0_t11 : Fin k0_t11_loop.trips) (c0_i32_1244 : BitVec 32) : Fin 3 → Nat :=
  let c2_1245 : Index := 2#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off94 (k0_t11 : Fin k0_t11_loop.trips) (c0_i32_1249 : BitVec 32) : Fin 3 → Nat :=
  let c3_1250 : Index := 3#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off95 (k0_t11 : Fin k0_t11_loop.trips) (c0_i32_1254 : BitVec 32) : Fin 3 → Nat :=
  let c4_1255 : Index := 4#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off96 (k0_t11 : Fin k0_t11_loop.trips) (c0_i32_1259 : BitVec 32) : Fin 3 → Nat :=
  let c5_1260 : Index := 5#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off97 (k0_t11 : Fin k0_t11_loop.trips) (c0_i32_1264 : BitVec 32) : Fin 3 → Nat :=
  let c6_1265 : Index := 6#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off98 (k0_t11 : Fin k0_t11_loop.trips) (c0_i32_1269 : BitVec 32) : Fin 3 → Nat :=
  let c7_1270 : Index := 7#32
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off99 (k0_t11 : Fin k0_t11_loop.trips) : Fin 2 → Nat :=
  let c0_i32_888 : BitVec 32 := 0#32
  let c1_i32_890 : BitVec 32 := 1#32
  let arg21 : BitVec 32 := Scf.iv c0_i32_888 c1_i32_890 k0_t11
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
@[reducible] def k0_t12_loop : Scf.Loop 32 :=
  let c0_i32_952 : BitVec 32 := 0#32
  let c8_i32_953 : BitVec 32 := 8#32
  let v1288 : BitVec 32 := Scalar.addi c0_i32_952 c8_i32_953
  let c1_i32_954 : BitVec 32 := 1#32
  ⟨c0_i32_952, v1288, c1_i32_954⟩
def k0_mult12 (k0_t12 : Fin k0_t12_loop.trips) : BitVec 32 :=
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  v1610
def k0_off100 (k0_t12 : Fin k0_t12_loop.trips) (c0_i32_1234 : BitVec 32) : Fin 3 → Nat :=
  let c0_1235 : Index := 0#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off101 (k0_t12 : Fin k0_t12_loop.trips) (c0_i32_1239 : BitVec 32) : Fin 3 → Nat :=
  let c1_1240 : Index := 1#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off102 (k0_t12 : Fin k0_t12_loop.trips) (c0_i32_1244 : BitVec 32) : Fin 3 → Nat :=
  let c2_1245 : Index := 2#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off103 (k0_t12 : Fin k0_t12_loop.trips) (c0_i32_1249 : BitVec 32) : Fin 3 → Nat :=
  let c3_1250 : Index := 3#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off104 (k0_t12 : Fin k0_t12_loop.trips) (c0_i32_1254 : BitVec 32) : Fin 3 → Nat :=
  let c4_1255 : Index := 4#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off105 (k0_t12 : Fin k0_t12_loop.trips) (c0_i32_1259 : BitVec 32) : Fin 3 → Nat :=
  let c5_1260 : Index := 5#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off106 (k0_t12 : Fin k0_t12_loop.trips) (c0_i32_1264 : BitVec 32) : Fin 3 → Nat :=
  let c6_1265 : Index := 6#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off107 (k0_t12 : Fin k0_t12_loop.trips) (c0_i32_1269 : BitVec 32) : Fin 3 → Nat :=
  let c7_1270 : Index := 7#32
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off108 (k0_t12 : Fin k0_t12_loop.trips) : Fin 2 → Nat :=
  let c0_i32_952 : BitVec 32 := 0#32
  let c1_i32_954 : BitVec 32 := 1#32
  let arg21 : BitVec 32 := Scf.iv c0_i32_952 c1_i32_954 k0_t12
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
@[reducible] def k0_t13_loop : Scf.Loop 32 :=
  let c0_i32_1016 : BitVec 32 := 0#32
  let c8_i32_1017 : BitVec 32 := 8#32
  let v1359 : BitVec 32 := Scalar.addi c0_i32_1016 c8_i32_1017
  let c1_i32_1018 : BitVec 32 := 1#32
  ⟨c0_i32_1016, v1359, c1_i32_1018⟩
def k0_mult13 (k0_t13 : Fin k0_t13_loop.trips) : BitVec 32 :=
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  v1610
def k0_off109 (k0_t13 : Fin k0_t13_loop.trips) (c0_i32_1234 : BitVec 32) : Fin 3 → Nat :=
  let c0_1235 : Index := 0#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off110 (k0_t13 : Fin k0_t13_loop.trips) (c0_i32_1239 : BitVec 32) : Fin 3 → Nat :=
  let c1_1240 : Index := 1#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off111 (k0_t13 : Fin k0_t13_loop.trips) (c0_i32_1244 : BitVec 32) : Fin 3 → Nat :=
  let c2_1245 : Index := 2#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off112 (k0_t13 : Fin k0_t13_loop.trips) (c0_i32_1249 : BitVec 32) : Fin 3 → Nat :=
  let c3_1250 : Index := 3#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off113 (k0_t13 : Fin k0_t13_loop.trips) (c0_i32_1254 : BitVec 32) : Fin 3 → Nat :=
  let c4_1255 : Index := 4#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off114 (k0_t13 : Fin k0_t13_loop.trips) (c0_i32_1259 : BitVec 32) : Fin 3 → Nat :=
  let c5_1260 : Index := 5#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off115 (k0_t13 : Fin k0_t13_loop.trips) (c0_i32_1264 : BitVec 32) : Fin 3 → Nat :=
  let c6_1265 : Index := 6#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off116 (k0_t13 : Fin k0_t13_loop.trips) (c0_i32_1269 : BitVec 32) : Fin 3 → Nat :=
  let c7_1270 : Index := 7#32
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off117 (k0_t13 : Fin k0_t13_loop.trips) : Fin 2 → Nat :=
  let c0_i32_1016 : BitVec 32 := 0#32
  let c1_i32_1018 : BitVec 32 := 1#32
  let arg21 : BitVec 32 := Scf.iv c0_i32_1016 c1_i32_1018 k0_t13
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
@[reducible] def k0_t14_loop : Scf.Loop 32 :=
  let c0_i32_1080 : BitVec 32 := 0#32
  let c8_i32_1081 : BitVec 32 := 8#32
  let v1430 : BitVec 32 := Scalar.addi c0_i32_1080 c8_i32_1081
  let c1_i32_1082 : BitVec 32 := 1#32
  ⟨c0_i32_1080, v1430, c1_i32_1082⟩
def k0_mult14 (k0_t14 : Fin k0_t14_loop.trips) : BitVec 32 :=
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  v1610
def k0_off118 (k0_t14 : Fin k0_t14_loop.trips) (c0_i32_1234 : BitVec 32) : Fin 3 → Nat :=
  let c0_1235 : Index := 0#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off119 (k0_t14 : Fin k0_t14_loop.trips) (c0_i32_1239 : BitVec 32) : Fin 3 → Nat :=
  let c1_1240 : Index := 1#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off120 (k0_t14 : Fin k0_t14_loop.trips) (c0_i32_1244 : BitVec 32) : Fin 3 → Nat :=
  let c2_1245 : Index := 2#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off121 (k0_t14 : Fin k0_t14_loop.trips) (c0_i32_1249 : BitVec 32) : Fin 3 → Nat :=
  let c3_1250 : Index := 3#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off122 (k0_t14 : Fin k0_t14_loop.trips) (c0_i32_1254 : BitVec 32) : Fin 3 → Nat :=
  let c4_1255 : Index := 4#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off123 (k0_t14 : Fin k0_t14_loop.trips) (c0_i32_1259 : BitVec 32) : Fin 3 → Nat :=
  let c5_1260 : Index := 5#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off124 (k0_t14 : Fin k0_t14_loop.trips) (c0_i32_1264 : BitVec 32) : Fin 3 → Nat :=
  let c6_1265 : Index := 6#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off125 (k0_t14 : Fin k0_t14_loop.trips) (c0_i32_1269 : BitVec 32) : Fin 3 → Nat :=
  let c7_1270 : Index := 7#32
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off126 (k0_t14 : Fin k0_t14_loop.trips) : Fin 2 → Nat :=
  let c0_i32_1080 : BitVec 32 := 0#32
  let c1_i32_1082 : BitVec 32 := 1#32
  let arg21 : BitVec 32 := Scf.iv c0_i32_1080 c1_i32_1082 k0_t14
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
@[reducible] def k0_t15_loop : Scf.Loop 32 :=
  let c0_i32_1144 : BitVec 32 := 0#32
  let c8_i32_1145 : BitVec 32 := 8#32
  let v1501 : BitVec 32 := Scalar.addi c0_i32_1144 c8_i32_1145
  let c1_i32_1146 : BitVec 32 := 1#32
  ⟨c0_i32_1144, v1501, c1_i32_1146⟩
def k0_mult15 (k0_t15 : Fin k0_t15_loop.trips) : BitVec 32 :=
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  v1610
def k0_off127 (k0_t15 : Fin k0_t15_loop.trips) (c0_i32_1234 : BitVec 32) : Fin 3 → Nat :=
  let c0_1235 : Index := 0#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off128 (k0_t15 : Fin k0_t15_loop.trips) (c0_i32_1239 : BitVec 32) : Fin 3 → Nat :=
  let c1_1240 : Index := 1#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off129 (k0_t15 : Fin k0_t15_loop.trips) (c0_i32_1244 : BitVec 32) : Fin 3 → Nat :=
  let c2_1245 : Index := 2#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off130 (k0_t15 : Fin k0_t15_loop.trips) (c0_i32_1249 : BitVec 32) : Fin 3 → Nat :=
  let c3_1250 : Index := 3#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off131 (k0_t15 : Fin k0_t15_loop.trips) (c0_i32_1254 : BitVec 32) : Fin 3 → Nat :=
  let c4_1255 : Index := 4#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off132 (k0_t15 : Fin k0_t15_loop.trips) (c0_i32_1259 : BitVec 32) : Fin 3 → Nat :=
  let c5_1260 : Index := 5#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off133 (k0_t15 : Fin k0_t15_loop.trips) (c0_i32_1264 : BitVec 32) : Fin 3 → Nat :=
  let c6_1265 : Index := 6#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off134 (k0_t15 : Fin k0_t15_loop.trips) (c0_i32_1269 : BitVec 32) : Fin 3 → Nat :=
  let c7_1270 : Index := 7#32
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off135 (k0_t15 : Fin k0_t15_loop.trips) : Fin 2 → Nat :=
  let c0_i32_1144 : BitVec 32 := 0#32
  let c1_i32_1146 : BitVec 32 := 1#32
  let arg21 : BitVec 32 := Scf.iv c0_i32_1144 c1_i32_1146 k0_t15
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
@[reducible] def k0_t16_loop : Scf.Loop 32 :=
  let c0_i32_1208 : BitVec 32 := 0#32
  let c8_i32_1209 : BitVec 32 := 8#32
  let v1572 : BitVec 32 := Scalar.addi c0_i32_1208 c8_i32_1209
  let c1_i32_1210 : BitVec 32 := 1#32
  ⟨c0_i32_1208, v1572, c1_i32_1210⟩
def k0_mult16 (k0_t16 : Fin k0_t16_loop.trips) : BitVec 32 :=
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  v1610
def k0_off136 (k0_t16 : Fin k0_t16_loop.trips) (c0_i32_1234 : BitVec 32) : Fin 3 → Nat :=
  let c0_1235 : Index := 0#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1616 : BitVec 32 := Scalar.addi v1611 c0_i32_1234
  let v1617 : Index := Scalar.indexCast v1616
  let c0_1236 : Index := 0#32
  ![0, v1617.toNat, 0]
def k0_off137 (k0_t16 : Fin k0_t16_loop.trips) (c0_i32_1239 : BitVec 32) : Fin 3 → Nat :=
  let c1_1240 : Index := 1#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1625 : BitVec 32 := Scalar.addi v1611 c0_i32_1239
  let v1626 : Index := Scalar.indexCast v1625
  let c0_1241 : Index := 0#32
  ![1, v1626.toNat, 0]
def k0_off138 (k0_t16 : Fin k0_t16_loop.trips) (c0_i32_1244 : BitVec 32) : Fin 3 → Nat :=
  let c2_1245 : Index := 2#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1634 : BitVec 32 := Scalar.addi v1611 c0_i32_1244
  let v1635 : Index := Scalar.indexCast v1634
  let c0_1246 : Index := 0#32
  ![2, v1635.toNat, 0]
def k0_off139 (k0_t16 : Fin k0_t16_loop.trips) (c0_i32_1249 : BitVec 32) : Fin 3 → Nat :=
  let c3_1250 : Index := 3#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1643 : BitVec 32 := Scalar.addi v1611 c0_i32_1249
  let v1644 : Index := Scalar.indexCast v1643
  let c0_1251 : Index := 0#32
  ![3, v1644.toNat, 0]
def k0_off140 (k0_t16 : Fin k0_t16_loop.trips) (c0_i32_1254 : BitVec 32) : Fin 3 → Nat :=
  let c4_1255 : Index := 4#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1652 : BitVec 32 := Scalar.addi v1611 c0_i32_1254
  let v1653 : Index := Scalar.indexCast v1652
  let c0_1256 : Index := 0#32
  ![4, v1653.toNat, 0]
def k0_off141 (k0_t16 : Fin k0_t16_loop.trips) (c0_i32_1259 : BitVec 32) : Fin 3 → Nat :=
  let c5_1260 : Index := 5#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1661 : BitVec 32 := Scalar.addi v1611 c0_i32_1259
  let v1662 : Index := Scalar.indexCast v1661
  let c0_1261 : Index := 0#32
  ![5, v1662.toNat, 0]
def k0_off142 (k0_t16 : Fin k0_t16_loop.trips) (c0_i32_1264 : BitVec 32) : Fin 3 → Nat :=
  let c6_1265 : Index := 6#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1670 : BitVec 32 := Scalar.addi v1611 c0_i32_1264
  let v1671 : Index := Scalar.indexCast v1670
  let c0_1266 : Index := 0#32
  ![6, v1671.toNat, 0]
def k0_off143 (k0_t16 : Fin k0_t16_loop.trips) (c0_i32_1269 : BitVec 32) : Fin 3 → Nat :=
  let c7_1270 : Index := 7#32
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1679 : BitVec 32 := Scalar.addi v1611 c0_i32_1269
  let v1680 : Index := Scalar.indexCast v1679
  let c0_1271 : Index := 0#32
  ![7, v1680.toNat, 0]
def k0_off144 (k0_t16 : Fin k0_t16_loop.trips) : Fin 2 → Nat :=
  let c0_i32_1208 : BitVec 32 := 0#32
  let c1_i32_1210 : BitVec 32 := 1#32
  let arg21 : BitVec 32 := Scf.iv c0_i32_1208 c1_i32_1210 k0_t16
  let c32_i32 : BitVec 32 := 32#32
  let v1610 : BitVec 32 := Scalar.muli arg21 c32_i32
  let v1611 : BitVec 32 := v1610
  let v1893 : Index := Scalar.indexCast v1611
  let c0_1385 : Index := 0#32
  ![v1893.toNat, 0]
def cc0_transform_0 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2048x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S32x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConvBwdRefIdeal.lean ====
abbrev S1x2048x3840 : Shape := ⟨3, ![1, 2048, 3840]⟩
abbrev S1x31x512 : Shape := ⟨3, ![1, 31, 512]⟩
abbrev S1x512 : Shape := ⟨2, ![1, 512]⟩
abbrev S1x2048x512 : Shape := ⟨3, ![1, 2048, 512]⟩
abbrev S2048x512 : Shape := ⟨2, ![2048, 512]⟩
abbrev S31x1x512 : Shape := ⟨3, ![31, 1, 512]⟩
abbrev S_ : Shape := ⟨0, ![]⟩
abbrev S31x512 : Shape := ⟨2, ![31, 512]⟩
abbrev S2079x512 : Shape := ⟨2, ![2079, 512]⟩
abbrev S32x2079x512 : Shape := ⟨3, ![32, 2079, 512]⟩
abbrev S66528x512 : Shape := ⟨2, ![66528, 512]⟩
abbrev S64480x512 : Shape := ⟨2, ![64480, 512]⟩
abbrev S31x2080x512 : Shape := ⟨3, ![31, 2080, 512]⟩
abbrev S31x2048x512 : Shape := ⟨3, ![31, 2048, 512]⟩
abbrev S2048 : Shape := ⟨1, ![2048]⟩
abbrev S2048x1 : Shape := ⟨2, ![2048, 1]⟩
abbrev S512 : Shape := ⟨1, ![512]⟩
abbrev S32x512 : Shape := ⟨2, ![32, 512]⟩
abbrev S2048x1024 : Shape := ⟨2, ![2048, 1024]⟩

abbrev nBuf : Space → Nat
  | .hbm => 153
  | .vmem => 0
  | .smem => 0
  | _ => 0

abbrev hbmTy0_0 (i : Nat) : BufTy := match i % 128 with
  | 0 => ⟨S1x2048x3840, .f32⟩
  | 1 => ⟨S1x31x512, .f32⟩
  | 2 => ⟨S1x512, .f32⟩
  | 3 => ⟨S1x512, .f32⟩
  | 4 => ⟨S1x512, .f32⟩
  | 5 => ⟨S1x2048x512, .f32⟩
  | 6 => ⟨S1x2048x512, .f32⟩
  | 7 => ⟨S2048x512, .f32⟩
  | 8 => ⟨S1x2048x512, .f32⟩
  | 9 => ⟨S2048x512, .f32⟩
  | 10 => ⟨S31x1x512, .f32⟩
  | 11 => ⟨S2048x512, .f32⟩
  | 12 => ⟨S2048x512, .f32⟩
  | 13 => ⟨S_, .f32⟩
  | 14 => ⟨S2048x512, .f32⟩
  | 15 => ⟨S2048x512, .f32⟩
  | 16 => ⟨S_, .f32⟩
  | 17 => ⟨S2048x512, .f32⟩
  | 18 => ⟨S2048x512, .f32⟩
  | 19 => ⟨S_, .f32⟩
  | 20 => ⟨S2048x512, .f32⟩
  | 21 => ⟨S2048x512, .f32⟩
  | 22 => ⟨S2048x512, .f32⟩
  | 23 => ⟨S2048x512, .f32⟩
  | 24 => ⟨S_, .f32⟩
  | 25 => ⟨S31x512, .f32⟩
  | 26 => ⟨S2079x512, .f32⟩
  | 27 => ⟨S_, .f32⟩
  | 28 => ⟨S31x512, .f32⟩
  | 29 => ⟨S32x2079x512, .f32⟩
  | 30 => ⟨S66528x512, .f32⟩
  | 31 => ⟨S64480x512, .f32⟩
  | 32 => ⟨S31x2080x512, .f32⟩
  | 33 => ⟨S31x2048x512, .f32⟩
  | 34 => ⟨S31x2048x512, .f32⟩
  | 35 => ⟨S31x2048x512, .f32⟩
  | 36 => ⟨S_, .f32⟩
  | 37 => ⟨S2048x512, .f32⟩
  | 38 => ⟨S2048x512, .f32⟩
  | 39 => ⟨S2048x512, .f32⟩
  | 40 => ⟨S_, .f32⟩
  | 41 => ⟨S2048, .f32⟩
  | 42 => ⟨S2048x1, .f32⟩
  | 43 => ⟨S_, .f32⟩
  | 44 => ⟨S2048x1, .f32⟩
  | 45 => ⟨S2048x1, .f32⟩
  | 46 => ⟨S2048x512, .f32⟩
  | 47 => ⟨S2048x512, .f32⟩
  | 48 => ⟨S2048x512, .f32⟩
  | 49 => ⟨S_, .f32⟩
  | 50 => ⟨S2048, .f32⟩
  | 51 => ⟨S2048x1, .f32⟩
  | 52 => ⟨S_, .f32⟩
  | 53 => ⟨S2048x1, .f32⟩
  | 54 => ⟨S2048x1, .f32⟩
  | 55 => ⟨S_, .f32⟩
  | 56 => ⟨S2048x1, .f32⟩
  | 57 => ⟨S2048x1, .f32⟩
  | 58 => ⟨S2048x1, .f32⟩
  | 59 => ⟨S2048x1, .f32⟩
  | 60 => ⟨S_, .f32⟩
  | 61 => ⟨S2048x1, .f32⟩
  | 62 => ⟨S2048x1, .f32⟩
  | 63 => ⟨S2048x512, .f32⟩
  | 64 => ⟨S2048x512, .f32⟩
  | 65 => ⟨S2048x512, .f32⟩
  | 66 => ⟨S2048x512, .f32⟩
  | 67 => ⟨S2048x512, .f32⟩
  | 68 => ⟨S2048x512, .f32⟩
  | 69 => ⟨S2048x512, .f32⟩
  | 70 => ⟨S2048x512, .f32⟩
  | 71 => ⟨S_, .f32⟩
  | 72 => ⟨S2048x512, .f32⟩
  | 73 => ⟨S2048x512, .f32⟩
  | 74 => ⟨S_, .f32⟩
  | 75 => ⟨S2048x512, .f32⟩
  | 76 => ⟨S2048x512, .f32⟩
  | 77 => ⟨S_, .f32⟩
  | 78 => ⟨S2048x512, .f32⟩
  | 79 => ⟨S2048x512, .f32⟩
  | 80 => ⟨S2048x512, .f32⟩
  | 81 => ⟨S2048x512, .f32⟩
  | 82 => ⟨S2048x512, .f32⟩
  | 83 => ⟨S2048x512, .f32⟩
  | 84 => ⟨S2048x512, .f32⟩
  | 85 => ⟨S2048x512, .f32⟩
  | 86 => ⟨S2048x512, .f32⟩
  | 87 => ⟨S_, .f32⟩
  | 88 => ⟨S512, .f32⟩
  | 89 => ⟨S1x512, .f32⟩
  | 90 => ⟨S2048x512, .f32⟩
  | 91 => ⟨S_, .f32⟩
  | 92 => ⟨S512, .f32⟩
  | 93 => ⟨S1x512, .f32⟩
  | 94 => ⟨S2048x512, .f32⟩
  | 95 => ⟨S2048x512, .f32⟩
  | 96 => ⟨S2048x512, .f32⟩
  | 97 => ⟨S_, .f32⟩
  | 98 => ⟨S2048, .f32⟩
  | 99 => ⟨S2048x1, .f32⟩
  | 100 => ⟨S2048x512, .f32⟩
  | 101 => ⟨S2048x512, .f32⟩
  | 102 => ⟨S2048x1, .f32⟩
  | 103 => ⟨S_, .f32⟩
  | 104 => ⟨S2048x1, .f32⟩
  | 105 => ⟨S2048x1, .f32⟩
  | 106 => ⟨S_, .f32⟩
  | 107 => ⟨S2048, .f32⟩
  | 108 => ⟨S2048x512, .f32⟩
  | 109 => ⟨S2048x512, .f32⟩
  | 110 => ⟨S2048x512, .f32⟩
  | 111 => ⟨S2048x512, .f32⟩
  | 112 => ⟨S2048x512, .f32⟩
  | 113 => ⟨S2048x512, .f32⟩
  | 114 => ⟨S_, .f32⟩
  | 115 => ⟨S2048, .f32⟩
  | 116 => ⟨S2048x1, .f32⟩
  | 117 => ⟨S_, .f32⟩
  | 118 => ⟨S2048x1, .f32⟩
  | 119 => ⟨S2048x1, .f32⟩
  | 120 => ⟨S_, .f32⟩
  | 121 => ⟨S2048, .f32⟩
  | 122 => ⟨S2048x512, .f32⟩
  | 123 => ⟨S2048x512, .f32⟩
  | 124 => ⟨S_, .f32⟩
  | 125 => ⟨S512, .f32⟩
  | 126 => ⟨S1x512, .f32⟩
  | 127 => ⟨S31x2048x512, .f32⟩
  | _ => ⟨S1x2048x3840, .f32⟩

abbrev hbmTy0_1 (i : Nat) : BufTy := match i % 128 with
  | 0 => ⟨S31x2048x512, .f32⟩
  | 1 => ⟨S_, .f32⟩
  | 2 => ⟨S31x512, .f32⟩
  | 3 => ⟨S31x1x512, .f32⟩
  | 4 => ⟨S31x2048x512, .f32⟩
  | 5 => ⟨S31x2048x512, .f32⟩
  | 6 => ⟨S_, .f32⟩
  | 7 => ⟨S31x2080x512, .f32⟩
  | 8 => ⟨S64480x512, .f32⟩
  | 9 => ⟨S_, .f32⟩
  | 10 => ⟨S66528x512, .f32⟩
  | 11 => ⟨S32x2079x512, .f32⟩
  | 12 => ⟨S_, .f32⟩
  | 13 => ⟨S2079x512, .f32⟩
  | 14 => ⟨S31x512, .f32⟩
  | 15 => ⟨S2048x512, .f32⟩
  | 16 => ⟨S2048x512, .f32⟩
  | 17 => ⟨S2048x512, .f32⟩
  | 18 => ⟨S2048x512, .f32⟩
  | 19 => ⟨S31x512, .f32⟩
  | 20 => ⟨S_, .f32⟩
  | 21 => ⟨S1x512, .f32⟩
  | 22 => ⟨S32x512, .f32⟩
  | 23 => ⟨S2048x1024, .f32⟩
  | 24 => ⟨S2048x1024, .bf16⟩
  | _ => ⟨S1x2048x3840, .f32⟩

abbrev hbmTy (i : Nat) : BufTy := match i / 128 with
  | 0 => hbmTy0_0 i
  | 1 => hbmTy0_1 i
  | _ => ⟨S1x2048x3840, .f32⟩

abbrev bufTy : (tb : Table) → Fin (tcTables nBuf tb) → BufTy
  | .hbm, ⟨i, _⟩ => hbmTy i
  | _, _ => ⟨S1x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_cst_8 : Ref sig .tc := ⟨.hbm, 52, rfl⟩
abbrev main_v37 : Ref sig .tc := ⟨.hbm, 53, rfl⟩
abbrev main_v38 : Ref sig .tc := ⟨.hbm, 54, rfl⟩
abbrev main_cst_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_14 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_cst_18 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_19 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_cst_21 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_22 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_cst_23 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_cst_24 : Ref sig .tc := ⟨.hbm, 134, rfl⟩
abbrev main_v103 : Ref sig .tc := ⟨.hbm, 135, rfl⟩
abbrev main_v104 : Ref sig .tc := ⟨.hbm, 136, rfl⟩
abbrev main_cst_25 : Ref sig .tc := ⟨.hbm, 137, rfl⟩
abbrev main_v105 : Ref sig .tc := ⟨.hbm, 138, rfl⟩
abbrev main_v106 : Ref sig .tc := ⟨.hbm, 139, rfl⟩
abbrev main_cst_26 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_cst_27 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]
-- ==== OutProj.lean ====
abbrev S1x2048x1024 : Shape := ⟨3, ![1, 2048, 1024]⟩
abbrev S1x1024x1024 : Shape := ⟨3, ![1, 1024, 1024]⟩
abbrev S1x1024 : Shape := ⟨2, ![1, 1024]⟩
abbrev S2048x1024 : Shape := ⟨2, ![2048, 1024]⟩
abbrev S1024x1024 : Shape := ⟨2, ![1024, 1024]⟩
abbrev S2048x1 : Shape := ⟨2, ![2048, 1]⟩
abbrev S512x1024 : Shape := ⟨2, ![512, 1024]⟩
abbrev S512x1 : Shape := ⟨2, ![512, 1]⟩
abbrev S512 : Shape := ⟨1, ![512]⟩

abbrev nBuf : Space → Nat
  | .hbm => 12
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .hbm, ⟨6, _⟩ => ⟨S1024x1024, .f32⟩
  | .hbm, ⟨7, _⟩ => ⟨S1024x1024, .bf16⟩
  | .hbm, ⟨8, _⟩ => ⟨S2048x1024, .f32⟩
  | .hbm, ⟨9, _⟩ => ⟨S2048x1024, .f32⟩
  | .hbm, ⟨10, _⟩ => ⟨S2048x1024, .bf16⟩
  | .hbm, ⟨11, _⟩ => ⟨S2048x1, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1, .f32⟩
  | .local _ .vmem, ⟨11, _⟩ => ⟨S512x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev main_v5_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]
-- ==== OutProjRefIdeal.lean ====
abbrev S1x2048x1024 : Shape := ⟨3, ![1, 2048, 1024]⟩
abbrev S1x1024x1024 : Shape := ⟨3, ![1, 1024, 1024]⟩
abbrev S1x1024 : Shape := ⟨2, ![1, 1024]⟩
abbrev S1024x1024 : Shape := ⟨2, ![1024, 1024]⟩
abbrev S_ : Shape := ⟨0, ![]⟩
abbrev S1x2048 : Shape := ⟨2, ![1, 2048]⟩
abbrev S1x2048x1 : Shape := ⟨3, ![1, 2048, 1]⟩
abbrev S2048x1024 : Shape := ⟨2, ![2048, 1024]⟩
abbrev S1024 : Shape := ⟨1, ![1024]⟩
abbrev S1x1x1024 : Shape := ⟨3, ![1, 1, 1024]⟩
abbrev S2048x1 : Shape := ⟨2, ![2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x1024, .f32⟩
  | .hbm, ⟨2, _⟩ => ⟨S1x2048x1024, .f32⟩
  | .hbm, ⟨3, _⟩ => ⟨S1x1024, .f32⟩
  | .hbm, ⟨4, _⟩ => ⟨S1024x1024, .f32⟩
  | .hbm, ⟨5, _⟩ => ⟨S1x2048x1024, .f32⟩
  | .hbm, ⟨6, _⟩ => ⟨S1x2048x1024, .f32⟩
  | .hbm, ⟨7, _⟩ => ⟨S1x2048x1024, .f32⟩
  | .hbm, ⟨8, _⟩ => ⟨S_, .f32⟩
  | .hbm, ⟨9, _⟩ => ⟨S1x2048, .f32⟩
  | .hbm, ⟨10, _⟩ => ⟨S1x2048x1, .f32⟩
  | .hbm, ⟨11, _⟩ => ⟨S_, .f32⟩
  | .hbm, ⟨12, _⟩ => ⟨S1x2048x1, .f32⟩
  | .hbm, ⟨13, _⟩ => ⟨S1x2048x1, .f32⟩
  | .hbm, ⟨14, _⟩ => ⟨S_, .f32⟩
  | .hbm, ⟨15, _⟩ => ⟨S1x2048x1, .f32⟩
  | .hbm, ⟨16, _⟩ => ⟨S1x2048x1, .f32⟩
  | .hbm, ⟨17, _⟩ => ⟨S1x2048x1, .f32⟩
  | .hbm, ⟨18, _⟩ => ⟨S2048x1024, .f32⟩
  | .hbm, ⟨19, _⟩ => ⟨S1024, .f32⟩
  | .hbm, ⟨20, _⟩ => ⟨S1x2048x1024, .f32⟩
  | .hbm, ⟨21, _⟩ => ⟨S_, .f32⟩
  | .hbm, ⟨22, _⟩ => ⟨S1x2048, .f32⟩
  | .hbm, ⟨23, _⟩ => ⟨S1x2048x1, .f32⟩
  | .hbm, ⟨24, _⟩ => ⟨S_, .f32⟩
  | .hbm, ⟨25, _⟩ => ⟨S1x2048x1, .f32⟩
  | .hbm, ⟨26, _⟩ => ⟨S1x2048x1, .f32⟩
  | .hbm, ⟨27, _⟩ => ⟨S_, .f32⟩
  | .hbm, ⟨28, _⟩ => ⟨S1x2048x1, .f32⟩
  | .hbm, ⟨29, _⟩ => ⟨S1x2048x1, .f32⟩
  | .hbm, ⟨30, _⟩ => ⟨S1x2048x1, .f32⟩
  | .hbm, ⟨31, _⟩ => ⟨S1x2048x1024, .f32⟩
  | .hbm, ⟨32, _⟩ => ⟨S1x2048x1024, .f32⟩
  | .hbm, ⟨33, _⟩ => ⟨S1x1x1024, .f32⟩
  | .hbm, ⟨34, _⟩ => ⟨S1x2048x1024, .f32⟩
  | .hbm, ⟨35, _⟩ => ⟨S1x2048x1024, .f32⟩
  | .hbm, ⟨36, _⟩ => ⟨S2048x1024, .f32⟩
  | .hbm, ⟨37, _⟩ => ⟨S2048x1024, .bf16⟩
  | .hbm, ⟨38, _⟩ => ⟨S2048x1, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== SwigluFwd.lean ====
abbrev S1x2048x1024 : Shape := ⟨3, ![1, 2048, 1024]⟩
abbrev S1x1024x5632 : Shape := ⟨3, ![1, 1024, 5632]⟩
abbrev S2048x1024 : Shape := ⟨2, ![2048, 1024]⟩
abbrev S1024x5632 : Shape := ⟨2, ![1024, 5632]⟩
abbrev S5632x1024 : Shape := ⟨2, ![5632, 1024]⟩
abbrev S2048x2816 : Shape := ⟨2, ![2048, 2816]⟩
abbrev S1024x1024 : Shape := ⟨2, ![1024, 1024]⟩
abbrev S1408x1024 : Shape := ⟨2, ![1408, 1024]⟩
abbrev S1024x1408 : Shape := ⟨2, ![1024, 1408]⟩
abbrev S768x1024 : Shape := ⟨2, ![768, 1024]⟩
abbrev S1024x768 : Shape := ⟨2, ![1024, 768]⟩
abbrev S640x1024 : Shape := ⟨2, ![640, 1024]⟩
abbrev S1024x640 : Shape := ⟨2, ![1024, 640]⟩

abbrev nBuf : Space → Nat
  | .hbm => 10
  | .vmem => 12
  | .smem => 0
  | _ => 0

abbrev bufTy : (tb : Table) → Fin (tcTables nBuf tb) → BufTy
  | .hbm, ⟨0, _⟩ => ⟨S1x2048x1024, .f32⟩
  | .hbm, ⟨1, _⟩ => ⟨S1x1024x5632, .f32⟩
  | .hbm, ⟨2, _⟩ => ⟨S2048x1024, .f32⟩
  | .hbm, ⟨3, _⟩ => ⟨S2048x1024, .bf16⟩
  | .hbm, ⟨4, _⟩ => ⟨S1024x5632, .f32⟩
  | .hbm, ⟨5, _⟩ => ⟨S5632x1024, .f32⟩
  | .hbm, ⟨6, _⟩ => ⟨S5632x1024, .bf16⟩
  | .hbm, ⟨7, _⟩ => ⟨S2048x2816, .bf16⟩
  | .hbm, ⟨8, _⟩ => ⟨S2048x2816, .bf16⟩
  | .hbm, ⟨9, _⟩ => ⟨S2048x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev main_v5_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluFwdRefIdeal.lean ====
abbrev S1x2048x1024 : Shape := ⟨3, ![1, 2048, 1024]⟩
abbrev S1x1024x5632 : Shape := ⟨3, ![1, 1024, 5632]⟩
abbrev S1024x5632 : Shape := ⟨2, ![1024, 5632]⟩
abbrev S1x2048x5632 : Shape := ⟨3, ![1, 2048, 5632]⟩
abbrev S1x2048x2816 : Shape := ⟨3, ![1, 2048, 2816]⟩
abbrev S_ : Shape := ⟨0, ![]⟩
abbrev S2048x2816 : Shape := ⟨2, ![2048, 2816]⟩

abbrev nBuf : Space → Nat
  | .hbm => 22
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024x5632, .f32⟩
  | .hbm, ⟨2, _⟩ => ⟨S1024x5632, .f32⟩
  | .hbm, ⟨3, _⟩ => ⟨S1x2048x5632, .f32⟩
  | .hbm, ⟨4, _⟩ => ⟨S1x2048x2816, .f32⟩
  | .hbm, ⟨5, _⟩ => ⟨S1x2048x2816, .f32⟩
  | .hbm, ⟨6, _⟩ => ⟨S1x2048x2816, .f32⟩
  | .hbm, ⟨7, _⟩ => ⟨S1x2048x2816, .f32⟩
  | .hbm, ⟨8, _⟩ => ⟨S_, .f32⟩
  | .hbm, ⟨9, _⟩ => ⟨S1x2048x2816, .f32⟩
  | .hbm, ⟨10, _⟩ => ⟨S1x2048x2816, .f32⟩
  | .hbm, ⟨11, _⟩ => ⟨S_, .f32⟩
  | .hbm, ⟨12, _⟩ => ⟨S1x2048x2816, .f32⟩
  | .hbm, ⟨13, _⟩ => ⟨S1x2048x2816, .f32⟩
  | .hbm, ⟨14, _⟩ => ⟨S1x2048x2816, .f32⟩
  | .hbm, ⟨15, _⟩ => ⟨S1x2048x2816, .f32⟩
  | .hbm, ⟨16, _⟩ => ⟨S2048x2816, .f32⟩
  | .hbm, ⟨17, _⟩ => ⟨S2048x2816, .bf16⟩
  | .hbm, ⟨18, _⟩ => ⟨S2048x2816, .f32⟩
  | .hbm, ⟨19, _⟩ => ⟨S2048x2816, .bf16⟩
  | .hbm, ⟨20, _⟩ => ⟨S2048x2816, .f32⟩
  | .hbm, ⟨21, _⟩ => ⟨S2048x2816, .bf16⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== ProjMerge.lean ====
abbrev S1x2048x512 : Shape := ⟨3, ![1, 2048, 512]⟩
abbrev S1x512x1024 : Shape := ⟨3, ![1, 512, 1024]⟩
abbrev S1x1024 : Shape := ⟨2, ![1, 1024]⟩
abbrev S1x2048x3840 : Shape := ⟨3, ![1, 2048, 3840]⟩
abbrev S2048x512 : Shape := ⟨2, ![2048, 512]⟩
abbrev S512x1024 : Shape := ⟨2, ![512, 1024]⟩
abbrev S1024x512 : Shape := ⟨2, ![1024, 512]⟩
abbrev S2048x3840 : Shape := ⟨2, ![2048, 3840]⟩
abbrev S2048x1024 : Shape := ⟨2, ![2048, 1024]⟩
abbrev S256x512 : Shape := ⟨2, ![256, 512]⟩
abbrev S1x256 : Shape := ⟨2, ![1, 256]⟩
abbrev S2048x256 : Shape := ⟨2, ![2048, 256]⟩

abbrev nBuf : Space → Nat
  | .hbm => 21
  | .vmem => 18
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x512x1024, .f32⟩
  | .hbm, ⟨3, _⟩ => ⟨S1x512x1024, .f32⟩
  | .hbm, ⟨4, _⟩ => ⟨S1x1024, .f32⟩
  | .hbm, ⟨5, _⟩ => ⟨S1x2048x3840, .f32⟩
  | .hbm, ⟨6, _⟩ => ⟨S2048x512, .f32⟩
  | .hbm, ⟨7, _⟩ => ⟨S2048x512, .bf16⟩
  | .hbm, ⟨8, _⟩ => ⟨S2048x512, .f32⟩
  | .hbm, ⟨9, _⟩ => ⟨S2048x512, .bf16⟩
  | .hbm, ⟨10, _⟩ => ⟨S512x1024, .f32⟩
  | .hbm, ⟨11, _⟩ => ⟨S1024x512, .f32⟩
  | .hbm, ⟨12, _⟩ => ⟨S1024x512, .bf16⟩
  | .hbm, ⟨13, _⟩ => ⟨S512x1024, .f32⟩
  | .hbm, ⟨14, _⟩ => ⟨S1024x512, .f32⟩
  | .hbm, ⟨15, _⟩ => ⟨S1024x512, .bf16⟩
  | .hbm, ⟨16, _⟩ => ⟨S2048x3840, .f32⟩
  | .hbm, ⟨17, _⟩ => ⟨S2048x3840, .bf16⟩
  | .hbm, ⟨18, _⟩ => ⟨S2048x1024, .bf16⟩
  | .hbm, ⟨19, _⟩ => ⟨S2048x1024, .bf16⟩
  | .hbm, ⟨20, _⟩ => ⟨S2048x1024, .bf16⟩
  | .local _ .vmem, ⟨0, _⟩ => ⟨S2048x512, .bf16⟩
  | .local _ .vmem, ⟨1, _⟩ => ⟨S2048x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S1x256, .f32⟩
  | .local _ .vmem, ⟨7, _⟩ => ⟨S1x256, .f32⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ProjMergeRefIdeal.lean ====
abbrev S1x2048x512 : Shape := ⟨3, ![1, 2048, 512]⟩
abbrev S1x512x1024 : Shape := ⟨3, ![1, 512, 1024]⟩
abbrev S1x1024 : Shape := ⟨2, ![1, 1024]⟩
abbrev S1x2048x3840 : Shape := ⟨3, ![1, 2048, 3840]⟩
abbrev S1x2048x2048 : Shape := ⟨3, ![1, 2048, 2048]⟩
abbrev S1x2048x2x1024 : Shape := ⟨4, ![1, 2048, 2, 1024]⟩
abbrev S_ : Shape := ⟨0, ![]⟩
abbrev S512x1024 : Shape := ⟨2, ![512, 1024]⟩
abbrev S1x2048x1024 : Shape := ⟨3, ![1, 2048, 1024]⟩
abbrev S1024 : Shape := ⟨1, ![1024]⟩
abbrev S1x1x1024 : Shape := ⟨3, ![1, 1, 1024]⟩
abbrev S1x2048x1x1024 : Shape := ⟨4, ![1, 2048, 1, 1024]⟩
abbrev S2048x1024 : Shape := ⟨2, ![2048, 1024]⟩

abbrev nBuf : Space → Nat
  | .hbm => 37
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S1x2048x512, .f32⟩
  | .hbm, ⟨2, _⟩ => ⟨S1x512x1024, .f32⟩
  | .hbm, ⟨3, _⟩ => ⟨S1x512x1024, .f32⟩
  | .hbm, ⟨4, _⟩ => ⟨S1x1024, .f32⟩
  | .hbm, ⟨5, _⟩ => ⟨S1x2048x3840, .f32⟩
  | .hbm, ⟨6, _⟩ => ⟨S1x2048x2048, .f32⟩
  | .hbm, ⟨7, _⟩ => ⟨S1x2048x2x1024, .f32⟩
  | .hbm, ⟨8, _⟩ => ⟨S1x2048x2x1024, .f32⟩
  | .hbm, ⟨9, _⟩ => ⟨S1x2048x2x1024, .f32⟩
  | .hbm, ⟨10, _⟩ => ⟨S_, .f32⟩
  | .hbm, ⟨11, _⟩ => ⟨S1x2048x2x1024, .f32⟩
  | .hbm, ⟨12, _⟩ => ⟨S1x2048x2x1024, .f32⟩
  | .hbm, ⟨13, _⟩ => ⟨S_, .f32⟩
  | .hbm, ⟨14, _⟩ => ⟨S1x2048x2x1024, .f32⟩
  | .hbm, ⟨15, _⟩ => ⟨S1x2048x2x1024, .f32⟩
  | .hbm, ⟨16, _⟩ => ⟨S512x1024, .f32⟩
  | .hbm, ⟨17, _⟩ => ⟨S1x2048x1024, .f32⟩
  | .hbm, ⟨18, _⟩ => ⟨S512x1024, .f32⟩
  | .hbm, ⟨19, _⟩ => ⟨S1x2048x1024, .f32⟩
  | .hbm, ⟨20, _⟩ => ⟨S1024, .f32⟩
  | .hbm, ⟨21, _⟩ => ⟨S1x1x1024, .f32⟩
  | .hbm, ⟨22, _⟩ => ⟨S1x2048x1024, .f32⟩
  | .hbm, ⟨23, _⟩ => ⟨S1x2048x1024, .f32⟩
  | .hbm, ⟨24, _⟩ => ⟨S1x2048x1x1024, .f32⟩
  | .hbm, ⟨25, _⟩ => ⟨S1x2048x1024, .f32⟩
  | .hbm, ⟨26, _⟩ => ⟨S1x2048x1024, .f32⟩
  | .hbm, ⟨27, _⟩ => ⟨S1x2048x1x1024, .f32⟩
  | .hbm, ⟨28, _⟩ => ⟨S1x2048x1024, .f32⟩
  | .hbm, ⟨29, _⟩ => ⟨S1x2048x1024, .f32⟩
  | .hbm, ⟨30, _⟩ => ⟨S1x2048x1024, .f32⟩
  | .hbm, ⟨31, _⟩ => ⟨S2048x1024, .f32⟩
  | .hbm, ⟨32, _⟩ => ⟨S2048x1024, .bf16⟩
  | .hbm, ⟨33, _⟩ => ⟨S2048x1024, .f32⟩
  | .hbm, ⟨34, _⟩ => ⟨S2048x1024, .bf16⟩
  | .hbm, ⟨35, _⟩ => ⟨S2048x1024, .f32⟩
  | .hbm, ⟨36, _⟩ => ⟨S2048x1024, .bf16⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== AttnFwd.lean ====
abbrev S1x2048x3840 : Shape := ⟨3, ![1, 2048, 3840]⟩
abbrev S1x8 : Shape := ⟨2, ![1, 8]⟩
abbrev S2048x3840 : Shape := ⟨2, ![2048, 3840]⟩
abbrev S2048x512 : Shape := ⟨2, ![2048, 512]⟩
abbrev S2048x768 : Shape := ⟨2, ![2048, 768]⟩
abbrev S128x128 : Shape := ⟨2, ![128, 128]⟩
abbrev S256x128 : Shape := ⟨2, ![256, 128]⟩
abbrev S512x128 : Shape := ⟨2, ![512, 128]⟩
abbrev S512x256 : Shape := ⟨2, ![512, 256]⟩
abbrev S512x1 : Shape := ⟨2, ![512, 1]⟩
abbrev S1x1 : Shape := ⟨2, ![1, 1]⟩
abbrev S512 : Shape := ⟨1, ![512]⟩

abbrev nBuf : Space → Nat
  | .hbm => 5
  | .vmem => 2
  | .smem => 1
  | _ => 0

abbrev bufTy : (tb : Table) → Fin (tcTables nBuf tb) → BufTy
  | .hbm, ⟨0, _⟩ => ⟨S1x2048x3840, .f32⟩
  | .hbm, ⟨1, _⟩ => ⟨S1x8, .f32⟩
  | .hbm, ⟨2, _⟩ => ⟨S2048x3840, .f32⟩
  | .hbm, ⟨3, _⟩ => ⟨S2048x3840, .bf16⟩
  | .hbm, ⟨4, _⟩ => ⟨S2048x512, .bf16⟩
  | .local _ .vmem, ⟨0, _⟩ => ⟨S2048x768, .bf16⟩
  | .local _ .vmem, ⟨1, _⟩ => ⟨S2048x512, .bf16⟩
  | .local _ .smem, ⟨0, _⟩ => ⟨S1x8, .f32⟩
  | _, _ => ⟨S1x2048x3840, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg2_0 : Ref sig .tc := ⟨.vmem, 1, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32 : BitVec 32 := 128#32
  let v1 : BitVec 32 := Scalar.muli arg4 c128_i32
  v1
def k0_mult2 (k0_t1 : Fin k0_t1_loop.trips) : BitVec 32 :=
  let c0_i32 : BitVec 32 := 0#32
  let c1_i32 : BitVec 32 := 1#32
  let arg4 : BitVec 32 := Scf.iv c0_i32 c1_i32 k0_t1
  let c1_i32_1 : BitVec 32 := 1#32
  let v3 : BitVec 32 := Scalar.subi arg4 c1_i32_1
  let c0_i32_2 : BitVec 32 := 0#32
  let v4 : BitVec 32 := Scalar.maxsi v3 c0_i32_2
  let c128_i32_3 : BitVec 32 := 128#32
  let v5 : BitVec 32 := Scalar.muli v4 c128_i32_3
  v5
def k0_off1 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1_i32_1 : BitVec 32 := 1#32
  let v3 : BitVec 32 := Scalar.subi arg4 c1_i32_1
  let c0_i32_2 : BitVec 32 := 0#32
  let v4 : BitVec 32 := Scalar.maxsi v3 c0_i32_2
  let c128_i32_3 : BitVec 32 := 128#32
  let v5 : BitVec 32 := Scalar.muli v4 c128_i32_3
  let v6 : BitVec 32 := v5
  let v7 : Index := Scalar.indexCast v6
  let c512 : Index := 512#32
  ![v7.toNat, 512]
def k0_off2 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v1 : BitVec 32 := Scalar.muli arg4 c128_i32
  let v2 : BitVec 32 := v1
  let v10 : Index := Scalar.indexCast v2
  let c512_4 : Index := 512#32
  ![v10.toNat, 512]
def k0_off3 (k0_t1 : Fin k0_t1_loop.trips) : Fin 2 → Nat :=
  let c0_i32 : BitVec 32 := 0#32
  let c1_i32 : BitVec 32 := 1#32
  let arg4 : BitVec 32 := Scf.iv c0_i32 c1_i32 k0_t1
  let c1_i32_1 : BitVec 32 := 1#32
  let v3 : BitVec 32 := Scalar.subi arg4 c1_i32_1
  let c0_i32_2 : BitVec 32 := 0#32
  let v4 : BitVec 32 := Scalar.maxsi v3 c0_i32_2
  let c128_i32_3 : BitVec 32 := 128#32
  let v5 : BitVec 32 := Scalar.muli v4 c128_i32_3
  let v6 : BitVec 32 := v5
  let v14 : Index := Scalar.indexCast v6
  let c640 : Index := 640#32
  ![v14.toNat, 640]
def k0_off4 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v1 : BitVec 32 := Scalar.muli arg4 c128_i32
  let v2 : BitVec 32 := v1
  let v17 : Index := Scalar.indexCast v2
  let c640_5 : Index := 640#32
  ![v17.toNat, 640]
def k0_off5 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v1 : BitVec 32 := Scalar.muli arg4 c128_i32
  let v2 : BitVec 32 := v1
  let v21 : Index := Scalar.indexCast v2
  let c0 : Index := 0#32
  ![v21.toNat, 0]
def k0_off6 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32 : BitVec 32 := 128#32
  let v1 : BitVec 32 := Scalar.muli arg4 c128_i32
  let v2 : BitVec 32 := v1
  let v46 : Index := Scalar.indexCast v2
  let c128 : Index := 128#32
  ![v46.toNat, 128]
def k0_mult3 (k0_t1 : Fin k0_t1_loop.trips) : BitVec 32 :=
  let c0_i32 : BitVec 32 := 0#32
  let c1_i32 : BitVec 32 := 1#32
  let arg4 : BitVec 32 := Scf.iv c0_i32 c1_i32 k0_t1
  let c128_i32_57 : BitVec 32 := 128#32
  let v187 : BitVec 32 := Scalar.muli arg4 c128_i32_57
  v187
def k0_mult4 (k0_t1 : Fin k0_t1_loop.trips) : BitVec 32 :=
  let c0_i32 : BitVec 32 := 0#32
  let c1_i32 : BitVec 32 := 1#32
  let arg4 : BitVec 32 := Scf.iv c0_i32 c1_i32 k0_t1
  let c1_i32_58 : BitVec 32 := 1#32
  let v189 : BitVec 32 := Scalar.subi arg4 c1_i32_58
  let c0_i32_59 : BitVec 32 := 0#32
  let v190 : BitVec 32 := Scalar.maxsi v189 c0_i32_59
  let c128_i32_60 : BitVec 32 := 128#32
  let v191 : BitVec 32 := Scalar.muli v190 c128_i32_60
  v191
def k0_off7 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32_57 : BitVec 32 := 128#32
  let v187 : BitVec 32 := Scalar.muli arg4 c128_i32_57
  let v188 : BitVec 32 := v187
  let v207 : Index := Scalar.indexCast v188
  let c256 : Index := 256#32
  ![v207.toNat, 256]
def k0_off8 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32_57 : BitVec 32 := 128#32
  let v187 : BitVec 32 := Scalar.muli arg4 c128_i32_57
  let v188 : BitVec 32 := v187
  let v232 : Index := Scalar.indexCast v188
  let c384 : Index := 384#32
  ![v232.toNat, 384]
def k0_off9 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32_57 : BitVec 32 := 128#32
  let v187 : BitVec 32 := Scalar.muli arg4 c128_i32_57
  let v188 : BitVec 32 := v187
  let v374 : Index := Scalar.indexCast v188
  let c0_121 : Index := 0#32
  ![v374.toNat, 0]
def k0_off10 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32_57 : BitVec 32 := 128#32
  let v187 : BitVec 32 := Scalar.muli arg4 c128_i32_57
  let v188 : BitVec 32 := v187
  let v377 : Index := Scalar.indexCast v188
  let c128_122 : Index := 128#32
  ![v377.toNat, 128]
def k0_off11 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32_57 : BitVec 32 := 128#32
  let v187 : BitVec 32 := Scalar.muli arg4 c128_i32_57
  let v188 : BitVec 32 := v187
  let v380 : Index := Scalar.indexCast v188
  let c256_123 : Index := 256#32
  ![v380.toNat, 256]
def k0_off12 (k0_t1 : Fin k0_t1_loop.trips) : Fin 2 → Nat :=
  let c0_i32 : BitVec 32 := 0#32
  let c1_i32 : BitVec 32 := 1#32
  let arg4 : BitVec 32 := Scf.iv c0_i32 c1_i32 k0_t1
  let c128_i32_57 : BitVec 32 := 128#32
  let v187 : BitVec 32 := Scalar.muli arg4 c128_i32_57
  let v188 : BitVec 32 := v187
  let v383 : Index := Scalar.indexCast v188
  let c384_124 : Index := 384#32
  ![v383.toNat, 384]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== AttnFwdIdeal.lean ====
variable {F : FTy → Type} [FloatOps F] [Named F]
def κ : String → Option EReal := fun
  | "mask" => some ⊥
  | _ => none
-- ==== AttnFwdRefIdeal.lean ====
abbrev S1x2048x3840 : Shape := ⟨3, ![1, 2048, 3840]⟩
abbrev S1x8 : Shape := ⟨2, ![1, 8]⟩
abbrev S1x2048x512 : Shape := ⟨3, ![1, 2048, 512]⟩
abbrev S16x128x2x4x64 : Shape := ⟨5, ![16, 128, 2, 4, 64]⟩
abbrev S1x2048x128 : Shape := ⟨3, ![1, 2048, 128]⟩
abbrev S16x128x2x64 : Shape := ⟨4, ![16, 128, 2, 64]⟩
abbrev S_ : Shape := ⟨0, ![]⟩
abbrev S1x128x2x64 : Shape := ⟨4, ![1, 128, 2, 64]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S1x2x4x1x1 : Shape := ⟨5, ![1, 2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩
abbrev S2048x512 : Shape := ⟨2, ![2048, 512]⟩

abbrev nBuf : Space → Nat
  | .hbm => 63
  | .vmem => 0
  | .smem => 0
  | _ => 0

abbrev bufTy : (tb : Table) → Fin (tcTables nBuf tb) → BufTy
  | .hbm, ⟨0, _⟩ => ⟨S1x2048x3840, .f32⟩
  | .hbm, ⟨1, _⟩ => ⟨S1x8, .f32⟩
  | .hbm, ⟨2, _⟩ => ⟨S1x2048x512, .f32⟩
  | .hbm, ⟨3, _⟩ => ⟨S16x128x2x4x64, .f32⟩
  | .hbm, ⟨4, _⟩ => ⟨S1x2048x128, .f32⟩
  | .hbm, ⟨5, _⟩ => ⟨S16x128x2x64, .f32⟩
  | .hbm, ⟨6, _⟩ => ⟨S1x2048x128, .f32⟩
  | .hbm, ⟨7, _⟩ => ⟨S16x128x2x64, .f32⟩
  | .hbm, ⟨8, _⟩ => ⟨S_, .f32⟩
  | .hbm, ⟨9, _⟩ => ⟨S1x128x2x64, .f32⟩
  | .hbm, ⟨10, _⟩ => ⟨S15x128x2x64, .f32⟩
  | .hbm, ⟨11, _⟩ => ⟨S16x128x2x64, .f32⟩
  | .hbm, ⟨12, _⟩ => ⟨S16x256x2x64, .f32⟩
  | .hbm, ⟨13, _⟩ => ⟨S_, .f32⟩
  | .hbm, ⟨14, _⟩ => ⟨S1x128x2x64, .f32⟩
  | .hbm, ⟨15, _⟩ => ⟨S15x128x2x64, .f32⟩
  | .hbm, ⟨16, _⟩ => ⟨S16x128x2x64, .f32⟩
  | .hbm, ⟨17, _⟩ => ⟨S16x256x2x64, .f32⟩
  | .hbm, ⟨18, _⟩ => ⟨S16x2x256x128x4, .f32⟩
  | .hbm, ⟨19, _⟩ => ⟨S16x2x4x128x256, .f32⟩
  | .hbm, ⟨20, _⟩ => ⟨S_, .f32⟩
  | .hbm, ⟨21, _⟩ => ⟨S16x2x4x128x256, .f32⟩
  | .hbm, ⟨22, _⟩ => ⟨S16x2x4x128x256, .f32⟩
  | .hbm, ⟨23, _⟩ => ⟨S16x2x4x128x256, .i32⟩
  | .hbm, ⟨24, _⟩ => ⟨S16x2x4x128x256, .i32⟩
  | .hbm, ⟨25, _⟩ => ⟨S16x2x4x128x256, .i32⟩
  | .hbm, ⟨26, _⟩ => ⟨S_, .i32⟩
  | .hbm, ⟨27, _⟩ => ⟨S16x2x4x128x256, .i32⟩
  | .hbm, ⟨28, _⟩ => ⟨S16x2x4x128x256, .i32⟩
  | .hbm, ⟨29, _⟩ => ⟨S16x2x4x128x256, .i1⟩
  | .hbm, ⟨30, _⟩ => ⟨S16x2x4x128x256, .i1⟩
  | .hbm, ⟨31, _⟩ => ⟨S16x2x4x128x256, .i1⟩
  | .hbm, ⟨32, _⟩ => ⟨S_, .i32⟩
  | .hbm, ⟨33, _⟩ => ⟨S16x2x4x128x256, .i32⟩
  | .hbm, ⟨34, _⟩ => ⟨S16x2x4x128x256, .i32⟩
  | .hbm, ⟨35, _⟩ => ⟨S16x2x4x128x256, .i32⟩
  | .hbm, ⟨36, _⟩ => ⟨S_, .i32⟩
  | .hbm, ⟨37, _⟩ => ⟨S16x2x4x128x256, .i32⟩
  | .hbm, ⟨38, _⟩ => ⟨S16x2x4x128x256, .i1⟩
  | .hbm, ⟨39, _⟩ => ⟨S16x2x4x128x256, .i1⟩
  | .hbm, ⟨40, _⟩ => ⟨S_, .f32⟩
  | .hbm, ⟨41, _⟩ => ⟨S16x2x4x128x256, .f32⟩
  | .hbm, ⟨42, _⟩ => ⟨S16x2x4x128x256, .f32⟩
  | .hbm, ⟨43, _⟩ => ⟨S1x2x4x1x1, .f32⟩
  | .hbm, ⟨44, _⟩ => ⟨S16x2x4x128x1, .f32⟩
  | .hbm, ⟨45, _⟩ => ⟨S16x2x4x128x257, .f32⟩
  | .hbm, ⟨46, _⟩ => ⟨S_, .f32⟩
  | .hbm, ⟨47, _⟩ => ⟨S16x2x4x128, .f32⟩
  | .hbm, ⟨48, _⟩ => ⟨S16x2x4x128x1, .f32⟩
  | .hbm, ⟨49, _⟩ => ⟨S16x2x4x128x257, .f32⟩
  | .hbm, ⟨50, _⟩ => ⟨S16x2x4x128x257, .f32⟩
  | .hbm, ⟨51, _⟩ => ⟨S16x2x4x128x257, .f32⟩
  | .hbm, ⟨52, _⟩ => ⟨S_, .f32⟩
  | .hbm, ⟨53, _⟩ => ⟨S16x2x4x128, .f32⟩
  | .hbm, ⟨54, _⟩ => ⟨S16x2x4x128x1, .f32⟩
  | .hbm, ⟨55, _⟩ => ⟨S16x2x4x128x257, .f32⟩
  | .hbm, ⟨56, _⟩ => ⟨S16x2x4x128x257, .f32⟩
  | .hbm, ⟨57, _⟩ => ⟨S16x2x4x128x256, .f32⟩
  | .hbm, ⟨58, _⟩ => ⟨S16x2x64x4x128, .f32⟩
  | .hbm, ⟨59, _⟩ => ⟨S16x128x2x4x64, .f32⟩
  | .hbm, ⟨60, _⟩ => ⟨S1x2048x512, .f32⟩
  | .hbm, ⟨61, _⟩ => ⟨S2048x512, .f32⟩
  | .hbm, ⟨62, _⟩ => ⟨S2048x512, .bf16⟩
  | _, _ => ⟨S1x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_c_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_3 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== ConvFwd.lean ====
abbrev S1x2048x3840 : Shape := ⟨3, ![1, 2048, 3840]⟩
abbrev S1x31x512 : Shape := ⟨3, ![1, 31, 512]⟩
abbrev S1x512 : Shape := ⟨2, ![1, 512]⟩
abbrev S2048x3840 : Shape := ⟨2, ![2048, 3840]⟩
abbrev S31x512 : Shape := ⟨2, ![31, 512]⟩
abbrev S512x31 : Shape := ⟨2, ![512, 31]⟩
abbrev S_ : Shape := ⟨0, ![]⟩
abbrev S512x32 : Shape := ⟨2, ![512, 32]⟩
abbrev S128x128 : Shape := ⟨2, ![128, 128]⟩
abbrev S32x512 : Shape := ⟨2, ![32, 512]⟩
abbrev S2048x512 : Shape := ⟨2, ![2048, 512]⟩
abbrev S2048x256 : Shape := ⟨2, ![2048, 256]⟩
abbrev S2112x512 : Shape := ⟨2, ![2112, 512]⟩
abbrev S8x288x512 : Shape := ⟨3, ![8, 288, 512]⟩
abbrev S256x512 : Shape := ⟨2, ![256, 512]⟩
abbrev S280x512 : Shape := ⟨2, ![280, 512]⟩
abbrev S1x280x512 : Shape := ⟨3, ![1, 280, 512]⟩
abbrev S1x32x512 : Shape := ⟨3, ![1, 32, 512]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S1x2048x3840, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S2048x3840, .f32⟩
  | .hbm, ⟨6, _⟩ => ⟨S2048x3840, .bf16⟩
  | .hbm, ⟨7, _⟩ => ⟨S31x512, .f32⟩
  | .hbm, ⟨8, _⟩ => ⟨S512x31, .f32⟩
  | .hbm, ⟨9, _⟩ => ⟨S_, .i32⟩
  | .hbm, ⟨10, _⟩ => ⟨S_, .f32⟩
  | .hbm, ⟨11, _⟩ => ⟨S512x32, .f32⟩
  | .hbm, ⟨12, _⟩ => ⟨S128x128, .f32⟩
  | .hbm, ⟨13, _⟩ => ⟨S512x32, .f32⟩
  | .hbm, ⟨14, _⟩ => ⟨S32x512, .f32⟩
  | .hbm, ⟨15, _⟩ => ⟨S2048x512, .bf16⟩
  | .hbm, ⟨16, _⟩ => ⟨S2048x512, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S2048x512, .bf16⟩
  | .local _ .vmem, ⟨9, _⟩ => ⟨S2048x512, .f32⟩
  | .local _ .vmem, ⟨10, _⟩ => ⟨S2112x512, .f32⟩
  | .local _ .vmem, ⟨11, _⟩ => ⟨S8x288x512, .f32⟩
  | .local _ .vmem, ⟨12, _⟩ => ⟨S256x512, .f32⟩
  | _, _ => ⟨S1x2048x3840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c8_i32 : BitVec 32 := 8#32
  let v63 : BitVec 32 := Scalar.addi c0_i32 c8_i32
  let c1_i32 : BitVec 32 := 1#32
  ⟨c0_i32, v63, c1_i32⟩
def k0_mult1 (k0_t1 : Fin k0_t1_loop.trips) : BitVec 32 :=
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  v526
def k0_off1 (k0_t1 : Fin k0_t1_loop.trips) (c0_i32_429 : BitVec 32) : Fin 3 → Nat :=
  let c0_430 : Index := 0#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off2 (k0_t1 : Fin k0_t1_loop.trips) (c0_i32_434 : BitVec 32) : Fin 3 → Nat :=
  let c1_435 : Index := 1#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off3 (k0_t1 : Fin k0_t1_loop.trips) (c0_i32_439 : BitVec 32) : Fin 3 → Nat :=
  let c2_440 : Index := 2#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off4 (k0_t1 : Fin k0_t1_loop.trips) (c0_i32_444 : BitVec 32) : Fin 3 → Nat :=
  let c3_445 : Index := 3#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off5 (k0_t1 : Fin k0_t1_loop.trips) (c0_i32_449 : BitVec 32) : Fin 3 → Nat :=
  let c4_450 : Index := 4#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off6 (k0_t1 : Fin k0_t1_loop.trips) (c0_i32_454 : BitVec 32) : Fin 3 → Nat :=
  let c5_455 : Index := 5#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off7 (k0_t1 : Fin k0_t1_loop.trips) (c0_i32_459 : BitVec 32) : Fin 3 → Nat :=
  let c6_460 : Index := 6#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off8 (k0_t1 : Fin k0_t1_loop.trips) (c0_i32_464 : BitVec 32) : Fin 3 → Nat :=
  let c7_465 : Index := 7#32
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c32_i32 : BitVec 32 := 32#32
  let v526 : BitVec 32 := Scalar.muli arg14 c32_i32
  let v527 : BitVec 32 := v526
  let v809 : Index := Scalar.indexCast v527
  let c0_559 : Index := 0#32
  ![v809.toNat, 0]
@[reducible] def k0_t2_loop : Scf.Loop 32 :=
  let c0_i32_96 : BitVec 32 := 0#32
  let c8_i32_97 : BitVec 32 := 8#32
  let v125 : BitVec 32 := Scalar.addi c0_i32_96 c8_i32_97
  let c1_i32_98 : BitVec 32 := 1#32
  ⟨c0_i32_96, v125, c1_i32_98⟩
def k0_mult2 (k0_t2 : Fin k0_t2_loop.trips) : BitVec 32 :=
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  v526
def k0_off10 (k0_t2 : Fin k0_t2_loop.trips) (c0_i32_429 : BitVec 32) : Fin 3 → Nat :=
  let c0_430 : Index := 0#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off11 (k0_t2 : Fin k0_t2_loop.trips) (c0_i32_434 : BitVec 32) : Fin 3 → Nat :=
  let c1_435 : Index := 1#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off12 (k0_t2 : Fin k0_t2_loop.trips) (c0_i32_439 : BitVec 32) : Fin 3 → Nat :=
  let c2_440 : Index := 2#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off13 (k0_t2 : Fin k0_t2_loop.trips) (c0_i32_444 : BitVec 32) : Fin 3 → Nat :=
  let c3_445 : Index := 3#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off14 (k0_t2 : Fin k0_t2_loop.trips) (c0_i32_449 : BitVec 32) : Fin 3 → Nat :=
  let c4_450 : Index := 4#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off15 (k0_t2 : Fin k0_t2_loop.trips) (c0_i32_454 : BitVec 32) : Fin 3 → Nat :=
  let c5_455 : Index := 5#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off16 (k0_t2 : Fin k0_t2_loop.trips) (c0_i32_459 : BitVec 32) : Fin 3 → Nat :=
  let c6_460 : Index := 6#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off17 (k0_t2 : Fin k0_t2_loop.trips) (c0_i32_464 : BitVec 32) : Fin 3 → Nat :=
  let c7_465 : Index := 7#32
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off18 (k0_t2 : Fin k0_t2_loop.trips) : Fin 2 → Nat :=
  let c0_i32_96 : BitVec 32 := 0#32
  let c1_i32_98 : BitVec 32 := 1#32
  let arg14 : BitVec 32 := Scf.iv c0_i32_96 c1_i32_98 k0_t2
  let c32_i32 : BitVec 32 := 32#32
  let v526 : BitVec 32 := Scalar.muli arg14 c32_i32
  let v527 : BitVec 32 := v526
  let v809 : Index := Scalar.indexCast v527
  let c0_559 : Index := 0#32
  ![v809.toNat, 0]
@[reducible] def k0_t3_loop : Scf.Loop 32 :=
  let c0_i32_149 : BitVec 32 := 0#32
  let c8_i32_150 : BitVec 32 := 8#32
  let v187 : BitVec 32 := Scalar.addi c0_i32_149 c8_i32_150
  let c1_i32_151 : BitVec 32 := 1#32
  ⟨c0_i32_149, v187, c1_i32_151⟩
def k0_mult3 (k0_t3 : Fin k0_t3_loop.trips) : BitVec 32 :=
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  v526
def k0_off19 (k0_t3 : Fin k0_t3_loop.trips) (c0_i32_429 : BitVec 32) : Fin 3 → Nat :=
  let c0_430 : Index := 0#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off20 (k0_t3 : Fin k0_t3_loop.trips) (c0_i32_434 : BitVec 32) : Fin 3 → Nat :=
  let c1_435 : Index := 1#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off21 (k0_t3 : Fin k0_t3_loop.trips) (c0_i32_439 : BitVec 32) : Fin 3 → Nat :=
  let c2_440 : Index := 2#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off22 (k0_t3 : Fin k0_t3_loop.trips) (c0_i32_444 : BitVec 32) : Fin 3 → Nat :=
  let c3_445 : Index := 3#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off23 (k0_t3 : Fin k0_t3_loop.trips) (c0_i32_449 : BitVec 32) : Fin 3 → Nat :=
  let c4_450 : Index := 4#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off24 (k0_t3 : Fin k0_t3_loop.trips) (c0_i32_454 : BitVec 32) : Fin 3 → Nat :=
  let c5_455 : Index := 5#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off25 (k0_t3 : Fin k0_t3_loop.trips) (c0_i32_459 : BitVec 32) : Fin 3 → Nat :=
  let c6_460 : Index := 6#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off26 (k0_t3 : Fin k0_t3_loop.trips) (c0_i32_464 : BitVec 32) : Fin 3 → Nat :=
  let c7_465 : Index := 7#32
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off27 (k0_t3 : Fin k0_t3_loop.trips) : Fin 2 → Nat :=
  let c0_i32_149 : BitVec 32 := 0#32
  let c1_i32_151 : BitVec 32 := 1#32
  let arg14 : BitVec 32 := Scf.iv c0_i32_149 c1_i32_151 k0_t3
  let c32_i32 : BitVec 32 := 32#32
  let v526 : BitVec 32 := Scalar.muli arg14 c32_i32
  let v527 : BitVec 32 := v526
  let v809 : Index := Scalar.indexCast v527
  let c0_559 : Index := 0#32
  ![v809.toNat, 0]
@[reducible] def k0_t4_loop : Scf.Loop 32 :=
  let c0_i32_201 : BitVec 32 := 0#32
  let c8_i32_202 : BitVec 32 := 8#32
  let v249 : BitVec 32 := Scalar.addi c0_i32_201 c8_i32_202
  let c1_i32_203 : BitVec 32 := 1#32
  ⟨c0_i32_201, v249, c1_i32_203⟩
def k0_mult4 (k0_t4 : Fin k0_t4_loop.trips) : BitVec 32 :=
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  v526
def k0_off28 (k0_t4 : Fin k0_t4_loop.trips) (c0_i32_429 : BitVec 32) : Fin 3 → Nat :=
  let c0_430 : Index := 0#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off29 (k0_t4 : Fin k0_t4_loop.trips) (c0_i32_434 : BitVec 32) : Fin 3 → Nat :=
  let c1_435 : Index := 1#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off30 (k0_t4 : Fin k0_t4_loop.trips) (c0_i32_439 : BitVec 32) : Fin 3 → Nat :=
  let c2_440 : Index := 2#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off31 (k0_t4 : Fin k0_t4_loop.trips) (c0_i32_444 : BitVec 32) : Fin 3 → Nat :=
  let c3_445 : Index := 3#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off32 (k0_t4 : Fin k0_t4_loop.trips) (c0_i32_449 : BitVec 32) : Fin 3 → Nat :=
  let c4_450 : Index := 4#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off33 (k0_t4 : Fin k0_t4_loop.trips) (c0_i32_454 : BitVec 32) : Fin 3 → Nat :=
  let c5_455 : Index := 5#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off34 (k0_t4 : Fin k0_t4_loop.trips) (c0_i32_459 : BitVec 32) : Fin 3 → Nat :=
  let c6_460 : Index := 6#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off35 (k0_t4 : Fin k0_t4_loop.trips) (c0_i32_464 : BitVec 32) : Fin 3 → Nat :=
  let c7_465 : Index := 7#32
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off36 (k0_t4 : Fin k0_t4_loop.trips) : Fin 2 → Nat :=
  let c0_i32_201 : BitVec 32 := 0#32
  let c1_i32_203 : BitVec 32 := 1#32
  let arg14 : BitVec 32 := Scf.iv c0_i32_201 c1_i32_203 k0_t4
  let c32_i32 : BitVec 32 := 32#32
  let v526 : BitVec 32 := Scalar.muli arg14 c32_i32
  let v527 : BitVec 32 := v526
  let v809 : Index := Scalar.indexCast v527
  let c0_559 : Index := 0#32
  ![v809.toNat, 0]
@[reducible] def k0_t5_loop : Scf.Loop 32 :=
  let c0_i32_253 : BitVec 32 := 0#32
  let c8_i32_254 : BitVec 32 := 8#32
  let v311 : BitVec 32 := Scalar.addi c0_i32_253 c8_i32_254
  let c1_i32_255 : BitVec 32 := 1#32
  ⟨c0_i32_253, v311, c1_i32_255⟩
def k0_mult5 (k0_t5 : Fin k0_t5_loop.trips) : BitVec 32 :=
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  v526
def k0_off37 (k0_t5 : Fin k0_t5_loop.trips) (c0_i32_429 : BitVec 32) : Fin 3 → Nat :=
  let c0_430 : Index := 0#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off38 (k0_t5 : Fin k0_t5_loop.trips) (c0_i32_434 : BitVec 32) : Fin 3 → Nat :=
  let c1_435 : Index := 1#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off39 (k0_t5 : Fin k0_t5_loop.trips) (c0_i32_439 : BitVec 32) : Fin 3 → Nat :=
  let c2_440 : Index := 2#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off40 (k0_t5 : Fin k0_t5_loop.trips) (c0_i32_444 : BitVec 32) : Fin 3 → Nat :=
  let c3_445 : Index := 3#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off41 (k0_t5 : Fin k0_t5_loop.trips) (c0_i32_449 : BitVec 32) : Fin 3 → Nat :=
  let c4_450 : Index := 4#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off42 (k0_t5 : Fin k0_t5_loop.trips) (c0_i32_454 : BitVec 32) : Fin 3 → Nat :=
  let c5_455 : Index := 5#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off43 (k0_t5 : Fin k0_t5_loop.trips) (c0_i32_459 : BitVec 32) : Fin 3 → Nat :=
  let c6_460 : Index := 6#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off44 (k0_t5 : Fin k0_t5_loop.trips) (c0_i32_464 : BitVec 32) : Fin 3 → Nat :=
  let c7_465 : Index := 7#32
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off45 (k0_t5 : Fin k0_t5_loop.trips) : Fin 2 → Nat :=
  let c0_i32_253 : BitVec 32 := 0#32
  let c1_i32_255 : BitVec 32 := 1#32
  let arg14 : BitVec 32 := Scf.iv c0_i32_253 c1_i32_255 k0_t5
  let c32_i32 : BitVec 32 := 32#32
  let v526 : BitVec 32 := Scalar.muli arg14 c32_i32
  let v527 : BitVec 32 := v526
  let v809 : Index := Scalar.indexCast v527
  let c0_559 : Index := 0#32
  ![v809.toNat, 0]
@[reducible] def k0_t6_loop : Scf.Loop 32 :=
  let c0_i32_305 : BitVec 32 := 0#32
  let c8_i32_306 : BitVec 32 := 8#32
  let v373 : BitVec 32 := Scalar.addi c0_i32_305 c8_i32_306
  let c1_i32_307 : BitVec 32 := 1#32
  ⟨c0_i32_305, v373, c1_i32_307⟩
def k0_mult6 (k0_t6 : Fin k0_t6_loop.trips) : BitVec 32 :=
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  v526
def k0_off46 (k0_t6 : Fin k0_t6_loop.trips) (c0_i32_429 : BitVec 32) : Fin 3 → Nat :=
  let c0_430 : Index := 0#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off47 (k0_t6 : Fin k0_t6_loop.trips) (c0_i32_434 : BitVec 32) : Fin 3 → Nat :=
  let c1_435 : Index := 1#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off48 (k0_t6 : Fin k0_t6_loop.trips) (c0_i32_439 : BitVec 32) : Fin 3 → Nat :=
  let c2_440 : Index := 2#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off49 (k0_t6 : Fin k0_t6_loop.trips) (c0_i32_444 : BitVec 32) : Fin 3 → Nat :=
  let c3_445 : Index := 3#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off50 (k0_t6 : Fin k0_t6_loop.trips) (c0_i32_449 : BitVec 32) : Fin 3 → Nat :=
  let c4_450 : Index := 4#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off51 (k0_t6 : Fin k0_t6_loop.trips) (c0_i32_454 : BitVec 32) : Fin 3 → Nat :=
  let c5_455 : Index := 5#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off52 (k0_t6 : Fin k0_t6_loop.trips) (c0_i32_459 : BitVec 32) : Fin 3 → Nat :=
  let c6_460 : Index := 6#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off53 (k0_t6 : Fin k0_t6_loop.trips) (c0_i32_464 : BitVec 32) : Fin 3 → Nat :=
  let c7_465 : Index := 7#32
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off54 (k0_t6 : Fin k0_t6_loop.trips) : Fin 2 → Nat :=
  let c0_i32_305 : BitVec 32 := 0#32
  let c1_i32_307 : BitVec 32 := 1#32
  let arg14 : BitVec 32 := Scf.iv c0_i32_305 c1_i32_307 k0_t6
  let c32_i32 : BitVec 32 := 32#32
  let v526 : BitVec 32 := Scalar.muli arg14 c32_i32
  let v527 : BitVec 32 := v526
  let v809 : Index := Scalar.indexCast v527
  let c0_559 : Index := 0#32
  ![v809.toNat, 0]
@[reducible] def k0_t7_loop : Scf.Loop 32 :=
  let c0_i32_357 : BitVec 32 := 0#32
  let c8_i32_358 : BitVec 32 := 8#32
  let v435 : BitVec 32 := Scalar.addi c0_i32_357 c8_i32_358
  let c1_i32_359 : BitVec 32 := 1#32
  ⟨c0_i32_357, v435, c1_i32_359⟩
def k0_mult7 (k0_t7 : Fin k0_t7_loop.trips) : BitVec 32 :=
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  v526
def k0_off55 (k0_t7 : Fin k0_t7_loop.trips) (c0_i32_429 : BitVec 32) : Fin 3 → Nat :=
  let c0_430 : Index := 0#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off56 (k0_t7 : Fin k0_t7_loop.trips) (c0_i32_434 : BitVec 32) : Fin 3 → Nat :=
  let c1_435 : Index := 1#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off57 (k0_t7 : Fin k0_t7_loop.trips) (c0_i32_439 : BitVec 32) : Fin 3 → Nat :=
  let c2_440 : Index := 2#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off58 (k0_t7 : Fin k0_t7_loop.trips) (c0_i32_444 : BitVec 32) : Fin 3 → Nat :=
  let c3_445 : Index := 3#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off59 (k0_t7 : Fin k0_t7_loop.trips) (c0_i32_449 : BitVec 32) : Fin 3 → Nat :=
  let c4_450 : Index := 4#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off60 (k0_t7 : Fin k0_t7_loop.trips) (c0_i32_454 : BitVec 32) : Fin 3 → Nat :=
  let c5_455 : Index := 5#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off61 (k0_t7 : Fin k0_t7_loop.trips) (c0_i32_459 : BitVec 32) : Fin 3 → Nat :=
  let c6_460 : Index := 6#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off62 (k0_t7 : Fin k0_t7_loop.trips) (c0_i32_464 : BitVec 32) : Fin 3 → Nat :=
  let c7_465 : Index := 7#32
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off63 (k0_t7 : Fin k0_t7_loop.trips) : Fin 2 → Nat :=
  let c0_i32_357 : BitVec 32 := 0#32
  let c1_i32_359 : BitVec 32 := 1#32
  let arg14 : BitVec 32 := Scf.iv c0_i32_357 c1_i32_359 k0_t7
  let c32_i32 : BitVec 32 := 32#32
  let v526 : BitVec 32 := Scalar.muli arg14 c32_i32
  let v527 : BitVec 32 := v526
  let v809 : Index := Scalar.indexCast v527
  let c0_559 : Index := 0#32
  ![v809.toNat, 0]
@[reducible] def k0_t8_loop : Scf.Loop 32 :=
  let c0_i32_409 : BitVec 32 := 0#32
  let c8_i32_410 : BitVec 32 := 8#32
  let v497 : BitVec 32 := Scalar.addi c0_i32_409 c8_i32_410
  let c1_i32_411 : BitVec 32 := 1#32
  ⟨c0_i32_409, v497, c1_i32_411⟩
def k0_mult8 (k0_t8 : Fin k0_t8_loop.trips) : BitVec 32 :=
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  v526
def k0_off64 (k0_t8 : Fin k0_t8_loop.trips) (c0_i32_429 : BitVec 32) : Fin 3 → Nat :=
  let c0_430 : Index := 0#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v532 : BitVec 32 := Scalar.addi v527 c0_i32_429
  let v533 : Index := Scalar.indexCast v532
  let c0_431 : Index := 0#32
  ![0, v533.toNat, 0]
def k0_off65 (k0_t8 : Fin k0_t8_loop.trips) (c0_i32_434 : BitVec 32) : Fin 3 → Nat :=
  let c1_435 : Index := 1#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v541 : BitVec 32 := Scalar.addi v527 c0_i32_434
  let v542 : Index := Scalar.indexCast v541
  let c0_436 : Index := 0#32
  ![1, v542.toNat, 0]
def k0_off66 (k0_t8 : Fin k0_t8_loop.trips) (c0_i32_439 : BitVec 32) : Fin 3 → Nat :=
  let c2_440 : Index := 2#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v550 : BitVec 32 := Scalar.addi v527 c0_i32_439
  let v551 : Index := Scalar.indexCast v550
  let c0_441 : Index := 0#32
  ![2, v551.toNat, 0]
def k0_off67 (k0_t8 : Fin k0_t8_loop.trips) (c0_i32_444 : BitVec 32) : Fin 3 → Nat :=
  let c3_445 : Index := 3#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v559 : BitVec 32 := Scalar.addi v527 c0_i32_444
  let v560 : Index := Scalar.indexCast v559
  let c0_446 : Index := 0#32
  ![3, v560.toNat, 0]
def k0_off68 (k0_t8 : Fin k0_t8_loop.trips) (c0_i32_449 : BitVec 32) : Fin 3 → Nat :=
  let c4_450 : Index := 4#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v568 : BitVec 32 := Scalar.addi v527 c0_i32_449
  let v569 : Index := Scalar.indexCast v568
  let c0_451 : Index := 0#32
  ![4, v569.toNat, 0]
def k0_off69 (k0_t8 : Fin k0_t8_loop.trips) (c0_i32_454 : BitVec 32) : Fin 3 → Nat :=
  let c5_455 : Index := 5#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v577 : BitVec 32 := Scalar.addi v527 c0_i32_454
  let v578 : Index := Scalar.indexCast v577
  let c0_456 : Index := 0#32
  ![5, v578.toNat, 0]
def k0_off70 (k0_t8 : Fin k0_t8_loop.trips) (c0_i32_459 : BitVec 32) : Fin 3 → Nat :=
  let c6_460 : Index := 6#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v586 : BitVec 32 := Scalar.addi v527 c0_i32_459
  let v587 : Index := Scalar.indexCast v586
  let c0_461 : Index := 0#32
  ![6, v587.toNat, 0]
def k0_off71 (k0_t8 : Fin k0_t8_loop.trips) (c0_i32_464 : BitVec 32) : Fin 3 → Nat :=
  let c7_465 : Index := 7#32
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v595 : BitVec 32 := Scalar.addi v527 c0_i32_464
  let v596 : Index := Scalar.indexCast v595
  let c0_466 : Index := 0#32
  ![7, v596.toNat, 0]
def k0_off72 (k0_t8 : Fin k0_t8_loop.trips) : Fin 2 → Nat :=
  let c0_i32_409 : BitVec 32 := 0#32
  let c1_i32_411 : BitVec 32 := 1#32
  let arg14 : BitVec 32 := Scf.iv c0_i32_409 c1_i32_411 k0_t8
  let c32_i32 : BitVec 32 := 32#32
  let v526 : BitVec 32 := Scalar.muli arg14 c32_i32
  let v527 : BitVec 32 := v526
  let v809 : Index := Scalar.indexCast v527
  let c0_559 : Index := 0#32
  ![v809.toNat, 0]
def cc0_transform_0 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_1 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_2 (i : grid0.Coords) : Fin 2 → Nat :=
  let arg0 : BitVec 32 := BitVec.ofNat 32 (i 0).val
  let c0_i32 : BitVec 32 := 0#32
  let c5_i32 : BitVec 32 := 5#32
  let c0_i32_0 : BitVec 32 := 0#32
  ![c0_i32.toNat, c5_i32.toNat]

def cc0_transform_3 (i : grid0.Coords) : Fin 2 → Nat :=
  let arg0 : BitVec 32 := BitVec.ofNat 32 (i 0).val
  let c0_i32 : BitVec 32 := 0#32
  let c6_i32 : BitVec 32 := 6#32
  let c0_i32_0 : BitVec 32 := 0#32
  ![c0_i32.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ConvFwdRefIdeal.lean ====
abbrev S1x2048x3840 : Shape := ⟨3, ![1, 2048, 3840]⟩
abbrev S1x31x512 : Shape := ⟨3, ![1, 31, 512]⟩
abbrev S1x512 : Shape := ⟨2, ![1, 512]⟩
abbrev S1x2048x512 : Shape := ⟨3, ![1, 2048, 512]⟩
abbrev S2048x512 : Shape := ⟨2, ![2048, 512]⟩
abbrev S31x1x512 : Shape := ⟨3, ![31, 1, 512]⟩
abbrev S_ : Shape := ⟨0, ![]⟩
abbrev S31x512 : Shape := ⟨2, ![31, 512]⟩
abbrev S2079x512 : Shape := ⟨2, ![2079, 512]⟩
abbrev S32x2079x512 : Shape := ⟨3, ![32, 2079, 512]⟩
abbrev S66528x512 : Shape := ⟨2, ![66528, 512]⟩
abbrev S64480x512 : Shape := ⟨2, ![64480, 512]⟩
abbrev S31x2080x512 : Shape := ⟨3, ![31, 2080, 512]⟩
abbrev S31x2048x512 : Shape := ⟨3, ![31, 2048, 512]⟩
abbrev S2048 : Shape := ⟨1, ![2048]⟩
abbrev S2048x1 : Shape := ⟨2, ![2048, 1]⟩

abbrev nBuf : Space → Nat
  | .hbm => 68
  | .vmem => 0
  | .smem => 0
  | _ => 0

abbrev bufTy : (tb : Table) → Fin (tcTables nBuf tb) → BufTy
  | .hbm, ⟨0, _⟩ => ⟨S1x2048x3840, .f32⟩
  | .hbm, ⟨1, _⟩ => ⟨S1x31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x2048x512, .f32⟩
  | .hbm, ⟨6, _⟩ => ⟨S2048x512, .f32⟩
  | .hbm, ⟨7, _⟩ => ⟨S1x2048x512, .f32⟩
  | .hbm, ⟨8, _⟩ => ⟨S2048x512, .f32⟩
  | .hbm, ⟨9, _⟩ => ⟨S31x1x512, .f32⟩
  | .hbm, ⟨10, _⟩ => ⟨S2048x512, .f32⟩
  | .hbm, ⟨11, _⟩ => ⟨S2048x512, .f32⟩
  | .hbm, ⟨12, _⟩ => ⟨S_, .f32⟩
  | .hbm, ⟨13, _⟩ => ⟨S2048x512, .f32⟩
  | .hbm, ⟨14, _⟩ => ⟨S2048x512, .f32⟩
  | .hbm, ⟨15, _⟩ => ⟨S_, .f32⟩
  | .hbm, ⟨16, _⟩ => ⟨S2048x512, .f32⟩
  | .hbm, ⟨17, _⟩ => ⟨S2048x512, .f32⟩
  | .hbm, ⟨18, _⟩ => ⟨S2048x512, .f32⟩
  | .hbm, ⟨19, _⟩ => ⟨S_, .f32⟩
  | .hbm, ⟨20, _⟩ => ⟨S31x512, .f32⟩
  | .hbm, ⟨21, _⟩ => ⟨S2079x512, .f32⟩
  | .hbm, ⟨22, _⟩ => ⟨S32x2079x512, .f32⟩
  | .hbm, ⟨23, _⟩ => ⟨S66528x512, .f32⟩
  | .hbm, ⟨24, _⟩ => ⟨S64480x512, .f32⟩
  | .hbm, ⟨25, _⟩ => ⟨S31x2080x512, .f32⟩
  | .hbm, ⟨26, _⟩ => ⟨S31x2048x512, .f32⟩
  | .hbm, ⟨27, _⟩ => ⟨S31x2048x512, .f32⟩
  | .hbm, ⟨28, _⟩ => ⟨S31x2048x512, .f32⟩
  | .hbm, ⟨29, _⟩ => ⟨S_, .f32⟩
  | .hbm, ⟨30, _⟩ => ⟨S2048x512, .f32⟩
  | .hbm, ⟨31, _⟩ => ⟨S2048x512, .f32⟩
  | .hbm, ⟨32, _⟩ => ⟨S2048x512, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x512, .f32⟩
  | .hbm, ⟨40, _⟩ => ⟨S2048x512, .f32⟩
  | .hbm, ⟨41, _⟩ => ⟨S2048x512, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x512, .f32⟩
  | .hbm, ⟨53, _⟩ => ⟨S2048x512, .f32⟩
  | .hbm, ⟨54, _⟩ => ⟨S2048x512, .f32⟩
  | .hbm, ⟨55, _⟩ => ⟨S2048x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S_, .f32⟩
  | .hbm, ⟨61, _⟩ => ⟨S2048x512, .f32⟩
  | .hbm, ⟨62, _⟩ => ⟨S2048x512, .f32⟩
  | .hbm, ⟨63, _⟩ => ⟨S_, .f32⟩
  | .hbm, ⟨64, _⟩ => ⟨S2048x512, .f32⟩
  | .hbm, ⟨65, _⟩ => ⟨S2048x512, .f32⟩
  | .hbm, ⟨66, _⟩ => ⟨S2048x512, .f32⟩
  | .hbm, ⟨67, _⟩ => ⟨S2048x512, .bf16⟩
  | _, _ => ⟨S1x2048x3840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_8 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== FirstNorm.lean ====
abbrev S1x2048x1024 : Shape := ⟨3, ![1, 2048, 1024]⟩
abbrev S1x1024 : Shape := ⟨2, ![1, 1024]⟩
abbrev S2048x1024 : Shape := ⟨2, ![2048, 1024]⟩
abbrev S2048x1 : Shape := ⟨2, ![2048, 1]⟩
abbrev S256x1024 : Shape := ⟨2, ![256, 1024]⟩
abbrev S256 : Shape := ⟨1, ![256]⟩
abbrev S256x1 : Shape := ⟨2, ![256, 1]⟩

abbrev nBuf : Space → Nat
  | .hbm => 5
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S2048x1024, .f32⟩
  | .hbm, ⟨3, _⟩ => ⟨S2048x1024, .bf16⟩
  | .hbm, ⟨4, _⟩ => ⟨S2048x1, .f32⟩
  | .local _ .vmem, ⟨0, _⟩ => ⟨S2048x1024, .f32⟩
  | .local _ .vmem, ⟨1, _⟩ => ⟨S1x1024, .f32⟩
  | .local _ .vmem, ⟨2, _⟩ => ⟨S2048x1024, .bf16⟩
  | .local _ .vmem, ⟨3, _⟩ => ⟨S2048x1, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== FirstNormRefIdeal.lean ====
abbrev S1x2048x1024 : Shape := ⟨3, ![1, 2048, 1024]⟩
abbrev S1x1024 : Shape := ⟨2, ![1, 1024]⟩
abbrev S_ : Shape := ⟨0, ![]⟩
abbrev S1x2048 : Shape := ⟨2, ![1, 2048]⟩
abbrev S1x2048x1 : Shape := ⟨3, ![1, 2048, 1]⟩
abbrev S1024 : Shape := ⟨1, ![1024]⟩
abbrev S1x1x1024 : Shape := ⟨3, ![1, 1, 1024]⟩
abbrev S2048x1024 : Shape := ⟨2, ![2048, 1024]⟩
abbrev S2048x1 : Shape := ⟨2, ![2048, 1]⟩

abbrev nBuf : Space → Nat
  | .hbm => 33
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1x1024, .f32⟩
  | .hbm, ⟨2, _⟩ => ⟨S1x2048x1024, .f32⟩
  | .hbm, ⟨3, _⟩ => ⟨S_, .f32⟩
  | .hbm, ⟨4, _⟩ => ⟨S1x2048, .f32⟩
  | .hbm, ⟨5, _⟩ => ⟨S1x2048x1, .f32⟩
  | .hbm, ⟨6, _⟩ => ⟨S_, .f32⟩
  | .hbm, ⟨7, _⟩ => ⟨S1x2048x1, .f32⟩
  | .hbm, ⟨8, _⟩ => ⟨S1x2048x1, .f32⟩
  | .hbm, ⟨9, _⟩ => ⟨S_, .f32⟩
  | .hbm, ⟨10, _⟩ => ⟨S1x2048x1, .f32⟩
  | .hbm, ⟨11, _⟩ => ⟨S1x2048x1, .f32⟩
  | .hbm, ⟨12, _⟩ => ⟨S1x2048x1, .f32⟩
  | .hbm, ⟨13, _⟩ => ⟨S1024, .f32⟩
  | .hbm, ⟨14, _⟩ => ⟨S1x2048x1024, .f32⟩
  | .hbm, ⟨15, _⟩ => ⟨S_, .f32⟩
  | .hbm, ⟨16, _⟩ => ⟨S1x2048, .f32⟩
  | .hbm, ⟨17, _⟩ => ⟨S1x2048x1, .f32⟩
  | .hbm, ⟨18, _⟩ => ⟨S_, .f32⟩
  | .hbm, ⟨19, _⟩ => ⟨S1x2048x1, .f32⟩
  | .hbm, ⟨20, _⟩ => ⟨S1x2048x1, .f32⟩
  | .hbm, ⟨21, _⟩ => ⟨S_, .f32⟩
  | .hbm, ⟨22, _⟩ => ⟨S1x2048x1, .f32⟩
  | .hbm, ⟨23, _⟩ => ⟨S1x2048x1, .f32⟩
  | .hbm, ⟨24, _⟩ => ⟨S1x2048x1, .f32⟩
  | .hbm, ⟨25, _⟩ => ⟨S1x2048x1024, .f32⟩
  | .hbm, ⟨26, _⟩ => ⟨S1x2048x1024, .f32⟩
  | .hbm, ⟨27, _⟩ => ⟨S1x1x1024, .f32⟩
  | .hbm, ⟨28, _⟩ => ⟨S1x2048x1024, .f32⟩
  | .hbm, ⟨29, _⟩ => ⟨S1x2048x1024, .f32⟩
  | .hbm, ⟨30, _⟩ => ⟨S2048x1024, .f32⟩
  | .hbm, ⟨31, _⟩ => ⟨S2048x1024, .bf16⟩
  | .hbm, ⟨32, _⟩ => ⟨S2048x1, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== DownDw.lean ====
abbrev S1x2048x2816 : Shape := ⟨3, ![1, 2048, 2816]⟩
abbrev S1x2048x1024 : Shape := ⟨3, ![1, 2048, 1024]⟩
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 7
  | .vmem => 5
  | .smem => 0
  | _ => 0

abbrev bufTy : (tb : Table) → Fin (tcTables nBuf tb) → BufTy
  | .hbm, ⟨0, _⟩ => ⟨S1x2048x2816, .f32⟩
  | .hbm, ⟨1, _⟩ => ⟨S1x2048x1024, .f32⟩
  | .hbm, ⟨2, _⟩ => ⟨S2048x2816, .f32⟩
  | .hbm, ⟨3, _⟩ => ⟨S2048x2816, .bf16⟩
  | .hbm, ⟨4, _⟩ => ⟨S2048x1024, .f32⟩
  | .hbm, ⟨5, _⟩ => ⟨S2048x1024, .bf16⟩
  | .hbm, ⟨6, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let v1 : BitVec 32 := Scalar.addi c0_i32_0 arg0
  let c0_i32_1 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![v0.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S1x2048x2816 : Shape := ⟨3, ![1, 2048, 2816]⟩
abbrev S1x2048x1024 : Shape := ⟨3, ![1, 2048, 1024]⟩
abbrev S2048x2816 : Shape := ⟨2, ![2048, 2816]⟩
abbrev S2816x2048 : Shape := ⟨2, ![2816, 2048]⟩
abbrev S2048x1024 : Shape := ⟨2, ![2048, 1024]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2048x1024, .f32⟩
  | .hbm, ⟨2, _⟩ => ⟨S2048x2816, .f32⟩
  | .hbm, ⟨3, _⟩ => ⟨S2816x2048, .f32⟩
  | .hbm, ⟨4, _⟩ => ⟨S2048x1024, .f32⟩
  | .hbm, ⟨5, _⟩ => ⟨S2816x1024, .f32⟩
  | .hbm, ⟨6, _⟩ => ⟨S2816x1024, .bf16⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamW.lean ====
abbrev S1x31x64 : Shape := ⟨3, ![1, 31, 64]⟩
abbrev S31x64 : Shape := ⟨2, ![31, 64]⟩

abbrev nBuf : Space → Nat
  | .hbm => 10
  | .vmem => 7
  | .smem => 0
  | _ => 0

abbrev bufTy : (tb : Table) → Fin (tcTables nBuf tb) → BufTy
  | .hbm, ⟨0, _⟩ => ⟨S1x31x64, .f32⟩
  | .hbm, ⟨1, _⟩ => ⟨S31x64, .f32⟩
  | .hbm, ⟨2, _⟩ => ⟨S1x31x64, .f32⟩
  | .hbm, ⟨3, _⟩ => ⟨S1x31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S31x64, .f32⟩
  | .hbm, ⟨8, _⟩ => ⟨S31x64, .f32⟩
  | .hbm, ⟨9, _⟩ => ⟨S31x64, .f32⟩
  | .local _ .vmem, ⟨0, _⟩ => ⟨S31x64, .f32⟩
  | .local _ .vmem, ⟨1, _⟩ => ⟨S31x64, .f32⟩
  | .local _ .vmem, ⟨2, _⟩ => ⟨S31x64, .f32⟩
  | .local _ .vmem, ⟨3, _⟩ => ⟨S31x64, .f32⟩
  | .local _ .vmem, ⟨4, _⟩ => ⟨S31x64, .f32⟩
  | .local _ .vmem, ⟨5, _⟩ => ⟨S31x64, .f32⟩
  | .local _ .vmem, ⟨6, _⟩ => ⟨S31x64, .f32⟩
  | _, _ => ⟨S1x31x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWRefIdeal.lean ====
abbrev S1x31x64 : Shape := ⟨3, ![1, 31, 64]⟩
abbrev S31x64 : Shape := ⟨2, ![31, 64]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x31x64, .f32⟩
  | .hbm, ⟨1, _⟩ => ⟨S31x64, .f32⟩
  | .hbm, ⟨2, _⟩ => ⟨S1x31x64, .f32⟩
  | .hbm, ⟨3, _⟩ => ⟨S1x31x64, .f32⟩
  | .hbm, ⟨4, _⟩ => ⟨S31x64, .f32⟩
  | .hbm, ⟨5, _⟩ => ⟨S31x64, .f32⟩
  | .hbm, ⟨6, _⟩ => ⟨S31x64, .f32⟩
  | .hbm, ⟨7, _⟩ => ⟨S_, .f32⟩
  | .hbm, ⟨8, _⟩ => ⟨S31x64, .f32⟩
  | .hbm, ⟨9, _⟩ => ⟨S31x64, .f32⟩
  | .hbm, ⟨10, _⟩ => ⟨S_, .f32⟩
  | .hbm, ⟨11, _⟩ => ⟨S31x64, .f32⟩
  | .hbm, ⟨12, _⟩ => ⟨S31x64, .f32⟩
  | .hbm, ⟨13, _⟩ => ⟨S31x64, .f32⟩
  | .hbm, ⟨14, _⟩ => ⟨S_, .f32⟩
  | .hbm, ⟨15, _⟩ => ⟨S31x64, .f32⟩
  | .hbm, ⟨16, _⟩ => ⟨S31x64, .f32⟩
  | .hbm, ⟨17, _⟩ => ⟨S31x64, .f32⟩
  | .hbm, ⟨18, _⟩ => ⟨S_, .f32⟩
  | .hbm, ⟨19, _⟩ => ⟨S31x64, .f32⟩
  | .hbm, ⟨20, _⟩ => ⟨S31x64, .f32⟩
  | .hbm, ⟨21, _⟩ => ⟨S31x64, .f32⟩
  | .hbm, ⟨22, _⟩ => ⟨S_, .f32⟩
  | .hbm, ⟨23, _⟩ => ⟨S31x64, .f32⟩
  | .hbm, ⟨24, _⟩ => ⟨S31x64, .f32⟩
  | .hbm, ⟨25, _⟩ => ⟨S_, .f32⟩
  | .hbm, ⟨26, _⟩ => ⟨S31x64, .f32⟩
  | .hbm, ⟨27, _⟩ => ⟨S31x64, .f32⟩
  | .hbm, ⟨28, _⟩ => ⟨S31x64, .f32⟩
  | .hbm, ⟨29, _⟩ => ⟨S_, .f32⟩
  | .hbm, ⟨30, _⟩ => ⟨S31x64, .f32⟩
  | .hbm, ⟨31, _⟩ => ⟨S31x64, .f32⟩
  | .hbm, ⟨32, _⟩ => ⟨S31x64, .f32⟩
  | .hbm, ⟨33, _⟩ => ⟨S_, .f32⟩
  | .hbm, ⟨34, _⟩ => ⟨S31x64, .f32⟩
  | .hbm, ⟨35, _⟩ => ⟨S31x64, .f32⟩
  | .hbm, ⟨36, _⟩ => ⟨S31x64, .f32⟩
  | .hbm, ⟨37, _⟩ => ⟨S_, .f32⟩
  | .hbm, ⟨38, _⟩ => ⟨S31x64, .f32⟩
  | .hbm, ⟨39, _⟩ => ⟨S31x64, .f32⟩
  | _, _ => ⟨S1x31x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== StackedDw.lean ====
abbrev S1x2048x2816 : Shape := ⟨3, ![1, 2048, 2816]⟩
abbrev S1x2048x1024 : Shape := ⟨3, ![1, 2048, 1024]⟩
abbrev S2048x2816 : Shape := ⟨2, ![2048, 2816]⟩
abbrev S2048x1024 : Shape := ⟨2, ![2048, 1024]⟩
abbrev S5632x1024 : Shape := ⟨2, ![5632, 1024]⟩
abbrev S1x5632 : Shape := ⟨2, ![1, 5632]⟩
abbrev S2048x1408 : Shape := ⟨2, ![2048, 1408]⟩
abbrev S1408x1024 : Shape := ⟨2, ![1408, 1024]⟩
abbrev S1x1408 : Shape := ⟨2, ![1, 1408]⟩
abbrev S1408 : Shape := ⟨1, ![1408]⟩

abbrev nBuf : Space → Nat
  | .hbm => 11
  | .vmem => 9
  | .smem => 0
  | _ => 0

abbrev bufTy : (tb : Table) → Fin (tcTables nBuf tb) → BufTy
  | .hbm, ⟨0, _⟩ => ⟨S1x2048x2816, .f32⟩
  | .hbm, ⟨1, _⟩ => ⟨S1x2048x2816, .f32⟩
  | .hbm, ⟨2, _⟩ => ⟨S1x2048x1024, .f32⟩
  | .hbm, ⟨3, _⟩ => ⟨S2048x2816, .f32⟩
  | .hbm, ⟨4, _⟩ => ⟨S2048x2816, .bf16⟩
  | .hbm, ⟨5, _⟩ => ⟨S2048x2816, .f32⟩
  | .hbm, ⟨6, _⟩ => ⟨S2048x2816, .bf16⟩
  | .hbm, ⟨7, _⟩ => ⟨S2048x1024, .f32⟩
  | .hbm, ⟨8, _⟩ => ⟨S2048x1024, .bf16⟩
  | .hbm, ⟨9, _⟩ => ⟨S5632x1024, .bf16⟩
  | .hbm, ⟨10, _⟩ => ⟨S1x5632, .f32⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1x1408, .f32⟩
  | .local _ .vmem, ⟨8, _⟩ => ⟨S1x1408, .f32⟩
  | _, _ => ⟨S1x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .sge arg0 c0_i32
  let c2_i32 : BitVec 32 := 2#32
  let v1 : BitVec 1 := Scalar.cmpi .slt arg0 c2_i32
  let v2 : BitVec 1 := Scalar.andi v0 v1
  let v3 : BitVec 32 := Scalar.extui v2
  let c0_i32_0 : BitVec 32 := 0#32
  let v4 : BitVec 1 := Scalar.cmpi .ne v3 c0_i32_0
  v4

def k0_cond2 (i : grid0.Coords) : BitVec 1 :=
  let arg0 : BitVec 32 := BitVec.ofNat 32 (i 0).val
  let c2_i32_1 : BitVec 32 := 2#32
  let v5 : BitVec 1 := Scalar.cmpi .sge arg0 c2_i32_1
  let c4_i32 : BitVec 32 := 4#32
  let v6 : BitVec 1 := Scalar.cmpi .slt arg0 c4_i32
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== StackedDwRefIdeal.lean ====
abbrev S1x2048x2816 : Shape := ⟨3, ![1, 2048, 2816]⟩
abbrev S1x2048x1024 : Shape := ⟨3, ![1, 2048, 1024]⟩
abbrev S1x2048x5632 : Shape := ⟨3, ![1, 2048, 5632]⟩
abbrev S2048x5632 : Shape := ⟨2, ![2048, 5632]⟩
abbrev S5632x2048 : Shape := ⟨2, ![5632, 2048]⟩
abbrev S2048x1024 : Shape := ⟨2, ![2048, 1024]⟩
abbrev S5632x1024 : Shape := ⟨2, ![5632, 1024]⟩
abbrev S_ : Shape := ⟨0, ![]⟩
abbrev S5632 : Shape := ⟨1, ![5632]⟩
abbrev S1x5632 : Shape := ⟨2, ![1, 5632]⟩

abbrev nBuf : Space → Nat
  | .hbm => 12
  | .vmem => 0
  | .smem => 0
  | _ => 0

abbrev bufTy : (tb : Table) → Fin (tcTables nBuf tb) → BufTy
  | .hbm, ⟨0, _⟩ => ⟨S1x2048x2816, .f32⟩
  | .hbm, ⟨1, _⟩ => ⟨S1x2048x2816, .f32⟩
  | .hbm, ⟨2, _⟩ => ⟨S1x2048x1024, .f32⟩
  | .hbm, ⟨3, _⟩ => ⟨S1x2048x5632, .f32⟩
  | .hbm, ⟨4, _⟩ => ⟨S2048x5632, .f32⟩
  | .hbm, ⟨5, _⟩ => ⟨S5632x2048, .f32⟩
  | .hbm, ⟨6, _⟩ => ⟨S2048x1024, .f32⟩
  | .hbm, ⟨7, _⟩ => ⟨S5632x1024, .f32⟩
  | .hbm, ⟨8, _⟩ => ⟨S5632x1024, .bf16⟩
  | .hbm, ⟨9, _⟩ => ⟨S_, .f32⟩
  | .hbm, ⟨10, _⟩ => ⟨S5632, .f32⟩
  | .hbm, ⟨11, _⟩ => ⟨S1x5632, .f32⟩
  | _, _ => ⟨S1x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Common.lean ====
/-
  Facts that several pairs use: the extended reals that are finite, finite sums of them, the float literals that the
  programs name, and the logistic function, whose value is a real in [0, 1] at every extended real.
-/
module

public import Idealize.ShloMosaic.PureOps.Ideal
public import Idealize.ShloMosaic.PureOps.Ideal.Laws
public import Idealize.ShloMosaic.Lib.Pipeline.Value
public import Idealize.ShloMosaic.Lib.ValueIdx
public import Idealize.ShloMosaic.Lib.ReduceAll

@[expose] public section

set_option maxRecDepth 16384

noncomputable section

namespace Cert.Common

open Idealize.ShloMosaic
open scoped BigOperators

/-- An extended real that is a real number. -/
def Real (x : EReal) : Prop := ∃ r : ℝ, x = (r : EReal)

theorem Real.coe (r : ℝ) : Real (r : EReal) := ⟨r, rfl⟩

theorem Real.mul {x y : EReal} (hx : Real x) (hy : Real y) : Real (x * y) := by
  obtain ⟨a, rfl⟩ := hx; obtain ⟨b, rfl⟩ := hy; exact ⟨a * b, (EReal.coe_mul a b).symm⟩

theorem Real.add {x y : EReal} (hx : Real x) (hy : Real y) : Real (x + y) := by
  obtain ⟨a, rfl⟩ := hx; obtain ⟨b, rfl⟩ := hy; exact ⟨a + b, (EReal.coe_add a b).symm⟩

/-- The real number that a finite extended real is: its coercion gives the extended real back. -/
theorem Real.coe_toReal {x : EReal} (hx : Real x) : ((x.toReal : ℝ) : EReal) = x := by
  obtain ⟨a, rfl⟩ := hx; rfl

/-- The coercion of the reals into the extended reals goes through a finite sum. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real numbers is one. -/
theorem Real.sum {ι : Type} (s : Finset ι) {f : ι → EReal} (h : ∀ i, Real (f i)) : Real (∑ i ∈ s, f i) := by
  choose g hg using h
  exact ⟨∑ i ∈ s, g i, by rw [coe_sum]; exact Finset.sum_congr rfl fun i _ => hg i⟩

/-- What the comparison `|x| < ∞` of a precondition says. -/
theorem real_of_abs_lt {x : EReal} (h : max x (-x) < ⊤) : Real x := by
  induction x using EReal.rec with
  | bot => simp at h
  | top => simp at h
  | coe r => exact ⟨r, rfl⟩

/-- Two indices of a two-axis array are equal when their coordinates are. -/
theorem idx2_ext {n0 n1 : Nat} {i j : (⟨2, ![n0, n1]⟩ : Shape).Idx} (h0 : (i 0).val = (j 0).val) (h1 : (i 1).val = (j 1).val) : i = j :=
  funext fun a => match a with
    | ⟨0, _⟩ => Fin.ext h0
    | ⟨1, _⟩ => Fin.ext h1

/-- A running sum, started with its first term, is the sum of the terms so far. -/
theorem acc_sum {N : Nat} (a : (n : Nat) → n < N → EReal) (f : Fin N → EReal) (h0 : ∀ h, a 0 h = f ⟨0, h⟩)
    (hs : ∀ n h, a (n + 1) h = a n (Nat.lt_of_succ_lt h) + f ⟨n + 1, h⟩) :
    ∀ n (h : n < N), a n h = ∑ t : Fin (n + 1), f ⟨t.val, lt_of_le_of_lt (Nat.le_of_lt_succ t.isLt) h⟩
  | 0, h => by rw [h0, Fin.sum_univ_one]; rfl
  | n + 1, h => by rw [hs, acc_sum a f h0 hs n, Fin.sum_univ_castSucc (n := n + 1)]; rfl

/-- A sum over `a` blocks of `b` consecutive indices is the sum over all of them. -/
theorem sum_blocks {M : Type} [AddCommMonoid M] (a b : Nat) (f : Fin (a * b) → M) :
    ∑ t : Fin a, ∑ r : Fin b, f ⟨b * t.val + r.val, by
        calc b * t.val + r.val < b * t.val + b := by omega
          _ = b * (t.val + 1) := by rw [Nat.mul_succ]
          _ ≤ b * a := Nat.mul_le_mul_left _ t.isLt
          _ = a * b := Nat.mul_comm ..⟩ = ∑ i, f i := by
  rw [← Fintype.sum_prod_type']
  exact Fintype.sum_equiv finProdFinEquiv _ _ fun p => congrArg f (Fin.ext (Nat.add_comm _ _))

/-- The literal +∞. -/
theorem ofBits_inf : Ideal.ofBits .f32 0x7F800000#32 = ⊤ := by simp [Ideal.ofBits, Ideal.ieee]

/-- The literal 1. -/
theorem ofBits_one : Ideal.ofBits .f32 0x3F800000#32 = ((1 : ℝ) : EReal) := by
  simp [Ideal.ofBits, Ideal.ieee, -EReal.coe_mul]; norm_num

/-- A precondition's `jnp.all(jnp.abs(x) < jnp.inf)`, read back: every element is a real number. -/
theorem real_of_all {s u : Shape} {axes : List (Fin s.rank)} {d : Fin u.rank → Fin s.rank} (hb : u.BroadcastsInDim s d)
    (h : s.ReducesTo axes u) (hu : 0 < u.numel) [Subsingleton u.Idx] (x : FVec Ideal s .f32) (j : u.Idx) (init : IVec u 1)
    (e : Host.reduce IntOp.andi (cmpf .olt (Host.absf x) (broadcastInDim s d hb (constant u .f32 0x7F800000#32))) init h hu j = 1#1)
    (i : s.Idx) : Real (x i) := by
  have h1 := Host.reduce_andi_all _ _ _ _ j e i
  rw [show cmpf .olt (Host.absf x) (broadcastInDim s d hb (constant u .f32 0x7F800000#32)) i
      = Ideal.cmp .olt (max (x i) (-(x i))) (Ideal.ofBits .f32 0x7F800000#32) from rfl] at h1
  apply real_of_abs_lt
  rw [ofBits_inf] at h1
  have key : ∀ b : Bool, BitVec.ofBool b = 1#1 → b = true := by decide
  exact of_decide_eq_true (key _ h1)

/-- The logistic function as the host computes it. -/
theorem logistic_eq (x : EReal) : Ideal.div ((1 : ℝ) : EReal) (((1 : ℝ) : EReal) + Ideal.exp (-x)) = Ideal.logistic x := rfl

/-- The logistic function's value at every extended real is a real number. -/
theorem logistic_real (x : EReal) : Real (Ideal.logistic x) := by
  induction x using EReal.rec with
  | bot => exact ⟨0, by simp⟩
  | top => exact ⟨1, by simp⟩
  | coe r => exact ⟨_, Ideal.logistic_coe r⟩

/-- The gradient of `silu` at every extended real `g`, a finite cotangent `d` times it: the factored form
    `d · σ · (1 + g · (1 − σ))` is the sum that the product rule gives. -/
theorem silu_grad {d : EReal} (hd : Real d) (g : EReal) :
    d * Ideal.logistic g * (((1 : ℝ) : EReal) + g * (((1 : ℝ) : EReal) - Ideal.logistic g))
      = d * Ideal.logistic g + g * d * (Ideal.logistic g * (((1 : ℝ) : EReal) - Ideal.logistic g)) := by
  obtain ⟨d, rfl⟩ := hd
  induction g using EReal.rec with
  | bot => simp
  | top =>
    have h : (1 : EReal) - 1 = 0 := by rw [← EReal.coe_one, ← EReal.coe_sub, sub_self, EReal.coe_zero]
    simp [h]
  | coe r =>
    rw [Ideal.logistic_coe]
    simp only [← EReal.coe_mul, ← EReal.coe_sub, ← EReal.coe_add]
    congr 1
    ring

end Cert.Common

end
-- ==== Proof.SwigluK.lean ====
/-
  The SwiGLU gradient kernel: what its two result arrays hold, index by index, over the extended reals.
-/
module

public import proofs.«01_k».proof.Proof.Common
public import proofs.«01_k».proof.Proof.Gen.SwigluBwdIdeal.Value
public import Idealize.ShloMosaic.Lib.Pointwise
public import Idealize.ShloMosaic.Lib.StableHlo.ReadAt
public import Idealize.ShloMosaic.Lib.Claim

@[expose] public section

set_option maxRecDepth 16384

noncomputable section

namespace Cert.SwigluKernel

open Idealize.ShloMosaic Idealize.ShloMosaic.TcCoe Idealize.SL.Sem
open Idealize.ShloMosaic.Pipeline (Dat)
open Cert.SwigluBwdIdeal Cert.SwigluBwdIdeal.Gen
open scoped BigOperators

variable (m : (ℓ : Loc nD τ sig) → Buf (Elt Ideal) ℓ) (c : Dev nD)

/-- The four arguments' contents on device `c`: gate, up, the weight and the cotangent. -/
abbrev gate : Vec Ideal S1x2048x2816 .f32 := m ((c : Thread nD τ).loc main_arg0)
abbrev up : Vec Ideal S1x2048x2816 .f32 := m ((c : Thread nD τ).loc main_arg1)
abbrev wt : Vec Ideal S1x2816x1024 .f32 := m ((c : Thread nD τ).loc main_arg2)
abbrev ct : Vec Ideal S1x2048x1024 .f32 := m ((c : Thread nD τ).loc main_arg3)

theorem hz : (![0, 0] : Fin 2 → Nat) = fun _ => 0 := funext fun a => by fin_cases a <;> rfl

/-! ## The staged arrays: each argument without its leading axis of size one -/

theorem V_ct (r : Fin 2048) (k : Fin 1024) : V m c main_v1 (ix2 r k) = ct m c (ix3 0 r k) := by
  unfold V; after_reads_at
theorem V_wt (r : Fin 2816) (k : Fin 1024) : V m c main_v3 (ix2 r k) = wt m c (ix3 0 r k) := by
  unfold V; after_reads_at
theorem V_gate (r : Fin 2048) (k : Fin 2816) : V m c main_v5 (ix2 r k) = gate m c (ix3 0 r k) := by
  unfold V; after_reads_at
theorem V_up (r : Fin 2048) (k : Fin 2816) : V m c main_v7 (ix2 r k) = up m c (ix3 0 r k) := by
  unfold V; after_reads_at

/-! ## One block's value -/

/-- The first result's block at an index: `d · up · σ · (1 + gate · (1 − σ))`, `d` the row of the product. -/
theorem out4_apply (x0 : Vec Ideal S1024x1024 .bf16) (x1 : Vec Ideal S1408x1024 .bf16) (x2 x3 : Vec Ideal S1024x1408 .bf16)
    (r : Fin 1024) (j : Fin 1408) :
    out0_4 x0 x1 x2 x3 (ix2 r j) = (∑ k : Fin 1024, x0 (ix2 r k) * x1 (ix2 j k)) * x3 (ix2 r j) * Ideal.logistic (x2 (ix2 r j))
      * (((1 : ℝ) : EReal) + x2 (ix2 r j) * (((1 : ℝ) : EReal) - Ideal.logistic (x2 (ix2 r j)))) := by
  unfold out0_4
  rw [View.canon_unit_zero hz]
  simp only [View.ld_unit_zero (S := S1024x1024) hz, View.ld_unit_zero (S := S1408x1024) hz, View.ld_unit_zero (S := S1024x1408) hz]
  unfold k0_pay4 k0_pay3 k0_pay2 k0_pay1
  simp only [pointwise, Common.ofBits_one, zero_add]

/-- The second result's block at an index: `d · gate · σ`. -/
theorem out5_apply (x0 : Vec Ideal S1024x1024 .bf16) (x1 : Vec Ideal S1408x1024 .bf16) (x2 x3 : Vec Ideal S1024x1408 .bf16)
    (r : Fin 1024) (j : Fin 1408) :
    out0_5 x0 x1 x2 x3 (ix2 r j) = (∑ k : Fin 1024, x0 (ix2 r k) * x1 (ix2 j k)) * x2 (ix2 r j) * Ideal.logistic (x2 (ix2 r j)) := by
  unfold out0_5
  rw [View.canon_unit_zero hz]
  simp only [View.ld_unit_zero (S := S1024x1024) hz, View.ld_unit_zero (S := S1408x1024) hz, View.ld_unit_zero (S := S1024x1408) hz]
  unfold k0_pay5 k0_pay3 k0_pay2 k0_pay1
  simp only [pointwise, zero_add]

/-! ## The blocks that point `t` reads and writes -/

theorem t_lt (t : Fin cfg0.N) : t.val < 4 := t.isLt

/-- Row `r` of the row block of point `t`, and column `j` of its column block. -/
def row (t : Fin cfg0.N) (r : Fin 1024) : Fin 2048 := ⟨t.val % 2 * 1024 + r.val, by omega⟩
def col (t : Fin cfg0.N) (j : Fin 1408) : Fin 2816 := ⟨t.val / 2 * 1408 + j.val, by have := t_lt t; omega⟩

theorem index_0 : ∀ t : Fin grid0.N, win0_0.index t = ![t.val % 2, 0] := by decide +kernel
theorem index_1 : ∀ t : Fin grid0.N, win0_1.index t = ![t.val / 2, 0] := by decide +kernel
theorem index_2 : ∀ t : Fin grid0.N, win0_2.index t = ![t.val % 2, t.val / 2] := by decide +kernel
theorem index_3 : ∀ t : Fin grid0.N, win0_3.index t = ![t.val % 2, t.val / 2] := by decide +kernel
theorem index_4 : ∀ t : Fin grid0.N, win0_4.index t = ![t.val % 2, t.val / 2] := by decide +kernel
theorem index_5 : ∀ t : Fin grid0.N, win0_5.index t = ![t.val % 2, t.val / 2] := by decide +kernel

theorem iblk_0 (t : Fin cfg0.N) (r k : Fin 1024) : iblk m c 0 t (ix2 r k) = ct m c (ix3 0 (row t r) k) := by
  rw [← V_ct]
  unfold iblk
  rw [View.read_apply]
  show V m c main_v1 _ = _
  congr 1; funext a; apply Fin.ext
  match a with
  | ⟨0, _⟩ => show win0_0.index t 0 * 1024 + 1 * r.val = _; rw [index_0]; simp [row]
  | ⟨1, _⟩ => show win0_0.index t 1 * 1024 + 1 * k.val = _; rw [index_0]; simp

theorem iblk_1 (t : Fin cfg0.N) (j : Fin 1408) (k : Fin 1024) : iblk m c 1 t (ix2 j k) = wt m c (ix3 0 (col t j) k) := by
  rw [← V_wt]
  unfold iblk
  rw [View.read_apply]
  show V m c main_v3 _ = _
  congr 1; funext a; apply Fin.ext
  match a with
  | ⟨0, _⟩ => show win0_1.index t 0 * 1408 + 1 * j.val = _; rw [index_1]; simp [col]
  | ⟨1, _⟩ => show win0_1.index t 1 * 1024 + 1 * k.val = _; rw [index_1]; simp

theorem iblk_2 (t : Fin cfg0.N) (r : Fin 1024) (j : Fin 1408) : iblk m c 2 t (ix2 r j) = gate m c (ix3 0 (row t r) (col t j)) := by
  rw [← V_gate]
  unfold iblk
  rw [View.read_apply]
  show V m c main_v5 _ = _
  congr 1; funext a; apply Fin.ext
  match a with
  | ⟨0, _⟩ => show win0_2.index t 0 * 1024 + 1 * r.val = _; rw [index_2]; simp [row]
  | ⟨1, _⟩ => show win0_2.index t 1 * 1408 + 1 * j.val = _; rw [index_2]; simp [col]

theorem iblk_3 (t : Fin cfg0.N) (r : Fin 1024) (j : Fin 1408) : iblk m c 3 t (ix2 r j) = up m c (ix3 0 (row t r) (col t j)) := by
  rw [← V_up]
  unfold iblk
  rw [View.read_apply]
  show V m c main_v7 _ = _
  congr 1; funext a; apply Fin.ext
  match a with
  | ⟨0, _⟩ => show win0_3.index t 0 * 1024 + 1 * r.val = _; rw [index_3]; simp [row]
  | ⟨1, _⟩ => show win0_3.index t 1 * 1408 + 1 * j.val = _; rw [index_3]; simp [col]

/-! ## The two result arrays -/

/-- The gradient with respect to `silu(gate) · up`: the cotangent times the weight's transpose. -/
def dact (r : Fin 2048) (j : Fin 2816) : EReal := ∑ k : Fin 1024, ct m c (ix3 0 r k) * wt m c (ix3 0 j k)

/-- What the first result array holds: the gradient of `gate`. -/
def dgate : Vec Ideal S2048x2816 .bf16 := fun y =>
  dact m c (y 0) (y 1) * up m c (ix3 0 (y 0) (y 1)) * Ideal.logistic (gate m c (ix3 0 (y 0) (y 1)))
    * (((1 : ℝ) : EReal) + gate m c (ix3 0 (y 0) (y 1)) * (((1 : ℝ) : EReal) - Ideal.logistic (gate m c (ix3 0 (y 0) (y 1)))))

/-- What the second result array holds: the gradient of `up`. -/
def dup : Vec Ideal S2048x2816 .bf16 := fun y =>
  dact m c (y 0) (y 1) * gate m c (ix3 0 (y 0) (y 1)) * Ideal.logistic (gate m c (ix3 0 (y 0) (y 1)))

/-- An array read through block `t` of a result window. -/
theorem read_4 (G : Vec Ideal S2048x2816 .bf16) (t : Fin cfg0.N) (r : Fin 1024) (j : Fin 1408) :
    ((cfg0.win 4).blk t).view.read (Elt Ideal) G (ix2 r j) = G (ix2 (row t r) (col t j)) := by
  rw [View.read_apply]
  show G _ = _
  congr 1; funext a; apply Fin.ext
  match a with
  | ⟨0, _⟩ => show win0_4.index t 0 * 1024 + 1 * r.val = _; rw [index_4]; simp [row]
  | ⟨1, _⟩ => show win0_4.index t 1 * 1408 + 1 * j.val = _; rw [index_4]; simp [col]

theorem read_5 (G : Vec Ideal S2048x2816 .bf16) (t : Fin cfg0.N) (r : Fin 1024) (j : Fin 1408) :
    ((cfg0.win 5).blk t).view.read (Elt Ideal) G (ix2 r j) = G (ix2 (row t r) (col t j)) := by
  rw [View.read_apply]
  show G _ = _
  congr 1; funext a; apply Fin.ext
  match a with
  | ⟨0, _⟩ => show win0_5.index t 0 * 1024 + 1 * r.val = _; rw [index_5]; simp [row]
  | ⟨1, _⟩ => show win0_5.index t 1 * 1408 + 1 * j.val = _; rw [index_5]; simp [col]

theorem flushed_dgate (t : Fin cfg0.N) :
    (dats m 0 c).flushed 4 t = ((cfg0.win 4).blk t).view.read (Elt Ideal) (dgate m c) := by
  rw [Value.flushed4]
  funext y
  obtain ⟨r, j, rfl⟩ : ∃ (r : Fin 1024) (j : Fin 1408), y = ix2 r j := ⟨y 0, y 1, eq_ix2 y⟩
  rw [read_4]
  refine (out4_apply (iblk m c 0 t) (iblk m c 1 t) (iblk m c 2 t) (iblk m c 3 t) r j).trans ?_
  simp only [iblk_0, iblk_1, iblk_2, iblk_3, dgate, dact, ix2_0, ix2_1]

theorem flushed_dup (t : Fin cfg0.N) :
    (dats m 0 c).flushed 5 t = ((cfg0.win 5).blk t).view.read (Elt Ideal) (dup m c) := by
  rw [Value.flushed5]
  funext y
  obtain ⟨r, j, rfl⟩ : ∃ (r : Fin 1024) (j : Fin 1408), y = ix2 r j := ⟨y 0, y 1, eq_ix2 y⟩
  rw [read_5]
  refine (out5_apply (iblk m c 0 t) (iblk m c 1 t) (iblk m c 2 t) (iblk m c 3 t) r j).trans ?_
  simp only [iblk_0, iblk_1, iblk_2, dup, dact, ix2_0, ix2_1]

/-- The point whose block holds an index of a result array. -/
def pt (i : S2048x2816.Idx) : Fin cfg0.N :=
  ⟨(i 1).val / 1408 * 2 + (i 0).val / 1024, by
    have h0 : (i 0).val < 2048 := (i 0).isLt
    have h1 : (i 1).val < 2816 := (i 1).isLt
    show _ < 4; omega⟩

theorem final_dgate : (dats m 0 c).arrAt 4 cfg0.N = dgate m c :=
  (dats m 0 c).arrAt_eq_of_cover 4 (dgate m c) (fun t _ => flushed_dgate m c t) fun i =>
    ⟨pt i, flush0_4 _, by
      show i ∈ ((View.whole main_v8_0).slice (win0_4.rect (pt i))).set
      rw [View.set_slice_whole, Rect.mem_set_unit]
      have h0 : (i 0).val < 2048 := (i 0).isLt
      have h1 : (i 1).val < 2816 := (i 1).isLt
      intro a
      match a with
      | ⟨0, _⟩ => show win0_4.index (pt i) 0 * 1024 ≤ (i 0 : Nat) ∧ (i 0 : Nat) < win0_4.index (pt i) 0 * 1024 + 1024
                  rw [index_4]; simp [pt]; omega
      | ⟨1, _⟩ => show win0_4.index (pt i) 1 * 1408 ≤ (i 1 : Nat) ∧ (i 1 : Nat) < win0_4.index (pt i) 1 * 1408 + 1408
                  rw [index_4]; simp [pt]; omega⟩

theorem final_dup : (dats m 0 c).arrAt 5 cfg0.N = dup m c :=
  (dats m 0 c).arrAt_eq_of_cover 5 (dup m c) (fun t _ => flushed_dup m c t) fun i =>
    ⟨pt i, flush0_5 _, by
      show i ∈ ((View.whole main_v8_1).slice (win0_5.rect (pt i))).set
      rw [View.set_slice_whole, Rect.mem_set_unit]
      have h0 : (i 0).val < 2048 := (i 0).isLt
      have h1 : (i 1).val < 2816 := (i 1).isLt
      intro a
      match a with
      | ⟨0, _⟩ => show win0_5.index (pt i) 0 * 1024 ≤ (i 0 : Nat) ∧ (i 0 : Nat) < win0_5.index (pt i) 0 * 1024 + 1024
                  rw [index_5]; simp [pt]; omega
      | ⟨1, _⟩ => show win0_5.index (pt i) 1 * 1408 ≤ (i 1 : Nat) ∧ (i 1 : Nat) < win0_5.index (pt i) 1 * 1408 + 1408
                  rw [index_5]; simp [pt]; omega⟩

end Cert.SwigluKernel

end
-- ==== Proof.Swiglu.lean ====
/-
  The SwiGLU gradient: the kernel's two result arrays are the two gradients that differentiating
  `(silu(gate) · up) @ w` gives.
-/
module

public import proofs.«01_k».proof.Defs
public import proofs.«01_k».proof.Proof.SwigluK
public import proofs.«01_k».proof.Proof.Gen.SwigluBwdRefIdeal.Run
public import proofs.«01_k».proof.Proof.Gen.SwigluBwdRefIdeal.Read
public import proofs.«01_k».proof.Proof.Gen.Pre_swiglu_finite
public import Idealize.ShloMosaic.Lib.Affine

@[expose] public section

set_option maxRecDepth 16384

noncomputable section

namespace Cert.SwigluProof

open Idealize.ShloMosaic Idealize.ShloMosaic.TcCoe Idealize.SL.Sem
open Cert.SwigluKernel
open scoped BigOperators

/-! ## The reference's results at an index -/

open Cert.SwigluBwdRefIdeal.Read in
theorem ref_dgate (g u : Vec Ideal SwigluBwdRefIdeal.S1x2048x2816 .f32) (w : Vec Ideal SwigluBwdRefIdeal.S1x2816x1024 .f32)
    (ct : Vec Ideal SwigluBwdRefIdeal.S1x2048x1024 .f32) (r : Fin 2048) (j : Fin 2816) :
    val_main_v9 (F := Ideal) g u w ct (ix2 r j)
      = (∑ k : Fin 1024, ct (ix3 0 r k) * w (ix3 0 j k)) * u (ix3 0 r j) * Ideal.logistic (g (ix3 0 r j))
        + g (ix3 0 r j) * ((∑ k : Fin 1024, ct (ix3 0 r k) * w (ix3 0 j k)) * u (ix3 0 r j))
          * (Ideal.logistic (g (ix3 0 r j)) * (((1 : ℝ) : EReal) - Ideal.logistic (g (ix3 0 r j)))) := by
  rw [← val_main_v9_eq]
  simp only [pointwise, Common.ofBits_one, Common.logistic_eq, zero_add]

open Cert.SwigluBwdRefIdeal.Read in
theorem ref_dup (g : Vec Ideal SwigluBwdRefIdeal.S1x2048x2816 .f32) (w : Vec Ideal SwigluBwdRefIdeal.S1x2816x1024 .f32)
    (ct : Vec Ideal SwigluBwdRefIdeal.S1x2048x1024 .f32) (r : Fin 2048) (j : Fin 2816) :
    val_main_v11 (F := Ideal) g w ct (ix2 r j)
      = g (ix3 0 r j) * Ideal.logistic (g (ix3 0 r j)) * (∑ k : Fin 1024, ct (ix3 0 r k) * w (ix3 0 j k)) := by
  rw [← val_main_v11_eq]
  simp only [pointwise, Common.ofBits_one, Common.logistic_eq, zero_add]

/-! ## What the precondition gives -/

theorem finite_of_pre (m) (h : Cert.Pre_SwigluBwdIdeal_swiglu_finite m) (c : Dev Cert.SwigluBwdIdeal.nD) :
    (∀ i, Common.Real (up m c i)) ∧ (∀ i, Common.Real (wt m c i)) ∧ ∀ i, Common.Real (ct m c i) := by
  have e := congrFun (h c) ix0
  simp only [Cert.Pre_swiglu_finite.fn, andi] at e
  obtain ⟨e1, e3⟩ := IntOp.andi_eq_one.mp e
  obtain ⟨e1, e2⟩ := IntOp.andi_eq_one.mp e1
  exact ⟨Common.real_of_all _ _ _ _ _ _ e1, Common.real_of_all _ _ _ _ _ _ e2, Common.real_of_all _ _ _ _ _ _ e3⟩

/-- The two programs compute the same two gradients. -/
theorem algebraic : Cert.algebraic_SwigluBwdIdeal_SwigluBwdRefIdeal_pre_swiglu_finite := by
  intro m g m' g' hpre hagree
  refine ⟨fun c => dgate m c, fun c => dup m c, (θ_run Cert.SwigluBwdIdeal.defs _ _).mono (fun r h c => ?_) (Cert.SwigluBwdIdeal.Value.run_blocks m g),
    (θ_run Cert.SwigluBwdRefIdeal.defs _ _).mono (fun r h c => ?_) (Cert.SwigluBwdRefIdeal.Value.run (F := Ideal) m' g')⟩
  · obtain ⟨h4, h5, ha⟩ := h c
    exact ⟨h4.trans (final_dgate m c), h5.trans (final_dup m c), ha⟩
  · obtain ⟨h4, h5, ha⟩ := h c
    obtain ⟨e0, e1, e2, e3⟩ := hagree c
    obtain ⟨hu, hw, hc⟩ := finite_of_pre m hpre c
    rw [e0, e1, e2, e3, Cert.SwigluBwdRefIdeal.Read.val_main_v9_eq] at h4
    rw [e0, e2, e3, Cert.SwigluBwdRefIdeal.Read.val_main_v11_eq] at h5
    refine ⟨h4.trans ?_, h5.trans ?_, ha⟩
    · funext y
      obtain ⟨r, j, rfl⟩ : ∃ (r : Fin 2048) (j : Fin 2816), y = ix2 r j := ⟨y 0, y 1, eq_ix2 y⟩
      rw [ref_dgate]
      exact (Common.silu_grad ((Common.Real.sum _ fun k => (hc _).mul (hw _)).mul (hu _)) _).symm
    · funext y
      obtain ⟨r, j, rfl⟩ : ∃ (r : Fin 2048) (j : Fin 2816), y = ix2 r j := ⟨y 0, y 1, eq_ix2 y⟩
      rw [ref_dup]
      exact (mul_comm _ _).trans (mul_assoc _ _ _).symm

/-- The reference's frame. -/
theorem frame_ref : Cert.quiescent_SwigluBwdRefIdeal := fun m ρ _ =>
  (θ_run Cert.SwigluBwdRefIdeal.defs _ _).mono (fun r h => ⟨fun c => (h c).2.2, sem_eq_zero_of_no_sems (by decide) r.2⟩)
    (Cert.SwigluBwdRefIdeal.Value.run (F := Ideal) m ρ)

end Cert.SwigluProof

end
-- ==== Proof.MergeK.lean ====
/-
  The merge gate's gradient kernel: what its four result arrays hold, index by index, over the extended reals.
-/
module

public import proofs.«01_k».proof.Proof.Common
public import proofs.«01_k».proof.Proof.Gen.MergeBwdIdeal.Value
public import Idealize.ShloMosaic.Lib.Pointwise
public import Idealize.ShloMosaic.Lib.StableHlo.ReadAt
public import Idealize.ShloMosaic.Lib.Claim

@[expose] public section

set_option maxRecDepth 16384

noncomputable section

namespace Cert.MergeKernel

open Idealize.ShloMosaic Idealize.ShloMosaic.TcCoe Idealize.SL.Sem
open Idealize.ShloMosaic.Pipeline (Dat)
open Cert.MergeBwdIdeal Cert.MergeBwdIdeal.Gen
open Cert.Common (idx2_ext)
open scoped BigOperators

variable (m : (ℓ : Loc nD τ sig) → Buf (Elt Ideal) ℓ) (c : Dev nD)

/-- The five arguments' contents on device `c`. -/
abbrev ya : Vec Ideal S1x2048x1024 .f32 := m ((c : Thread nD τ).loc main_arg0)
abbrev yc : Vec Ideal S1x2048x1024 .f32 := m ((c : Thread nD τ).loc main_arg1)
abbrev proj : Vec Ideal S1x2048x3840 .f32 := m ((c : Thread nD τ).loc main_arg2)
abbrev wt : Vec Ideal S1x1024x1024 .f32 := m ((c : Thread nD τ).loc main_arg3)
abbrev ct : Vec Ideal S1x2048x1024 .f32 := m ((c : Thread nD τ).loc main_arg4)

theorem hz : (![0, 0] : Fin 2 → Nat) = fun _ => 0 := funext fun a => by fin_cases a <;> rfl

/-! ## The staged arrays: each argument without its leading axis of size one -/

theorem V_ct (r : Fin 2048) (k : Fin 1024) : V m c main_v1 (ix2 r k) = ct m c (ix3 0 r k) := by
  unfold V; after_reads_at
theorem V_wt (r : Fin 1024) (k : Fin 1024) : V m c main_v3 (ix2 r k) = wt m c (ix3 0 r k) := by
  unfold V; after_reads_at
theorem V_ya (r : Fin 2048) (k : Fin 1024) : V m c main_v5 (ix2 r k) = ya m c (ix3 0 r k) := by
  unfold V; after_reads_at
theorem V_yc (r : Fin 2048) (k : Fin 1024) : V m c main_v7 (ix2 r k) = yc m c (ix3 0 r k) := by
  unfold V; after_reads_at
theorem V_proj (r : Fin 2048) (k : Fin 3840) : V m c main_v9 (ix2 r k) = proj m c (ix3 0 r k) := by
  unfold V; after_reads_at

/-! ## One block's values: `d` is the cotangent's product with the weight's transpose -/

section Blocks

variable (x0 : Vec Ideal S2048x1024 .bf16) (x1 : Vec Ideal S256x1024 .bf16) (x2 x3 x4 x5 : Vec Ideal S2048x256 .bf16)
  (r : Fin 2048) (j : Fin 256)

theorem out6_apply : out0_6 x0 x1 x2 x3 x4 x5 (ix2 r j)
    = (∑ k : Fin 1024, x0 (ix2 r k) * x1 (ix2 j k)) * Ideal.logistic (x4 (ix2 r j)) := by
  unfold out0_6
  rw [View.canon_unit_zero hz]
  simp only [View.ld_unit_zero (S := S2048x1024) hz, View.ld_unit_zero (S := S256x1024) hz, View.ld_unit_zero (S := S2048x256) hz]
  unfold k0_pay5 k0_pay3 k0_pay2
  simp only [pointwise, zero_add]

theorem out7_apply : out0_7 x0 x1 x2 x3 x4 x5 (ix2 r j)
    = (∑ k : Fin 1024, x0 (ix2 r k) * x1 (ix2 j k)) * Ideal.logistic (x5 (ix2 r j)) := by
  unfold out0_7
  rw [View.canon_unit_zero hz]
  simp only [View.ld_unit_zero (S := S2048x1024) hz, View.ld_unit_zero (S := S256x1024) hz, View.ld_unit_zero (S := S2048x256) hz]
  unfold k0_pay6 k0_pay4 k0_pay2
  simp only [pointwise, zero_add]

theorem out8_apply : out0_8 x0 x1 x2 x3 x4 x5 (ix2 r j)
    = (∑ k : Fin 1024, x0 (ix2 r k) * x1 (ix2 j k)) * x2 (ix2 r j) * Ideal.logistic (x4 (ix2 r j))
      * (((1 : ℝ) : EReal) - Ideal.logistic (x4 (ix2 r j))) := by
  unfold out0_8
  rw [View.canon_unit_zero hz]
  simp only [View.ld_unit_zero (S := S2048x1024) hz, View.ld_unit_zero (S := S256x1024) hz, View.ld_unit_zero (S := S2048x256) hz]
  unfold k0_pay7 k0_pay3 k0_pay2
  simp only [pointwise, zero_add, Common.ofBits_one]

theorem out9_apply : out0_9 x0 x1 x2 x3 x4 x5 (ix2 r j)
    = (∑ k : Fin 1024, x0 (ix2 r k) * x1 (ix2 j k)) * x3 (ix2 r j) * Ideal.logistic (x5 (ix2 r j))
      * (((1 : ℝ) : EReal) - Ideal.logistic (x5 (ix2 r j))) := by
  unfold out0_9
  rw [View.canon_unit_zero hz]
  simp only [View.ld_unit_zero (S := S2048x1024) hz, View.ld_unit_zero (S := S256x1024) hz, View.ld_unit_zero (S := S2048x256) hz]
  unfold k0_pay1 k0_pay8 k0_pay4 k0_pay2
  simp only [pointwise, zero_add, Common.ofBits_one]

end Blocks

/-! ## The blocks that point `t` reads and writes: column block `t` of four -/

theorem t_lt (t : Fin cfg0.N) : t.val < 4 := t.isLt

/-- Column `j` of the column block of point `t`, and the gates' two columns for it. -/
def col (t : Fin cfg0.N) (j : Fin 256) : Fin 1024 := ⟨t.val * 256 + j.val, by have := t_lt t; omega⟩
def colA (j : Fin 1024) : Fin 3840 := ⟨1792 + j.val, by omega⟩
def colC (j : Fin 1024) : Fin 3840 := ⟨1792 + (1024 + j.val), by omega⟩

theorem index_0 : ∀ t : Fin grid0.N, win0_0.index t = ![0, 0] := by decide +kernel
theorem index_1 : ∀ t : Fin grid0.N, win0_1.index t = ![t.val, 0] := by decide +kernel
theorem index_2 : ∀ t : Fin grid0.N, win0_2.index t = ![0, t.val] := by decide +kernel
theorem index_3 : ∀ t : Fin grid0.N, win0_3.index t = ![0, t.val] := by decide +kernel
theorem index_4 : ∀ t : Fin grid0.N, win0_4.index t = ![0, 7 + t.val] := by decide +kernel
theorem index_5 : ∀ t : Fin grid0.N, win0_5.index t = ![0, 11 + t.val] := by decide +kernel

theorem iblk_0 (t : Fin cfg0.N) (r : Fin 2048) (k : Fin 1024) : iblk m c 0 t (ix2 r k) = ct m c (ix3 0 r k) := by
  rw [← V_ct]
  exact congrArg (V m c main_v1) (idx2_ext (by show win0_0.index t 0 * 2048 + 1 * r.val = _; rw [index_0]; simp)
    (by show win0_0.index t 1 * 1024 + 1 * k.val = _; rw [index_0]; simp))

theorem iblk_1 (t : Fin cfg0.N) (j : Fin 256) (k : Fin 1024) : iblk m c 1 t (ix2 j k) = wt m c (ix3 0 (col t j) k) := by
  rw [← V_wt]
  exact congrArg (V m c main_v3) (idx2_ext (by show win0_1.index t 0 * 256 + 1 * j.val = _; rw [index_1]; simp [col])
    (by show win0_1.index t 1 * 1024 + 1 * k.val = _; rw [index_1]; simp))

theorem iblk_2 (t : Fin cfg0.N) (r : Fin 2048) (j : Fin 256) : iblk m c 2 t (ix2 r j) = ya m c (ix3 0 r (col t j)) := by
  rw [← V_ya]
  exact congrArg (V m c main_v5) (idx2_ext (by show win0_2.index t 0 * 2048 + 1 * r.val = _; rw [index_2]; simp)
    (by show win0_2.index t 1 * 256 + 1 * j.val = _; rw [index_2]; simp [col]))

theorem iblk_3 (t : Fin cfg0.N) (r : Fin 2048) (j : Fin 256) : iblk m c 3 t (ix2 r j) = yc m c (ix3 0 r (col t j)) := by
  rw [← V_yc]
  exact congrArg (V m c main_v7) (idx2_ext (by show win0_3.index t 0 * 2048 + 1 * r.val = _; rw [index_3]; simp)
    (by show win0_3.index t 1 * 256 + 1 * j.val = _; rw [index_3]; simp [col]))

theorem iblk_4 (t : Fin cfg0.N) (r : Fin 2048) (j : Fin 256) : iblk m c 4 t (ix2 r j) = proj m c (ix3 0 r (colA (col t j))) := by
  rw [← V_proj]
  exact congrArg (V m c main_v9) (idx2_ext (by show win0_4.index t 0 * 2048 + 1 * r.val = _; rw [index_4]; simp)
    (by show win0_4.index t 1 * 256 + 1 * j.val = _; rw [index_4]; simp [col, colA]; omega))

theorem iblk_5 (t : Fin cfg0.N) (r : Fin 2048) (j : Fin 256) : iblk m c 5 t (ix2 r j) = proj m c (ix3 0 r (colC (col t j))) := by
  rw [← V_proj]
  exact congrArg (V m c main_v9) (idx2_ext (by show win0_5.index t 0 * 2048 + 1 * r.val = _; rw [index_5]; simp)
    (by show win0_5.index t 1 * 256 + 1 * j.val = _; rw [index_5]; simp [col, colC]; omega))

/-! ## The four result arrays -/

/-- The gradient with respect to the merged value: the cotangent times the weight's transpose. -/
def dm (r : Fin 2048) (j : Fin 1024) : EReal := ∑ k : Fin 1024, ct m c (ix3 0 r k) * wt m c (ix3 0 j k)

/-- The two gates. -/
def s0 (r : Fin 2048) (j : Fin 1024) : EReal := Ideal.logistic (proj m c (ix3 0 r (colA j)))
def s1 (r : Fin 2048) (j : Fin 1024) : EReal := Ideal.logistic (proj m c (ix3 0 r (colC j)))

/-- What the four result arrays hold: the gradients of the two branches and of the two gates' arguments. -/
def G6 : Vec Ideal S2048x1024 .bf16 := fun y => dm m c (y 0) (y 1) * s0 m c (y 0) (y 1)
def G7 : Vec Ideal S2048x1024 .bf16 := fun y => dm m c (y 0) (y 1) * s1 m c (y 0) (y 1)
def G8 : Vec Ideal S2048x1024 .bf16 := fun y =>
  dm m c (y 0) (y 1) * ya m c (ix3 0 (y 0) (y 1)) * s0 m c (y 0) (y 1) * (((1 : ℝ) : EReal) - s0 m c (y 0) (y 1))
def G9 : Vec Ideal S2048x1024 .bf16 := fun y =>
  dm m c (y 0) (y 1) * yc m c (ix3 0 (y 0) (y 1)) * s1 m c (y 0) (y 1) * (((1 : ℝ) : EReal) - s1 m c (y 0) (y 1))

/-- The point whose block holds an index of a result array. -/
def pt (i : S2048x1024.Idx) : Fin cfg0.N :=
  ⟨(i 1).val / 256, by have h1 : (i 1).val < 1024 := (i 1).isLt; show _ < 4; omega⟩

/-- The columns of an index's block hold it. -/
theorem pt_bounds (i : S2048x1024.Idx) : (pt i).val * 256 ≤ (i 1).val ∧ (i 1).val < (pt i).val * 256 + 256 := by
  simp only [pt]; omega

theorem index_6 : ∀ t : Fin grid0.N, win0_6.index t = ![0, t.val] := by decide +kernel

/-- Result array 0 is the gradient of the attention branch. -/
theorem final_6 : (dats m 0 c).arrAt 6 cfg0.N = G6 m c :=
  (dats m 0 c).arrAt_eq_of_cover 6 (G6 m c) (fun t _ => by
      rw [Value.flushed6]
      funext y
      obtain ⟨r, j, rfl⟩ : ∃ (r : Fin 2048) (j : Fin 256), y = ix2 r j := ⟨y 0, y 1, eq_ix2 y⟩
      refine (out6_apply (iblk m c 0 t) (iblk m c 1 t) (iblk m c 2 t) (iblk m c 3 t) (iblk m c 4 t) (iblk m c 5 t) r j).trans ?_
      refine Eq.trans ?_ (congrArg (G6 m c) (idx2_ext (i := ix2 r (col t j))
        (by show _ = win0_6.index t 0 * 2048 + 1 * r.val; rw [index_6]; simp)
        (by show _ = win0_6.index t 1 * 256 + 1 * j.val; rw [index_6]; simp [col])))
      simp only [iblk_0, iblk_1, iblk_4, G6, dm, s0, ix2_0, ix2_1]) fun i =>
    ⟨pt i, flush0_6 _, by
      show i ∈ ((View.whole main_v10_0).slice (win0_6.rect (pt i))).set
      rw [View.set_slice_whole, Rect.mem_set_unit]
      have h0 : (i 0).val < 2048 := (i 0).isLt
      have h1 := pt_bounds i
      intro a
      match a with
      | ⟨0, _⟩ => show win0_6.index (pt i) 0 * 2048 ≤ (i 0 : Nat) ∧ (i 0 : Nat) < win0_6.index (pt i) 0 * 2048 + 2048
                  rw [index_6]; simpa using h0
      | ⟨1, _⟩ => show win0_6.index (pt i) 1 * 256 ≤ (i 1 : Nat) ∧ (i 1 : Nat) < win0_6.index (pt i) 1 * 256 + 256
                  rw [index_6]; exact h1⟩

theorem index_7 : ∀ t : Fin grid0.N, win0_7.index t = ![0, t.val] := by decide +kernel

/-- Result array 1 is the gradient of the convolution branch. -/
theorem final_7 : (dats m 0 c).arrAt 7 cfg0.N = G7 m c :=
  (dats m 0 c).arrAt_eq_of_cover 7 (G7 m c) (fun t _ => by
      rw [Value.flushed7]
      funext y
      obtain ⟨r, j, rfl⟩ : ∃ (r : Fin 2048) (j : Fin 256), y = ix2 r j := ⟨y 0, y 1, eq_ix2 y⟩
      refine (out7_apply (iblk m c 0 t) (iblk m c 1 t) (iblk m c 2 t) (iblk m c 3 t) (iblk m c 4 t) (iblk m c 5 t) r j).trans ?_
      refine Eq.trans ?_ (congrArg (G7 m c) (idx2_ext (i := ix2 r (col t j))
        (by show _ = win0_7.index t 0 * 2048 + 1 * r.val; rw [index_7]; simp)
        (by show _ = win0_7.index t 1 * 256 + 1 * j.val; rw [index_7]; simp [col])))
      simp only [iblk_0, iblk_1, iblk_5, G7, dm, s1, ix2_0, ix2_1]) fun i =>
    ⟨pt i, flush0_7 _, by
      show i ∈ ((View.whole main_v10_1).slice (win0_7.rect (pt i))).set
      rw [View.set_slice_whole, Rect.mem_set_unit]
      have h0 : (i 0).val < 2048 := (i 0).isLt
      have h1 := pt_bounds i
      intro a
      match a with
      | ⟨0, _⟩ => show win0_7.index (pt i) 0 * 2048 ≤ (i 0 : Nat) ∧ (i 0 : Nat) < win0_7.index (pt i) 0 * 2048 + 2048
                  rw [index_7]; simpa using h0
      | ⟨1, _⟩ => show win0_7.index (pt i) 1 * 256 ≤ (i 1 : Nat) ∧ (i 1 : Nat) < win0_7.index (pt i) 1 * 256 + 256
                  rw [index_7]; exact h1⟩

theorem index_8 : ∀ t : Fin grid0.N, win0_8.index t = ![0, t.val] := by decide +kernel

/-- Result array 2 is the gradient of the first gate's argument. -/
theorem final_8 : (dats m 0 c).arrAt 8 cfg0.N = G8 m c :=
  (dats m 0 c).arrAt_eq_of_cover 8 (G8 m c) (fun t _ => by
      rw [Value.flushed8]
      funext y
      obtain ⟨r, j, rfl⟩ : ∃ (r : Fin 2048) (j : Fin 256), y = ix2 r j := ⟨y 0, y 1, eq_ix2 y⟩
      refine (out8_apply (iblk m c 0 t) (iblk m c 1 t) (iblk m c 2 t) (iblk m c 3 t) (iblk m c 4 t) (iblk m c 5 t) r j).trans ?_
      refine Eq.trans ?_ (congrArg (G8 m c) (idx2_ext (i := ix2 r (col t j))
        (by show _ = win0_8.index t 0 * 2048 + 1 * r.val; rw [index_8]; simp)
        (by show _ = win0_8.index t 1 * 256 + 1 * j.val; rw [index_8]; simp [col])))
      simp only [iblk_0, iblk_1, iblk_2, iblk_4, G8, dm, s0, ix2_0, ix2_1]) fun i =>
    ⟨pt i, flush0_8 _, by
      show i ∈ ((View.whole main_v10_2).slice (win0_8.rect (pt i))).set
      rw [View.set_slice_whole, Rect.mem_set_unit]
      have h0 : (i 0).val < 2048 := (i 0).isLt
      have h1 := pt_bounds i
      intro a
      match a with
      | ⟨0, _⟩ => show win0_8.index (pt i) 0 * 2048 ≤ (i 0 : Nat) ∧ (i 0 : Nat) < win0_8.index (pt i) 0 * 2048 + 2048
                  rw [index_8]; simpa using h0
      | ⟨1, _⟩ => show win0_8.index (pt i) 1 * 256 ≤ (i 1 : Nat) ∧ (i 1 : Nat) < win0_8.index (pt i) 1 * 256 + 256
                  rw [index_8]; exact h1⟩

theorem index_9 : ∀ t : Fin grid0.N, win0_9.index t = ![0, t.val] := by decide +kernel

/-- Result array 3 is the gradient of the second gate's argument. -/
theorem final_9 : (dats m 0 c).arrAt 9 cfg0.N = G9 m c :=
  (dats m 0 c).arrAt_eq_of_cover 9 (G9 m c) (fun t _ => by
      rw [Value.flushed9]
      funext y
      obtain ⟨r, j, rfl⟩ : ∃ (r : Fin 2048) (j : Fin 256), y = ix2 r j := ⟨y 0, y 1, eq_ix2 y⟩
      refine (out9_apply (iblk m c 0 t) (iblk m c 1 t) (iblk m c 2 t) (iblk m c 3 t) (iblk m c 4 t) (iblk m c 5 t) r j).trans ?_
      refine Eq.trans ?_ (congrArg (G9 m c) (idx2_ext (i := ix2 r (col t j))
        (by show _ = win0_9.index t 0 * 2048 + 1 * r.val; rw [index_9]; simp)
        (by show _ = win0_9.index t 1 * 256 + 1 * j.val; rw [index_9]; simp [col])))
      simp only [iblk_0, iblk_1, iblk_3, iblk_5, G9, dm, s1, ix2_0, ix2_1]) fun i =>
    ⟨pt i, flush0_9 _, by
      show i ∈ ((View.whole main_v10_3).slice (win0_9.rect (pt i))).set
      rw [View.set_slice_whole, Rect.mem_set_unit]
      have h0 : (i 0).val < 2048 := (i 0).isLt
      have h1 := pt_bounds i
      intro a
      match a with
      | ⟨0, _⟩ => show win0_9.index (pt i) 0 * 2048 ≤ (i 0 : Nat) ∧ (i 0 : Nat) < win0_9.index (pt i) 0 * 2048 + 2048
                  rw [index_9]; simpa using h0
      | ⟨1, _⟩ => show win0_9.index (pt i) 1 * 256 ≤ (i 1 : Nat) ∧ (i 1 : Nat) < win0_9.index (pt i) 1 * 256 + 256
                  rw [index_9]; exact h1⟩

end Cert.MergeKernel

end
-- ==== Proof.Merge.lean ====
/-
  The merge gate's gradient: the kernel's four result arrays are the gradients that differentiating
  `(σ(gate₀) · y_attn + σ(gate₁) · y_conv) @ w` gives.
-/
module

public import proofs.«01_k».proof.Defs
public import proofs.«01_k».proof.Proof.MergeK
public import proofs.«01_k».proof.Proof.Gen.MergeBwdRefIdeal.Run
public import proofs.«01_k».proof.Proof.Gen.MergeBwdRefIdeal.Read

@[expose] public section

set_option maxRecDepth 16384

noncomputable section

namespace Cert.MergeProof

open Idealize.ShloMosaic Idealize.ShloMosaic.TcCoe Idealize.SL.Sem
open Cert.MergeKernel
open scoped BigOperators

/-! ## The reference's results at an index -/

section Ref

open Cert.MergeBwdRefIdeal Cert.MergeBwdRefIdeal.Read

variable (a c : Vec Ideal MergeBwdRefIdeal.S1x2048x1024 .f32) (p : Vec Ideal MergeBwdRefIdeal.S1x2048x3840 .f32)
  (w : Vec Ideal MergeBwdRefIdeal.S1x1024x1024 .f32) (ct : Vec Ideal MergeBwdRefIdeal.S1x2048x1024 .f32) (r : Fin 2048) (j : Fin 1024)

/-- Column `j` of the two gates laid side by side is column `j` of the first gate, and column `1024 + j` of the second. -/
theorem div0 : j.val / 1024 = 0 := Nat.div_eq_of_lt j.isLt
theorem mod0 : j.val % 1024 = j.val := Nat.mod_eq_of_lt j.isLt
theorem div1 : (1024 + j.val) / 1024 = 1 := by omega
theorem mod1 : (1024 + j.val) % 1024 = j.val := by omega

theorem ref_dya : val_main_v33 (F := Ideal) p w ct (ix2 r j)
    = Ideal.logistic (p (ix3 0 r (colA j))) * (∑ k : Fin 1024, ct (ix3 0 r k) * w (ix3 0 j k)) := by
  rw [← val_main_v33_eq]
  simp only [pointwise, Common.ofBits_one, Common.logistic_eq, zero_add]
  simp [div0, mod0, div1, mod1, Nat.mod_one, colA]

theorem ref_dyc : val_main_v35 (F := Ideal) p w ct (ix2 r j)
    = Ideal.logistic (p (ix3 0 r (colC j))) * (∑ k : Fin 1024, ct (ix3 0 r k) * w (ix3 0 j k)) := by
  rw [← val_main_v35_eq]
  simp only [pointwise, Common.ofBits_one, Common.logistic_eq, zero_add]
  simp [div0, mod0, div1, mod1, Nat.mod_one, colC]

theorem ref_dg0 : val_main_v38 (F := Ideal) a c p w ct (ix2 r j)
    = (∑ k : Fin 1024, ct (ix3 0 r k) * w (ix3 0 j k)) * a (ix3 0 r j)
      * (Ideal.logistic (p (ix3 0 r (colA j))) * (((1 : ℝ) : EReal) - Ideal.logistic (p (ix3 0 r (colA j))))) := by
  rw [← val_main_v38_eq]
  simp only [pointwise, Common.ofBits_one, Common.logistic_eq, zero_add]
  simp [div0, mod0, div1, mod1, Nat.mod_one, colA]

theorem ref_dg1 : val_main_v41 (F := Ideal) a c p w ct (ix2 r j)
    = (∑ k : Fin 1024, ct (ix3 0 r k) * w (ix3 0 j k)) * c (ix3 0 r j)
      * (Ideal.logistic (p (ix3 0 r (colC j))) * (((1 : ℝ) : EReal) - Ideal.logistic (p (ix3 0 r (colC j))))) := by
  rw [← val_main_v41_eq]
  simp only [pointwise, Common.ofBits_one, Common.logistic_eq, zero_add]
  simp [div0, mod0, div1, mod1, Nat.mod_one, colC]

end Ref

/-- The two programs compute the same four gradients. -/
theorem algebraic : Cert.algebraic_MergeBwdIdeal_MergeBwdRefIdeal := by
  intro m g m' g' _ hagree
  refine ⟨fun c => G6 m c, fun c => G7 m c, fun c => G8 m c, fun c => G9 m c,
    (θ_run Cert.MergeBwdIdeal.defs _ _).mono (fun r h c => ?_) (Cert.MergeBwdIdeal.Value.run_blocks m g),
    (θ_run Cert.MergeBwdRefIdeal.defs _ _).mono (fun r h c => ?_) (Cert.MergeBwdRefIdeal.Value.run (F := Ideal) m' g')⟩
  · obtain ⟨h6, h7, h8, h9, ha⟩ := h c
    exact ⟨h6.trans (final_6 m c), h7.trans (final_7 m c), h8.trans (final_8 m c), h9.trans (final_9 m c), ha⟩
  · obtain ⟨h6, h7, h8, h9, ha⟩ := h c
    obtain ⟨e0, e1, e2, e3, e4⟩ := hagree c
    rw [e2, e3, e4, Cert.MergeBwdRefIdeal.Read.val_main_v33_eq] at h6
    rw [e2, e3, e4, Cert.MergeBwdRefIdeal.Read.val_main_v35_eq] at h7
    rw [e0, e1, e2, e3, e4, Cert.MergeBwdRefIdeal.Read.val_main_v38_eq] at h8
    rw [e0, e1, e2, e3, e4, Cert.MergeBwdRefIdeal.Read.val_main_v41_eq] at h9
    refine ⟨h6.trans ?_, h7.trans ?_, h8.trans ?_, h9.trans ?_, ha⟩ <;> funext y <;>
      obtain ⟨r, j, rfl⟩ : ∃ (r : Fin 2048) (j : Fin 1024), y = ix2 r j := ⟨y 0, y 1, eq_ix2 y⟩
    · exact (ref_dya ..).trans (mul_comm _ _)
    · exact (ref_dyc ..).trans (mul_comm _ _)
    · exact (ref_dg0 ..).trans (mul_assoc _ _ _).symm
    · exact (ref_dg1 ..).trans (mul_assoc _ _ _).symm

/-- The reference's frame. -/
theorem frame_ref : Cert.quiescent_MergeBwdRefIdeal := fun m ρ _ =>
  (θ_run Cert.MergeBwdRefIdeal.defs _ _).mono (fun r h => ⟨fun c => (h c).2.2.2.2, sem_eq_zero_of_no_sems (by decide) r.2⟩)
    (Cert.MergeBwdRefIdeal.Value.run (F := Ideal) m ρ)

end Cert.MergeProof

end
-- ==== Proof.Rms.lean ====
/-
  The gradient of the RMS normalisation over the extended reals: the factored form that subtracts the projection onto
  the normalised row equals the sum that differentiating `x · rsqrt(mean(x²) + ε)` gives, at every row, finite or not.
-/
module

public import proofs.«01_k».proof.Proof.Common

@[expose] public section

noncomputable section

namespace Cert.Rms

open Idealize.ShloMosaic
open Cert.Common (Real)
open scoped BigOperators

/-- The row length, as a number. -/
abbrev N : EReal := ((1024 : ℝ) : EReal)
/-- The normalisation's ε: the literal that both programs hold. -/
abbrev eps : EReal := Ideal.ofBits .f32 0x3727C5AC#32

theorem ofBits_1024 : Ideal.ofBits .f32 0x44800000#32 = N := by
  simp [Ideal.ofBits, Ideal.ieee, -EReal.coe_mul]; norm_num
theorem ofBits_inv1024 : Ideal.ofBits .f32 0x3A800000#32 = ((1024⁻¹ : ℝ) : EReal) := by
  simp [Ideal.ofBits, Ideal.ieee, -EReal.coe_mul]; norm_num
theorem ofBits_half : Ideal.ofBits .f32 0x3F000000#32 = ((2⁻¹ : ℝ) : EReal) := by
  simp [Ideal.ofBits, Ideal.ieee, -EReal.coe_mul]; norm_num
theorem ofBits_neg_half : Ideal.ofBits .f32 0xBF000000#32 = ((-2⁻¹ : ℝ) : EReal) := by
  simp [Ideal.ofBits, Ideal.ieee, -EReal.coe_mul]; norm_num
theorem ofBits_two : Ideal.ofBits .f32 0x40000000#32 = ((2 : ℝ) : EReal) := by
  simp [Ideal.ofBits, Ideal.ieee, -EReal.coe_mul]; norm_num

theorem eps_pos : ∃ e : ℝ, 0 < e ∧ eps = (e : EReal) := by
  refine ⟨_, ?_, by simp [Ideal.ofBits, Ideal.ieee, -EReal.coe_mul]; rfl⟩
  norm_num

theorem div_N (y : EReal) : Ideal.div y N = y * ((1024⁻¹ : ℝ) : EReal) := by
  have h : N ≠ 0 := by simp [N]
  rw [Ideal.div, if_neg h, ← EReal.coe_inv]

/-- The mean square of a row, and the factor that normalises it. -/
def var (x : Fin 1024 → EReal) : EReal := Ideal.div (∑ j, x j * x j) N + eps
def inv (x : Fin 1024 → EReal) : EReal := Ideal.rsqrt (var x)

/-- The factored gradient of a row `x` at the cotangent `D` of the normalised row. -/
def grad (x D : Fin 1024 → EReal) (i : Fin 1024) : EReal :=
  inv x * (D i - x i * inv x * Ideal.div (∑ j, D j * (x j * inv x)) N)

/-- The part of the gradient that goes through the normalising factor, for one of the two factors of `x²`. -/
def thru (x D : Fin 1024 → EReal) : EReal :=
  Ideal.div ((∑ j, x j * D j) * (((-2⁻¹ : ℝ) : EReal) * Ideal.div (inv x) (var x))) N

/-- A positive real number distributes over a sum of extended reals. -/
theorem pos_mul_add {c : ℝ} (hc : 0 ≤ c) (a b : EReal) : (c : EReal) * (a + b) = c * a + c * b :=
  EReal.left_distrib_of_nonneg_of_ne_top (by exact_mod_cast hc) (EReal.coe_ne_top c) a b

theorem pos_mul_sub {c : ℝ} (hc : 0 ≤ c) (a b : EReal) : (c : EReal) * (a - b) = c * a - c * b := by
  rw [sub_eq_add_neg, pos_mul_add hc, mul_neg, sub_eq_add_neg]

theorem pos_mul_sum {ι : Type} {c : ℝ} (hc : 0 ≤ c) (s : Finset ι) (f : ι → EReal) : (c : EReal) * ∑ i ∈ s, f i = ∑ i ∈ s, c * f i := by
  classical
  induction s using Finset.induction_on with
  | empty => simp
  | insert a s ha ih => rw [Finset.sum_insert ha, Finset.sum_insert ha, pos_mul_add hc, ih]

theorem add_self (y : EReal) : y + y = ((2 : ℝ) : EReal) * y := by
  induction y using EReal.rec with
  | bot => simp [EReal.coe_mul_bot_of_pos]
  | top => simp [EReal.coe_mul_top_of_pos]
  | coe r => rw [← EReal.coe_add, ← EReal.coe_mul, two_mul]

/-- A finite row: the normalising factor is a positive real, the inverse square root of the mean square. -/
theorem inv_of_real {x : Fin 1024 → EReal} (hx : ∀ j, Real (x j)) :
    ∃ v : ℝ, 0 < v ∧ var x = (v : EReal) ∧ inv x = (((Real.sqrt v)⁻¹ : ℝ) : EReal) := by
  obtain ⟨e, he, hE⟩ := eps_pos
  choose y hy using hx
  refine ⟨(∑ j, y j * y j) * 1024⁻¹ + e, ?_, ?_, ?_⟩
  · have : 0 ≤ ∑ j, y j * y j := Finset.sum_nonneg fun j _ => mul_self_nonneg _
    positivity
  · have : ∑ j, x j * x j = ((∑ j, y j * y j : ℝ) : EReal) := by
      rw [Common.coe_sum]; exact Finset.sum_congr rfl fun j _ => by rw [hy, EReal.coe_mul]
    rw [var, this, div_N, hE, EReal.coe_add, EReal.coe_mul]
  · have h0 : 0 ≤ ∑ j, y j * y j := Finset.sum_nonneg fun j _ => mul_self_nonneg _
    have hv : 0 < (∑ j, y j * y j) * 1024⁻¹ + e := by positivity
    have : ∑ j, x j * x j = ((∑ j, y j * y j : ℝ) : EReal) := by
      rw [Common.coe_sum]; exact Finset.sum_congr rfl fun j _ => by rw [hy, EReal.coe_mul]
    rw [inv, var, this, div_N, hE, ← EReal.coe_mul, ← EReal.coe_add]
    show (if _ < 0 then _ else if _ = 0 then _ else _) = _
    rw [if_neg hv.le.not_gt, if_neg hv.ne']

/-- A row with an infinite entry: its mean square is infinite, and the normalising factor zero. -/
theorem inv_of_inf {x : Fin 1024 → EReal} (hx : ¬∀ j, Real (x j)) : var x = ⊤ ∧ inv x = 0 := by
  obtain ⟨e, he, hE⟩ := eps_pos
  rw [not_forall] at hx
  obtain ⟨j, hj⟩ := hx
  have hsq : x j * x j = ⊤ := by
    generalize hq : x j = q at hj
    induction q using EReal.rec with
    | bot => simp
    | top => simp
    | coe r => exact absurd ⟨r, rfl⟩ hj
  have hn : ∀ q : EReal, 0 ≤ q * q := fun q => by
    rcases le_total 0 q with h | h
    · exact mul_nonneg h h
    · rw [← neg_mul_neg]; exact mul_nonneg (EReal.neg_nonneg.mpr h) (EReal.neg_nonneg.mpr h)
  have hs : ∑ j, x j * x j = ⊤ := by
    rw [← top_le_iff, ← hsq]
    exact Finset.single_le_sum (f := fun j => x j * x j) (fun i _ => hn _) (Finset.mem_univ j)
  have hv : var x = ⊤ := by
    rw [var, hs, div_N, hE, EReal.top_mul_coe_of_pos (by norm_num)]
    rfl
  exact ⟨hv, by rw [inv, hv]; rfl⟩

/-- THE EQUATION: the factored gradient is the sum that the product and chain rules give. -/
theorem grad_eq (x D : Fin 1024 → EReal) (i : Fin 1024) :
    grad x D i = D i * inv x + x i * thru x D + thru x D * x i := by
  by_cases hx : ∀ j, Real (x j)
  · obtain ⟨v, hv, hvar, hinv⟩ := inv_of_real hx
    have hr : 0 < (Real.sqrt v)⁻¹ := by positivity
    have hdiv : Ideal.div (inv x) (var x) = (((Real.sqrt v)⁻¹ ^ 3 : ℝ) : EReal) := by
      have h0 : (v : EReal) ≠ 0 := by exact_mod_cast hv.ne'
      rw [hinv, hvar, Ideal.div, if_neg h0, ← EReal.coe_inv, ← EReal.coe_mul]
      congr 1
      have : v⁻¹ = (Real.sqrt v)⁻¹ ^ 2 := by rw [inv_pow, Real.sq_sqrt hv.le]
      rw [this]; ring
    unfold thru grad
    rw [hdiv, hinv]
    generalize (Real.sqrt v)⁻¹ = r at hr
    obtain ⟨a, ha⟩ := hx i
    have e1 : ∑ j, D j * (x j * (r : EReal)) = r * ∑ j, x j * D j := by
      rw [pos_mul_sum hr.le]
      exact Finset.sum_congr rfl fun j _ => by rw [← mul_assoc, mul_comm, mul_comm (D j)]
    rw [e1, div_N, div_N, ha]
    generalize ∑ j, x j * D j = S
    generalize D i = d
    rw [mul_comm _ (a : EReal), add_assoc, add_self, pos_mul_sub hr.le, mul_comm d, sub_eq_add_neg]
    congr 1
    have e2 : ∀ p : ℝ, (p : EReal) * S = S * p := fun p => mul_comm _ _
    have e3 : (r : EReal) * (a * r * (r * S * ((1024⁻¹ : ℝ) : EReal))) = S * ((r * (a * r) * r * 1024⁻¹ : ℝ) : EReal) := by
      simp only [EReal.coe_mul]; ac_rfl
    have e4 : ((2 : ℝ) : EReal) * (a * (S * (((-2⁻¹ : ℝ) : EReal) * ((r ^ 3 : ℝ) : EReal)) * ((1024⁻¹ : ℝ) : EReal)))
        = S * ((2 * a * (-2⁻¹ * r ^ 3) * 1024⁻¹ : ℝ) : EReal) := by
      simp only [EReal.coe_mul]; ac_rfl
    rw [e3, e4, ← mul_neg, ← EReal.coe_neg]
    congr 2
    ring
  · obtain ⟨hv, hr⟩ := inv_of_inf hx
    have hdiv : Ideal.div 0 ⊤ = 0 := by rw [Ideal.div, if_neg (by simp)]; simp
    simp [grad, thru, hv, hr, hdiv, div_N]

end Cert.Rms

end
-- ==== Proof.LossK.lean ====
/-
  The loss head's kernel: what one block's body leaves, and what its four result arrays hold, index by index.
-/
module

public import proofs.«01_k».proof.Proof.Rms
public import proofs.«01_k».proof.Proof.Gen.LossGradIdeal.Value
public import Idealize.ShloMosaic.Lib.Pointwise
public import Idealize.ShloMosaic.Lib.StableHlo.ReadAt
public import Idealize.ShloMosaic.Lib.Claim
public import Idealize.ShloMosaic.Lib.Tactic

@[expose] public section

set_option maxRecDepth 16384

noncomputable section

namespace Cert.LossKernel

open Idealize.ShloMosaic Idealize.ShloMosaic.TcCoe Idealize.SL.Sem
open Idealize.ShloMosaic.Pipeline (Dat)
open Cert.LossGradIdeal Cert.LossGradIdeal.Gen
open Cert.Common (idx2_ext)
open scoped BigOperators

variable (m : (ℓ : Loc nD τ sig) → Buf (Elt Ideal) ℓ) (c : Dev nD)

theorem hz : (![0, 0] : Fin 2 → Nat) = fun _ => 0 := funext fun a => by fin_cases a <;> rfl

/-! ## One block's values -/

section Blocks

variable (x0 : Vec Ideal S256x2816 .bf16) (x1 : Vec Ideal S2816x1024 .bf16) (x2 : Vec Ideal S256x1024 .f32)
  (x3 : Vec Ideal S1x1024 .f32) (x4 : Vec Ideal S256x1024 .f32)

/-- Row `r` of the block of the layer's output: the product plus the residual. -/
def xrow (r : Fin 256) (j : Fin 1024) : EReal := (∑ k : Fin 2816, x0 (ix2 r k) * x1 (ix2 k j)) + x2 (ix2 r j)
/-- The difference from the target. -/
def err (r : Fin 256) (j : Fin 1024) : EReal :=
  xrow x0 x1 x2 r j * Rms.inv (xrow x0 x1 x2 r) * x3 (ix2 0 j) - x4 (ix2 r j)
/-- The gradient with respect to the scaled row, and to the normalised row. -/
def dh (r : Fin 256) (j : Fin 1024) : EReal := err x0 x1 x2 x3 x4 r j * ((1024⁻¹ : ℝ) : EReal)
def dn (r : Fin 256) (j : Fin 1024) : EReal := dh x0 x1 x2 x3 x4 r j * x3 (ix2 0 j)

theorem pay7_apply (r : Fin 256) (j : Fin 1024) : k0_pay7 x1 x0 x2 (ix2 r j) = xrow x0 x1 x2 r j := by
  unfold k0_pay7 xrow
  simp only [pointwise, zero_add]

theorem pay9_apply (r : Fin 256) : k0_pay9 x1 x0 x2 (ix2 r 0) = Rms.inv (xrow x0 x1 x2 r) := by
  unfold k0_pay9
  simp only [pointwise, zero_add, ↓reduceDIte, Nat.reduceEqDiff, OfNat.ofNat_ne_one, pay7_apply, Rms.ofBits_1024]
  rfl

theorem pay10_apply (r : Fin 256) (j : Fin 1024) : k0_pay10 x1 x0 x2 x3 x4 (ix2 r j) = err x0 x1 x2 x3 x4 r j := by
  unfold k0_pay10 k0_pay8
  simp only [pointwise, zero_add, ↓reduceDIte, OfNat.ofNat_ne_one, Nat.reduceEqDiff, pay7_apply, pay9_apply]
  rfl

theorem pay11_apply (r : Fin 256) (j : Fin 1024) : k0_pay11 x1 x0 x2 x3 x4 (ix2 r j) = dh x0 x1 x2 x3 x4 r j := by
  unfold k0_pay11
  simp only [pointwise, ↓reduceDIte, OfNat.ofNat_ne_one, Nat.reduceEqDiff, pay10_apply, Rms.ofBits_inv1024]
  rfl

theorem pay12_apply (r : Fin 256) (j : Fin 1024) : k0_pay12 x1 x0 x2 (ix2 r j) = xrow x0 x1 x2 r j * Rms.inv (xrow x0 x1 x2 r) := by
  unfold k0_pay12
  simp only [pointwise, ↓reduceDIte, OfNat.ofNat_ne_one, Nat.reduceEqDiff, pay7_apply, pay9_apply]

theorem pay1_apply (r : Fin 256) (j : Fin 1024) : k0_pay1 (k0_pay13 x1 x0 x2 x3 x4) (k0_pay14 x1 x0 x2) (ix2 r j)
    = Rms.grad (xrow x0 x1 x2 r) (dn x0 x1 x2 x3 x4 r) j := by
  unfold k0_pay1 k0_pay13 k0_pay14 k0_pay8
  simp only [pointwise, zero_add, ↓reduceDIte, OfNat.ofNat_ne_one, Nat.reduceEqDiff, pay12_apply, pay9_apply, pay11_apply, Rms.ofBits_1024]
  rfl

theorem pay2_apply (j : Fin 1024) : k0_pay2 (k0_pay11 x1 x0 x2 x3 x4) (k0_pay12 x1 x0 x2) (ix2 0 j)
    = ∑ r : Fin 256, dh x0 x1 x2 x3 x4 r j * (xrow x0 x1 x2 r j * Rms.inv (xrow x0 x1 x2 r)) := by
  unfold k0_pay2
  simp only [pointwise, zero_add, ↓reduceDIte, OfNat.ofNat_ne_one, Nat.reduceEqDiff, pay12_apply, pay11_apply]

theorem pay3_apply : k0_pay3 (k0_pay10 x1 x0 x2 x3 x4) (ix2 0 0)
    = ((2⁻¹ : ℝ) : EReal) * ∑ r : Fin 256, Ideal.div (∑ j, err x0 x1 x2 x3 x4 r j * err x0 x1 x2 x3 x4 r j) Rms.N := by
  unfold k0_pay3
  simp only [pointwise, zero_add, ↓reduceDIte, OfNat.ofNat_ne_one, Nat.reduceEqDiff, pay10_apply, Rms.ofBits_1024, Rms.ofBits_half]

end Blocks

/-! ## What a point's body leaves -/

/-- The five blocks that point `t` reads. -/
abbrev b0 (t : Fin cfg0.N) : Vec Ideal S256x2816 .bf16 := iblk m c 0 t
abbrev b1 (t : Fin cfg0.N) : Vec Ideal S2816x1024 .bf16 := iblk m c 1 t
abbrev b2 (t : Fin cfg0.N) : Vec Ideal S256x1024 .f32 := iblk m c 2 t
abbrev b3 (t : Fin cfg0.N) : Vec Ideal S1x1024 .f32 := iblk m c 3 t
abbrev b4 (t : Fin cfg0.N) : Vec Ideal S256x1024 .f32 := iblk m c 4 t

/-- The four blocks that a point computes: the gradient, the gradient again, the part of the scale's gradient, and of the loss. -/
abbrev dxBlk (t : Fin cfg0.N) : Vec Ideal S256x1024 .f32 :=
  k0_pay1 (k0_pay13 (b1 m c t) (b0 m c t) (b2 m c t) (b3 m c t) (b4 m c t)) (k0_pay14 (b1 m c t) (b0 m c t) (b2 m c t))
abbrev dxBlk' (t : Fin cfg0.N) : Vec Ideal S256x1024 .bf16 :=
  k0_pay4 (k0_pay13 (b1 m c t) (b0 m c t) (b2 m c t) (b3 m c t) (b4 m c t)) (k0_pay14 (b1 m c t) (b0 m c t) (b2 m c t))
abbrev dgBlk (t : Fin cfg0.N) : Vec Ideal S1x1024 .f32 :=
  k0_pay2 (k0_pay11 (b1 m c t) (b0 m c t) (b2 m c t) (b3 m c t) (b4 m c t)) (k0_pay12 (b1 m c t) (b0 m c t) (b2 m c t))
abbrev partBlk (t : Fin cfg0.N) : Vec Ideal S1x1 .f32 :=
  k0_pay3 (k0_pay10 (b1 m c t) (b0 m c t) (b2 m c t) (b3 m c t) (b4 m c t))

theorem N_eq : cfg0.N = 8 := N_0

/-- The first point leaves its own blocks. -/
theorem outs_first (t : Fin cfg0.N) (h : t.val = 0) :
    outsAt0 m c t.val t.isLt = (dxBlk m c t, dxBlk' m c t, dgBlk m c t, partBlk m c t) := by
  rw [outsAt0_A m c t (by omega) (by omega) (by omega) (by omega)]
  refine Prod.ext ?_ (Prod.ext ?_ (Prod.ext ?_ ?_))
  · dsimp only
    unfold out0_A_5
    rw [View.read_writes_eq_canon _ _ _ (fun y => cover0_A_5 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz]
  · dsimp only
    unfold out0_A_6
    rw [View.read_writes_eq_canon _ _ _ (fun y => cover0_A_6 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz]
  · dsimp only
    unfold out0_A_7
    rw [View.read_writes_eq_canon _ _ _ (fun y => cover0_A_7 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz]
  · dsimp only
    unfold out0_A_8
    rw [View.read_writes_eq_canon _ _ _ (fun y => cover0_A_8 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz]

/-- A later point leaves its own blocks of the gradient, and adds its parts to what the point before left. -/
theorem outs_later (t : Fin cfg0.N) (h : t.val ≠ 0) :
    outsAt0 m c t.val t.isLt = (dxBlk m c t, dxBlk' m c t,
      (addf (outsAt0 m c (t.val - 1) (Nat.lt_of_le_of_lt (Nat.sub_le ..) t.isLt)).2.2.1 (dgBlk m c t) : FVec Ideal S1x1024 .f32),
      (addf (outsAt0 m c (t.val - 1) (Nat.lt_of_le_of_lt (Nat.sub_le ..) t.isLt)).2.2.2 (partBlk m c t) : FVec Ideal S1x1 .f32)) := by
  have hN := N_eq
  have ht := t.isLt
  rw [outsAt0_B m c t (by omega) (by omega) (by omega) (by omega)]
  refine Prod.ext ?_ (Prod.ext ?_ (Prod.ext ?_ ?_))
  · dsimp only
    unfold out0_B_5
    rw [View.read_writes_eq_canon _ _ _ (fun y => cover0_B_5 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz]
  · dsimp only
    unfold out0_B_6
    rw [View.read_writes_eq_canon _ _ _ (fun y => cover0_B_6 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz]
  · dsimp only
    unfold out0_B_7
    rw [View.read_writes_eq_canon _ _ _ (fun y => cover0_B_7 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz, (hs0_7 t).read_unread, k0_pay5, shapeCast_self]
  · dsimp only
    unfold out0_B_8
    rw [View.read_writes_eq_canon _ _ _ (fun y => cover0_B_8 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
    View.ld_unit_zero (S := S256x1024) hz, View.ld_unit_zero (S := S256x2816) hz, View.ld_unit_zero (S := S2816x1024) hz,
    View.ld_unit_zero (S := S1x1024) hz, (hs0_8 t).read_unread, View.ld_unit_zero (S := S1x1) hz, k0_pay6, shapeCast_self]

/-! ## The arguments, the staged arrays, and the blocks read -/

abbrev act : Vec Ideal S1x2048x2816 .f32 := m ((c : Thread nD τ).loc main_arg0)
abbrev wd : Vec Ideal S1x2816x1024 .f32 := m ((c : Thread nD τ).loc main_arg1)
abbrev res : Vec Ideal S1x2048x1024 .f32 := m ((c : Thread nD τ).loc main_arg2)
abbrev gf : Vec Ideal S1024 .f32 := m ((c : Thread nD τ).loc main_arg3)
abbrev tgt : Vec Ideal S1x2048x1024 .f32 := m ((c : Thread nD τ).loc main_arg4)

theorem V_act (r : Fin 2048) (k : Fin 2816) : V m c main_v1 (ix2 r k) = act m c (ix3 0 r k) := by
  unfold V; after_reads_at
theorem V_wd (k : Fin 2816) (j : Fin 1024) : V m c main_v3 (ix2 k j) = wd m c (ix3 0 k j) := by
  unfold V; after_reads_at
theorem V_res (r : Fin 2048) (j : Fin 1024) : V m c main_v4 (ix2 r j) = res m c (ix3 0 r j) := by
  unfold V; after_reads_at
theorem V_gf (j : Fin 1024) : V m c main_v5 (ix2 0 j) = gf m c (ix1 j) := by
  unfold V; after_reads_at
theorem V_tgt (r : Fin 2048) (j : Fin 1024) : V m c main_v6 (ix2 r j) = tgt m c (ix3 0 r j) := by
  unfold V; after_reads_at

/-- Row `r` of the row block of point `t`. -/
def row (t : Fin cfg0.N) (r : Fin 256) : Fin 2048 := ⟨256 * t.val + r.val, by have := t.isLt; have := N_eq; omega⟩

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![0, 0] := by decide +kernel
theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![t.val, 0] := by decide +kernel
theorem index_7 : ∀ t : Fin grid0.N, win0_7.index t = ![0, 0] := by decide +kernel
theorem index_8 : ∀ t : Fin grid0.N, win0_8.index t = ![0, 0] := by decide +kernel

theorem iblk_0 (t : Fin cfg0.N) (r : Fin 256) (k : Fin 2816) : iblk m c 0 t (ix2 r k) = act m c (ix3 0 (row t r) k) := by
  rw [← V_act]
  exact congrArg (V m c main_v1) (idx2_ext (by show win0_0.index t 0 * 256 + 1 * r.val = _; rw [index_0]; simp [row, mul_comm])
    (by show win0_0.index t 1 * 2816 + 1 * k.val = _; rw [index_0]; simp))
theorem iblk_1 (t : Fin cfg0.N) (k : Fin 2816) (j : Fin 1024) : iblk m c 1 t (ix2 k j) = wd m c (ix3 0 k j) := by
  rw [← V_wd]
  exact congrArg (V m c main_v3) (idx2_ext (by show win0_1.index t 0 * 2816 + 1 * k.val = _; rw [index_1]; simp)
    (by show win0_1.index t 1 * 1024 + 1 * j.val = _; rw [index_1]; simp))
theorem iblk_2 (t : Fin cfg0.N) (r : Fin 256) (j : Fin 1024) : iblk m c 2 t (ix2 r j) = res m c (ix3 0 (row t r) j) := by
  rw [← V_res]
  exact congrArg (V m c main_v4) (idx2_ext (by show win0_2.index t 0 * 256 + 1 * r.val = _; rw [index_2]; simp [row, mul_comm])
    (by show win0_2.index t 1 * 1024 + 1 * j.val = _; rw [index_2]; simp))
theorem iblk_3 (t : Fin cfg0.N) (j : Fin 1024) : iblk m c 3 t (ix2 0 j) = gf m c (ix1 j) := by
  rw [← V_gf]
  exact congrArg (V m c main_v5) (idx2_ext (by show win0_3.index t 0 * 1 + 1 * 0 = _; rw [index_3]; simp)
    (by show win0_3.index t 1 * 1024 + 1 * j.val = _; rw [index_3]; simp))
theorem iblk_4 (t : Fin cfg0.N) (r : Fin 256) (j : Fin 1024) : iblk m c 4 t (ix2 r j) = tgt m c (ix3 0 (row t r) j) := by
  rw [← V_tgt]
  exact congrArg (V m c main_v6) (idx2_ext (by show win0_4.index t 0 * 256 + 1 * r.val = _; rw [index_4]; simp [row, mul_comm])
    (by show win0_4.index t 1 * 1024 + 1 * j.val = _; rw [index_4]; simp))

/-! ## The four result arrays -/

/-- The layer's output, its difference from the target, and the gradients with respect to the scaled and normalised rows. -/
def X (r : Fin 2048) (j : Fin 1024) : EReal := (∑ k : Fin 2816, act m c (ix3 0 r k) * wd m c (ix3 0 k j)) + res m c (ix3 0 r j)
def E (r : Fin 2048) (j : Fin 1024) : EReal := X m c r j * Rms.inv (X m c r) * gf m c (ix1 j) - tgt m c (ix3 0 r j)
def DH (r : Fin 2048) (j : Fin 1024) : EReal := E m c r j * ((1024⁻¹ : ℝ) : EReal)
def DN (r : Fin 2048) (j : Fin 1024) : EReal := DH m c r j * gf m c (ix1 j)

theorem xrow_eq (t : Fin cfg0.N) (r : Fin 256) : xrow (b0 m c t) (b1 m c t) (b2 m c t) r = X m c (row t r) := by
  funext j; simp only [xrow, X, iblk_0, iblk_1, iblk_2]
theorem err_eq (t : Fin cfg0.N) (r : Fin 256) (j : Fin 1024) :
    err (b0 m c t) (b1 m c t) (b2 m c t) (b3 m c t) (b4 m c t) r j = E m c (row t r) j := by
  simp only [err, E, xrow_eq, iblk_3, iblk_4]
theorem dh_eq (t : Fin cfg0.N) (r : Fin 256) (j : Fin 1024) :
    dh (b0 m c t) (b1 m c t) (b2 m c t) (b3 m c t) (b4 m c t) r j = DH m c (row t r) j := by
  simp only [dh, DH, err_eq]
theorem dn_eq (t : Fin cfg0.N) (r : Fin 256) : dn (b0 m c t) (b1 m c t) (b2 m c t) (b3 m c t) (b4 m c t) r = DN m c (row t r) := by
  funext j; simp only [dn, DN, dh_eq, iblk_3]

/-- The gradient of the layer's output, of the scale, and the loss. -/
def G5 : Vec Ideal S2048x1024 .f32 := fun y => Rms.grad (X m c (y 0)) (DN m c (y 0)) (y 1)
def G6 : Vec Ideal S2048x1024 .bf16 := fun y => Rms.grad (X m c (y 0)) (DN m c (y 0)) (y 1)
def G7 : Vec Ideal S1x1024 .f32 := fun y => ∑ r : Fin 2048, DH m c r (y 1) * (X m c r (y 1) * Rms.inv (X m c r))
def G8 : Vec Ideal S1x1 .f32 := fun _ => ((2⁻¹ : ℝ) : EReal) * ∑ r : Fin 2048, Ideal.div (∑ j, E m c r j * E m c r j) Rms.N

theorem outs5 (t : Fin cfg0.N) : (outsAt0 m c t.val t.isLt).1 = dxBlk m c t := by
  by_cases h : t.val = 0
  · rw [outs_first m c t h]
  · rw [outs_later m c t h]
theorem outs6 (t : Fin cfg0.N) : (outsAt0 m c t.val t.isLt).2.1 = dxBlk' m c t := by
  by_cases h : t.val = 0
  · rw [outs_first m c t h]
  · rw [outs_later m c t h]

/-- The scale's gradient and the loss after point `n`: the parts so far, summed. -/
theorem outs7 (j : Fin 1024) (n : Nat) (h : n < cfg0.N) : (outsAt0 m c n h).2.2.1 (ix2 0 j)
    = ∑ t : Fin (n + 1), dgBlk m c ⟨t.val, lt_of_le_of_lt (Nat.le_of_lt_succ t.isLt) h⟩ (ix2 0 j) :=
  Common.acc_sum (fun n h => (outsAt0 m c n h).2.2.1 (ix2 0 j)) (fun t => dgBlk m c t (ix2 0 j))
    (fun h => by rw [outs_first m c ⟨0, h⟩ rfl])
    (fun n h => by rw [outs_later m c ⟨n + 1, h⟩ (Nat.succ_ne_zero n)]; rfl) n h
theorem outs8 (n : Nat) (h : n < cfg0.N) : (outsAt0 m c n h).2.2.2 (ix2 0 0)
    = ∑ t : Fin (n + 1), partBlk m c ⟨t.val, lt_of_le_of_lt (Nat.le_of_lt_succ t.isLt) h⟩ (ix2 0 0) :=
  Common.acc_sum (fun n h => (outsAt0 m c n h).2.2.2 (ix2 0 0)) (fun t => partBlk m c t (ix2 0 0))
    (fun h => by rw [outs_first m c ⟨0, h⟩ rfl])
    (fun n h => by rw [outs_later m c ⟨n + 1, h⟩ (Nat.succ_ne_zero n)]; rfl) n h

/-- The point whose row block holds an index, and the last point. -/
def pt (i : S2048x1024.Idx) : Fin cfg0.N := ⟨(i 0).val / 256, by have h : (i 0).val < 2048 := (i 0).isLt; have := N_eq; omega⟩
theorem pt_bounds (i : S2048x1024.Idx) : (pt i).val * 256 ≤ (i 0).val ∧ (i 0).val < (pt i).val * 256 + 256 := by
  simp only [pt]; omega
abbrev last : Fin cfg0.N := ⟨7, by rw [N_eq]; decide⟩

theorem final_5 : (dats m 0 c).arrAt 5 cfg0.N = G5 m c :=
  (dats m 0 c).arrAt_eq_of_cover 5 (G5 m c) (fun t _ => by
      rw [Value.flushed5, outs5]
      funext y
      obtain ⟨r, j, rfl⟩ : ∃ (r : Fin 256) (j : Fin 1024), y = ix2 r j := ⟨y 0, y 1, eq_ix2 y⟩
      refine (pay1_apply (b0 m c t) (b1 m c t) (b2 m c t) (b3 m c t) (b4 m c t) r j).trans ?_
      refine Eq.trans ?_ (congrArg (G5 m c) (idx2_ext (i := ix2 (row t r) j)
        (by show _ = win0_5.index t 0 * 256 + 1 * r.val; rw [index_5]; simp [row, mul_comm])
        (by show _ = win0_5.index t 1 * 1024 + 1 * j.val; rw [index_5]; simp)))
      simp only [G5, xrow_eq, dn_eq, ix2_0, ix2_1]) fun i =>
    ⟨pt i, flush0_5 _, by
      show i ∈ ((View.whole main_v7_0).slice (win0_5.rect (pt i))).set
      rw [View.set_slice_whole, Rect.mem_set_unit]
      have h0 := pt_bounds i
      have h1 : (i 1).val < 1024 := (i 1).isLt
      intro a
      match a with
      | ⟨0, _⟩ => show win0_5.index (pt i) 0 * 256 ≤ (i 0 : Nat) ∧ (i 0 : Nat) < win0_5.index (pt i) 0 * 256 + 256
                  rw [index_5]; exact h0
      | ⟨1, _⟩ => show win0_5.index (pt i) 1 * 1024 ≤ (i 1 : Nat) ∧ (i 1 : Nat) < win0_5.index (pt i) 1 * 1024 + 1024
                  rw [index_5]; simpa using h1⟩

theorem final_6 : (dats m 0 c).arrAt 6 cfg0.N = G6 m c :=
  (dats m 0 c).arrAt_eq_of_cover 6 (G6 m c) (fun t _ => by
      rw [Value.flushed6, outs6]
      funext y
      obtain ⟨r, j, rfl⟩ : ∃ (r : Fin 256) (j : Fin 1024), y = ix2 r j := ⟨y 0, y 1, eq_ix2 y⟩
      refine (pay1_apply (b0 m c t) (b1 m c t) (b2 m c t) (b3 m c t) (b4 m c t) r j).trans ?_
      refine Eq.trans ?_ (congrArg (G6 m c) (idx2_ext (i := ix2 (row t r) j)
        (by show _ = win0_6.index t 0 * 256 + 1 * r.val; rw [index_6]; simp [row, mul_comm])
        (by show _ = win0_6.index t 1 * 1024 + 1 * j.val; rw [index_6]; simp)))
      simp only [G6, xrow_eq, dn_eq, ix2_0, ix2_1]) fun i =>
    ⟨pt i, flush0_6 _, by
      show i ∈ ((View.whole main_v7_1).slice (win0_6.rect (pt i))).set
      rw [View.set_slice_whole, Rect.mem_set_unit]
      have h0 := pt_bounds i
      have h1 : (i 1).val < 1024 := (i 1).isLt
      intro a
      match a with
      | ⟨0, _⟩ => show win0_6.index (pt i) 0 * 256 ≤ (i 0 : Nat) ∧ (i 0 : Nat) < win0_6.index (pt i) 0 * 256 + 256
                  rw [index_6]; exact h0
      | ⟨1, _⟩ => show win0_6.index (pt i) 1 * 1024 ≤ (i 1 : Nat) ∧ (i 1 : Nat) < win0_6.index (pt i) 1 * 1024 + 1024
                  rw [index_6]; simpa using h1⟩

/-- The parts of the scale's gradient of the eight row blocks, summed. -/
theorem sum_dg (j : Fin 1024) : ∑ t : Fin 8, dgBlk m c ⟨t.val, by rw [N_eq]; exact t.isLt⟩ (ix2 0 j) = G7 m c (ix2 0 j) :=
  (Finset.sum_congr rfl fun t _ => (pay2_apply (b0 m c ⟨t.val, _⟩) (b1 m c ⟨t.val, _⟩) (b2 m c ⟨t.val, _⟩) (b3 m c ⟨t.val, _⟩) (b4 m c ⟨t.val, _⟩) j).trans
      (Finset.sum_congr rfl fun r _ => by rw [xrow_eq, dh_eq]; rfl)).trans
    (Common.sum_blocks 8 256 fun r : Fin 2048 => DH m c r j * (X m c r j * Rms.inv (X m c r)))

theorem sum_part : ∑ t : Fin 8, partBlk m c ⟨t.val, by rw [N_eq]; exact t.isLt⟩ (ix2 0 0) = G8 m c (ix2 0 0) := by
  have h := Rms.pos_mul_sum (c := 2⁻¹) (by norm_num) Finset.univ (fun t : Fin 8 => ∑ r : Fin 256, Ideal.div (∑ j, E m c (row ⟨t.val, by rw [N_eq]; exact t.isLt⟩ r) j * E m c (row ⟨t.val, by rw [N_eq]; exact t.isLt⟩ r) j) Rms.N)
  refine (Finset.sum_congr rfl fun t _ => ?_).trans (h.symm.trans ?_)
  · refine (pay3_apply (b0 m c ⟨t.val, _⟩) (b1 m c ⟨t.val, _⟩) (b2 m c ⟨t.val, _⟩) (b3 m c ⟨t.val, _⟩) (b4 m c ⟨t.val, _⟩)).trans ?_
    simp only [err_eq]
  · exact congrArg (((2⁻¹ : ℝ) : EReal) * ·) (Common.sum_blocks 8 256 fun r : Fin 2048 => Ideal.div (∑ j, E m c r j * E m c r j) Rms.N)

theorem final_7 : (dats m 0 c).arrAt 7 cfg0.N = G7 m c :=
  (dats m 0 c).arrAt_eq_of_cover 7 (G7 m c) (fun t hf => by
      obtain rfl : t = last := Fin.ext (by have h := (flush0_7 t).mp hf; have := t.isLt; have := N_eq; show t.val = 7; omega)
      rw [Value.flushed7]
      funext y
      obtain ⟨j, rfl⟩ : ∃ j : Fin 1024, y = ix2 0 j := ⟨y 1, (eq_ix2 y).trans (congrArg (ix2 · (y 1)) (Subsingleton.elim (α := Fin 1) _ _))⟩
      refine (outs7 m c j 7 _).trans ((sum_dg m c j).trans ?_)
      refine congrArg (G7 m c) (idx2_ext (i := ix2 0 j) (j := ((cfg0.win 7).blk last).view.emb (ix2 0 j)) ?_ ?_)
      · show _ = win0_7.index last 0 * 1 + 1 * 0; rw [index_7]; simp
      · show _ = win0_7.index last 1 * 1024 + 1 * j.val; rw [index_7]; simp) fun i =>
    ⟨last, (flush0_7 _).mpr rfl, by
      show i ∈ ((View.whole main_v7_2).slice (win0_7.rect last)).set
      rw [View.set_slice_whole, Rect.mem_set_unit]
      have h0 : (i 0).val < 1 := (i 0).isLt
      have h1 : (i 1).val < 1024 := (i 1).isLt
      intro a
      match a with
      | ⟨0, _⟩ => show win0_7.index last 0 * 1 ≤ (i 0 : Nat) ∧ (i 0 : Nat) < win0_7.index last 0 * 1 + 1
                  rw [index_7]; simpa using h0
      | ⟨1, _⟩ => show win0_7.index last 1 * 1024 ≤ (i 1 : Nat) ∧ (i 1 : Nat) < win0_7.index last 1 * 1024 + 1024
                  rw [index_7]; simpa using h1⟩

theorem final_8 : (dats m 0 c).arrAt 8 cfg0.N = G8 m c :=
  (dats m 0 c).arrAt_eq_of_cover 8 (G8 m c) (fun t hf => by
      obtain rfl : t = last := Fin.ext (by have h := (flush0_8 t).mp hf; have := t.isLt; have := N_eq; show t.val = 7; omega)
      rw [Value.flushed8]
      funext y
      obtain rfl : y = ix2 0 0 := (eq_ix2 y).trans (congrArg₂ ix2 (Subsingleton.elim (α := Fin 1) _ _) (Subsingleton.elim (α := Fin 1) _ _))
      refine (outs8 m c 7 _).trans ((sum_part m c).trans ?_)
      refine congrArg (G8 m c) (idx2_ext (i := ix2 0 0) (j := ((cfg0.win 8).blk last).view.emb (ix2 0 0)) ?_ ?_)
      · show _ = win0_8.index last 0 * 1 + 1 * 0; rw [index_8]; simp
      · show _ = win0_8.index last 1 * 1 + 1 * 0; rw [index_8]; simp) fun i =>
    ⟨last, (flush0_8 _).mpr rfl, by
      show i ∈ ((View.whole main_v7_3).slice (win0_8.rect last)).set
      rw [View.set_slice_whole, Rect.mem_set_unit]
      have h0 : (i 0).val < 1 := (i 0).isLt
      have h1 : (i 1).val < 1 := (i 1).isLt
      intro a
      match a with
      | ⟨0, _⟩ => show win0_8.index last 0 * 1 ≤ (i 0 : Nat) ∧ (i 0 : Nat) < win0_8.index last 0 * 1 + 1
                  rw [index_8]; simpa using h0
      | ⟨1, _⟩ => show win0_8.index last 1 * 1 ≤ (i 1 : Nat) ∧ (i 1 : Nat) < win0_8.index last 1 * 1 + 1
                  rw [index_8]; simpa using h1⟩

end Cert.LossKernel

end
-- ==== Proof.UnitAxes.lean ====
/-
  A host sum over two axes of one element each is the one element that it meets.
-/
module

public import Idealize.ShloMosaic.Lib.Pointwise

@[expose] public section

noncomputable section

namespace Cert.UnitAxes

open Idealize.ShloMosaic
open scoped BigOperators

theorem ix3_ext {n0 n1 n2 : Nat} {i j : (⟨3, ![n0, n1, n2]⟩ : Shape).Idx} (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

/-- A sum over the indices that a map sends to `j`, where it sends only `i` there. -/
theorem sum_one {ι κ : Type} [Fintype ι] [DecidableEq κ] (d : ι → κ) (j : κ) (i : ι) (x : ι → EReal) (hi : d i = j)
    (hu : ∀ i', d i' = j → i' = i) : ∑ k ∈ Finset.univ.filter (fun k => d k = j), x k = x i :=
  Finset.sum_eq_single_of_mem i (by simp [hi]) fun b hb hne => absurd (hu b (by simpa using hb)) hne

/-- The sum over the first and the last axis of a [1, n, 1] array. -/
theorem sum_d02 {n : Nat} (h : (⟨3, ![1, n, 1]⟩ : Shape).ReducesTo [0, 2] ⟨1, ![n]⟩) (x : (⟨3, ![1, n, 1]⟩ : Shape).Idx → EReal) (z : EReal)
    (r : Fin n) : Ideal.hostReduceAdd h x z (ix1 r) = z + x (ix3 0 r 0) := by
  unfold Ideal.hostReduceAdd
  have hd : ∀ i, (h.drop i 0 : Nat) = i 1 := fun i => h.drop_apply_val_of_eq i 0 1 (Nat.zero_lt_one) rfl
  congr 1
  refine sum_one _ _ _ x (funext fun a => match a with | ⟨0, _⟩ => Fin.ext (hd _)) fun i hi => ?_
  have h1 := (hd i).symm.trans (congrArg (fun k => (k 0).val) hi)
  exact ix3_ext (Nat.lt_one_iff.mp (i 0).isLt) h1 (Nat.lt_one_iff.mp (i 2).isLt)

/-- The sum over the first two axes of a [1, 1, n] array. -/
theorem sum_d01 {n : Nat} (h : (⟨3, ![1, 1, n]⟩ : Shape).ReducesTo [0, 1] ⟨1, ![n]⟩) (x : (⟨3, ![1, 1, n]⟩ : Shape).Idx → EReal) (z : EReal)
    (r : Fin n) : Ideal.hostReduceAdd h x z (ix1 r) = z + x (ix3 0 0 r) := by
  unfold Ideal.hostReduceAdd
  have hd : ∀ i, (h.drop i 0 : Nat) = i 2 := fun i => h.drop_apply_val_of_eq i 0 2 (Nat.zero_lt_one) rfl
  congr 1
  refine sum_one _ _ _ x (funext fun a => match a with | ⟨0, _⟩ => Fin.ext (hd _)) fun i hi => ?_
  have h1 := (hd i).symm.trans (congrArg (fun k => (k 0).val) hi)
  exact ix3_ext (Nat.lt_one_iff.mp (i 0).isLt) (Nat.lt_one_iff.mp (i 1).isLt) h1

end Cert.UnitAxes

end
-- ==== Proof.Loss.lean ====
/-
  The loss head: the kernel's four result arrays are the loss and the gradients that differentiating it gives.
-/
module

public import proofs.«01_k».proof.Defs
public import proofs.«01_k».proof.Proof.LossK
public import proofs.«01_k».proof.Proof.UnitAxes
public import proofs.«01_k».proof.Proof.Gen.LossGradRefIdeal.Run
public import proofs.«01_k».proof.Proof.Gen.LossGradRefIdeal.Read

@[expose] public section

set_option maxRecDepth 16384

noncomputable section

namespace Cert.LossProof

open Idealize.ShloMosaic Idealize.ShloMosaic.TcCoe Idealize.SL.Sem
open Cert.LossKernel
open scoped BigOperators

/-! ## The reference's values at an index -/

section Ref

open Cert.LossGradRefIdeal Cert.LossGradRefIdeal.Read

variable (m : (ℓ : Loc Cert.LossGradIdeal.nD Cert.LossGradIdeal.τ Cert.LossGradIdeal.sig) → Buf (Elt Ideal) ℓ) (c : Dev Cert.LossGradIdeal.nD)
  (r : Fin 2048) (j : Fin 1024)

local notation "A" => act m c
local notation "W" => wd m c
local notation "R" => res m c
local notation "Γ" => gf m c
local notation "T" => tgt m c

theorem ref_x : val_main_v2 (F := Ideal) A W R (ix3 0 r j) = X m c r j := by
  unfold val_main_v2 val_main_v1 val_main_v0 X
  simp only [pointwise, zero_add]
  exact add_comm (_ : EReal) _

theorem ref_var : val_main_v9 (F := Ideal) A W R (ix3 0 r 0) = Rms.var (X m c r) := by
  unfold val_main_v9 val_main_v8 val_main_v7 val_main_v6 val_main_v5 val_main_v4 val_main_v3 val_main_cst val_main_cst_0 val_main_cst_1
  simp only [pointwise, ↓reduceDIte, OfNat.ofNat_ne_one, zero_add, ref_x, Rms.ofBits_1024]
  rfl

theorem ref_inv : val_main_v10 (F := Ideal) A W R (ix3 0 r 0) = Rms.inv (X m c r) := by
  unfold val_main_v10
  simp only [pointwise, ↓reduceDIte, OfNat.ofNat_ne_one, ref_var]
  rfl

theorem ref_xn : val_main_v15 (F := Ideal) A W R (ix3 0 r j) = X m c r j * Rms.inv (X m c r) := by
  unfold val_main_v15 val_main_v14
  simp only [pointwise, ↓reduceDIte, OfNat.ofNat_ne_one, ref_x, ref_inv]

theorem ref_err : val_main_v19 (F := Ideal) A W R Γ T (ix3 0 r j) = E m c r j := by
  unfold val_main_v19 val_main_v18 val_main_v17 val_main_v16
  simp only [pointwise, ↓reduceDIte, OfNat.ofNat_ne_one, ref_xn]
  rfl

/-- Half, over the row length, times twice the difference: the difference over the row length. -/
theorem half_two (e : EReal) : Ideal.div (((2⁻¹ : ℝ) : EReal) * ((1 : ℝ) : EReal)) Rms.N * (((2 : ℝ) : EReal) * e) = e * ((1024⁻¹ : ℝ) : EReal) := by
  rw [Rms.div_N, ← mul_assoc, mul_comm e]
  congr 1
  simp only [← EReal.coe_mul]
  congr 1
  norm_num

theorem ref_dh : val_main_v33 (F := Ideal) A W R Γ T (ix3 0 r j) = DH m c r j := by
  unfold val_main_v33 val_main_v32 val_main_v31 val_main_v30 val_main_v29 val_main_v28 val_main_v22 val_main_v21 val_main_cst_3 val_main_cst_8
    val_main_cst_9 val_main_cst_10
  simp only [pointwise, ↓reduceDIte, OfNat.ofNat_ne_one, ref_err, Rms.ofBits_1024, Rms.ofBits_half, Rms.ofBits_two, Common.ofBits_one]
  exact half_two _

theorem ref_dn : val_main_v38 (F := Ideal) A W R Γ T (ix3 0 r j) = DN m c r j := by
  unfold val_main_v38 val_main_v37 val_main_v16
  simp only [pointwise, ↓reduceDIte, OfNat.ofNat_ne_one, ref_dh]
  rfl

theorem ref_thru : val_main_v50 (F := Ideal) A W R Γ T (ix3 0 r j) = Rms.thru (X m c r) (DN m c r) := by
  unfold val_main_v50 val_main_v49 val_main_v48 val_main_v47 val_main_v46 val_main_v45 val_main_v42 val_main_v41 val_main_v40 val_main_v13
    val_main_v12 val_main_v11 val_main_cst_2 val_main_cst_13 val_main_cst_14 val_main_cst_15
  simp only [pointwise, ↓reduceDIte, OfNat.ofNat_ne_one, zero_add, ref_x, ref_inv, ref_var, ref_dn, Rms.ofBits_1024, Rms.ofBits_neg_half]
  simp only [UnitAxes.sum_d02, pointwise, ↓reduceDIte, OfNat.ofNat_ne_one, zero_add, ref_x, ref_inv, ref_var, ref_dn, Rms.ofBits_1024, Rms.ofBits_neg_half]
  rfl

theorem ref_dx : val_main_v54 (F := Ideal) A W R Γ T (ix3 0 r j) = Rms.grad (X m c r) (DN m c r) j := by
  unfold val_main_v54 val_main_v53 val_main_v52 val_main_v51 val_main_v44 val_main_v43
  simp only [pointwise, ↓reduceDIte, OfNat.ofNat_ne_one, ref_x, ref_inv, ref_dn, ref_thru]
  exact (Rms.grad_eq _ _ _).symm

theorem ref_dx0 : val_main_v55 (F := Ideal) A W R Γ T (ix2 r j) = Rms.grad (X m c r) (DN m c r) j := by
  unfold val_main_v55
  simp only [pointwise, ↓reduceDIte, OfNat.ofNat_ne_one, ref_dx]
theorem ref_dx1 : val_main_v57 (F := Ideal) A W R Γ T (ix2 r j) = Rms.grad (X m c r) (DN m c r) j := by
  unfold val_main_v57 val_main_v56
  simp only [pointwise, ↓reduceDIte, OfNat.ofNat_ne_one, ref_dx]

theorem ref_dg : val_main_v58 (F := Ideal) A W R Γ T (ix2 0 j) = ∑ r : Fin 2048, DH m c r j * (X m c r j * Rms.inv (X m c r)) := by
  unfold val_main_v58 val_main_v39 val_main_v36 val_main_v35 val_main_v34 val_main_cst_11 val_main_cst_12
  simp only [pointwise, ↓reduceDIte, OfNat.ofNat_ne_one, zero_add, ref_xn, ref_dh]
  simp only [UnitAxes.sum_d01, pointwise, ↓reduceDIte, OfNat.ofNat_ne_one, zero_add, ref_xn, ref_dh]
  exact Finset.sum_congr rfl fun _ _ => mul_comm (_ : EReal) _

theorem ref_loss : val_main_v59 (F := Ideal) A W R Γ T (ix2 0 0)
    = ((2⁻¹ : ℝ) : EReal) * ∑ r : Fin 2048, Ideal.div (∑ j, E m c r j * E m c r j) Rms.N := by
  unfold val_main_v59 val_main_v27 val_main_v26 val_main_v25 val_main_v24 val_main_v23 val_main_v20 val_main_cst_4 val_main_cst_5 val_main_cst_6 val_main_cst_7
  simp only [pointwise, Finset.univ_unique, Finset.sum_singleton, zero_add, ref_err, Rms.ofBits_1024, Rms.ofBits_half]

end Ref

/-! ## The equation -/

/-- **The kernel's arrays are the gradients and the loss**, over the extended reals. -/
theorem algebraic : Cert.algebraic_LossGradIdeal_LossGradRefIdeal := by
  intro m g m' g' _ hagree
  refine ⟨fun c => G5 m c, fun c => G6 m c, fun c => G7 m c, fun c => G8 m c,
    (θ_run Cert.LossGradIdeal.defs _ _).mono (fun r h c => ?_) (Cert.LossGradIdeal.Value.run_blocks m g),
    (θ_run Cert.LossGradRefIdeal.defs _ _).mono (fun r h c => ?_) (Cert.LossGradRefIdeal.Value.run (F := Ideal) m' g')⟩
  · obtain ⟨h5, h6, h7, h8, ha⟩ := h c
    exact ⟨h5.trans (final_5 m c), h6.trans (final_6 m c), h7.trans (final_7 m c), h8.trans (final_8 m c), ha⟩
  · obtain ⟨h5, h6, h7, h8, ha⟩ := h c
    obtain ⟨e0, e1, e2, e3, e4⟩ := hagree c
    rw [Cert.LossGradRefIdeal.Read.val_main_v55_eq, e0, e1, e2, e3, e4] at h5
    rw [Cert.LossGradRefIdeal.Read.val_main_v57_eq, e0, e1, e2, e3, e4] at h6
    rw [e0, e1, e2, e3, e4, Cert.LossGradRefIdeal.Read.val_main_v58_eq] at h7
    rw [e0, e1, e2, e3, e4, Cert.LossGradRefIdeal.Read.val_main_v59_eq] at h8
    refine ⟨h5.trans ?_, h6.trans ?_, h7.trans ?_, h8.trans ?_, ha⟩ <;> funext y
    · obtain ⟨r, j, rfl⟩ : ∃ (r : Fin 2048) (j : Fin 1024), y = ix2 r j := ⟨y 0, y 1, eq_ix2 y⟩
      exact ref_dx0 m c r j
    · obtain ⟨r, j, rfl⟩ : ∃ (r : Fin 2048) (j : Fin 1024), y = ix2 r j := ⟨y 0, y 1, eq_ix2 y⟩
      exact ref_dx1 m c r j
    · obtain ⟨r, j, rfl⟩ : ∃ (r : Fin 1) (j : Fin 1024), y = ix2 r j := ⟨y 0, y 1, eq_ix2 y⟩
      obtain rfl := Fin.fin_one_eq_zero r
      exact ref_dg m c j
    · obtain ⟨r, j, rfl⟩ : ∃ (r : Fin 1) (j : Fin 1), y = ix2 r j := ⟨y 0, y 1, eq_ix2 y⟩
      obtain rfl := Fin.fin_one_eq_zero r
      obtain rfl := Fin.fin_one_eq_zero j
      exact ref_loss m c

/-- The reference ends without fault, its arguments unchanged, every semaphore at zero. -/
theorem frame_ref : Cert.quiescent_LossGradRefIdeal := fun m ρ _ =>
  (θ_run Cert.LossGradRefIdeal.defs _ _).mono (fun r h => ⟨fun c => (h c).2.2.2.2, sem_eq_zero_of_no_sems (by decide) r.2⟩)
    (Cert.LossGradRefIdeal.Value.run (F := Ideal) m ρ)

end Cert.LossProof

end
-- ==== Proof.ProjInK.lean ====
/-
  The mixing input's backward kernel: what one block's body leaves, and what its three result arrays hold, index
  by index.
-/
module

public import proofs.«01_k».proof.Proof.Rms
public import proofs.«01_k».proof.Proof.Gen.ProjInBwdIdeal.Value
public import Idealize.ShloMosaic.Lib.Pointwise
public import Idealize.ShloMosaic.Lib.Pipeline.ValueKit.Tiles
public import Idealize.ShloMosaic.Lib.StableHlo.ReadAt
public import Idealize.ShloMosaic.Lib.Claim
public import Idealize.ShloMosaic.Lib.Tactic

@[expose] public section

set_option maxRecDepth 16384

noncomputable section

namespace Cert.ProjInKernel

open Idealize.ShloMosaic Idealize.ShloMosaic.TcCoe Idealize.SL.Sem
open Idealize.ShloMosaic.Pipeline (Dat)
open Cert.ProjInBwdIdeal Cert.ProjInBwdIdeal.Gen
open Cert.Common (idx2_ext)
open scoped BigOperators

variable (m : (ℓ : Loc nD τ sig) → Buf (Elt Ideal) ℓ) (c : Dev nD)

theorem hz : (![0, 0] : Fin 2 → Nat) = fun _ => 0 := funext fun a => by fin_cases a <;> rfl

/-! ## One block's values -/

section Blocks

variable (w0 : Vec Ideal S768x1024 .bf16) (w1 w2 w3 : Vec Ideal S1024x1024 .bf16) (d0 : Vec Ideal S256x768 .bf16)
  (d1 d2 d3 : Vec Ideal S256x1024 .bf16) (x : Vec Ideal S256x1024 .f32) (v : Vec Ideal S256x1 .f32) (g : Vec Ideal S1x1024 .f32)
  (e : Vec Ideal S256x1024 .f32)

/-- The gradient with respect to the scaled row: the four segments' products. -/
def dh (r : Fin 256) (j : Fin 1024) : EReal :=
  (∑ k : Fin 768, d0 (ix2 r k) * w0 (ix2 k j)) + (∑ k : Fin 1024, d1 (ix2 r k) * w1 (ix2 k j))
    + (∑ k : Fin 1024, d2 (ix2 r k) * w2 (ix2 k j)) + ∑ k : Fin 1024, d3 (ix2 r k) * w3 (ix2 k j)

theorem pay5_apply (r : Fin 256) (j : Fin 1024) : k0_pay5 w0 d0 w1 d1 w2 d2 w3 d3 (ix2 r j) = dh w0 w1 w2 w3 d0 d1 d2 d3 r j := by
  unfold k0_pay5 dh
  simp only [pointwise, zero_add]

theorem pay7_apply (r : Fin 256) (j : Fin 1024) : k0_pay7 x v (ix2 r j) = x (ix2 r j) * v (ix2 r 0) := by
  unfold k0_pay7 k0_pay6
  simp only [pointwise, ↓reduceDIte, OfNat.ofNat_ne_one, Nat.reduceEqDiff]

theorem pay1_apply (j : Fin 1024) : k0_pay1 (k0_pay5 w0 d0 w1 d1 w2 d2 w3 d3) (k0_pay7 x v) (ix2 0 j)
    = ∑ r : Fin 256, dh w0 w1 w2 w3 d0 d1 d2 d3 r j * (x (ix2 r j) * v (ix2 r 0)) := by
  unfold k0_pay1
  simp only [pointwise, zero_add, ↓reduceDIte, OfNat.ofNat_ne_one, Nat.reduceEqDiff, pay5_apply, pay7_apply]

theorem pay2_apply (r : Fin 256) (j : Fin 1024) (hv : v (ix2 r 0) = Rms.inv fun j => x (ix2 r j)) :
    k0_pay2 (k0_pay5 w0 d0 w1 d1 w2 d2 w3 d3) (k0_pay6 v) (k0_pay7 x v) (k0_pay8 g) e (ix2 r j)
      = e (ix2 r j) + Rms.grad (fun j => x (ix2 r j)) (fun j => dh w0 w1 w2 w3 d0 d1 d2 d3 r j * g (ix2 0 j)) j := by
  unfold k0_pay2 k0_pay6 k0_pay8
  simp only [pointwise, zero_add, ↓reduceDIte, OfNat.ofNat_ne_one, Nat.reduceEqDiff, pay5_apply, pay7_apply, Rms.ofBits_1024, hv]
  rfl

end Blocks

/-! ## What a point's body leaves -/

/-- The blocks that point `t` reads; of the weight, its four parts. -/
abbrev b0 (t : Fin cfg0.N) : Vec Ideal S256x768 .bf16 := iblk m c 0 t
abbrev b1 (t : Fin cfg0.N) : Vec Ideal S256x1024 .bf16 := iblk m c 1 t
abbrev b2 (t : Fin cfg0.N) : Vec Ideal S256x1024 .bf16 := iblk m c 2 t
abbrev b3 (t : Fin cfg0.N) : Vec Ideal S256x1024 .bf16 := iblk m c 3 t
abbrev b4 (t : Fin cfg0.N) : Vec Ideal S3840x1024 .bf16 := iblk m c 4 t
abbrev w0 (t : Fin cfg0.N) : Vec Ideal S768x1024 .bf16 :=
  View.ld (b4 m c t) (Rect.unit (s := S3840x1024) ![0, 0] S768x1024.size inb_S3840x1024_S768x1024_0_0)
abbrev w1 (t : Fin cfg0.N) : Vec Ideal S1024x1024 .bf16 :=
  View.ld (b4 m c t) (Rect.unit (s := S3840x1024) ![768, 0] S1024x1024.size inb_S3840x1024_S1024x1024_768_0)
abbrev w2 (t : Fin cfg0.N) : Vec Ideal S1024x1024 .bf16 :=
  View.ld (b4 m c t) (Rect.unit (s := S3840x1024) ![1792, 0] S1024x1024.size inb_S3840x1024_S1024x1024_1792_0)
abbrev w3 (t : Fin cfg0.N) : Vec Ideal S1024x1024 .bf16 :=
  View.ld (b4 m c t) (Rect.unit (s := S3840x1024) ![2816, 0] S1024x1024.size inb_S3840x1024_S1024x1024_2816_0)
abbrev b5 (t : Fin cfg0.N) : Vec Ideal S256x1024 .f32 := iblk m c 5 t
abbrev b6 (t : Fin cfg0.N) : Vec Ideal S256x1 .f32 := iblk m c 6 t
abbrev b7 (t : Fin cfg0.N) : Vec Ideal S1x1024 .f32 := iblk m c 7 t
abbrev b8 (t : Fin cfg0.N) : Vec Ideal S256x1024 .f32 := iblk m c 8 t

/-- The blocks that a point computes: the gradient, the gradient again, the part of the scale's gradient. -/
abbrev accBlk (t : Fin cfg0.N) : Vec Ideal S256x1024 .f32 :=
  k0_pay5 (w0 m c t) (b0 m c t) (w1 m c t) (b1 m c t) (w2 m c t) (b2 m c t) (w3 m c t) (b3 m c t)
abbrev dxBlk (t : Fin cfg0.N) : Vec Ideal S256x1024 .f32 :=
  k0_pay2 (accBlk m c t) (k0_pay6 (b6 m c t)) (k0_pay7 (b5 m c t) (b6 m c t)) (k0_pay8 (b7 m c t)) (b8 m c t)
abbrev dxBlk' (t : Fin cfg0.N) : Vec Ideal S256x1024 .bf16 :=
  k0_pay3 (accBlk m c t) (k0_pay6 (b6 m c t)) (k0_pay7 (b5 m c t) (b6 m c t)) (k0_pay8 (b7 m c t)) (b8 m c t)
abbrev dgBlk (t : Fin cfg0.N) : Vec Ideal S1x1024 .f32 := k0_pay1 (accBlk m c t) (k0_pay7 (b5 m c t) (b6 m c t))

theorem N_eq : cfg0.N = 8 := N_0

/-- The first point leaves its own blocks. -/
theorem outs_first (t : Fin cfg0.N) (h : t.val = 0) :
    outsAt0 m c t.val t.isLt = (dxBlk m c t, dxBlk' m c t, dgBlk m c t) := by
  rw [outsAt0_A m c t (by omega) (by omega)]
  refine Prod.ext ?_ (Prod.ext ?_ ?_)
  · dsimp only
    unfold out0_A_9
    rw [View.read_writes_eq_canon _ _ _ (fun y => cover0_A_9 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S256x1024) hz, View.ld_unit_zero (S := S256x768) hz,
      View.ld_unit_zero (S := S256x1) hz, View.ld_unit_zero (S := S1x1024) hz]
  · dsimp only
    unfold out0_A_10
    rw [View.read_writes_eq_canon _ _ _ (fun y => cover0_A_10 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S256x1024) hz, View.ld_unit_zero (S := S256x768) hz,
      View.ld_unit_zero (S := S256x1) hz, View.ld_unit_zero (S := S1x1024) hz]
  · dsimp only
    unfold out0_A_11
    rw [View.read_writes_eq_canon _ _ _ (fun y => cover0_A_11 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S256x1024) hz, View.ld_unit_zero (S := S256x768) hz,
      View.ld_unit_zero (S := S256x1) hz, View.ld_unit_zero (S := S1x1024) hz]

/-- A later point leaves its own blocks of the gradient, and adds its part to what the point before left. -/
theorem outs_later (t : Fin cfg0.N) (h : t.val ≠ 0) :
    outsAt0 m c t.val t.isLt = (dxBlk m c t, dxBlk' m c t,
      (addf (outsAt0 m c (t.val - 1) (Nat.lt_of_le_of_lt (Nat.sub_le ..) t.isLt)).2.2 (dgBlk m c t) : FVec Ideal S1x1024 .f32)) := by
  have hN := N_eq
  have ht := t.isLt
  rw [outsAt0_B m c t (by omega) (by omega)]
  refine Prod.ext ?_ (Prod.ext ?_ ?_)
  · dsimp only
    unfold out0_B_9
    rw [View.read_writes_eq_canon _ _ _ (fun y => cover0_B_9 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S256x1024) hz, View.ld_unit_zero (S := S256x768) hz,
      View.ld_unit_zero (S := S256x1) hz, View.ld_unit_zero (S := S1x1024) hz]
  · dsimp only
    unfold out0_B_10
    rw [View.read_writes_eq_canon _ _ _ (fun y => cover0_B_10 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S256x1024) hz, View.ld_unit_zero (S := S256x768) hz,
      View.ld_unit_zero (S := S256x1) hz, View.ld_unit_zero (S := S1x1024) hz]
  · dsimp only
    unfold out0_B_11
    rw [View.read_writes_eq_canon _ _ _ (fun y => cover0_B_11 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, (hs0_7 t).read_unread, (hs0_8 t).read_unread, View.ld_unit_zero (S := S256x1024) hz, View.ld_unit_zero (S := S256x768) hz,
      View.ld_unit_zero (S := S256x1) hz, View.ld_unit_zero (S := S1x1024) hz, (hs0_11 t).read_unread, k0_pay4, shapeCast_self]

/-! ## The arguments, the staged arrays, and the blocks read -/

abbrev xin : Vec Ideal S1x2048x1024 .f32 := m ((c : Thread nD τ).loc main_arg0)
abbrev gain : Vec Ideal S1x1024 .f32 := m ((c : Thread nD τ).loc main_arg1)
abbrev wt : Vec Ideal S1x1024x3840 .f32 := m ((c : Thread nD τ).loc main_arg2)
abbrev ctp : Vec Ideal S1x2048x3840 .f32 := m ((c : Thread nD τ).loc main_arg3)
abbrev ctx : Vec Ideal S1x2048x1024 .f32 := m ((c : Thread nD τ).loc main_arg4)

/-- A row of the forward's input. -/
def X (r : Fin 2048) (j : Fin 1024) : EReal := xin m c (ix3 0 r j)
/-- Column `k` of each of the four segments. -/
def col0 (k : Fin 768) : Fin 3840 := ⟨k.val, by omega⟩
def col1 (k : Fin 1024) : Fin 3840 := ⟨768 + k.val, by omega⟩
def col2 (k : Fin 1024) : Fin 3840 := ⟨1792 + k.val, by omega⟩
def col3 (k : Fin 1024) : Fin 3840 := ⟨2816 + k.val, by omega⟩

theorem V_x (r : Fin 2048) (j : Fin 1024) : V m c main_v0 (ix2 r j) = X m c r j := by
  unfold V X; after_reads_at
theorem V_d0 (r : Fin 2048) (k : Fin 768) : V m c main_v11 (ix2 r k) = ctp m c (ix3 0 r (col0 k)) := by
  unfold V col0; after_reads_at
theorem V_d1 (r : Fin 2048) (k : Fin 1024) : V m c main_v12 (ix2 r k) = ctp m c (ix3 0 r (col1 k)) := by
  unfold V col1; after_reads_at
theorem V_d2 (r : Fin 2048) (k : Fin 1024) : V m c main_v13 (ix2 r k) = ctp m c (ix3 0 r (col2 k)) := by
  unfold V col2; after_reads_at
theorem V_d3 (r : Fin 2048) (k : Fin 1024) : V m c main_v14 (ix2 r k) = ctp m c (ix3 0 r (col3 k)) := by
  unfold V col3; after_reads_at
theorem V_w (k : Fin 3840) (j : Fin 1024) : V m c main_v17 (ix2 k j) = wt m c (ix3 0 j k) := by
  unfold V; after_reads_at
theorem V_e (r : Fin 2048) (j : Fin 1024) : V m c main_v18 (ix2 r j) = ctx m c (ix3 0 r j) := by
  unfold V; after_reads_at
theorem V_g (j : Fin 1024) : V m c main_arg1 (ix2 0 j) = gain m c (ix2 0 j) := by
  unfold V; after_reads_at
theorem V_r (r : Fin 2048) : V m c main_v8 (ix2 r 0) = Rms.inv (X m c r) := by
  unfold V; after_reads_at
  rw [Rms.ofBits_1024]
  rfl

/-- Row `r` of the row block of point `t`. -/
def row (t : Fin cfg0.N) (r : Fin 256) : Fin 2048 := ⟨256 * t.val + r.val, by have := t.isLt; have := N_eq; omega⟩

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![0, 0] := by decide +kernel
theorem index_5 : ∀ t : Fin grid0.N, win0_5.index t = ![t.val, 0] := by decide +kernel
theorem index_6 : ∀ t : Fin grid0.N, win0_6.index t = ![t.val, 0] := by decide +kernel
theorem index_7 : ∀ t : Fin grid0.N, win0_7.index t = ![0, 0] := by decide +kernel
theorem index_8 : ∀ t : Fin grid0.N, win0_8.index t = ![t.val, 0] := by decide +kernel
theorem index_9 : ∀ t : Fin grid0.N, win0_9.index t = ![t.val, 0] := by decide +kernel
theorem index_10 : ∀ t : Fin grid0.N, win0_10.index t = ![t.val, 0] := by decide +kernel
theorem index_11 : ∀ t : Fin grid0.N, win0_11.index t = ![0, 0] := by decide +kernel

theorem iblk_0 (t : Fin cfg0.N) (r : Fin 256) (k : Fin 768) : iblk m c 0 t (ix2 r k) = ctp m c (ix3 0 (row t r) (col0 k)) := by
  rw [← V_d0]
  exact congrArg (V m c main_v11) (idx2_ext (by show win0_0.index t 0 * 256 + 1 * r.val = _; rw [index_0]; simp [row, mul_comm])
    (by show win0_0.index t 1 * 768 + 1 * k.val = _; rw [index_0]; simp))
theorem iblk_1 (t : Fin cfg0.N) (r : Fin 256) (k : Fin 1024) : iblk m c 1 t (ix2 r k) = ctp m c (ix3 0 (row t r) (col1 k)) := by
  rw [← V_d1]
  exact congrArg (V m c main_v12) (idx2_ext (by show win0_1.index t 0 * 256 + 1 * r.val = _; rw [index_1]; simp [row, mul_comm])
    (by show win0_1.index t 1 * 1024 + 1 * k.val = _; rw [index_1]; simp))
theorem iblk_2 (t : Fin cfg0.N) (r : Fin 256) (k : Fin 1024) : iblk m c 2 t (ix2 r k) = ctp m c (ix3 0 (row t r) (col2 k)) := by
  rw [← V_d2]
  exact congrArg (V m c main_v13) (idx2_ext (by show win0_2.index t 0 * 256 + 1 * r.val = _; rw [index_2]; simp [row, mul_comm])
    (by show win0_2.index t 1 * 1024 + 1 * k.val = _; rw [index_2]; simp))
theorem iblk_3 (t : Fin cfg0.N) (r : Fin 256) (k : Fin 1024) : iblk m c 3 t (ix2 r k) = ctp m c (ix3 0 (row t r) (col3 k)) := by
  rw [← V_d3]
  exact congrArg (V m c main_v14) (idx2_ext (by show win0_3.index t 0 * 256 + 1 * r.val = _; rw [index_3]; simp [row, mul_comm])
    (by show win0_3.index t 1 * 1024 + 1 * k.val = _; rw [index_3]; simp))
theorem iblk_4 (t : Fin cfg0.N) (k : Fin 3840) (j : Fin 1024) : iblk m c 4 t (ix2 k j) = wt m c (ix3 0 j k) := by
  rw [← V_w]
  exact congrArg (V m c main_v17) (idx2_ext (by show win0_4.index t 0 * 3840 + 1 * k.val = _; rw [index_4]; simp)
    (by show win0_4.index t 1 * 1024 + 1 * j.val = _; rw [index_4]; simp))
theorem iblk_5 (t : Fin cfg0.N) (r : Fin 256) (j : Fin 1024) : iblk m c 5 t (ix2 r j) = X m c (row t r) j := by
  rw [← V_x]
  exact congrArg (V m c main_v0) (idx2_ext (by show win0_5.index t 0 * 256 + 1 * r.val = _; rw [index_5]; simp [row, mul_comm])
    (by show win0_5.index t 1 * 1024 + 1 * j.val = _; rw [index_5]; simp))
theorem iblk_6 (t : Fin cfg0.N) (r : Fin 256) : iblk m c 6 t (ix2 r 0) = Rms.inv (X m c (row t r)) := by
  rw [← V_r]
  exact congrArg (V m c main_v8) (idx2_ext (by show win0_6.index t 0 * 256 + 1 * r.val = _; rw [index_6]; simp [row, mul_comm])
    (by show win0_6.index t 1 * 1 + 1 * 0 = _; rw [index_6]; simp))
theorem iblk_7 (t : Fin cfg0.N) (j : Fin 1024) : iblk m c 7 t (ix2 0 j) = gain m c (ix2 0 j) := by
  rw [← V_g]
  exact congrArg (V m c main_arg1) (idx2_ext (by show win0_7.index t 0 * 1 + 1 * 0 = _; rw [index_7]; simp)
    (by show win0_7.index t 1 * 1024 + 1 * j.val = _; rw [index_7]; simp))
theorem iblk_8 (t : Fin cfg0.N) (r : Fin 256) (j : Fin 1024) : iblk m c 8 t (ix2 r j) = ctx m c (ix3 0 (row t r) j) := by
  rw [← V_e]
  exact congrArg (V m c main_v18) (idx2_ext (by show win0_8.index t 0 * 256 + 1 * r.val = _; rw [index_8]; simp [row, mul_comm])
    (by show win0_8.index t 1 * 1024 + 1 * j.val = _; rw [index_8]; simp))

/-- The weight's four parts, read out of its block. -/
theorem w0_apply (t : Fin cfg0.N) (k : Fin 768) (j : Fin 1024) : w0 m c t (ix2 k j) = wt m c (ix3 0 j (col0 k)) := by
  rw [← iblk_4 m c t]
  exact View.ld_unit_apply_of _ _ _ _ _ (ix2 (col0 k) j) fun a => match a with
    | ⟨0, _⟩ => by show k.val = 0 + k.val; omega
    | ⟨1, _⟩ => by show j.val = 0 + j.val; omega
theorem w1_apply (t : Fin cfg0.N) (k : Fin 1024) (j : Fin 1024) : w1 m c t (ix2 k j) = wt m c (ix3 0 j (col1 k)) := by
  rw [← iblk_4 m c t]
  exact View.ld_unit_apply_of _ _ _ _ _ (ix2 (col1 k) j) fun a => match a with
    | ⟨0, _⟩ => by show 768 + k.val = 768 + k.val; omega
    | ⟨1, _⟩ => by show j.val = 0 + j.val; omega
theorem w2_apply (t : Fin cfg0.N) (k : Fin 1024) (j : Fin 1024) : w2 m c t (ix2 k j) = wt m c (ix3 0 j (col2 k)) := by
  rw [← iblk_4 m c t]
  exact View.ld_unit_apply_of _ _ _ _ _ (ix2 (col2 k) j) fun a => match a with
    | ⟨0, _⟩ => by show 1792 + k.val = 1792 + k.val; omega
    | ⟨1, _⟩ => by show j.val = 0 + j.val; omega
theorem w3_apply (t : Fin cfg0.N) (k : Fin 1024) (j : Fin 1024) : w3 m c t (ix2 k j) = wt m c (ix3 0 j (col3 k)) := by
  rw [← iblk_4 m c t]
  exact View.ld_unit_apply_of _ _ _ _ _ (ix2 (col3 k) j) fun a => match a with
    | ⟨0, _⟩ => by show 2816 + k.val = 2816 + k.val; omega
    | ⟨1, _⟩ => by show j.val = 0 + j.val; omega

/-! ## The three result arrays -/

/-- The gradients with respect to the scaled and normalised rows. -/
def DH (r : Fin 2048) (j : Fin 1024) : EReal := ∑ k : Fin 3840, ctp m c (ix3 0 r k) * wt m c (ix3 0 j k)
def DN (r : Fin 2048) (j : Fin 1024) : EReal := DH m c r j * gain m c (ix2 0 j)

/-- A sum over all columns is the sum over the four segments. -/
theorem sum_cols (f : Fin 3840 → EReal) : (∑ k : Fin 768, f (col0 k)) + (∑ k : Fin 1024, f (col1 k)) + (∑ k : Fin 1024, f (col2 k))
    + (∑ k : Fin 1024, f (col3 k)) = ∑ k, f k := by
  refine Eq.symm ((Fin.sum_univ_add (a := 2816) (b := 1024) f).trans (congrArg (· + _) ?_))
  refine (Fin.sum_univ_add (a := 1792) (b := 1024) fun k : Fin 2816 => f ⟨k.val, by omega⟩).trans (congrArg (· + _) ?_)
  exact Fin.sum_univ_add (a := 768) (b := 1024) fun k : Fin 1792 => f ⟨k.val, by omega⟩

/-- The product over all columns is the sum of the four segments' products. -/
theorem dh_eq (t : Fin cfg0.N) (r : Fin 256) (j : Fin 1024) :
    dh (w0 m c t) (w1 m c t) (w2 m c t) (w3 m c t) (b0 m c t) (b1 m c t) (b2 m c t) (b3 m c t) r j = DH m c (row t r) j := by
  simp only [dh, w0_apply, w1_apply, w2_apply, w3_apply, iblk_0, iblk_1, iblk_2, iblk_3]
  exact sum_cols fun k => ctp m c (ix3 0 (row t r) k) * wt m c (ix3 0 j k)

/-- The gradient of the layer's input, and of the scale. -/
def G9 : Vec Ideal S2048x1024 .f32 := fun y => ctx m c (ix3 0 (y 0) (y 1)) + Rms.grad (X m c (y 0)) (DN m c (y 0)) (y 1)
def G10 : Vec Ideal S2048x1024 .bf16 := fun y => ctx m c (ix3 0 (y 0) (y 1)) + Rms.grad (X m c (y 0)) (DN m c (y 0)) (y 1)
def G11 : Vec Ideal S1x1024 .f32 := fun y => ∑ r : Fin 2048, DH m c r (y 1) * (X m c r (y 1) * Rms.inv (X m c r))

theorem dxBlk_apply (t : Fin cfg0.N) (r : Fin 256) (j : Fin 1024) : dxBlk m c t (ix2 r j)
    = ctx m c (ix3 0 (row t r) j) + Rms.grad (X m c (row t r)) (DN m c (row t r)) j := by
  have hx : (fun j => b5 m c t (ix2 r j)) = X m c (row t r) := funext fun j => iblk_5 m c t r j
  have hd : (fun j => dh (w0 m c t) (w1 m c t) (w2 m c t) (w3 m c t) (b0 m c t) (b1 m c t) (b2 m c t) (b3 m c t) r j * b7 m c t (ix2 0 j)) = DN m c (row t r) :=
    funext fun j => by simp only [dh_eq, iblk_7, DN]
  refine (pay2_apply (w0 m c t) (w1 m c t) (w2 m c t) (w3 m c t) (b0 m c t) (b1 m c t) (b2 m c t) (b3 m c t) (b5 m c t) (b6 m c t) (b7 m c t) (b8 m c t) r j ?_).trans ?_
  · rw [hx]; exact iblk_6 m c t r
  · rw [hx, hd]; simp only [iblk_8]

theorem dgBlk_apply (t : Fin cfg0.N) (j : Fin 1024) : dgBlk m c t (ix2 0 j)
    = ∑ r : Fin 256, DH m c (row t r) j * (X m c (row t r) j * Rms.inv (X m c (row t r))) :=
  (pay1_apply (w0 m c t) (w1 m c t) (w2 m c t) (w3 m c t) (b0 m c t) (b1 m c t) (b2 m c t) (b3 m c t) (b5 m c t) (b6 m c t) j).trans
    (Finset.sum_congr rfl fun r _ => by simp only [dh_eq, iblk_5, iblk_6])

theorem outs9 (t : Fin cfg0.N) : (outsAt0 m c t.val t.isLt).1 = dxBlk m c t := by
  by_cases h : t.val = 0
  · rw [outs_first m c t h]
  · rw [outs_later m c t h]
theorem outs10 (t : Fin cfg0.N) : (outsAt0 m c t.val t.isLt).2.1 = dxBlk' m c t := by
  by_cases h : t.val = 0
  · rw [outs_first m c t h]
  · rw [outs_later m c t h]

/-- The scale's gradient after point `n`: the parts so far, summed. -/
theorem outs11 (j : Fin 1024) (n : Nat) (h : n < cfg0.N) : (outsAt0 m c n h).2.2 (ix2 0 j)
    = ∑ t : Fin (n + 1), dgBlk m c ⟨t.val, lt_of_le_of_lt (Nat.le_of_lt_succ t.isLt) h⟩ (ix2 0 j) :=
  Common.acc_sum (fun n h => (outsAt0 m c n h).2.2 (ix2 0 j)) (fun t => dgBlk m c t (ix2 0 j))
    (fun h => by rw [outs_first m c ⟨0, h⟩ rfl])
    (fun n h => by rw [outs_later m c ⟨n + 1, h⟩ (Nat.succ_ne_zero n)]; rfl) n h

/-- The point whose row block holds an index, and the last point. -/
def pt (i : S2048x1024.Idx) : Fin cfg0.N := ⟨(i 0).val / 256, by have h : (i 0).val < 2048 := (i 0).isLt; have := N_eq; omega⟩
theorem pt_bounds (i : S2048x1024.Idx) : (pt i).val * 256 ≤ (i 0).val ∧ (i 0).val < (pt i).val * 256 + 256 := by
  simp only [pt]; omega
abbrev last : Fin cfg0.N := ⟨7, by rw [N_eq]; decide⟩

theorem final_9 : (dats m 0 c).arrAt 9 cfg0.N = G9 m c :=
  (dats m 0 c).arrAt_eq_of_cover 9 (G9 m c) (fun t _ => by
      rw [Value.flushed9, outs9]
      funext y
      obtain ⟨r, j, rfl⟩ : ∃ (r : Fin 256) (j : Fin 1024), y = ix2 r j := ⟨y 0, y 1, eq_ix2 y⟩
      refine (dxBlk_apply m c t r j).trans ?_
      refine Eq.trans ?_ (congrArg (G9 m c) (idx2_ext (i := ix2 (row t r) j)
        (by show _ = win0_9.index t 0 * 256 + 1 * r.val; rw [index_9]; simp [row, mul_comm])
        (by show _ = win0_9.index t 1 * 1024 + 1 * j.val; rw [index_9]; simp)))
      simp only [G9, ix2_0, ix2_1]) fun i =>
    ⟨pt i, flush0_9 _, by
      show i ∈ ((View.whole main_v19_0).slice (win0_9.rect (pt i))).set
      rw [View.set_slice_whole, Rect.mem_set_unit]
      have h0 := pt_bounds i
      have h1 : (i 1).val < 1024 := (i 1).isLt
      intro a
      match a with
      | ⟨0, _⟩ => show win0_9.index (pt i) 0 * 256 ≤ (i 0 : Nat) ∧ (i 0 : Nat) < win0_9.index (pt i) 0 * 256 + 256
                  rw [index_9]; exact h0
      | ⟨1, _⟩ => show win0_9.index (pt i) 1 * 1024 ≤ (i 1 : Nat) ∧ (i 1 : Nat) < win0_9.index (pt i) 1 * 1024 + 1024
                  rw [index_9]; simpa using h1⟩

theorem final_10 : (dats m 0 c).arrAt 10 cfg0.N = G10 m c :=
  (dats m 0 c).arrAt_eq_of_cover 10 (G10 m c) (fun t _ => by
      rw [Value.flushed10, outs10]
      funext y
      obtain ⟨r, j, rfl⟩ : ∃ (r : Fin 256) (j : Fin 1024), y = ix2 r j := ⟨y 0, y 1, eq_ix2 y⟩
      refine (dxBlk_apply m c t r j).trans ?_
      refine Eq.trans ?_ (congrArg (G10 m c) (idx2_ext (i := ix2 (row t r) j)
        (by show _ = win0_10.index t 0 * 256 + 1 * r.val; rw [index_10]; simp [row, mul_comm])
        (by show _ = win0_10.index t 1 * 1024 + 1 * j.val; rw [index_10]; simp)))
      simp only [G10, ix2_0, ix2_1]) fun i =>
    ⟨pt i, flush0_10 _, by
      show i ∈ ((View.whole main_v19_1).slice (win0_10.rect (pt i))).set
      rw [View.set_slice_whole, Rect.mem_set_unit]
      have h0 := pt_bounds i
      have h1 : (i 1).val < 1024 := (i 1).isLt
      intro a
      match a with
      | ⟨0, _⟩ => show win0_10.index (pt i) 0 * 256 ≤ (i 0 : Nat) ∧ (i 0 : Nat) < win0_10.index (pt i) 0 * 256 + 256
                  rw [index_10]; exact h0
      | ⟨1, _⟩ => show win0_10.index (pt i) 1 * 1024 ≤ (i 1 : Nat) ∧ (i 1 : Nat) < win0_10.index (pt i) 1 * 1024 + 1024
                  rw [index_10]; simpa using h1⟩

/-- The parts of the scale's gradient of the eight row blocks, summed. -/
theorem sum_dg (j : Fin 1024) : ∑ t : Fin 8, dgBlk m c ⟨t.val, by rw [N_eq]; exact t.isLt⟩ (ix2 0 j) = G11 m c (ix2 0 j) :=
  (Finset.sum_congr rfl fun t _ => dgBlk_apply m c ⟨t.val, _⟩ j).trans
    (Common.sum_blocks 8 256 fun r : Fin 2048 => DH m c r j * (X m c r j * Rms.inv (X m c r)))

theorem final_11 : (dats m 0 c).arrAt 11 cfg0.N = G11 m c :=
  (dats m 0 c).arrAt_eq_of_cover 11 (G11 m c) (fun t hf => by
      obtain rfl : t = last := Fin.ext (by have h := (flush0_11 t).mp hf; have := t.isLt; have := N_eq; show t.val = 7; omega)
      rw [Value.flushed11]
      funext y
      obtain ⟨j, rfl⟩ : ∃ j : Fin 1024, y = ix2 0 j := ⟨y 1, (eq_ix2 y).trans (congrArg (ix2 · (y 1)) (Subsingleton.elim (α := Fin 1) _ _))⟩
      refine (outs11 m c j 7 _).trans ((sum_dg m c j).trans ?_)
      refine congrArg (G11 m c) (idx2_ext (i := ix2 0 j) (j := ((cfg0.win 11).blk last).view.emb (ix2 0 j)) ?_ ?_)
      · show _ = win0_11.index last 0 * 1 + 1 * 0; rw [index_11]; simp
      · show _ = win0_11.index last 1 * 1024 + 1 * j.val; rw [index_11]; simp) fun i =>
    ⟨last, (flush0_11 _).mpr rfl, by
      show i ∈ ((View.whole main_v19_2).slice (win0_11.rect last)).set
      rw [View.set_slice_whole, Rect.mem_set_unit]
      have h0 : (i 0).val < 1 := (i 0).isLt
      have h1 : (i 1).val < 1024 := (i 1).isLt
      intro a
      match a with
      | ⟨0, _⟩ => show win0_11.index last 0 * 1 ≤ (i 0 : Nat) ∧ (i 0 : Nat) < win0_11.index last 0 * 1 + 1
                  rw [index_11]; simpa using h0
      | ⟨1, _⟩ => show win0_11.index last 1 * 1024 ≤ (i 1 : Nat) ∧ (i 1 : Nat) < win0_11.index last 1 * 1024 + 1024
                  rw [index_11]; simpa using h1⟩

end Cert.ProjInKernel

end
-- ==== Proof.ProjIn.lean ====
/-
  The mixing input's backward pass: the kernel's three result arrays are the gradients that differentiating the
  RMS normalisation, the product and the residual gives.
-/
module

public import proofs.«01_k».proof.Defs
public import proofs.«01_k».proof.Proof.ProjInK
public import proofs.«01_k».proof.Proof.UnitAxes
public import proofs.«01_k».proof.Proof.Gen.ProjInBwdRefIdeal.Run
public import proofs.«01_k».proof.Proof.Gen.ProjInBwdRefIdeal.Read

@[expose] public section

set_option maxRecDepth 16384

noncomputable section

namespace Cert.ProjInProof

open Idealize.ShloMosaic Idealize.ShloMosaic.TcCoe Idealize.SL.Sem
open Cert.ProjInKernel
open scoped BigOperators

/-! ## The reference's values at an index -/

section Ref

open Cert.ProjInBwdRefIdeal Cert.ProjInBwdRefIdeal.Read

variable (m : (ℓ : Loc Cert.ProjInBwdIdeal.nD Cert.ProjInBwdIdeal.τ Cert.ProjInBwdIdeal.sig) → Buf (Elt Ideal) ℓ) (c : Dev Cert.ProjInBwdIdeal.nD)
  (r : Fin 2048) (j : Fin 1024)

local notation "A" => xin m c
local notation "Γ" => gain m c
local notation "W" => wt m c
local notation "T" => ctp m c
local notation "U" => ctx m c

theorem ref_var : val_main_v7 (F := Ideal) A (ix3 0 r 0) = Rms.var (X m c r) := by
  unfold val_main_v7 val_main_v6 val_main_v5 val_main_v4 val_main_v3 val_main_v2 val_main_v1 val_main_cst val_main_cst_0 val_main_cst_1
  simp only [pointwise, ↓reduceDIte, OfNat.ofNat_ne_one, zero_add, Rms.ofBits_1024]
  rfl

theorem ref_inv : val_main_v8 (F := Ideal) A (ix3 0 r 0) = Rms.inv (X m c r) := by
  unfold val_main_v8
  simp only [pointwise, ref_var]
  rfl

theorem ref_xn : val_main_v13 (F := Ideal) A (ix3 0 r j) = X m c r j * Rms.inv (X m c r) := by
  unfold val_main_v13 val_main_v12
  simp only [pointwise, ↓reduceDIte, OfNat.ofNat_ne_one, ref_inv]
  rfl

theorem ref_dh : val_main_v19 (F := Ideal) W T (ix3 0 r j) = DH m c r j := by
  unfold val_main_v19 val_main_v17 DH
  simp only [pointwise, ↓reduceDIte, OfNat.ofNat_ne_one, zero_add]

theorem ref_dn : val_main_v24 (F := Ideal) Γ W T (ix3 0 r j) = DN m c r j := by
  unfold val_main_v24 val_main_v23 val_main_v14 val_main_v0
  simp only [pointwise, ↓reduceDIte, OfNat.ofNat_ne_one, ref_dh]
  rfl

theorem ref_thru : val_main_v37 (F := Ideal) A Γ W T (ix3 0 r j) = Rms.thru (X m c r) (DN m c r) := by
  unfold val_main_v37 val_main_v36 val_main_v35 val_main_v34 val_main_v33 val_main_v32 val_main_v28 val_main_v27 val_main_v26 val_main_v11
    val_main_v10 val_main_v9 val_main_cst_2 val_main_cst_5 val_main_cst_6 val_main_cst_7
  simp only [pointwise, UnitAxes.sum_d02, ↓reduceDIte, OfNat.ofNat_ne_one, zero_add, ref_inv, ref_var, ref_dn, Rms.ofBits_1024, Rms.ofBits_neg_half]
  rfl

theorem ref_dx : val_main_v41 (F := Ideal) A Γ W T U (ix3 0 r j) = U (ix3 0 r j) + Rms.grad (X m c r) (DN m c r) j := by
  unfold val_main_v41 val_main_v40 val_main_v39 val_main_v38 val_main_v31 val_main_v30 val_main_v29
  simp only [pointwise, ↓reduceDIte, OfNat.ofNat_ne_one, ref_inv, ref_dn, ref_thru]
  rw [Rms.grad_eq]
  exact (congrArg (· + _) (add_assoc (_ : EReal) _ _)).trans (add_assoc (_ : EReal) _ _)

theorem ref_dx0 : val_main_v43 (F := Ideal) A Γ W T U (ix2 r j) = U (ix3 0 r j) + Rms.grad (X m c r) (DN m c r) j := by
  unfold val_main_v43
  simp only [pointwise, ref_dx]
theorem ref_dx1 : val_main_v45 (F := Ideal) A Γ W T U (ix2 r j) = U (ix3 0 r j) + Rms.grad (X m c r) (DN m c r) j := by
  unfold val_main_v45 val_main_v44
  simp only [pointwise, ref_dx]

theorem ref_dg : val_main_v42 (F := Ideal) A W T (ix2 0 j) = ∑ r : Fin 2048, DH m c r j * (X m c r j * Rms.inv (X m c r)) := by
  unfold val_main_v42 val_main_v25 val_main_v22 val_main_v21 val_main_v20 val_main_cst_3 val_main_cst_4
  simp only [pointwise, UnitAxes.sum_d01, ↓reduceDIte, OfNat.ofNat_ne_one, zero_add, ref_xn, ref_dh]
  exact Finset.sum_congr rfl fun _ _ => mul_comm (_ : EReal) _

end Ref

/-! ## The equation -/

/-- **The kernel's arrays are the gradients**, over the extended reals. -/
theorem algebraic : Cert.algebraic_ProjInBwdIdeal_ProjInBwdRefIdeal := by
  intro m g m' g' _ hagree
  refine ⟨fun c => G9 m c, fun c => G10 m c, fun c => G11 m c,
    (θ_run Cert.ProjInBwdIdeal.defs _ _).mono (fun r h c => ?_) (Cert.ProjInBwdIdeal.Value.run_blocks m g),
    (θ_run Cert.ProjInBwdRefIdeal.defs _ _).mono (fun r h c => ?_) (Cert.ProjInBwdRefIdeal.Value.run (F := Ideal) m' g')⟩
  · obtain ⟨h7, h8, h9, ha⟩ := h c
    exact ⟨h7.trans (final_9 m c), h8.trans (final_10 m c), h9.trans (final_11 m c), ha⟩
  · obtain ⟨h7, h8, h9, ha⟩ := h c
    obtain ⟨e0, e1, e2, e3, e4⟩ := hagree c
    rw [Cert.ProjInBwdRefIdeal.Read.val_main_v43_eq, e0, e1, e2, e3, e4] at h7
    rw [Cert.ProjInBwdRefIdeal.Read.val_main_v45_eq, e0, e1, e2, e3, e4] at h8
    rw [e0, e2, e3, Cert.ProjInBwdRefIdeal.Read.val_main_v42_eq] at h9
    refine ⟨h7.trans ?_, h8.trans ?_, h9.trans ?_, ha⟩ <;> funext y
    · obtain ⟨r, j, rfl⟩ : ∃ (r : Fin 2048) (j : Fin 1024), y = ix2 r j := ⟨y 0, y 1, eq_ix2 y⟩
      exact ref_dx0 m c r j
    · obtain ⟨r, j, rfl⟩ : ∃ (r : Fin 2048) (j : Fin 1024), y = ix2 r j := ⟨y 0, y 1, eq_ix2 y⟩
      exact ref_dx1 m c r j
    · obtain ⟨r, j, rfl⟩ : ∃ (r : Fin 1) (j : Fin 1024), y = ix2 r j := ⟨y 0, y 1, eq_ix2 y⟩
      obtain rfl := Fin.fin_one_eq_zero r
      exact ref_dg m c j

/-- The reference ends without fault, its arguments unchanged, every semaphore at zero. -/
theorem frame_ref : Cert.quiescent_ProjInBwdRefIdeal := fun m ρ _ =>
  (θ_run Cert.ProjInBwdRefIdeal.defs _ _).mono (fun r h => ⟨fun c => (h c).2.2.2, sem_eq_zero_of_no_sems (by decide) r.2⟩)
    (Cert.ProjInBwdRefIdeal.Value.run (F := Ideal) m ρ)

end Cert.ProjInProof

end
-- ==== Proof.FfnInK.lean ====
/-
  The feed-forward input's backward kernel: what one block's body leaves, and what its three result arrays hold, index
  by index.
-/
module

public import proofs.«01_k».proof.Proof.Rms
public import proofs.«01_k».proof.Proof.Gen.FfnInBwdIdeal.Value
public import Idealize.ShloMosaic.Lib.Pointwise
public import Idealize.ShloMosaic.Lib.Pipeline.ValueKit.Tiles
public import Idealize.ShloMosaic.Lib.StableHlo.ReadAt
public import Idealize.ShloMosaic.Lib.Claim
public import Idealize.ShloMosaic.Lib.Tactic

@[expose] public section

set_option maxRecDepth 16384

noncomputable section

namespace Cert.FfnInKernel

open Idealize.ShloMosaic Idealize.ShloMosaic.TcCoe Idealize.SL.Sem
open Idealize.ShloMosaic.Pipeline (Dat)
open Cert.FfnInBwdIdeal Cert.FfnInBwdIdeal.Gen
open Cert.Common (idx2_ext)
open scoped BigOperators

variable (m : (ℓ : Loc nD τ sig) → Buf (Elt Ideal) ℓ) (c : Dev nD)

theorem hz : (![0, 0] : Fin 2 → Nat) = fun _ => 0 := funext fun a => by fin_cases a <;> rfl

/-! ## One block's values -/

section Blocks

variable (w0 w1 : Vec Ideal S2816x1024 .bf16) (d0 d1 : Vec Ideal S256x2816 .bf16) (x : Vec Ideal S256x1024 .f32)
  (v : Vec Ideal S256x1 .f32) (g : Vec Ideal S1x1024 .f32) (e : Vec Ideal S256x1024 .f32)

/-- The gradient with respect to the scaled row: the two segments' products. -/
def dh (r : Fin 256) (j : Fin 1024) : EReal :=
  (∑ k : Fin 2816, d0 (ix2 r k) * w0 (ix2 k j)) + ∑ k : Fin 2816, d1 (ix2 r k) * w1 (ix2 k j)

theorem pay3_apply (r : Fin 256) (j : Fin 1024) : k0_pay3 w0 d0 w1 d1 (ix2 r j) = dh w0 w1 d0 d1 r j := by
  unfold k0_pay3 dh
  simp only [pointwise, zero_add]

theorem pay5_apply (r : Fin 256) (j : Fin 1024) : k0_pay5 x v (ix2 r j) = x (ix2 r j) * v (ix2 r 0) := by
  unfold k0_pay5 k0_pay4
  simp only [pointwise, ↓reduceDIte, OfNat.ofNat_ne_one, Nat.reduceEqDiff]

theorem pay6_apply (j : Fin 1024) : k0_pay6 w0 d0 w1 d1 x v (ix2 0 j)
    = ∑ r : Fin 256, dh w0 w1 d0 d1 r j * (x (ix2 r j) * v (ix2 r 0)) := by
  unfold k0_pay6
  simp only [pointwise, zero_add, ↓reduceDIte, OfNat.ofNat_ne_one, Nat.reduceEqDiff, pay3_apply, pay5_apply]

theorem pay7_apply (r : Fin 256) (j : Fin 1024) (hv : v (ix2 r 0) = Rms.inv fun j => x (ix2 r j)) :
    k0_pay7 w0 d0 w1 d1 x v g e (ix2 r j)
      = e (ix2 r j) + Rms.grad (fun j => x (ix2 r j)) (fun j => dh w0 w1 d0 d1 r j * g (ix2 0 j)) j := by
  unfold k0_pay7 k0_pay4
  simp only [pointwise, zero_add, ↓reduceDIte, OfNat.ofNat_ne_one, Nat.reduceEqDiff, pay3_apply, pay5_apply, Rms.ofBits_1024, hv]
  rfl

end Blocks

/-! ## What a point's body leaves -/

/-- The blocks that point `t` reads; of the weight, its two halves. -/
abbrev b0 (t : Fin cfg0.N) : Vec Ideal S256x2816 .bf16 := iblk m c 0 t
abbrev b1 (t : Fin cfg0.N) : Vec Ideal S256x2816 .bf16 := iblk m c 1 t
abbrev b2 (t : Fin cfg0.N) : Vec Ideal S5632x1024 .bf16 := iblk m c 2 t
abbrev w0 (t : Fin cfg0.N) : Vec Ideal S2816x1024 .bf16 :=
  View.ld (b2 m c t) (Rect.unit (s := S5632x1024) ![0, 0] S2816x1024.size inb_S5632x1024_S2816x1024_0_0)
abbrev w1 (t : Fin cfg0.N) : Vec Ideal S2816x1024 .bf16 :=
  View.ld (b2 m c t) (Rect.unit (s := S5632x1024) ![2816, 0] S2816x1024.size inb_S5632x1024_S2816x1024_2816_0)
abbrev b3 (t : Fin cfg0.N) : Vec Ideal S256x1024 .f32 := iblk m c 3 t
abbrev b4 (t : Fin cfg0.N) : Vec Ideal S256x1 .f32 := iblk m c 4 t
abbrev b5 (t : Fin cfg0.N) : Vec Ideal S1x1024 .f32 := iblk m c 5 t
abbrev b6 (t : Fin cfg0.N) : Vec Ideal S256x1024 .f32 := iblk m c 6 t

/-- The blocks that a point computes: the gradient, the gradient again, the part of the scale's gradient. -/
abbrev dxBlk (t : Fin cfg0.N) : Vec Ideal S256x1024 .f32 :=
  k0_pay7 (w0 m c t) (b0 m c t) (w1 m c t) (b1 m c t) (b3 m c t) (b4 m c t) (b5 m c t) (b6 m c t)
abbrev dxBlk' (t : Fin cfg0.N) : Vec Ideal S256x1024 .bf16 := k0_pay1 (F := Ideal) (dxBlk m c t)
abbrev dgBlk (t : Fin cfg0.N) : Vec Ideal S1x1024 .f32 :=
  k0_pay6 (w0 m c t) (b0 m c t) (w1 m c t) (b1 m c t) (b3 m c t) (b4 m c t)

theorem N_eq : cfg0.N = 8 := N_0

/-- The first point leaves its own blocks. -/
theorem outs_first (t : Fin cfg0.N) (h : t.val = 0) :
    outsAt0 m c t.val t.isLt = (dxBlk m c t, dxBlk' m c t, dgBlk m c t) := by
  rw [outsAt0_A m c t (by omega) (by omega)]
  refine Prod.ext ?_ (Prod.ext ?_ ?_)
  · dsimp only
    unfold out0_A_7
    rw [View.read_writes_eq_canon _ _ _ (fun y => cover0_A_7 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S256x1024) hz, View.ld_unit_zero (S := S256x2816) hz,
      View.ld_unit_zero (S := S256x1) hz, View.ld_unit_zero (S := S1x1024) hz]
  · dsimp only
    unfold out0_A_8
    rw [View.read_writes_eq_canon _ _ _ (fun y => cover0_A_8 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S256x1024) hz, View.ld_unit_zero (S := S256x2816) hz,
      View.ld_unit_zero (S := S256x1) hz, View.ld_unit_zero (S := S1x1024) hz]
  · dsimp only
    unfold out0_A_9
    rw [View.read_writes_eq_canon _ _ _ (fun y => cover0_A_9 (y := y) ..)]
    unfold kernelRun0_A
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S256x1024) hz, View.ld_unit_zero (S := S256x2816) hz,
      View.ld_unit_zero (S := S256x1) hz, View.ld_unit_zero (S := S1x1024) hz]

/-- A later point leaves its own blocks of the gradient, and adds its part to what the point before left. -/
theorem outs_later (t : Fin cfg0.N) (h : t.val ≠ 0) :
    outsAt0 m c t.val t.isLt = (dxBlk m c t, dxBlk' m c t,
      (addf (outsAt0 m c (t.val - 1) (Nat.lt_of_le_of_lt (Nat.sub_le ..) t.isLt)).2.2 (dgBlk m c t) : FVec Ideal S1x1024 .f32)) := by
  have hN := N_eq
  have ht := t.isLt
  rw [outsAt0_B m c t (by omega) (by omega)]
  refine Prod.ext ?_ (Prod.ext ?_ ?_)
  · dsimp only
    unfold out0_B_7
    rw [View.read_writes_eq_canon _ _ _ (fun y => cover0_B_7 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S256x1024) hz, View.ld_unit_zero (S := S256x2816) hz,
      View.ld_unit_zero (S := S256x1) hz, View.ld_unit_zero (S := S1x1024) hz]
  · dsimp only
    unfold out0_B_8
    rw [View.read_writes_eq_canon _ _ _ (fun y => cover0_B_8 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S256x1024) hz, View.ld_unit_zero (S := S256x2816) hz,
      View.ld_unit_zero (S := S256x1) hz, View.ld_unit_zero (S := S1x1024) hz]
  · dsimp only
    unfold out0_B_9
    rw [View.read_writes_eq_canon _ _ _ (fun y => cover0_B_9 (y := y) ..)]
    unfold kernelRun0_B
    dsimp only
    sl_unfold_words
    rw [View.canon_unit_zero hz]
    simp only [View.readAt_eq_ld, (hs0_0 t).read_unread, (hs0_1 t).read_unread, (hs0_2 t).read_unread, (hs0_3 t).read_unread, (hs0_4 t).read_unread,
      (hs0_5 t).read_unread, (hs0_6 t).read_unread, View.ld_unit_zero (S := S256x1024) hz, View.ld_unit_zero (S := S256x2816) hz,
      View.ld_unit_zero (S := S256x1) hz, View.ld_unit_zero (S := S1x1024) hz, (hs0_9 t).read_unread, k0_pay2, shapeCast_self]

/-! ## The arguments, the staged arrays, and the blocks read -/

abbrev xin : Vec Ideal S1x2048x1024 .f32 := m ((c : Thread nD τ).loc main_arg0)
abbrev gain : Vec Ideal S1x1024 .f32 := m ((c : Thread nD τ).loc main_arg1)
abbrev wt : Vec Ideal S1x1024x5632 .f32 := m ((c : Thread nD τ).loc main_arg2)
abbrev ctp : Vec Ideal S1x2048x5632 .f32 := m ((c : Thread nD τ).loc main_arg3)
abbrev ctx : Vec Ideal S1x2048x1024 .f32 := m ((c : Thread nD τ).loc main_arg4)

/-- A row of the forward's input. -/
def X (r : Fin 2048) (j : Fin 1024) : EReal := xin m c (ix3 0 r j)
/-- Column `k` of the second half. -/
def hi (k : Fin 2816) : Fin 5632 := ⟨2816 + k.val, by omega⟩
def lo (k : Fin 2816) : Fin 5632 := ⟨k.val, by omega⟩

theorem V_x (r : Fin 2048) (j : Fin 1024) : V m c main_v0 (ix2 r j) = X m c r j := by
  unfold V X; after_reads_at
theorem V_d0 (r : Fin 2048) (k : Fin 2816) : V m c main_v11 (ix2 r k) = ctp m c (ix3 0 r (lo k)) := by
  unfold V lo; after_reads_at
theorem V_d1 (r : Fin 2048) (k : Fin 2816) : V m c main_v12 (ix2 r k) = ctp m c (ix3 0 r (hi k)) := by
  unfold V hi; after_reads_at
theorem V_w (k : Fin 5632) (j : Fin 1024) : V m c main_v15 (ix2 k j) = wt m c (ix3 0 j k) := by
  unfold V; after_reads_at
theorem V_e (r : Fin 2048) (j : Fin 1024) : V m c main_v16 (ix2 r j) = ctx m c (ix3 0 r j) := by
  unfold V; after_reads_at
theorem V_g (j : Fin 1024) : V m c main_arg1 (ix2 0 j) = gain m c (ix2 0 j) := by
  unfold V; after_reads_at
theorem V_r (r : Fin 2048) : V m c main_v8 (ix2 r 0) = Rms.inv (X m c r) := by
  unfold V; after_reads_at
  rw [Rms.ofBits_1024]
  rfl

/-- Row `r` of the row block of point `t`. -/
def row (t : Fin cfg0.N) (r : Fin 256) : Fin 2048 := ⟨256 * t.val + r.val, by have := t.isLt; have := N_eq; omega⟩

theorem index_0 : ∀ t : Fin grid0.N, win0_0.index t = ![t.val, 0] := by decide +kernel
theorem index_1 : ∀ t : Fin grid0.N, win0_1.index t = ![t.val, 0] := by decide +kernel
theorem index_2 : ∀ t : Fin grid0.N, win0_2.index t = ![0, 0] := by decide +kernel
theorem index_3 : ∀ t : Fin grid0.N, win0_3.index t = ![t.val, 0] := by decide +kernel
theorem index_4 : ∀ t : Fin grid0.N, win0_4.index t = ![t.val, 0] := by decide +kernel
theorem index_5 : ∀ t : Fin grid0.N, win0_5.index t = ![0, 0] := by decide +kernel
theorem index_6 : ∀ t : Fin grid0.N, win0_6.index t = ![t.val, 0] := by decide +kernel
theorem index_7 : ∀ t : Fin grid0.N, win0_7.index t = ![t.val, 0] := by decide +kernel
theorem index_8 : ∀ t : Fin grid0.N, win0_8.index t = ![t.val, 0] := by decide +kernel
theorem index_9 : ∀ t : Fin grid0.N, win0_9.index t = ![0, 0] := by decide +kernel

theorem iblk_0 (t : Fin cfg0.N) (r : Fin 256) (k : Fin 2816) : iblk m c 0 t (ix2 r k) = ctp m c (ix3 0 (row t r) (lo k)) := by
  rw [← V_d0]
  exact congrArg (V m c main_v11) (idx2_ext (by show win0_0.index t 0 * 256 + 1 * r.val = _; rw [index_0]; simp [row, mul_comm])
    (by show win0_0.index t 1 * 2816 + 1 * k.val = _; rw [index_0]; simp))
theorem iblk_1 (t : Fin cfg0.N) (r : Fin 256) (k : Fin 2816) : iblk m c 1 t (ix2 r k) = ctp m c (ix3 0 (row t r) (hi k)) := by
  rw [← V_d1]
  exact congrArg (V m c main_v12) (idx2_ext (by show win0_1.index t 0 * 256 + 1 * r.val = _; rw [index_1]; simp [row, mul_comm])
    (by show win0_1.index t 1 * 2816 + 1 * k.val = _; rw [index_1]; simp))
theorem iblk_2 (t : Fin cfg0.N) (k : Fin 5632) (j : Fin 1024) : iblk m c 2 t (ix2 k j) = wt m c (ix3 0 j k) := by
  rw [← V_w]
  exact congrArg (V m c main_v15) (idx2_ext (by show win0_2.index t 0 * 5632 + 1 * k.val = _; rw [index_2]; simp)
    (by show win0_2.index t 1 * 1024 + 1 * j.val = _; rw [index_2]; simp))
theorem iblk_3 (t : Fin cfg0.N) (r : Fin 256) (j : Fin 1024) : iblk m c 3 t (ix2 r j) = X m c (row t r) j := by
  rw [← V_x]
  exact congrArg (V m c main_v0) (idx2_ext (by show win0_3.index t 0 * 256 + 1 * r.val = _; rw [index_3]; simp [row, mul_comm])
    (by show win0_3.index t 1 * 1024 + 1 * j.val = _; rw [index_3]; simp))
theorem iblk_4 (t : Fin cfg0.N) (r : Fin 256) : iblk m c 4 t (ix2 r 0) = Rms.inv (X m c (row t r)) := by
  rw [← V_r]
  exact congrArg (V m c main_v8) (idx2_ext (by show win0_4.index t 0 * 256 + 1 * r.val = _; rw [index_4]; simp [row, mul_comm])
    (by show win0_4.index t 1 * 1 + 1 * 0 = _; rw [index_4]; simp))
theorem iblk_5 (t : Fin cfg0.N) (j : Fin 1024) : iblk m c 5 t (ix2 0 j) = gain m c (ix2 0 j) := by
  rw [← V_g]
  exact congrArg (V m c main_arg1) (idx2_ext (by show win0_5.index t 0 * 1 + 1 * 0 = _; rw [index_5]; simp)
    (by show win0_5.index t 1 * 1024 + 1 * j.val = _; rw [index_5]; simp))
theorem iblk_6 (t : Fin cfg0.N) (r : Fin 256) (j : Fin 1024) : iblk m c 6 t (ix2 r j) = ctx m c (ix3 0 (row t r) j) := by
  rw [← V_e]
  exact congrArg (V m c main_v16) (idx2_ext (by show win0_6.index t 0 * 256 + 1 * r.val = _; rw [index_6]; simp [row, mul_comm])
    (by show win0_6.index t 1 * 1024 + 1 * j.val = _; rw [index_6]; simp))

/-- The weight's two halves, read out of its block. -/
theorem w0_apply (t : Fin cfg0.N) (k : Fin 2816) (j : Fin 1024) : w0 m c t (ix2 k j) = wt m c (ix3 0 j (lo k)) := by
  rw [← iblk_2 m c t]
  exact View.ld_unit_apply_of _ _ _ _ _ (ix2 (lo k) j) fun a => match a with
    | ⟨0, _⟩ => by show k.val = 0 + k.val; omega
    | ⟨1, _⟩ => by show j.val = 0 + j.val; omega
theorem w1_apply (t : Fin cfg0.N) (k : Fin 2816) (j : Fin 1024) : w1 m c t (ix2 k j) = wt m c (ix3 0 j (hi k)) := by
  rw [← iblk_2 m c t]
  exact View.ld_unit_apply_of _ _ _ _ _ (ix2 (hi k) j) fun a => match a with
    | ⟨0, _⟩ => by show 2816 + k.val = 2816 + k.val; rfl
    | ⟨1, _⟩ => by show j.val = 0 + j.val; omega

/-! ## The three result arrays -/

/-- The gradients with respect to the scaled and normalised rows. -/
def DH (r : Fin 2048) (j : Fin 1024) : EReal := ∑ k : Fin 5632, ctp m c (ix3 0 r k) * wt m c (ix3 0 j k)
def DN (r : Fin 2048) (j : Fin 1024) : EReal := DH m c r j * gain m c (ix2 0 j)

/-- The product over all columns is the sum of the two segments' products. -/
theorem dh_eq (t : Fin cfg0.N) (r : Fin 256) (j : Fin 1024) :
    dh (w0 m c t) (w1 m c t) (b0 m c t) (b1 m c t) r j = DH m c (row t r) j := by
  simp only [dh, w0_apply, w1_apply, iblk_0, iblk_1]
  exact (Fin.sum_univ_add (a := 2816) (b := 2816) fun k : Fin 5632 => ctp m c (ix3 0 (row t r) k) * wt m c (ix3 0 j k)).symm

/-- The gradient of the layer's input, and of the scale. -/
def G7 : Vec Ideal S2048x1024 .f32 := fun y => ctx m c (ix3 0 (y 0) (y 1)) + Rms.grad (X m c (y 0)) (DN m c (y 0)) (y 1)
def G8 : Vec Ideal S2048x1024 .bf16 := fun y => ctx m c (ix3 0 (y 0) (y 1)) + Rms.grad (X m c (y 0)) (DN m c (y 0)) (y 1)
def G9 : Vec Ideal S1x1024 .f32 := fun y => ∑ r : Fin 2048, DH m c r (y 1) * (X m c r (y 1) * Rms.inv (X m c r))

theorem dxBlk_apply (t : Fin cfg0.N) (r : Fin 256) (j : Fin 1024) : dxBlk m c t (ix2 r j)
    = ctx m c (ix3 0 (row t r) j) + Rms.grad (X m c (row t r)) (DN m c (row t r)) j := by
  have hx : (fun j => b3 m c t (ix2 r j)) = X m c (row t r) := funext fun j => iblk_3 m c t r j
  have hd : (fun j => dh (w0 m c t) (w1 m c t) (b0 m c t) (b1 m c t) r j * b5 m c t (ix2 0 j)) = DN m c (row t r) :=
    funext fun j => by simp only [dh_eq, iblk_5, DN]
  refine (pay7_apply (w0 m c t) (w1 m c t) (b0 m c t) (b1 m c t) (b3 m c t) (b4 m c t) (b5 m c t) (b6 m c t) r j ?_).trans ?_
  · rw [hx]; exact iblk_4 m c t r
  · rw [hx, hd]; simp only [iblk_6]

theorem dgBlk_apply (t : Fin cfg0.N) (j : Fin 1024) : dgBlk m c t (ix2 0 j)
    = ∑ r : Fin 256, DH m c (row t r) j * (X m c (row t r) j * Rms.inv (X m c (row t r))) :=
  (pay6_apply (w0 m c t) (w1 m c t) (b0 m c t) (b1 m c t) (b3 m c t) (b4 m c t) j).trans
    (Finset.sum_congr rfl fun r _ => by simp only [dh_eq, iblk_3, iblk_4])

theorem outs7 (t : Fin cfg0.N) : (outsAt0 m c t.val t.isLt).1 = dxBlk m c t := by
  by_cases h : t.val = 0
  · rw [outs_first m c t h]
  · rw [outs_later m c t h]
theorem outs8 (t : Fin cfg0.N) : (outsAt0 m c t.val t.isLt).2.1 = dxBlk' m c t := by
  by_cases h : t.val = 0
  · rw [outs_first m c t h]
  · rw [outs_later m c t h]

/-- The scale's gradient after point `n`: the parts so far, summed. -/
theorem outs9 (j : Fin 1024) (n : Nat) (h : n < cfg0.N) : (outsAt0 m c n h).2.2 (ix2 0 j)
    = ∑ t : Fin (n + 1), dgBlk m c ⟨t.val, lt_of_le_of_lt (Nat.le_of_lt_succ t.isLt) h⟩ (ix2 0 j) :=
  Common.acc_sum (fun n h => (outsAt0 m c n h).2.2 (ix2 0 j)) (fun t => dgBlk m c t (ix2 0 j))
    (fun h => by rw [outs_first m c ⟨0, h⟩ rfl])
    (fun n h => by rw [outs_later m c ⟨n + 1, h⟩ (Nat.succ_ne_zero n)]; rfl) n h

/-- The point whose row block holds an index, and the last point. -/
def pt (i : S2048x1024.Idx) : Fin cfg0.N := ⟨(i 0).val / 256, by have h : (i 0).val < 2048 := (i 0).isLt; have := N_eq; omega⟩
theorem pt_bounds (i : S2048x1024.Idx) : (pt i).val * 256 ≤ (i 0).val ∧ (i 0).val < (pt i).val * 256 + 256 := by
  simp only [pt]; omega
abbrev last : Fin cfg0.N := ⟨7, by rw [N_eq]; decide⟩

theorem final_7 : (dats m 0 c).arrAt 7 cfg0.N = G7 m c :=
  (dats m 0 c).arrAt_eq_of_cover 7 (G7 m c) (fun t _ => by
      rw [Value.flushed7, outs7]
      funext y
      obtain ⟨r, j, rfl⟩ : ∃ (r : Fin 256) (j : Fin 1024), y = ix2 r j := ⟨y 0, y 1, eq_ix2 y⟩
      refine (dxBlk_apply m c t r j).trans ?_
      refine Eq.trans ?_ (congrArg (G7 m c) (idx2_ext (i := ix2 (row t r) j)
        (by show _ = win0_7.index t 0 * 256 + 1 * r.val; rw [index_7]; simp [row, mul_comm])
        (by show _ = win0_7.index t 1 * 1024 + 1 * j.val; rw [index_7]; simp)))
      simp only [G7, ix2_0, ix2_1]) fun i =>
    ⟨pt i, flush0_7 _, by
      show i ∈ ((View.whole main_v17_0).slice (win0_7.rect (pt i))).set
      rw [View.set_slice_whole, Rect.mem_set_unit]
      have h0 := pt_bounds i
      have h1 : (i 1).val < 1024 := (i 1).isLt
      intro a
      match a with
      | ⟨0, _⟩ => show win0_7.index (pt i) 0 * 256 ≤ (i 0 : Nat) ∧ (i 0 : Nat) < win0_7.index (pt i) 0 * 256 + 256
                  rw [index_7]; exact h0
      | ⟨1, _⟩ => show win0_7.index (pt i) 1 * 1024 ≤ (i 1 : Nat) ∧ (i 1 : Nat) < win0_7.index (pt i) 1 * 1024 + 1024
                  rw [index_7]; simpa using h1⟩

theorem final_8 : (dats m 0 c).arrAt 8 cfg0.N = G8 m c :=
  (dats m 0 c).arrAt_eq_of_cover 8 (G8 m c) (fun t _ => by
      rw [Value.flushed8, outs8]
      funext y
      obtain ⟨r, j, rfl⟩ : ∃ (r : Fin 256) (j : Fin 1024), y = ix2 r j := ⟨y 0, y 1, eq_ix2 y⟩
      refine (dxBlk_apply m c t r j).trans ?_
      refine Eq.trans ?_ (congrArg (G8 m c) (idx2_ext (i := ix2 (row t r) j)
        (by show _ = win0_8.index t 0 * 256 + 1 * r.val; rw [index_8]; simp [row, mul_comm])
        (by show _ = win0_8.index t 1 * 1024 + 1 * j.val; rw [index_8]; simp)))
      simp only [G8, ix2_0, ix2_1]) fun i =>
    ⟨pt i, flush0_8 _, by
      show i ∈ ((View.whole main_v17_1).slice (win0_8.rect (pt i))).set
      rw [View.set_slice_whole, Rect.mem_set_unit]
      have h0 := pt_bounds i
      have h1 : (i 1).val < 1024 := (i 1).isLt
      intro a
      match a with
      | ⟨0, _⟩ => show win0_8.index (pt i) 0 * 256 ≤ (i 0 : Nat) ∧ (i 0 : Nat) < win0_8.index (pt i) 0 * 256 + 256
                  rw [index_8]; exact h0
      | ⟨1, _⟩ => show win0_8.index (pt i) 1 * 1024 ≤ (i 1 : Nat) ∧ (i 1 : Nat) < win0_8.index (pt i) 1 * 1024 + 1024
                  rw [index_8]; simpa using h1⟩

/-- The parts of the scale's gradient of the eight row blocks, summed. -/
theorem sum_dg (j : Fin 1024) : ∑ t : Fin 8, dgBlk m c ⟨t.val, by rw [N_eq]; exact t.isLt⟩ (ix2 0 j) = G9 m c (ix2 0 j) :=
  (Finset.sum_congr rfl fun t _ => dgBlk_apply m c ⟨t.val, _⟩ j).trans
    (Common.sum_blocks 8 256 fun r : Fin 2048 => DH m c r j * (X m c r j * Rms.inv (X m c r)))

theorem final_9 : (dats m 0 c).arrAt 9 cfg0.N = G9 m c :=
  (dats m 0 c).arrAt_eq_of_cover 9 (G9 m c) (fun t hf => by
      obtain rfl : t = last := Fin.ext (by have h := (flush0_9 t).mp hf; have := t.isLt; have := N_eq; show t.val = 7; omega)
      rw [Value.flushed9]
      funext y
      obtain ⟨j, rfl⟩ : ∃ j : Fin 1024, y = ix2 0 j := ⟨y 1, (eq_ix2 y).trans (congrArg (ix2 · (y 1)) (Subsingleton.elim (α := Fin 1) _ _))⟩
      refine (outs9 m c j 7 _).trans ((sum_dg m c j).trans ?_)
      refine congrArg (G9 m c) (idx2_ext (i := ix2 0 j) (j := ((cfg0.win 9).blk last).view.emb (ix2 0 j)) ?_ ?_)
      · show _ = win0_9.index last 0 * 1 + 1 * 0; rw [index_9]; simp
      · show _ = win0_9.index last 1 * 1024 + 1 * j.val; rw [index_9]; simp) fun i =>
    ⟨last, (flush0_9 _).mpr rfl, by
      show i ∈ ((View.whole main_v17_2).slice (win0_9.rect last)).set
      rw [View.set_slice_whole, Rect.mem_set_unit]
      have h0 : (i 0).val < 1 := (i 0).isLt
      have h1 : (i 1).val < 1024 := (i 1).isLt
      intro a
      match a with
      | ⟨0, _⟩ => show win0_9.index last 0 * 1 ≤ (i 0 : Nat) ∧ (i 0 : Nat) < win0_9.index last 0 * 1 + 1
                  rw [index_9]; simpa using h0
      | ⟨1, _⟩ => show win0_9.index last 1 * 1024 ≤ (i 1 : Nat) ∧ (i 1 : Nat) < win0_9.index last 1 * 1024 + 1024
                  rw [index_9]; simpa using h1⟩

end Cert.FfnInKernel

end
-- ==== Proof.FfnIn.lean ====
/-
  The feed-forward input's backward pass: the kernel's three result arrays are the gradients that differentiating the
  RMS normalisation, the product and the residual gives.
-/
module

public import proofs.«01_k».proof.Defs
public import proofs.«01_k».proof.Proof.FfnInK
public import proofs.«01_k».proof.Proof.UnitAxes
public import proofs.«01_k».proof.Proof.Gen.FfnInBwdRefIdeal.Run
public import proofs.«01_k».proof.Proof.Gen.FfnInBwdRefIdeal.Read

@[expose] public section

set_option maxRecDepth 16384

noncomputable section

namespace Cert.FfnInProof

open Idealize.ShloMosaic Idealize.ShloMosaic.TcCoe Idealize.SL.Sem
open Cert.FfnInKernel
open scoped BigOperators

/-! ## The reference's values at an index -/

section Ref

open Cert.FfnInBwdRefIdeal Cert.FfnInBwdRefIdeal.Read

variable (m : (ℓ : Loc Cert.FfnInBwdIdeal.nD Cert.FfnInBwdIdeal.τ Cert.FfnInBwdIdeal.sig) → Buf (Elt Ideal) ℓ) (c : Dev Cert.FfnInBwdIdeal.nD)
  (r : Fin 2048) (j : Fin 1024)

local notation "A" => xin m c
local notation "Γ" => gain m c
local notation "W" => wt m c
local notation "T" => ctp m c
local notation "U" => ctx m c

theorem ref_var : val_main_v7 (F := Ideal) A (ix3 0 r 0) = Rms.var (X m c r) := by
  unfold val_main_v7 val_main_v6 val_main_v5 val_main_v4 val_main_v3 val_main_v2 val_main_v1 val_main_cst val_main_cst_0 val_main_cst_1
  simp only [pointwise, ↓reduceDIte, OfNat.ofNat_ne_one, zero_add, Rms.ofBits_1024]
  rfl

theorem ref_inv : val_main_v8 (F := Ideal) A (ix3 0 r 0) = Rms.inv (X m c r) := by
  unfold val_main_v8
  simp only [pointwise, ref_var]
  rfl

theorem ref_xn : val_main_v13 (F := Ideal) A (ix3 0 r j) = X m c r j * Rms.inv (X m c r) := by
  unfold val_main_v13 val_main_v12
  simp only [pointwise, ↓reduceDIte, OfNat.ofNat_ne_one, ref_inv]
  rfl

theorem ref_dh : val_main_v19 (F := Ideal) W T (ix3 0 r j) = DH m c r j := by
  unfold val_main_v19 val_main_v17 DH
  simp only [pointwise, ↓reduceDIte, OfNat.ofNat_ne_one, zero_add]

theorem ref_dn : val_main_v24 (F := Ideal) Γ W T (ix3 0 r j) = DN m c r j := by
  unfold val_main_v24 val_main_v23 val_main_v14 val_main_v0
  simp only [pointwise, ↓reduceDIte, OfNat.ofNat_ne_one, ref_dh]
  rfl

theorem ref_thru : val_main_v37 (F := Ideal) A Γ W T (ix3 0 r j) = Rms.thru (X m c r) (DN m c r) := by
  unfold val_main_v37 val_main_v36 val_main_v35 val_main_v34 val_main_v33 val_main_v32 val_main_v28 val_main_v27 val_main_v26 val_main_v11
    val_main_v10 val_main_v9 val_main_cst_2 val_main_cst_5 val_main_cst_6 val_main_cst_7
  simp only [pointwise, UnitAxes.sum_d02, ↓reduceDIte, OfNat.ofNat_ne_one, zero_add, ref_inv, ref_var, ref_dn, Rms.ofBits_1024, Rms.ofBits_neg_half]
  rfl

theorem ref_dx : val_main_v41 (F := Ideal) A Γ W T U (ix3 0 r j) = U (ix3 0 r j) + Rms.grad (X m c r) (DN m c r) j := by
  unfold val_main_v41 val_main_v40 val_main_v39 val_main_v38 val_main_v31 val_main_v30 val_main_v29
  simp only [pointwise, ↓reduceDIte, OfNat.ofNat_ne_one, ref_inv, ref_dn, ref_thru]
  rw [Rms.grad_eq]
  exact (congrArg (· + _) (add_assoc (_ : EReal) _ _)).trans (add_assoc (_ : EReal) _ _)

theorem ref_dx0 : val_main_v43 (F := Ideal) A Γ W T U (ix2 r j) = U (ix3 0 r j) + Rms.grad (X m c r) (DN m c r) j := by
  unfold val_main_v43
  simp only [pointwise, ref_dx]
theorem ref_dx1 : val_main_v45 (F := Ideal) A Γ W T U (ix2 r j) = U (ix3 0 r j) + Rms.grad (X m c r) (DN m c r) j := by
  unfold val_main_v45 val_main_v44
  simp only [pointwise, ref_dx]

theorem ref_dg : val_main_v42 (F := Ideal) A W T (ix2 0 j) = ∑ r : Fin 2048, DH m c r j * (X m c r j * Rms.inv (X m c r)) := by
  unfold val_main_v42 val_main_v25 val_main_v22 val_main_v21 val_main_v20 val_main_cst_3 val_main_cst_4
  simp only [pointwise, UnitAxes.sum_d01, ↓reduceDIte, OfNat.ofNat_ne_one, zero_add, ref_xn, ref_dh]
  exact Finset.sum_congr rfl fun _ _ => mul_comm (_ : EReal) _

end Ref

/-! ## The equation -/

/-- **The kernel's arrays are the gradients**, over the extended reals. -/
theorem algebraic : Cert.algebraic_FfnInBwdIdeal_FfnInBwdRefIdeal := by
  intro m g m' g' _ hagree
  refine ⟨fun c => G7 m c, fun c => G8 m c, fun c => G9 m c,
    (θ_run Cert.FfnInBwdIdeal.defs _ _).mono (fun r h c => ?_) (Cert.FfnInBwdIdeal.Value.run_blocks m g),
    (θ_run Cert.FfnInBwdRefIdeal.defs _ _).mono (fun r h c => ?_) (Cert.FfnInBwdRefIdeal.Value.run (F := Ideal) m' g')⟩
  · obtain ⟨h7, h8, h9, ha⟩ := h c
    exact ⟨h7.trans (final_7 m c), h8.trans (final_8 m c), h9.trans (final_9 m c), ha⟩
  · obtain ⟨h7, h8, h9, ha⟩ := h c
    obtain ⟨e0, e1, e2, e3, e4⟩ := hagree c
    rw [Cert.FfnInBwdRefIdeal.Read.val_main_v43_eq, e0, e1, e2, e3, e4] at h7
    rw [Cert.FfnInBwdRefIdeal.Read.val_main_v45_eq, e0, e1, e2, e3, e4] at h8
    rw [e0, e2, e3, Cert.FfnInBwdRefIdeal.Read.val_main_v42_eq] at h9
    refine ⟨h7.trans ?_, h8.trans ?_, h9.trans ?_, ha⟩ <;> funext y
    · obtain ⟨r, j, rfl⟩ : ∃ (r : Fin 2048) (j : Fin 1024), y = ix2 r j := ⟨y 0, y 1, eq_ix2 y⟩
      exact ref_dx0 m c r j
    · obtain ⟨r, j, rfl⟩ : ∃ (r : Fin 2048) (j : Fin 1024), y = ix2 r j := ⟨y 0, y 1, eq_ix2 y⟩
      exact ref_dx1 m c r j
    · obtain ⟨r, j, rfl⟩ : ∃ (r : Fin 1) (j : Fin 1024), y = ix2 r j := ⟨y 0, y 1, eq_ix2 y⟩
      obtain rfl := Fin.fin_one_eq_zero r
      exact ref_dg m c j

/-- The reference ends without fault, its arguments unchanged, every semaphore at zero. -/
theorem frame_ref : Cert.quiescent_FfnInBwdRefIdeal := fun m ρ _ =>
  (θ_run Cert.FfnInBwdRefIdeal.defs _ _).mono (fun r h => ⟨fun c => (h c).2.2.2, sem_eq_zero_of_no_sems (by decide) r.2⟩)
    (Cert.FfnInBwdRefIdeal.Value.run (F := Ideal) m ρ)

end Cert.FfnInProof

end
-- ==== Proof.AttnTrip.lean ====
/-
  The gradient of the attention: one trip of the kernel's loop over the blocks, run at a symbolic trip, and the loop
  by the invariant it gives.
-/
module

public import proofs.«01_k».proof.Proof.Gen.AttnBwdIdeal.Loops

@[expose] public section

set_option maxRecDepth 16384

noncomputable section

namespace Cert.AttnTrip

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- The rows of the block before trip `k`'s: those of the first block at the first trip. -/
theorem off9_eq : ∀ k : Fin k0_t1_loop.trips, k0_off9 k = ![128 * (k.val - 1), 0] := by decide +kernel
instance closedOff_off9 (k : Fin k0_t1_loop.trips) : ClosedOff (k0_off9 k) := ⟨![128 * (k.val - 1), 0], off9_eq k⟩

variable (c : Dev nD) (i : grid0.Coords)
  (arg1 : Memref sig .tc .vmem S2048x768 .bf16) (harg1 : arg1.IsWhole) (arg2 : Memref sig .tc .vmem S2048x512 .bf16) (harg2 : arg2.IsWhole)
  (arg3 : Memref sig .tc .smem S1x8 .f32) (harg3 : arg3.IsWhole) (arg4 : Memref sig .tc .vmem S2048x768 .bf16) (harg4 : arg4.IsWhole)
  (arg5 : Memref sig .tc .vmem S1x128 .f32) (harg5 : arg5.IsWhole) (arg6 : Memref sig .tc .vmem S2048x128 .f32) (harg6 : arg6.IsWhole)
  (arg7 : Memref sig .tc .vmem S2048x128 .f32) (harg7 : arg7.IsWhole)

abbrev held {sp : Space} {s : Shape} {e : EltTy} (a : Memref sig .tc sp s e) (f : BufTy.Contents (Elt F) a.view.ty) : sProp 𝕄G :=
  (a.view.loc (c : Thread nD τ) ↦[a.view.set]{fullShare} f)

set_option maxHeartbeats 4000000 in
/-- ONE TRIP at a symbolic `k`: the pieces it writes into the gradient's array, into the sinks' row and into the two
    accumulators, each as a function of what the trip finds there. -/
@[irreducible] def trip (x1 : BufTy.Contents (Elt F) arg1.view.ty) (x2 : BufTy.Contents (Elt F) arg2.view.ty) (x3 : BufTy.Contents (Elt F) arg3.view.ty)
    (k : Fin k0_t1_loop.trips) :
    Σ' (L4 : List (View.Piece (Elt F) S2048x768 .bf16))
       (L5 : BufTy.Contents (Elt F) arg5.view.ty → List (View.Piece (Elt F) S1x128 .f32))
       (L6 : BufTy.Contents (Elt F) arg6.view.ty → List (View.Piece (Elt F) S2048x128 .f32)),
      { L7 : BufTy.Contents (Elt F) arg7.view.ty → List (View.Piece (Elt F) S2048x128 .f32) //
        ∀ (E : Set ℕ) (f4 : BufTy.Contents (Elt F) arg4.view.ty) (f5 : BufTy.Contents (Elt F) arg5.view.ty)
          (f6 : BufTy.Contents (Elt F) arg6.view.ty) (f7 : BufTy.Contents (Elt F) arg7.view.ty),
        iprop(held c arg1 x1 ∗ held c arg2 x2 ∗ held c arg3 x3 ∗ held c arg4 f4 ∗ held c arg5 f5 ∗ held c arg6 f6 ∗ held c arg7 f7)
        ⊢ wp frame (wpE (defs₀ (F := F)) Variants.none (c : Thread nD τ) none) E
            (k0_t1_body (F := F) i arg1 harg1 arg2 harg2 arg3 harg3 arg4 harg4 arg5 harg5 arg6 harg6 arg7 harg7 k PUnit.unit)
            (fun _ => iprop(held c arg1 x1 ∗ held c arg2 x2 ∗ held c arg3 x3 ∗ held c arg4 (arg4.view.writes (Elt F) f4 L4)
              ∗ held c arg5 (arg5.view.writes (Elt F) f5 (L5 f5)) ∗ held c arg6 (arg6.view.writes (Elt F) f6 (L6 f6))
              ∗ held c arg7 (arg7.view.writes (Elt F) f7 (L7 f7)))) } := by
  have hk : k.val < 16 := Nat.lt_of_lt_of_le k.isLt k0_t1_abs.2.1
  refine ⟨?_, ?_, ?_, ?_, fun E f4 f5 f6 f7 => ?run⟩
  case run =>
    unfold k0_t1_body
    iintro ⟨H1, H2, H3, H4, H5, H6, H7⟩
    sl_exec
    sl_step
    sl_close

variable (x1 : BufTy.Contents (Elt F) arg1.view.ty) (x2 : BufTy.Contents (Elt F) arg2.view.ty) (x3 : BufTy.Contents (Elt F) arg3.view.ty)

/-- The pieces that the trips write, one list per array written. -/
abbrev Pieces := List (View.Piece (Elt F) S2048x768 .bf16) × List (View.Piece (Elt F) S1x128 .f32)
  × List (View.Piece (Elt F) S2048x128 .f32) × List (View.Piece (Elt F) S2048x128 .f32)

/-- Trip `k`'s pieces, put in front of the earlier trips' `p`, over the arrays' contents at the loop's entry. -/
def more (g5 : BufTy.Contents (Elt F) arg5.view.ty) (g6 : BufTy.Contents (Elt F) arg6.view.ty) (g7 : BufTy.Contents (Elt F) arg7.view.ty)
    (k : Fin k0_t1_loop.trips) (p : Pieces (F := F)) : Pieces (F := F) :=
  ((trip c i arg1 harg1 arg2 harg2 arg3 harg3 arg4 harg4 arg5 harg5 arg6 harg6 arg7 harg7 x1 x2 x3 k).1 ++ p.1,
   (trip c i arg1 harg1 arg2 harg2 arg3 harg3 arg4 harg4 arg5 harg5 arg6 harg6 arg7 harg7 x1 x2 x3 k).2.1
      (arg5.view.writes (Elt F) g5 p.2.1) ++ p.2.1,
   (trip c i arg1 harg1 arg2 harg2 arg3 harg3 arg4 harg4 arg5 harg5 arg6 harg6 arg7 harg7 x1 x2 x3 k).2.2.1
      (arg6.view.writes (Elt F) g6 p.2.2.1) ++ p.2.2.1,
   (trip c i arg1 harg1 arg2 harg2 arg3 harg3 arg4 harg4 arg5 harg5 arg6 harg6 arg7 harg7 x1 x2 x3 k).2.2.2.1
      (arg7.view.writes (Elt F) g7 p.2.2.2) ++ p.2.2.2)

/-- The pieces of the trips before `k`, the last first. -/
def pieces (g5 : BufTy.Contents (Elt F) arg5.view.ty) (g6 : BufTy.Contents (Elt F) arg6.view.ty) (g7 : BufTy.Contents (Elt F) arg7.view.ty) :
    ℕ → Pieces (F := F)
  | 0 => ([], [], [], [])
  | k + 1 => if h : k < k0_t1_loop.trips then
      more c i arg1 harg1 arg2 harg2 arg3 harg3 arg4 harg4 arg5 harg5 arg6 harg6 arg7 harg7 x1 x2 x3 g5 g6 g7 ⟨k, h⟩ (pieces g5 g6 g7 k)
    else pieces g5 g6 g7 k

theorem pieces_succ (g5 : BufTy.Contents (Elt F) arg5.view.ty) (g6 : BufTy.Contents (Elt F) arg6.view.ty) (g7 : BufTy.Contents (Elt F) arg7.view.ty)
    (k : Fin k0_t1_loop.trips) :
    pieces c i arg1 harg1 arg2 harg2 arg3 harg3 arg4 harg4 arg5 harg5 arg6 harg6 arg7 harg7 x1 x2 x3 g5 g6 g7 (k.val + 1)
      = more c i arg1 harg1 arg2 harg2 arg3 harg3 arg4 harg4 arg5 harg5 arg6 harg6 arg7 harg7 x1 x2 x3 g5 g6 g7 k
          (pieces c i arg1 harg1 arg2 harg2 arg3 harg3 arg4 harg4 arg5 harg5 arg6 harg6 arg7 harg7 x1 x2 x3 g5 g6 g7 k.val) := by
  rw [pieces.eq_2]; exact dif_pos k.isLt

/-- Before trip `k`: what is read is in place, and each array written holds the earlier trips' pieces. -/
abbrev inv (g4 : BufTy.Contents (Elt F) arg4.view.ty) (g5 : BufTy.Contents (Elt F) arg5.view.ty)
    (g6 : BufTy.Contents (Elt F) arg6.view.ty) (g7 : BufTy.Contents (Elt F) arg7.view.ty) (k : ℕ) (_ : PUnit) : sProp 𝕄G :=
  iprop(held c arg1 x1 ∗ held c arg2 x2 ∗ held c arg3 x3
    ∗ (∃ f, held c arg4 f ∗ ⌜f = arg4.view.writes (Elt F) g4 (pieces c i arg1 harg1 arg2 harg2 arg3 harg3 arg4 harg4 arg5 harg5 arg6 harg6 arg7 harg7 x1 x2 x3 g5 g6 g7 k).1⌝)
    ∗ (∃ f, held c arg5 f ∗ ⌜f = arg5.view.writes (Elt F) g5 (pieces c i arg1 harg1 arg2 harg2 arg3 harg3 arg4 harg4 arg5 harg5 arg6 harg6 arg7 harg7 x1 x2 x3 g5 g6 g7 k).2.1⌝)
    ∗ (∃ f, held c arg6 f ∗ ⌜f = arg6.view.writes (Elt F) g6 (pieces c i arg1 harg1 arg2 harg2 arg3 harg3 arg4 harg4 arg5 harg5 arg6 harg6 arg7 harg7 x1 x2 x3 g5 g6 g7 k).2.2.1⌝)
    ∗ (∃ f, held c arg7 f ∗ ⌜f = arg7.view.writes (Elt F) g7 (pieces c i arg1 harg1 arg2 harg2 arg3 harg3 arg4 harg4 arg5 harg5 arg6 harg6 arg7 harg7 x1 x2 x3 g5 g6 g7 k).2.2.2⌝))

set_option warn.classDefReducibility false in
set_option maxHeartbeats 1000000 in
/-- The loop by that invariant. -/
@[sl_loop] def loopInv (E : Set ℕ) (g4 : BufTy.Contents (Elt F) arg4.view.ty) (g5 : BufTy.Contents (Elt F) arg5.view.ty)
    (g6 : BufTy.Contents (Elt F) arg6.view.ty) (g7 : BufTy.Contents (Elt F) arg7.view.ty) :
    LoopInvTy_k0_t1 (F := F) Unit ℕ (UR sig nD τ) ℕ Variants.none c none E i arg1 harg1 arg2 harg2 arg3 harg3 arg4 harg4 arg5 harg5 arg6 harg6 arg7 harg7 where
  inv := inv c i arg1 harg1 arg2 harg2 arg3 harg3 arg4 harg4 arg5 harg5 arg6 harg6 arg7 harg7 x1 x2 x3 g4 g5 g6 g7
  step k acc := by
    iintro ⟨H1, H2, H3, ⟨%f4, H4, %h4⟩, ⟨%f5, H5, %h5⟩, ⟨%f6, H6, %h6⟩, ⟨%f7, H7, %h7⟩⟩
    iapply (wp_wand_r Idealize.ShloMosaic.frame (wpE (defs₀ (F := F)) Variants.none (c : Thread nD τ) none) E)
    isplitl [H1 H2 H3 H4 H5 H6 H7]
    · iapply ((trip c i arg1 harg1 arg2 harg2 arg3 harg3 arg4 harg4 arg5 harg5 arg6 harg6 arg7 harg7 x1 x2 x3 k).2.2.2.2 E f4 f5 f6 f7)
      isplitl [H1]; · iexact H1
      isplitl [H2]; · iexact H2
      isplitl [H3]; · iexact H3
      isplitl [H4]; · iexact H4
      isplitl [H5]; · iexact H5
      isplitl [H6]; · iexact H6
      iexact H7
    · iintro %_ ⟨H1, H2, H3, H4, H5, H6, H7⟩
      isplitl [H1]; · iexact H1
      isplitl [H2]; · iexact H2
      isplitl [H3]; · iexact H3
      rw [pieces_succ]
      isplitl [H4]
      · iexists _; isplitl [H4]; · iexact H4
        ipureintro; rw [h4]; exact (View.writes_append ..).symm
      isplitl [H5]
      · iexists _; isplitl [H5]; · iexact H5
        ipureintro; rw [h5]; exact (View.writes_append ..).symm
      isplitl [H6]
      · iexists _; isplitl [H6]; · iexact H6
        ipureintro; rw [h6]; exact (View.writes_append ..).symm
      iexists _; isplitl [H7]; · iexact H7
      ipureintro; rw [h7]; exact (View.writes_append ..).symm

end Cert.AttnTrip

end
-- ==== Proof.AttnBody.lean ====
/-
  The gradient of the attention: the whole body of the kernel, run on any staging buffers.
-/
module

public import proofs.«01_k».proof.Proof.AttnTrip
public import Idealize.ShloMosaic.Lib.VecWindow

@[expose] public section

set_option maxRecDepth 16384

noncomputable section

namespace Cert.AttnTrip

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords)
  (arg1 : Memref sig .tc .vmem S2048x768 .bf16) (harg1 : arg1.IsWhole) (arg2 : Memref sig .tc .vmem S2048x512 .bf16) (harg2 : arg2.IsWhole)
  (arg3 : Memref sig .tc .smem S1x8 .f32) (harg3 : arg3.IsWhole) (arg4 : Memref sig .tc .vmem S2048x768 .bf16) (harg4 : arg4.IsWhole)
  (arg5 : Memref sig .tc .vmem S1x128 .f32) (harg5 : arg5.IsWhole) (arg6 : Memref sig .tc .vmem S2048x128 .f32) (harg6 : arg6.IsWhole)
  (arg7 : Memref sig .tc .vmem S2048x128 .f32) (harg7 : arg7.IsWhole)
  (x1 : Vec F S2048x768 .bf16) (x2 : Vec F S2048x512 .bf16) (x3 : Vec F S1x8 .f32)

set_option maxHeartbeats 1000000 in
/-- THE BODY on any staging buffers: the pieces it leaves in the gradient's array and in the sinks' row, whatever those
    and the accumulators held. -/
@[irreducible] def run : Σ' (L4 : List (View.Piece (Elt F) S2048x768 .bf16)),
    { L5 : List (View.Piece (Elt F) S1x128 .f32) // ∀ (E : Set ℕ) (K : PUnit → sProp 𝕄G),
    iprop(owns (c : Thread nD τ) arg1 fullShare x1 ∗ owns (c : Thread nD τ) arg2 fullShare x2 ∗ owns (c : Thread nD τ) arg3 fullShare x3
        ∗ (∃ d, owns (c : Thread nD τ) arg4 fullShare d) ∗ (∃ d, owns (c : Thread nD τ) arg5 fullShare d)
        ∗ (∃ d, owns (c : Thread nD τ) arg6 fullShare d) ∗ (∃ d, owns (c : Thread nD τ) arg7 fullShare d)
        ∗ (iprop(owns (c : Thread nD τ) arg1 fullShare x1 ∗ owns (c : Thread nD τ) arg2 fullShare x2 ∗ owns (c : Thread nD τ) arg3 fullShare x3
            ∗ (∃ f, held c arg4 (arg4.view.writes (Elt F) f L4)) ∗ held c arg5 (arg5.view.writes (Elt F) arg5.view.junk L5)
            ∗ (∃ d, owns (c : Thread nD τ) arg6 fullShare d) ∗ (∃ d, owns (c : Thread nD τ) arg7 fullShare d)) -∗ K ⟨⟩))
      ⊢ wp frame (wpE (defs₀ (F := F)) Variants.none c none) E (cc0_attn_bwd i arg1 harg1 arg2 harg2 arg3 harg3 arg4 harg4 arg5 harg5 arg6 harg6 arg7 harg7) K } := by
  refine ⟨?_, ?_, fun E K => ?run⟩
  case run =>
    simp only [cc0_attn_bwd_eq_skeleton]; unfold cc0_attn_bwd_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, Hk⟩
    obtain rfl := harg1.eq_unread hf1
    obtain rfl := harg2.eq_unread hf2
    obtain rfl := harg3.eq_unread hf3
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexact H5
    isplitl [H6]
    · iexists _, _; isplitr; swap; · iexact H6
      ipureintro; rfl
    iexists _, _; isplitr; swap; · iexact H7
    ipureintro; rfl

end Cert.AttnTrip

end
-- ==== Proof.AttnFrame.lean ====
/-
  The gradient of the attention: its launch. The proof data of the one grid point, the run of @main, and what every
  final state of it holds.
-/
module

public import proofs.«01_k».proof.Proof.AttnBody
public import proofs.«01_k».proof.Proof.Gen.AttnBwdIdeal.Frame
public import Idealize.ShloMosaic.Lib.Claim

@[expose] public section

set_option maxRecDepth 16384

noncomputable section

namespace Cert.AttnTrip

open Cert.AttnBwdIdeal Cert.AttnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄G" => MT nD τ sig Unit (Elt F) ℕ (UR sig nD τ) ℕ

/-! ## Where a trip reads and writes -/

theorem off1_eq : ∀ k : Fin k0_t1_loop.trips, k0_off1 k = ![128 * (k.val - 1), 512] := by decide +kernel
theorem off2_eq : ∀ k : Fin k0_t1_loop.trips, k0_off2 k = ![128 * k.val, 512] := by decide +kernel
theorem off3_eq : ∀ k : Fin k0_t1_loop.trips, k0_off3 k = ![128 * (k.val - 1), 640] := by decide +kernel
theorem off4_eq : ∀ k : Fin k0_t1_loop.trips, k0_off4 k = ![128 * k.val, 640] := by decide +kernel
theorem off5_eq : ∀ k : Fin k0_t1_loop.trips, k0_off5 k = ![128 * k.val, 0] := by decide +kernel
theorem off6_eq : ∀ k : Fin k0_t1_loop.trips, k0_off6 k = ![128 * k.val, 128] := by decide +kernel
theorem off7_eq : ∀ k : Fin k0_t1_loop.trips, k0_off7 k = ![128 * k.val, 0] := by decide +kernel
theorem off8_eq : ∀ k : Fin k0_t1_loop.trips, k0_off8 k = ![128 * k.val, 128] := by decide +kernel
theorem off10_eq : ∀ k : Fin k0_t1_loop.trips, k0_off10 k = ![128 * k.val, 0] := by decide +kernel
theorem off11_eq : ∀ k : Fin k0_t1_loop.trips, k0_off11 k = ![128 * k.val, 256] := by decide +kernel
theorem off12_eq : ∀ k : Fin k0_t1_loop.trips, k0_off12 k = ![128 * k.val, 384] := by decide +kernel
theorem off13_eq : ∀ k : Fin k0_t1_loop.trips, k0_off13 k = ![128 * k.val, 256] := by decide +kernel
theorem off14_eq : ∀ k : Fin k0_t1_loop.trips, k0_off14 k = ![128 * k.val, 384] := by decide +kernel

theorem trips_eq : k0_t1_loop.trips = 16 := by decide +kernel

variable (c : Dev nD) (i : grid0.Coords)
  (arg1 : Memref sig .tc .vmem S2048x768 .bf16) (harg1 : arg1.IsWhole) (arg2 : Memref sig .tc .vmem S2048x512 .bf16) (harg2 : arg2.IsWhole)
  (arg3 : Memref sig .tc .smem S1x8 .f32) (harg3 : arg3.IsWhole) (arg4 : Memref sig .tc .vmem S2048x768 .bf16) (harg4 : arg4.IsWhole)
  (arg5 : Memref sig .tc .vmem S1x128 .f32) (harg5 : arg5.IsWhole) (arg6 : Memref sig .tc .vmem S2048x128 .f32) (harg6 : arg6.IsWhole)
  (arg7 : Memref sig .tc .vmem S2048x128 .f32) (harg7 : arg7.IsWhole)

/-- The bounds of a block of an array of two axes, axis by axis. -/
theorem in_block (off : Fin 2 → ℕ) (h w : ℕ) (y : S2048x768.Idx) {a b : ℕ} (heq : off = ![a, b])
    (h0 : a ≤ (y 0).val ∧ (y 0).val < a + h) (h1 : b ≤ (y 1).val ∧ (y 1).val < b + w) :
    ∀ x : Fin S2048x768.rank, off x ≤ (y x).val ∧ (y x).val < off x + (![h, w] : Fin 2 → ℕ) x := by
  subst heq
  exact fun a => match a with | ⟨0, _⟩ => h0 | ⟨1, _⟩ => h1

/-- What an earlier trip stored in the gradient's array is among the pieces after `n` trips. -/
theorem mem_pieces (x1 : BufTy.Contents (Elt F) arg1.view.ty) (x2 : BufTy.Contents (Elt F) arg2.view.ty) (x3 : BufTy.Contents (Elt F) arg3.view.ty)
    (g5 : BufTy.Contents (Elt F) arg5.view.ty) (g6 : BufTy.Contents (Elt F) arg6.view.ty) (g7 : BufTy.Contents (Elt F) arg7.view.ty)
    (k : Fin k0_t1_loop.trips) {pc : View.Piece (Elt F) S2048x768 .bf16}
    (hpc : pc ∈ (trip c i arg1 harg1 arg2 harg2 arg3 harg3 arg4 harg4 arg5 harg5 arg6 harg6 arg7 harg7 x1 x2 x3 k).1) :
    ∀ n, k.val < n → n ≤ k0_t1_loop.trips →
      pc ∈ (pieces c i arg1 harg1 arg2 harg2 arg3 harg3 arg4 harg4 arg5 harg5 arg6 harg6 arg7 harg7 x1 x2 x3 g5 g6 g7 n).1 := by
  intro n
  induction n with
  | zero => intro h; omega
  | succ n ih =>
    intro h hn
    rw [show n + 1 = (⟨n, hn⟩ : Fin k0_t1_loop.trips).val + 1 from rfl, pieces_succ]
    refine List.mem_append.mpr ?_
    rcases Nat.lt_succ_iff_lt_or_eq.mp h with h | h
    · exact Or.inr (ih h (Nat.le_of_lt hn))
    · obtain rfl : k = ⟨n, hn⟩ := Fin.ext h
      exact Or.inl hpc

/-- Trip `k` stores the four column blocks of 128 rows. -/
theorem trip_cover (x1 : BufTy.Contents (Elt F) arg1.view.ty) (x2 : BufTy.Contents (Elt F) arg2.view.ty) (x3 : BufTy.Contents (Elt F) arg3.view.ty)
    (k : Fin k0_t1_loop.trips) (y : S2048x768.Idx) (hlo : 128 * k.val ≤ (y 0).val) (hhi : (y 0).val < 128 * k.val + 128) (hc : (y 1).val < 512) :
    ∃ pc ∈ (trip c i arg1 harg1 arg2 harg2 arg3 harg3 arg4 harg4 arg5 harg5 arg6 harg6 arg7 harg7 x1 x2 x3 k).1, y ∈ pc.1.set := by
  unfold trip; dsimp only
  rcases Nat.lt_or_ge (y 1).val 128 with h | h
  · refine ⟨_, List.mem_cons_of_mem _ (List.mem_cons_of_mem _ (List.mem_cons_of_mem _ List.mem_cons_self)), ?_⟩
    rw [Rect.mem_set_unit]; exact in_block _ _ _ _ (off5_eq k) ⟨hlo, hhi⟩ ⟨Nat.zero_le _, h⟩
  rcases Nat.lt_or_ge (y 1).val 256 with h2 | h2
  · refine ⟨_, List.mem_cons_of_mem _ (List.mem_cons_of_mem _ List.mem_cons_self), ?_⟩
    rw [Rect.mem_set_unit]; exact in_block _ _ _ _ (off6_eq k) ⟨hlo, hhi⟩ ⟨h, h2⟩
  rcases Nat.lt_or_ge (y 1).val 384 with h3 | h3
  · refine ⟨_, List.mem_cons_of_mem _ List.mem_cons_self, ?_⟩
    rw [Rect.mem_set_unit]; exact in_block _ _ _ _ (off11_eq k) ⟨hlo, hhi⟩ ⟨h2, h3⟩
  · refine ⟨_, List.mem_cons_self, ?_⟩
    rw [Rect.mem_set_unit]; exact in_block _ _ _ _ (off12_eq k) ⟨hlo, hhi⟩ ⟨h3, hc⟩

variable (x1 : Vec F S2048x768 .bf16) (x2 : Vec F S2048x512 .bf16) (x3 : Vec F S1x8 .f32)

/-- The body stores the whole gradient's array. -/
theorem run_cover (y : S2048x768.Idx) :
    ∃ pc ∈ (run c i arg1 harg1 arg2 harg2 arg3 harg3 arg4 harg4 arg5 harg5 arg6 harg6 arg7 harg7 x1 x2 x3).1, y ∈ pc.1.set := by
  unfold run; dsimp only
  have h0 : (y 0).val < 2048 := (y 0).isLt
  have h1 : (y 1).val < 768 := (y 1).isLt
  rcases Nat.lt_or_ge (y 1).val 512 with h | h
  · have hk : (y 0).val / 128 < k0_t1_loop.trips := by rw [trips_eq]; omega
    obtain ⟨pc, hpc, hy⟩ := trip_cover (F := F) c i arg1 harg1 arg2 harg2 arg3 harg3 arg4 harg4 arg5 harg5 arg6 harg6 arg7 harg7
      (harg1.unread x1) (harg2.unread x2) (harg3.unread x3) ⟨(y 0).val / 128, hk⟩ y (by show 128 * ((y 0).val / 128) ≤ _; omega)
      (by show _ < 128 * ((y 0).val / 128) + 128; omega) h
    exact ⟨pc, List.mem_cons_of_mem _ (List.mem_cons_of_mem _ (mem_pieces _ _ _ _ _ _ _ _ _ _ _ _ _ _ _ _ _ _ _ _ _ _ _ hpc _ hk (Nat.le_refl _))), hy⟩
  rcases Nat.lt_or_ge (y 1).val 640 with h2 | h2
  · refine ⟨_, List.mem_cons_of_mem _ List.mem_cons_self, ?_⟩
    rw [Rect.mem_set_unit]; exact in_block _ _ _ _ (rfl) ⟨Nat.zero_le _, h0⟩ ⟨h, h2⟩
  · refine ⟨_, List.mem_cons_self, ?_⟩
    rw [Rect.mem_set_unit]; exact in_block _ _ _ _ (rfl) ⟨Nat.zero_le _, h0⟩ ⟨h2, h1⟩

/-! ## The staging and scratch memrefs -/

abbrev st0 (t : Fin cfg0.N) : Memref sig .tc .vmem S2048x768 .bf16 := win0_0.stage (cfg0.slots t 0)
abbrev sh0 (t : Fin cfg0.N) : (st0 t).IsWhole := hstage0_0 ((cfg0.slots t 0).cast nbuf0_0)
abbrev st1 (t : Fin cfg0.N) : Memref sig .tc .vmem S2048x512 .bf16 := win0_1.stage (cfg0.slots t 1)
abbrev sh1 (t : Fin cfg0.N) : (st1 t).IsWhole := hstage0_1 ((cfg0.slots t 1).cast nbuf0_1)
abbrev st2 (t : Fin cfg0.N) : Memref sig .tc .smem S1x8 .f32 := win0_2.stage (cfg0.slots t 2)
abbrev sh2 (t : Fin cfg0.N) : (st2 t).IsWhole := hstage0_2 ((cfg0.slots t 2).cast nbuf0_2)
abbrev st3 (t : Fin cfg0.N) : Memref sig .tc .vmem S2048x768 .bf16 := win0_3.stage (cfg0.slots t 3)
abbrev sh3 (t : Fin cfg0.N) : (st3 t).IsWhole := hstage0_3 ((cfg0.slots t 3).cast nbuf0_3)
abbrev st4 (t : Fin cfg0.N) : Memref sig .tc .vmem S1x128 .f32 := win0_4.stage (cfg0.slots t 4)
abbrev sh4 (t : Fin cfg0.N) : (st4 t).IsWhole := hstage0_4 ((cfg0.slots t 4).cast nbuf0_4)
abbrev sc0 : Memref sig .tc .vmem S2048x128 .f32 := Memref.whole cc0_scratch0
abbrev sc1 : Memref sig .tc .vmem S2048x128 .f32 := Memref.whole cc0_scratch1

/-- What the launch holds beside the windows: the two accumulators and the generator's register. -/
theorem phi_eq (c : Dev nD) :
    (Pipeline.ΦA spec0 c : sProp 𝕄G)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

variable (m : (ℓ : Loc nD τ sig) → Buf (Elt F) ℓ) (ρ : Dev nD → PrngReg)

/-- The body's run at point `t`, on the pipeline's buffers. -/
abbrev runAt (t : Fin cfg0.N) := run (F := F) c (grid0.coords t) (st0 t) (sh0 t) (st1 t) (sh1 t) (st2 t) (sh2 t) (st3 t) (sh3 t) (st4 t) (sh4 t)
  sc0 (Memref.isWhole_whole _) sc1 (Memref.isWhole_whole _) (iblk m c 0 t) (iblk m c 1 t) (iblk m c 2 t)

/-- What the body leaves in the gradient's array. -/
def out3 (t : Fin cfg0.N) : Vec F S2048x768 .bf16 :=
  (st3 t).view.read (Elt F) ((st3 t).view.writes (Elt F) (st3 t).view.junk (runAt c m t).1)

/-- What the body leaves in the sinks' row. -/
def out4 (t : Fin cfg0.N) : Vec F S1x128 .f32 :=
  (st4 t).view.read (Elt F) ((st4 t).view.writes (Elt F) (st4 t).view.junk (runAt c m t).2.1)

/-! ## The proof data -/

/-- Each array as launched, what the body leaves in each window's buffer, and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out3 c m t
    | ⟨4, _⟩ => out4 c m t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = out3 c m t := by dsimp only [dats]
theorem after4 (c : Dev nD) (t : Fin cfg0.N) : (dats m 0 c).after 4 t = out4 c m t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

/-! ## The body at a point -/

/-- What the pipeline hands the body at point `t`. -/
def bodyPre (c : Dev nD) (t : Fin cfg0.N) : sProp 𝕄G :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d)))

/-- What the body hands back at point `t`. -/
def bodyPost (c : Dev nD) (t : Fin cfg0.N) : sProp 𝕄G :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = Pipeline.ΦA spec0 c from rfl, phi_eq]
  iintro ⟨⟨⟨HS0, HS1⟩, Hg⟩, Ho, ⟨%d0, H0⟩, ⟨%d1, H1⟩, ⟨%d2, H2⟩, ⟨%d3, H3⟩, ⟨%d4, H4⟩⟩
  iapply ((runAt c m t).2.2 Set.univ _)
  isplitl [H0]; · iexact H0
  isplitl [H1]; · iexact H1
  isplitl [H2]; · iexact H2
  isplitl [H3]; · iexists _; iexact H3
  isplitl [H4]; · iexists _; iexact H4
  isplitl [HS0]; · iexact HS0
  isplitl [HS1]; · iexact HS1
  iintro ⟨H0, H1, H2, ⟨%f3, H3⟩, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]
  · unfold owns; iexists _; isplitr; swap; · iexact H3
    ipureintro; exact View.read_writes_of_cover _ _ _ _ _ (fun y => run_cover (F := F) (y := y) ..)
  unfold owns; iexists _; isplitr; swap; · iexact H4
  ipureintro; rfl

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
/-- Every execution of @main ends, with each array as the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends, the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.AttnTrip

end
-- ==== Proof.AttnFrames.lean ====
/-
  The gradient of the attention: the frames of the two kernel programs, from one run. The programs have one text but for
  the mask's constant, which the ideal one names; read at the machine's words with the name standing for the literal,
  they are one program.
-/
module

public import proofs.«01_k».proof.Defs
public import proofs.«01_k».proof.Proof.AttnFrame
public import proofs.«01_k».proof.Proof.Gen.AttnBwd

@[expose] public section

noncomputable section

namespace Cert.AttnProof

open Idealize.ShloMosaic Idealize.SL.Sem

/-- At the machine's words a named constant is its literal. -/
@[reducible] def namedBits : Named Bits := ⟨fun _ _ {φ} b => FloatOps.ofBits φ b⟩

theorem frame_kernel : Cert.quiescent_AttnBwd := fun m ρ _ =>
  Eq.mp (by sl_kernel_rfl) (@Cert.AttnTrip.frame_main Bits _ namedBits m ρ)

theorem frame_ideal : Cert.quiescent_AttnBwdIdeal := fun m ρ _ => Cert.AttnTrip.frame_main m ρ

theorem preserves : Cert.preserves_AttnBwd_AttnBwdIdeal :=
  IdealRules.named_const.statement Cert.AttnBwdIdeal.κ "mask" .f32 0xF149F2CA#32 ⊥ rfl

end Cert.AttnProof

end
-- ==== Proof.AttnSpec.lean ====
/-
  The gradient of the attention, one block of 128 queries against its 256 keys: the quantities of the softmax with a sink
  and of its gradient, over extended reals. `P` is the projection (queries, keys, values), `D` the cotangent of the
  attention's output, `S` the sinks; `n` is the block, `h` the key head; row `r` of the 512 is query `r % 128` of the
  query head `4 h + r / 128`.
-/
module

public import Idealize.ShloMosaic.Lib.Pointwise

@[expose] public section

noncomputable section

namespace Cert.AttnSpec

open Idealize.ShloMosaic

/-- A matrix at two natural numbers, zero outside. -/
def at2 {R C : ℕ} (X : (⟨2, ![R, C]⟩ : Shape).Idx → EReal) (a b : ℕ) : EReal :=
  if h : a < R ∧ b < C then X (ix2 ⟨a, h.1⟩ ⟨b, h.2⟩) else 0

theorem at2_of {R C : ℕ} (X : (⟨2, ![R, C]⟩ : Shape).Idx → EReal) {a b : ℕ} (ha : a < R) (hb : b < C) :
    at2 X a b = X (ix2 ⟨a, ha⟩ ⟨b, hb⟩) := dif_pos ⟨ha, hb⟩

/-- The scale of the scores, an eighth. -/
abbrev c8 : EReal := Ideal.ofBits .f32 1040187392#32

variable (P D : ℕ → ℕ → EReal) (S : ℕ → EReal) (n h : ℕ)

/-- The row of key `j`: of the block before, or of the block (the first block's own rows stand in for the block before it). -/
def krow (j : ℕ) : ℕ := if j < 128 then 128 * (n - 1) + j else 128 * n + (j - 128)

/-- The keys that query `r` sees. -/
def ok (r j : ℕ) : Prop := r % 128 < j ∧ j ≤ r % 128 + 128 ∧ (128 ≤ j ∨ 0 < n)

instance (r j : ℕ) : Decidable (ok n r j) := inferInstanceAs (Decidable (_ ∧ _))

/-- Row `r` of the group's queries, or of their cotangents, in the lanes of head `h` and zero in the other lanes. -/
def qs (r l : ℕ) : EReal := if l / 64 = h then P (128 * n + r % 128) (256 * h + 64 * (r / 128) + l % 64) else 0

def sc (r j : ℕ) : EReal := (∑ l : Fin 128, qs P n h r l * P (krow n j) (512 + l)) * c8
def sm (r j : ℕ) : EReal := if ok n r j then sc P n h r j else ⊥
def mx (r : ℕ) : EReal := max (Finset.univ.fold max ⊥ fun j : Fin 256 => sm P n h r j) (S (4 * h + r / 128))
def ex (r j : ℕ) : EReal := Ideal.exp (sm P n h r j - mx P S n h r)
def es (r : ℕ) : EReal := Ideal.exp (S (4 * h + r / 128) - mx P S n h r)
def rs (r : ℕ) : EReal := Ideal.div 1 ((∑ j : Fin 256, ex P S n h r j) + es P S n h r)
def pr (r j : ℕ) : EReal := ex P S n h r j * rs P S n h r
def ps (r : ℕ) : EReal := es P S n h r * rs P S n h r
def dp (r j : ℕ) : EReal := ∑ l : Fin 128, qs D n h r l * P (krow n j) (640 + l)
def del (r : ℕ) : EReal := ∑ j : Fin 256, pr P S n h r j * dp P D n h r j
def ds (r j : ℕ) : EReal := pr P S n h r j * (dp P D n h r j - del P D S n h r) * c8
def dsk (r : ℕ) : EReal := ps P S n h r * del P D S n h r
def dq (r l : ℕ) : EReal := ∑ j : Fin 256, ds P D S n h r j * P (krow n j) (512 + l)
def dk (j l : ℕ) : EReal := ∑ r : Fin 512, ds P D S n h r j * qs P n h r l
def dv (j l : ℕ) : EReal := ∑ r : Fin 512, pr P S n h r j * qs D n h r l

end Cert.AttnSpec

end
-- ==== Proof.AttnWords.lean ====
/-
  The gradient of the attention: what the words of one trip of the kernel's loop are, index by index. Trip `k` treats the
  128 queries of block `k`, first for key head 0 and then for key head 1; each statement is about both.
-/
module

public import proofs.«01_k».proof.Proof.AttnFrame
public import proofs.«01_k».proof.Proof.AttnSpec
public import Idealize.ShloMosaic.Lib.Pointwise
public import Idealize.ShloMosaic.Lib.WordCmp
public import Idealize.ShloMosaic.Lib.Affine
public import Idealize.ShloMosaic.Lib.Pipeline.ValueKit.Tiles

@[expose] public section

set_option maxRecDepth 16384

noncomputable section

namespace Cert.AttnTrip

open Cert.AttnBwdIdeal Cert.AttnBwdIdeal.Gen Cert.AttnSpec
open Idealize.ShloMosaic Idealize.ShloMosaic.TcCoe Idealize.ShloMosaic.Tactic

/-- A load of a block at an index. -/
theorem load_at {sp : Space} {R C h w : ℕ} {e : EltTy} (M : Memref sig .tc sp ⟨2, ![R, C]⟩ e) (hM : M.IsWhole)
    (X : (⟨2, ![R, C]⟩ : Shape).Idx → Elt Ideal e) (off : Fin 2 → ℕ) {o u : ℕ} (heq : off = ![o, u])
    (inb : ∀ a, off a + (![h, w] : Fin 2 → ℕ) a ≤ (⟨2, ![R, C]⟩ : Shape).size a) (y : Fin h) (x : Fin w)
    (hy : o + y.val < R) (hx : u + x.val < C) :
    View.readAt (Elt Ideal) M.view (Rect.unit (s := ⟨2, ![R, C]⟩) off ![h, w] inb).toLoadRect (hM.unread X) (ix2 y x)
      = X (ix2 ⟨o + y.val, hy⟩ ⟨u + x.val, hx⟩) := by
  subst heq
  rw [View.readAt_eq_ld, hM.read_unread]
  exact View.ld_unit_apply_of _ _ _ _ _ (ix2 _ _) fun a => match a with | ⟨0, _⟩ => rfl | ⟨1, _⟩ => rfl

theorem ofBool_one (p : Prop) [Decidable p] : (BitVec.ofBool (decide p) = 1#1) = p := by by_cases h : p <;> simp [h]

variable
  (arg1 : Memref sig .tc .vmem S2048x768 .bf16) (harg1 : arg1.IsWhole) (arg2 : Memref sig .tc .vmem S2048x512 .bf16) (harg2 : arg2.IsWhole)
  (arg3 : Memref sig .tc .smem S1x8 .f32) (harg3 : arg3.IsWhole)
  (X1 : Vec Ideal S2048x768 .bf16) (X2 : Vec Ideal S2048x512 .bf16) (X3 : Vec Ideal S1x8 .f32) (k : Fin k0_t1_loop.trips)

/-- A load of a block of 128 rows and 128 columns of the projection. -/
theorem loadP (off : Fin 2 → ℕ) (inb : ∀ a, off a + S128x128.size a ≤ S2048x768.size a) (o u : ℕ) (heq : off = ![o, u]) (a b : Fin 128) :
    View.readAt (Elt Ideal) arg1.view (Rect.unit (s := S2048x768) off S128x128.size inb).toLoadRect (harg1.unread X1) (ix2 a b)
      = at2 (R := 2048) (C := 768) X1 (o + a.val) (u + b.val) := by
  have h0 := inb 0
  have h1 := inb 1
  subst heq
  have h0 : o + 128 ≤ 2048 := h0
  have h1 : u + 128 ≤ 768 := h1
  rw [at2_of (R := 2048) (C := 768) X1 (by omega : o + a.val < 2048) (by omega : u + b.val < 768)]
  exact load_at arg1 harg1 X1 _ rfl inb a b _ _

/-- A load of a block of 128 rows and 128 columns of the cotangent. -/
theorem loadD (off : Fin 2 → ℕ) (inb : ∀ a, off a + S128x128.size a ≤ S2048x512.size a) (o u : ℕ) (heq : off = ![o, u]) (a b : Fin 128) :
    View.readAt (Elt Ideal) arg2.view (Rect.unit (s := S2048x512) off S128x128.size inb).toLoadRect (harg2.unread X2) (ix2 a b)
      = at2 (R := 2048) (C := 512) X2 (o + a.val) (u + b.val) := by
  have h0 := inb 0
  have h1 := inb 1
  subst heq
  have h0 : o + 128 ≤ 2048 := h0
  have h1 : u + 128 ≤ 512 := h1
  rw [at2_of (R := 2048) (C := 512) X2 (by omega : o + a.val < 2048) (by omega : u + b.val < 512)]
  exact load_at arg2 harg2 X2 _ rfl inb a b _ _

/-- Four blocks of 128 rows one below the other. -/
theorem four_at (A B C E : FVec Ideal S128x128 .f32) (a : Fin 512) (b : Fin 128) :
    concatenate S512x128 0 [⟨S128x128, A⟩, ⟨S128x128, B⟩, ⟨S128x128, C⟩, ⟨S128x128, E⟩] concatenates_S128x128_S128x128_S128x128_S128x128_S512x128_d0 (ix2 a b)
      = (match a.val / 128 with | 0 => A | 1 => B | 2 => C | _ => E) (ix2 ⟨a.val % 128, Nat.mod_lt _ (by omega)⟩ b) := by
  simp only [pointwise, Matrix.cons_val_zero, if_true, Fin.val_one, Fin.val_zero, one_ne_zero, if_false]
  have ha := a.isLt
  split_ifs
  all_goals first
    | (rw [show a.val / 128 = 0 by omega]; exact congrArg A (congrArg (ix2 · b) (Fin.ext (show a.val = a.val % 128 by omega))))
    | (rw [show a.val / 128 = 1 by omega]; exact congrArg B (congrArg (ix2 · b) (Fin.ext (show a.val - 128 = a.val % 128 by omega))))
    | (rw [show a.val / 128 = 2 by omega]; exact congrArg C (congrArg (ix2 · b) (Fin.ext (show a.val - 128 - 128 = a.val % 128 by omega))))
    | (rw [show a.val / 128 = 3 by omega]; exact congrArg E (congrArg (ix2 · b) (Fin.ext (show a.val - 128 - 128 - 128 = a.val % 128 by omega))))

/-- A rotation of the 128 lanes by 64. -/
theorem rot_at (A : FVec Ideal S128x128 .f32) (hr) (a b : Fin 128) :
    dynamicRotate 1 64#32 none A hr (ix2 a b) = A (ix2 a ⟨(b.val + 64) % 128, Nat.mod_lt _ (by omega)⟩) := by
  simp only [pointwise]
  refine congrArg A (congrArg (ix2 a) (Fin.ext ?_))
  show (b.val + 128 - (64 + 0) % 128) % 128 = (b.val + 64) % 128
  omega

/-- The keys of the block before and of the block. -/
theorem key_at (a : Fin 256) (b : Fin 128) :
    trip.sl.v29 arg1 (harg1.unread X1) k (ix2 a b) = at2 (R := 2048) (C := 768) X1 (krow k.val a.val) (512 + b.val) := by
  simp only [trip.sl.v29, trip.sl.v25, trip.sl.v28, pointwise, if_true, Fin.val_one, Fin.val_zero, one_ne_zero, if_false, krow]
  split_ifs with h
  on_goal 1 => exact loadP arg1 harg1 X1 _ _ _ _ (off1_eq k) _ _
  all_goals exact loadP arg1 harg1 X1 _ _ _ _ (off2_eq k) ⟨a.val - 128, by omega⟩ b

/-- The values of the block before and of the block. -/
theorem val_at (a : Fin 256) (b : Fin 128) :
    trip.sl.v36 arg1 (harg1.unread X1) k (ix2 a b) = at2 (R := 2048) (C := 768) X1 (krow k.val a.val) (640 + b.val) := by
  simp only [trip.sl.v36, trip.sl.v32, trip.sl.v35, pointwise, if_true, Fin.val_one, Fin.val_zero, one_ne_zero, if_false, krow]
  split_ifs with h
  on_goal 1 => exact loadP arg1 harg1 X1 _ _ _ _ (off3_eq k) _ _
  all_goals exact loadP arg1 harg1 X1 _ _ _ _ (off4_eq k) ⟨a.val - 128, by omega⟩ b

theorem lane_at (a b : Fin 128) : trip.sl.v46 (ix2 a b) = BitVec.ofBool (decide (b.val < 64)) ∧ trip.sl.v395 (ix2 a b) = BitVec.ofBool (decide (64 ≤ b.val)) := by
  simp only [trip.sl.v46, trip.sl.v41, trip.sl.v42, trip.sl.v44, trip.sl.v395, trip.sl.v393, pointwise]
  have e : List.foldl (fun n x => n * (![128, 128] : Fin 2 → ℕ) x + ((ix2 a b x : Fin _) : ℕ)) 0 [1] = b.val := by
    show 0 * 128 + b.val = b.val
    omega
  constructor <;> (refine Eq.trans (congrArg (fun n => IntOp.andi (IntOp.cmpi _ (BitVec.ofNat 32 n) _) (IntOp.cmpi _ (BitVec.ofNat 32 n) _)) e) ?_; clear e; revert b; decide)

theorem ld_at (a b : Fin 128) :
    (trip.sl.v40 arg1 (harg1.unread X1) k (ix2 a b) = at2 (R := 2048) (C := 768) X1 (128 * k.val + a.val) (0 + b.val)
      ∧ trip.sl.v65 arg1 (harg1.unread X1) k (ix2 a b) = at2 (R := 2048) (C := 768) X1 (128 * k.val + a.val) (128 + b.val)
      ∧ trip.sl.v388 arg1 (harg1.unread X1) k (ix2 a b) = at2 (R := 2048) (C := 768) X1 (128 * k.val + a.val) (256 + b.val)
      ∧ trip.sl.v413 arg1 (harg1.unread X1) k (ix2 a b) = at2 (R := 2048) (C := 768) X1 (128 * k.val + a.val) (384 + b.val))
    ∧ trip.sl.v165 arg2 (harg2.unread X2) k (ix2 a b) = at2 (R := 2048) (C := 512) X2 (128 * k.val + a.val) (0 + b.val)
      ∧ trip.sl.v190 arg2 (harg2.unread X2) k (ix2 a b) = at2 (R := 2048) (C := 512) X2 (128 * k.val + a.val) (128 + b.val)
      ∧ trip.sl.v513 arg2 (harg2.unread X2) k (ix2 a b) = at2 (R := 2048) (C := 512) X2 (128 * k.val + a.val) (256 + b.val)
      ∧ trip.sl.v538 arg2 (harg2.unread X2) k (ix2 a b) = at2 (R := 2048) (C := 512) X2 (128 * k.val + a.val) (384 + b.val) := by
  simp only [trip.sl.v40, trip.sl.v39, trip.sl.v65, trip.sl.v64, trip.sl.v388, trip.sl.v387, trip.sl.v413, trip.sl.v412,
    trip.sl.v165, trip.sl.v164, trip.sl.v190, trip.sl.v189, trip.sl.v513, trip.sl.v512, trip.sl.v538, trip.sl.v537, pointwise]
  exact ⟨⟨loadP arg1 harg1 X1 _ _ _ _ (off5_eq k) _ _, loadP arg1 harg1 X1 _ _ _ _ (off6_eq k) _ _, loadP arg1 harg1 X1 _ _ _ _ (off11_eq k) _ _,
    loadP arg1 harg1 X1 _ _ _ _ (off12_eq k) _ _⟩, loadD arg2 harg2 X2 _ _ _ _ (off7_eq k) _ _, loadD arg2 harg2 X2 _ _ _ _ (off8_eq k) _ _,
    loadD arg2 harg2 X2 _ _ _ _ (off13_eq k) _ _, loadD arg2 harg2 X2 _ _ _ _ (off14_eq k) _ _⟩

theorem zero_bits : Ideal.ofBits .f32 0x00000000#32 = 0 := by simp [pointwise]

theorem keep_at (A : FVec Ideal S128x128 .f32) (a b : Fin 128) :
    select trip.sl.v46 A (broadcast S128x128 (trip.sl.cst_23 (F := Ideal))) (ix2 a b) = (if b.val / 64 = 0 then A (ix2 a b) else 0)
      ∧ select trip.sl.v395 A (broadcast S128x128 (trip.sl.cst_23 (F := Ideal))) (ix2 a b) = (if b.val / 64 = 1 then A (ix2 a b) else 0) := by
  simp only [trip.sl.cst_23, pointwise, (lane_at _ _).1, (lane_at _ _).2, ofBool_one]
  exact ⟨if_congr (by omega) rfl rfl, if_congr (by omega) rfl rfl⟩

/-- A block of 128 query rows that the lanes of head `h` hold, at 64 columns from `256 h + 64 g`. -/
theorem qs_of (X : ℕ → ℕ → EReal) (h : ℕ) (a : Fin 512) (b : Fin 128) (p : ℕ) (hp : b.val / 64 = h → p = 256 * h + 64 * (a.val / 128) + b.val % 64) :
    (if b.val / 64 = h then X (128 * k.val + a.val % 128) p else 0) = qs X k.val h a.val b.val := by
  unfold qs
  split_ifs with e
  · rw [hp e]
  · rfl

/-- The four query heads of a group, one below the other, in the lanes of their key head; and their cotangents. -/
theorem q_at (a : Fin 512) (b : Fin 128) :
    trip.sl.v88 arg1 (harg1.unread X1) k (ix2 a b) = qs (at2 (R := 2048) (C := 768) X1) k.val 0 a.val b.val
      ∧ trip.sl.v436 arg1 (harg1.unread X1) k (ix2 a b) = qs (at2 (R := 2048) (C := 768) X1) k.val 1 a.val b.val
      ∧ trip.sl.v213 arg2 (harg2.unread X2) k (ix2 a b) = qs (at2 (R := 2048) (C := 512) X2) k.val 0 a.val b.val
      ∧ trip.sl.v561 arg2 (harg2.unread X2) k (ix2 a b) = qs (at2 (R := 2048) (C := 512) X2) k.val 1 a.val b.val := by
  have g : a.val / 128 = 0 ∨ a.val / 128 = 1 ∨ a.val / 128 = 2 ∨ a.val / 128 = 3 := by omega
  refine ⟨?_, ?_, ?_, ?_⟩
  all_goals
    simp only [trip.sl.v88, trip.sl.v87, trip.sl.v436, trip.sl.v435, trip.sl.v213, trip.sl.v212, trip.sl.v561, trip.sl.v560]
    refine (four_at _ _ _ _ a b).trans ?_
    rcases g with e | e | e | e
  all_goals
    rw [e]
    simp only [trip.sl.v48, trip.sl.v61, trip.sl.v73, trip.sl.v86, trip.sl.v53, trip.sl.v78, trip.sl.v397, trip.sl.v409, trip.sl.v422, trip.sl.v434,
      trip.sl.v389, trip.sl.v414, trip.sl.v173, trip.sl.v186, trip.sl.v178, trip.sl.v198, trip.sl.v203, trip.sl.v211, trip.sl.v514, trip.sl.v522,
      trip.sl.v534, trip.sl.v539, trip.sl.v547, trip.sl.v559, trip.sl.v47]
    first | rw [(keep_at _ _ _).1] | rw [(keep_at _ _ _).2]
    try rw [rot_at]
    simp only [(ld_at arg1 harg1 arg2 harg2 X1 X2 k _ _).1, (ld_at arg1 harg1 arg2 harg2 X1 X2 k _ _).2]
    refine qs_of k _ _ a b _ (fun h => ?_)
    omega

/-- The mask's condition on words is `ok`. -/
theorem ok_word {n r j : ℕ} (hn : n < 16) (hr : r < 512) (hj : j < 256) :
    (IntOp.andi (IntOp.andi
        (IntOp.cmpi .sge (IntOp.subi (IntOp.addi (IntOp.andi (BitVec.ofNat 32 r) 127#32) 128#32) (BitVec.ofNat 32 j)) 0#32)
        (IntOp.cmpi .slt (IntOp.subi (IntOp.addi (IntOp.andi (BitVec.ofNat 32 r) 127#32) 128#32) (BitVec.ofNat 32 j)) 128#32))
      (IntOp.ori (IntOp.cmpi .sge (BitVec.ofNat 32 j) 128#32) (Scalar.cmpi .sgt (Scf.iv 0#32 1#32 n) 0#32)) = 1#1) = ok n r j := by
  have hx : (IntOp.subi (IntOp.addi (IntOp.andi (BitVec.ofNat 32 r) 127#32) 128#32) (BitVec.ofNat 32 j)).toInt = (r % 128 : ℕ) + 128 - (j : ℤ) := by
    have e : (BitVec.ofNat 32 r &&& 127#32).toNat = r % 128 := by
      rw [BitVec.toNat_and, BitVec.toNat_ofNat, Nat.mod_eq_of_lt (by omega : r < 2 ^ 32)]
      exact Nat.and_two_pow_sub_one_eq_mod r 7
    show ((BitVec.ofNat 32 r &&& 127#32) + 128#32 - BitVec.ofNat 32 j).toInt = _
    rw [BitVec.toInt_eq_toNat_cond, BitVec.toNat_sub, BitVec.toNat_add, e]
    simp only [BitVec.toNat_ofNat]
    split_ifs <;> omega
  have hk : (Scf.iv 0#32 1#32 n).toInt = n := by
    interval_cases n <;> rfl
  have hy : (BitVec.ofNat 32 j).toInt = j := by
    rw [BitVec.toInt_eq_toNat_cond, BitVec.toNat_ofNat]
    split_ifs <;> omega
  have c : ∀ x y : BitVec 32, (IntOp.cmpi .sge x y = 1#1) = (y.toInt ≤ x.toInt) := fun x y => ofBool_one _
  have d : ∀ x y : BitVec 32, (IntOp.cmpi .slt x y = 1#1) = (x.toInt < y.toInt) := fun x y => ofBool_one _
  have g : ∀ x y : BitVec 32, (Scalar.cmpi .sgt x y = 1#1) = (y.toInt < x.toInt) := fun x y => ofBool_one _
  simp only [IntOp.andi_eq_one, IntOp.ori_eq_one, c, d, g, hx, hk, hy, ok]
  rw [show (0#32).toInt = 0 from rfl, show (128#32).toInt = 128 from rfl]
  simp only [eq_iff_iff]
  omega

/-- A number of a word between two others. -/
theorem in_word {r lo hi : ℕ} (hr : r < 512) (hl : lo < 1024) (hh : hi < 1024) :
    (IntOp.andi (IntOp.cmpi .sge (BitVec.ofNat 32 r) (BitVec.ofNat 32 lo)) (IntOp.cmpi .slt (BitVec.ofNat 32 r) (BitVec.ofNat 32 hi)) = 1)
      = (lo ≤ r ∧ r < hi) := by
  have e : ∀ m : ℕ, m < 1024 → (BitVec.ofNat 32 m).toInt = m := fun m hm => by
    rw [BitVec.toInt_eq_toNat_cond, BitVec.toNat_ofNat]
    split_ifs <;> omega
  have c : ∀ x y : BitVec 32, (IntOp.cmpi .sge x y = 1#1) = (y.toInt ≤ x.toInt) := fun x y => ofBool_one _
  have d : ∀ x y : BitVec 32, (IntOp.cmpi .slt x y = 1#1) = (x.toInt < y.toInt) := fun x y => ofBool_one _
  show (_ = 1#1) = _
  rw [IntOp.andi_eq_one, c, d, e r (by omega), e lo hl, e hi hh]
  simp only [Nat.cast_le, Nat.cast_lt]

/-- The choice among four heads by the row. -/
theorem pick_at (X : ℕ → EReal) (c : ℕ) {r : ℕ} (hr : r < 512) :
    Scalar.select (IntOp.andi (IntOp.cmpi .sge (BitVec.ofNat 32 r) 384#32) (IntOp.cmpi .slt (BitVec.ofNat 32 r) 512#32)) (X (c + 3))
      (Scalar.select (IntOp.andi (IntOp.cmpi .sge (BitVec.ofNat 32 r) 256#32) (IntOp.cmpi .slt (BitVec.ofNat 32 r) 384#32)) (X (c + 2))
        (Scalar.select (IntOp.andi (IntOp.cmpi .sge (BitVec.ofNat 32 r) 128#32) (IntOp.cmpi .slt (BitVec.ofNat 32 r) 256#32)) (X (c + 1))
          (Scalar.select (IntOp.andi (IntOp.cmpi .sge (BitVec.ofNat 32 r) 0#32) (IntOp.cmpi .slt (BitVec.ofNat 32 r) 128#32)) (X (c + 0)) 0)))
      = X (c + r / 128) := by
  unfold Scalar.select
  simp only [in_word (lo := 384) (hi := 512) hr (by omega) (by omega), in_word (lo := 256) (hi := 384) hr (by omega) (by omega),
    in_word (lo := 128) (hi := 256) hr (by omega) (by omega), in_word (lo := 0) (hi := 128) hr (by omega) (by omega)]
  split_ifs
  all_goals first
    | omega
    | rw [show r / 128 = 3 by omega]
    | rw [show r / 128 = 2 by omega]
    | rw [show r / 128 = 1 by omega]
    | rw [show r / 128 = 0 by omega]

/-- A load of a sink. -/
theorem loadS (o : ℕ) (inb : ∀ a, (![0, o] : Fin 2 → ℕ) a + S1x1.size a ≤ S1x8.size a) (hp) :
    View.readAt (Elt Ideal) arg3.view (Rect.unit (s := S1x8) ![0, o] S1x1.size inb).toLoadRect (harg3.unread X3) (Shape.Idx.first hp)
      = at2 (R := 1) (C := 8) X3 0 o := by
  have h1 : o + 1 ≤ 8 := inb 1
  rw [at2_of (R := 1) (C := 8) X3 (by omega : 0 < 1) (by omega : o < 8)]
  have e : (Shape.Idx.first hp : S1x1.Idx) = ix2 0 0 := by
    funext a
    match a with
    | ⟨0, _⟩ => rfl
    | ⟨1, _⟩ => rfl
  rw [e]
  exact load_at arg3 harg3 X3 ![0, o] (o := 0) (u := o) rfl inb 0 0 (by decide) (show o + 0 < 8 by omega)

include arg1 harg1 arg2 harg2 arg3 harg3 X1 X2 X3 k

local notation "PP" => at2 (R := 2048) (C := 768) X1
local notation "DD" => at2 (R := 2048) (C := 512) X2
local notation "SS" => at2 (R := 1) (C := 8) X3 0

/-- The scores. -/
theorem sc_at (a : Fin 512) (j : Fin 256) :
    trip.sl.v91 arg1 (harg1.unread X1) k (ix2 a j) = sc PP k.val 0 a.val j.val
      ∧ trip.sl.v439 arg1 (harg1.unread X1) k (ix2 a j) = sc PP k.val 1 a.val j.val := by
  simp only [trip.sl.v91, trip.sl.v89, trip.sl.v439, trip.sl.v437, trip.sl.v90, trip.sl.cst_37, trip.sl.cst_38, pointwise, zero_add,
    (q_at arg1 harg1 arg2 harg2 X1 X2 k _ _).1, (q_at arg1 harg1 arg2 harg2 X1 X2 k _ _).2.1, key_at]
  exact ⟨rfl, rfl⟩

/-- The masked scores. -/
theorem sm_at (a : Fin 512) (j : Fin 256) :
    trip.sl.r_4 arg1 (harg1.unread X1) k (ix2 a j) = sm PP k.val 0 a.val j.val
      ∧ trip.sl.r_9 arg1 (harg1.unread X1) k (ix2 a j) = sm PP k.val 1 a.val j.val := by
  have hk : k.val < 16 := trips_eq ▸ k.isLt
  have e0 : List.foldl (fun n x => n * (![512, 256] : Fin 2 → ℕ) x + ((ix2 a j x : Fin _) : ℕ)) 0 [0] = a.val := by
    show 0 * 512 + a.val = a.val
    omega
  have e1 : List.foldl (fun n x => n * (![512, 256] : Fin 2 → ℕ) x + ((ix2 a j x : Fin _) : ℕ)) 0 [1] = j.val := by
    show 0 * 256 + j.val = j.val
    omega
  simp only [trip.sl.r_4, trip.sl.r_9, k0_pay18, k0_pay63, trip.sl.v92, trip.sl.v93, trip.sl.v95, trip.sl.v96, trip.sl.v97, trip.sl.v99,
    trip.sl.v100, trip.sl.v102, trip.sl.arg8, pointwise]
  simp only [(sc_at arg1 harg1 arg2 harg2 arg3 harg3 X1 X2 X3 k _ _).1, (sc_at arg1 harg1 arg2 harg2 arg3 harg3 X1 X2 X3 k _ _).2]
  have m : (Named.named (F := Ideal) (φ := .f32) κ "mask" 4048155338#32 : EReal) = ⊥ := IdealRules.named_const.ideal_named_scalar _ _ _ _ rfl
  constructor
  all_goals
    unfold Scalar.select sm
    refine if_congr (Iff.of_eq (Eq.trans ?_ (ok_word hk a.isLt j.isLt))) rfl m
    rw [e0, e1]
    rfl

omit arg1 harg1 arg2 harg2 X1 X2 k in
/-- The eight sinks. -/
theorem sinks_at :
    (trip.sl.r arg3 (harg3.unread X3) = SS 0 ∧ trip.sl.r_1 arg3 (harg3.unread X3) = SS 1 ∧ trip.sl.r_2 arg3 (harg3.unread X3) = SS 2
      ∧ trip.sl.r_3 arg3 (harg3.unread X3) = SS 3)
    ∧ trip.sl.r_6 arg3 (harg3.unread X3) = SS 4 ∧ trip.sl.r_7 arg3 (harg3.unread X3) = SS 5 ∧ trip.sl.r_8 arg3 (harg3.unread X3) = SS 6
      ∧ trip.sl.r_11 arg3 (harg3.unread X3) = SS 7 :=
  ⟨⟨loadS arg3 harg3 X3 0 _ _, loadS arg3 harg3 X3 1 _ _, loadS arg3 harg3 X3 2 _ _, loadS arg3 harg3 X3 3 _ _⟩,
    loadS arg3 harg3 X3 4 _ _, loadS arg3 harg3 X3 5 _ _, loadS arg3 harg3 X3 6 _ _, loadS arg3 harg3 X3 7 _ _⟩

/-- The sinks of the group's four heads, one per row. -/
theorem sk_at (a : Fin 512) :
    trip.sl.v145 arg3 (harg3.unread X3) (ix2 a 0) = SS (4 * 0 + a.val / 128)
      ∧ trip.sl.v493 arg3 (harg3.unread X3) (ix2 a 0) = SS (4 * 1 + a.val / 128) := by
  simp only [trip.sl.v145, trip.sl.v144, trip.sl.r_5, trip.sl.v493, trip.sl.v490, trip.sl.v486, trip.sl.v488, trip.sl.v460, trip.sl.v492, trip.sl.r_10,
    k0_pay19, k0_pay20, k0_pay64, (sinks_at arg3 harg3 X3).1, (sinks_at arg3 harg3 X3).2, pointwise]
  have e0 : List.foldl (fun n x => n * (![512, 1] : Fin 2 → ℕ) x + ((ix2 a (0 : Fin 1) x : Fin _) : ℕ)) 0 [0] = a.val := by
    show 0 * 512 + a.val = a.val
    omega
  rw [e0]
  exact ⟨pick_at SS (4 * 0) a.isLt, pick_at SS (4 * 1) a.isLt⟩

theorem ninf : Ideal.ofBits .f32 4286578688#32 = ⊥ := by simp [Ideal.ofBits, Ideal.ieee]
theorem one_bits : Ideal.ofBits .f32 1065353216#32 = 1 := by simp [pointwise]

/-- The largest of the scores and the sink. -/
theorem mx_at (a : Fin 512) :
    trip.sl.v148 arg1 arg3 (harg1.unread X1) (harg3.unread X3) k (ix2 a 0) = mx PP SS k.val 0 a.val
      ∧ trip.sl.v496 arg1 arg3 (harg1.unread X1) (harg3.unread X3) k (ix2 a 0) = mx PP SS k.val 1 a.val := by
  simp only [trip.sl.v148, trip.sl.v496, trip.sl.v147, trip.sl.v146, trip.sl.cst_56, trip.sl.v495, trip.sl.v494, pointwise, zero_add, ↓reduceDIte, OfNat.ofNat_ne_one, ninf, one_bits,
    (sm_at arg1 harg1 arg2 harg2 arg3 harg3 X1 X2 X3 k _ _).1, (sm_at arg1 harg1 arg2 harg2 arg3 harg3 X1 X2 X3 k _ _).2,
    (sk_at arg1 harg1 arg2 harg2 arg3 harg3 X1 X2 X3 k _).1, (sk_at arg1 harg1 arg2 harg2 arg3 harg3 X1 X2 X3 k _).2]
  exact ⟨rfl, rfl⟩

/-- The exponentials. -/
theorem ex_at (a : Fin 512) (j : Fin 256) :
    trip.sl.v151 arg1 arg3 (harg1.unread X1) (harg3.unread X3) k (ix2 a j) = ex PP SS k.val 0 a.val j.val
      ∧ trip.sl.v499 arg1 arg3 (harg1.unread X1) (harg3.unread X3) k (ix2 a j) = ex PP SS k.val 1 a.val j.val := by
  simp only [trip.sl.v151, trip.sl.v499, trip.sl.v149, trip.sl.v150, trip.sl.v497, trip.sl.v498, pointwise, zero_add, ↓reduceDIte, OfNat.ofNat_ne_one, ninf, one_bits,
    (sm_at arg1 harg1 arg2 harg2 arg3 harg3 X1 X2 X3 k _ _).1, (sm_at arg1 harg1 arg2 harg2 arg3 harg3 X1 X2 X3 k _ _).2,
    (mx_at arg1 harg1 arg2 harg2 arg3 harg3 X1 X2 X3 k _).1, (mx_at arg1 harg1 arg2 harg2 arg3 harg3 X1 X2 X3 k _).2]
  exact ⟨rfl, rfl⟩

/-- The sink's exponential. -/
theorem es_at (a : Fin 512) :
    trip.sl.v153 arg1 arg3 (harg1.unread X1) (harg3.unread X3) k (ix2 a 0) = es PP SS k.val 0 a.val
      ∧ trip.sl.v501 arg1 arg3 (harg1.unread X1) (harg3.unread X3) k (ix2 a 0) = es PP SS k.val 1 a.val := by
  simp only [trip.sl.v153, trip.sl.v501, trip.sl.v152, trip.sl.v500, pointwise, zero_add, ↓reduceDIte, OfNat.ofNat_ne_one, ninf, one_bits,
    (sk_at arg1 harg1 arg2 harg2 arg3 harg3 X1 X2 X3 k _).1, (sk_at arg1 harg1 arg2 harg2 arg3 harg3 X1 X2 X3 k _).2,
    (mx_at arg1 harg1 arg2 harg2 arg3 harg3 X1 X2 X3 k _).1, (mx_at arg1 harg1 arg2 harg2 arg3 harg3 X1 X2 X3 k _).2]
  exact ⟨rfl, rfl⟩

/-- The reciprocal of the sum. -/
theorem rs_at (a : Fin 512) :
    trip.sl.v158 arg1 arg3 (harg1.unread X1) (harg3.unread X3) k (ix2 a 0) = rs PP SS k.val 0 a.val
      ∧ trip.sl.v506 arg1 arg3 (harg1.unread X1) (harg3.unread X3) k (ix2 a 0) = rs PP SS k.val 1 a.val := by
  simp only [trip.sl.v158, trip.sl.v506, trip.sl.v157, trip.sl.v156, trip.sl.v155, trip.sl.v154, trip.sl.cst_57, trip.sl.cst_58, trip.sl.v504, trip.sl.v503, trip.sl.v502, pointwise, zero_add, ↓reduceDIte, OfNat.ofNat_ne_one, ninf, one_bits,
    (ex_at arg1 harg1 arg2 harg2 arg3 harg3 X1 X2 X3 k _ _).1, (ex_at arg1 harg1 arg2 harg2 arg3 harg3 X1 X2 X3 k _ _).2,
    (es_at arg1 harg1 arg2 harg2 arg3 harg3 X1 X2 X3 k _).1, (es_at arg1 harg1 arg2 harg2 arg3 harg3 X1 X2 X3 k _).2]
  exact ⟨rfl, rfl⟩

/-- The weights. -/
theorem pr_at (a : Fin 512) (j : Fin 256) :
    trip.sl.v160 arg1 arg3 (harg1.unread X1) (harg3.unread X3) k (ix2 a j) = pr PP SS k.val 0 a.val j.val
      ∧ trip.sl.v508 arg1 arg3 (harg1.unread X1) (harg3.unread X3) k (ix2 a j) = pr PP SS k.val 1 a.val j.val := by
  simp only [trip.sl.v160, trip.sl.v508, trip.sl.v159, trip.sl.v507, pointwise, zero_add, ↓reduceDIte, OfNat.ofNat_ne_one, ninf, one_bits,
    (ex_at arg1 harg1 arg2 harg2 arg3 harg3 X1 X2 X3 k _ _).1, (ex_at arg1 harg1 arg2 harg2 arg3 harg3 X1 X2 X3 k _ _).2,
    (rs_at arg1 harg1 arg2 harg2 arg3 harg3 X1 X2 X3 k _).1, (rs_at arg1 harg1 arg2 harg2 arg3 harg3 X1 X2 X3 k _).2]
  exact ⟨rfl, rfl⟩

/-- The sink's weight. -/
theorem ps_at (a : Fin 512) :
    trip.sl.v161 arg1 arg3 (harg1.unread X1) (harg3.unread X3) k (ix2 a 0) = ps PP SS k.val 0 a.val
      ∧ trip.sl.v509 arg1 arg3 (harg1.unread X1) (harg3.unread X3) k (ix2 a 0) = ps PP SS k.val 1 a.val := by
  simp only [trip.sl.v161, trip.sl.v509, pointwise, zero_add, ↓reduceDIte, OfNat.ofNat_ne_one, ninf, one_bits,
    (es_at arg1 harg1 arg2 harg2 arg3 harg3 X1 X2 X3 k _).1, (es_at arg1 harg1 arg2 harg2 arg3 harg3 X1 X2 X3 k _).2,
    (rs_at arg1 harg1 arg2 harg2 arg3 harg3 X1 X2 X3 k _).1, (rs_at arg1 harg1 arg2 harg2 arg3 harg3 X1 X2 X3 k _).2]
  exact ⟨rfl, rfl⟩

/-- The products of the cotangent with the values. -/
theorem dp_at (a : Fin 512) (j : Fin 256) :
    trip.sl.v214 arg1 arg2 (harg1.unread X1) (harg2.unread X2) k (ix2 a j) = dp PP DD k.val 0 a.val j.val
      ∧ trip.sl.v562 arg1 arg2 (harg1.unread X1) (harg2.unread X2) k (ix2 a j) = dp PP DD k.val 1 a.val j.val := by
  simp only [trip.sl.v214, trip.sl.v562, trip.sl.cst_37, pointwise, zero_add, ↓reduceDIte, OfNat.ofNat_ne_one, ninf, one_bits,
    (q_at arg1 harg1 arg2 harg2 X1 X2 k _ _).1, (q_at arg1 harg1 arg2 harg2 X1 X2 k _ _).2,
    val_at]
  exact ⟨rfl, rfl⟩

/-- The sums of the weights' products with them. -/
theorem del_at (a : Fin 512) :
    trip.sl.v217 arg1 arg2 arg3 (harg1.unread X1) (harg2.unread X2) (harg3.unread X3) k (ix2 a 0) = del PP DD SS k.val 0 a.val
      ∧ trip.sl.v565 arg1 arg2 arg3 (harg1.unread X1) (harg2.unread X2) (harg3.unread X3) k (ix2 a 0) = del PP DD SS k.val 1 a.val := by
  simp only [trip.sl.v217, trip.sl.v565, trip.sl.v216, trip.sl.v215, trip.sl.v564, trip.sl.v563, trip.sl.cst_57, pointwise, zero_add, ↓reduceDIte, OfNat.ofNat_ne_one, ninf, one_bits,
    (pr_at arg1 harg1 arg2 harg2 arg3 harg3 X1 X2 X3 k _ _).1, (pr_at arg1 harg1 arg2 harg2 arg3 harg3 X1 X2 X3 k _ _).2,
    (dp_at arg1 harg1 arg2 harg2 arg3 harg3 X1 X2 X3 k _ _).1, (dp_at arg1 harg1 arg2 harg2 arg3 harg3 X1 X2 X3 k _ _).2]
  exact ⟨rfl, rfl⟩

/-- The gradient of the scores. -/
theorem ds_at (a : Fin 512) (j : Fin 256) :
    trip.sl.v222 arg1 arg2 arg3 (harg1.unread X1) (harg2.unread X2) (harg3.unread X3) k (ix2 a j) = ds PP DD SS k.val 0 a.val j.val
      ∧ trip.sl.v570 arg1 arg2 arg3 (harg1.unread X1) (harg2.unread X2) (harg3.unread X3) k (ix2 a j) = ds PP DD SS k.val 1 a.val j.val := by
  simp only [trip.sl.v222, trip.sl.v570, trip.sl.v218, trip.sl.v219, trip.sl.v220, trip.sl.v566, trip.sl.v567, trip.sl.v568, trip.sl.v90, trip.sl.cst_38, pointwise, zero_add, ↓reduceDIte, OfNat.ofNat_ne_one, ninf, one_bits,
    (pr_at arg1 harg1 arg2 harg2 arg3 harg3 X1 X2 X3 k _ _).1, (pr_at arg1 harg1 arg2 harg2 arg3 harg3 X1 X2 X3 k _ _).2,
    (dp_at arg1 harg1 arg2 harg2 arg3 harg3 X1 X2 X3 k _ _).1, (dp_at arg1 harg1 arg2 harg2 arg3 harg3 X1 X2 X3 k _ _).2,
    (del_at arg1 harg1 arg2 harg2 arg3 harg3 X1 X2 X3 k _).1, (del_at arg1 harg1 arg2 harg2 arg3 harg3 X1 X2 X3 k _).2]
  exact ⟨rfl, rfl⟩

/-- The gradient of the sinks, row by row, up to its sign. -/
theorem dsk_at (a : Fin 512) :
    trip.sl.v224 arg1 arg2 arg3 (harg1.unread X1) (harg2.unread X2) (harg3.unread X3) k (ix2 a 0) = dsk PP DD SS k.val 0 a.val
      ∧ trip.sl.v572 arg1 arg2 arg3 (harg1.unread X1) (harg2.unread X2) (harg3.unread X3) k (ix2 a 0) = dsk PP DD SS k.val 1 a.val := by
  simp only [trip.sl.v224, trip.sl.v572, pointwise, zero_add, ↓reduceDIte, OfNat.ofNat_ne_one, ninf, one_bits,
    (ps_at arg1 harg1 arg2 harg2 arg3 harg3 X1 X2 X3 k _).1, (ps_at arg1 harg1 arg2 harg2 arg3 harg3 X1 X2 X3 k _).2,
    (del_at arg1 harg1 arg2 harg2 arg3 harg3 X1 X2 X3 k _).1, (del_at arg1 harg1 arg2 harg2 arg3 harg3 X1 X2 X3 k _).2]
  exact ⟨rfl, rfl⟩

/-- The gradient of the queries. -/
theorem dq_at (a : Fin 512) (l : Fin 128) :
    trip.sl.v289 arg1 arg2 arg3 (harg1.unread X1) (harg2.unread X2) (harg3.unread X3) k (ix2 a l) = dq PP DD SS k.val 0 a.val l.val
      ∧ trip.sl.v637 arg1 arg2 arg3 (harg1.unread X1) (harg2.unread X2) (harg3.unread X3) k (ix2 a l) = dq PP DD SS k.val 1 a.val l.val := by
  simp only [trip.sl.v289, trip.sl.v637, trip.sl.v223, trip.sl.v571, trip.sl.cst_110, pointwise, zero_add, ↓reduceDIte, OfNat.ofNat_ne_one, ninf, one_bits,
    (ds_at arg1 harg1 arg2 harg2 arg3 harg3 X1 X2 X3 k _ _).1, (ds_at arg1 harg1 arg2 harg2 arg3 harg3 X1 X2 X3 k _ _).2,
    key_at]
  exact ⟨rfl, rfl⟩

/-- The gradient of the keys. -/
theorem dk_at (j : Fin 256) (l : Fin 128) :
    trip.sl.v290 arg1 arg2 arg3 (harg1.unread X1) (harg2.unread X2) (harg3.unread X3) k (ix2 j l) = dk PP DD SS k.val 0 j.val l.val
      ∧ trip.sl.v638 arg1 arg2 arg3 (harg1.unread X1) (harg2.unread X2) (harg3.unread X3) k (ix2 j l) = dk PP DD SS k.val 1 j.val l.val := by
  simp only [trip.sl.v290, trip.sl.v638, trip.sl.v223, trip.sl.v571, trip.sl.cst_111, pointwise, zero_add, ↓reduceDIte, OfNat.ofNat_ne_one, ninf, one_bits,
    (ds_at arg1 harg1 arg2 harg2 arg3 harg3 X1 X2 X3 k _ _).1, (ds_at arg1 harg1 arg2 harg2 arg3 harg3 X1 X2 X3 k _ _).2,
    (q_at arg1 harg1 arg2 harg2 X1 X2 k _ _).1, (q_at arg1 harg1 arg2 harg2 X1 X2 k _ _).2]
  exact ⟨rfl, rfl⟩

/-- The gradient of the values. -/
theorem dv_at (j : Fin 256) (l : Fin 128) :
    trip.sl.v292 arg1 arg2 arg3 (harg1.unread X1) (harg2.unread X2) (harg3.unread X3) k (ix2 j l) = dv PP DD SS k.val 0 j.val l.val
      ∧ trip.sl.v640 arg1 arg2 arg3 (harg1.unread X1) (harg2.unread X2) (harg3.unread X3) k (ix2 j l) = dv PP DD SS k.val 1 j.val l.val := by
  simp only [trip.sl.v292, trip.sl.v640, trip.sl.v291, trip.sl.v639, trip.sl.cst_111, pointwise, zero_add, ↓reduceDIte, OfNat.ofNat_ne_one, ninf, one_bits,
    (pr_at arg1 harg1 arg2 harg2 arg3 harg3 X1 X2 X3 k _ _).1, (pr_at arg1 harg1 arg2 harg2 arg3 harg3 X1 X2 X3 k _ _).2,
    (q_at arg1 harg1 arg2 harg2 X1 X2 k _ _).1, (q_at arg1 harg1 arg2 harg2 X1 X2 k _ _).2]
  exact ⟨rfl, rfl⟩

end Cert.AttnTrip

end
-- ==== Proof.AttnOut.lean ====
/-
  The gradient of the attention: what the trips of the kernel's loop store in the gradient's array, the gradient of the
  queries in its first 512 columns.
-/
module

public import proofs.«01_k».proof.Proof.AttnWords

@[expose] public section

set_option maxRecDepth 16384

noncomputable section

namespace Cert.AttnSpec

open Idealize.ShloMosaic

/-- The gradient of the queries: column `c` is of key head `c / 256`, of its query head `c % 256 / 64`. -/
def gq (P D : ℕ → ℕ → EReal) (S : ℕ → EReal) (r c : ℕ) : EReal :=
  dq P D S (r / 128) (c / 256) (128 * (c % 256 / 64) + r % 128) (64 * (c / 256) + c % 64)

end Cert.AttnSpec

namespace Cert.AttnTrip

open Cert.AttnBwdIdeal Cert.AttnBwdIdeal.Gen Cert.AttnSpec
open Idealize.ShloMosaic Idealize.ShloMosaic.TcCoe Idealize.ShloMosaic.Tactic

variable (c : Dev nD) (i : grid0.Coords)
  (arg1 : Memref sig .tc .vmem S2048x768 .bf16) (harg1 : arg1.IsWhole) (arg2 : Memref sig .tc .vmem S2048x512 .bf16) (harg2 : arg2.IsWhole)
  (arg3 : Memref sig .tc .smem S1x8 .f32) (harg3 : arg3.IsWhole) (arg4 : Memref sig .tc .vmem S2048x768 .bf16) (harg4 : arg4.IsWhole)
  (arg5 : Memref sig .tc .vmem S1x128 .f32) (harg5 : arg5.IsWhole) (arg6 : Memref sig .tc .vmem S2048x128 .f32) (harg6 : arg6.IsWhole)
  (arg7 : Memref sig .tc .vmem S2048x128 .f32) (harg7 : arg7.IsWhole)
  (X1 : Vec Ideal S2048x768 .bf16) (X2 : Vec Ideal S2048x512 .bf16) (X3 : Vec Ideal S1x8 .f32) (k : Fin k0_t1_loop.trips)

local notation "PP" => at2 (R := 2048) (C := 768) X1
local notation "DD" => at2 (R := 2048) (C := 512) X2
local notation "SS" => at2 (R := 1) (C := 8) X3 0

theorem slice_at (o : ℕ) (A : FVec Ideal S512x128 .f32) (hs : S512x128.Slices ![o, 0] S128x128) (ho : o + 128 ≤ 512) (a b : Fin 128) :
    extractStridedSlice S128x128 ![o, 0] A hs (ix2 a b) = A (ix2 ⟨o + a.val, by omega⟩ b) := by
  simp only [pointwise]
  exact congrArg A (congrArg₂ ix2 (Fin.ext rfl) (Fin.ext (Nat.zero_add _)))

/-- Two blocks of rows side by side: the first in the lower 64 lanes, the second moved there from the lower lanes to the upper. -/
theorem low_at (o p : ℕ) (A : FVec Ideal S512x128 .f32) (hs) (hs') (hr) (ho : o + 128 ≤ 512) (hp : p + 128 ≤ 512) (a b : Fin 128) :
    addf (select trip.sl.v46 (extractStridedSlice S128x128 ![o, 0] A hs) (broadcast S128x128 (trip.sl.cst_23 (F := Ideal))))
      (dynamicRotate 1 64#32 none (select trip.sl.v46 (extractStridedSlice S128x128 ![p, 0] A hs') (broadcast S128x128 (trip.sl.cst_23 (F := Ideal)))) hr) (ix2 a b)
      = if b.val < 64 then A (ix2 ⟨o + a.val, by omega⟩ ⟨b.val % 64, by omega⟩) else A (ix2 ⟨p + a.val, by omega⟩ ⟨b.val % 64, by omega⟩) := by
  have hb := b.isLt
  refine (congrArg₂ (fun x y : EReal => x + y) (keep_at _ a b).1 ((rot_at _ hr a b).trans (keep_at _ a _).1)).trans ?_
  rw [slice_at o A hs ho, slice_at p A hs' hp]
  by_cases h : b.val < 64
  · rw [if_pos h, if_pos (by omega), if_neg (by show ¬ (b.val + 64) % 128 / 64 = 0; omega), add_zero]
    exact congrArg A (congrArg (ix2 _) (Fin.ext (show b.val = b.val % 64 by omega)))
  · rw [if_neg h, if_neg (by omega), if_pos (by show (b.val + 64) % 128 / 64 = 0; omega), zero_add]
    exact congrArg A (congrArg (ix2 _) (Fin.ext (show (b.val + 64) % 128 = b.val % 64 by omega)))

/-- Two blocks of rows side by side: the first moved from the upper 64 lanes to the lower, the second in the upper. -/
theorem high_at (o p : ℕ) (A : FVec Ideal S512x128 .f32) (hs) (hs') (hr) (ho : o + 128 ≤ 512) (hp : p + 128 ≤ 512) (a b : Fin 128) :
    addf (dynamicRotate 1 64#32 none (select trip.sl.v395 (extractStridedSlice S128x128 ![o, 0] A hs) (broadcast S128x128 (trip.sl.cst_23 (F := Ideal)))) hr)
      (select trip.sl.v395 (extractStridedSlice S128x128 ![p, 0] A hs') (broadcast S128x128 (trip.sl.cst_23 (F := Ideal)))) (ix2 a b)
      = if b.val < 64 then A (ix2 ⟨o + a.val, by omega⟩ ⟨64 + b.val % 64, by omega⟩) else A (ix2 ⟨p + a.val, by omega⟩ ⟨64 + b.val % 64, by omega⟩) := by
  have hb := b.isLt
  refine (congrArg₂ (fun x y : EReal => x + y) ((rot_at _ hr a b).trans (keep_at _ a _).2) (keep_at _ a b).2).trans ?_
  rw [slice_at o A hs ho, slice_at p A hs' hp]
  by_cases h : b.val < 64
  · rw [if_pos h, if_pos (by show (b.val + 64) % 128 / 64 = 1; omega), if_neg (by omega), add_zero]
    exact congrArg A (congrArg (ix2 _) (Fin.ext (show (b.val + 64) % 128 = 64 + b.val % 64 by omega)))
  · rw [if_neg h, if_neg (by show ¬ (b.val + 64) % 128 / 64 = 1; omega), if_pos (by omega), zero_add]
    exact congrArg A (congrArg (ix2 _) (Fin.ext (show b.val = 64 + b.val % 64 by omega)))

/-- One of those blocks is the gradient of the queries. -/
theorem gq_of (h u : ℕ) (hu : u = 0 ∨ u = 128) (A : FVec Ideal S512x128 .f32) (hh : h < 2) (a b : Fin 128)
    (hA : ∀ x y, A (ix2 x y) = dq PP DD SS k.val h x.val y.val) (l0 l1 : Fin 128) (hl : l0.val = 64 * h + b.val % 64) (hl1 : l1.val = 64 * h + b.val % 64) (r0 r1 : Fin 512)
    (h0 : r0.val = 2 * u + a.val) (h1 : r1.val = 2 * u + 128 + a.val) :
    (if b.val < 64 then A (ix2 r0 l0) else A (ix2 r1 l1)) = gq PP DD SS (128 * k.val + a.val) (256 * h + u + b.val) := by
  have ha := a.isLt
  have hb := b.isLt
  rw [hA, hA, hl, hl1, h0, h1]
  unfold gq
  rw [show (128 * k.val + a.val) / 128 = k.val by omega, show (128 * k.val + a.val) % 128 = a.val by omega,
    show (256 * h + u + b.val) / 256 = h by omega, show (256 * h + u + b.val) % 64 = b.val % 64 by omega]
  split_ifs
  · rw [show 128 * ((256 * h + u + b.val) % 256 / 64) = 2 * u by omega]
  · rw [show 128 * ((256 * h + u + b.val) % 256 / 64) = 2 * u + 128 by omega]

/-- The four blocks of 128 columns that trip `k` stores. -/
theorem place_at (a b : Fin 128) :
    (k0_pay4 (trip.sl.v344 arg1 arg2 arg3 (harg1.unread X1) (harg2.unread X2) (harg3.unread X3) k) (ix2 a b) = gq PP DD SS (128 * k.val + a.val) (256 * 0 + 0 + b.val)
      ∧ k0_pay5 (trip.sl.v364 arg1 arg2 arg3 (harg1.unread X1) (harg2.unread X2) (harg3.unread X3) k) (ix2 a b) = gq PP DD SS (128 * k.val + a.val) (256 * 0 + 128 + b.val))
    ∧ k0_pay6 (trip.sl.v692 arg1 arg2 arg3 (harg1.unread X1) (harg2.unread X2) (harg3.unread X3) k) (ix2 a b) = gq PP DD SS (128 * k.val + a.val) (256 * 1 + 0 + b.val)
      ∧ k0_pay7 (trip.sl.v637 arg1 arg2 arg3 (harg1.unread X1) (harg2.unread X2) (harg3.unread X3) k) trip.sl.v395 (ix2 a b) = gq PP DD SS (128 * k.val + a.val) (256 * 1 + 128 + b.val) :=
  have q0 := fun x y => (dq_at arg1 harg1 arg2 harg2 arg3 harg3 X1 X2 X3 k x y).1
  have q1 := fun x y => (dq_at arg1 harg1 arg2 harg2 arg3 harg3 X1 X2 X3 k x y).2
  have e : ∀ u v w : ℕ, u + v + w = u + (v + w) := fun _ _ _ => by omega
  ⟨⟨(low_at 0 128 _ _ _ _ (by omega) (by omega) a b).trans (gq_of X1 X2 X3 k 0 0 (.inl rfl) _ (by omega) a b q0 _ _ (by simp) (by simp) _ _ rfl rfl),
    (low_at 256 384 _ _ _ _ (by omega) (by omega) a b).trans (gq_of X1 X2 X3 k 0 128 (.inr rfl) _ (by omega) a b q0 _ _ (by simp) (by simp) _ _ rfl rfl)⟩,
   (high_at 0 128 _ _ _ _ (by omega) (by omega) a b).trans (gq_of X1 X2 X3 k 1 0 (.inl rfl) _ (by omega) a b q1 _ _ rfl rfl _ _ rfl rfl),
   (high_at 256 384 _ _ _ _ (by omega) (by omega) a b).trans (gq_of X1 X2 X3 k 1 128 (.inr rfl) _ (by omega) a b q1 _ _ rfl rfl _ _ rfl rfl)⟩

/-- What trip `k` stores in the gradient's array agrees with the gradient of the queries. -/
theorem trip_agree (G : S2048x768.Idx → EReal) (hG : ∀ (r : Fin 2048) (x : Fin 768), x.val < 512 → G (ix2 r x) = gq PP DD SS r.val x.val) :
    ∀ p ∈ (trip (F := Ideal) c i arg1 harg1 arg2 harg2 arg3 harg3 arg4 harg4 arg5 harg5 arg6 harg6 arg7 harg7 (harg1.unread X1) (harg2.unread X2) (harg3.unread X3) k).1,
      ∀ x : p.1.shape.Idx, p.2 x = G (p.1.emb x) := by
  have hk : k.val < 16 := by have := k.isLt; have := trips_eq; omega
  have inb : ∀ (off : Fin 2 → ℕ) (u : ℕ), off = ![128 * k.val, u] → u + 128 ≤ 512 → ∀ a, off a + S128x128.size a ≤ S2048x768.size a := by
    intro off u heq hu a
    subst heq
    match a with
    | ⟨0, _⟩ => show 128 * k.val + 128 ≤ 2048; omega
    | ⟨1, _⟩ => show u + 128 ≤ 768; omega
  have key : ∀ (off : Fin 2 → ℕ) (w : S128x128.Idx → EReal) (u : ℕ) (heq : off = ![128 * k.val, u])
      (hu : u + 128 ≤ 512) (hw : ∀ a b : Fin 128, w (ix2 a b) = gq PP DD SS (128 * k.val + a.val) (u + b.val)) (x : S128x128.Idx),
      w x = G ((Rect.unit (s := S2048x768) off S128x128.size (inb off u heq hu)).emb x) := by
    intro off w u heq hu hw x
    subst heq
    have hx1 : (x 1).val < 128 := (x 1).isLt
    have hx0 : (x 0).val < 128 := (x 0).isLt
    have e : (Rect.unit (s := S2048x768) ![128 * k.val, u] S128x128.size (inb _ u rfl hu)).emb x
        = ix2 (⟨128 * k.val + (x 0).val, by omega⟩ : Fin 2048) (⟨u + (x 1).val, by omega⟩ : Fin 768) := by
      refine funext fun a => Fin.ext ?_
      match a with
      | ⟨0, _⟩ => show 128 * k.val + 1 * (x 0).val = 128 * k.val + (x 0).val; rw [Nat.one_mul]
      | ⟨1, _⟩ => show u + 1 * (x 1).val = u + (x 1).val; rw [Nat.one_mul]
    rw [e, hG _ _ (by show u + (x 1).val < 512; omega)]
    exact (congrArg w (eq_ix2 x)).trans (hw _ _)
  unfold trip
  dsimp only
  intro p hp
  simp only [List.mem_cons, List.not_mem_nil, or_false] at hp
  have P := fun a b => place_at arg1 harg1 arg2 harg2 arg3 harg3 X1 X2 X3 k a b
  rcases hp with rfl | rfl | rfl | rfl
  · exact key _ _ _ (off12_eq k) (by omega) fun a b => (P a b).2.2
  · exact key _ _ _ (off11_eq k) (by omega) fun a b => (P a b).2.1
  · exact key _ _ _ (off6_eq k) (by omega) fun a b => (P a b).1.2
  · exact key _ _ _ (off5_eq k) (by omega) fun a b => (P a b).1.1

/-- So does what all trips store there. -/
theorem pieces_agree (G : S2048x768.Idx → EReal) (hG : ∀ (r : Fin 2048) (x : Fin 768), x.val < 512 → G (ix2 r x) = gq PP DD SS r.val x.val) (g5 g6 g7) :
    ∀ n, ∀ p ∈ (pieces (F := Ideal) c i arg1 harg1 arg2 harg2 arg3 harg3 arg4 harg4 arg5 harg5 arg6 harg6 arg7 harg7 (harg1.unread X1) (harg2.unread X2) (harg3.unread X3) g5 g6 g7 n).1,
      ∀ x : p.1.shape.Idx, p.2 x = G (p.1.emb x) := by
  intro n
  induction n with
  | zero => exact fun p hp => absurd hp List.not_mem_nil
  | succ n ih =>
    intro p hp
    rw [pieces.eq_2] at hp
    split_ifs at hp with h
    · rcases List.mem_append.mp hp with hp | hp
      · exact trip_agree c i arg1 harg1 arg2 harg2 arg3 harg3 arg4 harg4 arg5 harg5 arg6 harg6 arg7 harg7 X1 X2 X3 ⟨n, h⟩ G hG p hp
      · exact ih p hp
    · exact ih p hp

end Cert.AttnTrip

end
-- ==== Proof.AttnAcc.lean ====
/-
  The gradient of the attention: what the kernel's three accumulators hold after its loop, a sum over the trips. The
  accumulators of the keys' and the values' gradients get four additions from each trip, to the rows of the block before
  and of the block, for the two key heads; the row of the sinks' gradient gets eight, one for each query head.
-/
module

public import proofs.«01_k».proof.Proof.AttnOut

@[expose] public section

set_option maxRecDepth 16384

noncomputable section

namespace Cert.AttnTrip

open Cert.AttnBwdIdeal Cert.AttnBwdIdeal.Gen Cert.AttnSpec
open Idealize.ShloMosaic Idealize.ShloMosaic.TcCoe Idealize.ShloMosaic.Tactic
open Idealize.SL Idealize.SL.RA Idealize.SL.BI

/-- 128 rows `X` from row `o` on, and zero elsewhere. -/
def band (o : ℕ) (X : ℕ → ℕ → EReal) (r l : ℕ) : EReal := if o ≤ r ∧ r < o + 128 then X (r - o) l else 0

section Step

variable (v : View sig .tc .vmem S2048x128 .f32) (f : BufTy.Contents (Elt Ideal) v.ty) (L : List (View.Piece (Elt Ideal) S2048x128 .f32))
  (o : ℕ) (off : Fin 2 → ℕ) (heq : off = ![o, 0]) (inb : ∀ a, off a + S128x128.size a ≤ S2048x128.size a) (w : S128x128.Idx → EReal) (X : ℕ → ℕ → EReal)

include heq in
/-- A store of what its rows held with 128 rows added adds those rows. -/
theorem add_rows (hw : ∀ a b : Fin 128, w (ix2 a b) = v.readAt (Elt Ideal) (Rect.unit (s := S2048x128) off S128x128.size inb).toLoadRect (v.writes (Elt Ideal) f L) (ix2 a b) + X a.val b.val)
    (r : Fin 2048) (l : Fin 128) :
    v.read (Elt Ideal) (v.writes (Elt Ideal) f (⟨Rect.unit (s := S2048x128) off S128x128.size inb, w⟩ :: L)) (ix2 r l)
      = v.read (Elt Ideal) (v.writes (Elt Ideal) f L) (ix2 r l) + band o X r.val l.val := by
  subst heq
  have hl := l.isLt
  by_cases h : o ≤ r.val ∧ r.val < o + 128
  · rw [View.read_writes_cons_unit_of_mem v f inb w L (ix2 r l) (ix2 ⟨r.val - o, by omega⟩ l) rfl (fun a => match a with
      | ⟨0, _⟩ => by show r.val = o + (r.val - o); omega
      | ⟨1, _⟩ => by show l.val = 0 + l.val; omega), hw, View.readAt_eq_ld]
    refine congrArg₂ (fun x y : EReal => x + y) ?_ (if_pos h).symm
    exact View.ld_unit_apply_of _ _ _ inb _ (ix2 r l) fun a => match a with
      | ⟨0, _⟩ => by show r.val = o + (r.val - o); omega
      | ⟨1, _⟩ => by show l.val = 0 + l.val; omega
  · rw [View.read_writes_cons_unit_of_not_mem v f inb w L (ix2 r l) rfl 0 (by show r.val < o ∨ o + 128 ≤ r.val; omega), band, if_neg h, add_zero]

/-- A load after a store of the same rows among the stores reads what the stores left, whatever was there before. -/
theorem cov_eq (h : ∃ u, (⟨Rect.unit (s := S2048x128) off S128x128.size inb, u⟩ : View.Piece (Elt Ideal) S2048x128 .f32) ∈ L) :
    v.readCov L (Rect.unit (s := S2048x128) off S128x128.size inb).toLoadRect
      = v.readAt (Elt Ideal) (Rect.unit (s := S2048x128) off S128x128.size inb).toLoadRect (v.writes (Elt Ideal) f L) := by
  obtain ⟨u, hu⟩ := h
  exact (View.readAt_writes_of_cover v f L _ fun j => ⟨_, hu, LoadRect.idx_mem _ j⟩).symm

end Step

/-- A stored word: what the rows held and the first 128 of 256 rows. -/
theorem low_word (B : FVec Ideal S128x128 .f32) (Y : FVec Ideal S256x128 .f32) (hs) (hc) (a b : Fin 128) :
    shapeCast S128x128 (addf B (extractStridedSlice S128x128 ![0, 0] Y hs)) hc (ix2 a b) = B (ix2 a b) + Y (ix2 ⟨a.val, by omega⟩ b) := by
  simp only [pointwise]
  exact congrArg (fun z : EReal => B (ix2 a b) + z) (congrArg Y (congrArg₂ ix2 (Fin.ext (Nat.zero_add _)) (Fin.ext (Nat.zero_add _))))

/-- A stored word: what the rows held and the last 128 of 256 rows. -/
theorem high_word (B : FVec Ideal S128x128 .f32) (Y : FVec Ideal S256x128 .f32) (hs) (hc) (a b : Fin 128) :
    shapeCast S128x128 (addf B (extractStridedSlice S128x128 ![128, 0] Y hs)) hc (ix2 a b) = B (ix2 a b) + Y (ix2 ⟨128 + a.val, by omega⟩ b) := by
  simp only [pointwise]
  exact congrArg (fun z : EReal => B (ix2 a b) + z) (congrArg Y (congrArg₂ ix2 (Fin.ext rfl) (Fin.ext (Nat.zero_add _))))

/-- What trip `n` adds to an accumulator: for each key head `h`, the 256 rows `g n h` from the block before on. -/
def adds (g : ℕ → ℕ → ℕ → ℕ → EReal) (n r l : ℕ) : EReal :=
  band (128 * (n - 1)) (g n 0) r l + (band (128 * n) (fun a => g n 0 (128 + a)) r l
    + (band (128 * (n - 1)) (g n 1) r l + band (128 * n) (fun a => g n 1 (128 + a)) r l))

variable (c : Dev nD) (i : grid0.Coords)
  (arg1 : Memref sig .tc .vmem S2048x768 .bf16) (harg1 : arg1.IsWhole) (arg2 : Memref sig .tc .vmem S2048x512 .bf16) (harg2 : arg2.IsWhole)
  (arg3 : Memref sig .tc .smem S1x8 .f32) (harg3 : arg3.IsWhole) (arg4 : Memref sig .tc .vmem S2048x768 .bf16) (harg4 : arg4.IsWhole)
  (arg5 : Memref sig .tc .vmem S1x128 .f32) (harg5 : arg5.IsWhole) (arg6 : Memref sig .tc .vmem S2048x128 .f32) (harg6 : arg6.IsWhole)
  (arg7 : Memref sig .tc .vmem S2048x128 .f32) (harg7 : arg7.IsWhole)
  (X1 : S2048x768.Idx → EReal) (X2 : S2048x512.Idx → EReal) (X3 : S1x8.Idx → EReal) (k : Fin k0_t1_loop.trips)

local notation "PP" => at2 (R := 2048) (C := 768) X1
local notation "DD" => at2 (R := 2048) (C := 512) X2
local notation "SS" => at2 (R := 1) (C := 8) X3 0

/-- What one trip adds to the accumulator of the keys' gradient. -/
theorem keys_trip (f : BufTy.Contents (Elt Ideal) arg6.view.ty) (r : Fin 2048) (l : Fin 128) :
    arg6.view.read (Elt Ideal) (arg6.view.writes (Elt Ideal) f ((trip (F := Ideal) c i arg1 harg1 arg2 harg2 arg3 harg3 arg4 harg4 arg5 harg5 arg6 harg6 arg7 harg7 (harg1.unread X1) (harg2.unread X2) (harg3.unread X3) k).2.2.1 f)) (ix2 r l)
      = arg6.view.read (Elt Ideal) f (ix2 r l) + adds (dk PP DD SS) k.val r.val l.val := by
  have D := fun j l => dk_at arg1 harg1 arg2 harg2 arg3 harg3 X1 X2 X3 k j l
  unfold trip
  dsimp only
  unfold trip.sl.H6_3 trip.sl.H6_2 trip.sl.H6_1
  rw [add_rows arg6.view f _ (128 * k.val) _ (off10_eq k) _ _ (fun a b => dk PP DD SS k.val 1 (128 + a) b) fun a b => ?h4,
    add_rows arg6.view f _ (128 * (k.val - 1)) _ (off9_eq k) _ _ (fun a b => dk PP DD SS k.val 1 a b) fun a b => ?h3,
    add_rows arg6.view f _ (128 * k.val) _ (off10_eq k) _ _ (fun a b => dk PP DD SS k.val 0 (128 + a) b) fun a b => ?h2,
    add_rows arg6.view f _ (128 * (k.val - 1)) _ (off9_eq k) _ _ (fun a b => dk PP DD SS k.val 0 a b) fun a b => ?h1]
  · rw [View.writes_nil]
    unfold adds
    simp only [add_assoc]
  case h1 =>
    unfold trip.sl.v300 trip.sl.v296 trip.sl.v295
    exact (low_word _ _ _ _ a b).trans (congrArg₂ (fun x y : EReal => x + y) rfl (D _ _).1)
  case h2 =>
    unfold trip.sl.v308 trip.sl.v304 trip.sl.v303
    exact (high_word _ _ _ _ a b).trans (congrArg₂ (fun x y : EReal => x + y) rfl (D _ _).1)
  case h3 =>
    unfold trip.sl.v648 trip.sl.v644 trip.sl.v643 trip.sl.v642 trip.sl.H6_2 trip.sl.H6_1
    exact (low_word _ _ _ _ a b).trans (congrArg₂ (fun x y : EReal => x + y) (congrFun (cov_eq arg6.view f _ _ _ (by exact ⟨_, List.mem_cons_of_mem _ List.mem_cons_self⟩)) _) (D _ _).2)
  case h4 =>
    unfold trip.sl.v656 trip.sl.v652 trip.sl.v651 trip.sl.v650 trip.sl.H6_3 trip.sl.H6_2 trip.sl.H6_1
    exact (high_word _ _ _ _ a b).trans (congrArg₂ (fun x y : EReal => x + y) (congrFun (cov_eq arg6.view f _ _ _ (by exact ⟨_, List.mem_cons_of_mem _ List.mem_cons_self⟩)) _) (D _ _).2)

/-- What one trip adds to the accumulator of the values' gradient. -/
theorem vals_trip (f : BufTy.Contents (Elt Ideal) arg7.view.ty) (r : Fin 2048) (l : Fin 128) :
    arg7.view.read (Elt Ideal) (arg7.view.writes (Elt Ideal) f ((trip (F := Ideal) c i arg1 harg1 arg2 harg2 arg3 harg3 arg4 harg4 arg5 harg5 arg6 harg6 arg7 harg7 (harg1.unread X1) (harg2.unread X2) (harg3.unread X3) k).2.2.2.1 f)) (ix2 r l)
      = arg7.view.read (Elt Ideal) f (ix2 r l) + adds (dv PP DD SS) k.val r.val l.val := by
  have D := fun j l => dv_at arg1 harg1 arg2 harg2 arg3 harg3 X1 X2 X3 k j l
  unfold trip
  dsimp only
  unfold trip.sl.H7_3 trip.sl.H7_2 trip.sl.H7_1
  rw [add_rows arg7.view f _ (128 * k.val) _ (off10_eq k) _ _ (fun a b => dv PP DD SS k.val 1 (128 + a) b) fun a b => ?h4,
    add_rows arg7.view f _ (128 * (k.val - 1)) _ (off9_eq k) _ _ (fun a b => dv PP DD SS k.val 1 a b) fun a b => ?h3,
    add_rows arg7.view f _ (128 * k.val) _ (off10_eq k) _ _ (fun a b => dv PP DD SS k.val 0 (128 + a) b) fun a b => ?h2,
    add_rows arg7.view f _ (128 * (k.val - 1)) _ (off9_eq k) _ _ (fun a b => dv PP DD SS k.val 0 a b) fun a b => ?h1]
  · rw [View.writes_nil]
    unfold adds
    simp only [add_assoc]
  case h1 =>
    unfold trip.sl.v316 trip.sl.v312 trip.sl.v311
    exact (low_word _ _ _ _ a b).trans (congrArg₂ (fun x y : EReal => x + y) rfl (D _ _).1)
  case h2 =>
    unfold trip.sl.v324 trip.sl.v320 trip.sl.v319
    exact (high_word _ _ _ _ a b).trans (congrArg₂ (fun x y : EReal => x + y) rfl (D _ _).1)
  case h3 =>
    unfold trip.sl.v664 trip.sl.v660 trip.sl.v659 trip.sl.v658 trip.sl.H7_2 trip.sl.H7_1
    exact (low_word _ _ _ _ a b).trans (congrArg₂ (fun x y : EReal => x + y) (congrFun (cov_eq arg7.view f _ _ _ (by exact ⟨_, List.mem_cons_of_mem _ List.mem_cons_self⟩)) _) (D _ _).2)
  case h4 =>
    unfold trip.sl.v672 trip.sl.v668 trip.sl.v667 trip.sl.v666 trip.sl.H7_3 trip.sl.H7_2 trip.sl.H7_1
    exact (high_word _ _ _ _ a b).trans (congrArg₂ (fun x y : EReal => x + y) (congrFun (cov_eq arg7.view f _ _ _ (by exact ⟨_, List.mem_cons_of_mem _ List.mem_cons_self⟩)) _) (D _ _).2)

/-- What the sink of query head `u` gets from block `n`, in its lane. -/
def sinkAdd (P D : ℕ → ℕ → EReal) (S : ℕ → EReal) (n u l : ℕ) : EReal :=
  if l = u then 0 - ∑ q : Fin 128, dsk P D S n (u / 4) (128 * (u % 4) + q.val) else 0

/-- A stored row of the sinks: what it held and, in lane `u`, the sum of 128 rows, negative. -/
theorem sink_word (A : FVec Ideal S1x128 .f32) (Y : FVec Ideal S512x1 .f32) (o u : ℕ) (ho : o + 128 ≤ 512) (hu : u < 128) (hc) (hb) (h1) (h2) (h3) (hs) (hr) (hr') (l : Fin 128) :
    addf (shapeCast S1x128 A hc) (select (cmpi CmpIPredicate.eq trip.sl.v230 (broadcast S1x128 (BitVec.ofNat 32 u)))
        (broadcastTo S1x128 (shapeCast S1x1 (subf (broadcast S1x1 (trip.sl.cst_23 (F := Ideal))) (shapeCast S1x1
          (multiReduction FKind.add [0] S1 (extractStridedSlice S128x1 ![o, 0] Y hs) 0#32 h1 hr hr') h2)) h3) hb)
        (broadcast S1x128 (trip.sl.cst_23 (F := Ideal)))) (ix2 0 l)
      = A (ix2 0 l) + if l.val = u then 0 - ∑ q : Fin 128, Y (ix2 ⟨o + q.val, by omega⟩ 0) else 0 := by
  have e0 : BitVec.ofNat 32 (List.foldl (fun n (x : Fin 2) => n * ![1, 128] x + (ix2 (0 : Fin 1) l x).val) 0 [1]) = BitVec.ofNat 32 l.val := by
    congr 1; show 0 * 128 + l.val = l.val; omega
  have hl := l.isLt
  simp only [trip.sl.v230, trip.sl.cst_23, pointwise, zero_bits]
  rw [e0]
  refine congrArg (fun x : EReal => A (ix2 0 l) + x) ?_
  have hw : IntOp.cmpi .eq (BitVec.ofNat 32 l.val) (BitVec.ofNat 32 u) = if l.val = u then 1#1 else 0#1 := by
    unfold IntOp.cmpi
    by_cases h : l.val = u
    · rw [if_pos h, h]; simp
    · rw [if_neg h]
      have : BitVec.ofNat 32 l.val ≠ BitVec.ofNat 32 u := by
        intro hh
        have := congrArg BitVec.toNat hh
        simp only [BitVec.toNat_ofNat] at this
        omega
      rw [beq_eq_false_iff_ne.mpr this]; rfl
  rw [hw]
  by_cases h : l.val = u
  · rw [if_pos h, if_pos h]
    rfl
  · rw [if_neg h, if_neg h]
    rfl

/-- What one trip adds to the row of the sinks. -/
theorem sinks_trip (f : BufTy.Contents (Elt Ideal) arg5.view.ty) (l : Fin 128) :
    arg5.view.read (Elt Ideal) (arg5.view.writes (Elt Ideal) f ((trip (F := Ideal) c i arg1 harg1 arg2 harg2 arg3 harg3 arg4 harg4 arg5 harg5 arg6 harg6 arg7 harg7 (harg1.unread X1) (harg2.unread X2) (harg3.unread X3) k).2.1 f)) (ix2 0 l)
      = arg5.view.read (Elt Ideal) f (ix2 0 l) + ∑ u : Fin 8, sinkAdd PP DD SS k.val u.val l.val := by
  have s7 : trip.sl.v635 arg1 arg2 arg3 arg5 (harg1.unread X1) (harg2.unread X2) (harg3.unread X3) k f (ix2 0 l)
      = trip.sl.v619 arg1 arg2 arg3 arg5 (harg1.unread X1) (harg2.unread X2) (harg3.unread X3) k f (ix2 0 l) + sinkAdd PP DD SS k.val 7 l.val := by
    unfold trip.sl.v635 trip.sl.v628 trip.sl.v627 trip.sl.v634 trip.sl.v629 trip.sl.v632 trip.sl.v631 trip.sl.v625 trip.sl.v228 trip.sl.v623 trip.sl.v622 trip.sl.v621 trip.sl.v237
    refine (sink_word _ _ 384 7 (by omega) (by omega) _ _ _ _ _ _ _ _ l).trans (congrArg₂ (fun x y : EReal => x + y) (congrFun (by unfold trip.sl.H5_7; exact View.readCov_full _ _ _ _ _) _) ?_)
    unfold sinkAdd
    split_ifs
    · exact congrArg (fun x : EReal => 0 - x) (Finset.sum_congr rfl fun q _ => (dsk_at arg1 harg1 arg2 harg2 arg3 harg3 X1 X2 X3 k _).2)
    · rfl
  have s6 : trip.sl.v619 arg1 arg2 arg3 arg5 (harg1.unread X1) (harg2.unread X2) (harg3.unread X3) k f (ix2 0 l)
      = trip.sl.v603 arg1 arg2 arg3 arg5 (harg1.unread X1) (harg2.unread X2) (harg3.unread X3) k f (ix2 0 l) + sinkAdd PP DD SS k.val 6 l.val := by
    unfold trip.sl.v619 trip.sl.v612 trip.sl.v611 trip.sl.v618 trip.sl.v613 trip.sl.v616 trip.sl.v615 trip.sl.v609 trip.sl.v228 trip.sl.v607 trip.sl.v606 trip.sl.v605 trip.sl.v237
    refine (sink_word _ _ 256 6 (by omega) (by omega) _ _ _ _ _ _ _ _ l).trans (congrArg₂ (fun x y : EReal => x + y) (congrFun (by unfold trip.sl.H5_6; exact View.readCov_full _ _ _ _ _) _) ?_)
    unfold sinkAdd
    split_ifs
    · exact congrArg (fun x : EReal => 0 - x) (Finset.sum_congr rfl fun q _ => (dsk_at arg1 harg1 arg2 harg2 arg3 harg3 X1 X2 X3 k _).2)
    · rfl
  have s5 : trip.sl.v603 arg1 arg2 arg3 arg5 (harg1.unread X1) (harg2.unread X2) (harg3.unread X3) k f (ix2 0 l)
      = trip.sl.v587 arg1 arg2 arg3 arg5 (harg1.unread X1) (harg2.unread X2) (harg3.unread X3) k f (ix2 0 l) + sinkAdd PP DD SS k.val 5 l.val := by
    unfold trip.sl.v603 trip.sl.v596 trip.sl.v595 trip.sl.v602 trip.sl.v597 trip.sl.v600 trip.sl.v599 trip.sl.v593 trip.sl.v228 trip.sl.v591 trip.sl.v590 trip.sl.v589 trip.sl.v237
    refine (sink_word _ _ 128 5 (by omega) (by omega) _ _ _ _ _ _ _ _ l).trans (congrArg₂ (fun x y : EReal => x + y) (congrFun (by unfold trip.sl.H5_5; exact View.readCov_full _ _ _ _ _) _) ?_)
    unfold sinkAdd
    split_ifs
    · exact congrArg (fun x : EReal => 0 - x) (Finset.sum_congr rfl fun q _ => (dsk_at arg1 harg1 arg2 harg2 arg3 harg3 X1 X2 X3 k _).2)
    · rfl
  have s4 : trip.sl.v587 arg1 arg2 arg3 arg5 (harg1.unread X1) (harg2.unread X2) (harg3.unread X3) k f (ix2 0 l)
      = trip.sl.v287 arg1 arg2 arg3 arg5 (harg1.unread X1) (harg2.unread X2) (harg3.unread X3) k f (ix2 0 l) + sinkAdd PP DD SS k.val 4 l.val := by
    unfold trip.sl.v587 trip.sl.v580 trip.sl.v579 trip.sl.v586 trip.sl.v581 trip.sl.v584 trip.sl.v583 trip.sl.v577 trip.sl.v228 trip.sl.v575 trip.sl.v574 trip.sl.v573 trip.sl.v237
    refine (sink_word _ _ 0 4 (by omega) (by omega) _ _ _ _ _ _ _ _ l).trans (congrArg₂ (fun x y : EReal => x + y) (congrFun (by unfold trip.sl.H5_4; exact View.readCov_full _ _ _ _ _) _) ?_)
    unfold sinkAdd
    split_ifs
    · exact congrArg (fun x : EReal => 0 - x) (Finset.sum_congr rfl fun q _ => (dsk_at arg1 harg1 arg2 harg2 arg3 harg3 X1 X2 X3 k _).2)
    · rfl
  have s3 : trip.sl.v287 arg1 arg2 arg3 arg5 (harg1.unread X1) (harg2.unread X2) (harg3.unread X3) k f (ix2 0 l)
      = trip.sl.v271 arg1 arg2 arg3 arg5 (harg1.unread X1) (harg2.unread X2) (harg3.unread X3) k f (ix2 0 l) + sinkAdd PP DD SS k.val 3 l.val := by
    unfold trip.sl.v287 trip.sl.v280 trip.sl.v279 trip.sl.v286 trip.sl.v281 trip.sl.v284 trip.sl.v283 trip.sl.v277 trip.sl.v228 trip.sl.v275 trip.sl.v274 trip.sl.v273 trip.sl.v237
    refine (sink_word _ _ 384 3 (by omega) (by omega) _ _ _ _ _ _ _ _ l).trans (congrArg₂ (fun x y : EReal => x + y) (congrFun (by unfold trip.sl.H5_3; exact View.readCov_full _ _ _ _ _) _) ?_)
    unfold sinkAdd
    split_ifs
    · exact congrArg (fun x : EReal => 0 - x) (Finset.sum_congr rfl fun q _ => (dsk_at arg1 harg1 arg2 harg2 arg3 harg3 X1 X2 X3 k _).1)
    · rfl
  have s2 : trip.sl.v271 arg1 arg2 arg3 arg5 (harg1.unread X1) (harg2.unread X2) (harg3.unread X3) k f (ix2 0 l)
      = trip.sl.v255 arg1 arg2 arg3 arg5 (harg1.unread X1) (harg2.unread X2) (harg3.unread X3) k f (ix2 0 l) + sinkAdd PP DD SS k.val 2 l.val := by
    unfold trip.sl.v271 trip.sl.v264 trip.sl.v263 trip.sl.v270 trip.sl.v265 trip.sl.v268 trip.sl.v267 trip.sl.v261 trip.sl.v228 trip.sl.v259 trip.sl.v258 trip.sl.v257 trip.sl.v237
    refine (sink_word _ _ 256 2 (by omega) (by omega) _ _ _ _ _ _ _ _ l).trans (congrArg₂ (fun x y : EReal => x + y) (congrFun (by unfold trip.sl.H5_2; exact View.readCov_full _ _ _ _ _) _) ?_)
    unfold sinkAdd
    split_ifs
    · exact congrArg (fun x : EReal => 0 - x) (Finset.sum_congr rfl fun q _ => (dsk_at arg1 harg1 arg2 harg2 arg3 harg3 X1 X2 X3 k _).1)
    · rfl
  have s1 : trip.sl.v255 arg1 arg2 arg3 arg5 (harg1.unread X1) (harg2.unread X2) (harg3.unread X3) k f (ix2 0 l)
      = trip.sl.v239 arg1 arg2 arg3 arg5 (harg1.unread X1) (harg2.unread X2) (harg3.unread X3) k f (ix2 0 l) + sinkAdd PP DD SS k.val 1 l.val := by
    unfold trip.sl.v255 trip.sl.v248 trip.sl.v247 trip.sl.v254 trip.sl.v249 trip.sl.v252 trip.sl.v251 trip.sl.v245 trip.sl.v228 trip.sl.v243 trip.sl.v242 trip.sl.v241 trip.sl.v237
    refine (sink_word _ _ 128 1 (by omega) (by omega) _ _ _ _ _ _ _ _ l).trans (congrArg₂ (fun x y : EReal => x + y) (congrFun (by unfold trip.sl.H5_1; exact View.readCov_full _ _ _ _ _) _) ?_)
    unfold sinkAdd
    split_ifs
    · exact congrArg (fun x : EReal => 0 - x) (Finset.sum_congr rfl fun q _ => (dsk_at arg1 harg1 arg2 harg2 arg3 harg3 X1 X2 X3 k _).1)
    · rfl
  have s0 : trip.sl.v239 arg1 arg2 arg3 arg5 (harg1.unread X1) (harg2.unread X2) (harg3.unread X3) k f (ix2 0 l)
      = arg5.view.read (Elt Ideal) f (ix2 0 l) + sinkAdd PP DD SS k.val 0 l.val := by
    unfold trip.sl.v239 trip.sl.v232 trip.sl.v238 trip.sl.v233 trip.sl.v236 trip.sl.v235 trip.sl.v229 trip.sl.v228 trip.sl.v227 trip.sl.v226 trip.sl.v225 trip.sl.v237
    refine (sink_word _ _ 0 0 (by omega) (by omega) _ _ _ _ _ _ _ _ l).trans (congrArg₂ (fun x y : EReal => x + y) (congrFun (View.readAt_full _ _ _) _) ?_)
    unfold sinkAdd
    split_ifs
    · exact congrArg (fun x : EReal => 0 - x) (Finset.sum_congr rfl fun q _ => (dsk_at arg1 harg1 arg2 harg2 arg3 harg3 X1 X2 X3 k _).1)
    · rfl
  unfold trip
  dsimp only
  refine (congrFun (View.read_writes_full _ _ _ _ _) _).trans ?_
  rw [s7, s6, s5, s4, s3, s2, s1, s0, Fin.sum_univ_eight]
  simp only [add_assoc]
  rfl

end Cert.AttnTrip

end
-- ==== Proof.AttnVal.lean ====
/-
  The gradient of the attention: what the kernel's body leaves in its two results, as functions of what it read.
-/
module

public import proofs.«01_k».proof.Proof.AttnAcc
public import proofs.«01_k».proof.Proof.AttnFrame

@[expose] public section

set_option maxRecDepth 16384

noncomputable section

namespace Cert.AttnTrip

open Cert.AttnBwdIdeal Cert.AttnBwdIdeal.Gen Cert.AttnSpec
open Idealize.ShloMosaic Idealize.ShloMosaic.TcCoe Idealize.ShloMosaic.Tactic
open Idealize.SL Idealize.SL.RA Idealize.SL.BI

/-- The rows of one block that the trips add, of a family that is zero in the first block's missing predecessor: the
    block's own trip adds its last 128 rows, the next one its first. -/
theorem sum_adds (g : ℕ → ℕ → ℕ → ℕ → EReal) (hz : ∀ h j l, j < 128 → g 0 h j l = 0) (r l : ℕ) (hr : r < 2048) :
    ∑ k ∈ Finset.range 16, adds g k r l
      = (g (r / 128) 0 (128 + r % 128) l + g (r / 128) 1 (128 + r % 128) l)
        + if r / 128 < 15 then g (r / 128 + 1) 0 (r % 128) l + g (r / 128 + 1) 1 (r % 128) l else 0 := by
  have e : ∀ k ∈ Finset.range 16, adds g k r l
      = (if r / 128 = k then g (r / 128) 0 (128 + r % 128) l + g (r / 128) 1 (128 + r % 128) l else 0)
        + (if r / 128 + 1 = k then g (r / 128 + 1) 0 (r % 128) l + g (r / 128 + 1) 1 (r % 128) l else 0) := by
    intro k _
    have hi : ∀ h, band (128 * k) (fun a => g k h (128 + a)) r l = if r / 128 = k then g (r / 128) h (128 + r % 128) l else 0 := by
      intro h
      unfold band
      by_cases hk : r / 128 = k
      · rw [if_pos (by omega), if_pos hk, ← hk]
        exact congrArg (fun a => g (r / 128) h (128 + a) l) (show r - 128 * (r / 128) = r % 128 by omega)
      · rw [if_neg (by omega), if_neg hk]
    have lo : ∀ h, band (128 * (k - 1)) (g k h) r l = if r / 128 + 1 = k then g (r / 128 + 1) h (r % 128) l else 0 := by
      intro h
      unfold band
      by_cases hk : r / 128 + 1 = k
      · rw [if_pos (by omega), if_pos hk, ← hk]
        exact congrArg (fun a => g (r / 128 + 1) h a l) (show r - 128 * (r / 128 + 1 - 1) = r % 128 by omega)
      · rw [if_neg hk]
        split_ifs with hb
        · have : k = 0 := by omega
          subst this
          exact hz _ _ _ (by omega)
        · rfl
    unfold adds
    rw [hi, hi, lo, lo]
    by_cases h1 : r / 128 = k
    · rw [if_pos h1, if_pos h1, if_neg (by omega), if_neg (by omega), if_pos h1, if_neg (by omega)]
      simp only [zero_add, add_zero]
    · rw [if_neg h1, if_neg h1, if_neg h1]
      simp only [zero_add, add_zero]
      split_ifs <;> simp only [add_zero]
  rw [Finset.sum_congr rfl e, Finset.sum_add_distrib, Finset.sum_ite_eq, Finset.sum_ite_eq, if_pos (by rw [Finset.mem_range]; omega)]
  exact congrArg _ (if_congr (by rw [Finset.mem_range]; omega) rfl rfl)

variable (c : Dev nD) (i : grid0.Coords)
  (arg1 : Memref sig .tc .vmem S2048x768 .bf16) (harg1 : arg1.IsWhole) (arg2 : Memref sig .tc .vmem S2048x512 .bf16) (harg2 : arg2.IsWhole)
  (arg3 : Memref sig .tc .smem S1x8 .f32) (harg3 : arg3.IsWhole) (arg4 : Memref sig .tc .vmem S2048x768 .bf16) (harg4 : arg4.IsWhole)
  (arg5 : Memref sig .tc .vmem S1x128 .f32) (harg5 : arg5.IsWhole) (arg6 : Memref sig .tc .vmem S2048x128 .f32) (harg6 : arg6.IsWhole)
  (arg7 : Memref sig .tc .vmem S2048x128 .f32) (harg7 : arg7.IsWhole)
  (X1 : S2048x768.Idx → EReal) (X2 : S2048x512.Idx → EReal) (X3 : S1x8.Idx → EReal)

local notation "PP" => at2 (R := 2048) (C := 768) X1
local notation "DD" => at2 (R := 2048) (C := 512) X2
local notation "SS" => at2 (R := 1) (C := 8) X3 0

/-- What the accumulators hold after `n` trips: what they held, and the sum of what the trips add. -/
theorem acc_pieces (g5 g6 g7) (n : ℕ) (hn : n ≤ 16) :
    let p := pieces (F := Ideal) c i arg1 harg1 arg2 harg2 arg3 harg3 arg4 harg4 arg5 harg5 arg6 harg6 arg7 harg7 (harg1.unread X1) (harg2.unread X2) (harg3.unread X3) g5 g6 g7 n
    (∀ l : Fin 128, arg5.view.read (Elt Ideal) (arg5.view.writes (Elt Ideal) g5 p.2.1) (ix2 0 l)
        = arg5.view.read (Elt Ideal) g5 (ix2 0 l) + ∑ k ∈ Finset.range n, ∑ u : Fin 8, sinkAdd PP DD SS k u.val l.val)
    ∧ (∀ (r : Fin 2048) (l : Fin 128), arg6.view.read (Elt Ideal) (arg6.view.writes (Elt Ideal) g6 p.2.2.1) (ix2 r l)
        = arg6.view.read (Elt Ideal) g6 (ix2 r l) + ∑ k ∈ Finset.range n, adds (dk PP DD SS) k r.val l.val)
    ∧ (∀ (r : Fin 2048) (l : Fin 128), arg7.view.read (Elt Ideal) (arg7.view.writes (Elt Ideal) g7 p.2.2.2) (ix2 r l)
        = arg7.view.read (Elt Ideal) g7 (ix2 r l) + ∑ k ∈ Finset.range n, adds (dv PP DD SS) k r.val l.val) := by
  induction n with
  | zero =>
    refine ⟨fun l => ?_, fun r l => ?_, fun r l => ?_⟩
    all_goals rw [Finset.range_zero, Finset.sum_empty, add_zero]; rfl
  | succ n ih =>
    have hk : n < k0_t1_loop.trips := by rw [trips_eq]; omega
    obtain ⟨i5, i6, i7⟩ := ih (by omega)
    intro p
    have hp : p = _ := pieces_succ c i arg1 harg1 arg2 harg2 arg3 harg3 arg4 harg4 arg5 harg5 arg6 harg6 arg7 harg7 (harg1.unread X1) (harg2.unread X2) (harg3.unread X3) g5 g6 g7 ⟨n, hk⟩
    rw [hp]
    unfold more
    refine ⟨fun l => ?_, fun r l => ?_, fun r l => ?_⟩
    · rw [View.writes_append, Finset.sum_range_succ]
      refine (sinks_trip c i arg1 harg1 arg2 harg2 arg3 harg3 arg4 harg4 arg5 harg5 arg6 harg6 arg7 harg7 X1 X2 X3 ⟨n, hk⟩ _ l).trans ?_
      exact (congrArg (fun x : EReal => x + _) (i5 l)).trans (add_assoc (_ : EReal) _ _)
    · rw [View.writes_append, Finset.sum_range_succ]
      refine (keys_trip c i arg1 harg1 arg2 harg2 arg3 harg3 arg4 harg4 arg5 harg5 arg6 harg6 arg7 harg7 X1 X2 X3 ⟨n, hk⟩ _ r l).trans ?_
      exact (congrArg (fun x : EReal => x + _) (i6 r l)).trans (add_assoc (_ : EReal) _ _)
    · rw [View.writes_append, Finset.sum_range_succ]
      refine (vals_trip c i arg1 harg1 arg2 harg2 arg3 harg3 arg4 harg4 arg5 harg5 arg6 harg6 arg7 harg7 X1 X2 X3 ⟨n, hk⟩ _ r l).trans ?_
      exact (congrArg (fun x : EReal => x + _) (i7 r l)).trans (add_assoc (_ : EReal) _ _)

/-- The gradient's array: the queries' gradient, the keys', the values'. -/
def grad (P D : ℕ → ℕ → EReal) (S : ℕ → EReal) (r x : ℕ) : EReal :=
  if x < 512 then gq P D S r x
  else if x < 640 then ∑ k ∈ Finset.range 16, adds (dk P D S) k r (x - 512)
  else ∑ k ∈ Finset.range 16, adds (dv P D S) k r (x - 640)

/-- What is read back from the accumulator of the keys' gradient after the loop. -/
theorem keys_back (g5 g7) (n : ℕ) (hn : n = 16) (inb) (a : Fin 2048) (b : Fin 128) :
    arg6.view.readCov ((pieces (F := Ideal) c i arg1 harg1 arg2 harg2 arg3 harg3 arg4 harg4 arg5 harg5 arg6 harg6 arg7 harg7 (harg1.unread X1) (harg2.unread X2) (harg3.unread X3) g5 (arg6.view.writes (Elt Ideal) arg6.view.junk run.sl.H6_1) g7 n).2.2.1 ++ run.sl.H6_1)
        (Rect.unit (s := S2048x128) ![0, 0] S2048x128.size inb).toLoadRect (ix2 a b)
      = ∑ k ∈ Finset.range 16, adds (dk PP DD SS) k a.val b.val := by
  subst hn
  unfold View.readCov
  rw [View.writes_append, View.readAt_full]
  refine ((acc_pieces c i arg1 harg1 arg2 harg2 arg3 harg3 arg4 harg4 arg5 harg5 arg6 harg6 arg7 harg7 X1 X2 X3 g5 (arg6.view.writes (Elt Ideal) arg6.view.junk run.sl.H6_1) g7 16 (Nat.le_refl _)).2.1 a b).trans ?_
  refine Eq.trans (congrArg (fun x : EReal => x + _) ?_) (zero_add (_ : EReal))
  unfold run.sl.H6_1
  refine (congrFun (View.read_writes_full _ _ _ _ _) _).trans ?_
  unfold k0_pay2
  simp [pointwise]

/-- What is read back from the accumulator of the values' gradient after the loop. -/
theorem vals_back (g5 g6) (n : ℕ) (hn : n = 16) (inb) (a : Fin 2048) (b : Fin 128) :
    arg7.view.readCov ((pieces (F := Ideal) c i arg1 harg1 arg2 harg2 arg3 harg3 arg4 harg4 arg5 harg5 arg6 harg6 arg7 harg7 (harg1.unread X1) (harg2.unread X2) (harg3.unread X3) g5 g6 (arg7.view.writes (Elt Ideal) arg7.view.junk run.sl.H7_1) n).2.2.2 ++ run.sl.H7_1)
        (Rect.unit (s := S2048x128) ![0, 0] S2048x128.size inb).toLoadRect (ix2 a b)
      = ∑ k ∈ Finset.range 16, adds (dv PP DD SS) k a.val b.val := by
  subst hn
  unfold View.readCov
  rw [View.writes_append, View.readAt_full]
  refine ((acc_pieces c i arg1 harg1 arg2 harg2 arg3 harg3 arg4 harg4 arg5 harg5 arg6 harg6 arg7 harg7 X1 X2 X3 g5 g6 (arg7.view.writes (Elt Ideal) arg7.view.junk run.sl.H7_1) 16 (Nat.le_refl _)).2.2 a b).trans ?_
  refine Eq.trans (congrArg (fun x : EReal => x + _) ?_) (zero_add (_ : EReal))
  unfold run.sl.H7_1
  refine (congrFun (View.read_writes_full _ _ _ _ _) _).trans ?_
  unfold k0_pay3
  simp [pointwise]

/-- What the body leaves in the gradient's array. -/
theorem run_grad (f) (r : Fin 2048) (x : Fin 768) :
    arg4.view.read (Elt Ideal) (arg4.view.writes (Elt Ideal) f (run (F := Ideal) c i arg1 harg1 arg2 harg2 arg3 harg3 arg4 harg4 arg5 harg5 arg6 harg6 arg7 harg7 X1 X2 X3).1) (ix2 r x)
      = grad PP DD SS r.val x.val := by
  have cov := run_cover (F := Ideal) c i arg1 harg1 arg2 harg2 arg3 harg3 arg4 harg4 arg5 harg5 arg6 harg6 arg7 harg7 X1 X2 X3 (ix2 r x)
  refine View.read_writes_apply_of_pieces arg4.view f (fun y => grad PP DD SS (y 0).val (y 1).val) _ ?_ (ix2 r x) cov
  clear cov
  have B := fun g5 g6 g7 => pieces_agree c i arg1 harg1 arg2 harg2 arg3 harg3 arg4 harg4 arg5 harg5 arg6 harg6 arg7 harg7 X1 X2 X3
    (fun y => grad PP DD SS (y 0).val (y 1).val) (fun r x hx => if_pos hx) g5 g6 g7 16
  have e16 : Scf.trips k0_t1_loop.lb k0_t1_loop.ub k0_t1_loop.st = 16 := trips_eq
  unfold run
  dsimp only
  intro p hp
  rcases List.mem_cons.mp hp with rfl | hp
  · intro y
    have hy : (y 1).val < 128 := (y 1).isLt
    have e : ∀ x : Fin 2048, ∀ z : Fin 128, grad PP DD SS (0 + 1 * x.val) (640 + 1 * z.val) = ∑ k ∈ Finset.range 16, adds (dv PP DD SS) k x.val z.val := by
      intro x z
      unfold grad
      rw [if_neg (by omega), if_neg (by omega), Nat.zero_add, Nat.one_mul, Nat.one_mul, Nat.add_sub_cancel_left]
    refine Eq.trans ?_ (e (y 0) (y 1)).symm
    unfold k0_pay9 run.sl.v14
    rw [eq_ix2 y]
    exact vals_back c i arg1 harg1 arg2 harg2 arg3 harg3 arg4 harg4 arg5 harg5 arg6 harg6 arg7 harg7 X1 X2 X3 _ _ _ e16 _ _ _
  rcases List.mem_cons.mp hp with rfl | hp
  · intro y
    have hy : (y 1).val < 128 := (y 1).isLt
    have e : ∀ x : Fin 2048, ∀ z : Fin 128, grad PP DD SS (0 + 1 * x.val) (512 + 1 * z.val) = ∑ k ∈ Finset.range 16, adds (dk PP DD SS) k x.val z.val := by
      intro x z
      unfold grad
      rw [if_neg (by omega), if_pos (by omega), Nat.zero_add, Nat.one_mul, Nat.one_mul, Nat.add_sub_cancel_left]
    refine Eq.trans ?_ (e (y 0) (y 1)).symm
    unfold k0_pay8 run.sl.v11
    rw [eq_ix2 y]
    exact keys_back c i arg1 harg1 arg2 harg2 arg3 harg3 arg4 harg4 arg5 harg5 arg6 harg6 arg7 harg7 X1 X2 X3 _ _ _ e16 _ _ _
  · rw [e16] at hp
    exact B _ _ _ p hp

/-- What the body leaves in the row of the sinks. -/
theorem run_sinks (l : Fin 128) :
    arg5.view.read (Elt Ideal) (arg5.view.writes (Elt Ideal) arg5.view.junk (run (F := Ideal) c i arg1 harg1 arg2 harg2 arg3 harg3 arg4 harg4 arg5 harg5 arg6 harg6 arg7 harg7 X1 X2 X3).2.1) (ix2 0 l)
      = ∑ k ∈ Finset.range 16, ∑ u : Fin 8, sinkAdd PP DD SS k u.val l.val := by
  have e16 : Scf.trips k0_t1_loop.lb k0_t1_loop.ub k0_t1_loop.st = 16 := trips_eq
  unfold run
  dsimp only
  rw [e16, View.writes_append]
  refine ((acc_pieces c i arg1 harg1 arg2 harg2 arg3 harg3 arg4 harg4 arg5 harg5 arg6 harg6 arg7 harg7 X1 X2 X3 _ _ _ 16 (Nat.le_refl _)).1 l).trans ?_
  refine Eq.trans (congrArg (fun x : EReal => x + _) ?_) (zero_add (_ : EReal))
  unfold run.sl.H5_1
  refine (congrFun (View.read_writes_full _ _ _ _ _) _).trans ?_
  unfold k0_pay1
  simp [pointwise]

end Cert.AttnTrip

end
-- ==== Proof.AttnRun.lean ====
/-
  The gradient of the attention: the kernel's two result arrays after the run, as functions of the arrays it was launched on.
-/
module

public import proofs.«01_k».proof.Proof.AttnVal
public import proofs.«01_k».proof.Proof.AttnFrames
public import proofs.«01_k».proof.Proof.Common
public import Idealize.ShloMosaic.Lib.StableHlo.ReadAt

@[expose] public section

set_option maxRecDepth 16384

noncomputable section

namespace Cert.AttnKernel

open Cert.AttnBwdIdeal Cert.AttnBwdIdeal.Gen Cert.AttnSpec Cert.AttnTrip
open Idealize.ShloMosaic Idealize.ShloMosaic.TcCoe Idealize.ShloMosaic.Tactic Idealize.SL.Sem
open Cert.Common (idx2_ext)

variable (m : (ℓ : Loc nD τ sig) → Buf (Elt Ideal) ℓ) (ρ : Dev nD → PrngReg) (c : Dev nD)

/-- The projections, the sinks and the output's cotangent as launched. -/
abbrev proj : S1x2048x3840.Idx → EReal := m ((c : Thread nD τ).loc main_arg0)
abbrev sinks : S1x8.Idx → EReal := m ((c : Thread nD τ).loc main_arg1)
abbrev dOut : S1x2048x512.Idx → EReal := m ((c : Thread nD τ).loc main_arg2)

/-- The queries', keys' and values' columns of the projections. -/
def X1 : S2048x768.Idx → EReal := fun y => proj m c (ix3 0 (y 0) ((y 1).castLE (by decide)))
def X2 : S2048x512.Idx → EReal := fun y => dOut m c (ix3 0 (y 0) (y 1))

abbrev P : ℕ → ℕ → EReal := at2 (R := 2048) (C := 768) (X1 m c)
abbrev D : ℕ → ℕ → EReal := at2 (R := 2048) (C := 512) (X2 m c)
abbrev S : ℕ → EReal := at2 (R := 1) (C := 8) (sinks m c) 0

theorem V_proj (r : Fin 2048) (x : Fin 3840) : V m c main_v1 (ix2 r x) = proj m c (ix3 0 r x) := by
  unfold V; after_reads_at
theorem V_dOut (r : Fin 2048) (x : Fin 512) : V m c main_v3 (ix2 r x) = dOut m c (ix3 0 r x) := by
  unfold V; after_reads_at
theorem V_sinks : V m c main_arg1 = sinks m c := V_main_arg1 m c

theorem index_0 (t : Fin cfg0.N) : win0_0.index t = ![0, 0] := by revert t; decide +kernel
theorem index_1 (t : Fin cfg0.N) : win0_1.index t = ![0, 0] := by revert t; decide +kernel
theorem index_2 (t : Fin cfg0.N) : win0_2.index t = ![0, 0] := by revert t; decide +kernel
theorem index_3 (t : Fin cfg0.N) : win0_3.index t = ![0, 0] := by revert t; decide +kernel
theorem index_4 (t : Fin cfg0.N) : win0_4.index t = ![0, 0] := by revert t; decide +kernel

theorem iblk_0 (t : Fin cfg0.N) : iblk m c 0 t = X1 m c := by
  funext y
  have h : V m c main_v1 (ix2 (y 0 : Fin 2048) (Fin.castLE (n := 768) (m := 3840) (by decide) (y 1))) = X1 m c y := V_proj m c _ _
  refine Eq.trans ?_ h
  exact congrArg (V m c main_v1) (idx2_ext (by show win0_0.index t 0 * 2048 + 1 * (y 0).val = _; rw [index_0]; simp)
    (by show win0_0.index t 1 * 768 + 1 * (y 1).val = (y 1).val; rw [index_0]; simp))
theorem iblk_1 (t : Fin cfg0.N) : iblk m c 1 t = X2 m c := by
  funext y
  have h : V m c main_v3 (ix2 (y 0) (y 1)) = X2 m c y := V_dOut m c _ _
  refine Eq.trans ?_ h
  exact congrArg (V m c main_v3) (idx2_ext (by show win0_1.index t 0 * 2048 + 1 * (y 0).val = _; rw [index_1]; simp)
    (by show win0_1.index t 1 * 512 + 1 * (y 1).val = _; rw [index_1]; simp))
theorem iblk_2 (t : Fin cfg0.N) : iblk m c 2 t = sinks m c := by
  funext y
  rw [← V_sinks]
  exact congrArg (V m c main_arg1) (idx2_ext (by show win0_2.index t 0 * 1 + 1 * (y 0).val = _; rw [index_2]; simp)
    (by show win0_2.index t 1 * 8 + 1 * (y 1).val = _; rw [index_2]; simp))

/-- The grid's point. -/
abbrev t0 : Fin cfg0.N := ⟨0, by decide⟩

/-- The two results. -/
def G3 : Vec Ideal S2048x768 .bf16 := fun y => grad (P m c) (D m c) (S m c) (y 0).val (y 1).val
def G4 : Vec Ideal S1x128 .f32 := fun y => ∑ k ∈ Finset.range 16, ∑ u : Fin 8, sinkAdd (P m c) (D m c) (S m c) k u.val (y 1).val

theorem out3_eq (t : Fin cfg0.N) (y : S2048x768.Idx) : out3 c m t y = G3 m c y := by
  unfold out3 runAt G3
  rw [iblk_0, iblk_1, iblk_2, eq_ix2 y]
  exact run_grad c (grid0.coords t) (st0 t) (sh0 t) (st1 t) (sh1 t) (st2 t) (sh2 t) (st3 t) (sh3 t) (st4 t) (sh4 t)
    sc0 (Memref.isWhole_whole _) sc1 (Memref.isWhole_whole _) (X1 m c) (X2 m c) (sinks m c) _ (y 0) (y 1)

theorem out4_eq (t : Fin cfg0.N) (l : Fin 128) : out4 c m t (ix2 0 l) = G4 m c (ix2 0 l) := by
  unfold out4 runAt G4
  rw [iblk_0, iblk_1, iblk_2]
  exact run_sinks c (grid0.coords t) (st0 t) (sh0 t) (st1 t) (sh1 t) (st2 t) (sh2 t) (st3 t) (sh3 t) (st4 t) (sh4 t)
    sc0 (Memref.isWhole_whole _) sc1 (Memref.isWhole_whole _) (X1 m c) (X2 m c) (sinks m c) l

theorem final_3 : (dats m 0 c).arrAt 3 cfg0.N = G3 m c :=
  (dats m 0 c).arrAt_eq_of_cover 3 (G3 m c) (fun t hf => by
      show (cfg0.win 3).cut (grid0.coords t) ((dats m 0 c).after 3 t) = _
      rw [after3]
      funext y
      refine (out3_eq m c t y).trans (congrArg (G3 m c) (idx2_ext ?_ ?_))
      · show _ = win0_3.index t 0 * 2048 + 1 * (y 0).val; rw [index_3]; simp
      · show _ = win0_3.index t 1 * 768 + 1 * (y 1).val; rw [index_3]; simp) fun i =>
    ⟨t0, flush0_3 _, by
      show i ∈ ((View.whole main_v4_0).slice (win0_3.rect t0)).set
      rw [View.set_slice_whole, Rect.mem_set_unit]
      have h0 : (i 0).val < 2048 := (i 0).isLt
      have h1 : (i 1).val < 768 := (i 1).isLt
      intro a
      match a with
      | ⟨0, _⟩ => show win0_3.index t0 0 * 2048 ≤ (i 0).val ∧ (i 0).val < win0_3.index t0 0 * 2048 + 2048; rw [index_3]; simp; omega
      | ⟨1, _⟩ => show win0_3.index t0 1 * 768 ≤ (i 1).val ∧ (i 1).val < win0_3.index t0 1 * 768 + 768; rw [index_3]; simp; omega⟩

theorem final_4 : (dats m 0 c).arrAt 4 cfg0.N = G4 m c :=
  (dats m 0 c).arrAt_eq_of_cover 4 (G4 m c) (fun t hf => by
      show (cfg0.win 4).cut (grid0.coords t) ((dats m 0 c).after 4 t) = _
      rw [after4]
      funext y
      obtain ⟨j, rfl⟩ : ∃ j : Fin 128, y = ix2 0 j := ⟨y 1, (eq_ix2 y).trans (congrArg (ix2 · (y 1)) (Subsingleton.elim (α := Fin 1) _ _))⟩
      refine (out4_eq m c t j).trans (congrArg (G4 m c) (idx2_ext ?_ ?_))
      · show _ = win0_4.index t 0 * 1 + 1 * 0; rw [index_4]; simp
      · show _ = win0_4.index t 1 * 128 + 1 * j.val; rw [index_4]; simp) fun i =>
    ⟨t0, flush0_4 _, by
      show i ∈ ((View.whole main_v4_1).slice (win0_4.rect t0)).set
      rw [View.set_slice_whole, Rect.mem_set_unit]
      have h0 : (i 0).val < 1 := (i 0).isLt
      have h1 : (i 1).val < 128 := (i 1).isLt
      intro a
      match a with
      | ⟨0, _⟩ => show win0_4.index t0 0 * 1 ≤ (i 0).val ∧ (i 0).val < win0_4.index t0 0 * 1 + 1; rw [index_4]; simp; omega
      | ⟨1, _⟩ => show win0_4.index t0 1 * 128 ≤ (i 1).val ∧ (i 1).val < win0_4.index t0 1 * 128 + 128; rw [index_4]; simp; omega⟩

/-- The run, its two results named, its arguments unchanged. -/
theorem run_values : θ_run defs (onTc (τ := τ) (main (F := Ideal))) ⟨m, fun _ => 0, ρ⟩ (fun r => ∀ c : Dev nD,
      r.2.mem ((c.tc : Thread nD τ).loc main_v4_0) = G3 m c
      ∧ r.2.mem ((c.tc : Thread nD τ).loc main_v4_1) = G4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.2.1 c).1 3).trans (final_3 m c), ((h.2.1 c).1 4).trans (final_4 m c), h.1.1 c⟩)
    (θ_run_and (frame_main m ρ) (run_main m ρ))

end Cert.AttnKernel

end
-- ==== Proof.AttnRefA.lean ====
/-
  The gradient of the attention, reference: the queries, the bands of keys and values, the scores under their mask and the
  softmax, each element as a function of its block, head, query and key.
-/
module

public import proofs.«01_k».proof.Proof.Gen.AttnBwdRefIdeal.Read
public import proofs.«01_k».proof.Proof.AttnSpec
public import proofs.«01_k».proof.Proof.Common
public import Idealize.ShloMosaic.Lib.Pointwise
public import Idealize.ShloMosaic.Lib.ValueIdxRank6

@[expose] public section

set_option maxRecDepth 16384

noncomputable section

namespace Cert.AttnRef

open Cert.AttnBwdRefIdeal Cert.AttnBwdRefIdeal.Gen Cert.AttnBwdRefIdeal.Read Cert.AttnSpec
open Idealize.ShloMosaic

variable (x0 : S1x2048x3840.Idx → EReal) (x1 : S1x8.Idx → EReal) (x2 : S1x2048x512.Idx → EReal)

/-- The queries', keys' and values' columns of the projections; the cotangent; the sinks. -/
abbrev Pr : ℕ → ℕ → EReal := at2 (R := 2048) (C := 768) fun y => x0 (ix3 0 (y 0) ((y 1).castLE (by decide)))
abbrev Dr : ℕ → ℕ → EReal := at2 (R := 2048) (C := 512) fun y => x2 (ix3 0 (y 0) (y 1))
abbrev Sr : ℕ → EReal := at2 (R := 1) (C := 8) x1 0

theorem idx3_ext {n0 n1 n2 : Nat} {i j : (⟨3, ![n0, n1, n2]⟩ : Shape).Idx} (h0 : (i 0).val = (j 0).val) (h1 : (i 1).val = (j 1).val)
    (h2 : (i 2).val = (j 2).val) : i = j :=
  funext fun a => match a with
    | ⟨0, _⟩ => Fin.ext h0
    | ⟨1, _⟩ => Fin.ext h1
    | ⟨2, _⟩ => Fin.ext h2

theorem idx4_ext {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => match a with
    | ⟨0, _⟩ => Fin.ext h0
    | ⟨1, _⟩ => Fin.ext h1
    | ⟨2, _⟩ => Fin.ext h2
    | ⟨3, _⟩ => Fin.ext h3

theorem idx5_ext {n0 n1 n2 n3 n4 : Nat} {i j : (⟨5, ![n0, n1, n2, n3, n4]⟩ : Shape).Idx} (h0 : (i 0).val = (j 0).val)
    (h1 : (i 1).val = (j 1).val) (h2 : (i 2).val = (j 2).val) (h3 : (i 3).val = (j 3).val) (h4 : (i 4).val = (j 4).val) : i = j :=
  funext fun a => match a with
    | ⟨0, _⟩ => Fin.ext h0
    | ⟨1, _⟩ => Fin.ext h1
    | ⟨2, _⟩ => Fin.ext h2
    | ⟨3, _⟩ => Fin.ext h3
    | ⟨4, _⟩ => Fin.ext h4

theorem Pr_of (i : S1x2048x3840.Idx) {a b : ℕ} (h1 : (i 1).val = a) (h2 : (i 2).val = b) (hb : b < 768) : x0 i = Pr x0 a b := by
  have ha : a < 2048 := h1 ▸ (i 1).isLt
  rw [Pr, at2_of _ ha hb]
  exact congrArg x0 (idx3_ext (Nat.lt_one_iff.mp (i 0).isLt) h1 h2)

theorem Dr_of (i : S1x2048x512.Idx) {a b : ℕ} (h1 : (i 1).val = a) (h2 : (i 2).val = b) : x2 i = Dr x2 a b := by
  have ha : a < 2048 := h1 ▸ (i 1).isLt
  have hb : b < 512 := h2 ▸ (i 2).isLt
  rw [Dr, at2_of _ ha hb]
  exact congrArg x2 (idx3_ext (Nat.lt_one_iff.mp (i 0).isLt) h1 h2)

/-- The queries in blocks and groups. -/
theorem v1_eq (n : Fin 16) (q : Fin 128) (h : Fin 2) (g : Fin 4) (l : Fin 64) :
    val_main_v1 (F := Ideal) x0 (ix5 n q h g l) = Pr x0 (128 * n.val + q.val) (256 * h.val + 64 * g.val + l.val) := by
  rw [val_main_v1_apply, val_main_v0_apply]
  refine Pr_of x0 _ ?_ ?_ (by omega)
  · show ((((n.val * 128 + q.val) * 2 + h.val) * 4 + g.val) * 64 + l.val) / 512 % 2048 = _; omega
  · show ((((n.val * 128 + q.val) * 2 + h.val) * 4 + g.val) * 64 + l.val) % 512 = _; omega

/-- The keys and the values in blocks. -/
theorem v3_eq (n : Fin 16) (q : Fin 128) (h : Fin 2) (l : Fin 64) :
    val_main_v3 (F := Ideal) x0 (ix4 n q h l) = Pr x0 (128 * n.val + q.val) (512 + (64 * h.val + l.val)) := by
  rw [val_main_v3_apply, val_main_v2_apply]
  refine Pr_of x0 _ ?_ ?_ (by omega)
  · show (((n.val * 128 + q.val) * 2 + h.val) * 64 + l.val) / 128 % 2048 = _; omega
  · show 512 + (((n.val * 128 + q.val) * 2 + h.val) * 64 + l.val) % 128 = _; omega

theorem v5_eq (n : Fin 16) (q : Fin 128) (h : Fin 2) (l : Fin 64) :
    val_main_v5 (F := Ideal) x0 (ix4 n q h l) = Pr x0 (128 * n.val + q.val) (640 + (64 * h.val + l.val)) := by
  rw [val_main_v5_apply, val_main_v4_apply]
  refine Pr_of x0 _ ?_ ?_ (by omega)
  · show (((n.val * 128 + q.val) * 2 + h.val) * 64 + l.val) / 128 % 2048 = _; omega
  · show 640 + (((n.val * 128 + q.val) * 2 + h.val) * 64 + l.val) % 128 = _; omega

/-- Key `j` of the 256 of a block: of the block before (zero before the first), or of the block. -/
def band (P : ℕ → ℕ → EReal) (n j c : ℕ) : EReal :=
  if j < 128 then (if 0 < n then P (128 * (n - 1) + j) c else 0) else P (128 * n + (j - 128)) c

theorem zero_const (i : S_.Idx) : constant (F := Ideal) S_ .f32 0x00000000#32 i = (0 : EReal) := by simp [pointwise]

/-- Two stacks of blocks, the first one shifted by a block, joined along the rows. -/
theorem v10_eq (n : Fin 16) (j : Fin 256) (h : Fin 2) (l : Fin 64) :
    val_main_v10 (F := Ideal) x0 (ix4 n j h l) = band (Pr x0) n j (512 + (64 * h.val + l.val)) := by
  unfold val_main_v10 val_main_v8 val_main_v7 val_main_v6 val_main_cst
  simp only [pointwise, v3_eq]
  unfold band
  by_cases hj : j.val < 128
  · rw [dif_pos hj, if_pos hj]
    by_cases hn : 0 < n.val
    · rw [dif_neg (Nat.not_lt.mpr hn), if_pos hn]
      exact congrArg₂ (Pr x0) (congrArg₂ (fun a b => 128 * a + b) (Nat.zero_add _) (Nat.zero_add _))
        (congrArg (512 + ·) (congrArg₂ (fun a b => 64 * a + b) (Nat.zero_add _) (Nat.zero_add _)))
    · rw [dif_pos (Nat.lt_of_not_le hn), if_neg hn]
      try simp
  · rw [dif_neg hj, if_neg hj]
    rfl

theorem v15_eq (n : Fin 16) (j : Fin 256) (h : Fin 2) (l : Fin 64) :
    val_main_v15 (F := Ideal) x0 (ix4 n j h l) = band (Pr x0) n j (640 + (64 * h.val + l.val)) := by
  unfold val_main_v15 val_main_v13 val_main_v12 val_main_v11 val_main_cst_1
  simp only [pointwise, v5_eq]
  unfold band
  by_cases hj : j.val < 128
  · rw [dif_pos hj, if_pos hj]
    by_cases hn : 0 < n.val
    · rw [dif_neg (Nat.not_lt.mpr hn), if_pos hn]
      exact congrArg₂ (Pr x0) (congrArg₂ (fun a b => 128 * a + b) (Nat.zero_add _) (Nat.zero_add _))
        (congrArg (640 + ·) (congrArg₂ (fun a b => 64 * a + b) (Nat.zero_add _) (Nat.zero_add _)))
    · rw [dif_pos (Nat.lt_of_not_le hn), if_neg hn]
      try simp
  · rw [dif_neg hj, if_neg hj]
    rfl

/-- The scores before the mask. -/
def scR (P : ℕ → ℕ → EReal) (n h g q j : ℕ) : EReal :=
  (∑ l : Fin 64, band P n j (512 + (64 * h + l.val)) * P (128 * n + q) (256 * h + 64 * g + l.val)) * c8

theorem v19_eq (n : Fin 16) (h : Fin 2) (g : Fin 4) (q : Fin 128) (j : Fin 256) :
    val_main_v19 (F := Ideal) x0 (ix5 n h g q j) = scR (Pr x0) n h g q j := by
  unfold val_main_v19 val_main_v18 val_main_v17 val_main_cst_3
  simp only [pointwise]
  rw [val_main_v16_apply]
  refine congrArg (· * c8) (Finset.sum_congr rfl fun l _ => ?_)
  rw [show lidx_main_v16 (ix5 n h j q g) l = ix4 n j h l from idx4_ext rfl rfl rfl rfl,
    show ridx_main_v16 (ix5 n h j q g) l = ix5 n q h g l from idx5_ext rfl rfl rfl rfl rfl, v10_eq, v1_eq]

/-- The mask, in 32-bit words. -/
theorem mask_word (n q j : ℕ) (hn : n < 16) (hq : q < 128) (hj : j < 256) :
    IntOp.andi
        (IntOp.andi (IntOp.cmpi CmpIPredicate.sle (BitVec.ofNat 32 j) (IntOp.addi (BitVec.ofNat 32 q) 128#32))
          (IntOp.cmpi CmpIPredicate.sgt (BitVec.ofNat 32 j) (BitVec.ofNat 32 q)))
        (IntOp.cmpi CmpIPredicate.sge (IntOp.addi (IntOp.muli (BitVec.ofNat 32 n) 128#32) (BitVec.ofNat 32 j)) 128#32)
      = if q < j ∧ j ≤ q + 128 ∧ (128 ≤ j ∨ 0 < n) then 1#1 else 0#1 := by
  have e1 : IntOp.addi (BitVec.ofNat 32 q) 128#32 = BitVec.ofNat 32 (q + 128) := by
    simp only [IntOp.addi]; rw [BitVec.ofNat_add]
  have e2 : IntOp.addi (IntOp.muli (BitVec.ofNat 32 n) 128#32) (BitVec.ofNat 32 j) = BitVec.ofNat 32 (n * 128 + j) := by
    simp only [IntOp.addi, IntOp.muli]; rw [BitVec.ofNat_add, BitVec.ofNat_mul]
  have t (a : ℕ) (ha : a < 2 ^ 31) : (BitVec.ofNat 32 a).toInt = a := by
    rw [BitVec.toInt_eq_toNat_of_lt (by rw [BitVec.toNat_ofNat]; omega), BitVec.toNat_ofNat, Nat.mod_eq_of_lt (by omega)]
  rw [e1, e2]
  simp only [IntOp.cmpi, IntOp.andi, BitVec.sle, BitVec.slt, t j (by omega), t (q + 128) (by omega), t q (by omega),
    t (n * 128 + j) (by omega), show ((128#32).toInt) = 128 from rfl]
  rw [if_congr (show (q < j ∧ j ≤ q + 128 ∧ (128 ≤ j ∨ 0 < n)) ↔ (((j : ℤ) ≤ ((q + 128 : ℕ) : ℤ) ∧ (q : ℤ) < j) ∧ (128 : ℤ) ≤ ((n * 128 + j : ℕ) : ℤ)) by
    omega) rfl rfl]
  by_cases h1 : (j : ℤ) ≤ ((q + 128 : ℕ) : ℤ) <;> by_cases h2 : (q : ℤ) < j <;> by_cases h3 : (128 : ℤ) ≤ ((n * 128 + j : ℕ) : ℤ) <;>
    simp only [h1, h2, h3, decide_true, decide_false, and_self, and_true, and_false, if_true, if_false] <;> rfl

/-- The mask. -/
theorem v33_eq (n : Fin 16) (h : Fin 2) (g : Fin 4) (q : Fin 128) (j : Fin 256) :
    val_main_v33 (F := Ideal) (ix5 n h g q j) = if ok n (128 * g.val + q.val) j then 1#1 else 0#1 := by
  unfold val_main_v33 val_main_v32 val_main_v31 val_main_v30 val_main_v29 val_main_v28 val_main_v27 val_main_v26 val_main_v25 val_main_v24
    val_main_v23 val_main_v22 val_main_v21 val_main_v20 val_main_c val_main_c_4 val_main_c_5
  simp only [pointwise]
  refine (mask_word _ _ _ n.isLt q.isLt j.isLt).trans (if_congr ?_ rfl rfl)
  unfold ok
  omega

/-- The scores under the mask, and the sinks after them. -/
def xR (P : ℕ → ℕ → EReal) (S : ℕ → EReal) (n h g q t : ℕ) : EReal :=
  if t < 256 then (if ok n (128 * g + q) t then scR P n h g q t else ⊥) else S (4 * h + g)

theorem ninf : Ideal.ofBits .f32 0xFF800000#32 = ⊥ := by simp [Ideal.ofBits, Ideal.ieee]

theorem v35_eq (n : Fin 16) (h : Fin 2) (g : Fin 4) (q : Fin 128) (j : Fin 256) :
    val_main_v35 (F := Ideal) x0 (ix5 n h g q j) = if ok n (128 * g.val + q.val) j then scR (Pr x0) n h g q j else ⊥ := by
  unfold val_main_v35 val_main_v34 val_main_cst_6
  simp only [pointwise, v33_eq, v19_eq]
  split_ifs <;> simp [Scalar.select, ninf]

theorem Sr_of (i : S1x8.Idx) {b : ℕ} (h1 : (i 1).val = b) : x1 i = Sr x1 b := by
  have hb : b < 8 := h1 ▸ (i 1).isLt
  rw [Sr, at2_of _ (Nat.zero_lt_one) hb]
  exact congrArg x1 (funext fun a => match a with
    | ⟨0, _⟩ => Fin.ext (Nat.lt_one_iff.mp (i 0).isLt)
    | ⟨1, _⟩ => Fin.ext h1)

theorem v38_eq (n : Fin 16) (h : Fin 2) (g : Fin 4) (q : Fin 128) (z : Fin 1) :
    val_main_v38 (F := Ideal) x1 (ix5 n h g q z) = Sr x1 (4 * h.val + g.val) := by
  rw [val_main_v38_apply, val_main_v37_apply]
  refine Sr_of x1 _ ?_
  show ((((0 * 2 + h.val) * 4 + g.val) * 1 + 0) * 1 + 0) % 8 = 4 * h.val + g.val
  omega

theorem v39_eq (n : Fin 16) (h : Fin 2) (g : Fin 4) (q : Fin 128) (t : Fin 257) :
    val_main_v39 (F := Ideal) x0 x1 (ix5 n h g q t) = xR (Pr x0) (Sr x1) n h g q t := by
  unfold val_main_v39
  simp only [pointwise]
  unfold xR
  by_cases ht : t.val < 256
  · rw [dif_pos ht, if_pos ht, v35_eq]
  · rw [dif_neg ht, if_neg ht]
    exact v38_eq x1 n h g q _

/-- The largest, the exponentials and their sum. -/
def mR (P : ℕ → ℕ → EReal) (S : ℕ → EReal) (n h g q : ℕ) : EReal := Finset.univ.fold max ⊥ fun t : Fin 257 => xR P S n h g q t
def eR (P : ℕ → ℕ → EReal) (S : ℕ → EReal) (n h g q t : ℕ) : EReal := Ideal.exp (xR P S n h g q t - mR P S n h g q)
def sR (P : ℕ → ℕ → EReal) (S : ℕ → EReal) (n h g q : ℕ) : EReal := ∑ t : Fin 257, eR P S n h g q t

theorem v40_eq (n : Fin 16) (h : Fin 2) (g : Fin 4) (q : Fin 128) :
    val_main_v40 (F := Ideal) x0 x1 (ix4 n h g q) = mR (Pr x0) (Sr x1) n h g q := by
  unfold val_main_v40 val_main_cst_8
  simp only [pointwise, v39_eq, ninf]
  rfl

theorem v44_eq (n : Fin 16) (h : Fin 2) (g : Fin 4) (q : Fin 128) (t : Fin 257) :
    val_main_v44 (F := Ideal) x0 x1 (ix5 n h g q t) = eR (Pr x0) (Sr x1) n h g q t := by
  unfold val_main_v44 val_main_v43 val_main_v42 val_main_v41
  simp only [pointwise, v39_eq, OfNat.ofNat_ne_one, ↓reduceDIte, v40_eq]
  rfl

theorem v45_eq (n : Fin 16) (h : Fin 2) (g : Fin 4) (q : Fin 128) :
    val_main_v45 (F := Ideal) x0 x1 (ix4 n h g q) = sR (Pr x0) (Sr x1) n h g q := by
  unfold val_main_v45 val_main_cst_9
  simp only [pointwise, v44_eq, zero_add]
  rfl

theorem congrR {α : Type} (f : ℕ → ℕ → ℕ → ℕ → ℕ → α) {a b c d e a' b' c' d' e' : ℕ} (ha : a = a') (hb : b = b') (hc : c = c') (hd : d = d')
    (he : e = e') : f a b c d e = f a' b' c' d' e' := by subst ha hb hc hd he; rfl

theorem pad0 (a : ℕ) : (a - 0) / (0 + 1) = a := by omega

/-- The probabilities of the keys. -/
theorem v52_eq (n : Fin 16) (h : Fin 2) (g : Fin 4) (q : Fin 128) (j : Fin 256) :
    val_main_v52 (F := Ideal) x0 x1 (ix5 n h g q j) = Ideal.div (eR (Pr x0) (Sr x1) n h g q j) (sR (Pr x0) (Sr x1) n h g q) := by
  unfold val_main_v52 val_main_v48 val_main_v47 val_main_v46
  simp only [pointwise, v44_eq, OfNat.ofNat_ne_one, ↓reduceDIte, v45_eq]
  exact congrArg₂ Ideal.div (congrR (eR (Pr x0) (Sr x1)) (Nat.zero_add _) (Nat.zero_add _) (Nat.zero_add _) (Nat.zero_add _) (Nat.zero_add _))
    (congrR (fun a b c d _ => sR (Pr x0) (Sr x1) a b c d) (Nat.zero_add _) (Nat.zero_add _) (Nat.zero_add _) (Nat.zero_add _) (Nat.zero_add 0))

/-- One over the square of the sum. -/
theorem v51_eq (n : Fin 16) (h : Fin 2) (g : Fin 4) (q : Fin 128) (z : Fin 1) :
    val_main_v51 (F := Ideal) x0 x1 (ix5 n h g q z)
      = Ideal.div 1 (sR (Pr x0) (Sr x1) n h g q * sR (Pr x0) (Sr x1) n h g q) := by
  unfold val_main_v51 val_main_v50 val_main_v49 val_main_v46 val_main_cst_10
  simp only [pointwise, OfNat.ofNat_ne_one, ↓reduceDIte, v45_eq]
  try rfl

/-- The output's cotangent in blocks and groups. -/
theorem v57_eq (n : Fin 16) (h : Fin 2) (l : Fin 64) (g : Fin 4) (q : Fin 128) :
    val_main_v57 (F := Ideal) x2 (ix5 n h l g q) = Dr x2 (128 * n.val + q.val) (256 * h.val + 64 * g.val + l.val) := by
  rw [val_main_v57_apply, val_main_v56_apply]
  refine Dr_of x2 _ ?_ ?_
  · show ((((n.val * 128 + q.val) * 2 + h.val) * 4 + g.val) * 64 + l.val) / 512 % 2048 = _; omega
  · show ((((n.val * 128 + q.val) * 2 + h.val) * 4 + g.val) * 64 + l.val) % 512 = _; omega

/-- The cotangent of a probability. -/
def dpR (P D : ℕ → ℕ → EReal) (n h g q t : ℕ) : EReal :=
  if t < 256 then ∑ l : Fin 64, D (128 * n + q) (256 * h + 64 * g + l.val) * band P n t (640 + (64 * h + l.val)) else 0

theorem v58_eq (n : Fin 16) (h : Fin 2) (g : Fin 4) (q : Fin 128) (j : Fin 256) :
    val_main_v58 (F := Ideal) x0 x2 (ix5 n h g q j)
      = ∑ l : Fin 64, Dr x2 (128 * n.val + q.val) (256 * h.val + 64 * g.val + l.val) * band (Pr x0) n j (640 + (64 * h.val + l.val)) := by
  rw [val_main_v58_apply]
  refine Finset.sum_congr rfl fun l _ => ?_
  rw [show lidx_main_v58 (ix5 n h g q j) l = ix5 n h l g q from idx5_ext rfl rfl rfl rfl rfl,
    show ridx_main_v58 (ix5 n h g q j) l = ix4 n j h l from idx4_ext rfl rfl rfl rfl, v57_eq, v15_eq]

theorem v61_eq (n : Fin 16) (h : Fin 2) (g : Fin 4) (q : Fin 128) (t : Fin 257) :
    val_main_v61 (F := Ideal) x0 x2 (ix5 n h g q t) = dpR (Pr x0) (Dr x2) n h g q t := by
  unfold val_main_v61 val_main_cst_11
  simp only [pointwise]
  unfold dpR
  by_cases ht : t.val < 256
  · rw [if_pos ht, dif_pos (fun a => match a with
      | ⟨0, _⟩ => ⟨Nat.zero_le _, Nat.mod_one _, (pad0 n.val).symm ▸ n.isLt⟩
      | ⟨1, _⟩ => ⟨Nat.zero_le _, Nat.mod_one _, (pad0 h.val).symm ▸ h.isLt⟩
      | ⟨2, _⟩ => ⟨Nat.zero_le _, Nat.mod_one _, (pad0 g.val).symm ▸ g.isLt⟩
      | ⟨3, _⟩ => ⟨Nat.zero_le _, Nat.mod_one _, (pad0 q.val).symm ▸ q.isLt⟩
      | ⟨4, _⟩ => ⟨Nat.zero_le _, Nat.mod_one _, (pad0 t.val).symm ▸ ht⟩)]
    exact (congrArg (val_main_v58 (F := Ideal) x0 x2) (idx5_ext (pad0 _) (pad0 _) (pad0 _) (pad0 _) (pad0 _))).trans
      (v58_eq x0 x2 n h g q ⟨t.val, ht⟩)
  · rw [if_neg ht, dif_neg (fun hin => ht (pad0 t.val ▸ (hin 4).2.2))]

/-- The values' gradient, one block. -/
theorem v60_eq (n : Fin 16) (j : Fin 256) (h : Fin 2) (l : Fin 64) :
    val_main_v60 (F := Ideal) x0 x1 x2 (ix4 n j h l)
      = ∑ g : Fin 4, ∑ q : Fin 128, Dr x2 (128 * n.val + q.val) (256 * h.val + 64 * g.val + l.val)
          * Ideal.div (eR (Pr x0) (Sr x1) n h g q j) (sR (Pr x0) (Sr x1) n h g q) := by
  unfold val_main_v60 val_main_v59
  simp only [pointwise, v57_eq, v52_eq, zero_add]

/-- The sum that the softmax's gradient takes away. -/
def negR (P D : ℕ → ℕ → EReal) (S : ℕ → EReal) (n h g q : ℕ) : EReal :=
  -∑ t : Fin 257, dpR P D n h g q t * Ideal.div 1 (sR P S n h g q * sR P S n h g q) * eR P S n h g q t

/-- The gradient of a score, the sink's last. -/
def dsR (P D : ℕ → ℕ → EReal) (S : ℕ → EReal) (n h g q t : ℕ) : EReal :=
  (Ideal.div (dpR P D n h g q t) (sR P S n h g q) + negR P D S n h g q) * eR P S n h g q t

theorem v64_eq (n : Fin 16) (h : Fin 2) (g : Fin 4) (q : Fin 128) (t : Fin 257) :
    val_main_v64 (F := Ideal) x0 x1 x2 (ix5 n h g q t)
      = dpR (Pr x0) (Dr x2) n h g q t * Ideal.div 1 (sR (Pr x0) (Sr x1) n h g q * sR (Pr x0) (Sr x1) n h g q)
          * eR (Pr x0) (Sr x1) n h g q t := by
  unfold val_main_v64 val_main_v63 val_main_v62
  simp only [pointwise, v61_eq, v44_eq, OfNat.ofNat_ne_one, ↓reduceDIte, v51_eq]

theorem v70_eq (n : Fin 16) (h : Fin 2) (g : Fin 4) (q : Fin 128) :
    val_main_v70 (F := Ideal) x0 x1 x2 (ix4 n h g q) = negR (Pr x0) (Dr x2) (Sr x1) n h g q := by
  unfold val_main_v70 val_main_v67 val_main_v66 val_main_v65 val_main_cst_13 val_main_cst_12
  simp only [pointwise, v64_eq, zero_add, Finset.univ_unique, Finset.sum_singleton]
  rfl

theorem v73_eq (n : Fin 16) (h : Fin 2) (g : Fin 4) (q : Fin 128) (t : Fin 257) :
    val_main_v73 (F := Ideal) x0 x1 x2 (ix5 n h g q t) = dsR (Pr x0) (Dr x2) (Sr x1) n h g q t := by
  unfold val_main_v73 val_main_v72 val_main_v71 val_main_v69 val_main_v68 val_main_v46
  simp only [pointwise, v61_eq, v44_eq, OfNat.ofNat_ne_one, ↓reduceDIte, v45_eq, v70_eq]
  try rfl

/-- A sum over the first axis and the last two of a rank-5 array whose last axis has one element. -/
theorem sum_d034 (hr : S16x2x4x128x1.ReducesTo [0, 3, 4] S2x4) (x : S16x2x4x128x1.Idx → EReal) (z : EReal) (h : Fin 2) (g : Fin 4) :
    Ideal.hostReduceAdd hr x z (ix2 h g) = z + ∑ n : Fin 16, ∑ q : Fin 128, x (ix5 n h g q 0) := by
  unfold Ideal.hostReduceAdd
  have h0 : ∀ i, (hr.drop i 0 : Nat) = i 1 := fun i => hr.drop_apply_val_of_eq i 0 1 (by decide) rfl
  have h1 : ∀ i, (hr.drop i 1 : Nat) = i 2 := fun i => hr.drop_apply_val_of_eq i 1 2 (by decide) rfl
  congr 1
  rw [← Fintype.sum_prod_type']
  refine Finset.sum_nbij' (fun i => (i 0, i 3)) (fun p => ix5 p.1 h g p.2 0) ?_ ?_ ?_ ?_ ?_
  · exact fun _ _ => Finset.mem_univ _
  · intro p _
    refine Finset.mem_filter.mpr ⟨Finset.mem_univ _, funext fun k => match k with
      | ⟨0, _⟩ => Fin.ext (h0 _)
      | ⟨1, _⟩ => Fin.ext (h1 _)⟩
  · intro i hi
    have e := (Finset.mem_filter.mp hi).2
    exact idx5_ext rfl ((congrArg (fun k => (k 0).val) e).symm.trans (h0 i)) ((congrArg (fun k => (k 1).val) e).symm.trans (h1 i)) rfl
      (Nat.lt_one_iff.mp (i 4).isLt).symm
  · exact fun _ _ => rfl
  · intro i hi
    have e := (Finset.mem_filter.mp hi).2
    exact congrArg x (idx5_ext rfl ((h0 i).symm.trans (congrArg (fun k => (k 0).val) e)) ((h1 i).symm.trans (congrArg (fun k => (k 1).val) e)) rfl
      (Nat.lt_one_iff.mp (i 4).isLt))

/-- The sinks' gradient. -/
theorem v76_eq (h : Fin 2) (g : Fin 4) :
    val_main_v76 (F := Ideal) x0 x1 x2 (ix2 h g) = ∑ n : Fin 16, ∑ q : Fin 128, dsR (Pr x0) (Dr x2) (Sr x1) n h g q 256 := by
  unfold val_main_v76 val_main_v75 val_main_cst_14
  simp only [pointwise, v73_eq, zero_add]
  rw [sum_d034, zero_add]
  refine Finset.sum_congr rfl fun n _ => Finset.sum_congr rfl fun q _ => ?_
  simp only [pointwise, v73_eq]
  exact congrR (dsR (Pr x0) (Dr x2) (Sr x1)) (Nat.zero_add _) (Nat.zero_add _) (Nat.zero_add _) (Nat.zero_add _) rfl

/-- The gradient of a score under the mask. -/
def dmR (P D : ℕ → ℕ → EReal) (S : ℕ → EReal) (n h g q j : ℕ) : EReal :=
  if ok n (128 * g + q) j then dsR P D S n h g q j * c8 else 0

theorem v83_eq (n : Fin 16) (h : Fin 2) (j : Fin 256) (q : Fin 128) (g : Fin 4) :
    val_main_v83 (F := Ideal) x0 x1 x2 (ix5 n h j q g) = dmR (Pr x0) (Dr x2) (Sr x1) n h g q j := by
  unfold val_main_v83 val_main_v82 val_main_v81 val_main_v80 val_main_v79 val_main_v74 val_main_cst_15 val_main_cst_16
  simp only [pointwise, v33_eq, v73_eq]
  unfold dmR
  split_ifs
  · exact congrArg (· * c8) (congrR (dsR (Pr x0) (Dr x2) (Sr x1)) (Nat.zero_add n.val) (Nat.zero_add h.val) (Nat.zero_add g.val)
      (Nat.zero_add q.val) (Nat.zero_add j.val))
  · rfl

/-- The queries' gradient. -/
theorem v85_eq (n : Fin 16) (q : Fin 128) (h : Fin 2) (g : Fin 4) (l : Fin 64) :
    val_main_v85 (F := Ideal) x0 x1 x2 (ix5 n q h g l)
      = ∑ j : Fin 256, dmR (Pr x0) (Dr x2) (Sr x1) n h g q j * band (Pr x0) n j (512 + (64 * h.val + l.val)) := by
  unfold val_main_v85 val_main_v84
  simp only [pointwise, v83_eq, v10_eq, zero_add]

/-- The keys' gradient, one block. -/
theorem v87_eq (n : Fin 16) (j : Fin 256) (h : Fin 2) (l : Fin 64) :
    val_main_v87 (F := Ideal) x0 x1 x2 (ix4 n j h l)
      = ∑ q : Fin 128, ∑ g : Fin 4, dmR (Pr x0) (Dr x2) (Sr x1) n h g q j
          * Pr x0 (128 * n.val + q.val) (256 * h.val + 64 * g.val + l.val) := by
  unfold val_main_v87 val_main_v86
  simp only [pointwise, v83_eq, v1_eq, zero_add]

/-- A block's own part and the next block's part for the rows before it, row `r` of the whole. -/
def fold2 (f : ℕ → ℕ → EReal) (r : ℕ) : EReal := f (r / 128) (128 + r % 128) + if r / 128 < 15 then f (r / 128 + 1) (r % 128) else 0

theorem shifted (y : S16x256x2x64.Idx → EReal) (n : Fin 16) (q : Fin 128) (h : Fin 2) (l : Fin 64) :
    addf (F := Ideal) (φ := .f32) (extractStridedSlice S16x128x2x64 ![0, 128, 0, 0] y slices_S16x256x2x64_S16x128x2x64_0_128_0_0)
        (pad S16x128x2x64 ![0, 0, 0, 0] ![1, 0, 0, 0] ![0, 0, 0, 0]
          (extractStridedSlice S15x128x2x64 ![1, 0, 0, 0]
            (extractStridedSlice S16x128x2x64 ![0, 0, 0, 0] y slices_S16x256x2x64_S16x128x2x64_0_0_0_0) slices_S16x128x2x64_S15x128x2x64_1_0_0_0)
          (constant S_ .f32 0x00000000#32) pads_S15x128x2x64_S16x128x2x64_010_000_000_000 h_S_) (ix4 n q h l)
      = y (ix4 n ⟨128 + q.val, by omega⟩ h l)
        + if hn : n.val < 15 then y (ix4 ⟨n.val + 1, by omega⟩ ⟨q.val, by omega⟩ h l) else 0 := by
  simp only [pointwise]
  refine congrArg₂ (· + ·) (congrArg y (idx4_ext (Nat.zero_add _) rfl (Nat.zero_add _) (Nat.zero_add _))) ?_
  by_cases hn : n.val < 15
  · rw [dif_pos hn, dif_pos (fun a => match a with
      | ⟨0, _⟩ => ⟨Nat.zero_le _, Nat.mod_one _, (pad0 n.val).symm ▸ hn⟩
      | ⟨1, _⟩ => ⟨Nat.zero_le _, Nat.mod_one _, (pad0 q.val).symm ▸ q.isLt⟩
      | ⟨2, _⟩ => ⟨Nat.zero_le _, Nat.mod_one _, (pad0 h.val).symm ▸ h.isLt⟩
      | ⟨3, _⟩ => ⟨Nat.zero_le _, Nat.mod_one _, (pad0 l.val).symm ▸ l.isLt⟩)]
    refine congrArg y (idx4_ext ?_ ?_ ?_ ?_)
    · show 0 + (1 + (n.val - 0) / (0 + 1)) = n.val + 1; omega
    · show 0 + (0 + (q.val - 0) / (0 + 1)) = q.val; omega
    · show 0 + (0 + (h.val - 0) / (0 + 1)) = h.val; omega
    · show 0 + (0 + (l.val - 0) / (0 + 1)) = l.val; omega
  · rw [dif_neg hn, dif_neg (fun hin => hn (pad0 n.val ▸ (hin 0).2.2))]

theorem v99_eq (n : Fin 16) (q : Fin 128) (h : Fin 2) (l : Fin 64) :
    val_main_v99 (F := Ideal) x0 x1 x2 (ix4 n q h l)
      = val_main_v87 (F := Ideal) x0 x1 x2 (ix4 n ⟨128 + q.val, by omega⟩ h l)
        + if hn : n.val < 15 then val_main_v87 (F := Ideal) x0 x1 x2 (ix4 ⟨n.val + 1, by omega⟩ ⟨q.val, by omega⟩ h l) else 0 :=
  shifted (val_main_v87 (F := Ideal) x0 x1 x2) n q h l

theorem v93_eq (n : Fin 16) (q : Fin 128) (h : Fin 2) (l : Fin 64) :
    val_main_v93 (F := Ideal) x0 x1 x2 (ix4 n q h l)
      = val_main_v60 (F := Ideal) x0 x1 x2 (ix4 n ⟨128 + q.val, by omega⟩ h l)
        + if hn : n.val < 15 then val_main_v60 (F := Ideal) x0 x1 x2 (ix4 ⟨n.val + 1, by omega⟩ ⟨q.val, by omega⟩ h l) else 0 :=
  shifted (val_main_v60 (F := Ideal) x0 x1 x2) n q h l

/-- The gradients of a block's queries, keys and values, at head `h` and lane `l`. -/
def dqR (P D : ℕ → ℕ → EReal) (S : ℕ → EReal) (n h g q l : ℕ) : EReal :=
  ∑ j : Fin 256, dmR P D S n h g q j * band P n j (512 + (64 * h + l))
def dkR (P D : ℕ → ℕ → EReal) (S : ℕ → EReal) (h l n j : ℕ) : EReal :=
  ∑ q : Fin 128, ∑ g : Fin 4, dmR P D S n h g q j * P (128 * n + q.val) (256 * h + 64 * g.val + l)
def dvR (P D : ℕ → ℕ → EReal) (S : ℕ → EReal) (h l n j : ℕ) : EReal :=
  ∑ g : Fin 4, ∑ q : Fin 128, D (128 * n + q.val) (256 * h + 64 * g.val + l) * Ideal.div (eR P S n h g q j) (sR P S n h g q)

/-- The gradient of the queries', keys' and values' columns. -/
def gradR (P D : ℕ → ℕ → EReal) (S : ℕ → EReal) (r x : ℕ) : EReal :=
  if x < 512 then dqR P D S (r / 128) (x / 256) (x % 256 / 64) (r % 128) (x % 64)
  else if x < 640 then fold2 (dkR P D S ((x - 512) / 64) (x % 64)) r
  else fold2 (dvR P D S ((x - 640) / 64) (x % 64)) r

theorem joined (y0 : S2048x512.Idx → EReal) (y1 y2 : S2048x128.Idx → EReal) (r : Fin 2048) (x : Fin 768) :
    concatenate S2048x768 1 [⟨S2048x512, y0⟩, ⟨S2048x128, y1⟩, ⟨S2048x128, y2⟩] concatenates_S2048x512_S2048x128_S2048x128_S2048x768_d1 (ix2 r x)
      = if h1 : x.val < 512 then y0 (ix2 r ⟨x.val, h1⟩)
        else if h2 : x.val < 640 then y1 (ix2 r ⟨x.val - 512, by omega⟩)
        else y2 (ix2 r ⟨x.val - 640, by have := x.isLt; omega⟩) := by
  simp only [pointwise]
  by_cases h1 : x.val < 512
  · rw [dif_pos h1]
    exact (dif_pos h1).trans (congrArg y0 (Cert.Common.idx2_ext rfl rfl))
  · rw [dif_neg h1]
    refine (dif_neg h1).trans ?_
    by_cases h2 : x.val < 640
    · rw [dif_pos h2]
      exact (dif_pos (show x.val - 512 < 128 by omega)).trans (congrArg y1 (Cert.Common.idx2_ext rfl rfl))
    · rw [dif_neg h2]
      exact (dif_neg (show ¬ x.val - 512 < 128 by omega)).trans
        (congrArg y2 (Cert.Common.idx2_ext rfl (show x.val - 512 - 128 = x.val - 640 by omega)))

theorem fold2_eq (f : ℕ → ℕ → EReal) (r : ℕ) (hr : r < 2048) (a b : EReal) (ha : a = f (r / 128) (128 + r % 128))
    (hb : b = if r / 128 < 15 then f (r / 128 + 1) (r % 128) else 0) : a + b = fold2 f r := by rw [ha, hb]; rfl

theorem v103_eq (r : Fin 2048) (x : Fin 768) :
    val_main_v103 (F := Ideal) x0 x1 x2 (ix2 r x) = gradR (Pr x0) (Dr x2) (Sr x1) r x := by
  have hr := r.isLt
  have hx := x.isLt
  unfold val_main_v103 gradR
  rw [joined]
  by_cases h1 : x.val < 512
  · rw [if_pos h1, dif_pos h1, val_main_v100_apply,
      show idx_main_v100 (ix2 r ⟨x.val, h1⟩) = ix5 ⟨r.val / 128, by omega⟩ ⟨r.val % 128, by omega⟩
        ⟨x.val / 256, by omega⟩ ⟨x.val % 256 / 64, by omega⟩ ⟨x.val % 64, by omega⟩ from
        idx5_ext (by dsimp only [idx_main_v100, pointwise]; omega) (by dsimp only [idx_main_v100, pointwise]; omega)
          (by dsimp only [idx_main_v100, pointwise]; omega) (by dsimp only [idx_main_v100, pointwise]; omega)
          (by dsimp only [idx_main_v100, pointwise]; omega), v85_eq]
    rfl
  · rw [if_neg h1, dif_neg h1]
    by_cases h2 : x.val < 640
    · rw [if_pos h2, dif_pos h2, val_main_v101_apply,
        show idx_main_v101 (ix2 r ⟨x.val - 512, by omega⟩) = ix4 ⟨r.val / 128, by omega⟩ ⟨r.val % 128, by omega⟩
          ⟨(x.val - 512) / 64, by omega⟩ ⟨x.val % 64, by omega⟩ from
          idx4_ext (by dsimp only [idx_main_v101, pointwise]; omega) (by dsimp only [idx_main_v101, pointwise]; omega)
            (by dsimp only [idx_main_v101, pointwise]; omega) (by dsimp only [idx_main_v101, pointwise]; omega), v99_eq]
      refine fold2_eq _ _ hr _ _ (v87_eq ..) ?_
      split_ifs with h3
      · exact v87_eq ..
      · rfl
    · rw [if_neg h2, dif_neg h2, val_main_v102_apply,
        show idx_main_v102 (ix2 r ⟨x.val - 640, by omega⟩) = ix4 ⟨r.val / 128, by omega⟩ ⟨r.val % 128, by omega⟩
          ⟨(x.val - 640) / 64, by omega⟩ ⟨x.val % 64, by omega⟩ from
          idx4_ext (by dsimp only [idx_main_v102, pointwise]; omega) (by dsimp only [idx_main_v102, pointwise]; omega)
            (by dsimp only [idx_main_v102, pointwise]; omega) (by dsimp only [idx_main_v102, pointwise]; omega), v93_eq]
      refine fold2_eq _ _ hr _ _ (v60_eq ..) ?_
      split_ifs with h3
      · exact v60_eq ..
      · rfl

/-- The sinks' gradient, head by head. -/
def sinkR (P D : ℕ → ℕ → EReal) (S : ℕ → EReal) (u : ℕ) : EReal := ∑ n : Fin 16, ∑ q : Fin 128, dsR P D S n (u / 4) (u % 4) q 256

theorem padded (y : S1x8.Idx → EReal) (c : Fin 128) :
    pad S1x128 ![0, 0] ![0, 120] ![0, 0] y (constant (F := Ideal) S_ .f32 0x00000000#32) pads_S1x8_S1x128_000_01200 h_S_ (ix2 0 c)
      = if h : c.val < 8 then y (ix2 0 ⟨c.val, h⟩) else 0 := by
  simp only [pointwise]
  by_cases hc : c.val < 8
  · rw [dif_pos hc, dif_pos ⟨⟨Nat.zero_le _, Nat.mod_one _, Nat.zero_lt_one⟩, Nat.zero_le _, Nat.mod_one _, (pad0 c.val).symm ▸ hc⟩]
    exact congrArg y (Cert.Common.idx2_ext rfl (pad0 c.val))
  · rw [dif_neg hc, dif_neg (fun hin => hc (pad0 c.val ▸ hin.2.2.2))]

theorem v105_eq (c : Fin 128) :
    val_main_v105 (F := Ideal) x0 x1 x2 (ix2 0 c) = if c.val < 8 then sinkR (Pr x0) (Dr x2) (Sr x1) c else 0 := by
  unfold val_main_v105 val_main_cst_19
  rw [padded]
  by_cases hc : c.val < 8
  · rw [if_pos hc, dif_pos hc, val_main_v78_apply, val_main_v77_apply,
      show idx_main_v77 (idx_main_v78 (ix2 0 ⟨c.val, hc⟩)) = ix2 ⟨c.val / 4, by omega⟩ ⟨c.val % 4, by omega⟩ from
        Cert.Common.idx2_ext (by dsimp only [idx_main_v77, idx_main_v78, pointwise]; omega)
          (by dsimp only [idx_main_v77, idx_main_v78, pointwise]; omega), v76_eq]
    rfl
  · rw [if_neg hc, dif_neg hc]

end Cert.AttnRef

end
-- ==== Proof.AttnEq.lean ====
/-
  The gradient of the attention: where the projection, the cotangent and the sinks are finite, what the kernel computes
  block by block (`AttnSpec`) is what differentiating the plain attention gives (`AttnRefA`).
-/
module

public import proofs.«01_k».proof.Proof.AttnRefA
public import proofs.«01_k».proof.Proof.AttnVal

@[expose] public section

noncomputable section

namespace Cert.AttnEq

open Idealize.ShloMosaic Cert.AttnSpec Cert.AttnRef
open Cert.Common (Real)
open scoped BigOperators

variable (P D : ℕ → ℕ → EReal) (S : ℕ → EReal) (n h g q : ℕ)

/-! ## A group's lanes -/

/-- A sum over the 128 lanes of a row that is zero outside its head's lanes is the sum over the head's 64 lanes. -/
theorem lanes (X : ℕ → ℕ → EReal) (Y : ℕ → EReal) (hh : h < 2) (hq : q < 128) :
    ∑ l : Fin 128, qs X n h (128 * g + q) l * Y l
      = ∑ l : Fin 64, X (128 * n + q) (256 * h + 64 * g + l.val) * Y (64 * h + l.val) := by
  rw [← Cert.Common.sum_blocks 2 64 fun l : Fin (2 * 64) => qs X n h (128 * g + q) l.val * Y l.val]
  rw [Finset.sum_eq_single (⟨h, hh⟩ : Fin 2)]
  · refine Finset.sum_congr rfl fun l _ => ?_
    dsimp only
    rw [qs, if_pos (by omega), show (128 * g + q) % 128 = q by omega, show (128 * g + q) / 128 = g by omega,
      show (64 * h + l.val) % 64 = l.val by omega]
  · intro b _ hb
    refine Finset.sum_eq_zero fun l _ => ?_
    have : b.val ≠ h := fun e => hb (Fin.ext e)
    rw [qs, if_neg (by dsimp only; omega), zero_mul]
  · exact fun e => absurd (Finset.mem_univ _) e

/-- A key that a query sees is read from the row it names. -/
theorem band_ok {r j : ℕ} (c : ℕ) (hj : ok n r j) : AttnRef.band P n j c = P (krow n j) c := by
  unfold AttnRef.band krow
  by_cases h1 : j < 128
  · have : 0 < n := hj.2.2.resolve_left (by omega)
    rw [if_pos h1, if_pos h1, if_pos this]
  · rw [if_neg h1, if_neg h1]

theorem sm_eq (hh : h < 2) (hq : q < 128) (j : ℕ) (hj : j < 256) :
    sm P n h (128 * g + q) j = xR P S n h g q j := by
  unfold sm xR
  rw [if_pos hj]
  by_cases ho : ok n (128 * g + q) j
  · rw [if_pos ho, if_pos ho, sc, scR, lanes n h g q P (fun l => P (krow n j) (512 + l)) hh hq]
    refine congrArg (· * c8) (Finset.sum_congr rfl fun l _ => ?_)
    rw [mul_comm, band_ok P n _ ho]
  · rw [if_neg ho, if_neg ho]

theorem mx_eq (hh : h < 2) (hq : q < 128) : mx P S n h (128 * g + q) = mR P S n h g q := by
  unfold mx mR
  rw [Fin.univ_castSuccEmb 256, Finset.fold_cons, Finset.fold_map, max_comm]
  refine congrArg₂ max ?_ ?_
  · exact (congrArg S (by omega)).trans (if_neg (lt_irrefl 256)).symm
  · exact congrArg (Finset.fold max ⊥ · Finset.univ) (funext fun j : Fin 256 => sm_eq P S n h g q hh hq j.val j.isLt)

theorem ex_eq (hh : h < 2) (hq : q < 128) (j : ℕ) (hj : j < 256) :
    ex P S n h (128 * g + q) j = eR P S n h g q j := by
  unfold ex eR
  rw [sm_eq P S n h g q hh hq j hj, mx_eq P S n h g q hh hq]

theorem es_eq (hh : h < 2) (hq : q < 128) : es P S n h (128 * g + q) = eR P S n h g q 256 := by
  unfold es eR
  rw [mx_eq P S n h g q hh hq, xR, if_neg (lt_irrefl _), show (128 * g + q) / 128 = g by omega]

theorem sum_eq (hh : h < 2) (hq : q < 128) :
    (∑ j : Fin 256, ex P S n h (128 * g + q) j) + es P S n h (128 * g + q) = sR P S n h g q := by
  unfold sR
  rw [Fin.sum_univ_castSucc (n := 256), es_eq P S n h g q hh hq]
  exact congrArg₂ (· + ·) (Finset.sum_congr rfl fun (j : Fin 256) _ => ex_eq P S n h g q hh hq j.val j.isLt) rfl

/-! ## One row, over the reals -/

section Real

variable (hP : ∀ a b, Real (P a b)) (hD : ∀ a b, Real (D a b)) (hS : ∀ a, Real (S a))

theorem c8_real : Real c8 := ⟨8⁻¹, by simp [c8, Ideal.ofBits, Ideal.ieee, -EReal.coe_mul]; norm_num⟩

include hP in
theorem band_real (j c : ℕ) : Real (AttnRef.band P n j c) := by
  unfold AttnRef.band
  split_ifs
  · exact hP _ _
  · exact Real.coe 0
  · exact hP _ _

include hP hS in
theorem x_real (t : ℕ) : xR P S n h g q t = ⊥ ∨ Real (xR P S n h g q t) := by
  unfold xR
  split_ifs
  · exact .inr (Real.mul (Real.sum _ fun l => Real.mul (band_real P n hP _ _) (hP _ _)) c8_real)
  · exact .inl rfl
  · exact .inr (hS _)

include hP hS in
theorem m_real : Real (mR P S n h g q) := by
  have hlt : mR P S n h g q < ⊤ := Finset.fold_max_lt _ |>.mpr ⟨bot_lt_top, fun t _ => by
    obtain e | ⟨r, e⟩ := x_real P S n h g q hP hS t.val
    · rw [e]; exact bot_lt_top
    · rw [e]; exact EReal.coe_lt_top r⟩
  have hge : ⊥ < mR P S n h g q := by
    refine lt_of_lt_of_le ?_ ((Finset.le_fold_max _).mpr (.inr ⟨(⟨256, by decide⟩ : Fin 257), Finset.mem_univ _, le_rfl⟩))
    rw [xR, if_neg (lt_irrefl _)]
    obtain ⟨s, e⟩ := hS (4 * h + g)
    rw [e]; exact EReal.bot_lt_coe s
  exact ⟨(mR P S n h g q).toReal, (EReal.coe_toReal hlt.ne hge.ne').symm⟩

include hP hS in
/-- The exponentials of a row are real, not negative, the sink's positive, a masked key's zero. -/
theorem row_real : ∃ e : ℕ → ℝ, (∀ t, eR P S n h g q t = (e t : EReal)) ∧ (∀ t, 0 ≤ e t) ∧ 0 < e 256
    ∧ ∀ j, j < 256 → ¬ ok n (128 * g + q) j → e j = 0 := by
  obtain ⟨μ, hμ⟩ := m_real P S n h g q hP hS
  have key : ∀ t, ∃ r : ℝ, eR P S n h g q t = (r : EReal) ∧ 0 ≤ r ∧ (xR P S n h g q t ≠ ⊥ → 0 < r) ∧ (xR P S n h g q t = ⊥ → r = 0) := by
    intro t
    unfold eR
    obtain e | ⟨x, e⟩ := x_real P S n h g q hP hS t
    · exact ⟨0, by rw [e, hμ, EReal.bot_sub, Ideal.exp_bot, EReal.coe_zero], le_rfl, fun hx => absurd e hx, fun _ => rfl⟩
    · exact ⟨Real.exp (x - μ), by rw [e, hμ, ← EReal.coe_sub, Ideal.exp_coe], (Real.exp_pos _).le, fun _ => Real.exp_pos _,
        fun hx => absurd (e.symm.trans hx) (EReal.coe_ne_bot x)⟩
  choose e he h0 hp hz using key
  refine ⟨e, he, h0, hp 256 ?_, fun j hj ho => hz j ?_⟩
  · rw [xR, if_neg (lt_irrefl _)]
    obtain ⟨s, es⟩ := hS (4 * h + g)
    rw [es]; exact EReal.coe_ne_bot s
  · rw [xR, if_pos hj, if_neg ho]

include hP hD in
theorem dp_real (t : ℕ) : Real (dpR P D n h g q t) := by
  unfold dpR
  split_ifs
  · exact Real.sum _ fun l => Real.mul (hD _ _) (band_real P n hP _ _)
  · exact Real.coe 0

include hP hD in
theorem dpk_real (r j : ℕ) : Real (dp P D n h r j) := by
  unfold dp qs
  refine Real.sum _ fun l => Real.mul ?_ (hP _ _)
  split_ifs
  · exact hD _ _
  · exact Real.coe 0

theorem dp_eq (hh : h < 2) (hq : q < 128) (j : ℕ) (hj : j < 256) (ho : ok n (128 * g + q) j) :
    dp P D n h (128 * g + q) j = dpR P D n h g q j := by
  unfold dp dpR
  rw [if_pos hj, lanes n h g q D (fun l => P (krow n j) (640 + l)) hh hq]
  exact Finset.sum_congr rfl fun l _ => by rw [band_ok P n _ ho]

theorem div_real {a b : ℝ} (hb : b ≠ 0) : Ideal.div (a : EReal) (b : EReal) = ((a / b : ℝ) : EReal) := by
  rw [Ideal.div_coe hb, ← EReal.coe_mul, mul_one_div]

include hP hD hS in
/-- A row's weights, its scores' gradient and its sink's. -/
theorem row_eq (hh : h < 2) (hq : q < 128) :
    (∀ j, j < 256 → pr P S n h (128 * g + q) j = Ideal.div (eR P S n h g q j) (sR P S n h g q))
      ∧ (∀ j, j < 256 → ds P D S n h (128 * g + q) j = dmR P D S n h g q j)
      ∧ dsR P D S n h g q 256 = -dsk P D S n h (128 * g + q) ∧ Real (dsk P D S n h (128 * g + q)) := by
  obtain ⟨e, he, h0, hp, hz⟩ := row_real P S n h g q hP hS
  choose d hd using fun t => dp_real P D n h g q hP hD t
  choose d' hd' using fun j => dpk_real P D n h hP hD (128 * g + q) j
  obtain ⟨c, hc⟩ := c8_real
  set s : ℝ := ∑ t : Fin 257, e t with hs
  have hsp : 0 < s := Finset.sum_pos' (fun t _ => h0 t) ⟨⟨256, by decide⟩, Finset.mem_univ _, hp⟩
  have hsR : sR P S n h g q = (s : EReal) := by
    rw [sR, hs, Cert.Common.coe_sum]; exact Finset.sum_congr rfl fun t _ => he t
  have hrs : rs P S n h (128 * g + q) = ((1 / s : ℝ) : EReal) := by
    rw [rs, sum_eq P S n h g q hh hq, hsR, ← EReal.coe_one, div_real hsp.ne']
  have hpr : ∀ j, j < 256 → pr P S n h (128 * g + q) j = ((e j / s : ℝ) : EReal) := fun j hj => by
    rw [pr, ex_eq P S n h g q hh hq j hj, he, hrs, ← EReal.coe_mul, mul_one_div]
  have hed : ∀ j, j < 256 → e j * d' j = e j * d j := fun j hj => by
    by_cases ho : ok n (128 * g + q) j
    · have := (hd' j).symm.trans ((dp_eq P D n h g q hh hq j hj ho).trans (hd j))
      rw [EReal.coe_eq_coe_iff.mp this]
    · rw [hz j hj ho, zero_mul, zero_mul]
  set δ : ℝ := ∑ j : Fin 256, e j / s * d' j with hδ
  have hdel : del P D S n h (128 * g + q) = (δ : EReal) := by
    rw [del, hδ, Cert.Common.coe_sum]
    exact Finset.sum_congr rfl fun j _ => by rw [hpr j j.isLt, hd', ← EReal.coe_mul]
  have hd256 : d 256 = 0 := by
    have := (hd 256).symm
    rw [dpR, if_neg (lt_irrefl _)] at this
    exact EReal.coe_eq_zero.mp this
  have hneg : negR P D S n h g q = ((-(δ / s) : ℝ) : EReal) := by
    rw [negR, hsR, ← EReal.coe_mul, ← EReal.coe_one, div_real (mul_pos hsp hsp).ne']
    rw [EReal.coe_neg, hδ, Finset.sum_div, Cert.Common.coe_sum, Fin.sum_univ_castSucc (n := 256)]
    have hl : dpR P D n h g q (Fin.last 256).val = 0 := by
      rw [Fin.val_last, hd, hd256, EReal.coe_zero]
    rw [hl, zero_mul, zero_mul, add_zero]
    refine congrArg Neg.neg (Finset.sum_congr rfl fun j _ => ?_)
    rw [Fin.val_castSucc, hd, he, ← EReal.coe_mul, ← EReal.coe_mul]
    refine congrArg _ ?_
    have := hed j.val j.isLt
    field_simp
    linarith
  have hds : ∀ t, dsR P D S n h g q t = (((d t - δ) * (e t / s) : ℝ) : EReal) := fun t => by
    rw [dsR, hsR, hd, div_real hsp.ne', hneg, he, ← EReal.coe_add, ← EReal.coe_mul]
    exact congrArg _ (by field_simp; ring)
  have hdk : dsk P D S n h (128 * g + q) = ((e 256 * (1 / s) * δ : ℝ) : EReal) := by
    rw [dsk, ps, es_eq P S n h g q hh hq, he, hrs, hdel, ← EReal.coe_mul, ← EReal.coe_mul]
  refine ⟨fun j hj => ?_, fun j hj => ?_, ?_, ⟨_, hdk⟩⟩
  · rw [hpr j hj, he, hsR, div_real hsp.ne']
  · rw [ds, hpr j hj, hdel, hd', dmR, hc, hds, ← EReal.coe_sub, ← EReal.coe_mul, ← EReal.coe_mul, ← EReal.coe_mul]
    by_cases ho : ok n (128 * g + q) j
    · rw [if_pos ho]
      refine congrArg _ ?_
      have := hed j hj
      field_simp
      linear_combination c * this
    · rw [if_neg ho, hz j hj ho, zero_div, zero_mul, zero_mul, EReal.coe_zero]
  · rw [hds, hdk, ← EReal.coe_neg, hd256]
    exact congrArg _ (by field_simp; ring)

/-! ## The arrays -/

theorem ex_masked (r j : ℕ) (ho : ¬ ok n r j) : ex P S n h r j = 0 := by
  rw [ex, sm, if_neg ho, EReal.bot_sub, Ideal.exp_bot]

theorem pr_masked (r j : ℕ) (ho : ¬ ok n r j) : pr P S n h r j = 0 := by
  rw [pr, ex_masked P S n h r j ho, zero_mul]

theorem ds_masked (r j : ℕ) (ho : ¬ ok n r j) : ds P D S n h r j = 0 := by
  rw [ds, pr_masked P S n h r j ho, zero_mul, zero_mul]

/-- A sum over a group's 512 rows, four heads of 128 queries. -/
theorem rows (f : ℕ → EReal) : ∑ r : Fin 512, f r = ∑ g : Fin 4, ∑ q : Fin 128, f (128 * g.val + q.val) :=
  (Cert.Common.sum_blocks 4 128 fun r : Fin (4 * 128) => f r.val).symm

theorem qs_row (X : ℕ → ℕ → EReal) (l : ℕ) (hq : q < 128) :
    qs X n h (128 * g + q) l = if l / 64 = h then X (128 * n + q) (256 * h + 64 * g + l % 64) else 0 := by
  rw [qs, show (128 * g + q) % 128 = q by omega, show (128 * g + q) / 128 = g by omega]

include hP hD hS in
theorem dq_eq (l : ℕ) (hh : h < 2) (hq : q < 128) :
    dq P D S n h (128 * g + q) (64 * h + l) = dqR P D S n h g q l := by
  unfold dq dqR
  refine Finset.sum_congr rfl fun j _ => ?_
  rw [(row_eq P D S n h g q hP hD hS hh hq).2.1 j j.isLt, dmR]
  by_cases ho : ok n (128 * g + q) j
  · rw [band_ok P n _ ho]
  · rw [if_neg ho, zero_mul, zero_mul]

include hP hD hS in
theorem dk_eq (j l : ℕ) (hh : h < 2) (hj : j < 256) :
    dk P D S n h j l = if l / 64 = h then dkR P D S h (l % 64) n j else 0 := by
  unfold dk dkR
  rw [rows fun r => ds P D S n h r j * qs P n h r l]
  by_cases hl : l / 64 = h
  · rw [if_pos hl, Finset.sum_comm]
    refine Finset.sum_congr rfl fun q _ => Finset.sum_congr rfl fun g _ => ?_
    rw [(row_eq P D S n h g q hP hD hS hh q.isLt).2.1 j hj, qs_row n h g q P l q.isLt, if_pos hl]
  · rw [if_neg hl]
    refine Finset.sum_eq_zero fun g _ => Finset.sum_eq_zero fun q _ => ?_
    rw [qs_row n h g q P l q.isLt, if_neg hl, mul_zero]

include hP hD hS in
theorem dv_eq (j l : ℕ) (hh : h < 2) (hj : j < 256) :
    dv P D S n h j l = if l / 64 = h then dvR P D S h (l % 64) n j else 0 := by
  unfold dv dvR
  rw [rows fun r => pr P S n h r j * qs D n h r l]
  by_cases hl : l / 64 = h
  · rw [if_pos hl]
    refine Finset.sum_congr rfl fun g _ => Finset.sum_congr rfl fun q _ => ?_
    rw [(row_eq P D S n h g q hP hD hS hh q.isLt).1 j hj, qs_row n h g q D l q.isLt, if_pos hl, mul_comm]
  · rw [if_neg hl]
    refine Finset.sum_eq_zero fun g _ => Finset.sum_eq_zero fun q _ => ?_
    rw [qs_row n h g q D l q.isLt, if_neg hl, mul_zero]

/-- Of the two heads' lanes only one is the lane's own. -/
theorem two_heads (f : ℕ → ℕ → EReal) (l j : ℕ) (hl : l < 128) :
    (if l / 64 = 0 then f 0 j else 0) + (if l / 64 = 1 then f 1 j else 0) = f (l / 64) j := by
  by_cases h0 : l / 64 = 0
  · rw [if_pos h0, if_neg (by omega), add_zero, h0]
  · have h1 : l / 64 = 1 := by omega
    rw [if_neg h0, if_pos h1, zero_add, h1]

/-- A gradient of the keys' or values' columns, read from what the trips add. -/
theorem folded (k : ℕ → ℕ → ℕ → ℕ → EReal) (f : ℕ → ℕ → ℕ → EReal) (hz : ∀ h j l, j < 128 → k 0 h j l = 0) (l : ℕ) (hl : l < 128)
    (hk : ∀ n h j, h < 2 → j < 256 → k n h j l = if l / 64 = h then f h n j else 0) (r : ℕ) (hr : r < 2048) :
    ∑ n ∈ Finset.range 16, Cert.AttnTrip.adds k n r l = fold2 (f (l / 64)) r := by
  rw [Cert.AttnTrip.sum_adds k hz r l hr, fold2]
  rw [hk _ 0 _ (by omega) (by omega), hk _ 1 _ (by omega) (by omega), hk _ 0 _ (by omega) (by omega), hk _ 1 _ (by omega) (by omega),
    two_heads (fun h j => f h (r / 128) j) l _ hl, two_heads (fun h j => f h (r / 128 + 1) j) l _ hl]

theorem not_ok {r j : ℕ} (hj : j < 128) : ¬ ok 0 r j := fun ho => by
  rcases ho.2.2 with e | e <;> omega

include hP hD hS in
/-- The gradients of the queries, the keys and the values. -/
theorem grad_eq (r x : ℕ) (hr : r < 2048) (hx : x < 768) : Cert.AttnTrip.grad P D S r x = gradR P D S r x := by
  unfold Cert.AttnTrip.grad gradR
  by_cases h1 : x < 512
  · rw [if_pos h1, if_pos h1, gq]
    exact dq_eq P D S _ _ _ _ hP hD hS _ (by omega) (by omega)
  · rw [if_neg h1, if_neg h1]
    by_cases h2 : x < 640
    · rw [if_pos h2, if_pos h2, show x % 64 = (x - 512) % 64 by omega]
      exact folded _ (fun h => dkR P D S h ((x - 512) % 64)) (fun h j l hj => Finset.sum_eq_zero fun r _ => by
        rw [ds_masked P D S 0 h _ _ (not_ok hj), zero_mul]) _ (by omega) (fun n h j hh hj => dk_eq P D S n h hP hD hS j _ hh hj) r hr
    · rw [if_neg h2, if_neg h2, show x % 64 = (x - 640) % 64 by omega]
      exact folded _ (fun h => dvR P D S h ((x - 640) % 64)) (fun h j l hj => Finset.sum_eq_zero fun r _ => by
        rw [pr_masked P S 0 h _ _ (not_ok hj), zero_mul]) _ (by omega) (fun n h j hh hj => dv_eq P D S n h hP hD hS j _ hh hj) r hr

theorem neg_sum {ι : Type} (s : Finset ι) (f : ι → EReal) (hf : ∀ i, Real (f i)) : 0 - ∑ i ∈ s, f i = ∑ i ∈ s, -f i := by
  choose r hr using hf
  simp only [hr, ← EReal.coe_neg, ← Cert.Common.coe_sum]
  rw [zero_sub, ← EReal.coe_neg, Finset.sum_neg_distrib]

include hP hD hS in
/-- The sinks' gradient. -/
theorem sink_eq (l : ℕ) :
    ∑ k ∈ Finset.range 16, ∑ u : Fin 8, Cert.AttnTrip.sinkAdd P D S k u.val l = if l < 8 then sinkR P D S l else 0 := by
  by_cases hl : l < 8
  · rw [if_pos hl, sinkR, Finset.sum_range]
    refine Finset.sum_congr rfl fun n _ => ?_
    rw [Finset.sum_eq_single (⟨l, hl⟩ : Fin 8)]
    · rw [Cert.AttnTrip.sinkAdd, if_pos rfl, neg_sum]
      · refine Finset.sum_congr rfl fun q _ => ?_
        rw [(row_eq P D S n (l / 4) (l % 4) q hP hD hS (by omega) q.isLt).2.2.1]
      · exact fun q => (row_eq P D S n (l / 4) (l % 4) q hP hD hS (by omega) q.isLt).2.2.2
    · exact fun u _ hu => if_neg fun e => hu (Fin.ext e.symm)
    · exact fun e => absurd (Finset.mem_univ _) e
  · rw [if_neg hl]
    exact Finset.sum_eq_zero fun k _ => Finset.sum_eq_zero fun u _ => if_neg (by have := u.isLt; omega)

end Real

end Cert.AttnEq

end
-- ==== Proof.Attn.lean ====
/-
  The gradient of the attention: the kernel's two arrays, the gradient of the queries, keys and values in their columns and
  the gradient of the sinks, are what differentiating the plain attention gives, for finite arguments.
-/
module

public import proofs.«01_k».proof.Defs
public import proofs.«01_k».proof.Proof.AttnFrames
public import proofs.«01_k».proof.Proof.AttnRun
public import proofs.«01_k».proof.Proof.AttnEq
public import proofs.«01_k».proof.Proof.Gen.AttnBwdRefIdeal.Run
public import proofs.«01_k».proof.Proof.Gen.AttnBwdRefIdeal.Read
public import proofs.«01_k».proof.Proof.Gen.Pre_attn_finite
public import Idealize.ShloMosaic.Lib.Affine

@[expose] public section

noncomputable section

namespace Cert.AttnProof

open Idealize.ShloMosaic Idealize.ShloMosaic.TcCoe Idealize.SL.Sem
open Cert.AttnSpec Cert.AttnKernel
open scoped BigOperators

/-! ## What the precondition gives -/

theorem at2_real {R C : ℕ} (X : (⟨2, ![R, C]⟩ : Shape).Idx → EReal) (hX : ∀ a b, Common.Real (X (ix2 a b))) (a b : ℕ) : Common.Real (at2 X a b) := by
  unfold at2
  split_ifs
  · exact hX _ _
  · exact Common.Real.coe 0

theorem finite_of_pre (m) (h : Cert.Pre_AttnBwdIdeal_attn_finite m) (c : Dev Cert.AttnBwdIdeal.nD) :
    (∀ a b, Common.Real (P m c a b)) ∧ (∀ a b, Common.Real (D m c a b)) ∧ ∀ a, Common.Real (S m c a) := by
  have e := congrFun (h c) ix0
  simp only [Cert.Pre_attn_finite.fn, andi] at e
  obtain ⟨e1, e3⟩ := IntOp.andi_eq_one.mp e
  obtain ⟨e1, e2⟩ := IntOp.andi_eq_one.mp e1
  have r1 := Common.real_of_all _ _ _ _ _ _ e1
  have r2 := Common.real_of_all _ _ _ _ _ _ e2
  have r3 := Common.real_of_all _ _ _ _ _ _ e3
  refine ⟨fun a b => at2_real _ (fun a b => ?_) a b, fun a b => at2_real _ (fun a b => r3 _) a b, fun a => at2_real _ (fun a b => r2 _) 0 a⟩
  have := r1 (ix3 0 a b)
  simp only [pointwise] at this
  refine Eq.mp (congrArg Common.Real ?_) this
  exact congrArg (proj m c) (AttnRef.idx3_ext rfl (Nat.zero_add _) (Nat.zero_add _))

/-! ## The equation -/

open Cert.AttnBwdRefIdeal.Read in
/-- The two programs compute the same two gradients. -/
theorem algebraic : Cert.algebraic_AttnBwdIdeal_AttnBwdRefIdeal_pre_attn_finite := by
  intro m g m' g' hpre hagree
  refine ⟨fun c => G3 m c, fun c => G4 m c, (θ_run Cert.AttnBwdIdeal.defs _ _).mono (fun r h c => ?_) (run_values m g),
    (θ_run Cert.AttnBwdRefIdeal.defs _ _).mono (fun r h c => ?_) (Cert.AttnBwdRefIdeal.Value.run (F := Ideal) m' g')⟩
  · exact h c
  · obtain ⟨h4, h5, ha⟩ := h c
    obtain ⟨e0, e1, e2⟩ := hagree c
    obtain ⟨hP, hD, hS⟩ := finite_of_pre m hpre c
    refine ⟨h4.trans ?_, h5.trans ?_, ha⟩
    · refine (val_main_v104_eq (StableHlo.launchContents m' c)).trans ?_
      rw [show StableHlo.launchContents m' c (Proc.devRef .tc Cert.AttnBwdRefIdeal.main_arg0) = _ from e0,
        show StableHlo.launchContents m' c (Proc.devRef .tc Cert.AttnBwdRefIdeal.main_arg1) = _ from e1,
        show StableHlo.launchContents m' c (Proc.devRef .tc Cert.AttnBwdRefIdeal.main_arg2) = _ from e2]
      funext y
      obtain ⟨r, x, rfl⟩ : ∃ (r : Fin 2048) (x : Fin 768), y = ix2 r x := ⟨y 0, y 1, eq_ix2 y⟩
      exact (AttnRef.v103_eq _ _ _ r x).trans (AttnEq.grad_eq (P m c) (D m c) (S m c) hP hD hS r x r.isLt x.isLt).symm
    · refine (val_main_v105_eq (StableHlo.launchContents m' c)).trans ?_
      rw [show StableHlo.launchContents m' c (Proc.devRef .tc Cert.AttnBwdRefIdeal.main_arg0) = _ from e0,
        show StableHlo.launchContents m' c (Proc.devRef .tc Cert.AttnBwdRefIdeal.main_arg1) = _ from e1,
        show StableHlo.launchContents m' c (Proc.devRef .tc Cert.AttnBwdRefIdeal.main_arg2) = _ from e2]
      funext y
      obtain ⟨z, x, rfl⟩ : ∃ (z : Fin 1) (x : Fin 128), y = ix2 z x := ⟨y 0, y 1, eq_ix2 y⟩
      obtain rfl : z = 0 := Subsingleton.elim _ _
      exact (AttnRef.v105_eq _ _ _ x).trans (AttnEq.sink_eq (P m c) (D m c) (S m c) hP hD hS x).symm

/-- The reference's frame. -/
theorem frame_ref : Cert.quiescent_AttnBwdRefIdeal := fun m ρ _ =>
  (θ_run Cert.AttnBwdRefIdeal.defs _ _).mono (fun r h => ⟨fun c => (h c).2.2, sem_eq_zero_of_no_sems (by decide) r.2⟩)
    (Cert.AttnBwdRefIdeal.Value.run (F := Ideal) m ρ)

end Cert.AttnProof

end
-- ==== Proof.ConvTrip.lean ====
/-
  The gradient of the convolution: what one trip of each loop of the kernel does to the buffers,
  and the loops' invariants.

  The kernel has eight loops that add to the gradient of the taps, and eight that sum the taps of the
  gradient of the convolution's input, all over the eight blocks of 32 rows of a chunk.
-/
module

public import proofs.«01_k».proof.Proof.Gen.ConvBwdIdeal.Loops

@[expose] public section

set_option maxRecDepth 16384
set_option warn.classDefReducibility false

noncomputable section

namespace Cert.ConvTrip

open Cert.ConvBwdIdeal Cert.ConvBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The trips of one of the loops. -/
abbrev Trips := Fin k0_t1_loop.trips

/-- Where the window of tap `j` starts at trip `k`: copy `j % 8` of the window, at row `32 k + 8 (j / 8)`. -/
def winOff (k : Trips) (j : ℕ) : Fin 3 → ℕ :=
  match j % 8 with
  | 0 => k0_off2 k (BitVec.ofNat 32 (8 * (j / 8)))
  | 1 => k0_off3 k (BitVec.ofNat 32 (8 * (j / 8)))
  | 2 => k0_off4 k (BitVec.ofNat 32 (8 * (j / 8)))
  | 3 => k0_off5 k (BitVec.ofNat 32 (8 * (j / 8)))
  | 4 => k0_off6 k (BitVec.ofNat 32 (8 * (j / 8)))
  | 5 => k0_off7 k (BitVec.ofNat 32 (8 * (j / 8)))
  | 6 => k0_off8 k (BitVec.ofNat 32 (8 * (j / 8)))
  | _ => k0_off9 k (BitVec.ofNat 32 (8 * (j / 8)))

theorem winOff_eq (k : Trips) (j : ℕ) (hj : j < 31) : winOff k j = ![j % 8, 32 * k.val + 8 * (j / 8), 0] := by
  have h4 : j / 8 < 4 := by omega
  have h8 : j % 8 < 8 := by omega
  have h7 : j / 8 = 3 → j % 8 < 7 := by omega
  unfold winOff
  generalize j / 8 = q at *
  generalize j % 8 = b at *
  clear hj
  match b, h8 with
  | 0, _ => exact k0_off2_eq k ⟨q, h4⟩
  | 1, _ => exact k0_off3_eq k ⟨q, h4⟩
  | 2, _ => exact k0_off4_eq k ⟨q, h4⟩
  | 3, _ => exact k0_off5_eq k ⟨q, h4⟩
  | 4, _ => exact k0_off6_eq k ⟨q, h4⟩
  | 5, _ => exact k0_off7_eq k ⟨q, h4⟩
  | 6, _ => exact k0_off8_eq k ⟨q, h4⟩
  | 7, _ => exact k0_off9_eq k ⟨q, by omega⟩

theorem trips_lt (k : Trips) : k.val < 8 := Nat.lt_of_lt_of_le k.isLt k0_t1_abs.2.1

theorem winInb (k : Trips) (j : ℕ) (hj : j < 31) : ∀ a, winOff k j a + S1x32x512.size a ≤ S8x288x512.size a := by
  have hk := trips_lt k
  rw [winOff_eq k j hj]
  intro a
  match a with
  | ⟨0, _⟩ => show j % 8 + 1 ≤ 8; omega
  | ⟨1, _⟩ => show 32 * k.val + 8 * (j / 8) + 32 ≤ 288; omega
  | ⟨2, _⟩ => show 0 + 512 ≤ 512; omega

theorem rowInb (j : ℕ) (hj : j < 31) : ∀ a, ![8 * j, 0] a + S8x512.size a ≤ S256x512.size a := by
  intro a
  match a with
  | ⟨0, _⟩ => show 8 * j + 8 ≤ 256; omega
  | ⟨1, _⟩ => show 0 + 512 ≤ 512; omega

theorem tapInb (j : ℕ) (hj : j < 31) : ∀ a, ![30 - j, 0] a + S1x512.size a ≤ S32x512.size a := by
  intro a
  match a with
  | ⟨0, _⟩ => show 30 - j + 1 ≤ 32; omega
  | ⟨1, _⟩ => show 0 + 512 ≤ 512; omega

theorem chunkInb (n : ℕ) (hn : n < 8) : ∀ a, ![256 * n, 0] a + S256x512.size a ≤ S2112x512.size a := by
  intro a
  match a with
  | ⟨0, _⟩ => show 256 * n + 256 ≤ 2112; omega
  | ⟨1, _⟩ => show 0 + 512 ≤ 512; omega

section Mem

variable (c : Dev nD)
  (arg7 : Memref sig .tc .vmem S32x512 .f32) (arg17 : Memref sig .tc .vmem S2112x512 .f32)
  (arg18 : Memref sig .tc .vmem S8x288x512 .f32) (arg19 : Memref sig .tc .vmem S256x512 .f32)
  (arg20 : Memref sig .tc .vmem S256x512 .f32)
  (X7 : BufTy.Contents (Elt F) arg7.view.ty) (X17 : BufTy.Contents (Elt F) arg17.view.ty)
  (X18 : BufTy.Contents (Elt F) arg18.view.ty)

/-- The whole of a buffer, held with its contents. -/
abbrev held {sp : Space} {s : Shape} {e : EltTy} (a : Memref sig .tc sp s e) (f : BufTy.Contents (Elt F) a.view.ty) : sProp 𝕄G :=
  (a.view.loc (c : Thread nD τ) ↦[a.view.set]{fullShare} f)

/-- The 32 rows of the gradient that trip `k` of chunk `n` reads. -/
def block (n : ℕ) (hn : n < 8) (k : Trips) : Vec F S32x512 .f32 :=
  View.readAt (Elt F) arg17.view
    ((Rect.unit (s := S2112x512) ![256 * n, 0] S256x512.size (chunkInb n hn)).withinL
      (Rect.unit (s := S256x512) (k0_off1 k) S32x512.size (k0_off1_inb k)).toLoadRect (fun _ => rfl)) X17

/-- The 32 rows of the window that tap `j` reads at trip `k`. -/
def window (k : Trips) (j : ℕ) (hj : j < 31) : Vec F S1x32x512 .f32 :=
  View.readAt (Elt F) arg18.view (Rect.unit (s := S8x288x512) (winOff k j) S1x32x512.size (winInb k j hj)).toLoadRect X18

/-- Tap `30 - j`. -/
def tap (j : ℕ) (hj : j < 31) : Vec F S1x512 .f32 :=
  View.readAt (Elt F) arg7.view (Rect.unit (s := S32x512) ![30 - j, 0] S1x512.size (tapInb j hj)).toLoadRect X7

/-- What a trip of the gradient of the taps stores, the latest first: for each tap its eight rows of sums. -/
def accPieces (D : Vec F S32x512 .f32) (W : (j : ℕ) → j < 31 → Vec F S1x32x512 .f32) (f : BufTy.Contents (Elt F) arg20.view.ty) :
    (j : ℕ) → j ≤ 31 → List (View.Piece (Elt F) S256x512 .f32)
  | 0, _ => []
  | j + 1, h =>
    ⟨Rect.unit (s := S256x512) ![8 * j, 0] S8x512.size (rowInb j h),
      k0_pay6 D (W j h)
        (View.readAt (Elt F) arg20.view (Rect.unit (s := S256x512) ![8 * j, 0] S8x512.size (rowInb j h)).toLoadRect f)⟩
      :: accPieces D W f j (Nat.le_of_succ_le h)

/-- The sums of the gradient of the taps after a trip that found the contents `f`. -/
def accTrip (D : Vec F S32x512 .f32) (W : (j : ℕ) → j < 31 → Vec F S1x32x512 .f32)
    (f : BufTy.Contents (Elt F) arg20.view.ty) : BufTy.Contents (Elt F) arg20.view.ty :=
  arg20.view.writes (Elt F) f (accPieces arg20 D W f 31 (Nat.le_refl _))

variable (D : Trips → Vec F S32x512 .f32) (W : Trips → (j : ℕ) → j < 31 → Vec F S1x32x512 .f32)
  (T : (j : ℕ) → j < 31 → Vec F S1x512 .f32)

/-- The sums after `t` trips, from the contents `G`. -/
def accAfter (G : BufTy.Contents (Elt F) arg20.view.ty) : ℕ → BufTy.Contents (Elt F) arg20.view.ty
  | 0 => G
  | t + 1 => if h : t < k0_t1_loop.trips then accTrip arg20 (D ⟨t, h⟩) (W ⟨t, h⟩) (accAfter G t) else accAfter G t

/-- The sums after all the trips of a loop. -/
@[irreducible] def accChunk (G : BufTy.Contents (Elt F) arg20.view.ty) : BufTy.Contents (Elt F) arg20.view.ty :=
  accAfter arg20 D W G k0_t1_loop.trips

/-- The sum over the first `j` taps, from zero. -/
def tapSum (k : Trips) : (j : ℕ) → j ≤ 31 → FVec F S32x512 .f32
  | 0, _ => broadcastTo S32x512 (shapeCast S1x512 (k0_pay656 (F := F)) shapeCasts_S1x512_S1x512) broadcasts_S1x512_S32x512
  | j + 1, h => addf (tapSum k j (Nat.le_of_succ_le h))
      (mulf (broadcastTo S32x512 (shapeCast S1x512 (T j h) shapeCasts_S1x512_S1x512) broadcasts_S1x512_S32x512)
        (shapeCast S32x512 (W k j h) shapeCasts_S1x32x512_S32x512))

/-- What a trip of the taps' sum stores. -/
def tapPiece (k : Trips) : View.Piece (Elt F) S256x512 .f32 :=
  ⟨Rect.unit (s := S256x512) (k0_off81 k) S32x512.size (k0_off81_inb k),
    shapeCast S32x512 (tapSum W T k 31 (Nat.le_refl _)) shapeCasts_S32x512_S32x512⟩

/-- What `t` trips of the taps' sum store, the latest first. -/
def tapPieces : ℕ → List (View.Piece (Elt F) S256x512 .f32)
  | 0 => []
  | t + 1 => if h : t < k0_t1_loop.trips then tapPiece W T ⟨t, h⟩ :: tapPieces t else tapPieces t

/-- The invariant of a loop of the gradient of the taps. -/
def accInv (n : ℕ) (hn : n < 8) (G : BufTy.Contents (Elt F) arg20.view.ty) (t : ℕ) : sProp 𝕄G :=
  iprop(held c arg17 X17 ∗ held c arg18 X18 ∗
    ∃ f, held c arg20 f ∗ ⌜f = accAfter arg20 (block arg17 X17 n hn) (window arg18 X18) G t⌝)

/-- The invariant of a loop of the taps' sum. -/
def tapInv (G : BufTy.Contents (Elt F) arg19.view.ty) (t : ℕ) : sProp 𝕄G :=
  iprop(held c arg7 X7 ∗ held c arg18 X18 ∗
    ∃ f, held c arg19 f ∗ ⌜f = arg19.view.writes (Elt F) G (tapPieces (window arg18 X18) (tap arg7 X7) t)⌝)

/-- A trip of the gradient of the taps carries its loop's invariant on. -/
theorem acc_step (n : ℕ) (hn : n < 8) (G : BufTy.Contents (Elt F) arg20.view.ty) (E : Set ℕ) (k : Trips)
    (p : Prog (TpuEff nD τ sig (Elt F) Λ₀ .tc) Unit)
    (h : ∀ f : BufTy.Contents (Elt F) arg20.view.ty, iprop(held c arg17 X17 ∗ held c arg18 X18 ∗ held c arg20 f)
      ⊢ wp frame (wpE (defs₀ (F := F)) Variants.none (c : Thread nD τ) none) E p
          (fun _ => iprop(held c arg17 X17 ∗ held c arg18 X18 ∗ held c arg20 (accTrip arg20 (block arg17 X17 n hn k) (window arg18 X18 k) f)))) :
    accInv c arg17 arg18 arg20 X17 X18 n hn G k.val
      ⊢ wp frame (wpE (defs₀ (F := F)) Variants.none (c : Thread nD τ) none) E p
          (fun _ => accInv c arg17 arg18 arg20 X17 X18 n hn G (k.val + 1)) := by
  unfold accInv
  iintro ⟨H17, H18, ⟨%f, H20, %hf⟩⟩
  iapply (wp_wand_r Idealize.ShloMosaic.frame (wpE (defs₀ (F := F)) Variants.none (c : Thread nD τ) none) E)
  isplitl [H17 H18 H20]
  · iapply (h f)
    isplitl [H17]; · iexact H17
    isplitl [H18]; · iexact H18
    iexact H20
  · iintro %_ ⟨H17, H18, H20⟩
    isplitl [H17]; · iexact H17
    isplitl [H18]; · iexact H18
    iexists _; isplitl [H20]; · iexact H20
    ipureintro
    rw [accAfter, dif_pos k.isLt, hf]

/-- What a loop of the gradient of the taps ends with. -/
theorem acc_exit (n : ℕ) (hn : n < 8) (G : BufTy.Contents (Elt F) arg20.view.ty) :
    accInv c arg17 arg18 arg20 X17 X18 n hn G k0_t1_loop.trips
      ⊢ iprop(held c arg17 X17 ∗ held c arg18 X18 ∗ held c arg20 (accChunk arg20 (block arg17 X17 n hn) (window arg18 X18) G)) := by
  unfold accInv accChunk
  iintro ⟨H17, H18, ⟨%f, H20, %hf⟩⟩
  rw [hf]
  isplitl [H17]; · iexact H17
  isplitl [H18]; · iexact H18
  iexact H20

/-- A trip of the taps' sum carries its loop's invariant on. -/
theorem tap_step (G : BufTy.Contents (Elt F) arg19.view.ty) (E : Set ℕ) (k : Trips)
    (p : Prog (TpuEff nD τ sig (Elt F) Λ₀ .tc) Unit)
    (h : ∀ f : BufTy.Contents (Elt F) arg19.view.ty, iprop(held c arg7 X7 ∗ held c arg18 X18 ∗ held c arg19 f)
      ⊢ wp frame (wpE (defs₀ (F := F)) Variants.none (c : Thread nD τ) none) E p
          (fun _ => iprop(held c arg7 X7 ∗ held c arg18 X18 ∗ held c arg19 (arg19.view.writes (Elt F) f [tapPiece (window arg18 X18) (tap arg7 X7) k])))) :
    tapInv c arg7 arg18 arg19 X7 X18 G k.val
      ⊢ wp frame (wpE (defs₀ (F := F)) Variants.none (c : Thread nD τ) none) E p
          (fun _ => tapInv c arg7 arg18 arg19 X7 X18 G (k.val + 1)) := by
  unfold tapInv
  iintro ⟨H7, H18, ⟨%f, H19, %hf⟩⟩
  iapply (wp_wand_r Idealize.ShloMosaic.frame (wpE (defs₀ (F := F)) Variants.none (c : Thread nD τ) none) E)
  isplitl [H7 H18 H19]
  · iapply (h f)
    isplitl [H7]; · iexact H7
    isplitl [H18]; · iexact H18
    iexact H19
  · iintro %_ ⟨H7, H18, H19⟩
    isplitl [H7]; · iexact H7
    isplitl [H18]; · iexact H18
    iexists _; isplitl [H19]; · iexact H19
    ipureintro
    rw [tapPieces, dif_pos k.isLt, hf, ← View.writes_append]; rfl

end Mem

section Bodies

variable (c : Dev nD) (i : grid0.Coords)
  (arg1 : Memref sig .tc .vmem S2048x256 .bf16) (harg1 : arg1.IsWhole)
  (arg2 : Memref sig .tc .vmem S2048x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .f32) (harg5 : arg5.IsWhole)
  (arg6 : Memref sig .tc .vmem S2048x512 .bf16) (harg6 : arg6.IsWhole)
  (arg7 : Memref sig .tc .vmem S32x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S2048x1024 .bf16) (harg11 : arg11.IsWhole)
  (arg12 : Memref sig .tc .vmem S32x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S2112x512 .f32) (harg16 : arg16.IsWhole)
  (arg17 : Memref sig .tc .vmem S2112x512 .f32) (harg17 : arg17.IsWhole)
  (arg18 : Memref sig .tc .vmem S8x288x512 .f32) (harg18 : arg18.IsWhole)
  (arg19 : Memref sig .tc .vmem S256x512 .f32) (harg19 : arg19.IsWhole)
  (arg20 : Memref sig .tc .vmem S256x512 .f32) (harg20 : arg20.IsWhole)
  (X7 : BufTy.Contents (Elt F) arg7.view.ty) (X17 : BufTy.Contents (Elt F) arg17.view.ty)
  (X18 : BufTy.Contents (Elt F) arg18.view.ty)

set_option maxHeartbeats 4000000 in
theorem trip1 (v91 : FVec F S256x1 .f32) (v93 : FVec F S256x512 .f32) (v110 : FVec F S256x512 .f32) (v122 : FVec F S1x512 .f32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v91 v93 v110 v122 k PUnit.unit)
          (fun _ => iprop(held c arg17 X17 ∗ held c arg18 X18 ∗ held c arg20 (accTrip arg20 (block arg17 X17 0 (by decide) k) (window arg18 X18 k) f))) := by
  have hk : k.val < 8 := trips_lt k
  unfold k0_t1_body
  iintro ⟨H17, H18, H20⟩
  sl_exec
  sl_step
  isplitl [H17]; · iexact H17
  isplitl [H18]; · iexact H18
  iexact H20

/-- The invariant of loop 1: chunk 0 of the gradient of the taps. -/
@[sl_loop] def loopInv1 (v91 : FVec F S256x1 .f32) (v93 : FVec F S256x512 .f32) (v110 : FVec F S256x512 .f32) (v122 : FVec F S1x512 .f32) (E : Set ℕ) (G : BufTy.Contents (Elt F) arg20.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v91 v93 v110 v122 where
  inv t _ := accInv c arg17 arg18 arg20 X17 X18 0 (by decide) G t
  step k _ := acc_step c arg17 arg18 arg20 X17 X18 0 (by decide) G E k _
    (trip1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v91 v93 v110 v122 k E)

instance loopExit1 (v91 : FVec F S256x1 .f32) (v93 : FVec F S256x512 .f32) (v110 : FVec F S256x512 .f32) (v122 : FVec F S1x512 .f32) (E : Set ℕ) (G : BufTy.Contents (Elt F) arg20.view.ty) :
    LoopExit (loopInv1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v91 v93 v110 v122 E G) where
  post _ := iprop(held c arg17 X17 ∗ held c arg18 X18 ∗ held c arg20 (accChunk arg20 (block arg17 X17 0 (by decide)) (window arg18 X18) G))
  exit _ := acc_exit c arg17 arg18 arg20 X17 X18 0 (by decide) G

set_option maxHeartbeats 4000000 in
theorem trip2 (v251 : FVec F S256x512 .f32) (v255 : Vec F S1x512 .f32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v251 v255 k PUnit.unit)
          (fun _ => iprop(held c arg17 X17 ∗ held c arg18 X18 ∗ held c arg20 (accTrip arg20 (block arg17 X17 1 (by decide) k) (window arg18 X18 k) f))) := by
  have hk : k.val < 8 := trips_lt k
  unfold k0_t2_body
  iintro ⟨H17, H18, H20⟩
  sl_exec
  sl_step
  isplitl [H17]; · iexact H17
  isplitl [H18]; · iexact H18
  iexact H20

/-- The invariant of loop 2: chunk 1 of the gradient of the taps. -/
@[sl_loop] def loopInv2 (v251 : FVec F S256x512 .f32) (v255 : Vec F S1x512 .f32) (E : Set ℕ) (G : BufTy.Contents (Elt F) arg20.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v251 v255 where
  inv t _ := accInv c arg17 arg18 arg20 X17 X18 1 (by decide) G t
  step k _ := acc_step c arg17 arg18 arg20 X17 X18 1 (by decide) G E k _
    (trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v251 v255 k E)

instance loopExit2 (v251 : FVec F S256x512 .f32) (v255 : Vec F S1x512 .f32) (E : Set ℕ) (G : BufTy.Contents (Elt F) arg20.view.ty) :
    LoopExit (loopInv2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v251 v255 E G) where
  post _ := iprop(held c arg17 X17 ∗ held c arg18 X18 ∗ held c arg20 (accChunk arg20 (block arg17 X17 1 (by decide)) (window arg18 X18) G))
  exit _ := acc_exit c arg17 arg18 arg20 X17 X18 1 (by decide) G

set_option maxHeartbeats 4000000 in
theorem trip3 (v309 : FVec F S256x1 .f32) (v311 : FVec F S256x512 .f32) (v344 : FVec F S256x512 .f32) (v346 : FVec F S256x1 .f32) (v347 : FVec F S256x1 .f32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v309 v311 v344 v346 v347 k PUnit.unit)
          (fun _ => iprop(held c arg17 X17 ∗ held c arg18 X18 ∗ held c arg20 (accTrip arg20 (block arg17 X17 2 (by decide) k) (window arg18 X18 k) f))) := by
  have hk : k.val < 8 := trips_lt k
  unfold k0_t3_body
  iintro ⟨H17, H18, H20⟩
  sl_exec
  sl_step
  isplitl [H17]; · iexact H17
  isplitl [H18]; · iexact H18
  iexact H20

/-- The invariant of loop 3: chunk 2 of the gradient of the taps. -/
@[sl_loop] def loopInv3 (v309 : FVec F S256x1 .f32) (v311 : FVec F S256x512 .f32) (v344 : FVec F S256x512 .f32) (v346 : FVec F S256x1 .f32) (v347 : FVec F S256x1 .f32) (E : Set ℕ) (G : BufTy.Contents (Elt F) arg20.view.ty) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v309 v311 v344 v346 v347 where
  inv t _ := accInv c arg17 arg18 arg20 X17 X18 2 (by decide) G t
  step k _ := acc_step c arg17 arg18 arg20 X17 X18 2 (by decide) G E k _
    (trip3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v309 v311 v344 v346 v347 k E)

instance loopExit3 (v309 : FVec F S256x1 .f32) (v311 : FVec F S256x512 .f32) (v344 : FVec F S256x512 .f32) (v346 : FVec F S256x1 .f32) (v347 : FVec F S256x1 .f32) (E : Set ℕ) (G : BufTy.Contents (Elt F) arg20.view.ty) :
    LoopExit (loopInv3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v309 v311 v344 v346 v347 E G) where
  post _ := iprop(held c arg17 X17 ∗ held c arg18 X18 ∗ held c arg20 (accChunk arg20 (block arg17 X17 2 (by decide)) (window arg18 X18) G))
  exit _ := acc_exit c arg17 arg18 arg20 X17 X18 2 (by decide) G

set_option maxHeartbeats 4000000 in
theorem trip4 (c0_i32_313 : BitVec 32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_313 k PUnit.unit)
          (fun _ => iprop(held c arg17 X17 ∗ held c arg18 X18 ∗ held c arg20 (accTrip arg20 (block arg17 X17 3 (by decide) k) (window arg18 X18 k) f))) := by
  have hk : k.val < 8 := trips_lt k
  unfold k0_t4_body
  iintro ⟨H17, H18, H20⟩
  sl_exec
  sl_step
  isplitl [H17]; · iexact H17
  isplitl [H18]; · iexact H18
  iexact H20

/-- The invariant of loop 4: chunk 3 of the gradient of the taps. -/
@[sl_loop] def loopInv4 (c0_i32_313 : BitVec 32) (E : Set ℕ) (G : BufTy.Contents (Elt F) arg20.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 c0_i32_313 where
  inv t _ := accInv c arg17 arg18 arg20 X17 X18 3 (by decide) G t
  step k _ := acc_step c arg17 arg18 arg20 X17 X18 3 (by decide) G E k _
    (trip4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 c0_i32_313 k E)

instance loopExit4 (c0_i32_313 : BitVec 32) (E : Set ℕ) (G : BufTy.Contents (Elt F) arg20.view.ty) :
    LoopExit (loopInv4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 c0_i32_313 E G) where
  post _ := iprop(held c arg17 X17 ∗ held c arg18 X18 ∗ held c arg20 (accChunk arg20 (block arg17 X17 3 (by decide)) (window arg18 X18) G))
  exit _ := acc_exit c arg17 arg18 arg20 X17 X18 3 (by decide) G

set_option maxHeartbeats 4000000 in
theorem trip5 (v527 : FVec F S256x1 .f32) (v568 : FVec F S256x512 .f32) (v575 : FVec F S256x512 .f32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v527 v568 v575 k PUnit.unit)
          (fun _ => iprop(held c arg17 X17 ∗ held c arg18 X18 ∗ held c arg20 (accTrip arg20 (block arg17 X17 4 (by decide) k) (window arg18 X18 k) f))) := by
  have hk : k.val < 8 := trips_lt k
  unfold k0_t5_body
  iintro ⟨H17, H18, H20⟩
  sl_exec
  sl_step
  isplitl [H17]; · iexact H17
  isplitl [H18]; · iexact H18
  iexact H20

/-- The invariant of loop 5: chunk 4 of the gradient of the taps. -/
@[sl_loop] def loopInv5 (v527 : FVec F S256x1 .f32) (v568 : FVec F S256x512 .f32) (v575 : FVec F S256x512 .f32) (E : Set ℕ) (G : BufTy.Contents (Elt F) arg20.view.ty) :
    LoopInvTy_k0_t5 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v527 v568 v575 where
  inv t _ := accInv c arg17 arg18 arg20 X17 X18 4 (by decide) G t
  step k _ := acc_step c arg17 arg18 arg20 X17 X18 4 (by decide) G E k _
    (trip5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v527 v568 v575 k E)

instance loopExit5 (v527 : FVec F S256x1 .f32) (v568 : FVec F S256x512 .f32) (v575 : FVec F S256x512 .f32) (E : Set ℕ) (G : BufTy.Contents (Elt F) arg20.view.ty) :
    LoopExit (loopInv5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v527 v568 v575 E G) where
  post _ := iprop(held c arg17 X17 ∗ held c arg18 X18 ∗ held c arg20 (accChunk arg20 (block arg17 X17 4 (by decide)) (window arg18 X18) G))
  exit _ := acc_exit c arg17 arg18 arg20 X17 X18 4 (by decide) G

set_option maxHeartbeats 4000000 in
theorem trip6 (v636 : FVec F S256x1 .f32) (v638 : FVec F S256x512 .f32) (v655 : FVec F S256x512 .f32) (v667 : FVec F S1x512 .f32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v636 v638 v655 v667 k PUnit.unit)
          (fun _ => iprop(held c arg17 X17 ∗ held c arg18 X18 ∗ held c arg20 (accTrip arg20 (block arg17 X17 5 (by decide) k) (window arg18 X18 k) f))) := by
  have hk : k.val < 8 := trips_lt k
  unfold k0_t6_body
  iintro ⟨H17, H18, H20⟩
  sl_exec
  sl_step
  isplitl [H17]; · iexact H17
  isplitl [H18]; · iexact H18
  iexact H20

/-- The invariant of loop 6: chunk 5 of the gradient of the taps. -/
@[sl_loop] def loopInv6 (v636 : FVec F S256x1 .f32) (v638 : FVec F S256x512 .f32) (v655 : FVec F S256x512 .f32) (v667 : FVec F S1x512 .f32) (E : Set ℕ) (G : BufTy.Contents (Elt F) arg20.view.ty) :
    LoopInvTy_k0_t6 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v636 v638 v655 v667 where
  inv t _ := accInv c arg17 arg18 arg20 X17 X18 5 (by decide) G t
  step k _ := acc_step c arg17 arg18 arg20 X17 X18 5 (by decide) G E k _
    (trip6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v636 v638 v655 v667 k E)

instance loopExit6 (v636 : FVec F S256x1 .f32) (v638 : FVec F S256x512 .f32) (v655 : FVec F S256x512 .f32) (v667 : FVec F S1x512 .f32) (E : Set ℕ) (G : BufTy.Contents (Elt F) arg20.view.ty) :
    LoopExit (loopInv6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v636 v638 v655 v667 E G) where
  post _ := iprop(held c arg17 X17 ∗ held c arg18 X18 ∗ held c arg20 (accChunk arg20 (block arg17 X17 5 (by decide)) (window arg18 X18) G))
  exit _ := acc_exit c arg17 arg18 arg20 X17 X18 5 (by decide) G

set_option maxHeartbeats 4000000 in
theorem trip7 (v796 : FVec F S256x512 .f32) (v800 : Vec F S1x512 .f32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v796 v800 k PUnit.unit)
          (fun _ => iprop(held c arg17 X17 ∗ held c arg18 X18 ∗ held c arg20 (accTrip arg20 (block arg17 X17 6 (by decide) k) (window arg18 X18 k) f))) := by
  have hk : k.val < 8 := trips_lt k
  unfold k0_t7_body
  iintro ⟨H17, H18, H20⟩
  sl_exec
  sl_step
  isplitl [H17]; · iexact H17
  isplitl [H18]; · iexact H18
  iexact H20

/-- The invariant of loop 7: chunk 6 of the gradient of the taps. -/
@[sl_loop] def loopInv7 (v796 : FVec F S256x512 .f32) (v800 : Vec F S1x512 .f32) (E : Set ℕ) (G : BufTy.Contents (Elt F) arg20.view.ty) :
    LoopInvTy_k0_t7 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v796 v800 where
  inv t _ := accInv c arg17 arg18 arg20 X17 X18 6 (by decide) G t
  step k _ := acc_step c arg17 arg18 arg20 X17 X18 6 (by decide) G E k _
    (trip7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v796 v800 k E)

instance loopExit7 (v796 : FVec F S256x512 .f32) (v800 : Vec F S1x512 .f32) (E : Set ℕ) (G : BufTy.Contents (Elt F) arg20.view.ty) :
    LoopExit (loopInv7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v796 v800 E G) where
  post _ := iprop(held c arg17 X17 ∗ held c arg18 X18 ∗ held c arg20 (accChunk arg20 (block arg17 X17 6 (by decide)) (window arg18 X18) G))
  exit _ := acc_exit c arg17 arg18 arg20 X17 X18 6 (by decide) G

set_option maxHeartbeats 4000000 in
theorem trip8 (v854 : FVec F S256x1 .f32) (v856 : FVec F S256x512 .f32) (v889 : FVec F S256x512 .f32) (v891 : FVec F S256x1 .f32) (v892 : FVec F S256x1 .f32) (k : Trips) (E : Set ℕ) (f : BufTy.Contents (Elt F) arg20.view.ty) :
    iprop(held c arg17 X17 ∗ held c arg18 X18 ∗ held c arg20 f)
      ⊢ wp frame (wpE (defs₀ (F := F)) Variants.none (c : Thread nD τ) none) E (k0_t8_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v854 v856 v889 v891 v892 k PUnit.unit)
          (fun _ => iprop(held c arg17 X17 ∗ held c arg18 X18 ∗ held c arg20 (accTrip arg20 (block arg17 X17 7 (by decide) k) (window arg18 X18 k) f))) := by
  have hk : k.val < 8 := trips_lt k
  unfold k0_t8_body
  iintro ⟨H17, H18, H20⟩
  sl_exec
  sl_step
  isplitl [H17]; · iexact H17
  isplitl [H18]; · iexact H18
  iexact H20

/-- The invariant of loop 8: chunk 7 of the gradient of the taps. -/
@[sl_loop] def loopInv8 (v854 : FVec F S256x1 .f32) (v856 : FVec F S256x512 .f32) (v889 : FVec F S256x512 .f32) (v891 : FVec F S256x1 .f32) (v892 : FVec F S256x1 .f32) (E : Set ℕ) (G : BufTy.Contents (Elt F) arg20.view.ty) :
    LoopInvTy_k0_t8 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v854 v856 v889 v891 v892 where
  inv t _ := accInv c arg17 arg18 arg20 X17 X18 7 (by decide) G t
  step k _ := acc_step c arg17 arg18 arg20 X17 X18 7 (by decide) G E k _
    (trip8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v854 v856 v889 v891 v892 k E)

instance loopExit8 (v854 : FVec F S256x1 .f32) (v856 : FVec F S256x512 .f32) (v889 : FVec F S256x512 .f32) (v891 : FVec F S256x1 .f32) (v892 : FVec F S256x1 .f32) (E : Set ℕ) (G : BufTy.Contents (Elt F) arg20.view.ty) :
    LoopExit (loopInv8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X17 X18 v854 v856 v889 v891 v892 E G) where
  post _ := iprop(held c arg17 X17 ∗ held c arg18 X18 ∗ held c arg20 (accChunk arg20 (block arg17 X17 7 (by decide)) (window arg18 X18) G))
  exit _ := acc_exit c arg17 arg18 arg20 X17 X18 7 (by decide) G

set_option maxHeartbeats 4000000 in
theorem trip9 (v1066 : Vec F S280x512 .f32) (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t9_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1066 k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t9_body
  iintro ⟨H7, H18, H19⟩
  sl_exec
  sl_step
  isplitl [H7]; · iexact H7
  isplitl [H18]; · iexact H18
  iexact H19

/-- The invariant of loop 9: chunk 0 of the taps' sum. -/
@[sl_loop] def loopInv9 (v1066 : Vec F S280x512 .f32) (E : Set ℕ) (G : BufTy.Contents (Elt F) arg19.view.ty) :
    LoopInvTy_k0_t9 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1066 where
  inv t _ := tapInv c arg7 arg18 arg19 X7 X18 G t
  step k _ := tap_step c arg7 arg18 arg19 X7 X18 G E k _
    (trip9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18 v1066 k E)

set_option maxHeartbeats 4000000 in
theorem trip10 (v1125 : Vec F S280x512 .f32) (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t10_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1125 k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t10_body
  iintro ⟨H7, H18, H19⟩
  sl_exec
  sl_step
  isplitl [H7]; · iexact H7
  isplitl [H18]; · iexact H18
  iexact H19

/-- The invariant of loop 10: chunk 1 of the taps' sum. -/
@[sl_loop] def loopInv10 (v1125 : Vec F S280x512 .f32) (E : Set ℕ) (G : BufTy.Contents (Elt F) arg19.view.ty) :
    LoopInvTy_k0_t10 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1125 where
  inv t _ := tapInv c arg7 arg18 arg19 X7 X18 G t
  step k _ := tap_step c arg7 arg18 arg19 X7 X18 G E k _
    (trip10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18 v1125 k E)

set_option maxHeartbeats 4000000 in
theorem trip11 (v1208 : Vec F S280x512 .f32) (v1209 : Vec F S1x280x512 .f32) (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t11_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1208 v1209 k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t11_body
  iintro ⟨H7, H18, H19⟩
  sl_exec
  sl_step
  isplitl [H7]; · iexact H7
  isplitl [H18]; · iexact H18
  iexact H19

/-- The invariant of loop 11: chunk 2 of the taps' sum. -/
@[sl_loop] def loopInv11 (v1208 : Vec F S280x512 .f32) (v1209 : Vec F S1x280x512 .f32) (E : Set ℕ) (G : BufTy.Contents (Elt F) arg19.view.ty) :
    LoopInvTy_k0_t11 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1208 v1209 where
  inv t _ := tapInv c arg7 arg18 arg19 X7 X18 G t
  step k _ := tap_step c arg7 arg18 arg19 X7 X18 G E k _
    (trip11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18 v1208 v1209 k E)

set_option maxHeartbeats 4000000 in
theorem trip12 (v1267 : Vec F S280x512 .f32) (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t12_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1267 k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t12_body
  iintro ⟨H7, H18, H19⟩
  sl_exec
  sl_step
  isplitl [H7]; · iexact H7
  isplitl [H18]; · iexact H18
  iexact H19

/-- The invariant of loop 12: chunk 3 of the taps' sum. -/
@[sl_loop] def loopInv12 (v1267 : Vec F S280x512 .f32) (E : Set ℕ) (G : BufTy.Contents (Elt F) arg19.view.ty) :
    LoopInvTy_k0_t12 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1267 where
  inv t _ := tapInv c arg7 arg18 arg19 X7 X18 G t
  step k _ := tap_step c arg7 arg18 arg19 X7 X18 G E k _
    (trip12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18 v1267 k E)

set_option maxHeartbeats 4000000 in
theorem trip13 (v1353 : FVec F S1x280x512 .f32) (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t13_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1353 k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t13_body
  iintro ⟨H7, H18, H19⟩
  sl_exec
  sl_step
  isplitl [H7]; · iexact H7
  isplitl [H18]; · iexact H18
  iexact H19

/-- The invariant of loop 13: chunk 4 of the taps' sum. -/
@[sl_loop] def loopInv13 (v1353 : FVec F S1x280x512 .f32) (E : Set ℕ) (G : BufTy.Contents (Elt F) arg19.view.ty) :
    LoopInvTy_k0_t13 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v1353 where
  inv t _ := tapInv c arg7 arg18 arg19 X7 X18 G t
  step k _ := tap_step c arg7 arg18 arg19 X7 X18 G E k _
    (trip13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18 v1353 k E)

set_option maxHeartbeats 4000000 in
theorem trip14  (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t14_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t14_body
  iintro ⟨H7, H18, H19⟩
  sl_exec
  sl_step
  isplitl [H7]; · iexact H7
  isplitl [H18]; · iexact H18
  iexact H19

/-- The invariant of loop 14: chunk 5 of the taps' sum. -/
@[sl_loop] def loopInv14  (E : Set ℕ) (G : BufTy.Contents (Elt F) arg19.view.ty) :
    LoopInvTy_k0_t14 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  where
  inv t _ := tapInv c arg7 arg18 arg19 X7 X18 G t
  step k _ := tap_step c arg7 arg18 arg19 X7 X18 G E k _
    (trip14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18  k E)

set_option maxHeartbeats 4000000 in
theorem trip15  (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t15_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t15_body
  iintro ⟨H7, H18, H19⟩
  sl_exec
  sl_step
  isplitl [H7]; · iexact H7
  isplitl [H18]; · iexact H18
  iexact H19

/-- The invariant of loop 15: chunk 6 of the taps' sum. -/
@[sl_loop] def loopInv15  (E : Set ℕ) (G : BufTy.Contents (Elt F) arg19.view.ty) :
    LoopInvTy_k0_t15 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  where
  inv t _ := tapInv c arg7 arg18 arg19 X7 X18 G t
  step k _ := tap_step c arg7 arg18 arg19 X7 X18 G E k _
    (trip15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18  k E)

set_option maxHeartbeats 4000000 in
theorem trip16  (k : Trips) (E : Set ℕ) (f : BufTy.Contents (Elt F) arg19.view.ty) :
    iprop(held c arg7 X7 ∗ held c arg18 X18 ∗ held c arg19 f)
      ⊢ wp frame (wpE (defs₀ (F := F)) Variants.none (c : Thread nD τ) none) E (k0_t16_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  k PUnit.unit)
          (fun _ => iprop(held c arg7 X7 ∗ held c arg18 X18 ∗ held c arg19 (arg19.view.writes (Elt F) f [tapPiece (window arg18 X18) (tap arg7 X7) k]))) := by
  have hk : k.val < 8 := trips_lt k
  unfold k0_t16_body
  iintro ⟨H7, H18, H19⟩
  sl_exec
  sl_step
  isplitl [H7]; · iexact H7
  isplitl [H18]; · iexact H18
  iexact H19

/-- The invariant of loop 16: chunk 7 of the taps' sum. -/
@[sl_loop] def loopInv16  (E : Set ℕ) (G : BufTy.Contents (Elt F) arg19.view.ty) :
    LoopInvTy_k0_t16 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  where
  inv t _ := tapInv c arg7 arg18 arg19 X7 X18 G t
  step k _ := tap_step c arg7 arg18 arg19 X7 X18 G E k _
    (trip16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X7 X18  k E)

end Bodies

end Cert.ConvTrip

end
-- ==== Proof.ConvBody.lean ====
/-
  The gradient of the convolution: the whole body of the kernel, run on any buffers.
-/
module

public import proofs.«01_k».proof.Proof.ConvTrip

@[expose] public section

set_option maxRecDepth 16384

noncomputable section

namespace Cert.ConvRun

open Cert.ConvBwdIdeal Cert.ConvBwdIdeal.Gen Cert.ConvTrip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg1 : Memref sig .tc .vmem S2048x256 .bf16) (harg1 : arg1.IsWhole)
  (arg2 : Memref sig .tc .vmem S2048x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .f32) (harg5 : arg5.IsWhole)
  (arg6 : Memref sig .tc .vmem S2048x512 .bf16) (harg6 : arg6.IsWhole)
  (arg7 : Memref sig .tc .vmem S32x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S2048x1024 .bf16) (harg11 : arg11.IsWhole)
  (arg12 : Memref sig .tc .vmem S32x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S2112x512 .f32) (harg16 : arg16.IsWhole)
  (arg17 : Memref sig .tc .vmem S2112x512 .f32) (harg17 : arg17.IsWhole)
  (arg18 : Memref sig .tc .vmem S8x288x512 .f32) (harg18 : arg18.IsWhole)
  (arg19 : Memref sig .tc .vmem S256x512 .f32) (harg19 : arg19.IsWhole)
  (arg20 : Memref sig .tc .vmem S256x512 .f32) (harg20 : arg20.IsWhole)

set_option maxHeartbeats 40000000 in
/-- THE BODY on any buffers: what it leaves in the five results. -/
@[irreducible] def run (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) :
    Σ' (R11 : BufTy.Contents (Elt F) arg11.view.ty)
       (R12 : BufTy.Contents (Elt F) arg12.view.ty)
       (R13 : BufTy.Contents (Elt F) arg13.view.ty)
       (R14 : BufTy.Contents (Elt F) arg14.view.ty)
      , { R15 : BufTy.Contents (Elt F) arg15.view.ty // ∀ (E : Set ℕ) (K : PUnit → sProp 𝕄G),
    iprop(held c arg1 x1 ∗ held c arg2 x2 ∗ held c arg3 x3 ∗ held c arg4 x4 ∗ held c arg5 x5 ∗ held c arg6 x6 ∗ held c arg7 x7 ∗ held c arg8 x8 ∗ held c arg9 x9 ∗ held c arg10 x10 ∗ held c arg11 f11 ∗ held c arg12 f12 ∗ held c arg13 f13 ∗ held c arg14 f14 ∗ held c arg15 f15 ∗ held c arg16 f16 ∗ held c arg17 f17 ∗ held c arg18 f18 ∗ held c arg19 f19 ∗ held c arg20 f20 ∗ (iprop(held c arg1 x1 ∗ held c arg2 x2 ∗ held c arg3 x3 ∗ held c arg4 x4 ∗ held c arg5 x5 ∗ held c arg6 x6 ∗ held c arg7 x7 ∗ held c arg8 x8 ∗ held c arg9 x9 ∗ held c arg10 x10 ∗ held c arg11 R11 ∗ held c arg12 R12 ∗ held c arg13 R13 ∗ held c arg14 R14 ∗ held c arg15 R15 ∗ (∃ f, held c arg16 f) ∗ (∃ f, held c arg17 f) ∗ (∃ f, held c arg18 f) ∗ (∃ f, held c arg19 f) ∗ (∃ f, held c arg20 f)) -∗ K ⟨⟩))
      ⊢ wp frame (wpE (defs₀ (F := F)) Variants.none c none) E (cc0_conv_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_conv_bwd_eq_skeleton]; unfold cc0_conv_bwd_skel
    iintro ⟨H1, H2, H3, H4, H5, H6, H7, H8, H9, H10, H11, H12, H13, H14, H15, H16, H17, H18, H19, H20, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [HL21]; · iexists _; iexact HL21
    isplitl [HL22]; · iexists _; iexact HL22
    isplitl [H19]; · iexists _; iexact H19
    iexists _; iexact HL23

end Cert.ConvRun

end
-- ==== Proof.ConvWords.lean ====
/-
  The gradient of the convolution: what the body leaves in its results, one step of its
  chunks after the other.
-/
module

public import proofs.«01_k».proof.Proof.ConvBody

@[expose] public section

set_option maxRecDepth 16384

noncomputable section

namespace Cert.ConvWords

open Cert.ConvBwdIdeal Cert.ConvBwdIdeal.Gen Cert.ConvTrip Cert.ConvRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem rowsInb (n : ℕ) (hn : n < 8) : ∀ a, ![256 * n, 0] a + S256x512.size a ≤ S2048x512.size a := by
  intro a
  match a with
  | ⟨0, _⟩ => show 256 * n + 256 ≤ 2048; omega
  | ⟨1, _⟩ => show 0 + 512 ≤ 512; omega

theorem gluInb (n : ℕ) (hn : n < 8) : ∀ a, ![256 * n, 0] a + S256x256.size a ≤ S2048x256.size a := by
  intro a
  match a with
  | ⟨0, _⟩ => show 256 * n + 256 ≤ 2048; omega
  | ⟨1, _⟩ => show 0 + 256 ≤ 256; omega

theorem dgluInb (n m : ℕ) (hn : n < 8) (hm : m < 4) : ∀ a, ![256 * n, 256 * m] a + S256x256.size a ≤ S2048x1024.size a := by
  intro a
  match a with
  | ⟨0, _⟩ => show 256 * n + 256 ≤ 2048; omega
  | ⟨1, _⟩ => show 256 * m + 256 ≤ 1024; omega

theorem padInb (r : ℕ) (hr : r ≤ 1832) : ∀ a, ![r, 0] a + S280x512.size a ≤ S2112x512.size a := by
  intro a
  match a with
  | ⟨0, _⟩ => show r + 280 ≤ 2112; omega
  | ⟨1, _⟩ => show 0 + 512 ≤ 512; omega

theorem copyInb (b : ℕ) (hb : b < 8) : ∀ a, ![b, 0, 0] a + S1x280x512.size a ≤ S8x288x512.size a := by
  intro a
  match a with
  | ⟨0, _⟩ => show b + 1 ≤ 8; omega
  | ⟨1, _⟩ => show 0 + 280 ≤ 288; omega
  | ⟨2, _⟩ => show 0 + 512 ≤ 512; omega

theorem dwInb (k : ℕ) (hk : k < 32) : ∀ a, ![k, 0] a + S1x512.size a ≤ S32x512.size a := by
  intro a
  match a with
  | ⟨0, _⟩ => show k + 1 ≤ 32; omega
  | ⟨1, _⟩ => show 0 + 512 ≤ 512; omega

section Words

variable
  (arg1 : Memref sig .tc .vmem S2048x256 .bf16)
  (arg2 : Memref sig .tc .vmem S2048x256 .bf16)
  (arg3 : Memref sig .tc .vmem S2048x256 .bf16)
  (arg4 : Memref sig .tc .vmem S2048x256 .bf16)
  (arg5 : Memref sig .tc .vmem S2048x512 .f32)
  (arg6 : Memref sig .tc .vmem S2048x512 .bf16)
  (arg7 : Memref sig .tc .vmem S32x512 .f32)
  (arg9 : Memref sig .tc .vmem S1x512 .f32)
  (arg10 : Memref sig .tc .vmem S1x512 .f32)
  (arg13 : Memref sig .tc .vmem S1x512 .f32)
  (arg14 : Memref sig .tc .vmem S1x512 .f32)
  (arg15 : Memref sig .tc .vmem S1x512 .f32)
  (arg16 : Memref sig .tc .vmem S2112x512 .f32)
  (arg17 : Memref sig .tc .vmem S2112x512 .f32)
  (arg18 : Memref sig .tc .vmem S8x288x512 .f32)
  (arg19 : Memref sig .tc .vmem S256x512 .f32)
  (arg20 : Memref sig .tc .vmem S256x512 .f32)
  (x1 : BufTy.Contents (Elt F) arg1.view.ty)
  (x2 : BufTy.Contents (Elt F) arg2.view.ty)
  (x3 : BufTy.Contents (Elt F) arg3.view.ty)
  (x4 : BufTy.Contents (Elt F) arg4.view.ty)
  (x5 : BufTy.Contents (Elt F) arg5.view.ty)
  (x6 : BufTy.Contents (Elt F) arg6.view.ty)
  (x7 : BufTy.Contents (Elt F) arg7.view.ty)
  (x9 : BufTy.Contents (Elt F) arg9.view.ty)
  (x10 : BufTy.Contents (Elt F) arg10.view.ty)
  (f17 : BufTy.Contents (Elt F) arg17.view.ty) (f18 : BufTy.Contents (Elt F) arg18.view.ty)

/-- The rows of chunk `n` of the convolution's output, as the forward pass saved it. -/
def uRows (n : ℕ) (hn : n < 8) : Vec F S256x512 .f32 :=
  View.readAt (Elt F) arg5.view (Rect.unit (s := S2048x512) ![256 * n, 0] S256x512.size (rowsInb n hn)).toLoadRect x5

/-- The rows of chunk `n` of the cotangent. -/
def dcRows (n : ℕ) (hn : n < 8) : Vec F S256x512 .bf16 :=
  View.readAt (Elt F) arg6.view (Rect.unit (s := S2048x512) ![256 * n, 0] S256x512.size (rowsInb n hn)).toLoadRect x6

/-- The norm's scale. -/
def scale : Vec F S1x512 .f32 :=
  View.readAt (Elt F) arg9.view (Rect.unit (s := S1x512) ![0, 0] S1x512.size inb_S1x512_S1x512_0_0).toLoadRect x9

/-- The norm's shift. -/
def shift : Vec F S1x512 .f32 :=
  View.readAt (Elt F) arg10.view (Rect.unit (s := S1x512) ![0, 0] S1x512.size inb_S1x512_S1x512_0_0).toLoadRect x10

/-- The gradient of the rows of chunk `n` of the convolution's output, in the kernel's arithmetic; `q` says what is made
    of it. -/
abbrev duArgs {α : Type} (u : Vec F S256x512 .f32) (g b : Vec F S1x512 .f32) (dc : Vec F S256x512 .bf16)
    (q : FVec F S256x1 .f32 → FVec F S256x512 .f32 → FVec F S256x512 .f32 → FVec F S256x1 .f32 → FVec F S256x1 .f32 → α) : α :=
  q (k0_pay604 u) (k0_pay605 u) (k0_pay609 (k0_pay605 u) g b dc g) (k0_pay610 (k0_pay605 u) g b dc g) k0_pay611

/-- The pieces of the padded gradient after `n` chunks, the latest first. -/
def duList : (n : ℕ) → n ≤ 8 → List (View.Piece (Elt F) S2112x512 .f32)
  | 0, _ => [⟨Rect.unit (s := S2112x512) ![2048, 0] S64x512.size inb_S2112x512_S64x512_2048_0, k0_pay450 (F := F)⟩]
  | n + 1, h => ⟨Rect.unit (s := S2112x512) ![256 * n, 0] S256x512.size (chunkInb n h),
      duArgs (uRows arg5 x5 n h) (scale arg9 x9) (shift arg10 x10) (dcRows arg6 x6 n h) k0_pay613⟩
      :: duList n (Nat.le_of_succ_le h)

/-- The pieces of the gradient of the norm's scale. -/
def dgList : (n : ℕ) → n ≤ 8 → List (View.Piece (Elt F) S1x512 .f32)
  | 0, _ => [⟨Rect.unit (s := S1x512) ![0, 0] S1x512.size inb_S1x512_S1x512_0_0, k0_pay453 (F := F)⟩]
  | n + 1, h => ⟨Rect.unit (s := S1x512) ![0, 0] S1x512.size inb_S1x512_S1x512_0_0,
      k0_pay607 (k0_pay605 (uRows arg5 x5 n h)) (scale arg9 x9) (shift arg10 x10) (dcRows arg6 x6 n h)
        (arg14.view.readCov (dgList n (Nat.le_of_succ_le h)) (Rect.unit (s := S1x512) ![0, 0] S1x512.size inb_S1x512_S1x512_0_0).toLoadRect)⟩
      :: dgList n (Nat.le_of_succ_le h)

/-- The pieces of the gradient of the norm's shift. -/
def dbList : (n : ℕ) → n ≤ 8 → List (View.Piece (Elt F) S1x512 .f32)
  | 0, _ => [⟨Rect.unit (s := S1x512) ![0, 0] S1x512.size inb_S1x512_S1x512_0_0, k0_pay454 (F := F)⟩]
  | n + 1, h => ⟨Rect.unit (s := S1x512) ![0, 0] S1x512.size inb_S1x512_S1x512_0_0,
      k0_pay608 (k0_pay605 (uRows arg5 x5 n h)) (scale arg9 x9) (shift arg10 x10) (dcRows arg6 x6 n h)
        (arg15.view.readCov (dbList n (Nat.le_of_succ_le h)) (Rect.unit (s := S1x512) ![0, 0] S1x512.size inb_S1x512_S1x512_0_0).toLoadRect)⟩
      :: dbList n (Nat.le_of_succ_le h)

/-- The pieces of the gradient of the convolution's bias. -/
def dcbList : (n : ℕ) → n ≤ 8 → List (View.Piece (Elt F) S1x512 .f32)
  | 0, _ => [⟨Rect.unit (s := S1x512) ![0, 0] S1x512.size inb_S1x512_S1x512_0_0, k0_pay452 (F := F)⟩]
  | n + 1, h => ⟨Rect.unit (s := S1x512) ![0, 0] S1x512.size inb_S1x512_S1x512_0_0,
      duArgs (uRows arg5 x5 n h) (scale arg9 x9) (shift arg10 x10) (dcRows arg6 x6 n h) k0_pay614
        (arg13.view.readCov (dcbList n (Nat.le_of_succ_le h)) (Rect.unit (s := S1x512) ![0, 0] S1x512.size inb_S1x512_S1x512_0_0).toLoadRect)⟩
      :: dcbList n (Nat.le_of_succ_le h)

/-- The pieces of the padded lines of the convolution. -/
def zList : List (View.Piece (Elt F) S2112x512 .f32) :=
  [⟨Rect.unit (s := S2112x512) ![32, 256] S2048x256.size inb_S2112x512_S2048x256_32_256,
      k0_pay449
        (View.readAt (Elt F) arg2.view (Rect.unit (s := S2048x256) ![0, 0] S2048x256.size inb_S2048x256_S2048x256_0_0).toLoadRect x2)
        (View.readAt (Elt F) arg4.view (Rect.unit (s := S2048x256) ![0, 0] S2048x256.size inb_S2048x256_S2048x256_0_0).toLoadRect x4)⟩,
    ⟨Rect.unit (s := S2112x512) ![32, 0] S2048x256.size inb_S2112x512_S2048x256_32_0,
      k0_pay448
        (View.readAt (Elt F) arg1.view (Rect.unit (s := S2048x256) ![0, 0] S2048x256.size inb_S2048x256_S2048x256_0_0).toLoadRect x1)
        (View.readAt (Elt F) arg3.view (Rect.unit (s := S2048x256) ![0, 0] S2048x256.size inb_S2048x256_S2048x256_0_0).toLoadRect x3)⟩,
    ⟨Rect.unit (s := S2112x512) ![2080, 0] S32x512.size inb_S2112x512_S32x512_2080_0, k0_pay447⟩,
    ⟨Rect.unit (s := S2112x512) ![0, 0] S32x512.size inb_S2112x512_S32x512_0_0, k0_pay446⟩]

/-- The first `b` copies of the window, of the lines `ld` starting one row later each. -/
def copies (ld : (b : ℕ) → b < 8 → Vec F S280x512 .f32) : (b : ℕ) → b ≤ 8 → List (View.Piece (Elt F) S8x288x512 .f32)
  | 0, _ => []
  | b + 1, h => ⟨Rect.unit (s := S8x288x512) ![b, 0, 0] S1x280x512.size (copyInb b h), k0_pay455 (ld b h)⟩
      :: copies ld b (Nat.le_of_succ_le h)

/-- The lines that copy `b` of the window of chunk `n` holds. -/
def zLd (n : ℕ) (hn : n < 8) (b : ℕ) (hb : b < 8) : Vec F S280x512 .f32 :=
  arg16.view.readCov (zList arg1 arg2 arg3 arg4 x1 x2 x3 x4)
    (Rect.unit (s := S2112x512) ![256 * n + 2 + b, 0] S280x512.size (padInb _ (by omega))).toLoadRect

/-- The gradient's lines that copy `b` of the window of chunk `n` holds. -/
def duLd (n : ℕ) (hn : n < 8) (b : ℕ) (hb : b < 8) : Vec F S280x512 .f32 :=
  arg17.view.readCov (duList arg5 arg6 arg9 arg10 x5 x6 x9 x10 8 (Nat.le_refl _))
    (Rect.unit (s := S2112x512) ![256 * n + b, 0] S280x512.size (padInb _ (by omega))).toLoadRect

/-- The window's pieces after `n` chunks of the first pass. -/
def zWin : (n : ℕ) → n ≤ 8 → List (View.Piece (Elt F) S8x288x512 .f32)
  | 0, _ => []
  | n + 1, h => copies (zLd arg1 arg2 arg3 arg4 arg16 x1 x2 x3 x4 n h) 8 (Nat.le_refl _) ++ zWin n (Nat.le_of_succ_le h)

/-- The window's pieces after `n` chunks of the second pass. -/
def duWin : (n : ℕ) → n ≤ 8 → List (View.Piece (Elt F) S8x288x512 .f32)
  | 0, _ => zWin arg1 arg2 arg3 arg4 arg16 x1 x2 x3 x4 8 (Nat.le_refl _)
  | n + 1, h => copies (duLd arg5 arg6 arg9 arg10 arg17 x5 x6 x9 x10 n h) 8 (Nat.le_refl _) ++ duWin n (Nat.le_of_succ_le h)

/-- What lies under the pieces of the padded gradient: the last chunk has covered it all. -/
def under (n : ℕ) : BufTy.Contents (Elt F) arg17.view.ty :=
  match n with
  | 7 => arg17.view.junk
  | _ => f17

/-- The sums of the gradient of the taps after `n` chunks. -/
def accAll : (n : ℕ) → n ≤ 8 → BufTy.Contents (Elt F) arg20.view.ty
  | 0, _ => arg20.view.writes (Elt F) arg20.view.junk
      [⟨Rect.unit (s := S256x512) ![0, 0] S256x512.size inb_S256x512_S256x512_0_0, k0_pay451 (F := F)⟩]
  | n + 1, h => accChunk arg20
      (block arg17 (arg17.view.writes (Elt F) (under arg17 f17 n) (duList arg5 arg6 arg9 arg10 x5 x6 x9 x10 (n + 1) h)) n h)
      (window arg18 (arg18.view.writes (Elt F) f18 (zWin arg1 arg2 arg3 arg4 arg16 x1 x2 x3 x4 (n + 1) h)))
      (accAll n (Nat.le_of_succ_le h))

/-- The pieces of the gradient of the taps. -/
def dwList (f : BufTy.Contents (Elt F) arg20.view.ty) : (k : ℕ) → k ≤ 31 → List (View.Piece (Elt F) S32x512 .f32)
  | 0, _ => []
  | k + 1, h => ⟨Rect.unit (s := S32x512) ![k, 0] S1x512.size (dwInb k (by omega)),
      k0_pay616 (View.readAt (Elt F) arg20.view (Rect.unit (s := S256x512) ![8 * k, 0] S8x512.size (rowInb k h)).toLoadRect f)⟩
      :: dwList f k (Nat.le_of_succ_le h)

/-- The pieces of the taps' sums after `n` chunks of the second pass. -/
def tapAll : (n : ℕ) → n ≤ 8 → List (View.Piece (Elt F) S256x512 .f32)
  | 0, _ => []
  | n + 1, h => tapPieces (window arg18 (arg18.view.writes (Elt F) f18
        (duWin arg1 arg2 arg3 arg4 arg5 arg6 arg9 arg10 arg16 arg17 x1 x2 x3 x4 x5 x6 x9 x10 (n + 1) h)))
      (tap arg7 x7) k0_t1_loop.trips ++ tapAll n (Nat.le_of_succ_le h)

/-- A chunk's rows of a block of the gate's inputs. -/
abbrev gluRows (arg : Memref sig .tc .vmem S2048x256 .bf16) (x : BufTy.Contents (Elt F) arg.view.ty) (n : ℕ) (hn : n < 8) :
    Vec F S256x256 .bf16 :=
  View.readAt (Elt F) arg.view (Rect.unit (s := S2048x256) ![256 * n, 0] S256x256.size (gluInb n hn)).toLoadRect x

/-- The gradient of the lines of chunk `n`. -/
def dzRows (n : ℕ) (hn : n < 8) : Vec F S256x512 .f32 :=
  arg19.view.readCov (tapAll arg1 arg2 arg3 arg4 arg5 arg6 arg7 arg9 arg10 arg16 arg17 arg18 x1 x2 x3 x4 x5 x6 x7 x9 x10 f18 (n + 1) hn)
    (Rect.unit (s := S256x512) ![0, 0] S256x512.size inb_S256x512_S256x512_0_0).toLoadRect

/-- The pieces of the gradient of the gate's inputs after `n` chunks, of the lines' gradient `dz`. -/
def dgluList (dz : (n : ℕ) → n < 8 → Vec F S256x512 .f32) : (n : ℕ) → n ≤ 8 → List (View.Piece (Elt F) S2048x1024 .bf16)
  | 0, _ => []
  | n + 1, h =>
    ⟨Rect.unit (s := S2048x1024) ![256 * n, 256 * 3] S256x256.size (dgluInb n 3 h (by decide)),
      k0_pay666 (dz n h) (k0_pay662 (gluRows arg4 x4 n h)) (gluRows arg2 x2 n h)⟩ ::
    ⟨Rect.unit (s := S2048x1024) ![256 * n, 256 * 1] S256x256.size (dgluInb n 1 h (by decide)),
      k0_pay665 (dz n h) (k0_pay662 (gluRows arg4 x4 n h))⟩ ::
    ⟨Rect.unit (s := S2048x1024) ![256 * n, 256 * 2] S256x256.size (dgluInb n 2 h (by decide)),
      k0_pay661 (dz n h) (gluRows arg3 x3 n h) (gluRows arg1 x1 n h)⟩ ::
    ⟨Rect.unit (s := S2048x1024) ![256 * n, 256 * 0] S256x256.size (dgluInb n 0 h (by decide)),
      k0_pay660 (dz n h) (gluRows arg3 x3 n h)⟩ ::
    dgluList dz n (Nat.le_of_succ_le h)

end Words

section Run

variable (c : Dev nD) (i : grid0.Coords)
  (arg1 : Memref sig .tc .vmem S2048x256 .bf16) (harg1 : arg1.IsWhole)
  (arg2 : Memref sig .tc .vmem S2048x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S2048x512 .f32) (harg5 : arg5.IsWhole)
  (arg6 : Memref sig .tc .vmem S2048x512 .bf16) (harg6 : arg6.IsWhole)
  (arg7 : Memref sig .tc .vmem S32x512 .f32) (harg7 : arg7.IsWhole)
  (arg8 : Memref sig .tc .vmem S1x512 .f32) (harg8 : arg8.IsWhole)
  (arg9 : Memref sig .tc .vmem S1x512 .f32) (harg9 : arg9.IsWhole)
  (arg10 : Memref sig .tc .vmem S1x512 .f32) (harg10 : arg10.IsWhole)
  (arg11 : Memref sig .tc .vmem S2048x1024 .bf16) (harg11 : arg11.IsWhole)
  (arg12 : Memref sig .tc .vmem S32x512 .f32) (harg12 : arg12.IsWhole)
  (arg13 : Memref sig .tc .vmem S1x512 .f32) (harg13 : arg13.IsWhole)
  (arg14 : Memref sig .tc .vmem S1x512 .f32) (harg14 : arg14.IsWhole)
  (arg15 : Memref sig .tc .vmem S1x512 .f32) (harg15 : arg15.IsWhole)
  (arg16 : Memref sig .tc .vmem S2112x512 .f32) (harg16 : arg16.IsWhole)
  (arg17 : Memref sig .tc .vmem S2112x512 .f32) (harg17 : arg17.IsWhole)
  (arg18 : Memref sig .tc .vmem S8x288x512 .f32) (harg18 : arg18.IsWhole)
  (arg19 : Memref sig .tc .vmem S256x512 .f32) (harg19 : arg19.IsWhole)
  (arg20 : Memref sig .tc .vmem S256x512 .f32) (harg20 : arg20.IsWhole)
  (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (x9 : BufTy.Contents (Elt F) arg9.view.ty) (x10 : BufTy.Contents (Elt F) arg10.view.ty)
  (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty)

set_option maxHeartbeats 4000000 in
/-- What the body leaves in the gradient of the bias. -/
theorem dcb_eq : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 f11 f12 f13 f14 f15 f16 f17 f18 f19 f20).2.2.1 = arg13.view.writes (Elt F) arg13.view.junk (dcbList arg5 arg6 arg9 arg10 arg13 x5 x6 x9 x10 8 (Nat.le_refl _)) := by
  unfold run
  rfl

set_option maxHeartbeats 4000000 in
/-- What the body leaves in the gradient of the norm's scale. -/
theorem dg_eq : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 f11 f12 f13 f14 f15 f16 f17 f18 f19 f20).2.2.2.1 = arg14.view.writes (Elt F) arg14.view.junk (dgList arg5 arg6 arg9 arg10 arg14 x5 x6 x9 x10 8 (Nat.le_refl _)) := by
  unfold run
  rfl

set_option maxHeartbeats 4000000 in
/-- What the body leaves in the gradient of the norm's shift. -/
theorem db_eq : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 f11 f12 f13 f14 f15 f16 f17 f18 f19 f20).2.2.2.2.1 = arg15.view.writes (Elt F) arg15.view.junk (dbList arg5 arg6 arg9 arg10 arg15 x5 x6 x9 x10 8 (Nat.le_refl _)) := by
  unfold run
  rfl

set_option maxHeartbeats 4000000 in
/-- What the body leaves in the gradient of the taps. -/
theorem dw_eq : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 f11 f12 f13 f14 f15 f16 f17 f18 f19 f20).2.1 = arg12.view.writes (Elt F) arg12.view.junk
      (⟨Rect.unit (s := S32x512) ![31, 0] S1x512.size (dwInb 31 (by decide)), k0_pay647⟩ ::
        dwList arg20 (accAll arg1 arg2 arg3 arg4 arg5 arg6 arg9 arg10 arg16 arg17 arg18 arg20 x1 x2 x3 x4 x5 x6 x9 x10 f17 f18 8 (Nat.le_refl _)) 31 (Nat.le_refl _)) := by
  unfold run
  rfl

set_option maxHeartbeats 4000000 in
/-- What the body leaves in the gradient of the gate's inputs. -/
theorem dglu_eq : (run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x1 x2 x3 x4 x5 x6 x7 x8 x9 x10 f11 f12 f13 f14 f15 f16 f17 f18 f19 f20).1 = arg11.view.writes (Elt F) f11 (dgluList arg1 arg2 arg3 arg4 x1 x2 x3 x4
      (dzRows arg1 arg2 arg3 arg4 arg5 arg6 arg7 arg9 arg10 arg16 arg17 arg18 arg19 x1 x2 x3 x4 x5 x6 x7 x9 x10 f18) 8 (Nat.le_refl _)) := by
  unfold run
  rfl

end Run

end Cert.ConvWords

end
-- ==== Proof.ConvRead.lean ====
/-
  The gradient of the convolution: what the loops read back of what the body stored before them. Neither the window
  nor the padded gradient shows what lay in the scratch buffers before the body ran.
-/
module

public import proofs.«01_k».proof.Proof.ConvWords
public import Idealize.ShloMosaic.Lib.Pointwise
public import Idealize.ShloMosaic.Lib.WritesUnit

@[expose] public section

set_option maxRecDepth 16384

noncomputable section

namespace Cert.ConvWords

open Cert.ConvBwdIdeal Cert.ConvBwdIdeal.Gen Cert.ConvTrip Cert.ConvRun
open Idealize.ShloMosaic Idealize.ShloMosaic.TcCoe

variable {F : FTy → Type} [FloatOps F]

/-- The rows of a chunk that a trip reads. -/
def blockOf (w : Vec F S256x512 .f32) (k : Trips) : Vec F S32x512 .f32 :=
  fun y => w (ix2 ⟨32 * k.val + (y 0).val, by have := trips_lt k; have : (y 0).val < 32 := (y 0).isLt; omega⟩ (y 1))

/-- The rows that tap `j` reads at trip `k`, of copies `ld` of the lines. -/
def winOf (ld : (b : ℕ) → b < 8 → Vec F S280x512 .f32) (k : Trips) (j : ℕ) (hj : j < 31) : Vec F S1x32x512 .f32 :=
  fun y => ld (j % 8) (Nat.mod_lt _ (by decide))
    (ix2 ⟨32 * k.val + 8 * (j / 8) + (y 1).val, by have := trips_lt k; have : (y 1).val < 32 := (y 1).isLt; omega⟩ (y 2))

theorem pay455_apply (v : Vec F S280x512 .f32) (z : Fin 1) (r : Fin 280) (x : Fin 512) :
    k0_pay455 v (ix3 z r x) = v (ix2 r x) := by
  unfold k0_pay455; simp only [pointwise, ↓reduceDIte, OfNat.ofNat_ne_one, Nat.reduceEqDiff]

/-- Of the copies each is read back as it was stored. -/
theorem copies_read (arg18 : Memref sig .tc .vmem S8x288x512 .f32) (ld : (b : ℕ) → b < 8 → Vec F S280x512 .f32)
    (f : BufTy.Contents (Elt F) arg18.view.ty) (rest : List (View.Piece (Elt F) S8x288x512 .f32)) (b : ℕ) (hb : b < 8)
    (r : ℕ) (hr : r < 280) (x : Fin 512) : ∀ (m : ℕ) (hm : m ≤ 8), b < m →
    arg18.view.read (Elt F) (arg18.view.writes (Elt F) f (copies ld m hm ++ rest)) (ix3 ⟨b, hb⟩ ⟨r, Nat.lt_of_lt_of_le hr (by decide)⟩ x)
      = ld b hb (ix2 ⟨r, hr⟩ x) := by
  intro m
  induction m with
  | zero => intro _ h; omega
  | succ m ih =>
    intro hm h
    rw [copies, List.cons_append]
    rcases Nat.lt_succ_iff_lt_or_eq.mp h with h | h
    · refine (View.read_writes_cons_unit_of_not_mem _ _ _ _ _ _ rfl 0 (Or.inl h)).trans (ih _ h)
    · subst h
      refine (View.read_writes_cons_unit_of_mem _ _ _ _ _ _ (ix3 0 ⟨r, hr⟩ x) rfl ?_).trans (pay455_apply _ _ _ _)
      exact fun a => match a with
        | ⟨0, _⟩ => rfl
        | ⟨1, _⟩ => (Nat.zero_add _).symm
        | ⟨2, _⟩ => (Nat.zero_add _).symm

/-- What a tap reads of the window just stored. -/
theorem window_eq (arg18 : Memref sig .tc .vmem S8x288x512 .f32) (ld : (b : ℕ) → b < 8 → Vec F S280x512 .f32)
    (f : BufTy.Contents (Elt F) arg18.view.ty) (rest : List (View.Piece (Elt F) S8x288x512 .f32)) :
    window arg18 (arg18.view.writes (Elt F) f (copies ld 8 (Nat.le_refl _) ++ rest)) = winOf ld := by
  funext k j hj y
  have hk := trips_lt k
  have hy : (y 1).val < 32 := (y 1).isLt
  refine (congrArg (arg18.view.read (Elt F) _) ?_).trans (copies_read arg18 ld f rest (j % 8) (Nat.mod_lt _ (by decide))
    (32 * k.val + 8 * (j / 8) + (y 1).val) (by omega) (y 2) 8 (Nat.le_refl _) (Nat.mod_lt _ (by decide)))
  have hw := winOff_eq k j hj
  funext a
  apply Fin.ext
  match a with
  | ⟨0, _⟩ =>
    have h0 : (y 0).val < 1 := (y 0).isLt
    show winOff k j 0 + 1 * (y 0).val = j % 8
    rw [hw]; show j % 8 + 1 * (y 0).val = _; omega
  | ⟨1, _⟩ =>
    show winOff k j 1 + 1 * (y 1).val = _
    rw [hw]; show 32 * k.val + 8 * (j / 8) + 1 * (y 1).val = 32 * k.val + 8 * (j / 8) + (y 1).val; omega
  | ⟨2, _⟩ =>
    show winOff k j 2 + 1 * (y 2).val = (y 2).val
    rw [hw]; show 0 + 1 * (y 2).val = _; omega

/-- What a trip reads of the chunk's gradient just stored. -/
theorem block_eq (arg17 : Memref sig .tc .vmem S2112x512 .f32) (n : ℕ) (hn : n < 8) (w : Vec F S256x512 .f32)
    (f : BufTy.Contents (Elt F) arg17.view.ty) (rest : List (View.Piece (Elt F) S2112x512 .f32)) :
    block arg17 (arg17.view.writes (Elt F) f
      (⟨Rect.unit (s := S2112x512) ![256 * n, 0] S256x512.size (chunkInb n hn), w⟩ :: rest)) n hn = blockOf w := by
  funext k y
  have ho := k0_off1_eq k
  refine View.read_writes_cons_unit_of_mem _ _ _ _ _ _ _ rfl ?_
  exact fun a => match a with
    | ⟨0, _⟩ => by
      show 256 * n + k0_off1 k 0 + 1 * 1 * (y 0).val = 256 * n + (32 * k.val + (y 0).val)
      rw [ho]; show 256 * n + 32 * k.val + 1 * 1 * (y 0).val = _; omega
    | ⟨1, _⟩ => by
      show 0 + k0_off1 k 1 + 1 * 1 * (y 1).val = 0 + (y 1).val
      rw [ho]; show 0 + 0 + 1 * 1 * (y 1).val = _; omega

section Free

variable
  (arg1 : Memref sig .tc .vmem S2048x256 .bf16)
  (arg2 : Memref sig .tc .vmem S2048x256 .bf16)
  (arg3 : Memref sig .tc .vmem S2048x256 .bf16)
  (arg4 : Memref sig .tc .vmem S2048x256 .bf16)
  (arg5 : Memref sig .tc .vmem S2048x512 .f32)
  (arg6 : Memref sig .tc .vmem S2048x512 .bf16)
  (arg7 : Memref sig .tc .vmem S32x512 .f32)
  (arg9 : Memref sig .tc .vmem S1x512 .f32)
  (arg10 : Memref sig .tc .vmem S1x512 .f32)
  (arg13 : Memref sig .tc .vmem S1x512 .f32)
  (arg14 : Memref sig .tc .vmem S1x512 .f32)
  (arg15 : Memref sig .tc .vmem S1x512 .f32)
  (arg16 : Memref sig .tc .vmem S2112x512 .f32)
  (arg17 : Memref sig .tc .vmem S2112x512 .f32)
  (arg18 : Memref sig .tc .vmem S8x288x512 .f32)
  (arg19 : Memref sig .tc .vmem S256x512 .f32)
  (arg20 : Memref sig .tc .vmem S256x512 .f32)
  (x1 : BufTy.Contents (Elt F) arg1.view.ty)
  (x2 : BufTy.Contents (Elt F) arg2.view.ty)
  (x3 : BufTy.Contents (Elt F) arg3.view.ty)
  (x4 : BufTy.Contents (Elt F) arg4.view.ty)
  (x5 : BufTy.Contents (Elt F) arg5.view.ty)
  (x6 : BufTy.Contents (Elt F) arg6.view.ty)
  (x7 : BufTy.Contents (Elt F) arg7.view.ty)
  (x9 : BufTy.Contents (Elt F) arg9.view.ty)
  (x10 : BufTy.Contents (Elt F) arg10.view.ty)
  (f17 : BufTy.Contents (Elt F) arg17.view.ty) (f18 : BufTy.Contents (Elt F) arg18.view.ty)

/-- The gradient of the rows of chunk `n`, as stored. -/
def duRows (n : ℕ) (hn : n < 8) : Vec F S256x512 .f32 :=
  duArgs (uRows arg5 x5 n hn) (scale arg9 x9) (shift arg10 x10) (dcRows arg6 x6 n hn) k0_pay613

/-- The sums of the gradient of the taps after `n` chunks, of the chunks' gradients and lines alone. -/
def accSum (D : (n : ℕ) → n < 8 → Vec F S256x512 .f32) (Z : (n : ℕ) → n < 8 → (b : ℕ) → b < 8 → Vec F S280x512 .f32) :
    (n : ℕ) → n ≤ 8 → BufTy.Contents (Elt F) arg20.view.ty
  | 0, _ => arg20.view.writes (Elt F) arg20.view.junk
      [⟨Rect.unit (s := S256x512) ![0, 0] S256x512.size inb_S256x512_S256x512_0_0, k0_pay451 (F := F)⟩]
  | n + 1, h => accChunk arg20 (blockOf (D n h)) (winOf (Z n h)) (accSum D Z n (Nat.le_of_succ_le h))

theorem accAll_eq : ∀ (n : ℕ) (hn : n ≤ 8),
    accAll arg1 arg2 arg3 arg4 arg5 arg6 arg9 arg10 arg16 arg17 arg18 arg20 x1 x2 x3 x4 x5 x6 x9 x10 f17 f18 n hn
      = accSum arg20 (duRows arg5 arg6 arg9 arg10 x5 x6 x9 x10) (zLd arg1 arg2 arg3 arg4 arg16 x1 x2 x3 x4) n hn := by
  intro n
  induction n with
  | zero => intro _; rfl
  | succ n ih =>
    intro hn
    rw [accAll, accSum, ih, duList, zWin, block_eq, window_eq]
    rfl

/-- The pieces of the taps' sums after `n` chunks, of the gradient's lines alone. -/
def tapLists (T : (j : ℕ) → j < 31 → Vec F S1x512 .f32) (Z : (n : ℕ) → n < 8 → (b : ℕ) → b < 8 → Vec F S280x512 .f32) :
    (n : ℕ) → n ≤ 8 → List (View.Piece (Elt F) S256x512 .f32)
  | 0, _ => []
  | n + 1, h => tapPieces (winOf (Z n h)) T k0_t1_loop.trips ++ tapLists T Z n (Nat.le_of_succ_le h)

theorem tapAll_eq : ∀ (n : ℕ) (hn : n ≤ 8),
    tapAll arg1 arg2 arg3 arg4 arg5 arg6 arg7 arg9 arg10 arg16 arg17 arg18 x1 x2 x3 x4 x5 x6 x7 x9 x10 f18 n hn
      = tapLists (tap arg7 x7) (duLd arg5 arg6 arg9 arg10 arg17 x5 x6 x9 x10) n hn := by
  intro n
  induction n with
  | zero => intro _; rfl
  | succ n ih =>
    intro hn
    rw [tapAll, tapLists, ih, duWin, window_eq]

/-- The gradient of the lines of chunk `n`, of the gradient's lines alone. -/
def dzOf (T : (j : ℕ) → j < 31 → Vec F S1x512 .f32) (Z : (n : ℕ) → n < 8 → (b : ℕ) → b < 8 → Vec F S280x512 .f32)
    (n : ℕ) (hn : n < 8) : Vec F S256x512 .f32 :=
  arg19.view.readCov (tapLists T Z (n + 1) hn)
    (Rect.unit (s := S256x512) ![0, 0] S256x512.size inb_S256x512_S256x512_0_0).toLoadRect

theorem dzRows_eq :
    dzRows arg1 arg2 arg3 arg4 arg5 arg6 arg7 arg9 arg10 arg16 arg17 arg18 arg19 x1 x2 x3 x4 x5 x6 x7 x9 x10 f18
      = dzOf arg19 (tap arg7 x7) (duLd arg5 arg6 arg9 arg10 arg17 x5 x6 x9 x10) := by
  funext n hn
  rw [dzRows, dzOf, tapAll_eq]

/-- Every element of the gradient of the gate's inputs is stored. -/
theorem dglu_cover (dz : (n : ℕ) → n < 8 → Vec F S256x512 .f32) (y : S2048x1024.Idx) : ∀ (n : ℕ) (hn : n ≤ 8), (y 0).val < 256 * n →
    ∃ pc ∈ dgluList arg1 arg2 arg3 arg4 x1 x2 x3 x4 dz n hn, y ∈ pc.1.set := by
  have h1 : (y 1).val < 1024 := (y 1).isLt
  intro n
  induction n with
  | zero => intro _ h; omega
  | succ n ih =>
    intro hn h
    rcases Nat.lt_or_ge (y 0).val (256 * n) with hl | hl
    · obtain ⟨pc, hpc, hy⟩ := ih (Nat.le_of_succ_le hn) hl
      exact ⟨pc, List.mem_cons_of_mem _ (List.mem_cons_of_mem _ (List.mem_cons_of_mem _ (List.mem_cons_of_mem _ hpc))), hy⟩
    have key : ∀ m : ℕ, 256 * m ≤ (y 1).val → (y 1).val < 256 * m + 256 →
        ∀ a : Fin S2048x1024.rank, ![256 * n, 256 * m] a ≤ (y a).val ∧ (y a).val < ![256 * n, 256 * m] a + S256x256.size a :=
      fun m hm hm' a => match a with
        | ⟨0, _⟩ => ⟨hl, by show (y 0).val < 256 * n + 256; omega⟩
        | ⟨1, _⟩ => ⟨hm, hm'⟩
    rw [dgluList]
    by_cases c3 : 768 ≤ (y 1).val
    · refine ⟨_, List.mem_cons_self, ?_⟩
      rw [Rect.mem_set_unit]; exact key 3 (by omega) (by omega)
    by_cases c2 : 512 ≤ (y 1).val
    · refine ⟨_, List.mem_cons_of_mem _ (List.mem_cons_of_mem _ List.mem_cons_self), ?_⟩
      rw [Rect.mem_set_unit]; exact key 2 (by omega) (by omega)
    by_cases c1 : 256 ≤ (y 1).val
    · refine ⟨_, List.mem_cons_of_mem _ List.mem_cons_self, ?_⟩
      rw [Rect.mem_set_unit]; exact key 1 (by omega) (by omega)
    · refine ⟨_, List.mem_cons_of_mem _ (List.mem_cons_of_mem _ (List.mem_cons_of_mem _ List.mem_cons_self)), ?_⟩
      rw [Rect.mem_set_unit]; exact key 0 (by omega) (by omega)

end Free

end Cert.ConvWords

end
-- ==== Proof.ConvFrame.lean ====
/-
  The gradient of the convolution: its launch. The proof data of the one grid point, the run of @main, and what every
  final state of it holds.
-/
module

public import proofs.«01_k».proof.Proof.ConvRead
public import proofs.«01_k».proof.Proof.Gen.ConvBwdIdeal.Frame
public import Idealize.ShloMosaic.Lib.Claim

@[expose] public section

set_option maxRecDepth 16384

noncomputable section

namespace Cert.ConvFrame

open Cert.ConvBwdIdeal Cert.ConvBwdIdeal.Gen Cert.ConvTrip Cert.ConvRun Cert.ConvWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

/-! ## The staging and scratch memrefs -/

abbrev st0 (t : Fin cfg0.N) : Memref sig .tc .vmem S2048x256 .bf16 := win0_0.stage (cfg0.slots t 0)
abbrev sh0 (t : Fin cfg0.N) : (st0 t).IsWhole := hstage0_0 ((cfg0.slots t 0).cast nbuf0_0)
abbrev st1 (t : Fin cfg0.N) : Memref sig .tc .vmem S2048x256 .bf16 := win0_1.stage (cfg0.slots t 1)
abbrev sh1 (t : Fin cfg0.N) : (st1 t).IsWhole := hstage0_1 ((cfg0.slots t 1).cast nbuf0_1)
abbrev st2 (t : Fin cfg0.N) : Memref sig .tc .vmem S2048x256 .bf16 := win0_2.stage (cfg0.slots t 2)
abbrev sh2 (t : Fin cfg0.N) : (st2 t).IsWhole := hstage0_2 ((cfg0.slots t 2).cast nbuf0_2)
abbrev st3 (t : Fin cfg0.N) : Memref sig .tc .vmem S2048x256 .bf16 := win0_3.stage (cfg0.slots t 3)
abbrev sh3 (t : Fin cfg0.N) : (st3 t).IsWhole := hstage0_3 ((cfg0.slots t 3).cast nbuf0_3)
abbrev st4 (t : Fin cfg0.N) : Memref sig .tc .vmem S2048x512 .f32 := win0_4.stage (cfg0.slots t 4)
abbrev sh4 (t : Fin cfg0.N) : (st4 t).IsWhole := hstage0_4 ((cfg0.slots t 4).cast nbuf0_4)
abbrev st5 (t : Fin cfg0.N) : Memref sig .tc .vmem S2048x512 .bf16 := win0_5.stage (cfg0.slots t 5)
abbrev sh5 (t : Fin cfg0.N) : (st5 t).IsWhole := hstage0_5 ((cfg0.slots t 5).cast nbuf0_5)
abbrev st6 (t : Fin cfg0.N) : Memref sig .tc .vmem S32x512 .f32 := win0_6.stage (cfg0.slots t 6)
abbrev sh6 (t : Fin cfg0.N) : (st6 t).IsWhole := hstage0_6 ((cfg0.slots t 6).cast nbuf0_6)
abbrev st7 (t : Fin cfg0.N) : Memref sig .tc .vmem S1x512 .f32 := win0_7.stage (cfg0.slots t 7)
abbrev sh7 (t : Fin cfg0.N) : (st7 t).IsWhole := hstage0_7 ((cfg0.slots t 7).cast nbuf0_7)
abbrev st8 (t : Fin cfg0.N) : Memref sig .tc .vmem S1x512 .f32 := win0_8.stage (cfg0.slots t 8)
abbrev sh8 (t : Fin cfg0.N) : (st8 t).IsWhole := hstage0_8 ((cfg0.slots t 8).cast nbuf0_8)
abbrev st9 (t : Fin cfg0.N) : Memref sig .tc .vmem S1x512 .f32 := win0_9.stage (cfg0.slots t 9)
abbrev sh9 (t : Fin cfg0.N) : (st9 t).IsWhole := hstage0_9 ((cfg0.slots t 9).cast nbuf0_9)
abbrev st10 (t : Fin cfg0.N) : Memref sig .tc .vmem S2048x1024 .bf16 := win0_10.stage (cfg0.slots t 10)
abbrev sh10 (t : Fin cfg0.N) : (st10 t).IsWhole := hstage0_10 ((cfg0.slots t 10).cast nbuf0_10)
abbrev st11 (t : Fin cfg0.N) : Memref sig .tc .vmem S32x512 .f32 := win0_11.stage (cfg0.slots t 11)
abbrev sh11 (t : Fin cfg0.N) : (st11 t).IsWhole := hstage0_11 ((cfg0.slots t 11).cast nbuf0_11)
abbrev st12 (t : Fin cfg0.N) : Memref sig .tc .vmem S1x512 .f32 := win0_12.stage (cfg0.slots t 12)
abbrev sh12 (t : Fin cfg0.N) : (st12 t).IsWhole := hstage0_12 ((cfg0.slots t 12).cast nbuf0_12)
abbrev st13 (t : Fin cfg0.N) : Memref sig .tc .vmem S1x512 .f32 := win0_13.stage (cfg0.slots t 13)
abbrev sh13 (t : Fin cfg0.N) : (st13 t).IsWhole := hstage0_13 ((cfg0.slots t 13).cast nbuf0_13)
abbrev st14 (t : Fin cfg0.N) : Memref sig .tc .vmem S1x512 .f32 := win0_14.stage (cfg0.slots t 14)
abbrev sh14 (t : Fin cfg0.N) : (st14 t).IsWhole := hstage0_14 ((cfg0.slots t 14).cast nbuf0_14)
abbrev sc0 : Memref sig .tc .vmem S2112x512 .f32 := Memref.whole cc0_scratch0
abbrev sc1 : Memref sig .tc .vmem S2112x512 .f32 := Memref.whole cc0_scratch1
abbrev sc2 : Memref sig .tc .vmem S8x288x512 .f32 := Memref.whole cc0_scratch2
abbrev sc3 : Memref sig .tc .vmem S256x512 .f32 := Memref.whole cc0_scratch3
abbrev sc4 : Memref sig .tc .vmem S256x512 .f32 := Memref.whole cc0_scratch4

/-- What the launch holds beside the windows: the five scratch buffers and the generator's register. -/
theorem phi_eq (c : Dev nD) :
    (Pipeline.ΦA spec0 c : sProp 𝕄G)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d)) ∗ (∃ r, prngReg c r)) := by
  unfold Pipeline.ΦA; rw [scopedRest0_eq]; simp only [sc0, sc1, sc2, sc3, sc4, owns_whole]; try rfl

variable (c : Dev nD) (m : (ℓ : Loc nD τ sig) → Buf (Elt F) ℓ) (ρ : Dev nD → PrngReg)

/-- The contents of the buffer of window 0: its block. -/
abbrev X0 (t : Fin cfg0.N) : BufTy.Contents (Elt F) (st0 t).view.ty := (sh0 t).unread (iblk m c 0 t)
/-- The contents of the buffer of window 1: its block. -/
abbrev X1 (t : Fin cfg0.N) : BufTy.Contents (Elt F) (st1 t).view.ty := (sh1 t).unread (iblk m c 1 t)
/-- The contents of the buffer of window 2: its block. -/
abbrev X2 (t : Fin cfg0.N) : BufTy.Contents (Elt F) (st2 t).view.ty := (sh2 t).unread (iblk m c 2 t)
/-- The contents of the buffer of window 3: its block. -/
abbrev X3 (t : Fin cfg0.N) : BufTy.Contents (Elt F) (st3 t).view.ty := (sh3 t).unread (iblk m c 3 t)
/-- The contents of the buffer of window 4: its block. -/
abbrev X4 (t : Fin cfg0.N) : BufTy.Contents (Elt F) (st4 t).view.ty := (sh4 t).unread (iblk m c 4 t)
/-- The contents of the buffer of window 5: its block. -/
abbrev X5 (t : Fin cfg0.N) : BufTy.Contents (Elt F) (st5 t).view.ty := (sh5 t).unread (iblk m c 5 t)
/-- The contents of the buffer of window 6: its block. -/
abbrev X6 (t : Fin cfg0.N) : BufTy.Contents (Elt F) (st6 t).view.ty := (sh6 t).unread (iblk m c 6 t)
/-- The contents of the buffer of window 7: its block. -/
abbrev X7 (t : Fin cfg0.N) : BufTy.Contents (Elt F) (st7 t).view.ty := (sh7 t).unread (iblk m c 7 t)
/-- The contents of the buffer of window 8: its block. -/
abbrev X8 (t : Fin cfg0.N) : BufTy.Contents (Elt F) (st8 t).view.ty := (sh8 t).unread (iblk m c 8 t)
/-- The contents of the buffer of window 9: its block. -/
abbrev X9 (t : Fin cfg0.N) : BufTy.Contents (Elt F) (st9 t).view.ty := (sh9 t).unread (iblk m c 9 t)

/-! ## What the body leaves in the five results -/

/-- The convolution's lines, eight copies a chunk. -/
abbrev lines (t : Fin cfg0.N) : (n : ℕ) → n < 8 → (b : ℕ) → b < 8 → Vec F S280x512 .f32 :=
  zLd (st0 t) (st1 t) (st2 t) (st3 t) sc0 (X0 c m t) (X1 c m t) (X2 c m t) (X3 c m t)

/-- The gradient of the convolution's output, eight copies a chunk. -/
abbrev duLines (t : Fin cfg0.N) : (n : ℕ) → n < 8 → (b : ℕ) → b < 8 → Vec F S280x512 .f32 :=
  duLd (st4 t) (st5 t) (st8 t) (st9 t) sc1 (X4 c m t) (X5 c m t) (X8 c m t) (X9 c m t)

/-- The gradient of the convolution's lines, chunk by chunk. -/
abbrev dz (t : Fin cfg0.N) : (n : ℕ) → n < 8 → Vec F S256x512 .f32 :=
  dzOf sc3 (tap (st6 t) (X6 c m t)) (duLines c m t)

/-- The gradient of the gate's inputs. -/
def out10 (t : Fin cfg0.N) : Vec F S2048x1024 .bf16 :=
  (st10 t).view.read (Elt F) ((st10 t).view.writes (Elt F) (st10 t).view.junk
    (dgluList (st0 t) (st1 t) (st2 t) (st3 t) (X0 c m t) (X1 c m t) (X2 c m t) (X3 c m t) (dz c m t) 8 (Nat.le_refl _)))

/-- The gradient of the taps. -/
def out11 (t : Fin cfg0.N) : Vec F S32x512 .f32 :=
  (st11 t).view.read (Elt F) ((st11 t).view.writes (Elt F) (st11 t).view.junk
    (⟨Rect.unit (s := S32x512) ![31, 0] S1x512.size (dwInb 31 (by decide)), k0_pay647⟩ ::
      dwList sc4 (accSum sc4 (duRows (st4 t) (st5 t) (st8 t) (st9 t) (X4 c m t) (X5 c m t) (X8 c m t) (X9 c m t)) (lines c m t) 8 (Nat.le_refl _))
        31 (Nat.le_refl _)))

/-- The gradient of the bias. -/
def out12 (t : Fin cfg0.N) : Vec F S1x512 .f32 :=
  (st12 t).view.read (Elt F) ((st12 t).view.writes (Elt F) (st12 t).view.junk
    (dcbList (st4 t) (st5 t) (st8 t) (st9 t) (st12 t) (X4 c m t) (X5 c m t) (X8 c m t) (X9 c m t) 8 (Nat.le_refl _)))

/-- The gradient of the norm's scale. -/
def out13 (t : Fin cfg0.N) : Vec F S1x512 .f32 :=
  (st13 t).view.read (Elt F) ((st13 t).view.writes (Elt F) (st13 t).view.junk
    (dgList (st4 t) (st5 t) (st8 t) (st9 t) (st13 t) (X4 c m t) (X5 c m t) (X8 c m t) (X9 c m t) 8 (Nat.le_refl _)))

/-- The gradient of the norm's shift. -/
def out14 (t : Fin cfg0.N) : Vec F S1x512 .f32 :=
  (st14 t).view.read (Elt F) ((st14 t).view.writes (Elt F) (st14 t).view.junk
    (dbList (st4 t) (st5 t) (st8 t) (st9 t) (st14 t) (X4 c m t) (X5 c m t) (X8 c m t) (X9 c m t) 8 (Nat.le_refl _)))

/-! ## The proof data -/

/-- Each array as launched, what the body leaves in each window's buffer, and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 c m t
    | ⟨11, _⟩ => out11 c m t
    | ⟨12, _⟩ => out12 c m t
    | ⟨13, _⟩ => out13 c m t
    | ⟨14, _⟩ => out14 c m t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = out10 c m t := by dsimp only [dats]
theorem after11 (c : Dev nD) (t : Fin cfg0.N) : (dats m 0 c).after 11 t = out11 c m t := by dsimp only [dats]
theorem after12 (c : Dev nD) (t : Fin cfg0.N) : (dats m 0 c).after 12 t = out12 c m t := by dsimp only [dats]
theorem after13 (c : Dev nD) (t : Fin cfg0.N) : (dats m 0 c).after 13 t = out13 c m t := by dsimp only [dats]
theorem after14 (c : Dev nD) (t : Fin cfg0.N) : (dats m 0 c).after 14 t = out14 c m t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d

/-! ## The body at a point -/

/-- What the pipeline hands the body at point `t`. -/
def bodyPre (c : Dev nD) (t : Fin cfg0.N) : sProp 𝕄G :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare ((dats m 0 c).before 10 t d))
    ∗ (∃ d, owns (c : Thread nD τ) (st11 t) fullShare ((dats m 0 c).before 11 t d))
    ∗ (∃ d, owns (c : Thread nD τ) (st12 t) fullShare ((dats m 0 c).before 12 t d))
    ∗ (∃ d, owns (c : Thread nD τ) (st13 t) fullShare ((dats m 0 c).before 13 t d))
    ∗ (∃ d, owns (c : Thread nD τ) (st14 t) fullShare ((dats m 0 c).before 14 t d)))

/-- What the body hands back at point `t`. -/
def bodyPost (c : Dev nD) (t : Fin cfg0.N) : sProp 𝕄G :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ owns (c : Thread nD τ) (st10 t) fullShare ((dats m 0 c).after 10 t)
    ∗ owns (c : Thread nD τ) (st11 t) fullShare ((dats m 0 c).after 11 t)
    ∗ owns (c : Thread nD τ) (st12 t) fullShare ((dats m 0 c).after 12 t)
    ∗ owns (c : Thread nD τ) (st13 t) fullShare ((dats m 0 c).after 13 t)
    ∗ owns (c : Thread nD τ) (st14 t) fullShare ((dats m 0 c).after 14 t))

/-- A whole buffer held with its contents is owned at what it reads. -/
theorem owns_of_held {sp : Space} {s : Shape} {e : EltTy} (a : Memref sig .tc sp s e) (f : BufTy.Contents (Elt F) a.view.ty) (d : s.Idx → Elt F e)
    (h : a.view.read (Elt F) f = d) : (held c a f : sProp 𝕄G) ⊢ owns (c : Thread nD τ) a fullShare d := by
  unfold owns
  iintro H
  iexists f; isplitr; swap; · iexact H
  ipureintro; exact h

/-- A whole buffer owned at what it reads is held with contents that read so. -/
theorem held_of_owns {sp : Space} {s : Shape} {e : EltTy} (a : Memref sig .tc sp s e) (ha : a.IsWhole) (d : s.Idx → Elt F e) :
    (owns (c : Thread nD τ) a fullShare d : sProp 𝕄G) ⊢ held c a (ha.unread d) := by
  unfold owns
  iintro ⟨%f, %h, H⟩
  obtain rfl := ha.eq_unread h
  iexact H

/-- The body's run at point `t`, on the pipeline's buffers. -/
abbrev runAt (t : Fin cfg0.N) (f11 : BufTy.Contents (Elt F) (st10 t).view.ty) (f12 : BufTy.Contents (Elt F) (st11 t).view.ty) (f13 : BufTy.Contents (Elt F) (st12 t).view.ty) (f14 : BufTy.Contents (Elt F) (st13 t).view.ty) (f15 : BufTy.Contents (Elt F) (st14 t).view.ty) (f16 : BufTy.Contents (Elt F) (sc0).view.ty) (f17 : BufTy.Contents (Elt F) (sc1).view.ty) (f18 : BufTy.Contents (Elt F) (sc2).view.ty) (f19 : BufTy.Contents (Elt F) (sc3).view.ty) (f20 : BufTy.Contents (Elt F) (sc4).view.ty) :=
  run (F := F) c (grid0.coords t) (st0 t) (sh0 t) (st1 t) (sh1 t) (st2 t) (sh2 t) (st3 t) (sh3 t) (st4 t) (sh4 t) (st5 t) (sh5 t) (st6 t) (sh6 t) (st7 t) (sh7 t) (st8 t) (sh8 t) (st9 t) (sh9 t) (st10 t) (sh10 t) (st11 t) (sh11 t) (st12 t) (sh12 t) (st13 t) (sh13 t) (st14 t) (sh14 t) sc0 (Memref.isWhole_whole _) sc1 (Memref.isWhole_whole _) sc2 (Memref.isWhole_whole _) sc3 (Memref.isWhole_whole _) sc4 (Memref.isWhole_whole _) (X0 c m t) (X1 c m t) (X2 c m t) (X3 c m t) (X4 c m t) (X5 c m t) (X6 c m t) (X7 c m t) (X8 c m t) (X9 c m t) f11 f12 f13 f14 f15 f16 f17 f18 f19 f20

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11, after12, after13, after14]
  rw [show (dats m 0 c).Φ t.castSucc = Pipeline.ΦA spec0 c from rfl, phi_eq]
  iintro ⟨⟨⟨⟨%e0, S0⟩, ⟨%e1, S1⟩, ⟨%e2, S2⟩, ⟨%e3, S3⟩, ⟨%e4, S4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave H0 := (held_of_owns c (st0 t) (sh0 t) _) $$ [H0]; · iexact H0
  ihave H1 := (held_of_owns c (st1 t) (sh1 t) _) $$ [H1]; · iexact H1
  ihave H2 := (held_of_owns c (st2 t) (sh2 t) _) $$ [H2]; · iexact H2
  ihave H3 := (held_of_owns c (st3 t) (sh3 t) _) $$ [H3]; · iexact H3
  ihave H4 := (held_of_owns c (st4 t) (sh4 t) _) $$ [H4]; · iexact H4
  ihave H5 := (held_of_owns c (st5 t) (sh5 t) _) $$ [H5]; · iexact H5
  ihave H6 := (held_of_owns c (st6 t) (sh6 t) _) $$ [H6]; · iexact H6
  ihave H7 := (held_of_owns c (st7 t) (sh7 t) _) $$ [H7]; · iexact H7
  ihave H8 := (held_of_owns c (st8 t) (sh8 t) _) $$ [H8]; · iexact H8
  ihave H9 := (held_of_owns c (st9 t) (sh9 t) _) $$ [H9]; · iexact H9
  ihave H10 := (held_of_owns c (st10 t) (sh10 t) _) $$ [H10]; · iexact H10
  ihave H11 := (held_of_owns c (st11 t) (sh11 t) _) $$ [H11]; · iexact H11
  ihave H12 := (held_of_owns c (st12 t) (sh12 t) _) $$ [H12]; · iexact H12
  ihave H13 := (held_of_owns c (st13 t) (sh13 t) _) $$ [H13]; · iexact H13
  ihave H14 := (held_of_owns c (st14 t) (sh14 t) _) $$ [H14]; · iexact H14
  ihave S0 := (held_of_owns c sc0 (Memref.isWhole_whole _) _) $$ [S0]; · iexact S0
  ihave S1 := (held_of_owns c sc1 (Memref.isWhole_whole _) _) $$ [S1]; · iexact S1
  ihave S2 := (held_of_owns c sc2 (Memref.isWhole_whole _) _) $$ [S2]; · iexact S2
  ihave S3 := (held_of_owns c sc3 (Memref.isWhole_whole _) _) $$ [S3]; · iexact S3
  ihave S4 := (held_of_owns c sc4 (Memref.isWhole_whole _) _) $$ [S4]; · iexact S4
  iapply ((runAt c m t _ _ _ _ _ _ _ _ _ _).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [S4]; · iexact S4
  iintro ⟨H0, H1, H2, H3, H4, H5, H6, H7, H8, H9, H10, H11, H12, H13, H14, ⟨%g0, S0⟩, ⟨%g1, S1⟩, ⟨%g2, S2⟩, ⟨%g3, S3⟩, ⟨%g4, S4⟩⟩
  isplitl [S0 S1 S2 S3 S4 Hg]
  · isplitl [S0 S1 S2 S3 S4]
    · isplitl [S0]; · iexists _; iapply (owns_of_held c sc0 _ _ rfl); iexact S0
      isplitl [S1]; · iexists _; iapply (owns_of_held c sc1 _ _ rfl); iexact S1
      isplitl [S2]; · iexists _; iapply (owns_of_held c sc2 _ _ rfl); iexact S2
      isplitl [S3]; · iexists _; iapply (owns_of_held c sc3 _ _ rfl); iexact S3
      iexists _; iapply (owns_of_held c sc4 _ _ rfl); iexact S4
    iexact Hg
  isplitl [Ho]; · iexact Ho
  isplitl [H0]; · iapply (owns_of_held c (st0 t) _ _ ((sh0 t).read_unread _)); iexact H0
  isplitl [H1]; · iapply (owns_of_held c (st1 t) _ _ ((sh1 t).read_unread _)); iexact H1
  isplitl [H2]; · iapply (owns_of_held c (st2 t) _ _ ((sh2 t).read_unread _)); iexact H2
  isplitl [H3]; · iapply (owns_of_held c (st3 t) _ _ ((sh3 t).read_unread _)); iexact H3
  isplitl [H4]; · iapply (owns_of_held c (st4 t) _ _ ((sh4 t).read_unread _)); iexact H4
  isplitl [H5]; · iapply (owns_of_held c (st5 t) _ _ ((sh5 t).read_unread _)); iexact H5
  isplitl [H6]; · iapply (owns_of_held c (st6 t) _ _ ((sh6 t).read_unread _)); iexact H6
  isplitl [H7]; · iapply (owns_of_held c (st7 t) _ _ ((sh7 t).read_unread _)); iexact H7
  isplitl [H8]; · iapply (owns_of_held c (st8 t) _ _ ((sh8 t).read_unread _)); iexact H8
  isplitl [H9]; · iapply (owns_of_held c (st9 t) _ _ ((sh9 t).read_unread _)); iexact H9
  isplitl [H10]
  · iapply (owns_of_held c (st10 t) _ _ ?_); swap; · iexact H10
    rw [dglu_eq, dzRows_eq]
    exact View.read_writes_of_cover _ _ _ _ _ (fun y => dglu_cover _ _ _ _ _ _ _ _ _ y 8 (Nat.le_refl _) (y 0).isLt)
  isplitl [H11]
  · iapply (owns_of_held c (st11 t) _ _ ?_); swap; · iexact H11
    rw [dw_eq, accAll_eq]; rfl
  isplitl [H12]
  · iapply (owns_of_held c (st12 t) _ _ ?_); swap; · iexact H12
    rw [dcb_eq]; rfl
  isplitl [H13]
  · iapply (owns_of_held c (st13 t) _ _ ?_); swap; · iexact H13
    rw [dg_eq]; rfl
  iapply (owns_of_held c (st14 t) _ _ ?_); swap; · iexact H14
  rw [db_eq]; rfl

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
/-- Every execution of @main ends, with each array as the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: every execution ends, the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ConvFrame

end
-- ==== Proof.ConvFrames.lean ====
/-
  The gradient of the convolution: the frames of the two kernel programs, from one run.
-/
module

public import proofs.«01_k».proof.Defs
public import proofs.«01_k».proof.Proof.ConvFrame
public import proofs.«01_k».proof.Proof.Gen.ConvBwd

@[expose] public section

noncomputable section

namespace Cert.ConvProof

open Idealize.ShloMosaic Idealize.SL.Sem

theorem frame_kernel : Cert.quiescent_ConvBwd := fun m ρ _ =>
  Eq.mp (by sl_kernel_rfl) (Cert.ConvFrame.frame_main (F := Bits) m ρ)

theorem frame_ideal : Cert.quiescent_ConvBwdIdeal := fun m ρ _ => Cert.ConvFrame.frame_main m ρ

end Cert.ConvProof

end
-- ==== Proof.ConvNorm.lean ====
/-
  The gradient of a layer norm over rows of 512: the factored form, and the one that the chain rule gives through the
  mean and the variance, are one function of a finite row and a finite cotangent.
-/
module

public import proofs.«01_k».proof.Proof.Rms

@[expose] public section

set_option maxRecDepth 16384

noncomputable section

namespace Cert.ConvNorm

open Idealize.ShloMosaic Cert.Common
open scoped BigOperators

/-- The length of a row, and the constant added to its variance. -/
def K : EReal := ((512 : ℝ) : EReal)
def eps : EReal := Ideal.ofBits .f32 0x3727C5AC#32

theorem ofBits_512 : Ideal.ofBits .f32 0x44000000#32 = K := by
  unfold K; simp [Ideal.ofBits, Ideal.ieee, -EReal.coe_mul]; norm_num

theorem div_K (y : EReal) : Ideal.div y K = y * ((512⁻¹ : ℝ) : EReal) := by
  have h : K ≠ 0 := by simp [K]
  rw [Ideal.div, if_neg h, K, ← EReal.coe_inv]

/-- A row less its mean. -/
def xc (x : Fin 512 → EReal) (i : Fin 512) : EReal := x i - Ideal.div (∑ j, x j) K
/-- The variance of a row plus the constant, and the factor that normalises the row. -/
def var (x : Fin 512 → EReal) : EReal := Ideal.div (∑ j, xc x j * xc x j) K + eps
def inv (x : Fin 512 → EReal) : EReal := Ideal.rsqrt (var x)
/-- The normalised row, and the row scaled and shifted. -/
def nrm (x : Fin 512 → EReal) (i : Fin 512) : EReal := xc x i * inv x
def pre (x g b : Fin 512 → EReal) (i : Fin 512) : EReal := nrm x i * g i + b i
/-- The gradient of the row before its gate `z · σ(z)`, of the cotangent `d`. -/
def dpre (x g b d : Fin 512 → EReal) (i : Fin 512) : EReal :=
  d i * (Ideal.logistic (pre x g b i) * (((1 : ℝ) : EReal) + pre x g b i * (((1 : ℝ) : EReal) - Ideal.logistic (pre x g b i))))
/-- The same by the product rule. -/
def dpre' (x g b d : Fin 512 → EReal) (i : Fin 512) : EReal :=
  d i * Ideal.logistic (pre x g b i)
    + pre x g b i * d i * (Ideal.logistic (pre x g b i) * (((1 : ℝ) : EReal) - Ideal.logistic (pre x g b i)))

/-- The factored gradient of a row `x` at the cotangent `D` of the normalised row. -/
def grad (x D : Fin 512 → EReal) (i : Fin 512) : EReal :=
  inv x * (D i - Ideal.div (∑ j, D j) K - nrm x i * Ideal.div (∑ j, D j * nrm x j) K)

/-- The part of the gradient that goes through the variance, for one of the two factors of the square. -/
def thru (x D : Fin 512 → EReal) : EReal :=
  Ideal.div ((∑ j, xc x j * D j) * (((-2⁻¹ : ℝ) : EReal) * Ideal.div (inv x) (var x))) K
/-- The gradient of the row less its mean. -/
def gradC (x D : Fin 512 → EReal) (i : Fin 512) : EReal := D i * inv x + xc x i * thru x D + thru x D * xc x i
/-- The gradient of the row. -/
def grad' (x D : Fin 512 → EReal) (i : Fin 512) : EReal := gradC x D i + Ideal.div (∑ j, -gradC x D j) K

theorem dpre_eq {x g b d : Fin 512 → EReal} (hd : ∀ i, Real (d i)) (i : Fin 512) : dpre x g b d i = dpre' x g b d i := by
  rw [dpre, dpre', ← mul_assoc, Common.silu_grad (hd i)]

/-- A finite row less its mean, in real numbers. -/
theorem xc_coe (y : Fin 512 → ℝ) (i : Fin 512) :
    xc (fun j => (y j : EReal)) i = ((y i - (∑ j, y j) * 512⁻¹ : ℝ) : EReal) := by
  rw [xc, div_K, ← Common.coe_sum, ← EReal.coe_mul, ← EReal.coe_sub]

/-- A finite row: the normalising factor is the inverse square root of a positive real. -/
theorem inv_coe (y : Fin 512 → ℝ) : ∃ v : ℝ, 0 < v ∧ var (fun j => (y j : EReal)) = (v : EReal)
    ∧ inv (fun j => (y j : EReal)) = (((Real.sqrt v)⁻¹ : ℝ) : EReal) := by
  obtain ⟨e, he, hE⟩ := Rms.eps_pos
  have hE' : eps = (e : EReal) := hE
  have h0 : 0 ≤ ∑ j, (y j - (∑ k, y k) * 512⁻¹) * (y j - (∑ k, y k) * 512⁻¹) := Finset.sum_nonneg fun j _ => mul_self_nonneg _
  have hv : 0 < (∑ j, (y j - (∑ k, y k) * 512⁻¹) * (y j - (∑ k, y k) * 512⁻¹)) * 512⁻¹ + e := by positivity
  have hvar : var (fun j => (y j : EReal)) = (((∑ j, (y j - (∑ k, y k) * 512⁻¹) * (y j - (∑ k, y k) * 512⁻¹)) * 512⁻¹ + e : ℝ) : EReal) := by
    rw [var, div_K, hE', EReal.coe_add, EReal.coe_mul, Common.coe_sum]
    simp only [xc_coe, EReal.coe_mul]
  refine ⟨_, hv, hvar, ?_⟩
  rw [inv, hvar]
  show (if _ < 0 then _ else if _ = 0 then _ else _) = _
  rw [if_neg hv.le.not_gt, if_neg hv.ne']

/-- The identity in real numbers. -/
theorem real_eq (y d : Fin 512 → ℝ) (ρ v : ℝ) (hρ : ρ * ρ = v⁻¹) (hs : ∑ j, y j = 0) (i : Fin 512) :
    ρ * (d i - (∑ j, d j) * 512⁻¹ - y i * ρ * ((∑ j, d j * (y j * ρ)) * 512⁻¹))
      = (d i * ρ + y i * ((∑ j, y j * d j) * (-2⁻¹ * (ρ * v⁻¹)) * 512⁻¹) + (∑ j, y j * d j) * (-2⁻¹ * (ρ * v⁻¹)) * 512⁻¹ * y i)
        + (∑ j, -(d j * ρ + y j * ((∑ j, y j * d j) * (-2⁻¹ * (ρ * v⁻¹)) * 512⁻¹) + (∑ j, y j * d j) * (-2⁻¹ * (ρ * v⁻¹)) * 512⁻¹ * y j)) * 512⁻¹ := by
  have h1 : ∑ j, d j * (y j * ρ) = (∑ j, y j * d j) * ρ := by
    rw [Finset.sum_mul]; exact Finset.sum_congr rfl fun j _ => by ring
  generalize (∑ j, y j * d j) = S at *
  have h2 : ∑ j, -(d j * ρ + y j * (S * (-2⁻¹ * (ρ * v⁻¹)) * 512⁻¹) + S * (-2⁻¹ * (ρ * v⁻¹)) * 512⁻¹ * y j)
      = -((∑ j, d j) * ρ) := by
    have : ∀ j, -(d j * ρ + y j * (S * (-2⁻¹ * (ρ * v⁻¹)) * 512⁻¹) + S * (-2⁻¹ * (ρ * v⁻¹)) * 512⁻¹ * y j)
        = -(d j * ρ) + (S * (ρ * v⁻¹) * 512⁻¹) * y j := fun j => by ring
    rw [Finset.sum_congr rfl fun j _ => this j, Finset.sum_add_distrib, Finset.sum_neg_distrib, ← Finset.mul_sum, hs, ← Finset.sum_mul]
    ring
  rw [h1, h2, ← hρ]
  ring

/-- The two forms are one function. -/
theorem grad_eq {x D : Fin 512 → EReal} (hx : ∀ j, Real (x j)) (hD : ∀ j, Real (D j)) (i : Fin 512) : grad x D i = grad' x D i := by
  choose y hy using hx
  choose d hd using hD
  obtain rfl : x = fun j => (y j : EReal) := funext hy
  obtain rfl : D = fun j => (d j : EReal) := funext hd
  obtain ⟨v, hv, hvar, hinv⟩ := inv_coe y
  have hρ : (Real.sqrt v)⁻¹ * (Real.sqrt v)⁻¹ = v⁻¹ := by rw [← mul_inv, Real.mul_self_sqrt hv.le]
  have hs : ∑ j, (y j - (∑ k, y k) * 512⁻¹) = 0 := by
    rw [Finset.sum_sub_distrib, Finset.sum_const, Finset.card_univ, Fintype.card_fin, nsmul_eq_mul]
    push_cast; ring
  have hdiv : Ideal.div (((Real.sqrt v)⁻¹ : ℝ) : EReal) (v : EReal) = (((Real.sqrt v)⁻¹ * v⁻¹ : ℝ) : EReal) := by
    rw [Ideal.div, if_neg (by exact_mod_cast hv.ne'), ← EReal.coe_inv, ← EReal.coe_mul]
  have ht : thru (fun j => (y j : EReal)) (fun j => (d j : EReal))
      = (((∑ j, (y j - (∑ k, y k) * 512⁻¹) * d j) * (-2⁻¹ * ((Real.sqrt v)⁻¹ * v⁻¹)) * 512⁻¹ : ℝ) : EReal) := by
    rw [thru, div_K, hinv, hvar, hdiv]
    simp only [xc_coe, EReal.coe_mul, Common.coe_sum]
  rw [grad, grad', div_K, div_K, div_K]
  simp only [nrm, gradC, ht, hinv, xc_coe, ← EReal.coe_mul, ← EReal.coe_add, ← EReal.coe_sub, ← EReal.coe_neg, ← Common.coe_sum]
  exact congrArg _ (real_eq (fun j => y j - (∑ k, y k) * 512⁻¹) d _ v hρ hs i)

/-- What a finite row gives is finite. -/
theorem nrm_real {x : Fin 512 → EReal} (hx : ∀ j, Real (x j)) (i : Fin 512) : Real (nrm x i) := by
  choose y hy using hx
  obtain rfl : x = fun j => (y j : EReal) := funext hy
  obtain ⟨v, hv, hvar, hinv⟩ := inv_coe y
  rw [nrm, hinv, xc_coe]
  exact (Real.coe _).mul (Real.coe _)

theorem dpre_real {x g b d : Fin 512 → EReal} (hd : ∀ j, Real (d j)) (i : Fin 512) : Real (dpre x g b d i) := by
  rw [dpre]
  refine (hd i).mul ?_
  generalize pre x g b i = z
  induction z using EReal.rec with
  | bot => exact ⟨0, by simp⟩
  | top => exact ⟨1, by simp [← EReal.coe_one, ← EReal.coe_sub, -EReal.coe_mul]; rw [← EReal.coe_mul, mul_one]⟩
  | coe r => exact ⟨_, by rw [Ideal.logistic_coe, ← EReal.coe_sub, ← EReal.coe_mul, ← EReal.coe_add, ← EReal.coe_mul]⟩

end Cert.ConvNorm

end
-- ==== Proof.ConvPay.lean ====
/-
  The gradient of the convolution over the extended reals: what one chunk of rows gives, entry by entry.
-/
module

public import proofs.«01_k».proof.Proof.ConvNorm
public import proofs.«01_k».proof.Proof.ConvRead

@[expose] public section

set_option maxRecDepth 16384

noncomputable section

namespace Cert.ConvPay

open Cert.ConvBwdIdeal Cert.ConvBwdIdeal.Gen Cert.ConvTrip Cert.ConvWords
open Idealize.ShloMosaic Idealize.ShloMosaic.TcCoe
open scoped BigOperators

section Chunk

variable (u : Vec Ideal S256x512 .f32) (g b : Vec Ideal S1x512 .f32) (dc : Vec Ideal S256x512 .bf16)

/-- The gradient of row `r` of the norm's output, and of the normalised row. -/
def hRow (r : Fin 256) (x : Fin 512) : EReal :=
  ConvNorm.dpre (fun x => u (ix2 r x)) (fun x => g (ix2 0 x)) (fun x => b (ix2 0 x)) (fun x => dc (ix2 r x)) x
def dRow (r : Fin 256) (x : Fin 512) : EReal := hRow u g b dc r x * g (ix2 0 x)

theorem pay603_apply (r : Fin 256) (x : Fin 512) : k0_pay603 u (ix2 r x) = ConvNorm.xc (fun x => u (ix2 r x)) x := by
  unfold k0_pay603
  simp only [pointwise, zero_add, ↓reduceDIte, OfNat.ofNat_ne_one, Nat.reduceEqDiff, ConvNorm.ofBits_512]
  rfl

theorem pay604_apply (r : Fin 256) : k0_pay604 u (ix2 r 0) = ConvNorm.inv (fun x => u (ix2 r x)) := by
  unfold k0_pay604
  simp only [pointwise, zero_add, ↓reduceDIte, OfNat.ofNat_ne_one, Nat.reduceEqDiff, ConvNorm.ofBits_512, pay603_apply]
  rfl

theorem pay605_apply (r : Fin 256) (x : Fin 512) : k0_pay605 u (ix2 r x) = ConvNorm.nrm (fun x => u (ix2 r x)) x := by
  unfold k0_pay605
  simp only [pointwise, ↓reduceDIte, OfNat.ofNat_ne_one, Nat.reduceEqDiff, pay603_apply, pay604_apply]
  rfl

theorem pay606_apply (r : Fin 256) (x : Fin 512) : k0_pay606 (k0_pay605 u) g b dc (ix2 r x) = hRow u g b dc r x := by
  unfold k0_pay606
  simp only [pointwise, ↓reduceDIte, OfNat.ofNat_ne_one, Nat.reduceEqDiff, pay605_apply, Common.ofBits_one]
  rfl

theorem pay609_apply (r : Fin 256) (x : Fin 512) : k0_pay609 (k0_pay605 u) g b dc g (ix2 r x) = dRow u g b dc r x := by
  unfold k0_pay609
  simp only [pointwise, ↓reduceDIte, OfNat.ofNat_ne_one, Nat.reduceEqDiff, pay606_apply]
  rfl

theorem pay610_apply (r : Fin 256) : k0_pay610 (k0_pay605 u) g b dc g (ix2 r 0) = ∑ x, dRow u g b dc r x := by
  unfold k0_pay610
  simp only [pointwise, zero_add, ↓reduceDIte, OfNat.ofNat_ne_one, Nat.reduceEqDiff, pay609_apply]

theorem pay612_apply (r : Fin 256) (x : Fin 512) :
    k0_pay612 (k0_pay604 u) (k0_pay605 u) (k0_pay609 (k0_pay605 u) g b dc g) (k0_pay610 (k0_pay605 u) g b dc g) k0_pay611 (ix2 r x)
      = ConvNorm.grad (fun x => u (ix2 r x)) (dRow u g b dc r) x := by
  unfold k0_pay612 k0_pay611
  simp only [pointwise, zero_add, ↓reduceDIte, OfNat.ofNat_ne_one, Nat.reduceEqDiff, ConvNorm.ofBits_512, pay604_apply, pay605_apply,
    pay609_apply, pay610_apply]
  rfl

/-- The gradient of the convolution's output, of a chunk's rows. -/
theorem pay613_apply (r : Fin 256) (x : Fin 512) :
    duArgs u g b dc k0_pay613 (ix2 r x) = ConvNorm.grad (fun x => u (ix2 r x)) (dRow u g b dc r) x := by
  unfold duArgs k0_pay613
  simp only [pointwise, ↓reduceDIte, OfNat.ofNat_ne_one, Nat.reduceEqDiff, pay612_apply]

theorem pay614_apply (old : Vec Ideal S1x512 .f32) (x : Fin 512) :
    duArgs u g b dc k0_pay614 old (ix2 0 x) = old (ix2 0 x) + ∑ r : Fin 256, ConvNorm.grad (fun x => u (ix2 r x)) (dRow u g b dc r) x := by
  unfold duArgs k0_pay614
  simp only [pointwise, zero_add, ↓reduceDIte, OfNat.ofNat_ne_one, Nat.reduceEqDiff, pay612_apply]

theorem pay607_apply (old : Vec Ideal S1x512 .f32) (x : Fin 512) :
    k0_pay607 (k0_pay605 u) g b dc old (ix2 0 x)
      = old (ix2 0 x) + ∑ r : Fin 256, hRow u g b dc r x * ConvNorm.nrm (fun x => u (ix2 r x)) x := by
  unfold k0_pay607
  simp only [pointwise, zero_add, ↓reduceDIte, OfNat.ofNat_ne_one, Nat.reduceEqDiff, pay606_apply, pay605_apply]

theorem pay608_apply (old : Vec Ideal S1x512 .f32) (x : Fin 512) :
    k0_pay608 (k0_pay605 u) g b dc old (ix2 0 x) = old (ix2 0 x) + ∑ r : Fin 256, hRow u g b dc r x := by
  unfold k0_pay608
  simp only [pointwise, zero_add, ↓reduceDIte, OfNat.ofNat_ne_one, Nat.reduceEqDiff, pay606_apply]

end Chunk

/-! ## The taps -/

theorem pay6_apply (D : Vec Ideal S32x512 .f32) (W : Vec Ideal S1x32x512 .f32) (old : Vec Ideal S8x512 .f32) (r : Fin 8) (x : Fin 512) :
    k0_pay6 D W old (ix2 r x) = old (ix2 r x)
      + ((D (ix2 ⟨r.val, by omega⟩ x) * W (ix3 0 ⟨r.val, by omega⟩ x) + D (ix2 ⟨8 + r.val, by omega⟩ x) * W (ix3 0 ⟨8 + r.val, by omega⟩ x))
        + (D (ix2 ⟨16 + r.val, by omega⟩ x) * W (ix3 0 ⟨16 + r.val, by omega⟩ x) + D (ix2 ⟨24 + r.val, by omega⟩ x) * W (ix3 0 ⟨24 + r.val, by omega⟩ x))) := by
  unfold k0_pay6
  simp only [pointwise, zero_add, ↓reduceDIte, OfNat.ofNat_ne_one, Nat.reduceEqDiff, Matrix.cons_val_zero, Matrix.cons_val_one, Matrix.cons_val_fin_one, Fin.eta]

theorem pay616_apply (v : Vec Ideal S8x512 .f32) (x : Fin 512) : k0_pay616 v (ix2 0 x) = ∑ r : Fin 8, v (ix2 r x) := by
  unfold k0_pay616
  simp only [pointwise, zero_add, ↓reduceDIte, OfNat.ofNat_ne_one, Nat.reduceEqDiff]

theorem tapSum_apply (W : Trips → (j : ℕ) → j < 31 → Vec Ideal S1x32x512 .f32) (T : (j : ℕ) → j < 31 → Vec Ideal S1x512 .f32)
    (f g : ℕ → EReal) (k : Trips) (r : Fin 32) (x : Fin 512) (hW : ∀ j hj, W k j hj (ix3 0 r x) = f j) (hT : ∀ j hj, T j hj (ix2 0 x) = g j) :
    ∀ (j : ℕ) (hj : j ≤ 31), tapSum W T k j hj (ix2 r x) = ∑ i ∈ Finset.range j, g i * f i := by
  intro j
  induction j with
  | zero =>
    intro _
    unfold tapSum k0_pay656
    simp only [pointwise, ↓reduceDIte, OfNat.ofNat_ne_one, Nat.reduceEqDiff, Finset.range_zero, Finset.sum_empty]
  | succ j ih =>
    intro hj
    rw [tapSum, Finset.sum_range_succ, ← ih (Nat.le_of_succ_le hj), ← hW j hj, ← hT j hj]
    simp only [pointwise, ↓reduceDIte, OfNat.ofNat_ne_one, Nat.reduceEqDiff]

/-! ## The gate -/

theorem pay448_apply (a b : Vec Ideal S2048x256 .bf16) (r : Fin 2048) (x : Fin 256) :
    k0_pay448 a b (ix2 r x) = a (ix2 r x) * Ideal.logistic (b (ix2 r x)) := by
  unfold k0_pay448
  simp only [pointwise, ↓reduceDIte, OfNat.ofNat_ne_one, Nat.reduceEqDiff]

theorem pay449_apply (a b : Vec Ideal S2048x256 .bf16) (r : Fin 2048) (x : Fin 256) :
    k0_pay449 a b (ix2 r x) = a (ix2 r x) * Ideal.logistic (b (ix2 r x)) := by
  unfold k0_pay449
  simp only [pointwise, ↓reduceDIte, OfNat.ofNat_ne_one, Nat.reduceEqDiff]

section Gate

variable (dz : Vec Ideal S256x512 .f32) (a b : Vec Ideal S256x256 .bf16) (r : Fin 256) (x : Fin 256)

theorem pay660_apply : k0_pay660 dz b (ix2 r x) = dz (ix2 r ⟨x.val, by omega⟩) * Ideal.logistic (b (ix2 r x)) := by
  unfold k0_pay660 k0_pay659 k0_pay658
  simp only [pointwise, zero_add, ↓reduceDIte, OfNat.ofNat_ne_one, Nat.reduceEqDiff, Matrix.cons_val_zero, Matrix.cons_val_one, Matrix.cons_val_fin_one, Fin.eta]

theorem pay661_apply : k0_pay661 dz b a (ix2 r x)
    = dz (ix2 r ⟨x.val, by omega⟩) * a (ix2 r x) * Ideal.logistic (b (ix2 r x)) * (((1 : ℝ) : EReal) - Ideal.logistic (b (ix2 r x))) := by
  unfold k0_pay661 k0_pay659 k0_pay658
  simp only [pointwise, zero_add, ↓reduceDIte, OfNat.ofNat_ne_one, Nat.reduceEqDiff, Matrix.cons_val_zero, Matrix.cons_val_one, Matrix.cons_val_fin_one, Fin.eta, Common.ofBits_one]

theorem pay665_apply : k0_pay665 dz (k0_pay662 b) (ix2 r x) = dz (ix2 r ⟨256 + x.val, by omega⟩) * Ideal.logistic (b (ix2 r x)) := by
  unfold k0_pay665 k0_pay664 k0_pay663 k0_pay662
  simp only [pointwise, zero_add, ↓reduceDIte, OfNat.ofNat_ne_one, Nat.reduceEqDiff, Matrix.cons_val_zero, Matrix.cons_val_one, Matrix.cons_val_fin_one, Fin.eta]

theorem pay666_apply : k0_pay666 dz (k0_pay662 b) a (ix2 r x)
    = dz (ix2 r ⟨256 + x.val, by omega⟩) * a (ix2 r x) * Ideal.logistic (b (ix2 r x)) * (((1 : ℝ) : EReal) - Ideal.logistic (b (ix2 r x))) := by
  unfold k0_pay666 k0_pay664 k0_pay663 k0_pay662
  simp only [pointwise, zero_add, ↓reduceDIte, OfNat.ofNat_ne_one, Nat.reduceEqDiff, Matrix.cons_val_zero, Matrix.cons_val_one, Matrix.cons_val_fin_one, Fin.eta, Common.ofBits_one]

end Gate

end Cert.ConvPay

end
-- ==== Proof.ConvVal.lean ====
/-
  The gradient of the convolution over the extended reals: what the chunks leave, in terms of the whole arrays. Rows
  are counted by natural numbers, and a row outside an array is zero.
-/
module

public import proofs.«01_k».proof.Proof.ConvPay

@[expose] public section

set_option maxRecDepth 16384

noncomputable section

namespace Cert.ConvVal

open Cert.ConvBwdIdeal Cert.ConvBwdIdeal.Gen Cert.ConvTrip Cert.ConvWords Cert.ConvPay
open Idealize.ShloMosaic Idealize.ShloMosaic.TcCoe
open scoped BigOperators

/-! ## The functions -/

section Fns

variable (U DC : S2048x512.Idx → EReal) (g b : S1x512.Idx → EReal)

/-- The gradient of the norm's output at row `s`. -/
def h (s : Fin 2048) (x : Fin 512) : EReal :=
  ConvNorm.dpre (fun x => U (ix2 s x)) (fun x => g (ix2 0 x)) (fun x => b (ix2 0 x)) (fun x => DC (ix2 s x)) x
/-- The gradient of the convolution's output at row `s`. -/
def du (s : Fin 2048) (x : Fin 512) : EReal :=
  ConvNorm.grad (fun x => U (ix2 s x)) (fun x => h U DC g b s x * g (ix2 0 x)) x
/-- The same, zero after the last row. -/
def duP (m : ℕ) (x : Fin 512) : EReal := if hm : m < 2048 then du U DC g b ⟨m, hm⟩ x else 0

/-- Two blocks of columns side by side. -/
def cat (A0 A1 : S2048x256.Idx → EReal) (s : Fin 2048) (x : Fin 512) : EReal :=
  if hx : x.val < 256 then A0 (ix2 s ⟨x.val, hx⟩) else A1 (ix2 s ⟨x.val - 256, by omega⟩)
/-- The convolution's lines, 32 zero rows before them and zeros after. -/
def zP (aa bb : Fin 2048 → Fin 512 → EReal) (m : ℕ) (x : Fin 512) : EReal :=
  if hm : 32 ≤ m ∧ m < 2080 then aa ⟨m - 32, by omega⟩ x * Ideal.logistic (bb ⟨m - 32, by omega⟩ x) else 0
/-- The taps. -/
def wP (T : S32x512.Idx → EReal) (i : ℕ) (x : Fin 512) : EReal := if hi : i < 32 then T (ix2 ⟨i, hi⟩ x) else 0
/-- The gradient of line `t`: the sum over the taps of the gradients of the rows that it enters. -/
def dzP (w D : ℕ → Fin 512 → EReal) (t : ℕ) (x : Fin 512) : EReal := ∑ i ∈ Finset.range 31, w (30 - i) x * D (t + i) x
/-- The gradient of tap `j`. -/
def dwP (D Z : ℕ → Fin 512 → EReal) (j : ℕ) (x : Fin 512) : EReal := ∑ m ∈ Finset.range 2048, D m x * Z (m + j + 2) x

end Fns

theorem trips_eq : k0_t1_loop.trips = 8 := by decide

/-! ## The padded gradient -/

section Mem

variable
  (arg1 arg2 arg3 arg4 : Memref sig .tc .vmem S2048x256 .bf16)
  (arg5 : Memref sig .tc .vmem S2048x512 .f32)
  (arg6 : Memref sig .tc .vmem S2048x512 .bf16)
  (arg7 : Memref sig .tc .vmem S32x512 .f32)
  (arg9 arg10 arg13 arg14 arg15 : Memref sig .tc .vmem S1x512 .f32)
  (arg11 : Memref sig .tc .vmem S2048x1024 .bf16)
  (arg12 : Memref sig .tc .vmem S32x512 .f32)
  (arg16 arg17 : Memref sig .tc .vmem S2112x512 .f32)
  (arg19 arg20 : Memref sig .tc .vmem S256x512 .f32)
  (x1 : BufTy.Contents (Elt Ideal) arg1.view.ty)
  (x2 : BufTy.Contents (Elt Ideal) arg2.view.ty)
  (x3 : BufTy.Contents (Elt Ideal) arg3.view.ty)
  (x4 : BufTy.Contents (Elt Ideal) arg4.view.ty)
  (x5 : BufTy.Contents (Elt Ideal) arg5.view.ty)
  (x6 : BufTy.Contents (Elt Ideal) arg6.view.ty)
  (x7 : BufTy.Contents (Elt Ideal) arg7.view.ty)
  (x9 : BufTy.Contents (Elt Ideal) arg9.view.ty)
  (x10 : BufTy.Contents (Elt Ideal) arg10.view.ty)

local notation "U" => (arg5.view.read (Elt Ideal) x5 : S2048x512.Idx → EReal)
local notation "DC" => (arg6.view.read (Elt Ideal) x6 : S2048x512.Idx → EReal)
local notation "G" => (arg9.view.read (Elt Ideal) x9 : S1x512.Idx → EReal)
local notation "B" => (arg10.view.read (Elt Ideal) x10 : S1x512.Idx → EReal)

theorem uRows_apply (n : ℕ) (hn : n < 8) (r : Fin 256) (x : Fin 512) :
    uRows arg5 x5 n hn (ix2 r x) = U (ix2 ⟨256 * n + r.val, by omega⟩ x) := by
  refine congrArg (arg5.view.read (Elt Ideal) x5) (funext fun a => Fin.ext ?_)
  match a with
  | ⟨0, _⟩ => show 256 * n + 1 * r.val = 256 * n + r.val; omega
  | ⟨1, _⟩ => show 0 + 1 * x.val = x.val; omega

theorem dcRows_apply (n : ℕ) (hn : n < 8) (r : Fin 256) (x : Fin 512) :
    dcRows arg6 x6 n hn (ix2 r x) = DC (ix2 ⟨256 * n + r.val, by omega⟩ x) := by
  refine congrArg (arg6.view.read (Elt Ideal) x6) (funext fun a => Fin.ext ?_)
  match a with
  | ⟨0, _⟩ => show 256 * n + 1 * r.val = 256 * n + r.val; omega
  | ⟨1, _⟩ => show 0 + 1 * x.val = x.val; omega

theorem scale_apply (x : Fin 512) : scale arg9 x9 (ix2 0 x) = G (ix2 0 x) := by
  refine congrArg (arg9.view.read (Elt Ideal) x9) (funext fun a => Fin.ext ?_)
  match a with
  | ⟨0, _⟩ => rfl
  | ⟨1, _⟩ => show 0 + 1 * x.val = x.val; omega

theorem shift_apply (x : Fin 512) : shift arg10 x10 (ix2 0 x) = B (ix2 0 x) := by
  refine congrArg (arg10.view.read (Elt Ideal) x10) (funext fun a => Fin.ext ?_)
  match a with
  | ⟨0, _⟩ => rfl
  | ⟨1, _⟩ => show 0 + 1 * x.val = x.val; omega

/-- The gradient of a chunk's row is the whole array's. -/
theorem hRow_eq (n : ℕ) (hn : n < 8) (r : Fin 256) (x : Fin 512) :
    hRow (uRows arg5 x5 n hn) (scale arg9 x9) (shift arg10 x10) (dcRows arg6 x6 n hn) r x
      = h U DC G B ⟨256 * n + r.val, by omega⟩ x := by
  unfold hRow h
  simp only [uRows_apply, scale_apply, shift_apply, dcRows_apply]

theorem grad_row (n : ℕ) (hn : n < 8) (r : Fin 256) (x : Fin 512) :
    ConvNorm.grad (fun x => uRows arg5 x5 n hn (ix2 r x)) (dRow (uRows arg5 x5 n hn) (scale arg9 x9) (shift arg10 x10) (dcRows arg6 x6 n hn) r) x
      = du U DC G B ⟨256 * n + r.val, by omega⟩ x := by
  unfold du
  have : dRow (uRows arg5 x5 n hn) (scale arg9 x9) (shift arg10 x10) (dcRows arg6 x6 n hn) r
      = fun x => h U DC G B ⟨256 * n + r.val, by omega⟩ x * G (ix2 0 x) := by
    funext x; rw [dRow, hRow_eq, scale_apply]
  rw [this]
  simp only [uRows_apply]

theorem duRows_apply (n : ℕ) (hn : n < 8) (r : Fin 256) (x : Fin 512) :
    duRows arg5 arg6 arg9 arg10 x5 x6 x9 x10 n hn (ix2 r x) = duP U DC G B (256 * n + r.val) x := by
  rw [duRows, pay613_apply, grad_row, duP, dif_pos (by omega)]

/-- The padded gradient after `n` chunks: the first `256 n` rows and the zeros after the last. -/
theorem duList_read (f : BufTy.Contents (Elt Ideal) arg17.view.ty) (m : ℕ) (hm : m < 2112) (x : Fin 512) : ∀ (n : ℕ) (hn : n ≤ 8),
    (m < 256 * n ∨ 2048 ≤ m) →
    arg17.view.read (Elt Ideal) (arg17.view.writes (Elt Ideal) f (duList arg5 arg6 arg9 arg10 x5 x6 x9 x10 n hn)) (ix2 ⟨m, hm⟩ x)
      = duP U DC G B m x := by
  intro n
  induction n with
  | zero =>
    intro _ hmn
    refine (View.read_writes_cons_unit_of_mem _ _ _ _ _ _ (ix2 ⟨m - 2048, by omega⟩ x) rfl ?_).trans ?_
    · exact fun a => match a with
        | ⟨0, _⟩ => by show m = 2048 + (m - 2048); omega
        | ⟨1, _⟩ => (Nat.zero_add _).symm
    · rw [duP, dif_neg (by omega)]
      unfold k0_pay450
      simp only [pointwise, ↓reduceDIte, OfNat.ofNat_ne_one, Nat.reduceEqDiff]
  | succ n ih =>
    intro hn hmn
    rw [duList]
    by_cases hl : 256 * n ≤ m ∧ m < 256 * n + 256
    · refine (View.read_writes_cons_unit_of_mem _ _ _ _ _ _ (ix2 ⟨m - 256 * n, by omega⟩ x) rfl ?_).trans ?_
      · exact fun a => match a with
          | ⟨0, _⟩ => by show m = 256 * n + (m - 256 * n); omega
          | ⟨1, _⟩ => (Nat.zero_add _).symm
      · refine (duRows_apply arg5 arg6 arg9 arg10 x5 x6 x9 x10 n hn ⟨m - 256 * n, by omega⟩ x).trans (congrArg (fun m => duP U DC G B m x) ?_)
        show 256 * n + (m - 256 * n) = m; omega
    · refine (View.read_writes_cons_unit_of_not_mem _ _ _ _ _ _ rfl 0 ?_).trans (ih _ (by omega))
      show m < 256 * n ∨ 256 * n + 256 ≤ m
      omega

theorem duLd_apply (n : ℕ) (hn : n < 8) (c : ℕ) (hc : c < 8) (r : Fin 280) (x : Fin 512) :
    duLd arg5 arg6 arg9 arg10 arg17 x5 x6 x9 x10 n hn c hc (ix2 r x) = duP U DC G B (256 * n + c + r.val) x := by
  refine (congrArg (arg17.view.read (Elt Ideal) _) ?_).trans
    (duList_read arg5 arg6 arg9 arg10 arg17 x5 x6 x9 x10 arg17.view.junk (256 * n + c + r.val) (by omega) x 8 (Nat.le_refl _) (by omega))
  funext a
  apply Fin.ext
  match a with
  | ⟨0, _⟩ => show 256 * n + c + 1 * r.val = 256 * n + c + r.val; omega
  | ⟨1, _⟩ => show 0 + 1 * x.val = x.val; omega

/-! ## The padded lines -/

local notation "A0" => (arg1.view.read (Elt Ideal) x1 : S2048x256.Idx → EReal)
local notation "A1" => (arg2.view.read (Elt Ideal) x2 : S2048x256.Idx → EReal)
local notation "B0" => (arg3.view.read (Elt Ideal) x3 : S2048x256.Idx → EReal)
local notation "B1" => (arg4.view.read (Elt Ideal) x4 : S2048x256.Idx → EReal)

/-- Reading the whole of a buffer by a rectangle gives the buffer's contents. -/
theorem whole_apply (arg : Memref sig .tc .vmem S2048x256 .bf16) (x : BufTy.Contents (Elt Ideal) arg.view.ty) (y : S2048x256.Idx) :
    View.readAt (Elt Ideal) arg.view (Rect.unit (s := S2048x256) ![0, 0] S2048x256.size inb_S2048x256_S2048x256_0_0).toLoadRect x y
      = arg.view.read (Elt Ideal) x y := by
  refine congrArg (arg.view.read (Elt Ideal) x) (funext fun a => Fin.ext ?_)
  match a with
  | ⟨0, _⟩ => show 0 + 1 * (y 0).val = (y 0).val; omega
  | ⟨1, _⟩ => show 0 + 1 * (y 1).val = (y 1).val; omega

theorem zList_read (f : BufTy.Contents (Elt Ideal) arg16.view.ty) (m : ℕ) (hm : m < 2112) (x : Fin 512) :
    arg16.view.read (Elt Ideal) (arg16.view.writes (Elt Ideal) f (zList arg1 arg2 arg3 arg4 x1 x2 x3 x4)) (ix2 ⟨m, hm⟩ x)
      = zP (cat A0 A1) (cat B0 B1) m x := by
  unfold zList
  have hx := x.isLt
  by_cases hin : 32 ≤ m ∧ m < 2080
  · rw [zP, dif_pos hin]
    by_cases hx2 : x.val < 256
    · refine (View.read_writes_cons_unit_of_not_mem _ _ _ _ _ _ rfl 1 (Or.inl hx2)).trans ?_
      refine (View.read_writes_cons_unit_of_mem _ _ _ _ _ _ (ix2 ⟨m - 32, by omega⟩ ⟨x.val, hx2⟩) rfl ?_).trans ?_
      · exact fun a => match a with
          | ⟨0, _⟩ => by show m = 32 + (m - 32); omega
          | ⟨1, _⟩ => (Nat.zero_add _).symm
      · rw [pay448_apply, whole_apply, whole_apply, cat, cat, dif_pos hx2, dif_pos hx2]
    · refine (View.read_writes_cons_unit_of_mem _ _ _ _ _ _ (ix2 ⟨m - 32, by omega⟩ ⟨x.val - 256, by omega⟩) rfl ?_).trans ?_
      · exact fun a => match a with
          | ⟨0, _⟩ => by show m = 32 + (m - 32); omega
          | ⟨1, _⟩ => by show x.val = 256 + (x.val - 256); omega
      · rw [pay449_apply, whole_apply, whole_apply, cat, cat, dif_neg hx2, dif_neg hx2]
  · rw [zP, dif_neg hin]
    have h0 : m < 32 ∨ 32 + 2048 ≤ m := by omega
    refine (View.read_writes_cons_unit_of_not_mem _ _ _ _ _ _ rfl 0 h0).trans ?_
    refine (View.read_writes_cons_unit_of_not_mem _ _ _ _ _ _ rfl 0 h0).trans ?_
    by_cases hm2 : m < 32
    · refine (View.read_writes_cons_unit_of_not_mem _ _ _ _ _ _ rfl 0 (Or.inl (show m < 2080 by omega))).trans ?_
      refine (View.read_writes_cons_unit_of_mem _ _ _ _ _ _ (ix2 ⟨m, hm2⟩ x) rfl ?_).trans ?_
      · exact fun a => match a with
          | ⟨0, _⟩ => (Nat.zero_add _).symm
          | ⟨1, _⟩ => (Nat.zero_add _).symm
      · unfold k0_pay446
        simp only [pointwise, ↓reduceDIte, OfNat.ofNat_ne_one, Nat.reduceEqDiff]
    · refine (View.read_writes_cons_unit_of_mem _ _ _ _ _ _ (ix2 ⟨m - 2080, by omega⟩ x) rfl ?_).trans ?_
      · exact fun a => match a with
          | ⟨0, _⟩ => by show m = 2080 + (m - 2080); omega
          | ⟨1, _⟩ => (Nat.zero_add _).symm
      · unfold k0_pay447
        simp only [pointwise, ↓reduceDIte, OfNat.ofNat_ne_one, Nat.reduceEqDiff]

theorem zLd_apply (n : ℕ) (hn : n < 8) (c : ℕ) (hc : c < 8) (r : Fin 280) (x : Fin 512) :
    zLd arg1 arg2 arg3 arg4 arg16 x1 x2 x3 x4 n hn c hc (ix2 r x) = zP (cat A0 A1) (cat B0 B1) (256 * n + 2 + c + r.val) x := by
  refine (congrArg (arg16.view.read (Elt Ideal) _) ?_).trans
    (zList_read arg1 arg2 arg3 arg4 arg16 x1 x2 x3 x4 arg16.view.junk (256 * n + 2 + c + r.val) (by omega) x)
  funext a
  apply Fin.ext
  match a with
  | ⟨0, _⟩ => show 256 * n + 2 + c + 1 * r.val = 256 * n + 2 + c + r.val; omega
  | ⟨1, _⟩ => show 0 + 1 * x.val = x.val; omega

/-! ## The gradient of the taps -/

/-- What one trip leaves of the sums of tap `j`. -/
theorem accPieces_read (D : Vec Ideal S32x512 .f32) (W : (j : ℕ) → j < 31 → Vec Ideal S1x32x512 .f32) (f : BufTy.Contents (Elt Ideal) arg20.view.ty)
    (j : ℕ) (hj : j < 31) (r : Fin 8) (x : Fin 512) : ∀ (q : ℕ) (hq : q ≤ 31), j < q →
    arg20.view.read (Elt Ideal) (arg20.view.writes (Elt Ideal) f (accPieces arg20 D W f q hq)) (ix2 ⟨8 * j + r.val, by omega⟩ x)
      = k0_pay6 D (W j hj) (View.readAt (Elt Ideal) arg20.view (Rect.unit (s := S256x512) ![8 * j, 0] S8x512.size (rowInb j hj)).toLoadRect f) (ix2 r x) := by
  intro q
  induction q with
  | zero => intro _ h; omega
  | succ q ih =>
    intro hq hjq
    rw [accPieces]
    rcases Nat.lt_succ_iff_lt_or_eq.mp hjq with hl | hl
    · have hlt : 8 * j + r.val < 8 * q := by omega
      refine Eq.trans ?_ (ih (Nat.le_of_succ_le hq) hl)
      exact View.read_writes_cons_unit_of_not_mem (off' := ![8 * q, 0]) arg20.view f (rowInb q hq) _ (accPieces arg20 D W f q (Nat.le_of_succ_le hq)) _ rfl 0 (Or.inl hlt)
    · subst hl
      refine View.read_writes_cons_unit_of_mem (off' := ![8 * j, 0]) arg20.view f (rowInb j hj) _ (accPieces arg20 D W f j (Nat.le_of_succ_le hq)) _ (ix2 r x) rfl ?_
      exact fun a => match a with
        | ⟨0, _⟩ => rfl
        | ⟨1, _⟩ => (Nat.zero_add _).symm

theorem rows8_apply (f : BufTy.Contents (Elt Ideal) arg20.view.ty) (j : ℕ) (hj : j < 31) (r : Fin 8) (x : Fin 512) :
    View.readAt (Elt Ideal) arg20.view (Rect.unit (s := S256x512) ![8 * j, 0] S8x512.size (rowInb j hj)).toLoadRect f (ix2 r x)
      = arg20.view.read (Elt Ideal) f (ix2 ⟨8 * j + r.val, by omega⟩ x) := by
  refine congrArg (arg20.view.read (Elt Ideal) f) (funext fun a => Fin.ext ?_)
  match a with
  | ⟨0, _⟩ => show 8 * j + 1 * r.val = 8 * j + r.val; omega
  | ⟨1, _⟩ => show 0 + 1 * x.val = x.val; omega

theorem sum_range_four (F : ℕ → EReal) (n : ℕ) :
    ∑ i ∈ Finset.range (n + 4), F i = ∑ i ∈ Finset.range n, F i + ((F n + F (n + 1)) + (F (n + 2) + F (n + 3))) := by
  rw [Finset.sum_range_succ, Finset.sum_range_succ, Finset.sum_range_succ, Finset.sum_range_succ]
  simp only [add_assoc]

/-- What `t` trips leave: four more terms a trip. -/
theorem accAfter_read (D : Trips → Vec Ideal S32x512 .f32) (W : Trips → (j : ℕ) → j < 31 → Vec Ideal S1x32x512 .f32)
    (F : ℕ → EReal) (p : ℕ) (j : ℕ) (hj : j < 31) (r : Fin 8) (x : Fin 512)
    (hDW : ∀ (k : Trips) (q : ℕ) (hq : q < 32), D k (ix2 ⟨q, hq⟩ x) * W k j hj (ix3 0 ⟨q, hq⟩ x) = F (8 * (p + 4 * k.val) + q))
    (g : BufTy.Contents (Elt Ideal) arg20.view.ty)
    (hg : arg20.view.read (Elt Ideal) g (ix2 ⟨8 * j + r.val, by omega⟩ x) = ∑ i ∈ Finset.range p, F (8 * i + r.val)) :
    ∀ t : ℕ, t ≤ 8 → arg20.view.read (Elt Ideal) (accAfter arg20 D W g t) (ix2 ⟨8 * j + r.val, by omega⟩ x)
      = ∑ i ∈ Finset.range (p + 4 * t), F (8 * i + r.val) := by
  intro t
  induction t with
  | zero => intro _; exact hg
  | succ t ih =>
    intro ht
    have hlt : t < k0_t1_loop.trips := by rw [trips_eq]; omega
    rw [accAfter, dif_pos hlt, accTrip, accPieces_read arg20 _ _ _ j hj r x 31 (Nat.le_refl _) hj, pay6_apply, rows8_apply arg20 _ j hj, ih (by omega),
      hDW, hDW, hDW, hDW, show p + 4 * (t + 1) = p + 4 * t + 4 by omega, sum_range_four]
    have e1 : 8 * (p + 4 * t + 1) + r.val = 8 * (p + 4 * t) + (8 + r.val) := by omega
    have e2 : 8 * (p + 4 * t + 2) + r.val = 8 * (p + 4 * t) + (16 + r.val) := by omega
    have e3 : 8 * (p + 4 * t + 3) + r.val = 8 * (p + 4 * t) + (24 + r.val) := by omega
    rw [e1, e2, e3]

/-- The sums of the gradient of tap `j` after `n` chunks. -/
theorem accSum_read (D : (n : ℕ) → n < 8 → Vec Ideal S256x512 .f32) (Z : (n : ℕ) → n < 8 → (b : ℕ) → b < 8 → Vec Ideal S280x512 .f32)
    (DD ZZ : ℕ → Fin 512 → EReal) (hD : ∀ n hn (r : Fin 256) (x : Fin 512), D n hn (ix2 r x) = DD (256 * n + r.val) x)
    (hZ : ∀ n hn b hb (r : Fin 280) (x : Fin 512), Z n hn b hb (ix2 r x) = ZZ (256 * n + 2 + b + r.val) x)
    (j : ℕ) (hj : j < 31) (r : Fin 8) (x : Fin 512) : ∀ (n : ℕ) (hn : n ≤ 8),
    arg20.view.read (Elt Ideal) (accSum arg20 D Z n hn) (ix2 ⟨8 * j + r.val, by omega⟩ x)
      = ∑ i ∈ Finset.range (32 * n), DD (8 * i + r.val) x * ZZ (8 * i + r.val + j + 2) x := by
  intro n
  induction n with
  | zero =>
    intro _
    rw [accSum]
    refine (View.read_writes_cons_unit_of_mem _ _ _ _ _ _ (ix2 ⟨8 * j + r.val, by omega⟩ x) rfl ?_).trans ?_
    · exact fun a => match a with
        | ⟨0, _⟩ => (Nat.zero_add _).symm
        | ⟨1, _⟩ => (Nat.zero_add _).symm
    · unfold k0_pay451
      simp only [pointwise, ↓reduceDIte, OfNat.ofNat_ne_one, Nat.reduceEqDiff, Nat.mul_zero, Finset.range_zero, Finset.sum_empty]
  | succ n ih =>
    intro hn
    rw [accSum]
    unfold accChunk
    rw [trips_eq]
    refine (accAfter_read arg20 _ _ (fun m => DD m x * ZZ (m + j + 2) x) (32 * n) j hj r x ?_ _ (ih (Nat.le_of_succ_le hn)) 8 (Nat.le_refl _)).trans ?_
    · intro k q hq
      have hk := trips_lt k
      show D n hn (ix2 ⟨32 * k.val + q, _⟩ x) * Z n hn (j % 8) _ (ix2 ⟨32 * k.val + 8 * (j / 8) + q, _⟩ x) = _
      rw [hD, hZ]
      congr 2 <;> (dsimp only; omega)
    · rw [show 32 * n + 4 * 8 = 32 * (n + 1) by omega]

/-- A tap's gradient: the sum over all the rows. -/
theorem sum_rows8 (F : ℕ → EReal) : ∑ r : Fin 8, ∑ i ∈ Finset.range (32 * 8), F (8 * i + r.val) = ∑ m ∈ Finset.range 2048, F m := by
  rw [Finset.sum_comm, Finset.sum_range, Finset.sum_range]
  exact Common.sum_blocks 256 8 (fun i => F i.val)

theorem dwList_read (f : BufTy.Contents (Elt Ideal) arg20.view.ty) (g : BufTy.Contents (Elt Ideal) arg12.view.ty) (j : ℕ) (hj : j < 31) (x : Fin 512) :
    ∀ (k : ℕ) (hk : k ≤ 31), j < k →
    arg12.view.read (Elt Ideal) (arg12.view.writes (Elt Ideal) g (dwList arg20 f k hk)) (ix2 ⟨j, by omega⟩ x)
      = ∑ r : Fin 8, arg20.view.read (Elt Ideal) f (ix2 ⟨8 * j + r.val, by omega⟩ x) := by
  intro k
  induction k with
  | zero => intro _ h; omega
  | succ k ih =>
    intro hk hjk
    rw [dwList]
    rcases Nat.lt_succ_iff_lt_or_eq.mp hjk with hl | hl
    · refine (View.read_writes_cons_unit_of_not_mem _ _ _ _ _ _ rfl 0 (Or.inl ?_)).trans (ih (Nat.le_of_succ_le hk) hl)
      exact hl
    · subst hl
      refine (View.read_writes_cons_unit_of_mem _ _ _ _ _ _ (ix2 0 x) rfl ?_).trans ?_
      · exact fun a => match a with
          | ⟨0, _⟩ => rfl
          | ⟨1, _⟩ => (Nat.zero_add _).symm
      · rw [pay616_apply]
        exact Finset.sum_congr rfl fun r _ => rows8_apply arg20 f j hj r x

/-- The gradient of the taps. -/
theorem dw_read (g : BufTy.Contents (Elt Ideal) arg12.view.ty)
    (D : (n : ℕ) → n < 8 → Vec Ideal S256x512 .f32) (Z : (n : ℕ) → n < 8 → (b : ℕ) → b < 8 → Vec Ideal S280x512 .f32)
    (DD ZZ : ℕ → Fin 512 → EReal) (hD : ∀ n hn (r : Fin 256) (x : Fin 512), D n hn (ix2 r x) = DD (256 * n + r.val) x)
    (hZ : ∀ n hn b hb (r : Fin 280) (x : Fin 512), Z n hn b hb (ix2 r x) = ZZ (256 * n + 2 + b + r.val) x)
    (j : Fin 32) (x : Fin 512) :
    arg12.view.read (Elt Ideal) (arg12.view.writes (Elt Ideal) g
      (⟨Rect.unit (s := S32x512) ![31, 0] S1x512.size (dwInb 31 (by decide)), k0_pay647 (F := Ideal)⟩ ::
        dwList arg20 (accSum arg20 D Z 8 (Nat.le_refl _)) 31 (Nat.le_refl _))) (ix2 j x)
      = if j.val < 31 then dwP DD ZZ j.val x else 0 := by
  by_cases hj : j.val < 31
  · rw [if_pos hj]
    refine (View.read_writes_cons_unit_of_not_mem _ _ _ _ _ _ rfl 0 (Or.inl ?_)).trans ((dwList_read arg12 arg20 _ g j.val hj x 31 (Nat.le_refl _) hj).trans ?_)
    · exact hj
    · rw [dwP, ← sum_rows8]
      exact Finset.sum_congr rfl fun r _ => accSum_read arg20 D Z DD ZZ hD hZ j.val hj r x 8 (Nat.le_refl _)
  · rw [if_neg hj]
    refine (View.read_writes_cons_unit_of_mem _ _ _ _ _ _ (ix2 0 x) rfl ?_).trans ?_
    · exact fun a => match a with
        | ⟨0, _⟩ => by show j.val = 31 + 0; omega
        | ⟨1, _⟩ => (Nat.zero_add _).symm
    · unfold k0_pay647
      simp only [pointwise, ↓reduceDIte, OfNat.ofNat_ne_one, Nat.reduceEqDiff]

end Mem

end Cert.ConvVal

end
-- ==== Proof.ConvOut.lean ====
/-
  The gradient of the convolution over the extended reals: the five results, entry by entry.
-/
module

public import proofs.«01_k».proof.Proof.ConvVal

@[expose] public section

set_option maxRecDepth 16384

noncomputable section

namespace Cert.ConvVal

open Cert.ConvBwdIdeal Cert.ConvBwdIdeal.Gen Cert.ConvTrip Cert.ConvWords Cert.ConvPay
open Idealize.ShloMosaic Idealize.ShloMosaic.TcCoe
open scoped BigOperators

section Mem

variable
  (arg1 arg2 arg3 arg4 : Memref sig .tc .vmem S2048x256 .bf16)
  (arg5 : Memref sig .tc .vmem S2048x512 .f32)
  (arg6 : Memref sig .tc .vmem S2048x512 .bf16)
  (arg7 : Memref sig .tc .vmem S32x512 .f32)
  (arg9 arg10 arg13 arg14 arg15 : Memref sig .tc .vmem S1x512 .f32)
  (arg11 : Memref sig .tc .vmem S2048x1024 .bf16)
  (arg19 : Memref sig .tc .vmem S256x512 .f32)
  (x1 : BufTy.Contents (Elt Ideal) arg1.view.ty)
  (x2 : BufTy.Contents (Elt Ideal) arg2.view.ty)
  (x3 : BufTy.Contents (Elt Ideal) arg3.view.ty)
  (x4 : BufTy.Contents (Elt Ideal) arg4.view.ty)
  (x5 : BufTy.Contents (Elt Ideal) arg5.view.ty)
  (x6 : BufTy.Contents (Elt Ideal) arg6.view.ty)
  (x7 : BufTy.Contents (Elt Ideal) arg7.view.ty)
  (x9 : BufTy.Contents (Elt Ideal) arg9.view.ty)
  (x10 : BufTy.Contents (Elt Ideal) arg10.view.ty)

local notation "U" => (arg5.view.read (Elt Ideal) x5 : S2048x512.Idx → EReal)
local notation "DC" => (arg6.view.read (Elt Ideal) x6 : S2048x512.Idx → EReal)
local notation "G" => (arg9.view.read (Elt Ideal) x9 : S1x512.Idx → EReal)
local notation "B" => (arg10.view.read (Elt Ideal) x10 : S1x512.Idx → EReal)
local notation "A0" => (arg1.view.read (Elt Ideal) x1 : S2048x256.Idx → EReal)
local notation "A1" => (arg2.view.read (Elt Ideal) x2 : S2048x256.Idx → EReal)
local notation "B0" => (arg3.view.read (Elt Ideal) x3 : S2048x256.Idx → EReal)
local notation "B1" => (arg4.view.read (Elt Ideal) x4 : S2048x256.Idx → EReal)

/-! ## The lines' gradient -/

theorem tap_apply (j : ℕ) (hj : j < 31) (x : Fin 512) :
    tap arg7 x7 j hj (ix2 0 x) = wP (arg7.view.read (Elt Ideal) x7 : S32x512.Idx → EReal) (30 - j) x := by
  rw [wP, dif_pos (by omega)]
  refine congrArg (arg7.view.read (Elt Ideal) x7) (funext fun a => Fin.ext ?_)
  match a with
  | ⟨0, _⟩ => show 30 - j + 1 * 0 = 30 - j; omega
  | ⟨1, _⟩ => show 0 + 1 * x.val = x.val; omega

/-- What the trips store of the taps' sums, row by row. -/
theorem tapPieces_read (W : Trips → (j : ℕ) → j < 31 → Vec Ideal S1x32x512 .f32) (T : (j : ℕ) → j < 31 → Vec Ideal S1x512 .f32)
    (f : BufTy.Contents (Elt Ideal) arg19.view.ty) (rest : List (View.Piece (Elt Ideal) S256x512 .f32)) (k : Trips) (q : Fin 32) (x : Fin 512) :
    ∀ t : ℕ, t ≤ 8 → k.val < t →
    arg19.view.read (Elt Ideal) (arg19.view.writes (Elt Ideal) f (tapPieces W T t ++ rest))
        (ix2 ⟨32 * k.val + q.val, by have := trips_lt k; omega⟩ x)
      = tapSum W T k 31 (Nat.le_refl _) (ix2 q x) := by
  intro t
  induction t with
  | zero => intro _ h; omega
  | succ t ih =>
    intro ht hkt
    have hlt : t < k0_t1_loop.trips := by rw [trips_eq]; omega
    have hk := trips_lt k
    rw [tapPieces, dif_pos hlt, tapPiece, List.cons_append]
    rcases Nat.lt_succ_iff_lt_or_eq.mp hkt with hl | hl
    · have hlt2 : 32 * k.val + q.val < 32 * t := by omega
      refine Eq.trans ?_ (ih (Nat.le_of_succ_le ht) hl)
      exact View.read_writes_cons_unit_of_not_mem (off' := ![32 * t, 0]) arg19.view f (k0_off81_inb ⟨t, hlt⟩) _ _ _ (k0_off81_eq ⟨t, hlt⟩) 0 (Or.inl hlt2)
    · obtain rfl : k = ⟨t, hlt⟩ := Fin.ext hl
      refine (View.read_writes_cons_unit_of_mem (off' := ![32 * t, 0]) arg19.view f (k0_off81_inb ⟨t, hlt⟩) _ _ _ (ix2 q x) (k0_off81_eq ⟨t, hlt⟩) ?_).trans ?_
      · exact fun a => match a with
          | ⟨0, _⟩ => rfl
          | ⟨1, _⟩ => (Nat.zero_add _).symm
      · simp only [pointwise]

/-- The lines' gradient of a chunk. -/
theorem dzOf_apply (Z : (n : ℕ) → n < 8 → (b : ℕ) → b < 8 → Vec Ideal S280x512 .f32) (DD : ℕ → Fin 512 → EReal)
    (hZ : ∀ n hn b hb (r : Fin 280) (x : Fin 512), Z n hn b hb (ix2 r x) = DD (256 * n + b + r.val) x)
    (n : ℕ) (hn : n < 8) (r : Fin 256) (x : Fin 512) :
    dzOf arg19 (tap arg7 x7) Z n hn (ix2 r x)
      = dzP (wP (arg7.view.read (Elt Ideal) x7 : S32x512.Idx → EReal)) DD (256 * n + r.val) x := by
  have hk : r.val / 32 < k0_t1_loop.trips := by rw [trips_eq]; omega
  refine (congrArg (arg19.view.read (Elt Ideal) _) ?_).trans
    ((tapPieces_read arg19 (winOf (Z n hn)) (tap arg7 x7) arg19.view.junk (tapLists (tap arg7 x7) Z n (Nat.le_of_succ_le hn)) ⟨r.val / 32, hk⟩
      ⟨r.val % 32, Nat.mod_lt _ (by decide)⟩ x k0_t1_loop.trips (by rw [trips_eq]) hk).trans ?_)
  · funext a
    apply Fin.ext
    match a with
    | ⟨0, _⟩ => show 0 + 1 * r.val = 32 * (r.val / 32) + r.val % 32; omega
    | ⟨1, _⟩ => show 0 + 1 * x.val = x.val; omega
  · refine (tapSum_apply _ _ (fun i => DD (256 * n + r.val + i) x) (fun i => wP (arg7.view.read (Elt Ideal) x7 : S32x512.Idx → EReal) (30 - i) x)
      ⟨r.val / 32, hk⟩ _ x ?_ ?_ 31 (Nat.le_refl _)).trans rfl
    · intro j hj
      show Z n hn (j % 8) _ (ix2 ⟨32 * (r.val / 32) + 8 * (j / 8) + r.val % 32, _⟩ x) = _
      rw [hZ]
      congr 1
      dsimp only; omega
    · exact fun j hj => tap_apply arg7 x7 j hj x

/-! ## The gate's inputs -/

theorem gluRows_apply (arg : Memref sig .tc .vmem S2048x256 .bf16) (v : BufTy.Contents (Elt Ideal) arg.view.ty) (n : ℕ) (hn : n < 8)
    (r x : Fin 256) : gluRows arg v n hn (ix2 r x) = (arg.view.read (Elt Ideal) v : S2048x256.Idx → EReal) (ix2 ⟨256 * n + r.val, by omega⟩ x) := by
  refine congrArg (arg.view.read (Elt Ideal) v) (funext fun a => Fin.ext ?_)
  match a with
  | ⟨0, _⟩ => show 256 * n + 1 * r.val = 256 * n + r.val; omega
  | ⟨1, _⟩ => show 0 + 1 * x.val = x.val; omega

/-- The gradient of the gate's inputs: of the values in the first 512 columns, of the gates in the others. -/
def dgluP (aa bb : Fin 2048 → Fin 512 → EReal) (D : ℕ → Fin 512 → EReal) (s : Fin 2048) (x : Fin 1024) : EReal :=
  if hx : x.val < 512 then D s.val ⟨x.val, hx⟩ * Ideal.logistic (bb s ⟨x.val, hx⟩)
  else D s.val ⟨x.val - 512, by omega⟩ * aa s ⟨x.val - 512, by omega⟩ * Ideal.logistic (bb s ⟨x.val - 512, by omega⟩)
    * (((1 : ℝ) : EReal) - Ideal.logistic (bb s ⟨x.val - 512, by omega⟩))

theorem dglu_read (f : BufTy.Contents (Elt Ideal) arg11.view.ty) (dz : (n : ℕ) → n < 8 → Vec Ideal S256x512 .f32) (D : ℕ → Fin 512 → EReal)
    (hdz : ∀ n hn (r : Fin 256) (x : Fin 512), dz n hn (ix2 r x) = D (256 * n + r.val) x)
    (s : Fin 2048) (x : Fin 1024) : ∀ (n : ℕ) (hn : n ≤ 8), s.val < 256 * n →
    arg11.view.read (Elt Ideal) (arg11.view.writes (Elt Ideal) f (dgluList arg1 arg2 arg3 arg4 x1 x2 x3 x4 dz n hn)) (ix2 s x)
      = dgluP (cat A0 A1) (cat B0 B1) D s x := by
  intro n
  induction n with
  | zero => intro _ h; omega
  | succ n ih =>
    intro hn hs
    rw [dgluList]
    have hx := x.isLt
    rcases Nat.lt_or_ge s.val (256 * n) with hl | hl
    · refine (View.read_writes_cons_unit_of_not_mem _ _ _ _ _ _ rfl 0 (Or.inl hl)).trans ?_
      refine (View.read_writes_cons_unit_of_not_mem _ _ _ _ _ _ rfl 0 (Or.inl hl)).trans ?_
      refine (View.read_writes_cons_unit_of_not_mem _ _ _ _ _ _ rfl 0 (Or.inl hl)).trans ?_
      refine (View.read_writes_cons_unit_of_not_mem _ _ _ _ _ _ rfl 0 (Or.inl hl)).trans ?_
      exact ih (Nat.le_of_succ_le hn) hl
    have hs' : s.val - 256 * n < 256 := by omega
    have hrow : (⟨256 * n + (s.val - 256 * n), by omega⟩ : Fin 2048) = s := Fin.ext (by dsimp only; omega)
    have hrow' : 256 * n + (s.val - 256 * n) = s.val := by omega
    by_cases c3 : 768 ≤ x.val
    · refine (View.read_writes_cons_unit_of_mem _ _ _ _ _ _ (ix2 ⟨s.val - 256 * n, hs'⟩ ⟨x.val - 768, by omega⟩) rfl ?_).trans ?_
      · exact fun a => match a with
          | ⟨0, _⟩ => by show s.val = 256 * n + (s.val - 256 * n); omega
          | ⟨1, _⟩ => by show x.val = 256 * 3 + (x.val - 768); omega
      · rw [pay666_apply, hdz, gluRows_apply, gluRows_apply, dgluP, dif_neg (by omega)]
        simp only [hrow, hrow', cat]
        rw [dif_neg (by omega), dif_neg (by omega)]
        have e1 : 256 + (x.val - 768) = x.val - 512 := by omega
        have e2 : x.val - 512 - 256 = x.val - 768 := by omega
        simp only [e1, e2]
    refine (View.read_writes_cons_unit_of_not_mem _ _ _ _ _ _ rfl 1 (Or.inl (show x.val < 768 by omega))).trans ?_
    by_cases c2 : 512 ≤ x.val
    · refine (View.read_writes_cons_unit_of_not_mem _ _ _ _ _ _ rfl 1 (Or.inr (show 256 + 256 ≤ x.val by omega))).trans ?_
      refine (View.read_writes_cons_unit_of_mem _ _ _ _ _ _ (ix2 ⟨s.val - 256 * n, hs'⟩ ⟨x.val - 512, by omega⟩) rfl ?_).trans ?_
      · exact fun a => match a with
          | ⟨0, _⟩ => by show s.val = 256 * n + (s.val - 256 * n); omega
          | ⟨1, _⟩ => by show x.val = 256 * 2 + (x.val - 512); omega
      · rw [pay661_apply, hdz, gluRows_apply, gluRows_apply, dgluP, dif_neg (by omega)]
        simp only [hrow, hrow', cat]
        rw [dif_pos (by omega), dif_pos (by omega)]
    by_cases c1 : 256 ≤ x.val
    · refine (View.read_writes_cons_unit_of_mem _ _ _ _ _ _ (ix2 ⟨s.val - 256 * n, hs'⟩ ⟨x.val - 256, by omega⟩) rfl ?_).trans ?_
      · exact fun a => match a with
          | ⟨0, _⟩ => by show s.val = 256 * n + (s.val - 256 * n); omega
          | ⟨1, _⟩ => by show x.val = 256 * 1 + (x.val - 256); omega
      · rw [pay665_apply, hdz, gluRows_apply, dgluP, dif_pos (by omega)]
        simp only [hrow, hrow', cat]
        rw [dif_neg (by omega)]
        have e1 : 256 + (x.val - 256) = x.val := by omega
        simp only [e1]
    · refine (View.read_writes_cons_unit_of_not_mem _ _ _ _ _ _ rfl 1 (Or.inl (show x.val < 256 by omega))).trans ?_
      refine (View.read_writes_cons_unit_of_not_mem _ _ _ _ _ _ rfl 1 (Or.inl (show x.val < 512 by omega))).trans ?_
      refine (View.read_writes_cons_unit_of_mem _ _ _ _ _ _ (ix2 ⟨s.val - 256 * n, hs'⟩ ⟨x.val, by omega⟩) rfl ?_).trans ?_
      · exact fun a => match a with
          | ⟨0, _⟩ => by show s.val = 256 * n + (s.val - 256 * n); omega
          | ⟨1, _⟩ => (Nat.zero_add _).symm
      · rw [pay660_apply, hdz, gluRows_apply, dgluP, dif_pos (by omega)]
        simp only [hrow, hrow', cat]
        rw [dif_pos (by omega)]

/-! ## The three sums over the rows -/

/-- Reading the whole row back just after it was stored. -/
theorem row_readCov (arg : Memref sig .tc .vmem S1x512 .f32) (L : List (View.Piece (Elt Ideal) S1x512 .f32)) (x : Fin 512) :
    arg.view.readCov L (Rect.unit (s := S1x512) ![0, 0] S1x512.size inb_S1x512_S1x512_0_0).toLoadRect (ix2 0 x)
      = arg.view.read (Elt Ideal) (arg.view.writes (Elt Ideal) arg.view.junk L) (ix2 0 x) := by
  refine congrArg (arg.view.read (Elt Ideal) _) (funext fun a => Fin.ext ?_)
  match a with
  | ⟨0, _⟩ => rfl
  | ⟨1, _⟩ => show 0 + 1 * x.val = x.val; omega

theorem row_read (arg : Memref sig .tc .vmem S1x512 .f32) (w : Vec Ideal S1x512 .f32) (L : List (View.Piece (Elt Ideal) S1x512 .f32)) (x : Fin 512) :
    arg.view.read (Elt Ideal) (arg.view.writes (Elt Ideal) arg.view.junk
      (⟨Rect.unit (s := S1x512) ![0, 0] S1x512.size inb_S1x512_S1x512_0_0, w⟩ :: L)) (ix2 0 x) = w (ix2 0 x) := by
  refine View.read_writes_cons_unit_of_mem (off' := ![0, 0]) arg.view arg.view.junk inb_S1x512_S1x512_0_0 w L (ix2 0 x) (ix2 0 x) rfl ?_
  exact fun a => match a with
    | ⟨0, _⟩ => rfl
    | ⟨1, _⟩ => (Nat.zero_add _).symm

/-- Sums over a growing number of chunks. -/
theorem sum_chunk (F : ℕ → EReal) (n : ℕ) :
    ∑ m ∈ Finset.range (256 * (n + 1)), F m = ∑ m ∈ Finset.range (256 * n), F m + ∑ r : Fin 256, F (256 * n + r.val) := by
  rw [Nat.mul_succ, Finset.sum_range_add, Finset.sum_range (fun i => F (256 * n + i))]

/-- The gradient of the norm's output, zero after the last row. -/
def hP (m : ℕ) (x : Fin 512) : EReal := if hm : m < 2048 then h U DC G B ⟨m, hm⟩ x else 0
/-- Its product with the normalised row, zero after the last row. -/
def hnP (m : ℕ) (x : Fin 512) : EReal :=
  if hm : m < 2048 then h U DC G B ⟨m, hm⟩ x * ConvNorm.nrm (fun x => U (ix2 ⟨m, hm⟩ x)) x else 0

theorem dcb_read (x : Fin 512) : ∀ (n : ℕ) (hn : n ≤ 8),
    arg13.view.read (Elt Ideal) (arg13.view.writes (Elt Ideal) arg13.view.junk (dcbList arg5 arg6 arg9 arg10 arg13 x5 x6 x9 x10 n hn)) (ix2 0 x)
      = ∑ m ∈ Finset.range (256 * n), duP U DC G B m x := by
  intro n
  induction n with
  | zero =>
    intro _
    rw [dcbList, row_read]
    unfold k0_pay452
    simp only [pointwise, Nat.mul_zero, Finset.range_zero, Finset.sum_empty]
  | succ n ih =>
    intro hn
    rw [dcbList, row_read, pay614_apply, row_readCov, ih, sum_chunk]
    congr 1
    refine Finset.sum_congr rfl fun r _ => ?_
    rw [grad_row, duP, dif_pos (by omega)]

theorem db_read (x : Fin 512) : ∀ (n : ℕ) (hn : n ≤ 8),
    arg15.view.read (Elt Ideal) (arg15.view.writes (Elt Ideal) arg15.view.junk (dbList arg5 arg6 arg9 arg10 arg15 x5 x6 x9 x10 n hn)) (ix2 0 x)
      = ∑ m ∈ Finset.range (256 * n), hP arg5 arg6 arg9 arg10 x5 x6 x9 x10 m x := by
  intro n
  induction n with
  | zero =>
    intro _
    rw [dbList, row_read]
    unfold k0_pay454
    simp only [pointwise, Nat.mul_zero, Finset.range_zero, Finset.sum_empty]
  | succ n ih =>
    intro hn
    rw [dbList, row_read, pay608_apply, row_readCov, ih, sum_chunk]
    congr 1
    refine Finset.sum_congr rfl fun r _ => ?_
    rw [hRow_eq, hP, dif_pos (by omega)]

theorem dg_read (x : Fin 512) : ∀ (n : ℕ) (hn : n ≤ 8),
    arg14.view.read (Elt Ideal) (arg14.view.writes (Elt Ideal) arg14.view.junk (dgList arg5 arg6 arg9 arg10 arg14 x5 x6 x9 x10 n hn)) (ix2 0 x)
      = ∑ m ∈ Finset.range (256 * n), hnP arg5 arg6 arg9 arg10 x5 x6 x9 x10 m x := by
  intro n
  induction n with
  | zero =>
    intro _
    rw [dgList, row_read]
    unfold k0_pay453
    simp only [pointwise, Nat.mul_zero, Finset.range_zero, Finset.sum_empty]
  | succ n ih =>
    intro hn
    rw [dgList, row_read, pay607_apply, row_readCov, ih, sum_chunk]
    congr 1
    refine Finset.sum_congr rfl fun r _ => ?_
    rw [hRow_eq, hnP, dif_pos (by omega)]
    simp only [uRows_apply]

end Mem

end Cert.ConvVal

end
-- ==== Proof.ConvArr.lean ====
/-
  The gradient of the convolution: the kernel's five result arrays after the run, as functions of the arrays it was
  launched on.
-/
module

public import proofs.«01_k».proof.Proof.ConvOut
public import proofs.«01_k».proof.Proof.ConvFrames
public import proofs.«01_k».proof.Proof.Gen.ConvBwdRefIdeal.Read
public import Idealize.ShloMosaic.Lib.StableHlo.ReadAt
public import Idealize.ShloMosaic.Lib.StableHlo.RunRead

@[expose] public section

set_option maxRecDepth 16384

noncomputable section

namespace Cert.ConvKernel

open Cert.ConvBwdIdeal Cert.ConvBwdIdeal.Gen Cert.ConvFrame Cert.ConvVal Cert.ConvWords Cert.ConvTrip
open Idealize.ShloMosaic Idealize.ShloMosaic.TcCoe Idealize.ShloMosaic.Tactic Idealize.SL.Sem
open Cert.Common (idx2_ext)
open scoped BigOperators

variable (m : (ℓ : Loc nD τ sig) → Buf (Elt Ideal) ℓ) (ρ : Dev nD → PrngReg) (c : Dev nD)

/-- The arrays as launched. -/
abbrev proj : S1x2048x3840.Idx → EReal := m ((c : Thread nD τ).loc main_arg0)
abbrev taps : S1x31x512.Idx → EReal := m ((c : Thread nD τ).loc main_arg1)
abbrev bias : S1x512.Idx → EReal := m ((c : Thread nD τ).loc main_arg2)
abbrev gain : S1x512.Idx → EReal := m ((c : Thread nD τ).loc main_arg3)
abbrev offs : S1x512.Idx → EReal := m ((c : Thread nD τ).loc main_arg4)
abbrev dOut : S1x2048x512.Idx → EReal := m ((c : Thread nD τ).loc main_arg5)

/-- The gate's values and gates, the convolution's output and its cotangent, and the taps with a zero row. -/
def aV (P : S1x2048x3840.Idx → EReal) (s : Fin 2048) (x : Fin 512) : EReal := P (ix3 0 s ⟨768 + x.val, by omega⟩)
def bV (P : S1x2048x3840.Idx → EReal) (s : Fin 2048) (x : Fin 512) : EReal := P (ix3 0 s ⟨1280 + x.val, by omega⟩)
abbrev uV : S2048x512.Idx → EReal := Cert.ConvBwdRefIdeal.Read.val_main_v27 (F := Ideal) (proj m c) (taps m c) (bias m c)
def dcV (E : S1x2048x512.Idx → EReal) : S2048x512.Idx → EReal := fun y => E (ix3 0 (y 0) (y 1))
def tapV (T : S1x31x512.Idx → EReal) (j : ℕ) (x : Fin 512) : EReal := if h : j < 31 then T (ix3 0 ⟨j, h⟩ x) else 0

theorem V_proj (r : Fin 2048) (x : Fin 3840) : V m c main_v1 (ix2 r x) = proj m c (ix3 0 r x) := by
  unfold V; after_reads_at
theorem V_dOut (r : Fin 2048) (x : Fin 512) : V m c main_v33 (ix2 r x) = dOut m c (ix3 0 r x) := by
  unfold V; after_reads_at
theorem taps_aux (T : S1x31x512.Idx → EReal) (z : EReal) (hz : z = 0) (j : Fin 32) (x : Fin 512) :
    (if h : x.val / 4 * 4 + (x.val % 4 * 32 + j.val) / 32 < 512 ∧ (x.val % 4 * 32 + j.val) % 32 < 31 then
      T (ix3 0 ⟨(x.val % 4 * 32 + j.val) % 32, h.2⟩ ⟨x.val / 4 * 4 + (x.val % 4 * 32 + j.val) / 32, h.1⟩) else z) = tapV T j.val x := by
  have e1 : x.val / 4 * 4 + (x.val % 4 * 32 + j.val) / 32 = x.val := by omega
  have e2 : (x.val % 4 * 32 + j.val) % 32 = j.val := by omega
  unfold tapV
  by_cases hj : j.val < 31
  · rw [dif_pos hj, dif_pos ⟨by omega, by omega⟩]
    simp only [e1, e2]
  · rw [dif_neg hj, dif_neg (by omega), hz]
theorem V_taps (j : Fin 32) (x : Fin 512) : V m c main_v7 (ix2 j x) = tapV (taps m c) j.val x := by
  unfold V; after_reads_at
  refine taps_aux (taps m c) _ ?_ j x
  show (((0#32 : BitVec 32).toInt : ℝ) : EReal) = 0
  simp
/-- The convolution's output that the kernel's host code computes is the reference's. -/
theorem V_u : (V m c main_v31 : S2048x512.Idx → EReal) = uV m c := by
  unfold V
  after_reads_simp
  rfl

theorem index_0 (t : Fin cfg0.N) : win0_0.index t = ![0, 3] := by revert t; decide +kernel
theorem index_1 (t : Fin cfg0.N) : win0_1.index t = ![0, 4] := by revert t; decide +kernel
theorem index_2 (t : Fin cfg0.N) : win0_2.index t = ![0, 5] := by revert t; decide +kernel
theorem index_3 (t : Fin cfg0.N) : win0_3.index t = ![0, 6] := by revert t; decide +kernel
theorem index_4 (t : Fin cfg0.N) : win0_4.index t = ![0, 0] := by revert t; decide +kernel
theorem index_5 (t : Fin cfg0.N) : win0_5.index t = ![0, 0] := by revert t; decide +kernel
theorem index_6 (t : Fin cfg0.N) : win0_6.index t = ![0, 0] := by revert t; decide +kernel
theorem index_7 (t : Fin cfg0.N) : win0_7.index t = ![0, 0] := by revert t; decide +kernel
theorem index_8 (t : Fin cfg0.N) : win0_8.index t = ![0, 0] := by revert t; decide +kernel
theorem index_9 (t : Fin cfg0.N) : win0_9.index t = ![0, 0] := by revert t; decide +kernel
theorem index_10 (t : Fin cfg0.N) : win0_10.index t = ![0, 0] := by revert t; decide +kernel
theorem index_11 (t : Fin cfg0.N) : win0_11.index t = ![0, 0] := by revert t; decide +kernel
theorem index_12 (t : Fin cfg0.N) : win0_12.index t = ![0, 0] := by revert t; decide +kernel
theorem index_13 (t : Fin cfg0.N) : win0_13.index t = ![0, 0] := by revert t; decide +kernel
theorem index_14 (t : Fin cfg0.N) : win0_14.index t = ![0, 0] := by revert t; decide +kernel

/-- The grid's point. -/
abbrev t0 : Fin cfg0.N := ⟨0, by decide⟩

theorem iblk_0 (t : Fin cfg0.N) : (iblk m c 0 t : S2048x256.Idx → EReal) = fun y => proj m c (ix3 0 (y 0) ⟨768 + (y 1).val, by have : (y 1).val < 256 := (y 1).isLt; omega⟩) := by
  funext y
  have h1 : (y 1).val < 256 := (y 1).isLt
  refine Eq.trans ?_ (V_proj m c (y 0) ⟨768 + (y 1).val, by omega⟩)
  exact congrArg (V m c main_v1) (idx2_ext (by show win0_0.index t 0 * 2048 + 1 * (y 0).val = (y 0).val; rw [index_0]; simp)
    (by show win0_0.index t 1 * 256 + 1 * (y 1).val = 768 + (y 1).val; rw [index_0]; simp))
theorem iblk_1 (t : Fin cfg0.N) : (iblk m c 1 t : S2048x256.Idx → EReal) = fun y => proj m c (ix3 0 (y 0) ⟨1024 + (y 1).val, by have : (y 1).val < 256 := (y 1).isLt; omega⟩) := by
  funext y
  have h1 : (y 1).val < 256 := (y 1).isLt
  refine Eq.trans ?_ (V_proj m c (y 0) ⟨1024 + (y 1).val, by omega⟩)
  exact congrArg (V m c main_v1) (idx2_ext (by show win0_1.index t 0 * 2048 + 1 * (y 0).val = (y 0).val; rw [index_1]; simp)
    (by show win0_1.index t 1 * 256 + 1 * (y 1).val = 1024 + (y 1).val; rw [index_1]; simp))
theorem iblk_2 (t : Fin cfg0.N) : (iblk m c 2 t : S2048x256.Idx → EReal) = fun y => proj m c (ix3 0 (y 0) ⟨1280 + (y 1).val, by have : (y 1).val < 256 := (y 1).isLt; omega⟩) := by
  funext y
  have h1 : (y 1).val < 256 := (y 1).isLt
  refine Eq.trans ?_ (V_proj m c (y 0) ⟨1280 + (y 1).val, by omega⟩)
  exact congrArg (V m c main_v1) (idx2_ext (by show win0_2.index t 0 * 2048 + 1 * (y 0).val = (y 0).val; rw [index_2]; simp)
    (by show win0_2.index t 1 * 256 + 1 * (y 1).val = 1280 + (y 1).val; rw [index_2]; simp))
theorem iblk_3 (t : Fin cfg0.N) : (iblk m c 3 t : S2048x256.Idx → EReal) = fun y => proj m c (ix3 0 (y 0) ⟨1536 + (y 1).val, by have : (y 1).val < 256 := (y 1).isLt; omega⟩) := by
  funext y
  have h1 : (y 1).val < 256 := (y 1).isLt
  refine Eq.trans ?_ (V_proj m c (y 0) ⟨1536 + (y 1).val, by omega⟩)
  exact congrArg (V m c main_v1) (idx2_ext (by show win0_3.index t 0 * 2048 + 1 * (y 0).val = (y 0).val; rw [index_3]; simp)
    (by show win0_3.index t 1 * 256 + 1 * (y 1).val = 1536 + (y 1).val; rw [index_3]; simp))
theorem iblk_4 (t : Fin cfg0.N) : (iblk m c 4 t : S2048x512.Idx → EReal) = uV m c := by
  funext y
  refine Eq.trans ?_ (congrFun (V_u m c) y)
  exact congrArg (V m c main_v31) (idx2_ext (by show win0_4.index t 0 * 2048 + 1 * (y 0).val = (y 0).val; rw [index_4]; simp)
    (by show win0_4.index t 1 * 512 + 1 * (y 1).val = (y 1).val; rw [index_4]; simp))
theorem iblk_5 (t : Fin cfg0.N) : (iblk m c 5 t : S2048x512.Idx → EReal) = dcV (dOut m c) := by
  funext y
  refine Eq.trans ?_ ((congrArg (V m c main_v33) (eq_ix2 y)).trans (V_dOut m c (y 0) (y 1)))
  exact congrArg (V m c main_v33) (idx2_ext (by show win0_5.index t 0 * 2048 + 1 * (y 0).val = (y 0).val; rw [index_5]; simp)
    (by show win0_5.index t 1 * 512 + 1 * (y 1).val = (y 1).val; rw [index_5]; simp))
theorem iblk_6 (t : Fin cfg0.N) : (iblk m c 6 t : S32x512.Idx → EReal) = fun y => tapV (taps m c) (y 0).val (y 1) := by
  funext y
  refine Eq.trans ?_ ((congrArg (V m c main_v7) (eq_ix2 y)).trans (V_taps m c (y 0) (y 1)))
  exact congrArg (V m c main_v7) (idx2_ext (by show win0_6.index t 0 * 32 + 1 * (y 0).val = (y 0).val; rw [index_6]; simp)
    (by show win0_6.index t 1 * 512 + 1 * (y 1).val = (y 1).val; rw [index_6]; simp))
theorem iblk_8 (t : Fin cfg0.N) : (iblk m c 8 t : S1x512.Idx → EReal) = gain m c := by
  funext y
  refine Eq.trans ?_ (congrFun (V_main_arg3 m c) y)
  exact congrArg (V m c main_arg3) (idx2_ext (by show win0_8.index t 0 * 1 + 1 * (y 0).val = (y 0).val; rw [index_8]; simp)
    (by show win0_8.index t 1 * 512 + 1 * (y 1).val = (y 1).val; rw [index_8]; simp))
theorem iblk_9 (t : Fin cfg0.N) : (iblk m c 9 t : S1x512.Idx → EReal) = offs m c := by
  funext y
  refine Eq.trans ?_ (congrFun (V_main_arg4 m c) y)
  exact congrArg (V m c main_arg4) (idx2_ext (by show win0_9.index t 0 * 1 + 1 * (y 0).val = (y 0).val; rw [index_9]; simp)
    (by show win0_9.index t 1 * 512 + 1 * (y 1).val = (y 1).val; rw [index_9]; simp))

theorem cat_a (t : Fin cfg0.N) : cat (iblk m c 0 t) (iblk m c 1 t) = aV (proj m c) := by
  funext s x
  rw [cat, aV]
  split
  · rw [iblk_0]; rfl
  · rw [iblk_1]
    refine congrArg (fun q => proj m c (ix3 0 s q)) (Fin.ext ?_)
    show 1024 + (x.val - 256) = 768 + x.val; omega

theorem cat_b (t : Fin cfg0.N) : cat (iblk m c 2 t) (iblk m c 3 t) = bV (proj m c) := by
  funext s x
  rw [cat, bV]
  split
  · rw [iblk_2]; rfl
  · rw [iblk_3]
    refine congrArg (fun q => proj m c (ix3 0 s q)) (Fin.ext ?_)
    show 1536 + (x.val - 256) = 1280 + x.val; omega

theorem wP_eq (t : Fin cfg0.N) (j : ℕ) (x : Fin 512) : wP (iblk m c 6 t) j x = tapV (taps m c) j x := by
  rw [wP, iblk_6]
  split
  · rfl
  · rw [tapV, dif_neg (by omega)]

/-! ## The results -/

/-- The padded gradient of the convolution's output, and the padded lines. -/
abbrev D (U E : S2048x512.Idx → EReal) (g b : S1x512.Idx → EReal) : ℕ → Fin 512 → EReal := duP U E g b
abbrev Dm : ℕ → Fin 512 → EReal := duP (uV m c) (dcV (dOut m c)) (gain m c) (offs m c)
abbrev Zm : ℕ → Fin 512 → EReal := zP (aV (proj m c)) (bV (proj m c))

def G10 : Vec Ideal S2048x1024 .bf16 := fun y => dgluP (aV (proj m c)) (bV (proj m c)) (dzP (tapV (taps m c)) (Dm m c)) (y 0) (y 1)
def G11 : Vec Ideal S32x512 .f32 := fun y => if (y 0).val < 31 then dwP (Dm m c) (Zm m c) (y 0).val (y 1) else 0
def G12 : Vec Ideal S1x512 .f32 := fun y => ∑ s : Fin 2048, du (uV m c) (dcV (dOut m c)) (gain m c) (offs m c) s (y 1)
def G13 : Vec Ideal S1x512 .f32 := fun y => ∑ s : Fin 2048, h (uV m c) (dcV (dOut m c)) (gain m c) (offs m c) s (y 1)
  * ConvNorm.nrm (fun x => uV m c (ix2 s x)) (y 1)
def G14 : Vec Ideal S1x512 .f32 := fun y => ∑ s : Fin 2048, h (uV m c) (dcV (dOut m c)) (gain m c) (offs m c) s (y 1)

theorem duP_eq (t : Fin cfg0.N) : duP ((st4 t).view.read (Elt Ideal) (X4 c m t)) ((st5 t).view.read (Elt Ideal) (X5 c m t))
    ((st8 t).view.read (Elt Ideal) (X8 c m t)) ((st9 t).view.read (Elt Ideal) (X9 c m t)) = Dm m c := by
  rw [(sh4 t).read_unread, (sh5 t).read_unread, (sh8 t).read_unread, (sh9 t).read_unread, iblk_4, iblk_5, iblk_8, iblk_9]

theorem zP_eq (t : Fin cfg0.N) : zP (cat ((st0 t).view.read (Elt Ideal) (X0 c m t)) ((st1 t).view.read (Elt Ideal) (X1 c m t)))
    (cat ((st2 t).view.read (Elt Ideal) (X2 c m t)) ((st3 t).view.read (Elt Ideal) (X3 c m t))) = Zm m c := by
  rw [(sh0 t).read_unread, (sh1 t).read_unread, (sh2 t).read_unread, (sh3 t).read_unread, cat_a, cat_b]

theorem duLines_apply (t : Fin cfg0.N) (n : ℕ) (hn : n < 8) (b : ℕ) (hb : b < 8) (r : Fin 280) (x : Fin 512) :
    duLines c m t n hn b hb (ix2 r x) = Dm m c (256 * n + b + r.val) x := by
  rw [← duP_eq m c t]; exact duLd_apply _ _ _ _ _ _ _ _ _ n hn b hb r x

theorem dz_apply (t : Fin cfg0.N) (n : ℕ) (hn : n < 8) (r : Fin 256) (x : Fin 512) :
    dz c m t n hn (ix2 r x) = dzP (tapV (taps m c)) (Dm m c) (256 * n + r.val) x := by
  refine (dzOf_apply (st6 t) sc3 (X6 c m t) (duLines c m t) (Dm m c) (duLines_apply m c t) n hn r x).trans ?_
  rw [(sh6 t).read_unread, show wP (iblk m c 6 t) = tapV (taps m c) from funext fun j => funext fun x => wP_eq m c t j x]

theorem out10_eq (t : Fin cfg0.N) (y : S2048x1024.Idx) : out10 c m t y = G10 m c y := by
  unfold out10 G10
  refine (congrArg ((st10 t).view.read (Elt Ideal) _) (eq_ix2 y)).trans ((dglu_read (st0 t) (st1 t) (st2 t) (st3 t) (st10 t) (X0 c m t) (X1 c m t) (X2 c m t) (X3 c m t)
    (st10 t).view.junk (dz c m t) (dzP (tapV (taps m c)) (Dm m c)) (dz_apply m c t) (y 0) (y 1) 8 (Nat.le_refl _) (y 0).isLt).trans ?_)
  rw [(sh0 t).read_unread, (sh1 t).read_unread, (sh2 t).read_unread, (sh3 t).read_unread, cat_a, cat_b]

theorem out11_eq (t : Fin cfg0.N) (y : S32x512.Idx) : out11 c m t y = G11 m c y := by
  unfold out11 G11
  exact (congrArg ((st11 t).view.read (Elt Ideal) _) (eq_ix2 y)).trans (dw_read (st11 t) sc4 (st11 t).view.junk _ _ (Dm m c) (Zm m c)
    (fun n hn r x => by rw [← duP_eq m c t]; exact duRows_apply _ _ _ _ _ _ _ _ n hn r x)
    (fun n hn b hb r x => by rw [← zP_eq m c t]; exact zLd_apply _ _ _ _ _ _ _ _ _ n hn b hb r x) (y 0) (y 1))

theorem out12_eq (t : Fin cfg0.N) (x : Fin 512) : out12 c m t (ix2 0 x) = G12 m c (ix2 0 x) := by
  unfold out12 G12
  refine (dcb_read (st4 t) (st5 t) (st8 t) (st9 t) (st12 t) (X4 c m t) (X5 c m t) (X8 c m t) (X9 c m t) x 8 (Nat.le_refl _)).trans ?_
  rw [duP_eq, Finset.sum_range]
  exact Finset.sum_congr rfl fun s _ => dif_pos s.isLt

theorem out13_eq (t : Fin cfg0.N) (x : Fin 512) : out13 c m t (ix2 0 x) = G13 m c (ix2 0 x) := by
  unfold out13 G13
  refine (dg_read (st4 t) (st5 t) (st8 t) (st9 t) (st13 t) (X4 c m t) (X5 c m t) (X8 c m t) (X9 c m t) x 8 (Nat.le_refl _)).trans ?_
  rw [Finset.sum_range]
  refine Finset.sum_congr rfl fun s _ => (dif_pos s.isLt).trans ?_
  rw [(sh4 t).read_unread, (sh5 t).read_unread, (sh8 t).read_unread, (sh9 t).read_unread, iblk_4, iblk_5, iblk_8, iblk_9]
  rfl

theorem out14_eq (t : Fin cfg0.N) (x : Fin 512) : out14 c m t (ix2 0 x) = G14 m c (ix2 0 x) := by
  unfold out14 G14
  refine (db_read (st4 t) (st5 t) (st8 t) (st9 t) (st14 t) (X4 c m t) (X5 c m t) (X8 c m t) (X9 c m t) x 8 (Nat.le_refl _)).trans ?_
  rw [Finset.sum_range]
  refine Finset.sum_congr rfl fun s _ => (dif_pos s.isLt).trans ?_
  rw [(sh4 t).read_unread, (sh5 t).read_unread, (sh8 t).read_unread, (sh9 t).read_unread, iblk_4, iblk_5, iblk_8, iblk_9]
  rfl

theorem final_10 : (dats m 0 c).arrAt 10 cfg0.N = G10 m c :=
  (dats m 0 c).arrAt_eq_of_cover 10 (G10 m c) (fun t hf => by
      show (cfg0.win 10).cut (grid0.coords t) ((dats m 0 c).after 10 t) = _
      rw [after10]
      funext y
      refine (out10_eq m c t y).trans (congrArg (G10 m c) (idx2_ext ?_ ?_))
      · show _ = win0_10.index t 0 * 2048 + 1 * (y 0).val; rw [index_10]; simp
      · show _ = win0_10.index t 1 * 1024 + 1 * (y 1).val; rw [index_10]; simp) fun i =>
    ⟨t0, flush0_10 _, by
      show i ∈ ((View.whole main_v34_0).slice (win0_10.rect t0)).set
      rw [View.set_slice_whole, Rect.mem_set_unit]
      have h0 : (i 0).val < 2048 := (i 0).isLt
      have h1 : (i 1).val < 1024 := (i 1).isLt
      intro a
      match a with
      | ⟨0, _⟩ => show win0_10.index t0 0 * 2048 ≤ (i 0).val ∧ (i 0).val < win0_10.index t0 0 * 2048 + 2048; rw [index_10]; simp; omega
      | ⟨1, _⟩ => show win0_10.index t0 1 * 1024 ≤ (i 1).val ∧ (i 1).val < win0_10.index t0 1 * 1024 + 1024; rw [index_10]; simp; omega⟩

theorem final_11 : (dats m 0 c).arrAt 11 cfg0.N = G11 m c :=
  (dats m 0 c).arrAt_eq_of_cover 11 (G11 m c) (fun t hf => by
      show (cfg0.win 11).cut (grid0.coords t) ((dats m 0 c).after 11 t) = _
      rw [after11]
      funext y
      refine (out11_eq m c t y).trans (congrArg (G11 m c) (idx2_ext ?_ ?_))
      · show _ = win0_11.index t 0 * 32 + 1 * (y 0).val; rw [index_11]; simp
      · show _ = win0_11.index t 1 * 512 + 1 * (y 1).val; rw [index_11]; simp) fun i =>
    ⟨t0, flush0_11 _, by
      show i ∈ ((View.whole main_v34_1).slice (win0_11.rect t0)).set
      rw [View.set_slice_whole, Rect.mem_set_unit]
      have h0 : (i 0).val < 32 := (i 0).isLt
      have h1 : (i 1).val < 512 := (i 1).isLt
      intro a
      match a with
      | ⟨0, _⟩ => show win0_11.index t0 0 * 32 ≤ (i 0).val ∧ (i 0).val < win0_11.index t0 0 * 32 + 32; rw [index_11]; simp; omega
      | ⟨1, _⟩ => show win0_11.index t0 1 * 512 ≤ (i 1).val ∧ (i 1).val < win0_11.index t0 1 * 512 + 512; rw [index_11]; simp; omega⟩

theorem final_12 : (dats m 0 c).arrAt 12 cfg0.N = G12 m c :=
  (dats m 0 c).arrAt_eq_of_cover 12 (G12 m c) (fun t hf => by
      show (cfg0.win 12).cut (grid0.coords t) ((dats m 0 c).after 12 t) = _
      rw [after12]
      funext y
      obtain ⟨j, rfl⟩ : ∃ j : Fin 512, y = ix2 0 j := ⟨y 1, (eq_ix2 y).trans (congrArg (ix2 · (y 1)) (Subsingleton.elim (α := Fin 1) _ _))⟩
      refine (out12_eq m c t j).trans (congrArg (G12 m c) (idx2_ext ?_ ?_))
      · show _ = win0_12.index t 0 * 1 + 1 * 0; rw [index_12]; simp
      · show _ = win0_12.index t 1 * 512 + 1 * j.val; rw [index_12]; simp) fun i =>
    ⟨t0, flush0_12 _, by
      show i ∈ ((View.whole main_v34_2).slice (win0_12.rect t0)).set
      rw [View.set_slice_whole, Rect.mem_set_unit]
      have h0 : (i 0).val < 1 := (i 0).isLt
      have h1 : (i 1).val < 512 := (i 1).isLt
      intro a
      match a with
      | ⟨0, _⟩ => show win0_12.index t0 0 * 1 ≤ (i 0).val ∧ (i 0).val < win0_12.index t0 0 * 1 + 1; rw [index_12]; simp; omega
      | ⟨1, _⟩ => show win0_12.index t0 1 * 512 ≤ (i 1).val ∧ (i 1).val < win0_12.index t0 1 * 512 + 512; rw [index_12]; simp; omega⟩

theorem final_13 : (dats m 0 c).arrAt 13 cfg0.N = G13 m c :=
  (dats m 0 c).arrAt_eq_of_cover 13 (G13 m c) (fun t hf => by
      show (cfg0.win 13).cut (grid0.coords t) ((dats m 0 c).after 13 t) = _
      rw [after13]
      funext y
      obtain ⟨j, rfl⟩ : ∃ j : Fin 512, y = ix2 0 j := ⟨y 1, (eq_ix2 y).trans (congrArg (ix2 · (y 1)) (Subsingleton.elim (α := Fin 1) _ _))⟩
      refine (out13_eq m c t j).trans (congrArg (G13 m c) (idx2_ext ?_ ?_))
      · show _ = win0_13.index t 0 * 1 + 1 * 0; rw [index_13]; simp
      · show _ = win0_13.index t 1 * 512 + 1 * j.val; rw [index_13]; simp) fun i =>
    ⟨t0, flush0_13 _, by
      show i ∈ ((View.whole main_v34_3).slice (win0_13.rect t0)).set
      rw [View.set_slice_whole, Rect.mem_set_unit]
      have h0 : (i 0).val < 1 := (i 0).isLt
      have h1 : (i 1).val < 512 := (i 1).isLt
      intro a
      match a with
      | ⟨0, _⟩ => show win0_13.index t0 0 * 1 ≤ (i 0).val ∧ (i 0).val < win0_13.index t0 0 * 1 + 1; rw [index_13]; simp; omega
      | ⟨1, _⟩ => show win0_13.index t0 1 * 512 ≤ (i 1).val ∧ (i 1).val < win0_13.index t0 1 * 512 + 512; rw [index_13]; simp; omega⟩

theorem final_14 : (dats m 0 c).arrAt 14 cfg0.N = G14 m c :=
  (dats m 0 c).arrAt_eq_of_cover 14 (G14 m c) (fun t hf => by
      show (cfg0.win 14).cut (grid0.coords t) ((dats m 0 c).after 14 t) = _
      rw [after14]
      funext y
      obtain ⟨j, rfl⟩ : ∃ j : Fin 512, y = ix2 0 j := ⟨y 1, (eq_ix2 y).trans (congrArg (ix2 · (y 1)) (Subsingleton.elim (α := Fin 1) _ _))⟩
      refine (out14_eq m c t j).trans (congrArg (G14 m c) (idx2_ext ?_ ?_))
      · show _ = win0_14.index t 0 * 1 + 1 * 0; rw [index_14]; simp
      · show _ = win0_14.index t 1 * 512 + 1 * j.val; rw [index_14]; simp) fun i =>
    ⟨t0, flush0_14 _, by
      show i ∈ ((View.whole main_v34_4).slice (win0_14.rect t0)).set
      rw [View.set_slice_whole, Rect.mem_set_unit]
      have h0 : (i 0).val < 1 := (i 0).isLt
      have h1 : (i 1).val < 512 := (i 1).isLt
      intro a
      match a with
      | ⟨0, _⟩ => show win0_14.index t0 0 * 1 ≤ (i 0).val ∧ (i 0).val < win0_14.index t0 0 * 1 + 1; rw [index_14]; simp; omega
      | ⟨1, _⟩ => show win0_14.index t0 1 * 512 ≤ (i 1).val ∧ (i 1).val < win0_14.index t0 1 * 512 + 512; rw [index_14]; simp; omega⟩

/-- The run, its five results named, its arguments unchanged. -/
theorem run_values : θ_run defs (onTc (τ := τ) (main (F := Ideal))) ⟨m, fun _ => 0, ρ⟩ (fun r => ∀ c : Dev nD,
      r.2.mem ((c.tc : Thread nD τ).loc main_v34_0) = G10 m c
      ∧ r.2.mem ((c.tc : Thread nD τ).loc main_v34_1) = G11 m c
      ∧ r.2.mem ((c.tc : Thread nD τ).loc main_v34_2) = G12 m c
      ∧ r.2.mem ((c.tc : Thread nD τ).loc main_v34_3) = G13 m c
      ∧ r.2.mem ((c.tc : Thread nD τ).loc main_v34_4) = G14 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨((h.2.1 c).1 10).trans (final_10 m c), ((h.2.1 c).1 11).trans (final_11 m c), ((h.2.1 c).1 12).trans (final_12 m c), ((h.2.1 c).1 13).trans (final_13 m c), ((h.2.1 c).1 14).trans (final_14 m c), h.1.1 c⟩)
    (θ_run_and (frame_main m ρ) (run_main m ρ))

end Cert.ConvKernel

end
-- ==== Proof.ConvRefA.lean ====
/-
  The gradient of the convolution, reference: the layer norm's and the gate's gradients, each element as a function of its
  row and column.
-/
module

public import proofs.«01_k».proof.Proof.ConvArr
public import proofs.«01_k».proof.Proof.UnitAxes
public import proofs.«01_k».proof.Proof.Gen.ConvBwdRefIdeal.Read
public import Idealize.ShloMosaic.Lib.Pointwise

@[expose] public section

set_option maxRecDepth 16384

noncomputable section

namespace Cert.ConvRef

open Cert.ConvBwdRefIdeal Cert.ConvBwdRefIdeal.Gen Cert.ConvBwdRefIdeal.Read Cert.ConvVal
open Cert.ConvKernel (aV bV dcV tapV)
open Cert.Common (idx2_ext)
open Idealize.ShloMosaic
open scoped BigOperators

variable (x0 : S1x2048x3840.Idx → EReal) (x1 : S1x31x512.Idx → EReal) (x2 x3 x4 : S1x512.Idx → EReal) (x5 : S1x2048x512.Idx → EReal)

theorem zero_bits : Ideal.ofBits .f32 0x00000000#32 = (0 : EReal) := by simp [Ideal.ofBits, Ideal.ieee]

/-- A row of the convolution's output, and of its cotangent; the scale and the offset. -/
abbrev rowU (s : Fin 2048) : Fin 512 → EReal := fun x => val_main_v27 (F := Ideal) x0 x1 x2 (ix2 s x)
abbrev rowD (s : Fin 2048) : Fin 512 → EReal := fun x => x5 (ix3 0 s x)
abbrev line (w : S1x512.Idx → EReal) : Fin 512 → EReal := fun x => w (ix2 0 x)

theorem sum_zero_add {n : ℕ} (f : Fin n → EReal) : Ideal.ofBits .f32 0x00000000#32 + ∑ k, f k = ∑ k, f k := by rw [zero_bits, zero_add]

theorem v31_eq (s : Fin 2048) : val_main_v31 (F := Ideal) x0 x1 x2 (ix2 s 0) = Ideal.div (∑ x, rowU x0 x1 x2 s x) ConvNorm.K := by
  rw [val_main_v31_apply, val_main_v29_apply, val_main_v28_apply, val_main_v30_apply, ← ConvNorm.ofBits_512]
  refine congrArg (Ideal.div · _) ?_
  refine (sum_zero_add _).trans (Finset.sum_congr rfl fun k _ => ?_)
  exact congrArg _ (idx2_ext rfl rfl)

theorem v33_eq (s : Fin 2048) (x : Fin 512) : val_main_v33 (F := Ideal) x0 x1 x2 (ix2 s x) = ConvNorm.xc (rowU x0 x1 x2 s) x := by
  rw [val_main_v33_apply, val_main_v32_apply, show idx_main_v32 (ix2 s x) = ix2 s 0 from idx2_ext rfl rfl, v31_eq]
  rfl

theorem v40_eq (s : Fin 2048) : val_main_v40 (F := Ideal) x0 x1 x2 (ix2 s 0) = ConvNorm.var (rowU x0 x1 x2 s) := by
  rw [val_main_v40_apply, val_main_v38_apply, val_main_v36_apply, val_main_v35_apply, val_main_v37_apply, val_main_v39_apply,
    ConvNorm.var, ← ConvNorm.ofBits_512]
  refine congrArg (Ideal.div · _ + _) ?_
  refine (sum_zero_add _).trans (Finset.sum_congr rfl fun k _ => ?_)
  rw [show idx_main_v35 (idx_main_v36 (ix2 s 0)) k = ix2 s k from idx2_ext rfl rfl, val_main_v34_apply, v33_eq]
  rfl

theorem v46_eq (s : Fin 2048) (x : Fin 512) : val_main_v46 (F := Ideal) x0 x1 x2 (ix2 s x) = ConvNorm.nrm (rowU x0 x1 x2 s) x := by
  rw [val_main_v46_apply, v33_eq, val_main_v45_apply, show idx_main_v45 (ix2 s x) = ix2 s 0 from idx2_ext rfl rfl, val_main_v41_apply,
    v40_eq]
  rfl

theorem v50_eq (s : Fin 2048) (x : Fin 512) :
    val_main_v50 (F := Ideal) x0 x1 x2 x3 x4 (ix2 s x) = ConvNorm.pre (rowU x0 x1 x2 s) (line x3) (line x4) x := by
  rw [val_main_v50_apply, val_main_v48_apply, v46_eq, val_main_v47_apply, val_main_v49_apply,
    show idx_main_v47 (ix2 s x) = ix2 0 x from idx2_ext rfl rfl, show idx_main_v49 (ix2 s x) = ix2 0 x from idx2_ext rfl rfl]
  rfl

theorem v56_eq (s : Fin 2048) (x : Fin 512) :
    val_main_v56 (F := Ideal) x0 x1 x2 x3 x4 (ix2 s x) = Ideal.logistic (ConvNorm.pre (rowU x0 x1 x2 s) (line x3) (line x4) x) := by
  rw [val_main_v56_apply, val_main_v54_apply, val_main_v52_apply, val_main_v51_apply, v50_eq, val_main_v53_apply, val_main_v55_apply,
    ← Common.logistic_eq, ← Common.ofBits_one]
  rfl

theorem v59_eq (s : Fin 2048) (x : Fin 512) :
    val_main_v59 (F := Ideal) x0 x1 x2 x3 x4 (ix2 s x)
      = Ideal.logistic (ConvNorm.pre (rowU x0 x1 x2 s) (line x3) (line x4) x)
        * (((1 : ℝ) : EReal) - Ideal.logistic (ConvNorm.pre (rowU x0 x1 x2 s) (line x3) (line x4) x)) := by
  rw [val_main_v59_apply, val_main_v58_apply, v56_eq, val_main_v57_apply, ← Common.ofBits_one]
  rfl

theorem v61_eq (s : Fin 2048) (x : Fin 512) : val_main_v61 (F := Ideal) x5 (ix2 s x) = rowD x5 s x := by
  rw [val_main_v61_apply]
  refine congrArg x5 (Cert.UnitAxes.ix3_ext rfl ?_ ?_)
  · show (s.val * 512 + x.val) / 512 % 2048 = s.val; omega
  · show (s.val * 512 + x.val) % 512 = x.val; omega

/-- The gradient before the gate `z · σ(z)`. -/
theorem v65_eq (s : Fin 2048) (x : Fin 512) :
    val_main_v65 (F := Ideal) x0 x1 x2 x3 x4 x5 (ix2 s x) = ConvNorm.dpre' (rowU x0 x1 x2 s) (line x3) (line x4) (rowD x5 s) x := by
  rw [val_main_v65_apply, val_main_v63_apply, val_main_v64_apply, val_main_v62_apply, v50_eq, v56_eq, v59_eq, v61_eq]
  rfl

/-- The cotangent of the normalised row. -/
abbrev rowH (s : Fin 2048) : Fin 512 → EReal :=
  fun x => ConvNorm.dpre' (rowU x0 x1 x2 s) (line x3) (line x4) (rowD x5 s) x * line x3 x

theorem v72_eq (s : Fin 2048) (x : Fin 512) :
    val_main_v72 (F := Ideal) x0 x1 x2 x3 x4 x5 (ix2 s x) = rowH x0 x1 x2 x3 x4 x5 s x := by
  rw [val_main_v72_apply, v65_eq, val_main_v71_apply, show idx_main_v71 (ix2 s x) = ix2 0 x from idx2_ext rfl rfl]
  rfl

theorem v80_eq (s : Fin 2048) :
    val_main_v80 (F := Ideal) x0 x1 x2 x3 x4 x5 (ix2 s 0) = ConvNorm.thru (rowU x0 x1 x2 s) (rowH x0 x1 x2 x3 x4 x5 s) := by
  rw [val_main_v80_apply, val_main_v78_apply, val_main_v75_apply, val_main_v74_apply, val_main_v44_apply, val_main_v42_apply,
    val_main_v41_apply, v40_eq, val_main_v79_apply, val_main_v43_apply, ConvNorm.thru, ← ConvNorm.ofBits_512, ← Rms.ofBits_neg_half]
  refine congrArg (fun z => Ideal.div (z * _) _) ?_
  refine (sum_zero_add _).trans (Finset.sum_congr rfl fun k _ => ?_)
  rw [show idx_main_v74 (idx_main_v75 (ix2 s 0)) k = ix2 s k from idx2_ext (by show (s.val * 1 + 0) = s.val; omega) rfl,
    val_main_v73_apply, v33_eq, v72_eq]
  rfl

theorem v82_eq (s : Fin 2048) (x : Fin 512) :
    val_main_v82 (F := Ideal) x0 x1 x2 x3 x4 x5 (ix2 s x) = ConvNorm.thru (rowU x0 x1 x2 s) (rowH x0 x1 x2 x3 x4 x5 s) := by
  rw [val_main_v82_apply, val_main_v81_apply]
  refine (sum_zero_add _).trans ?_
  rw [Finset.univ_unique, Finset.sum_singleton, ← v80_eq]
  exact congrArg _ (idx2_ext rfl rfl)

theorem v86_eq (s : Fin 2048) (x : Fin 512) :
    val_main_v86 (F := Ideal) x0 x1 x2 x3 x4 x5 (ix2 s x) = ConvNorm.gradC (rowU x0 x1 x2 s) (rowH x0 x1 x2 x3 x4 x5 s) x := by
  rw [val_main_v86_apply, val_main_v84_apply, val_main_v85_apply, val_main_v83_apply, val_main_v77_apply, v72_eq, v82_eq, v33_eq,
    val_main_v76_apply, show idx_main_v76 (ix2 s x) = ix2 s 0 from idx2_ext rfl rfl, val_main_v41_apply, v40_eq]
  rfl

/-- The gradient of the convolution's output. -/
theorem v94_eq (s : Fin 2048) (x : Fin 512) :
    val_main_v94 (F := Ideal) x0 x1 x2 x3 x4 x5 (ix2 s x) = ConvNorm.grad' (rowU x0 x1 x2 s) (rowH x0 x1 x2 x3 x4 x5 s) x := by
  rw [val_main_v94_apply, v86_eq, val_main_v93_apply, val_main_v92_apply, ConvNorm.grad', ← ConvNorm.ofBits_512]
  refine congrArg (ConvNorm.gradC (rowU x0 x1 x2 s) (rowH x0 x1 x2 x3 x4 x5 s) x + ·) ?_
  refine (sum_zero_add _).trans ?_
  rw [Finset.univ_unique, Finset.sum_singleton, val_main_v91_apply, val_main_v89_apply, val_main_v88_apply, val_main_v90_apply]
  refine congrArg (Ideal.div · _) ?_
  refine (sum_zero_add _).trans (Finset.sum_congr rfl fun k _ => ?_)
  rw [show idx_main_v88 (idx_main_v89 (idx_main_v92 (idx_main_v93 (ix2 s x)) default)) k = ix2 s k from
    idx2_ext (by show (s.val * 1 + 0) = s.val; omega) rfl, val_main_v87_apply, v86_eq]
  rfl

/-- The three sums over the rows. -/
theorem v96_eq (x : Fin 512) :
    val_main_v96 (F := Ideal) x0 x1 x2 x3 x4 x5 (ix2 0 x) = ∑ s, ConvNorm.grad' (rowU x0 x1 x2 s) (rowH x0 x1 x2 x3 x4 x5 s) x := by
  rw [val_main_v96_apply, val_main_v95_apply]
  refine (sum_zero_add _).trans (Finset.sum_congr rfl fun k _ => ?_)
  rw [← v94_eq]
  exact congrArg _ (idx2_ext rfl (by show (0 * 512 + x.val) = x.val; omega))

theorem v67_eq (x : Fin 512) :
    val_main_v67 (F := Ideal) x0 x1 x2 x3 x4 x5 (ix2 0 x)
      = ∑ s, ConvNorm.dpre' (rowU x0 x1 x2 s) (line x3) (line x4) (rowD x5 s) x := by
  rw [val_main_v67_apply, val_main_v66_apply]
  refine (sum_zero_add _).trans (Finset.sum_congr rfl fun k _ => ?_)
  rw [← v65_eq]
  exact congrArg _ (idx2_ext rfl (by show (0 * 512 + x.val) = x.val; omega))

theorem v70_eq (x : Fin 512) :
    val_main_v70 (F := Ideal) x0 x1 x2 x3 x4 x5 (ix2 0 x)
      = ∑ s, ConvNorm.dpre' (rowU x0 x1 x2 s) (line x3) (line x4) (rowD x5 s) x * ConvNorm.nrm (rowU x0 x1 x2 s) x := by
  rw [val_main_v70_apply, val_main_v69_apply]
  refine (sum_zero_add _).trans (Finset.sum_congr rfl fun k _ => ?_)
  rw [show idx_main_v69 (idx_main_v70 (ix2 0 x)) k = ix2 k x from idx2_ext rfl (by show (0 * 512 + x.val) = x.val; omega),
    val_main_v68_apply, v65_eq, v46_eq]
  exact mul_comm (_ : EReal) _

end Cert.ConvRef

end
-- ==== Proof.ConvRefB.lean ====
/-
  The gradient of the convolution, reference: the shifted copies of the lines, the taps' gradient, the lines' gradient and
  the gradient through the gate, each element as a function of its row and column.
-/
module

public import proofs.«01_k».proof.Proof.ConvRefA

@[expose] public section

set_option maxRecDepth 16384

noncomputable section

namespace Cert.ConvRef

open Cert.ConvBwdRefIdeal Cert.ConvBwdRefIdeal.Gen Cert.ConvBwdRefIdeal.Read Cert.ConvVal
open Cert.ConvKernel (aV bV dcV tapV)
open Cert.Common (idx2_ext)
open Cert.UnitAxes (ix3_ext)
open Idealize.ShloMosaic
open scoped BigOperators

variable (x0 : S1x2048x3840.Idx → EReal) (x1 : S1x31x512.Idx → EReal) (x2 x3 x4 : S1x512.Idx → EReal) (x5 : S1x2048x512.Idx → EReal)

theorem v1_eq (s : Fin 2048) (x : Fin 512) : val_main_v1 (F := Ideal) x0 (ix2 s x) = aV x0 s x := by
  rw [val_main_v1_apply, val_main_v0_apply]
  refine congrArg x0 (ix3_ext rfl ?_ ?_)
  · show (s.val * 512 + x.val) / 512 % 2048 = s.val; omega
  · show 768 + (s.val * 512 + x.val) % 512 = 768 + x.val; omega

theorem v3_eq (s : Fin 2048) (x : Fin 512) : val_main_v3 (F := Ideal) x0 (ix2 s x) = bV x0 s x := by
  rw [val_main_v3_apply, val_main_v2_apply]
  refine congrArg x0 (ix3_ext rfl ?_ ?_)
  · show (s.val * 512 + x.val) / 512 % 2048 = s.val; omega
  · show 1280 + (s.val * 512 + x.val) % 512 = 1280 + x.val; omega

theorem v10_eq (s : Fin 2048) (x : Fin 512) : val_main_v10 (F := Ideal) x0 (ix2 s x) = Ideal.logistic (bV x0 s x) := by
  rw [val_main_v10_apply, val_main_v8_apply, val_main_v6_apply, val_main_v5_apply, v3_eq, val_main_v7_apply, val_main_v9_apply,
    ← Common.logistic_eq, ← Common.ofBits_one]
  rfl

theorem v13_eq (s : Fin 2048) (x : Fin 512) :
    val_main_v13 (F := Ideal) x0 (ix2 s x) = Ideal.logistic (bV x0 s x) * (((1 : ℝ) : EReal) - Ideal.logistic (bV x0 s x)) := by
  rw [val_main_v13_apply, val_main_v12_apply, v10_eq, val_main_v11_apply, ← Common.ofBits_one]
  rfl

theorem v14_eq (s : Fin 2048) (x : Fin 512) :
    val_main_v14 (F := Ideal) x0 (ix2 s x) = aV x0 s x * Ideal.logistic (bV x0 s x) := by
  rw [val_main_v14_apply, v1_eq, v10_eq]
  rfl

/-- Rows put below rows. -/
theorem below (y0 : S31x512.Idx → EReal) (y1 : S2048x512.Idx → EReal) (r : Fin 2079) (x : Fin 512) :
    concatenate S2079x512 0 [⟨S31x512, y0⟩, ⟨S2048x512, y1⟩] concatenates_S31x512_S2048x512_S2079x512_d0 (ix2 r x)
      = if h : r.val < 31 then y0 (ix2 ⟨r.val, h⟩ x) else y1 (ix2 ⟨r.val - 31, by omega⟩ x) := by
  simp only [pointwise]
  by_cases h : r.val < 31
  · rw [dif_pos h, dif_pos h]
  · rw [dif_neg h, dif_neg h]
    exact congrArg y1 (idx2_ext rfl rfl)

theorem v16_eq (r : Fin 2079) (x : Fin 512) : val_main_v16 (F := Ideal) x0 (ix2 r x) = zP (aV x0) (bV x0) (r.val + 1) x := by
  unfold val_main_v16
  rw [below]
  unfold zP
  by_cases h : r.val < 31
  · rw [dif_pos h, dif_neg (fun h' => absurd h'.1 (by omega)), val_main_v15_apply]
    exact zero_bits
  · rw [dif_neg h, dif_pos ⟨by omega, by omega⟩, v14_eq]
    have e : (⟨r.val - 31, by omega⟩ : Fin 2048) = ⟨r.val + 1 - 32, by omega⟩ := Fin.ext (by show r.val - 31 = r.val + 1 - 32; omega)
    rw [e]

/-- The copy of the lines that tap `k` reads. -/
theorem v22_eq (k : Fin 31) (s : Fin 2048) (x : Fin 512) :
    val_main_v22 (F := Ideal) x0 (ix3 k s x) = zP (aV x0) (bV x0) (s.val + k.val + 2) x := by
  rw [val_main_v22_apply, val_main_v21_apply, val_main_v20_apply, val_main_v19_apply, val_main_v18_apply]
  refine (congrArg (val_main_v16 (F := Ideal) x0) (idx2_ext (j := ix2 ⟨s.val + k.val + 1, by omega⟩ x) ?_ ?_)).trans (v16_eq x0 _ _)
  · show ((1 + ((k.val * 2080 + s.val) * 512 + x.val) / 512) * 512 + ((k.val * 2080 + s.val) * 512 + x.val) % 512) / 512 % 2079
      = s.val + k.val + 1
    omega
  · show ((1 + ((k.val * 2080 + s.val) * 512 + x.val) / 512) * 512 + ((k.val * 2080 + s.val) * 512 + x.val) % 512) % 512 = x.val
    omega

/-- The gradient of the convolution's output, zero after the last row. -/
def dR (m : ℕ) (x : Fin 512) : EReal := if hm : m < 2048 then val_main_v94 (F := Ideal) x0 x1 x2 x3 x4 x5 (ix2 ⟨m, hm⟩ x) else 0

/-- The gradient of tap `j`. -/
theorem v113_eq (j : Fin 31) (x : Fin 512) :
    val_main_v113 (F := Ideal) x0 x1 x2 x3 x4 x5 (ix2 j x) = dwP (dR x0 x1 x2 x3 x4 x5) (zP (aV x0) (bV x0)) j.val x := by
  rw [val_main_v113_apply, val_main_v100_apply, val_main_v99_apply]
  refine (sum_zero_add _).trans ?_
  unfold dwP
  rw [Finset.sum_range]
  refine Finset.sum_congr rfl fun s _ => ?_
  rw [show idx_main_v99 (idx_main_v100 (idx_main_v113 (ix2 j x))) s = ix3 j s x from
    ix3_ext (by show (((j.val * 512 + x.val) / 512 * 1 + 0) * 512 + (j.val * 512 + x.val) % 512) / 512 = j.val; omega) rfl
      (by show (((j.val * 512 + x.val) / 512 * 1 + 0) * 512 + (j.val * 512 + x.val) % 512) % 512 = x.val; omega), val_main_v98_apply, v22_eq, val_main_v97_apply,
    show idx_main_v97 (ix3 j s x) = ix2 s x from idx2_ext rfl rfl, dR, dif_pos s.isLt]
  exact mul_comm (_ : EReal) _

theorem pad0 (n : ℕ) : (n - 0) / (0 + 1) = n := by omega
theorem pad1 (n : ℕ) : (n - 1) / (0 + 1) = n - 1 := by omega

/-- Zero rows after each block of 2048 rows. -/
theorem longer (y : S31x2048x512.Idx → EReal) (k : Fin 31) (s : Fin 2080) (x : Fin 512) :
    pad S31x2080x512 ![0, 0, 0] ![0, 32, 0] ![0, 0, 0] y (constant (F := Ideal) S_ .f32 0x00000000#32) pads_S31x2048x512_S31x2080x512_000_0320_000 h_S_
        (ix3 k s x)
      = if h : s.val < 2048 then y (ix3 k ⟨s.val, h⟩ x) else 0 := by
  simp only [pointwise]
  by_cases hc : s.val < 2048
  · rw [dif_pos hc, dif_pos (fun a => match a with
      | ⟨0, _⟩ => ⟨Nat.zero_le _, Nat.mod_one _, (pad0 k.val).symm ▸ k.isLt⟩
      | ⟨1, _⟩ => ⟨Nat.zero_le _, Nat.mod_one _, (pad0 s.val).symm ▸ hc⟩
      | ⟨2, _⟩ => ⟨Nat.zero_le _, Nat.mod_one _, (pad0 x.val).symm ▸ x.isLt⟩)]
    exact congrArg y (ix3_ext (pad0 k.val) (pad0 s.val) (pad0 x.val))
  · rw [dif_neg hc, dif_neg (fun hin => hc (pad0 s.val ▸ (hin 1).2.2))]

/-- One zero row before all rows, and zero rows after them. -/
theorem around (y : S64480x512.Idx → EReal) (r : Fin 66528) (x : Fin 512) :
    pad S66528x512 ![1, 0] ![2047, 0] ![0, 0] y (constant (F := Ideal) S_ .f32 0x00000000#32) pads_S64480x512_S66528x512_120470_000 h_S_ (ix2 r x)
      = if h : 1 ≤ r.val ∧ r.val - 1 < 64480 then y (ix2 ⟨r.val - 1, h.2⟩ x) else 0 := by
  simp only [pointwise]
  by_cases hc : 1 ≤ r.val ∧ r.val - 1 < 64480
  · rw [dif_pos hc, dif_pos (fun a => match a with
      | ⟨0, _⟩ => ⟨hc.1, Nat.mod_one _, (pad1 r.val).symm ▸ hc.2⟩
      | ⟨1, _⟩ => ⟨Nat.zero_le _, Nat.mod_one _, (pad0 x.val).symm ▸ x.isLt⟩)]
    exact congrArg y (idx2_ext (pad1 r.val) (pad0 x.val))
  · rw [dif_neg hc, dif_neg (fun hin => hc ⟨(hin 0).1, pad1 r.val ▸ (hin 0).2.2⟩)]

theorem v102_eq (k : Fin 31) (s : Fin 2048) (x : Fin 512) :
    val_main_v102 (F := Ideal) x0 x1 x2 x3 x4 x5 (ix3 k s x) = tapV x1 k.val x * dR x0 x1 x2 x3 x4 x5 s.val x := by
  rw [val_main_v102_apply, val_main_v97_apply, show idx_main_v97 (ix3 k s x) = ix2 s x from idx2_ext rfl rfl, val_main_v101_apply,
    val_main_v4_apply, dR, dif_pos s.isLt, tapV, dif_pos k.isLt]
  refine (mul_comm (_ : EReal) _).trans (congrArg (fun z : EReal => z * _) (congrArg x1 (ix3_ext rfl ?_ ?_)))
  · show ((k.val * 1 + 0) * 512 + x.val) / 512 % 31 = k.val; omega
  · show ((k.val * 1 + 0) * 512 + x.val) % 512 = x.val; omega

theorem v103_eq (k : Fin 31) (s : Fin 2080) (x : Fin 512) :
    val_main_v103 (F := Ideal) x0 x1 x2 x3 x4 x5 (ix3 k s x) = tapV x1 k.val x * dR x0 x1 x2 x3 x4 x5 s.val x := by
  unfold val_main_v103 val_main_cst_24
  rw [longer]
  by_cases h : s.val < 2048
  · rw [dif_pos h, v102_eq]
  · rw [dif_neg h, dR, dif_neg h, mul_zero]

theorem v105_eq (r : Fin 66528) (x : Fin 512) :
    val_main_v105 (F := Ideal) x0 x1 x2 x3 x4 x5 (ix2 r x)
      = if 1 ≤ r.val ∧ r.val - 1 < 64480 then tapV x1 ((r.val - 1) / 2080) x * dR x0 x1 x2 x3 x4 x5 ((r.val - 1) % 2080) x else 0 := by
  unfold val_main_v105 val_main_cst_25
  rw [around]
  by_cases h : 1 ≤ r.val ∧ r.val - 1 < 64480
  · rw [dif_pos h, if_pos h, val_main_v104_apply,
      show idx_main_v104 (ix2 ⟨r.val - 1, h.2⟩ x) = ix3 ⟨(r.val - 1) / 2080, by omega⟩ ⟨(r.val - 1) % 2080, by omega⟩ x from
        ix3_ext (by dsimp only [idx_main_v104, pointwise]; omega) (by dsimp only [idx_main_v104, pointwise]; omega)
          (by dsimp only [idx_main_v104, pointwise]; omega), v103_eq]
  · rw [dif_neg h, if_neg h]

theorem v106_eq (q : Fin 32) (t : Fin 2048) (x : Fin 512) :
    val_main_v106 (F := Ideal) x0 x1 x2 x3 x4 x5 (ix3 q ⟨31 + t.val, by omega⟩ x)
      = if q.val < 31 then tapV x1 q.val x * dR x0 x1 x2 x3 x4 x5 (t.val + 30 - q.val) x else 0 := by
  have hq := q.isLt
  have ht := t.isLt
  rw [val_main_v106_apply, show idx_main_v106 (ix3 q ⟨31 + t.val, by omega⟩ x) = ix2 ⟨q.val * 2079 + (31 + t.val), by omega⟩ x from
    idx2_ext (by dsimp only [idx_main_v106, pointwise]; omega) (by dsimp only [idx_main_v106, pointwise]; omega), v105_eq]
  dsimp only
  by_cases h : q.val < 31
  · rw [if_pos h, if_pos ⟨by omega, by omega⟩, show (q.val * 2079 + (31 + t.val) - 1) / 2080 = q.val by omega,
      show (q.val * 2079 + (31 + t.val) - 1) % 2080 = t.val + 30 - q.val by omega]
  · rw [if_neg h]
    split_ifs with h'
    · rw [dR, dif_neg (by omega), mul_zero]
    · rfl

/-- The gradient of line `t`. -/
theorem v109_eq (t : Fin 2048) (x : Fin 512) :
    val_main_v109 (F := Ideal) x0 x1 x2 x3 x4 x5 (ix2 t x) = dzP (tapV x1) (dR x0 x1 x2 x3 x4 x5) t.val x := by
  rw [val_main_v109_apply, val_main_v107_apply]
  refine (sum_zero_add _).trans ?_
  refine (Finset.sum_congr rfl fun q _ => (congrArg _ (ix3_ext rfl rfl rfl)).trans (v106_eq x0 x1 x2 x3 x4 x5 q t x)).trans ?_
  rw [← Finset.sum_range (f := fun q => if q < 31 then tapV x1 q x * dR x0 x1 x2 x3 x4 x5 (t.val + 30 - q) x else 0),
    Finset.sum_range_succ, if_neg (lt_irrefl 31), add_zero, ← Finset.sum_range_reflect]
  unfold dzP
  refine Finset.sum_congr rfl fun i hi => ?_
  have hi' := Finset.mem_range.mp hi
  rw [if_pos (by omega), show t.val + 30 - (31 - 1 - i) = t.val + i by omega]

theorem v111_eq (s : Fin 2048) (x : Fin 512) :
    val_main_v111 (F := Ideal) x0 x1 x2 x3 x4 x5 (ix2 s x)
      = dzP (tapV x1) (dR x0 x1 x2 x3 x4 x5) s.val x * Ideal.logistic (bV x0 s x) := by
  rw [val_main_v111_apply, v109_eq, v10_eq]
  rfl

theorem v112_eq (s : Fin 2048) (x : Fin 512) :
    val_main_v112 (F := Ideal) x0 x1 x2 x3 x4 x5 (ix2 s x)
      = dzP (tapV x1) (dR x0 x1 x2 x3 x4 x5) s.val x * aV x0 s x * Ideal.logistic (bV x0 s x)
        * (((1 : ℝ) : EReal) - Ideal.logistic (bV x0 s x)) := by
  rw [val_main_v112_apply, val_main_v110_apply, v109_eq, v1_eq, v13_eq, mul_comm _ (aV x0 s x), mul_assoc (aV x0 s x * _)]
  rfl

/-- Columns side by side. -/
theorem beside (y0 y1 : S2048x512.Idx → EReal) (s : Fin 2048) (x : Fin 1024) :
    concatenate S2048x1024 1 [⟨S2048x512, y0⟩, ⟨S2048x512, y1⟩] concatenates_S2048x512_S2048x512_S2048x1024_d1 (ix2 s x)
      = if h : x.val < 512 then y0 (ix2 s ⟨x.val, h⟩) else y1 (ix2 s ⟨x.val - 512, by omega⟩) := by
  simp only [pointwise]
  by_cases h : x.val < 512
  · rw [dif_pos h, dif_pos h]
  · rw [dif_neg h, dif_neg h]
    exact congrArg y1 (idx2_ext rfl rfl)

/-- The gradient through the gate. -/
theorem v117_eq (s : Fin 2048) (x : Fin 1024) :
    val_main_v117 (F := Ideal) x0 x1 x2 x3 x4 x5 (ix2 s x) = dgluP (aV x0) (bV x0) (dzP (tapV x1) (dR x0 x1 x2 x3 x4 x5)) s x := by
  rw [val_main_v117_apply]
  unfold val_main_v116
  show concatenate _ _ _ _ _ = _
  rw [beside]
  unfold dgluP
  by_cases h : x.val < 512
  · rw [dif_pos h, dif_pos h, v111_eq]
  · rw [dif_neg h, dif_neg h, v112_eq]

/-- A row put below 31 rows. -/
theorem below1 (y0 : S31x512.Idx → EReal) (y1 : S1x512.Idx → EReal) (r : Fin 32) (x : Fin 512) :
    concatenate S32x512 0 [⟨S31x512, y0⟩, ⟨S1x512, y1⟩] concatenates_S31x512_S1x512_S32x512_d0 (ix2 r x)
      = if h : r.val < 31 then y0 (ix2 ⟨r.val, h⟩ x) else y1 (ix2 ⟨r.val - 31, by omega⟩ x) := by
  simp only [pointwise]
  by_cases h : r.val < 31
  · rw [dif_pos h, dif_pos h]
  · rw [dif_neg h, dif_neg h]
    exact congrArg y1 (idx2_ext rfl rfl)

/-- The taps' gradients, and a zero row. -/
theorem v115_eq (j : Fin 32) (x : Fin 512) :
    val_main_v115 (F := Ideal) x0 x1 x2 x3 x4 x5 (ix2 j x)
      = if j.val < 31 then dwP (dR x0 x1 x2 x3 x4 x5) (zP (aV x0) (bV x0)) j.val x else 0 := by
  unfold val_main_v115
  rw [below1]
  by_cases h : j.val < 31
  · rw [dif_pos h, if_pos h, v113_eq]
  · rw [dif_neg h, if_neg h, val_main_v114_apply]
    exact zero_bits

end Cert.ConvRef

end
-- ==== Proof.Conv.lean ====
/-
  The gradient of the convolution: the kernel's five arrays, the gradients of the gated lines, of the taps, of the bias and
  of the layer norm's scale and offset, are what differentiating the plain convolution gives, for finite arguments.
-/
module

public import proofs.«01_k».proof.Defs
public import proofs.«01_k».proof.Proof.ConvFrames
public import proofs.«01_k».proof.Proof.ConvRefB
public import proofs.«01_k».proof.Proof.Gen.ConvBwdRefIdeal.Run
public import proofs.«01_k».proof.Proof.Gen.Pre_conv_finite
public import Idealize.ShloMosaic.Lib.Affine

@[expose] public section

set_option maxRecDepth 16384

noncomputable section

namespace Cert.ConvProof

open Idealize.ShloMosaic Idealize.ShloMosaic.TcCoe Idealize.SL.Sem
open Cert.ConvKernel Cert.ConvVal Cert.Common Cert.ConvRef
open Cert.UnitAxes (ix3_ext)
open scoped BigOperators

/-! ## What the precondition gives -/

theorem finite_of_pre (m) (h : Cert.Pre_ConvBwdIdeal_conv_finite m) (c : Dev Cert.ConvBwdIdeal.nD) :
    (∀ s x, Common.Real (aV (proj m c) s x)) ∧ (∀ i, Common.Real (taps m c i)) ∧ (∀ i, Common.Real (bias m c i))
      ∧ (∀ i, Common.Real (gain m c i)) ∧ ∀ i, Common.Real (dOut m c i) := by
  have e := congrFun (h c) ix0
  simp only [Cert.Pre_conv_finite.fn, Cert.Pre_conv_finite.fn_part1, andi] at e
  obtain ⟨e1, e5⟩ := IntOp.andi_eq_one.mp e
  obtain ⟨e1, e4⟩ := IntOp.andi_eq_one.mp e1
  obtain ⟨e1, e3⟩ := IntOp.andi_eq_one.mp e1
  obtain ⟨e1, e2⟩ := IntOp.andi_eq_one.mp e1
  have r1 := Common.real_of_all _ _ _ _ _ _ e1
  have r2 := Common.real_of_all _ _ _ _ _ _ e2
  have r3 := Common.real_of_all _ _ _ _ _ _ e3
  have r4 := Common.real_of_all _ _ _ _ _ _ e4
  have r5 := Common.real_of_all _ _ _ _ _ _ e5
  refine ⟨fun s x => ?_, r2, r3, r4, r5⟩
  have := r1 (ix3 0 s x)
  simp only [pointwise] at this
  refine Eq.mp (congrArg Common.Real ?_) this
  exact congrArg (proj m c) (ix3_ext rfl (Nat.zero_add _) rfl)

/-! ## The reference's values for finite arguments -/

section Finite

open Cert.ConvBwdRefIdeal Cert.ConvBwdRefIdeal.Read

variable (x0 : S1x2048x3840.Idx → EReal) (x1 : S1x31x512.Idx → EReal) (x2 x3 x4 : S1x512.Idx → EReal) (x5 : S1x2048x512.Idx → EReal)
variable (h0 : ∀ s x, Common.Real (aV x0 s x)) (h1 : ∀ i, Common.Real (x1 i)) (h2 : ∀ i, Common.Real (x2 i)) (h3 : ∀ i, Common.Real (x3 i))
  (h5 : ∀ i, Common.Real (x5 i))

include h0 in
theorem zP_real (m : ℕ) (x : Fin 512) : Common.Real (zP (aV x0) (bV x0) m x) := by
  unfold zP
  split_ifs
  · exact (h0 _ _).mul (Common.logistic_real _)
  · exact Common.Real.coe 0

include h0 h1 h2 in
/-- The convolution's output is finite. -/
theorem u_real (s : Fin 2048) (x : Fin 512) : Common.Real (val_main_v27 (F := Ideal) x0 x1 x2 (ix2 s x)) := by
  rw [val_main_v27_apply, val_main_v26_apply, val_main_v25_apply]
  refine Common.Real.add ?_ (h2 _)
  refine Eq.mp (congrArg Common.Real (sum_zero_add _).symm) (Common.Real.sum _ fun k => ?_)
  rw [val_main_v24_apply, show idx_main_v25 (ix2 s x) k = ix3 k s x from ix3_ext rfl rfl rfl, v22_eq, val_main_v23_apply, val_main_v4_apply]
  exact (zP_real x0 h0 _ _).mul (h1 _)

include h5 in
theorem h_eq (s : Fin 2048) (x : Fin 512) :
    ConvNorm.dpre' (rowU x0 x1 x2 s) (line x3) (line x4) (rowD x5 s) x
      = h (val_main_v27 (F := Ideal) x0 x1 x2) (dcV x5) x3 x4 s x :=
  (ConvNorm.dpre_eq (fun i => h5 _) x).symm

include h0 h1 h2 h3 h5 in
theorem du_eq (s : Fin 2048) (x : Fin 512) :
    ConvNorm.grad' (rowU x0 x1 x2 s) (rowH x0 x1 x2 x3 x4 x5 s) x
      = du (val_main_v27 (F := Ideal) x0 x1 x2) (dcV x5) x3 x4 s x := by
  have e : rowH x0 x1 x2 x3 x4 x5 s = fun x => h (val_main_v27 (F := Ideal) x0 x1 x2) (dcV x5) x3 x4 s x * x3 (ix2 0 x) :=
    funext fun x => congrArg (fun z : EReal => z * x3 (ix2 0 x)) (h_eq x0 x1 x2 x3 x4 x5 h5 s x)
  rw [e]
  exact (ConvNorm.grad_eq (u_real x0 x1 x2 h0 h1 h2 s)
    (fun i => (ConvNorm.dpre_real (fun j => h5 _) i).mul (h3 _)) x).symm

include h0 h1 h2 h3 h5 in
theorem dR_eq : dR x0 x1 x2 x3 x4 x5 = duP (val_main_v27 (F := Ideal) x0 x1 x2) (dcV x5) x3 x4 := by
  funext m x
  unfold dR duP
  by_cases hm : m < 2048
  · rw [dif_pos hm, dif_pos hm, v94_eq, du_eq x0 x1 x2 x3 x4 x5 h0 h1 h2 h3 h5]
  · rw [dif_neg hm, dif_neg hm]

end Finite

/-! ## The equation -/

open Cert.ConvBwdRefIdeal.Read in
/-- The two programs compute the same five gradients. -/
theorem algebraic : Cert.algebraic_ConvBwdIdeal_ConvBwdRefIdeal_pre_conv_finite := by
  intro m g m' g' hpre hagree
  refine ⟨fun c => G10 m c, fun c => G11 m c, fun c => G12 m c, fun c => G13 m c, fun c => G14 m c,
    (θ_run Cert.ConvBwdIdeal.defs _ _).mono (fun r h c => ?_) (run_values m g),
    (θ_run Cert.ConvBwdRefIdeal.defs _ _).mono (fun r h c => ?_) (Cert.ConvBwdRefIdeal.Value.run (F := Ideal) m' g')⟩
  · exact h c
  · obtain ⟨k10, k11, k12, k13, k14, ha⟩ := h c
    obtain ⟨e0, e1, e2, e3, e4, e5⟩ := hagree c
    obtain ⟨h0, h1, h2, h3, h5⟩ := finite_of_pre m hpre c
    have f0 : StableHlo.launchContents m' c (Proc.devRef .tc Cert.ConvBwdRefIdeal.main_arg0) = proj m c := e0
    have f1 : StableHlo.launchContents m' c (Proc.devRef .tc Cert.ConvBwdRefIdeal.main_arg1) = taps m c := e1
    have f2 : StableHlo.launchContents m' c (Proc.devRef .tc Cert.ConvBwdRefIdeal.main_arg2) = bias m c := e2
    have f3 : StableHlo.launchContents m' c (Proc.devRef .tc Cert.ConvBwdRefIdeal.main_arg3) = gain m c := e3
    have f4 : StableHlo.launchContents m' c (Proc.devRef .tc Cert.ConvBwdRefIdeal.main_arg4) = offs m c := e4
    have f5 : StableHlo.launchContents m' c (Proc.devRef .tc Cert.ConvBwdRefIdeal.main_arg5) = dOut m c := e5
    have hD := dR_eq (proj m c) (taps m c) (bias m c) (gain m c) (offs m c) (dOut m c) h0 h1 h2 h3 h5
    refine ⟨k10.trans ?_, k11.trans ?_, k12.trans ?_, k13.trans ?_, k14.trans ?_, ha⟩
    · refine (val_main_v117_eq (StableHlo.launchContents m' c)).trans ?_
      rw [f0, f1, f2, f3, f4, f5]
      funext y
      obtain ⟨s, x, rfl⟩ : ∃ (s : Fin 2048) (x : Fin 1024), y = ix2 s x := ⟨y 0, y 1, eq_ix2 y⟩
      rw [v117_eq, hD]
      rfl
    · refine (val_main_v115_eq (StableHlo.launchContents m' c)).trans ?_
      rw [f0, f1, f2, f3, f4, f5]
      funext y
      obtain ⟨s, x, rfl⟩ : ∃ (s : Fin 32) (x : Fin 512), y = ix2 s x := ⟨y 0, y 1, eq_ix2 y⟩
      rw [v115_eq, hD]
      rfl
    · refine (val_main_v96_eq (StableHlo.launchContents m' c)).trans ?_
      rw [f0, f1, f2, f3, f4, f5]
      funext y
      obtain ⟨z, x, rfl⟩ : ∃ (z : Fin 1) (x : Fin 512), y = ix2 z x := ⟨y 0, y 1, eq_ix2 y⟩
      obtain rfl : z = 0 := Subsingleton.elim _ _
      rw [v96_eq]
      exact Finset.sum_congr rfl fun s _ => du_eq _ _ _ _ _ _ h0 h1 h2 h3 h5 s x
    · refine (val_main_v70_eq (StableHlo.launchContents m' c)).trans ?_
      rw [f0, f1, f2, f3, f4, f5]
      funext y
      obtain ⟨z, x, rfl⟩ : ∃ (z : Fin 1) (x : Fin 512), y = ix2 z x := ⟨y 0, y 1, eq_ix2 y⟩
      obtain rfl : z = 0 := Subsingleton.elim _ _
      rw [v70_eq]
      exact Finset.sum_congr rfl fun s _ => congrArg (fun q : EReal => q * _) (h_eq _ _ _ _ _ _ h5 s x)
    · refine (val_main_v67_eq (StableHlo.launchContents m' c)).trans ?_
      rw [f0, f1, f2, f3, f4, f5]
      funext y
      obtain ⟨z, x, rfl⟩ : ∃ (z : Fin 1) (x : Fin 512), y = ix2 z x := ⟨y 0, y 1, eq_ix2 y⟩
      obtain rfl : z = 0 := Subsingleton.elim _ _
      rw [v67_eq]
      exact Finset.sum_congr rfl fun s _ => h_eq _ _ _ _ _ _ h5 s x

/-- The reference's frame. -/
theorem frame_ref : Cert.quiescent_ConvBwdRefIdeal := fun m ρ _ =>
  (θ_run Cert.ConvBwdRefIdeal.defs _ _).mono (fun r h => ⟨fun c => (h c).2.2.2.2.2, sem_eq_zero_of_no_sems (by decide) r.2⟩)
    (Cert.ConvBwdRefIdeal.Value.run (F := Ideal) m ρ)

end Cert.ConvProof

end
-- ==== Proof.NormFwd.lean ====
/-
  The output projection's residual and its norm: the kernel's three result arrays are `x + merged @ w`, that sum
  normalised and scaled, and the inverse of the root mean square of each row.
-/
module

public import proofs.«01_k».proof.Defs
public import proofs.«01_k».proof.Proof.Common
public import proofs.«01_k».proof.Proof.Rms
public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pointwise
public import Idealize.ShloMosaic.Lib.StableHlo.ReadAt
public import Idealize.ShloMosaic.Lib.Claim

@[expose] public section

set_option maxRecDepth 16384

noncomputable section

namespace Cert.NormFwd

open Idealize.ShloMosaic Idealize.ShloMosaic.TcCoe Idealize.SL.Sem
open Idealize.ShloMosaic.Pipeline (Dat)
open Cert.OutProjIdeal Cert.OutProjIdeal.Gen
open Cert.Common (idx2_ext)
open scoped BigOperators

variable (m : (ℓ : Loc nD τ sig) → Buf (Elt Ideal) ℓ) (c : Dev nD)

/-- The four arguments' contents on device `c`. -/
abbrev mrg : Vec Ideal S1x2048x1024 .f32 := m ((c : Thread nD τ).loc main_arg0)
abbrev wt : Vec Ideal S1x1024x1024 .f32 := m ((c : Thread nD τ).loc main_arg1)
abbrev res : Vec Ideal S1x2048x1024 .f32 := m ((c : Thread nD τ).loc main_arg2)
abbrev gain : Vec Ideal S1x1024 .f32 := m ((c : Thread nD τ).loc main_arg3)

theorem hz : (![0, 0] : Fin 2 → Nat) = fun _ => 0 := funext fun a => by fin_cases a <;> rfl

/-! ## The staged arrays -/

theorem V_mrg (r : Fin 2048) (k : Fin 1024) : V m c main_v1 (ix2 r k) = mrg m c (ix3 0 r k) := by
  unfold V; after_reads_at
theorem V_wt (r : Fin 1024) (k : Fin 1024) : V m c main_v3 (ix2 r k) = wt m c (ix3 0 r k) := by
  unfold V; after_reads_at
theorem V_res (r : Fin 2048) (k : Fin 1024) : V m c main_v4 (ix2 r k) = res m c (ix3 0 r k) := by
  unfold V; after_reads_at
theorem V_gain (k : Fin 1024) : V m c main_arg3 (ix2 0 k) = gain m c (ix2 0 k) := by
  unfold V; after_reads_at

/-! ## One block's values -/

section Blocks

variable (x0 : Vec Ideal S512x1024 .bf16) (x1 : Vec Ideal S1024x1024 .bf16) (x2 : Vec Ideal S512x1024 .f32) (x3 : Vec Ideal S1x1024 .f32)
  (r : Fin 512) (j : Fin 1024)

/-- Row `r` of the block's sum: the product and the residual. -/
abbrev row (i : Fin 1024) : EReal := (∑ k : Fin 1024, x0 (ix2 r k) * x1 (ix2 k i)) + x2 (ix2 r i)

theorem pay1_apply : k0_pay1 (F := Ideal) x1 x0 x2 (ix2 r j) = row x0 x1 x2 r j := by
  unfold k0_pay1; simp only [pointwise, zero_add]

theorem pay2_apply : k0_pay2 (F := Ideal) x1 x0 x2 (ix2 r 0) = Rms.inv (row x0 x1 x2 r) := by
  unfold k0_pay2
  simp only [pointwise, zero_add, ↓reduceDIte, OfNat.ofNat_ne_one, pay1_apply, Rms.ofBits_1024]
  rfl

theorem pay3_apply : k0_pay3 (F := Ideal) x1 x0 x2 x3 (ix2 r j) = row x0 x1 x2 r j * Rms.inv (row x0 x1 x2 r) * x3 (ix2 0 j) := by
  unfold k0_pay3
  simp only [pointwise, ↓reduceDIte, OfNat.ofNat_ne_one, pay1_apply, pay2_apply]

theorem out4_apply : out0_4 x0 x1 x2 x3 (ix2 r j) = row x0 x1 x2 r j := by
  unfold out0_4
  rw [View.canon_unit_zero hz]
  simp only [View.ld_unit_zero (S := S512x1024) hz, View.ld_unit_zero (S := S1024x1024) hz, pay1_apply]

theorem out5_apply : out0_5 x0 x1 x2 x3 (ix2 r j) = row x0 x1 x2 r j * Rms.inv (row x0 x1 x2 r) * x3 (ix2 0 j) := by
  unfold out0_5
  rw [View.canon_unit_zero hz]
  simp only [View.ld_unit_zero (S := S512x1024) hz, View.ld_unit_zero (S := S1024x1024) hz, View.ld_unit_zero (S := S1x1024) hz, pay3_apply]

theorem out6_apply : out0_6 x0 x1 x2 x3 (ix2 r 0) = Rms.inv (row x0 x1 x2 r) := by
  unfold out0_6
  rw [View.canon_unit_zero hz]
  simp only [View.ld_unit_zero (S := S512x1024) hz, View.ld_unit_zero (S := S1024x1024) hz, pay2_apply]

end Blocks

/-! ## The blocks that point `t` reads: rows `512 t …` of the activations, the whole weight and the whole gain -/

theorem t_lt (t : Fin cfg0.N) : t.val < 4 := t.isLt

/-- Row `r` of the row block of point `t`. -/
def rowAt (t : Fin cfg0.N) (r : Fin 512) : Fin 2048 := ⟨t.val * 512 + r.val, by have := t_lt t; omega⟩

theorem index_0 : ∀ t : Fin grid0.N, win0_0.index t = ![t.val, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![0, 0] := by decide +kernel

theorem iblk_0 (t : Fin cfg0.N) (r : Fin 512) (k : Fin 1024) : iblk m c 0 t (ix2 r k) = mrg m c (ix3 0 (rowAt t r) k) := by
  rw [← V_mrg]
  exact congrArg (V m c main_v1) (idx2_ext (by show win0_0.index t 0 * 512 + 1 * r.val = _; rw [index_0]; simp [rowAt])
    (by show win0_0.index t 1 * 1024 + 1 * k.val = _; rw [index_0]; simp))

theorem iblk_1 (t : Fin cfg0.N) (j : Fin 1024) (k : Fin 1024) : iblk m c 1 t (ix2 j k) = wt m c (ix3 0 j k) := by
  rw [← V_wt]
  exact congrArg (V m c main_v3) (idx2_ext (by show win0_1.index t 0 * 1024 + 1 * j.val = _; rw [index_1]; simp)
    (by show win0_1.index t 1 * 1024 + 1 * k.val = _; rw [index_1]; simp))

theorem iblk_2 (t : Fin cfg0.N) (r : Fin 512) (k : Fin 1024) : iblk m c 2 t (ix2 r k) = res m c (ix3 0 (rowAt t r) k) := by
  rw [← V_res]
  exact congrArg (V m c main_v4) (idx2_ext (by show win0_2.index t 0 * 512 + 1 * r.val = _; rw [index_2]; simp [rowAt])
    (by show win0_2.index t 1 * 1024 + 1 * k.val = _; rw [index_2]; simp))

theorem iblk_3 (t : Fin cfg0.N) (k : Fin 1024) : iblk m c 3 t (ix2 0 k) = gain m c (ix2 0 k) := by
  rw [← V_gain]
  exact congrArg (V m c main_arg3) (idx2_ext (by show win0_3.index t 0 * 1 + 1 * 0 = _; rw [index_3]; simp)
    (by show win0_3.index t 1 * 1024 + 1 * k.val = _; rw [index_3]; simp))

/-! ## The three result arrays -/

/-- The residual sum, row by row. -/
def X (r : Fin 2048) (j : Fin 1024) : EReal := (∑ k : Fin 1024, mrg m c (ix3 0 r k) * wt m c (ix3 0 k j)) + res m c (ix3 0 r j)

def G4 : Vec Ideal S2048x1024 .f32 := fun y => X m c (y 0) (y 1)
def G5 : Vec Ideal S2048x1024 .bf16 := fun y => X m c (y 0) (y 1) * Rms.inv (X m c (y 0)) * gain m c (ix2 0 (y 1))
def G6 : Vec Ideal S2048x1 .f32 := fun y => Rms.inv (X m c (y 0))

theorem row_eq (t : Fin cfg0.N) (r : Fin 512) : row (iblk m c 0 t) (iblk m c 1 t) (iblk m c 2 t) r = X m c (rowAt t r) := by
  funext j; simp only [row, iblk_0, iblk_1, iblk_2, X]

/-- The point whose block holds row `r`. -/
def pt (r : Fin 2048) : Fin cfg0.N := ⟨r.val / 512, by show _ < 4; omega⟩

theorem pt_bounds (r : Fin 2048) : (pt r).val * 512 ≤ r.val ∧ r.val < (pt r).val * 512 + 512 := by
  simp only [pt]; omega

theorem index_4 : ∀ t : Fin grid0.N, win0_4.index t = ![t.val, 0] := by decide +kernel
theorem index_5 : ∀ t : Fin grid0.N, win0_5.index t = ![t.val, 0] := by decide +kernel
theorem index_6 : ∀ t : Fin grid0.N, win0_6.index t = ![t.val, 0] := by decide +kernel

/-- Result array 0 is the residual sum. -/
theorem final_4 : (dats m 0 c).arrAt 4 cfg0.N = G4 m c :=
  (dats m 0 c).arrAt_eq_of_cover 4 (G4 m c) (fun t _ => by
      rw [Value.flushed4]
      funext y
      obtain ⟨r, j, rfl⟩ : ∃ (r : Fin 512) (j : Fin 1024), y = ix2 r j := ⟨y 0, y 1, eq_ix2 y⟩
      refine (out4_apply (iblk m c 0 t) (iblk m c 1 t) (iblk m c 2 t) (iblk m c 3 t) r j).trans ?_
      refine Eq.trans ?_ (congrArg (G4 m c) (idx2_ext (i := ix2 (rowAt t r) j)
        (by show _ = win0_4.index t 0 * 512 + 1 * r.val; rw [index_4]; simp [rowAt])
        (by show _ = win0_4.index t 1 * 1024 + 1 * j.val; rw [index_4]; simp)))
      rw [row_eq]; rfl) fun i =>
    ⟨pt (i 0), flush0_4 _, by
      show i ∈ ((View.whole main_v5_0).slice (win0_4.rect (pt (i 0)))).set
      rw [View.set_slice_whole, Rect.mem_set_unit]
      have h0 := pt_bounds (i 0)
      have h1 : (i 1).val < 1024 := (i 1).isLt
      intro a
      match a with
      | ⟨0, _⟩ => show win0_4.index (pt (i 0)) 0 * 512 ≤ (i 0 : Nat) ∧ (i 0 : Nat) < win0_4.index (pt (i 0)) 0 * 512 + 512
                  rw [index_4]; exact h0
      | ⟨1, _⟩ => show win0_4.index (pt (i 0)) 1 * 1024 ≤ (i 1 : Nat) ∧ (i 1 : Nat) < win0_4.index (pt (i 0)) 1 * 1024 + 1024
                  rw [index_4]; simpa using h1⟩

/-- Result array 1 is the normalised and scaled sum. -/
theorem final_5 : (dats m 0 c).arrAt 5 cfg0.N = G5 m c :=
  (dats m 0 c).arrAt_eq_of_cover 5 (G5 m c) (fun t _ => by
      rw [Value.flushed5]
      funext y
      obtain ⟨r, j, rfl⟩ : ∃ (r : Fin 512) (j : Fin 1024), y = ix2 r j := ⟨y 0, y 1, eq_ix2 y⟩
      refine (out5_apply (iblk m c 0 t) (iblk m c 1 t) (iblk m c 2 t) (iblk m c 3 t) r j).trans ?_
      refine Eq.trans ?_ (congrArg (G5 m c) (idx2_ext (i := ix2 (rowAt t r) j)
        (by show _ = win0_5.index t 0 * 512 + 1 * r.val; rw [index_5]; simp [rowAt])
        (by show _ = win0_5.index t 1 * 1024 + 1 * j.val; rw [index_5]; simp)))
      rw [row_eq, iblk_3]; rfl) fun i =>
    ⟨pt (i 0), flush0_5 _, by
      show i ∈ ((View.whole main_v5_1).slice (win0_5.rect (pt (i 0)))).set
      rw [View.set_slice_whole, Rect.mem_set_unit]
      have h0 := pt_bounds (i 0)
      have h1 : (i 1).val < 1024 := (i 1).isLt
      intro a
      match a with
      | ⟨0, _⟩ => show win0_5.index (pt (i 0)) 0 * 512 ≤ (i 0 : Nat) ∧ (i 0 : Nat) < win0_5.index (pt (i 0)) 0 * 512 + 512
                  rw [index_5]; exact h0
      | ⟨1, _⟩ => show win0_5.index (pt (i 0)) 1 * 1024 ≤ (i 1 : Nat) ∧ (i 1 : Nat) < win0_5.index (pt (i 0)) 1 * 1024 + 1024
                  rw [index_5]; simpa using h1⟩

/-- Result array 2 is the rows' inverse root mean square. -/
theorem final_6 : (dats m 0 c).arrAt 6 cfg0.N = G6 m c :=
  (dats m 0 c).arrAt_eq_of_cover 6 (G6 m c) (fun t _ => by
      rw [Value.flushed6]
      funext y
      obtain ⟨r, j, rfl⟩ : ∃ (r : Fin 512) (j : Fin 1), y = ix2 r j := ⟨y 0, y 1, eq_ix2 y⟩
      obtain rfl := Fin.fin_one_eq_zero j
      refine (out6_apply (iblk m c 0 t) (iblk m c 1 t) (iblk m c 2 t) (iblk m c 3 t) r).trans ?_
      refine Eq.trans ?_ (congrArg (G6 m c) (idx2_ext (i := ix2 (rowAt t r) 0)
        (by show _ = win0_6.index t 0 * 512 + 1 * r.val; rw [index_6]; simp [rowAt])
        (by show _ = win0_6.index t 1 * 1 + 1 * 0; rw [index_6]; simp)))
      rw [row_eq]; rfl) fun i =>
    ⟨pt (i 0), flush0_6 _, by
      show i ∈ ((View.whole main_v5_2).slice (win0_6.rect (pt (i 0)))).set
      rw [View.set_slice_whole, Rect.mem_set_unit]
      have h0 := pt_bounds (i 0)
      have h1 : (i 1).val < 1 := (i 1).isLt
      intro a
      match a with
      | ⟨0, _⟩ => show win0_6.index (pt (i 0)) 0 * 512 ≤ (i 0 : Nat) ∧ (i 0 : Nat) < win0_6.index (pt (i 0)) 0 * 512 + 512
                  rw [index_6]; exact h0
      | ⟨1, _⟩ => show win0_6.index (pt (i 0)) 1 * 1 ≤ (i 1 : Nat) ∧ (i 1 : Nat) < win0_6.index (pt (i 0)) 1 * 1 + 1
                  rw [index_6]; simpa using h1⟩

/-! ## The reference's values at an index -/

section Ref

open Cert.OutProjRefIdeal.Read

variable (r : Fin 2048) (j : Fin 1024)

local notation "M" => mrg m c
local notation "W" => wt m c
local notation "R" => res m c
local notation "Γ" => gain m c

theorem ref_x : val_main_v2 (F := Ideal) M W R (ix3 0 r j) = X m c r j := by
  unfold val_main_v2 val_main_v1 val_main_v0 X
  simp only [pointwise, zero_add]
  exact add_comm (_ : EReal) _

theorem ref_x2 : val_main_v11 (F := Ideal) M W R (ix2 r j) = X m c r j := by
  unfold val_main_v11
  simp only [pointwise, ↓reduceDIte, OfNat.ofNat_ne_one, ref_x]

theorem ref_inv : val_main_v10 (F := Ideal) M W R (ix3 0 r 0) = Rms.inv (X m c r) := by
  unfold val_main_v10 val_main_v9 val_main_v8 val_main_v7 val_main_v6 val_main_v5 val_main_v4 val_main_v3 val_main_cst val_main_cst_0 val_main_cst_1
  simp only [pointwise, ↓reduceDIte, OfNat.ofNat_ne_one, zero_add, ref_x, Rms.ofBits_1024]
  rfl

theorem ref_r : val_main_v28 (F := Ideal) M W R (ix2 r 0) = Rms.inv (X m c r) := by
  unfold val_main_v28
  simp only [pointwise, ↓reduceDIte, OfNat.ofNat_ne_one, ref_inv]

theorem ref_inv' : val_main_v20 (F := Ideal) M W R (ix3 0 r 0) = Rms.inv (X m c r) := by
  unfold val_main_v20 val_main_v19 val_main_v18 val_main_v17 val_main_v16 val_main_v15 val_main_v14 val_main_v13 val_main_cst_2 val_main_cst_3 val_main_cst_4
  simp only [pointwise, ↓reduceDIte, OfNat.ofNat_ne_one, zero_add, ref_x, Rms.ofBits_1024]
  rfl

theorem ref_h : val_main_v27 (F := Ideal) M W R Γ (ix2 r j) = X m c r j * Rms.inv (X m c r) * Γ (ix2 0 j) := by
  unfold val_main_v27 val_main_v26 val_main_v25 val_main_v24 val_main_v23 val_main_v22 val_main_v21 val_main_v12
  simp only [pointwise, ↓reduceDIte, OfNat.ofNat_ne_one, ref_x, ref_inv']

end Ref

/-! ## The equation -/

/-- **The kernel computes the residual sum, its norm and the rows' inverse root mean squares**, over the extended reals. -/
theorem algebraic : Cert.algebraic_OutProjIdeal_OutProjRefIdeal := by
  intro m g m' g' _ hagree
  refine ⟨fun c => G4 m c, fun c => G5 m c, fun c => G6 m c,
    (θ_run Cert.OutProjIdeal.defs _ _).mono (fun r h c => ?_) (Cert.OutProjIdeal.Value.run_blocks m g),
    (θ_run Cert.OutProjRefIdeal.defs _ _).mono (fun r h c => ?_) (Cert.OutProjRefIdeal.Value.run (F := Ideal) m' g')⟩
  · obtain ⟨h4, h5, h6, ha⟩ := h c
    exact ⟨h4.trans (final_4 m c), h5.trans (final_5 m c), h6.trans (final_6 m c), ha⟩
  · obtain ⟨h4, h5, h6, ha⟩ := h c
    obtain ⟨e0, e1, e2, e3⟩ := hagree c
    rw [Cert.OutProjRefIdeal.Read.val_main_v11_eq, e0, e1, e2] at h4
    rw [Cert.OutProjRefIdeal.Read.val_main_v27_eq, e0, e1, e2, e3] at h5
    rw [Cert.OutProjRefIdeal.Read.val_main_v28_eq, e0, e1, e2] at h6
    refine ⟨h4.trans ?_, h5.trans ?_, h6.trans ?_, ha⟩ <;> funext y
    · obtain ⟨r, j, rfl⟩ : ∃ (r : Fin 2048) (j : Fin 1024), y = ix2 r j := ⟨y 0, y 1, eq_ix2 y⟩
      exact ref_x2 m c r j
    · obtain ⟨r, j, rfl⟩ : ∃ (r : Fin 2048) (j : Fin 1024), y = ix2 r j := ⟨y 0, y 1, eq_ix2 y⟩
      exact ref_h m c r j
    · obtain ⟨r, j, rfl⟩ : ∃ (r : Fin 2048) (j : Fin 1), y = ix2 r j := ⟨y 0, y 1, eq_ix2 y⟩
      obtain rfl := Fin.fin_one_eq_zero j
      exact ref_r m c r

/-- The reference's frame. -/
theorem frame_ref : Cert.quiescent_OutProjRefIdeal := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

end Cert.NormFwd

end
-- ==== Proof.GateFwd.lean ====
/-
  The feed-forward block's input product with its gate: the kernel's three result arrays are `silu(gate) · up`, `gate`
  and `up`, where `[gate, up] = h @ w`.
-/
module

public import proofs.«01_k».proof.Defs
public import proofs.«01_k».proof.Proof.Common
public import proofs.«01_k».proof.Proof.Gen.SwigluFwdIdeal.Value
public import proofs.«01_k».proof.Proof.Gen.SwigluFwdRefIdeal.Run
public import proofs.«01_k».proof.Proof.Gen.SwigluFwdRefIdeal.Read
public import Idealize.ShloMosaic.Lib.Pointwise
public import Idealize.ShloMosaic.Lib.StableHlo.ReadAt
public import Idealize.ShloMosaic.Lib.Claim
public import Idealize.ShloMosaic.Lib.Tactic

@[expose] public section

set_option maxRecDepth 16384

noncomputable section

namespace Cert.GateFwd

open Idealize.ShloMosaic Idealize.ShloMosaic.TcCoe Idealize.SL.Sem
open Idealize.ShloMosaic.Pipeline (Dat)
open Cert.SwigluFwdIdeal Cert.SwigluFwdIdeal.Gen
open Cert.Common (idx2_ext)
open scoped BigOperators

variable (m : (ℓ : Loc nD τ sig) → Buf (Elt Ideal) ℓ) (c : Dev nD)

/-- The two arguments' contents on device `c`. -/
abbrev hin : Vec Ideal S1x2048x1024 .f32 := m ((c : Thread nD τ).loc main_arg0)
abbrev wt : Vec Ideal S1x1024x5632 .f32 := m ((c : Thread nD τ).loc main_arg1)

theorem hz : (![0, 0] : Fin 2 → Nat) = fun _ => 0 := funext fun a => by fin_cases a <;> rfl

/-! ## The staged arrays -/

theorem V_hin (r : Fin 2048) (k : Fin 1024) : V m c main_v1 (ix2 r k) = hin m c (ix3 0 r k) := by
  unfold V; after_reads_at
theorem V_wt (j : Fin 5632) (k : Fin 1024) : V m c main_v4 (ix2 j k) = wt m c (ix3 0 k j) := by
  unfold V; after_reads_at

/-! ## One block's values -/

section Pays

variable (x0 : Vec Ideal S1024x1024 .bf16) (a b : Vec Ideal S768x1024 .bf16) (a' b' : Vec Ideal S640x1024 .bf16) (r : Fin 1024)

theorem pay3_apply (j : Fin 768) : k0_pay3 (F := Ideal) x0 a (ix2 r j) = ∑ k : Fin 1024, x0 (ix2 r k) * a (ix2 j k) := by
  unfold k0_pay3 k0_pay2; simp only [pointwise, zero_add]
theorem pay4_apply (j : Fin 768) : k0_pay4 (F := Ideal) x0 b (ix2 r j) = ∑ k : Fin 1024, x0 (ix2 r k) * b (ix2 j k) := by
  unfold k0_pay4 k0_pay2; simp only [pointwise, zero_add]
theorem pay8_apply (j : Fin 640) : k0_pay8 (F := Ideal) x0 a' (ix2 r j) = ∑ k : Fin 1024, x0 (ix2 r k) * a' (ix2 j k) := by
  unfold k0_pay8 k0_pay2; simp only [pointwise, zero_add]
theorem pay9_apply (j : Fin 640) : k0_pay9 (F := Ideal) x0 b' (ix2 r j) = ∑ k : Fin 1024, x0 (ix2 r k) * b' (ix2 j k) := by
  unfold k0_pay9 k0_pay2; simp only [pointwise, zero_add]

theorem pay5_apply (j : Fin 768) : k0_pay5 (F := Ideal) x0 a b (ix2 r j)
    = (∑ k : Fin 1024, x0 (ix2 r k) * a (ix2 j k)) * Ideal.logistic (∑ k : Fin 1024, x0 (ix2 r k) * a (ix2 j k))
      * ∑ k : Fin 1024, x0 (ix2 r k) * b (ix2 j k) := by
  unfold k0_pay5; simp only [pointwise, pay3_apply, pay4_apply]
theorem pay10_apply (j : Fin 640) : k0_pay10 (F := Ideal) x0 a' b' (ix2 r j)
    = (∑ k : Fin 1024, x0 (ix2 r k) * a' (ix2 j k)) * Ideal.logistic (∑ k : Fin 1024, x0 (ix2 r k) * a' (ix2 j k))
      * ∑ k : Fin 1024, x0 (ix2 r k) * b' (ix2 j k) := by
  unfold k0_pay10; simp only [pointwise, pay8_apply, pay9_apply]

end Pays

/-- The two parts of a weight block's rows. -/
abbrev lo (x : Vec Ideal S1408x1024 .bf16) : Vec Ideal S768x1024 .bf16 :=
  View.ld x (Rect.unit (s := S1408x1024) ![0, 0] S768x1024.size inb_S1408x1024_S768x1024_0_0)
abbrev hi (x : Vec Ideal S1408x1024 .bf16) : Vec Ideal S640x1024 .bf16 :=
  View.ld x (Rect.unit (s := S1408x1024) ![768, 0] S640x1024.size inb_S1408x1024_S640x1024_768_0)

/-- Column `j` of the first and of the second part of a block's columns. -/
def cLo (j : Fin 768) : Fin 1408 := ⟨j.val, by omega⟩
def cHi (j : Fin 640) : Fin 1408 := ⟨768 + j.val, by omega⟩

theorem lo_apply (x : Vec Ideal S1408x1024 .bf16) (j : Fin 768) (k : Fin 1024) : lo x (ix2 j k) = x (ix2 (cLo j) k) :=
  congrArg x (idx2_ext (by show 0 + 1 * j.val = j.val; omega) (by show 0 + 1 * k.val = k.val; omega))
theorem hi_apply (x : Vec Ideal S1408x1024 .bf16) (j : Fin 640) (k : Fin 1024) : hi x (ix2 j k) = x (ix2 (cHi j) k) :=
  congrArg x (idx2_ext (by show 768 + 1 * j.val = 768 + j.val; omega) (by show 0 + 1 * k.val = k.val; omega))

section Blocks

variable (x0 : Vec Ideal S1024x1024 .bf16) (x1 x2 : Vec Ideal S1408x1024 .bf16)

/-- A block's two products, and its gated value. -/
def gB (x1 : Vec Ideal S1408x1024 .bf16) : Vec Ideal S1024x1408 .bf16 := fun y => ∑ k : Fin 1024, x0 (ix2 (y 0) k) * x1 (ix2 (y 1) k)
def aB : Vec Ideal S1024x1408 .bf16 := fun y => gB x0 x1 y * Ideal.logistic (gB x0 x1 y) * gB x0 x2 y

theorem dot_lo (r : Fin 1024) (j : Fin 768) : (∑ k : Fin 1024, x0 (ix2 r k) * lo x1 (ix2 j k)) = gB x0 x1 (ix2 r (cLo j)) :=
  Finset.sum_congr rfl fun k _ => by rw [lo_apply]; rfl
theorem dot_hi (r : Fin 1024) (j : Fin 640) : (∑ k : Fin 1024, x0 (ix2 r k) * hi x1 (ix2 j k)) = gB x0 x1 (ix2 r (cHi j)) :=
  Finset.sum_congr rfl fun k _ => by rw [hi_apply]; rfl

theorem act_lo (r : Fin 1024) (j : Fin 768) : k0_pay5 (F := Ideal) x0 (lo x1) (lo x2) (ix2 r j) = aB x0 x1 x2 (ix2 r (cLo j)) :=
  (pay5_apply x0 (lo x1) (lo x2) r j).trans (by rw [dot_lo x0 x1 r j, dot_lo x0 x2 r j]; rfl)
theorem act_hi (r : Fin 1024) (j : Fin 640) : k0_pay10 (F := Ideal) x0 (hi x1) (hi x2) (ix2 r j) = aB x0 x1 x2 (ix2 r (cHi j)) :=
  (pay10_apply x0 (hi x1) (hi x2) r j).trans (by rw [dot_hi x0 x1 r j, dot_hi x0 x2 r j]; rfl)

/-- Two pieces, the columns up to 768 and the columns from there, whose entries are those of an array leave that array. -/
theorem canon_two (E : Vec Ideal S1024x1408 .bf16) (p : Vec Ideal S1024x768 .bf16) (q : Vec Ideal S1024x640 .bf16)
    (hp : ∀ r j, p (ix2 r j) = E (ix2 r (cLo j))) (hq : ∀ r j, q (ix2 r j) = E (ix2 r (cHi j))) (y : S1024x1408.Idx)
    (hc : ∃ pc ∈ ([⟨Rect.unit (s := S1024x1408) ![0, 768] S1024x640.size inb_S1024x1408_S1024x640_0_768, q⟩,
      ⟨Rect.unit (s := S1024x1408) ![0, 0] S1024x768.size inb_S1024x1408_S1024x768_0_0, p⟩] : List (View.Piece (Elt Ideal) S1024x1408 .bf16)),
      y ∈ pc.1.set) :
    View.canon ([⟨Rect.unit (s := S1024x1408) ![0, 768] S1024x640.size inb_S1024x1408_S1024x640_0_768, q⟩,
      ⟨Rect.unit (s := S1024x1408) ![0, 0] S1024x768.size inb_S1024x1408_S1024x768_0_0, p⟩] : List (View.Piece (Elt Ideal) S1024x1408 .bf16)) y = E y := by
  refine View.canon_apply_of_pieces E _ ?_ y hc
  intro pc hpc
  rcases List.mem_cons.mp hpc with rfl | hpc
  · intro x
    obtain ⟨r, j, rfl⟩ : ∃ (r : Fin 1024) (j : Fin 640), x = ix2 r j := ⟨x 0, x 1, eq_ix2 x⟩
    refine (hq r j).trans (congrArg E (idx2_ext ?_ ?_))
    · show r.val = 0 + 1 * r.val; omega
    · show 768 + j.val = 768 + 1 * j.val; omega
  rcases List.mem_cons.mp hpc with rfl | hpc
  · intro x
    obtain ⟨r, j, rfl⟩ : ∃ (r : Fin 1024) (j : Fin 768), x = ix2 r j := ⟨x 0, x 1, eq_ix2 x⟩
    refine (hp r j).trans (congrArg E (idx2_ext ?_ ?_))
    · show r.val = 0 + 1 * r.val; omega
    · show j.val = 0 + 1 * j.val; omega
  nomatch hpc

/-- What a point leaves in output window 3. -/
theorem out3_eq (t : Fin cfg0.N) : out0_A_3 c (grid0.coords t) (ms0_0 t) (hs0_0 t) (ms0_1 t) (hs0_1 t) (ms0_2 t) (hs0_2 t) (ms0_3 t) (hs0_3 t) (ms0_4 t) (hs0_4 t)
    (ms0_5 t) (hs0_5 t) x0 x1 x2 = aB x0 x1 x2 := by
  funext y
  unfold out0_A_3
  rw [View.read_writes_eq_canon _ _ _ (fun y => cover0_A_3 (y := y) ..)]
  have hc := cover0_A_3 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 y
  revert hc
  unfold kernelRun0_A
  dsimp only
  sl_unfold_words
  simp only [View.readAt_eq_ld, (hs0_0 t).read_unread, (hs0_1 t).read_unread, (hs0_2 t).read_unread, View.ld_unit_zero (S := S1024x1024) hz]
  intro hc
  refine canon_two (aB x0 x1 x2) _ _ (fun r j => ?_) (fun r j => ?_) y hc
  · exact act_lo x0 x1 x2 r j
  · exact act_hi x0 x1 x2 r j

/-- What a point leaves in output window 4. -/
theorem out4_eq (t : Fin cfg0.N) : out0_A_4 c (grid0.coords t) (ms0_0 t) (hs0_0 t) (ms0_1 t) (hs0_1 t) (ms0_2 t) (hs0_2 t) (ms0_3 t) (hs0_3 t) (ms0_4 t) (hs0_4 t)
    (ms0_5 t) (hs0_5 t) x0 x1 x2 = gB x0 x1 := by
  funext y
  unfold out0_A_4
  rw [View.read_writes_eq_canon _ _ _ (fun y => cover0_A_4 (y := y) ..)]
  have hc := cover0_A_4 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 y
  revert hc
  unfold kernelRun0_A
  dsimp only
  sl_unfold_words
  simp only [View.readAt_eq_ld, (hs0_0 t).read_unread, (hs0_1 t).read_unread, (hs0_2 t).read_unread, View.ld_unit_zero (S := S1024x1024) hz]
  intro hc
  refine canon_two (gB x0 x1) _ _ (fun r j => ?_) (fun r j => ?_) y hc
  · exact (pay3_apply x0 (lo x1) r j).trans (dot_lo x0 x1 r j)
  · exact (pay8_apply x0 (hi x1) r j).trans (dot_hi x0 x1 r j)

/-- What a point leaves in output window 5. -/
theorem out5_eq (t : Fin cfg0.N) : out0_A_5 c (grid0.coords t) (ms0_0 t) (hs0_0 t) (ms0_1 t) (hs0_1 t) (ms0_2 t) (hs0_2 t) (ms0_3 t) (hs0_3 t) (ms0_4 t) (hs0_4 t)
    (ms0_5 t) (hs0_5 t) x0 x1 x2 = gB x0 x2 := by
  funext y
  unfold out0_A_5
  rw [View.read_writes_eq_canon _ _ _ (fun y => cover0_A_5 (y := y) ..)]
  have hc := cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) x0 x1 x2 y
  revert hc
  unfold kernelRun0_A
  dsimp only
  sl_unfold_words
  simp only [View.readAt_eq_ld, (hs0_0 t).read_unread, (hs0_1 t).read_unread, (hs0_2 t).read_unread, View.ld_unit_zero (S := S1024x1024) hz]
  intro hc
  refine canon_two (gB x0 x2) _ _ (fun r j => ?_) (fun r j => ?_) y hc
  · exact (pay4_apply x0 (lo x2) r j).trans (dot_lo x0 x2 r j)
  · exact (pay9_apply x0 (hi x2) r j).trans (dot_hi x0 x2 r j)

end Blocks

/-! ## The blocks that point `t` reads and writes: row block `t % 2`, column block `t / 2` -/

theorem t_lt (t : Fin cfg0.N) : t.val < 4 := t.isLt

def row (t : Fin cfg0.N) (r : Fin 1024) : Fin 2048 := ⟨t.val % 2 * 1024 + r.val, by omega⟩
def col (t : Fin cfg0.N) (j : Fin 1408) : Fin 2816 := ⟨t.val / 2 * 1408 + j.val, by have := t_lt t; omega⟩
/-- The gate's and the other factor's column of the weight. -/
def colG (j : Fin 2816) : Fin 5632 := ⟨j.val, by omega⟩
def colU (j : Fin 2816) : Fin 5632 := ⟨2816 + j.val, by omega⟩

theorem index_0 : ∀ t : Fin grid0.N, win0_0.index t = ![t.val % 2, 0] := by decide +kernel
theorem index_1 : ∀ t : Fin grid0.N, win0_1.index t = ![t.val / 2, 0] := by decide +kernel
theorem index_2 : ∀ t : Fin grid0.N, win0_2.index t = ![2 + t.val / 2, 0] := by decide +kernel
theorem index_3 : ∀ t : Fin grid0.N, win0_3.index t = ![t.val % 2, t.val / 2] := by decide +kernel
theorem index_4 : ∀ t : Fin grid0.N, win0_4.index t = ![t.val % 2, t.val / 2] := by decide +kernel
theorem index_5 : ∀ t : Fin grid0.N, win0_5.index t = ![t.val % 2, t.val / 2] := by decide +kernel

theorem iblk_0 (t : Fin cfg0.N) (r : Fin 1024) (k : Fin 1024) : iblk m c 0 t (ix2 r k) = hin m c (ix3 0 (row t r) k) := by
  rw [← V_hin]
  exact congrArg (V m c main_v1) (idx2_ext (by show win0_0.index t 0 * 1024 + 1 * r.val = _; rw [index_0]; simp [row])
    (by show win0_0.index t 1 * 1024 + 1 * k.val = _; rw [index_0]; simp))
theorem iblk_1 (t : Fin cfg0.N) (j : Fin 1408) (k : Fin 1024) : iblk m c 1 t (ix2 j k) = wt m c (ix3 0 k (colG (col t j))) := by
  rw [← V_wt]
  exact congrArg (V m c main_v4) (idx2_ext (by show win0_1.index t 0 * 1408 + 1 * j.val = _; rw [index_1]; simp [col, colG])
    (by show win0_1.index t 1 * 1024 + 1 * k.val = _; rw [index_1]; simp))
theorem iblk_2 (t : Fin cfg0.N) (j : Fin 1408) (k : Fin 1024) : iblk m c 2 t (ix2 j k) = wt m c (ix3 0 k (colU (col t j))) := by
  rw [← V_wt]
  exact congrArg (V m c main_v4) (idx2_ext (by show win0_2.index t 0 * 1408 + 1 * j.val = _; rw [index_2]; simp [col, colU]; omega)
    (by show win0_2.index t 1 * 1024 + 1 * k.val = _; rw [index_2]; simp))

/-! ## The three result arrays -/

def GA (r : Fin 2048) (j : Fin 2816) : EReal := ∑ k : Fin 1024, hin m c (ix3 0 r k) * wt m c (ix3 0 k (colG j))
def UP (r : Fin 2048) (j : Fin 2816) : EReal := ∑ k : Fin 1024, hin m c (ix3 0 r k) * wt m c (ix3 0 k (colU j))

def G3 : Vec Ideal S2048x2816 .bf16 := fun y => GA m c (y 0) (y 1) * Ideal.logistic (GA m c (y 0) (y 1)) * UP m c (y 0) (y 1)
def G4 : Vec Ideal S2048x2816 .bf16 := fun y => GA m c (y 0) (y 1)
def G5 : Vec Ideal S2048x2816 .bf16 := fun y => UP m c (y 0) (y 1)

theorem gate_blk (t : Fin cfg0.N) (r : Fin 1024) (j : Fin 1408) : gB (iblk m c 0 t) (iblk m c 1 t) (ix2 r j) = GA m c (row t r) (col t j) := by
  simp only [gB, GA, ix2_0, ix2_1, iblk_0, iblk_1]
theorem up_blk (t : Fin cfg0.N) (r : Fin 1024) (j : Fin 1408) : gB (iblk m c 0 t) (iblk m c 2 t) (ix2 r j) = UP m c (row t r) (col t j) := by
  simp only [gB, UP, ix2_0, ix2_1, iblk_0, iblk_2]

theorem act_blk (t : Fin cfg0.N) (r : Fin 1024) (j : Fin 1408) :
    aB (iblk m c 0 t) (iblk m c 1 t) (iblk m c 2 t) (ix2 r j) = G3 m c (ix2 (row t r) (col t j)) := by
  simp only [aB, gate_blk, up_blk, G3, ix2_0, ix2_1]

/-- The point whose block holds an index of a result array. -/
def pt (i : S2048x2816.Idx) : Fin cfg0.N :=
  ⟨(i 1).val / 1408 * 2 + (i 0).val / 1024, by
    have h0 : (i 0).val < 2048 := (i 0).isLt
    have h1 : (i 1).val < 2816 := (i 1).isLt
    show _ < 4; omega⟩

theorem pt_rows (i : S2048x2816.Idx) : (pt i).val % 2 * 1024 ≤ (i 0).val ∧ (i 0).val < (pt i).val % 2 * 1024 + 1024 := by
  have h0 : (i 0).val < 2048 := (i 0).isLt
  simp only [pt]; omega
theorem pt_cols (i : S2048x2816.Idx) : (pt i).val / 2 * 1408 ≤ (i 1).val ∧ (i 1).val < (pt i).val / 2 * 1408 + 1408 := by
  have h0 : (i 0).val < 2048 := (i 0).isLt
  simp only [pt]; omega

/-- Result array 0 is the gated value. -/
theorem final_3 : (dats m 0 c).arrAt 3 cfg0.N = G3 m c :=
  (dats m 0 c).arrAt_eq_of_cover 3 (G3 m c) (fun t _ => by
      rw [Value.flushed3_A, out3_eq]
      funext y
      obtain ⟨r, j, rfl⟩ : ∃ (r : Fin 1024) (j : Fin 1408), y = ix2 r j := ⟨y 0, y 1, eq_ix2 y⟩
      refine Eq.trans ?_ (congrArg (G3 m c) (idx2_ext (i := ix2 (row t r) (col t j))
        (by show _ = win0_3.index t 0 * 1024 + 1 * r.val; rw [index_3]; simp [row])
        (by show _ = win0_3.index t 1 * 1408 + 1 * j.val; rw [index_3]; simp [col])))
      exact act_blk m c t r j) fun i =>
    ⟨pt i, flush0_3 _, by
      show i ∈ ((View.whole main_v5_0).slice (win0_3.rect (pt i))).set
      rw [View.set_slice_whole, Rect.mem_set_unit]
      intro a
      match a with
      | ⟨0, _⟩ => show win0_3.index (pt i) 0 * 1024 ≤ (i 0 : Nat) ∧ (i 0 : Nat) < win0_3.index (pt i) 0 * 1024 + 1024
                  rw [index_3]; exact pt_rows i
      | ⟨1, _⟩ => show win0_3.index (pt i) 1 * 1408 ≤ (i 1 : Nat) ∧ (i 1 : Nat) < win0_3.index (pt i) 1 * 1408 + 1408
                  rw [index_3]; exact pt_cols i⟩

/-- Result array 1 is the gate. -/
theorem final_4 : (dats m 0 c).arrAt 4 cfg0.N = G4 m c :=
  (dats m 0 c).arrAt_eq_of_cover 4 (G4 m c) (fun t _ => by
      rw [Value.flushed4_A, out4_eq]
      funext y
      obtain ⟨r, j, rfl⟩ : ∃ (r : Fin 1024) (j : Fin 1408), y = ix2 r j := ⟨y 0, y 1, eq_ix2 y⟩
      refine Eq.trans ?_ (congrArg (G4 m c) (idx2_ext (i := ix2 (row t r) (col t j))
        (by show _ = win0_4.index t 0 * 1024 + 1 * r.val; rw [index_4]; simp [row])
        (by show _ = win0_4.index t 1 * 1408 + 1 * j.val; rw [index_4]; simp [col])))
      exact gate_blk m c t r j) fun i =>
    ⟨pt i, flush0_4 _, by
      show i ∈ ((View.whole main_v5_1).slice (win0_4.rect (pt i))).set
      rw [View.set_slice_whole, Rect.mem_set_unit]
      intro a
      match a with
      | ⟨0, _⟩ => show win0_4.index (pt i) 0 * 1024 ≤ (i 0 : Nat) ∧ (i 0 : Nat) < win0_4.index (pt i) 0 * 1024 + 1024
                  rw [index_4]; exact pt_rows i
      | ⟨1, _⟩ => show win0_4.index (pt i) 1 * 1408 ≤ (i 1 : Nat) ∧ (i 1 : Nat) < win0_4.index (pt i) 1 * 1408 + 1408
                  rw [index_4]; exact pt_cols i⟩

/-- Result array 2 is the other factor. -/
theorem final_5 : (dats m 0 c).arrAt 5 cfg0.N = G5 m c :=
  (dats m 0 c).arrAt_eq_of_cover 5 (G5 m c) (fun t _ => by
      rw [Value.flushed5_A, out5_eq]
      funext y
      obtain ⟨r, j, rfl⟩ : ∃ (r : Fin 1024) (j : Fin 1408), y = ix2 r j := ⟨y 0, y 1, eq_ix2 y⟩
      refine Eq.trans ?_ (congrArg (G5 m c) (idx2_ext (i := ix2 (row t r) (col t j))
        (by show _ = win0_5.index t 0 * 1024 + 1 * r.val; rw [index_5]; simp [row])
        (by show _ = win0_5.index t 1 * 1408 + 1 * j.val; rw [index_5]; simp [col])))
      exact up_blk m c t r j) fun i =>
    ⟨pt i, flush0_5 _, by
      show i ∈ ((View.whole main_v5_2).slice (win0_5.rect (pt i))).set
      rw [View.set_slice_whole, Rect.mem_set_unit]
      intro a
      match a with
      | ⟨0, _⟩ => show win0_5.index (pt i) 0 * 1024 ≤ (i 0 : Nat) ∧ (i 0 : Nat) < win0_5.index (pt i) 0 * 1024 + 1024
                  rw [index_5]; exact pt_rows i
      | ⟨1, _⟩ => show win0_5.index (pt i) 1 * 1408 ≤ (i 1 : Nat) ∧ (i 1 : Nat) < win0_5.index (pt i) 1 * 1408 + 1408
                  rw [index_5]; exact pt_cols i⟩

/-! ## The reference's values at an index -/

section Ref

open Cert.SwigluFwdRefIdeal.Read

variable (r : Fin 2048) (j : Fin 2816)

theorem ref_gate : val_main_v2 (F := Ideal) (hin m c) (wt m c) (ix3 0 r j) = GA m c r j := by
  unfold val_main_v2 val_main_v1 val_main_v0 GA
  simp only [pointwise, zero_add]
  simp [colG]

theorem ref_up : val_main_v3 (F := Ideal) (hin m c) (wt m c) (ix3 0 r j) = UP m c r j := by
  unfold val_main_v3 val_main_v1 val_main_v0 UP
  simp only [pointwise, zero_add]
  simp [colU]

theorem ref_act : val_main_v7 (F := Ideal) (hin m c) (wt m c) (ix2 r j) = GA m c r j * Ideal.logistic (GA m c r j) * UP m c r j := by
  unfold val_main_v7 val_main_v6 val_main_v5 val_main_v4 val_main_call0_v5 val_main_call0_v4 val_main_call0_v3 val_main_call0_v2 val_main_call0_v1
    val_main_call0_v0 val_main_call0_cst val_main_call0_cst_0
  simp only [pointwise, ↓reduceDIte, OfNat.ofNat_ne_one, ref_gate, ref_up, Common.ofBits_one, Common.logistic_eq]

theorem ref_gate2 : val_main_v9 (F := Ideal) (hin m c) (wt m c) (ix2 r j) = GA m c r j := by
  unfold val_main_v9 val_main_v8
  simp only [pointwise, ↓reduceDIte, OfNat.ofNat_ne_one, ref_gate]

theorem ref_up2 : val_main_v11 (F := Ideal) (hin m c) (wt m c) (ix2 r j) = UP m c r j := by
  unfold val_main_v11 val_main_v10
  simp only [pointwise, ↓reduceDIte, OfNat.ofNat_ne_one, ref_up]

end Ref

/-! ## The equation -/

/-- **The kernel computes the gated value and its two factors**, over the extended reals. -/
theorem algebraic : Cert.algebraic_SwigluFwdIdeal_SwigluFwdRefIdeal := by
  intro m g m' g' _ hagree
  refine ⟨fun c => G3 m c, fun c => G4 m c, fun c => G5 m c,
    (θ_run Cert.SwigluFwdIdeal.defs _ _).mono (fun r h c => ?_) (Cert.SwigluFwdIdeal.Value.run_blocks m g),
    (θ_run Cert.SwigluFwdRefIdeal.defs _ _).mono (fun r h c => ?_) (Cert.SwigluFwdRefIdeal.Value.run (F := Ideal) m' g')⟩
  · obtain ⟨h3, h4, h5, ha⟩ := h c
    exact ⟨h3.trans (final_3 m c), h4.trans (final_4 m c), h5.trans (final_5 m c), ha⟩
  · obtain ⟨h3, h4, h5, ha⟩ := h c
    obtain ⟨e0, e1⟩ := hagree c
    rw [e0, e1, Cert.SwigluFwdRefIdeal.Read.val_main_v7_eq] at h3
    rw [e0, e1, Cert.SwigluFwdRefIdeal.Read.val_main_v9_eq] at h4
    rw [e0, e1, Cert.SwigluFwdRefIdeal.Read.val_main_v11_eq] at h5
    refine ⟨h3.trans ?_, h4.trans ?_, h5.trans ?_, ha⟩ <;> funext y <;>
      obtain ⟨r, j, rfl⟩ : ∃ (r : Fin 2048) (j : Fin 2816), y = ix2 r j := ⟨y 0, y 1, eq_ix2 y⟩
    · exact ref_act m c r j
    · exact ref_gate2 m c r j
    · exact ref_up2 m c r j

/-- The reference's frame. -/
theorem frame_ref : Cert.quiescent_SwigluFwdRefIdeal := fun m ρ _ =>
  (θ_run Cert.SwigluFwdRefIdeal.defs _ _).mono (fun r h => ⟨fun c => (h c).2.2.2, sem_eq_zero_of_no_sems (by decide) r.2⟩)
    (Cert.SwigluFwdRefIdeal.Value.run (F := Ideal) m ρ)

end Cert.GateFwd

end
-- ==== Proof.MergeFwd.lean ====
/-
  The two branches' output projections and their gated merge: the kernel's three result arrays are `o @ w_attn`,
  `c @ w_conv + b`, and `σ(gate₀) · y_attn + σ(gate₁) · y_conv`.
-/
module

public import proofs.«01_k».proof.Defs
public import proofs.«01_k».proof.Proof.Common
public import proofs.«01_k».proof.Proof.Merge
public import proofs.«01_k».proof.Proof.Gen.ProjMergeIdeal.Value
public import proofs.«01_k».proof.Proof.Gen.ProjMergeRefIdeal.Run
public import proofs.«01_k».proof.Proof.Gen.ProjMergeRefIdeal.Read
public import Idealize.ShloMosaic.Lib.Pointwise
public import Idealize.ShloMosaic.Lib.StableHlo.ReadAt
public import Idealize.ShloMosaic.Lib.Claim

@[expose] public section

set_option maxRecDepth 16384

noncomputable section

namespace Cert.MergeFwd

open Idealize.ShloMosaic Idealize.ShloMosaic.TcCoe Idealize.SL.Sem
open Idealize.ShloMosaic.Pipeline (Dat)
open Cert.ProjMergeIdeal Cert.ProjMergeIdeal.Gen
open Cert.Common (idx2_ext)
open Cert.MergeKernel (colA colC)
open Cert.MergeProof (div0 mod0 div1 mod1)
open scoped BigOperators

variable (m : (ℓ : Loc nD τ sig) → Buf (Elt Ideal) ℓ) (c : Dev nD)

/-- The six arguments' contents on device `c`. -/
abbrev oo : Vec Ideal S1x2048x512 .f32 := m ((c : Thread nD τ).loc main_arg0)
abbrev cc : Vec Ideal S1x2048x512 .f32 := m ((c : Thread nD τ).loc main_arg1)
abbrev wa : Vec Ideal S1x512x1024 .f32 := m ((c : Thread nD τ).loc main_arg2)
abbrev wc : Vec Ideal S1x512x1024 .f32 := m ((c : Thread nD τ).loc main_arg3)
abbrev bias : Vec Ideal S1x1024 .f32 := m ((c : Thread nD τ).loc main_arg4)
abbrev proj : Vec Ideal S1x2048x3840 .f32 := m ((c : Thread nD τ).loc main_arg5)

theorem hz : (![0, 0] : Fin 2 → Nat) = fun _ => 0 := funext fun a => by fin_cases a <;> rfl

/-! ## The staged arrays -/

theorem V_oo (r : Fin 2048) (k : Fin 512) : V m c main_v1 (ix2 r k) = oo m c (ix3 0 r k) := by
  unfold V; after_reads_at
theorem V_cc (r : Fin 2048) (k : Fin 512) : V m c main_v3 (ix2 r k) = cc m c (ix3 0 r k) := by
  unfold V; after_reads_at
theorem V_wa (j : Fin 1024) (k : Fin 512) : V m c main_v6 (ix2 j k) = wa m c (ix3 0 k j) := by
  unfold V; after_reads_at
theorem V_wc (j : Fin 1024) (k : Fin 512) : V m c main_v9 (ix2 j k) = wc m c (ix3 0 k j) := by
  unfold V; after_reads_at
theorem V_bias (j : Fin 1024) : V m c main_arg4 (ix2 0 j) = bias m c (ix2 0 j) := by
  unfold V; after_reads_at
theorem V_proj (r : Fin 2048) (k : Fin 3840) : V m c main_v11 (ix2 r k) = proj m c (ix3 0 r k) := by
  unfold V; after_reads_at

/-! ## One block's values -/

section Blocks

variable (x0 x1 : Vec Ideal S2048x512 .bf16) (x2 x3 : Vec Ideal S256x512 .bf16) (x4 : Vec Ideal S1x256 .f32) (x5 x6 : Vec Ideal S2048x256 .bf16)
  (r : Fin 2048) (j : Fin 256)

theorem pay1_apply : k0_pay1 (F := Ideal) x0 x2 (ix2 r j) = ∑ k : Fin 512, x0 (ix2 r k) * x2 (ix2 j k) := by
  unfold k0_pay1; simp only [pointwise, zero_add]

theorem pay2_apply : k0_pay2 (F := Ideal) x1 x3 x4 (ix2 r j) = (∑ k : Fin 512, x1 (ix2 r k) * x3 (ix2 j k)) + x4 (ix2 0 j) := by
  unfold k0_pay2; simp only [pointwise, zero_add, ↓reduceDIte, OfNat.ofNat_ne_one]

theorem out7_apply : out0_7 x0 x1 x2 x3 x4 x5 x6 (ix2 r j) = ∑ k : Fin 512, x0 (ix2 r k) * x2 (ix2 j k) := by
  unfold out0_7
  rw [View.canon_unit_zero hz]
  simp only [View.ld_unit_zero (S := S2048x512) hz, View.ld_unit_zero (S := S256x512) hz]
  unfold k0_pay3
  simp only [pointwise, pay1_apply]

theorem out8_apply : out0_8 x0 x1 x2 x3 x4 x5 x6 (ix2 r j) = (∑ k : Fin 512, x1 (ix2 r k) * x3 (ix2 j k)) + x4 (ix2 0 j) := by
  unfold out0_8
  rw [View.canon_unit_zero hz]
  simp only [View.ld_unit_zero (S := S2048x512) hz, View.ld_unit_zero (S := S256x512) hz, View.ld_unit_zero (S := S1x256) hz]
  unfold k0_pay4
  simp only [pointwise, pay2_apply]

theorem out9_apply : out0_9 x0 x1 x2 x3 x4 x5 x6 (ix2 r j)
    = Ideal.logistic (x5 (ix2 r j)) * (∑ k : Fin 512, x0 (ix2 r k) * x2 (ix2 j k))
      + Ideal.logistic (x6 (ix2 r j)) * ((∑ k : Fin 512, x1 (ix2 r k) * x3 (ix2 j k)) + x4 (ix2 0 j)) := by
  unfold out0_9
  rw [View.canon_unit_zero hz]
  simp only [View.ld_unit_zero (S := S2048x512) hz, View.ld_unit_zero (S := S256x512) hz, View.ld_unit_zero (S := S1x256) hz,
    View.ld_unit_zero (S := S2048x256) hz]
  unfold k0_pay5
  simp only [pointwise, pay1_apply, pay2_apply]

end Blocks

/-! ## The blocks that point `t` reads and writes: column block `t` of four -/

theorem t_lt (t : Fin cfg0.N) : t.val < 4 := t.isLt

/-- Column `j` of the column block of point `t`. -/
def col (t : Fin cfg0.N) (j : Fin 256) : Fin 1024 := ⟨t.val * 256 + j.val, by have := t_lt t; omega⟩

theorem index_0 : ∀ t : Fin grid0.N, win0_0.index t = ![0, 0] := by decide +kernel
theorem index_1 : ∀ t : Fin grid0.N, win0_1.index t = ![0, 0] := by decide +kernel
theorem index_2 : ∀ t : Fin grid0.N, win0_2.index t = ![t.val, 0] := by decide +kernel
theorem index_3 : ∀ t : Fin grid0.N, win0_3.index t = ![t.val, 0] := by decide +kernel
theorem index_4 : ∀ t : Fin grid0.N, win0_4.index t = ![0, t.val] := by decide +kernel
theorem index_5 : ∀ t : Fin grid0.N, win0_5.index t = ![0, 7 + t.val] := by decide +kernel
theorem index_6 : ∀ t : Fin grid0.N, win0_6.index t = ![0, 11 + t.val] := by decide +kernel
theorem index_7 : ∀ t : Fin grid0.N, win0_7.index t = ![0, t.val] := by decide +kernel
theorem index_8 : ∀ t : Fin grid0.N, win0_8.index t = ![0, t.val] := by decide +kernel
theorem index_9 : ∀ t : Fin grid0.N, win0_9.index t = ![0, t.val] := by decide +kernel

theorem iblk_0 (t : Fin cfg0.N) (r : Fin 2048) (k : Fin 512) : iblk m c 0 t (ix2 r k) = oo m c (ix3 0 r k) := by
  rw [← V_oo]
  exact congrArg (V m c main_v1) (idx2_ext (by show win0_0.index t 0 * 2048 + 1 * r.val = _; rw [index_0]; simp)
    (by show win0_0.index t 1 * 512 + 1 * k.val = _; rw [index_0]; simp))

theorem iblk_1 (t : Fin cfg0.N) (r : Fin 2048) (k : Fin 512) : iblk m c 1 t (ix2 r k) = cc m c (ix3 0 r k) := by
  rw [← V_cc]
  exact congrArg (V m c main_v3) (idx2_ext (by show win0_1.index t 0 * 2048 + 1 * r.val = _; rw [index_1]; simp)
    (by show win0_1.index t 1 * 512 + 1 * k.val = _; rw [index_1]; simp))

theorem iblk_2 (t : Fin cfg0.N) (j : Fin 256) (k : Fin 512) : iblk m c 2 t (ix2 j k) = wa m c (ix3 0 k (col t j)) := by
  rw [← V_wa]
  exact congrArg (V m c main_v6) (idx2_ext (by show win0_2.index t 0 * 256 + 1 * j.val = _; rw [index_2]; simp [col])
    (by show win0_2.index t 1 * 512 + 1 * k.val = _; rw [index_2]; simp))

theorem iblk_3 (t : Fin cfg0.N) (j : Fin 256) (k : Fin 512) : iblk m c 3 t (ix2 j k) = wc m c (ix3 0 k (col t j)) := by
  rw [← V_wc]
  exact congrArg (V m c main_v9) (idx2_ext (by show win0_3.index t 0 * 256 + 1 * j.val = _; rw [index_3]; simp [col])
    (by show win0_3.index t 1 * 512 + 1 * k.val = _; rw [index_3]; simp))

theorem iblk_4 (t : Fin cfg0.N) (j : Fin 256) : iblk m c 4 t (ix2 0 j) = bias m c (ix2 0 (col t j)) := by
  rw [← V_bias]
  exact congrArg (V m c main_arg4) (idx2_ext (by show win0_4.index t 0 * 1 + 1 * 0 = _; rw [index_4]; simp)
    (by show win0_4.index t 1 * 256 + 1 * j.val = _; rw [index_4]; simp [col]))

theorem iblk_5 (t : Fin cfg0.N) (r : Fin 2048) (j : Fin 256) : iblk m c 5 t (ix2 r j) = proj m c (ix3 0 r (colA (col t j))) := by
  rw [← V_proj]
  exact congrArg (V m c main_v11) (idx2_ext (by show win0_5.index t 0 * 2048 + 1 * r.val = _; rw [index_5]; simp)
    (by show win0_5.index t 1 * 256 + 1 * j.val = _; rw [index_5]; simp [col, colA]; omega))

theorem iblk_6 (t : Fin cfg0.N) (r : Fin 2048) (j : Fin 256) : iblk m c 6 t (ix2 r j) = proj m c (ix3 0 r (colC (col t j))) := by
  rw [← V_proj]
  exact congrArg (V m c main_v11) (idx2_ext (by show win0_6.index t 0 * 2048 + 1 * r.val = _; rw [index_6]; simp)
    (by show win0_6.index t 1 * 256 + 1 * j.val = _; rw [index_6]; simp [col, colC]; omega))

/-! ## The three result arrays -/

/-- The attention branch's projection, and the convolution branch's with its bias. -/
def YA (r : Fin 2048) (j : Fin 1024) : EReal := ∑ k : Fin 512, oo m c (ix3 0 r k) * wa m c (ix3 0 k j)
def YC (r : Fin 2048) (j : Fin 1024) : EReal := (∑ k : Fin 512, cc m c (ix3 0 r k) * wc m c (ix3 0 k j)) + bias m c (ix2 0 j)

def G7 : Vec Ideal S2048x1024 .bf16 := fun y => YA m c (y 0) (y 1)
def G8 : Vec Ideal S2048x1024 .bf16 := fun y => YC m c (y 0) (y 1)
def G9 : Vec Ideal S2048x1024 .bf16 := fun y =>
  Ideal.logistic (proj m c (ix3 0 (y 0) (colA (y 1)))) * YA m c (y 0) (y 1)
    + Ideal.logistic (proj m c (ix3 0 (y 0) (colC (y 1)))) * YC m c (y 0) (y 1)

/-- The point whose block holds an index of a result array. -/
def pt (i : S2048x1024.Idx) : Fin cfg0.N :=
  ⟨(i 1).val / 256, by have h1 : (i 1).val < 1024 := (i 1).isLt; show _ < 4; omega⟩

/-- The columns of an index's block hold it. -/
theorem pt_bounds (i : S2048x1024.Idx) : (pt i).val * 256 ≤ (i 1).val ∧ (i 1).val < (pt i).val * 256 + 256 := by
  simp only [pt]; omega

/-- Result array 0 is the attention branch's projection. -/
theorem final_7 : (dats m 0 c).arrAt 7 cfg0.N = G7 m c :=
  (dats m 0 c).arrAt_eq_of_cover 7 (G7 m c) (fun t _ => by
      rw [Value.flushed7]
      funext y
      obtain ⟨r, j, rfl⟩ : ∃ (r : Fin 2048) (j : Fin 256), y = ix2 r j := ⟨y 0, y 1, eq_ix2 y⟩
      refine (out7_apply (iblk m c 0 t) (iblk m c 1 t) (iblk m c 2 t) (iblk m c 3 t) (iblk m c 4 t) (iblk m c 5 t) (iblk m c 6 t) r j).trans ?_
      refine Eq.trans ?_ (congrArg (G7 m c) (idx2_ext (i := ix2 r (col t j))
        (by show _ = win0_7.index t 0 * 2048 + 1 * r.val; rw [index_7]; simp)
        (by show _ = win0_7.index t 1 * 256 + 1 * j.val; rw [index_7]; simp [col])))
      simp only [iblk_0, iblk_2, G7, YA, ix2_0, ix2_1]) fun i =>
    ⟨pt i, flush0_7 _, by
      show i ∈ ((View.whole main_v12_0).slice (win0_7.rect (pt i))).set
      rw [View.set_slice_whole, Rect.mem_set_unit]
      have h0 : (i 0).val < 2048 := (i 0).isLt
      have h1 := pt_bounds i
      intro a
      match a with
      | ⟨0, _⟩ => show win0_7.index (pt i) 0 * 2048 ≤ (i 0 : Nat) ∧ (i 0 : Nat) < win0_7.index (pt i) 0 * 2048 + 2048
                  rw [index_7]; simpa using h0
      | ⟨1, _⟩ => show win0_7.index (pt i) 1 * 256 ≤ (i 1 : Nat) ∧ (i 1 : Nat) < win0_7.index (pt i) 1 * 256 + 256
                  rw [index_7]; exact h1⟩

/-- Result array 1 is the convolution branch's projection. -/
theorem final_8 : (dats m 0 c).arrAt 8 cfg0.N = G8 m c :=
  (dats m 0 c).arrAt_eq_of_cover 8 (G8 m c) (fun t _ => by
      rw [Value.flushed8]
      funext y
      obtain ⟨r, j, rfl⟩ : ∃ (r : Fin 2048) (j : Fin 256), y = ix2 r j := ⟨y 0, y 1, eq_ix2 y⟩
      refine (out8_apply (iblk m c 0 t) (iblk m c 1 t) (iblk m c 2 t) (iblk m c 3 t) (iblk m c 4 t) (iblk m c 5 t) (iblk m c 6 t) r j).trans ?_
      refine Eq.trans ?_ (congrArg (G8 m c) (idx2_ext (i := ix2 r (col t j))
        (by show _ = win0_8.index t 0 * 2048 + 1 * r.val; rw [index_8]; simp)
        (by show _ = win0_8.index t 1 * 256 + 1 * j.val; rw [index_8]; simp [col])))
      simp only [iblk_1, iblk_3, iblk_4, G8, YC, ix2_0, ix2_1]) fun i =>
    ⟨pt i, flush0_8 _, by
      show i ∈ ((View.whole main_v12_1).slice (win0_8.rect (pt i))).set
      rw [View.set_slice_whole, Rect.mem_set_unit]
      have h0 : (i 0).val < 2048 := (i 0).isLt
      have h1 := pt_bounds i
      intro a
      match a with
      | ⟨0, _⟩ => show win0_8.index (pt i) 0 * 2048 ≤ (i 0 : Nat) ∧ (i 0 : Nat) < win0_8.index (pt i) 0 * 2048 + 2048
                  rw [index_8]; simpa using h0
      | ⟨1, _⟩ => show win0_8.index (pt i) 1 * 256 ≤ (i 1 : Nat) ∧ (i 1 : Nat) < win0_8.index (pt i) 1 * 256 + 256
                  rw [index_8]; exact h1⟩

/-- Result array 2 is the gated merge. -/
theorem final_9 : (dats m 0 c).arrAt 9 cfg0.N = G9 m c :=
  (dats m 0 c).arrAt_eq_of_cover 9 (G9 m c) (fun t _ => by
      rw [Value.flushed9]
      funext y
      obtain ⟨r, j, rfl⟩ : ∃ (r : Fin 2048) (j : Fin 256), y = ix2 r j := ⟨y 0, y 1, eq_ix2 y⟩
      refine (out9_apply (iblk m c 0 t) (iblk m c 1 t) (iblk m c 2 t) (iblk m c 3 t) (iblk m c 4 t) (iblk m c 5 t) (iblk m c 6 t) r j).trans ?_
      refine Eq.trans ?_ (congrArg (G9 m c) (idx2_ext (i := ix2 r (col t j))
        (by show _ = win0_9.index t 0 * 2048 + 1 * r.val; rw [index_9]; simp)
        (by show _ = win0_9.index t 1 * 256 + 1 * j.val; rw [index_9]; simp [col])))
      simp only [iblk_0, iblk_1, iblk_2, iblk_3, iblk_4, iblk_5, iblk_6, G9, YA, YC, ix2_0, ix2_1]) fun i =>
    ⟨pt i, flush0_9 _, by
      show i ∈ ((View.whole main_v12_2).slice (win0_9.rect (pt i))).set
      rw [View.set_slice_whole, Rect.mem_set_unit]
      have h0 : (i 0).val < 2048 := (i 0).isLt
      have h1 := pt_bounds i
      intro a
      match a with
      | ⟨0, _⟩ => show win0_9.index (pt i) 0 * 2048 ≤ (i 0 : Nat) ∧ (i 0 : Nat) < win0_9.index (pt i) 0 * 2048 + 2048
                  rw [index_9]; simpa using h0
      | ⟨1, _⟩ => show win0_9.index (pt i) 1 * 256 ≤ (i 1 : Nat) ∧ (i 1 : Nat) < win0_9.index (pt i) 1 * 256 + 256
                  rw [index_9]; exact h1⟩

/-! ## The reference's values at an index -/

section Ref

open Cert.ProjMergeRefIdeal.Read

variable (r : Fin 2048) (j : Fin 1024)

theorem ref_ya : val_main_v9 (F := Ideal) (oo m c) (wa m c) (ix3 0 r j) = YA m c r j := by
  unfold val_main_v9 val_main_v8 YA
  simp only [pointwise, zero_add]

theorem ref_yc : val_main_v15 (F := Ideal) (cc m c) (wc m c) (bias m c) (ix3 0 r j) = YC m c r j := by
  unfold val_main_v15 val_main_v14 val_main_v13 val_main_v12 val_main_v11 val_main_v10 YC
  simp only [pointwise, zero_add, ↓reduceDIte, OfNat.ofNat_ne_one]

theorem ref_ya2 : val_main_v24 (F := Ideal) (oo m c) (wa m c) (ix2 r j) = YA m c r j := by
  unfold val_main_v24 val_main_v23
  simp only [pointwise, ↓reduceDIte, OfNat.ofNat_ne_one, ref_ya]

theorem ref_yc2 : val_main_v26 (F := Ideal) (cc m c) (wc m c) (bias m c) (ix2 r j) = YC m c r j := by
  unfold val_main_v26 val_main_v25
  simp only [pointwise, ↓reduceDIte, OfNat.ofNat_ne_one, ref_yc]

theorem ref_g0 : val_main_v17 (F := Ideal) (proj m c) (ix3 0 r j) = Ideal.logistic (proj m c (ix3 0 r (colA j))) := by
  unfold val_main_v17 val_main_v16 val_main_v7 val_main_v6 val_main_v5 val_main_v4 val_main_v3 val_main_v2 val_main_v1 val_main_v0 val_main_cst val_main_cst_0
  simp only [pointwise, Common.ofBits_one, Common.logistic_eq, zero_add]
  simp [div0, mod0, div1, mod1, Nat.mod_one, colA]

theorem ref_g1 : val_main_v20 (F := Ideal) (proj m c) (ix3 0 r j) = Ideal.logistic (proj m c (ix3 0 r (colC j))) := by
  unfold val_main_v20 val_main_v19 val_main_v7 val_main_v6 val_main_v5 val_main_v4 val_main_v3 val_main_v2 val_main_v1 val_main_v0 val_main_cst val_main_cst_0
  simp only [pointwise, Common.ofBits_one, Common.logistic_eq, zero_add]
  simp [div0, mod0, div1, mod1, Nat.mod_one, colC]

theorem ref_m : val_main_v28 (F := Ideal) (oo m c) (cc m c) (wa m c) (wc m c) (bias m c) (proj m c) (ix2 r j) = G9 m c (ix2 r j) := by
  unfold val_main_v28 val_main_v27 val_main_v22 val_main_v21 val_main_v18
  simp only [pointwise, ↓reduceDIte, OfNat.ofNat_ne_one, ref_ya, ref_yc, ref_g0, ref_g1]
  rfl

end Ref

/-! ## The equation -/

/-- **The kernel computes the two projections and their gated merge**, over the extended reals. -/
theorem algebraic : Cert.algebraic_ProjMergeIdeal_ProjMergeRefIdeal := by
  intro m g m' g' _ hagree
  refine ⟨fun c => G7 m c, fun c => G8 m c, fun c => G9 m c,
    (θ_run Cert.ProjMergeIdeal.defs _ _).mono (fun r h c => ?_) (Cert.ProjMergeIdeal.Value.run_blocks m g),
    (θ_run Cert.ProjMergeRefIdeal.defs _ _).mono (fun r h c => ?_) (Cert.ProjMergeRefIdeal.Value.run (F := Ideal) m' g')⟩
  · obtain ⟨h7, h8, h9, ha⟩ := h c
    exact ⟨h7.trans (final_7 m c), h8.trans (final_8 m c), h9.trans (final_9 m c), ha⟩
  · obtain ⟨h7, h8, h9, ha⟩ := h c
    obtain ⟨e0, e1, e2, e3, e4, e5⟩ := hagree c
    rw [Cert.ProjMergeRefIdeal.Read.val_main_v24_eq, e0, e2] at h7
    rw [Cert.ProjMergeRefIdeal.Read.val_main_v26_eq, e1, e3, e4] at h8
    rw [Cert.ProjMergeRefIdeal.Read.val_main_v28_eq, e0, e1, e2, e3, e4, e5] at h9
    refine ⟨h7.trans ?_, h8.trans ?_, h9.trans ?_, ha⟩ <;> funext y <;>
      obtain ⟨r, j, rfl⟩ : ∃ (r : Fin 2048) (j : Fin 1024), y = ix2 r j := ⟨y 0, y 1, eq_ix2 y⟩
    · exact ref_ya2 m c r j
    · exact ref_yc2 m c r j
    · exact ref_m m c r j

/-- The reference's frame. -/
theorem frame_ref : Cert.quiescent_ProjMergeRefIdeal := fun m ρ _ =>
  (θ_run Cert.ProjMergeRefIdeal.defs _ _).mono (fun r h => ⟨fun c => (h c).2.2.2, sem_eq_zero_of_no_sems (by decide) r.2⟩)
    (Cert.ProjMergeRefIdeal.Value.run (F := Ideal) m ρ)

end Cert.MergeFwd

end
-- ==== Proof.AttnFwdWords.lean ====
/-
  The attention's forward pass: the words of a trip of the forward kernel's loop, index by index. The weights are computed
  by the same operations as in the gradient's kernel, from the same loads; so they are read off that kernel's words, on
  two buffers `b1`, `b3` of it that hold the same projection and the same sinks.
-/
module

public import proofs.«01_k».proof.Proof.AttnOut
public import proofs.«01_k».proof.Proof.Gen.AttnFwdIdeal.Loops

@[expose] public section

set_option maxRecDepth 16384

noncomputable section

namespace Cert.AttnFwdTrip

open Cert.AttnFwdIdeal Cert.AttnFwdIdeal.Gen Cert.AttnSpec
open Cert.AttnTrip (loadP loadS)
open Idealize.ShloMosaic Idealize.ShloMosaic.TcCoe Idealize.ShloMosaic.Tactic

variable
  (arg1 : Memref sig .tc .vmem S2048x768 .bf16) (harg1 : arg1.IsWhole) (arg2 : Memref sig .tc .smem S1x8 .f32) (harg2 : arg2.IsWhole)
  (b1 : Memref Cert.AttnBwdIdeal.sig .tc .vmem S2048x768 .bf16) (hb1 : b1.IsWhole)
  (b3 : Memref Cert.AttnBwdIdeal.sig .tc .smem S1x8 .f32) (hb3 : b3.IsWhole)
  (X1 : Vec Ideal S2048x768 .bf16) (X3 : Vec Ideal S1x8 .f32) (k : Fin k0_t1_loop.trips)

/-- The loads of a trip. -/
theorem ld_eq :
    (trip_k0_t1.sl.v9 arg1 (harg1.unread X1) k = Cert.AttnTrip.trip.sl.v25 b1 (hb1.unread X1) k
      ∧ trip_k0_t1.sl.v12 arg1 (harg1.unread X1) k = Cert.AttnTrip.trip.sl.v28 b1 (hb1.unread X1) k
      ∧ trip_k0_t1.sl.v16 arg1 (harg1.unread X1) k = Cert.AttnTrip.trip.sl.v32 b1 (hb1.unread X1) k
      ∧ trip_k0_t1.sl.v19 arg1 (harg1.unread X1) k = Cert.AttnTrip.trip.sl.v35 b1 (hb1.unread X1) k
      ∧ trip_k0_t1.sl.v23 arg1 (harg1.unread X1) k = Cert.AttnTrip.trip.sl.v39 b1 (hb1.unread X1) k
      ∧ trip_k0_t1.sl.v48 arg1 (harg1.unread X1) k = Cert.AttnTrip.trip.sl.v64 b1 (hb1.unread X1) k
      ∧ trip_k0_t1.sl.v209 arg1 (harg1.unread X1) k = Cert.AttnTrip.trip.sl.v387 b1 (hb1.unread X1) k
      ∧ trip_k0_t1.sl.v234 arg1 (harg1.unread X1) k = Cert.AttnTrip.trip.sl.v412 b1 (hb1.unread X1) k) := by
  refine ⟨?_, ?_, ?_, ?_, ?_, ?_, ?_, ?_⟩
  all_goals
    simp only [trip_k0_t1.sl.v9, trip_k0_t1.sl.v12, trip_k0_t1.sl.v16, trip_k0_t1.sl.v19, trip_k0_t1.sl.v23, trip_k0_t1.sl.v48, trip_k0_t1.sl.v209, trip_k0_t1.sl.v234,
      Cert.AttnTrip.trip.sl.v25, Cert.AttnTrip.trip.sl.v28, Cert.AttnTrip.trip.sl.v32, Cert.AttnTrip.trip.sl.v35, Cert.AttnTrip.trip.sl.v39, Cert.AttnTrip.trip.sl.v64, Cert.AttnTrip.trip.sl.v387, Cert.AttnTrip.trip.sl.v412]
    rw [View.readAt_eq_ld, View.readAt_eq_ld, harg1.read_unread, hb1.read_unread]
    rfl

/-- The keys and the values of the block before and of the block. -/
theorem kv_eq : trip_k0_t1.sl.v13 arg1 (harg1.unread X1) k = Cert.AttnTrip.trip.sl.v29 b1 (hb1.unread X1) k ∧ trip_k0_t1.sl.v20 arg1 (harg1.unread X1) k = Cert.AttnTrip.trip.sl.v36 b1 (hb1.unread X1) k := by
  simp only [trip_k0_t1.sl.v13, trip_k0_t1.sl.v20]
  rw [(ld_eq arg1 harg1 b1 hb1 X1 k).1, (ld_eq arg1 harg1 b1 hb1 X1 k).2.1, (ld_eq arg1 harg1 b1 hb1 X1 k).2.2.1, (ld_eq arg1 harg1 b1 hb1 X1 k).2.2.2.1]
  exact ⟨rfl, rfl⟩

/-- The query heads of each group, one below the other. -/
theorem q_eq : trip_k0_t1.sl.v72 arg1 (harg1.unread X1) k = Cert.AttnTrip.trip.sl.v88 b1 (hb1.unread X1) k ∧ trip_k0_t1.sl.v258 arg1 (harg1.unread X1) k = Cert.AttnTrip.trip.sl.v436 b1 (hb1.unread X1) k := by
  simp only [trip_k0_t1.sl.v72, trip_k0_t1.sl.v71, trip_k0_t1.sl.v32, trip_k0_t1.sl.v45, trip_k0_t1.sl.v57, trip_k0_t1.sl.v70, trip_k0_t1.sl.v24, trip_k0_t1.sl.v49, trip_k0_t1.sl.v37, trip_k0_t1.sl.v62, trip_k0_t1.sl.v258, trip_k0_t1.sl.v257, trip_k0_t1.sl.v219, trip_k0_t1.sl.v231, trip_k0_t1.sl.v244, trip_k0_t1.sl.v256, trip_k0_t1.sl.v210, trip_k0_t1.sl.v211, trip_k0_t1.sl.v235, trip_k0_t1.sl.v236]
  rw [(ld_eq arg1 harg1 b1 hb1 X1 k).2.2.2.2.1, (ld_eq arg1 harg1 b1 hb1 X1 k).2.2.2.2.2.1, (ld_eq arg1 harg1 b1 hb1 X1 k).2.2.2.2.2.2.1, (ld_eq arg1 harg1 b1 hb1 X1 k).2.2.2.2.2.2.2]
  exact ⟨rfl, rfl⟩

/-- The masked scores. -/
theorem sm_eq : trip_k0_t1.sl.r_4 arg1 (harg1.unread X1) k = Cert.AttnTrip.trip.sl.r_4 b1 (hb1.unread X1) k ∧ trip_k0_t1.sl.r_8 arg1 (harg1.unread X1) k = Cert.AttnTrip.trip.sl.r_9 b1 (hb1.unread X1) k := by
  simp only [trip_k0_t1.sl.r_4, trip_k0_t1.sl.r_8, trip_k0_t1.sl.v75, trip_k0_t1.sl.v73, trip_k0_t1.sl.v261, trip_k0_t1.sl.v259]
  rw [(q_eq arg1 harg1 b1 hb1 X1 k).1, (q_eq arg1 harg1 b1 hb1 X1 k).2, (kv_eq arg1 harg1 b1 hb1 X1 k).1]
  exact ⟨rfl, rfl⟩

/-- The sinks of the group's heads, one per row. -/
theorem sk_eq : trip_k0_t1.sl.v129 arg2 (harg2.unread X3) = Cert.AttnTrip.trip.sl.v145 b3 (hb3.unread X3) ∧ trip_k0_t1.sl.v315 arg2 (harg2.unread X3) = Cert.AttnTrip.trip.sl.v493 b3 (hb3.unread X3) := by
  constructor
  all_goals
    sl_unfold_words
    simp only [View.readAt_eq_ld, harg2.read_unread, hb3.read_unread]
    rfl

/-- The weights. -/
theorem pr_eq : trip_k0_t1.sl.v144 arg1 arg2 (harg1.unread X1) (harg2.unread X3) k = Cert.AttnTrip.trip.sl.v160 b1 b3 (hb1.unread X1) (hb3.unread X3) k ∧ trip_k0_t1.sl.v330 arg1 arg2 (harg1.unread X1) (harg2.unread X3) k = Cert.AttnTrip.trip.sl.v508 b1 b3 (hb1.unread X1) (hb3.unread X3) k := by
  simp only [trip_k0_t1.sl.v144, trip_k0_t1.sl.v143, trip_k0_t1.sl.v142, trip_k0_t1.sl.v140, trip_k0_t1.sl.v139, trip_k0_t1.sl.v138, trip_k0_t1.sl.v137, trip_k0_t1.sl.v136, trip_k0_t1.sl.v135, trip_k0_t1.sl.v134, trip_k0_t1.sl.v133, trip_k0_t1.sl.v132, trip_k0_t1.sl.v131, trip_k0_t1.sl.v130, trip_k0_t1.sl.v330, trip_k0_t1.sl.v329, trip_k0_t1.sl.v328, trip_k0_t1.sl.v326, trip_k0_t1.sl.v325, trip_k0_t1.sl.v324, trip_k0_t1.sl.v323, trip_k0_t1.sl.v322, trip_k0_t1.sl.v321, trip_k0_t1.sl.v320, trip_k0_t1.sl.v319, trip_k0_t1.sl.v318, trip_k0_t1.sl.v317, trip_k0_t1.sl.v316]
  rw [(sm_eq arg1 harg1 b1 hb1 X1 k).1, (sm_eq arg1 harg1 b1 hb1 X1 k).2, (sk_eq arg2 harg2 b3 hb3 X3).1, (sk_eq arg2 harg2 b3 hb3 X3).2]
  exact ⟨rfl, rfl⟩

end Cert.AttnFwdTrip

end
-- ==== Proof.AttnFwdOut.lean ====
/-
  The attention's forward pass: what the trips of the forward kernel's loop store in the output's array.
-/
module

public import proofs.«01_k».proof.Proof.AttnFwdWords
public import proofs.«01_k».proof.Proof.AttnFrame
public import proofs.«01_k».proof.Proof.Gen.AttnFwdIdeal.Value

@[expose] public section

set_option maxRecDepth 16384

noncomputable section

namespace Cert.AttnSpec

/-- One entry of the output of a key head's query heads: the weighted sum of the values of the band. -/
def ov (P : ℕ → ℕ → EReal) (S : ℕ → EReal) (n h r l : ℕ) : EReal :=
  ∑ j : Fin 256, pr P S n h r j.val * P (krow n j.val) (640 + l)

/-- The attention's output: column `c` is of key head `c / 256`, of its query head `c % 256 / 64`. -/
def go (P : ℕ → ℕ → EReal) (S : ℕ → EReal) (r c : ℕ) : EReal :=
  ov P S (r / 128) (c / 256) (128 * (c % 256 / 64) + r % 128) (64 * (c / 256) + c % 64)

end Cert.AttnSpec

namespace Cert.AttnFwdTrip

open Cert.AttnFwdIdeal Cert.AttnFwdIdeal.Gen Cert.AttnSpec
open Cert.AttnTrip (low_at high_at pr_at val_at)
open Idealize.ShloMosaic Idealize.ShloMosaic.TcCoe Idealize.ShloMosaic.Tactic

variable (𝒱 : Variants) (c : Dev nD) (bd : Option 𝒱.V) (i : grid0.Coords)
  (arg1 : Memref sig .tc .vmem S2048x768 .bf16) (harg1 : arg1.IsWhole) (arg2 : Memref sig .tc .smem S1x8 .f32) (harg2 : arg2.IsWhole)
  (arg3 : Memref sig .tc .vmem S2048x512 .bf16) (harg3 : arg3.IsWhole)
  (b1 : Memref Cert.AttnBwdIdeal.sig .tc .vmem S2048x768 .bf16) (hb1 : b1.IsWhole)
  (b2 : Memref Cert.AttnBwdIdeal.sig .tc .vmem S2048x512 .bf16) (hb2 : b2.IsWhole)
  (b3 : Memref Cert.AttnBwdIdeal.sig .tc .smem S1x8 .f32) (hb3 : b3.IsWhole)
  (X1 : Vec Ideal S2048x768 .bf16) (X3 : Vec Ideal S1x8 .f32) (k : Fin k0_t1_loop.trips)

local notation "PP" => at2 (R := 2048) (C := 768) X1
local notation "SS" => at2 (R := 1) (C := 8) X3 0

theorem trips_eq : k0_t1_loop.trips = 16 := by decide
theorem off9_eq : k0_off9 k = ![128 * k.val, 0] := by revert k; decide +kernel
theorem off10_eq : k0_off10 k = ![128 * k.val, 128] := by revert k; decide +kernel
theorem off11_eq : k0_off11 k = ![128 * k.val, 256] := by revert k; decide +kernel
theorem off12_eq : k0_off12 k = ![128 * k.val, 384] := by revert k; decide +kernel

include hb1 hb2 hb3 in
/-- The products of the weights with the values. -/
theorem o_at (a : Fin 512) (l : Fin 128) :
    trip_k0_t1.sl.v146 arg1 arg2 (harg1.unread X1) (harg2.unread X3) k (ix2 a l) = ov PP SS k.val 0 a.val l.val
      ∧ trip_k0_t1.sl.v332 arg1 arg2 (harg1.unread X1) (harg2.unread X3) k (ix2 a l) = ov PP SS k.val 1 a.val l.val := by
  have hp := fun (j : Fin 256) => pr_at b1 hb1 b2 hb2 b3 hb3 X1 (fun _ => 0) X3 k a j
  have hv := fun (j : Fin 256) => val_at b1 hb1 X1 k j l
  have e := pr_eq arg1 harg1 arg2 harg2 b1 hb1 b3 hb3 X1 X3 k
  have ev := (kv_eq arg1 harg1 b1 hb1 X1 k).2
  constructor
  · simp only [trip_k0_t1.sl.v146, trip_k0_t1.sl.v145, trip_k0_t1.sl.cst_42]
    rw [e.1, ev]
    simp only [pointwise, zero_add, ov]
    exact Finset.sum_congr rfl fun j _ => congrArg₂ (· * ·) (hp j).1 (hv j)
  · simp only [trip_k0_t1.sl.v332, trip_k0_t1.sl.v331, trip_k0_t1.sl.cst_42]
    rw [e.2, ev]
    simp only [pointwise, zero_add, ov]
    exact Finset.sum_congr rfl fun j _ => congrArg₂ (· * ·) (hp j).2 (hv j)

/-- One of the stored blocks is the attention's output. -/
theorem go_of (h u : ℕ) (hu : u = 0 ∨ u = 128) (A : FVec Ideal S512x128 .f32) (hh : h < 2) (a b : Fin 128)
    (hA : ∀ x y, A (ix2 x y) = ov PP SS k.val h x.val y.val) (l : Fin 128) (hl : l.val = 64 * h + b.val % 64) (r0 r1 : Fin 512)
    (h0 : r0.val = 2 * u + a.val) (h1 : r1.val = 2 * u + 128 + a.val) :
    (if b.val < 64 then A (ix2 r0 l) else A (ix2 r1 l)) = go PP SS (128 * k.val + a.val) (256 * h + u + b.val) := by
  have ha := a.isLt
  have hb := b.isLt
  rw [hA, hA, hl, h0, h1]
  unfold go
  rw [show (128 * k.val + a.val) / 128 = k.val by omega, show (128 * k.val + a.val) % 128 = a.val by omega,
    show (256 * h + u + b.val) / 256 = h by omega, show (256 * h + u + b.val) % 64 = b.val % 64 by omega]
  split_ifs
  · rw [show 128 * ((256 * h + u + b.val) % 256 / 64) = 2 * u by omega]
  · rw [show 128 * ((256 * h + u + b.val) % 256 / 64) = 2 * u + 128 by omega]

include hb1 hb2 hb3 in
/-- What trip `k` stores agrees with the attention's output. -/
theorem trip_agree (G : S2048x512.Idx → EReal) (hG : ∀ (r : Fin 2048) (x : Fin 512), G (ix2 r x) = go PP SS r.val x.val) :
    ∀ p ∈ tripL_k0_t1 (F := Ideal) 𝒱 c bd i arg1 harg1 arg2 harg2 arg3 harg3 (harg1.unread X1) (harg2.unread X3) k,
      ∀ x : p.1.shape.Idx, p.2 x = G (p.1.emb x) := by
  have hk : k.val < 16 := by have := k.isLt; have := trips_eq; omega
  have q0 := fun x y => (o_at arg1 harg1 arg2 harg2 b1 hb1 b2 hb2 b3 hb3 X1 X3 k x y).1
  have q1 := fun x y => (o_at arg1 harg1 arg2 harg2 b1 hb1 b2 hb2 b3 hb3 X1 X3 k x y).2
  have inb : ∀ (off : Fin 2 → ℕ) (u : ℕ), off = ![128 * k.val, u] → u + 128 ≤ 512 → ∀ a, off a + S128x128.size a ≤ S2048x512.size a := by
    intro off u heq hu a
    subst heq
    match a with
    | ⟨0, _⟩ => show 128 * k.val + 128 ≤ 2048; omega
    | ⟨1, _⟩ => show u + 128 ≤ 512; omega
  have key : ∀ (off : Fin 2 → ℕ) (w : S128x128.Idx → EReal) (u : ℕ) (heq : off = ![128 * k.val, u])
      (hu : u + 128 ≤ 512) (hw : ∀ a b : Fin 128, w (ix2 a b) = go PP SS (128 * k.val + a.val) (u + b.val)) (x : S128x128.Idx),
      w x = G ((Rect.unit (s := S2048x512) off S128x128.size (inb off u heq hu)).emb x) := by
    intro off w u heq hu hw x
    subst heq
    have hx1 : (x 1).val < 128 := (x 1).isLt
    have hx0 : (x 0).val < 128 := (x 0).isLt
    have e : (Rect.unit (s := S2048x512) ![128 * k.val, u] S128x128.size (inb _ u rfl hu)).emb x
        = ix2 (⟨128 * k.val + (x 0).val, by omega⟩ : Fin 2048) (⟨u + (x 1).val, by omega⟩ : Fin 512) := by
      refine funext fun a => Fin.ext ?_
      match a with
      | ⟨0, _⟩ => show 128 * k.val + 1 * (x 0).val = 128 * k.val + (x 0).val; rw [Nat.one_mul]
      | ⟨1, _⟩ => show u + 1 * (x 1).val = u + (x 1).val; rw [Nat.one_mul]
    rw [e, hG]
    exact (congrArg w (eq_ix2 x)).trans (hw _ _)
  unfold tripL_k0_t1 trip_k0_t1
  dsimp only
  intro p hp
  simp only [List.mem_cons, List.not_mem_nil, or_false] at hp
  rcases hp with rfl | rfl | rfl | rfl
  · exact key _ _ _ (off12_eq k) (by omega) fun a b =>
      (high_at 256 384 _ _ _ _ (by omega) (by omega) a b).trans (go_of X1 X3 k 1 128 (.inr rfl) _ (by omega) a b q1 _ rfl _ _ rfl rfl)
  · exact key _ _ _ (off11_eq k) (by omega) fun a b =>
      (high_at 0 128 _ _ _ _ (by omega) (by omega) a b).trans (go_of X1 X3 k 1 0 (.inl rfl) _ (by omega) a b q1 _ rfl _ _ rfl rfl)
  · exact key _ _ _ (off10_eq k) (by omega) fun a b =>
      (low_at 256 384 _ _ _ _ (by omega) (by omega) a b).trans (go_of X1 X3 k 0 128 (.inr rfl) _ (by omega) a b q0 _ (by simp) _ _ rfl rfl)
  · exact key _ _ _ (off9_eq k) (by omega) fun a b =>
      (low_at 0 128 _ _ _ _ (by omega) (by omega) a b).trans (go_of X1 X3 k 0 0 (.inl rfl) _ (by omega) a b q0 _ (by simp) _ _ rfl rfl)

include hb1 hb2 hb3 in
/-- So does what all trips store. -/
theorem pieces_agree (G : S2048x512.Idx → EReal) (hG : ∀ (r : Fin 2048) (x : Fin 512), G (ix2 r x) = go PP SS r.val x.val) :
    ∀ n ≤ 16, ∀ p ∈ pb_k0_t1 (F := Ideal) 𝒱 c bd i arg1 harg1 arg2 harg2 arg3 harg3 (harg1.unread X1) (harg2.unread X3) n,
      ∀ x : p.1.shape.Idx, p.2 x = G (p.1.emb x) := by
  intro n
  induction n with
  | zero => exact fun _ p hp => absurd hp List.not_mem_nil
  | succ n ih =>
    intro hn p hp
    have h : n < k0_t1_loop.trips := by rw [trips_eq]; omega
    rw [pb_k0_t1_succ 𝒱 c bd i arg1 harg1 arg2 harg2 arg3 harg3 _ _ ⟨n, h⟩] at hp
    rcases List.mem_append.mp hp with hp | hp
    · exact trip_agree 𝒱 c bd i arg1 harg1 arg2 harg2 arg3 harg3 b1 hb1 b2 hb2 b3 hb3 X1 X3 ⟨n, h⟩ G hG p hp
    · exact ih (by omega) p hp

/-- The point of the gradient's grid, for two buffers of its kernel. -/
abbrev t0 : Fin Cert.AttnBwdIdeal.cfg0.N := ⟨0, by decide⟩

open Cert.AttnTrip (st0 sh0 st1 sh1 st2 sh2) in
/-- What the run leaves in the output's buffer is the attention's output. -/
theorem out_eq (r : Fin 2048) (x : Fin 512) :
    out0_A_2 (F := Ideal) c i arg1 harg1 arg2 harg2 arg3 harg3 X1 X3 (ix2 r x) = go PP SS r.val x.val := by
  have cov := cover0_A_2 (F := Ideal) c i arg1 harg1 arg2 harg2 arg3 harg3 X1 X3 (ix2 r x)
  unfold out0_A_2
  refine View.read_writes_apply_of_pieces VO0_2 _ (fun y => go PP SS (y 0).val (y 1).val) _ ?_ (ix2 r x) cov
  clear cov
  unfold kernelRun0_A
  dsimp only
  intro p hp
  have e16 : Scf.trips k0_t1_loop.lb k0_t1_loop.ub k0_t1_loop.st = 16 := trips_eq
  exact pieces_agree _ c _ i arg1 harg1 arg2 harg2 arg3 harg3 (st0 t0) (sh0 t0) (st1 t0) (sh1 t0) (st2 t0) (sh2 t0) X1 X3
    (fun y => go PP SS (y 0).val (y 1).val) (fun _ _ => rfl) _ e16.le p hp

end Cert.AttnFwdTrip

end
-- ==== Proof.AttnFwd.lean ====
/-
  The attention's forward pass: the kernel's output is the plain attention's, wherever the queries, the keys and the sinks
  are finite.
-/
module

public import proofs.«01_k».proof.Defs
public import proofs.«01_k».proof.Proof.Attn
public import proofs.«01_k».proof.Proof.AttnFwdOut
public import proofs.«01_k».proof.Proof.Gen.AttnFwd
public import proofs.«01_k».proof.Proof.Gen.AttnFwdRefIdeal.Run
public import proofs.«01_k».proof.Proof.Gen.AttnFwdRefIdeal.Read
public import proofs.«01_k».proof.Proof.Gen.Pre_attn_fwd_finite

@[expose] public section

set_option maxRecDepth 16384

noncomputable section

/-! ## The array that the kernel leaves -/

namespace Cert.AttnFwdKernel

open Cert.AttnFwdIdeal Cert.AttnFwdIdeal.Gen Cert.AttnFwdIdeal.Value Cert.AttnSpec
open Idealize.ShloMosaic Idealize.ShloMosaic.TcCoe Idealize.ShloMosaic.Tactic Idealize.SL.Sem
open Cert.Common (idx2_ext)

variable (m : (ℓ : Loc nD τ sig) → Buf (Elt Ideal) ℓ) (ρ : Dev nD → PrngReg) (c : Dev nD)

/-- The projections and the sinks as launched. -/
abbrev proj : S1x2048x3840.Idx → EReal := m ((c : Thread nD τ).loc main_arg0)
abbrev sinks : S1x8.Idx → EReal := m ((c : Thread nD τ).loc main_arg1)

/-- The queries', keys' and values' columns of the projections. -/
def X1 : S2048x768.Idx → EReal := fun y => proj m c (ix3 0 (y 0) ((y 1).castLE (by decide)))

abbrev P : ℕ → ℕ → EReal := at2 (R := 2048) (C := 768) (X1 m c)
abbrev S : ℕ → EReal := at2 (R := 1) (C := 8) (sinks m c) 0

theorem V_proj (r : Fin 2048) (x : Fin 3840) : V m c main_v1 (ix2 r x) = proj m c (ix3 0 r x) := by
  unfold V; after_reads_at
theorem V_sinks : V m c main_arg1 = sinks m c := V_main_arg1 m c

theorem index_0 (t : Fin cfg0.N) : win0_0.index t = ![0, 0] := by revert t; decide +kernel
theorem index_1 (t : Fin cfg0.N) : win0_1.index t = ![0, 0] := by revert t; decide +kernel
theorem index_2 (t : Fin cfg0.N) : win0_2.index t = ![0, 0] := by revert t; decide +kernel

theorem iblk_0 (t : Fin cfg0.N) : iblk m c 0 t = X1 m c := by
  funext y
  have h : V m c main_v1 (ix2 (y 0 : Fin 2048) (Fin.castLE (n := 768) (m := 3840) (by decide) (y 1))) = X1 m c y := V_proj m c _ _
  refine Eq.trans ?_ h
  exact congrArg (V m c main_v1) (idx2_ext (by show win0_0.index t 0 * 2048 + 1 * (y 0).val = _; rw [index_0]; simp)
    (by show win0_0.index t 1 * 768 + 1 * (y 1).val = (y 1).val; rw [index_0]; simp))
theorem iblk_1 (t : Fin cfg0.N) : iblk m c 1 t = sinks m c := by
  funext y
  rw [← V_sinks]
  exact congrArg (V m c main_arg1) (idx2_ext (by show win0_1.index t 0 * 1 + 1 * (y 0).val = _; rw [index_1]; simp)
    (by show win0_1.index t 1 * 8 + 1 * (y 1).val = _; rw [index_1]; simp))

/-- The grid's point. -/
abbrev pt : Fin cfg0.N := ⟨0, by decide⟩

/-- The result. -/
def G : Vec Ideal S2048x512 .bf16 := fun y => go (P m c) (S m c) (y 0).val (y 1).val

theorem final_2 : (dats m 0 c).arrAt 2 cfg0.N = G m c :=
  (dats m 0 c).arrAt_eq_of_cover 2 (G m c) (fun t _ => by
      rw [flushed2_A, iblk_0, iblk_1]
      funext y
      refine ((congrArg _ (eq_ix2 y)).trans (Cert.AttnFwdTrip.out_eq c (grid0.coords t) (ms0_0 t) (hs0_0 t) (ms0_1 t) (hs0_1 t) (ms0_2 t) (hs0_2 t) (X1 m c) (sinks m c) (y 0) (y 1))).trans
        (congrArg (G m c) (a₁ := ix2 (y 0) (y 1)) (idx2_ext ?_ ?_))
      · show (y 0).val = win0_2.index t 0 * 2048 + 1 * (y 0).val; rw [index_2]; simp
      · show (y 1).val = win0_2.index t 1 * 512 + 1 * (y 1).val; rw [index_2]; simp) fun i =>
    ⟨pt, flush0_2 _, by
      show i ∈ ((View.whole main_v2).slice (win0_2.rect pt)).set
      rw [View.set_slice_whole, Rect.mem_set_unit]
      have h0 : (i 0).val < 2048 := (i 0).isLt
      have h1 : (i 1).val < 512 := (i 1).isLt
      intro a
      match a with
      | ⟨0, _⟩ => show win0_2.index pt 0 * 2048 ≤ (i 0).val ∧ (i 0).val < win0_2.index pt 0 * 2048 + 2048; rw [index_2]; simp; omega
      | ⟨1, _⟩ => show win0_2.index pt 1 * 512 ≤ (i 1).val ∧ (i 1).val < win0_2.index pt 1 * 512 + 512; rw [index_2]; simp; omega⟩

end Cert.AttnFwdKernel

/-! ## The reference -/

namespace Cert.AttnFwdRef

open Cert.AttnFwdRefIdeal Cert.AttnFwdRefIdeal.Gen Cert.AttnFwdRefIdeal.Read Cert.AttnSpec Cert.AttnRef
open Idealize.ShloMosaic

variable (x0 : S1x2048x3840.Idx → EReal) (x1 : S1x8.Idx → EReal)

/-- One entry of a query head's output: the weighted sum of the values of the band. -/
def oR (P : ℕ → ℕ → EReal) (S : ℕ → EReal) (n h g q l : ℕ) : EReal :=
  ∑ k : Fin 256, band P n k.val (640 + (64 * h + l)) * Ideal.div (eR P S n h g q k.val) (sR P S n h g q)

/-- The values' band and the weights are computed as in the gradient's reference. -/
theorem v13_same : val_main_v13 (F := Ideal) x0 = Cert.AttnBwdRefIdeal.Read.val_main_v15 (F := Ideal) x0 := rfl
theorem v9_same : val_main_v9 (F := Ideal) x0 = Cert.AttnBwdRefIdeal.Read.val_main_v10 (F := Ideal) x0 := rfl
theorem v17_same : val_main_v17 (F := Ideal) x0 = Cert.AttnBwdRefIdeal.Read.val_main_v19 (F := Ideal) x0 := by
  unfold val_main_v17 val_main_v15 val_main_v14
  rw [v9_same]; rfl
theorem v33_same : val_main_v33 (F := Ideal) x0 = Cert.AttnBwdRefIdeal.Read.val_main_v35 (F := Ideal) x0 := by
  unfold val_main_v33
  rw [v17_same]; rfl
theorem v36_same : val_main_v36 (F := Ideal) x0 x1 = Cert.AttnBwdRefIdeal.Read.val_main_v39 (F := Ideal) x0 x1 := by
  unfold val_main_v36
  rw [v33_same]; rfl
theorem v41_same : val_main_v41 (F := Ideal) x0 x1 = Cert.AttnBwdRefIdeal.Read.val_main_v44 (F := Ideal) x0 x1 := by
  unfold val_main_v41 val_main_v40 val_main_v39 val_main_v38 val_main_v37
  rw [v36_same]; rfl
theorem v46_same : val_main_v46 (F := Ideal) x0 x1 = Cert.AttnBwdRefIdeal.Read.val_main_v52 (F := Ideal) x0 x1 := by
  unfold val_main_v46 val_main_v45 val_main_v44 val_main_v43 val_main_v42
  rw [v41_same]; rfl

theorem v47_eq (n : Fin 16) (h : Fin 2) (l : Fin 64) (g : Fin 4) (q : Fin 128) :
    val_main_v47 (F := Ideal) x0 x1 (ix5 n h l g q) = oR (Pr x0) (Sr x1) n h g q l := by
  rw [val_main_v47_apply, v13_same, v46_same]
  refine Finset.sum_congr rfl fun k _ => congrArg₂ (· * ·) ?_ ?_
  · exact (congrArg (Cert.AttnBwdRefIdeal.Read.val_main_v15 (F := Ideal) x0) (idx4_ext (i := lidx_main_v47 (ix5 n h l g q) k) (j := ix4 n k h l) rfl rfl rfl rfl)).trans (v15_eq x0 n k h l)
  · exact (congrArg (Cert.AttnBwdRefIdeal.Read.val_main_v52 (F := Ideal) x0 x1) (idx5_ext (i := ridx_main_v47 (ix5 n h l g q) k) (j := ix5 n h g q k) rfl rfl rfl rfl rfl)).trans (v52_eq x0 x1 n h g q k)

/-- What the reference returns. -/
theorem v51_eq (r : Fin 2048) (x : Fin 512) :
    val_main_v51 (F := Ideal) x0 x1 (ix2 r x) = oR (Pr x0) (Sr x1) (r.val / 128) (x.val / 256) (x.val % 256 / 64) (r.val % 128) (x.val % 64) := by
  have hr := r.isLt
  have hx := x.isLt
  have e : val_main_v50 (F := Ideal) x0 x1 (ix2 r x) = oR (Pr x0) (Sr x1) (r.val / 128) (x.val / 256) (x.val % 256 / 64) (r.val % 128) (x.val % 64) := by
    rw [val_main_v50_apply, val_main_v49_apply, val_main_v48_apply]
    refine (congrArg (val_main_v47 (F := Ideal) x0 x1) (idx5_ext (j := ix5 (⟨r.val / 128, by omega⟩ : Fin 16) (⟨x.val / 256, by omega⟩ : Fin 2) (⟨x.val % 64, by omega⟩ : Fin 64)
      (⟨x.val % 256 / 64, by omega⟩ : Fin 4) (⟨r.val % 128, by omega⟩ : Fin 128)) ?_ ?_ ?_ ?_ ?_)).trans (v47_eq x0 x1 _ _ _ _ _)
    · show ((0 * 2048 + (r.val * 512 + x.val) / 512 % 2048) * 512 + (r.val * 512 + x.val) % 512) / 65536 = r.val / 128; omega
    · show ((0 * 2048 + (r.val * 512 + x.val) / 512 % 2048) * 512 + (r.val * 512 + x.val) % 512) / 256 % 2 = x.val / 256; omega
    · show ((0 * 2048 + (r.val * 512 + x.val) / 512 % 2048) * 512 + (r.val * 512 + x.val) % 512) % 64 = x.val % 64; omega
    · show ((0 * 2048 + (r.val * 512 + x.val) / 512 % 2048) * 512 + (r.val * 512 + x.val) % 512) / 64 % 4 = x.val % 256 / 64; omega
    · show ((0 * 2048 + (r.val * 512 + x.val) / 512 % 2048) * 512 + (r.val * 512 + x.val) % 512) / 512 % 128 = r.val % 128; omega
  exact e

end Cert.AttnFwdRef

/-! ## The equation -/

namespace Cert.AttnFwdEq

open Cert.AttnSpec Cert.AttnRef Cert.AttnFwdRef
open Idealize.ShloMosaic
open Cert.Common (Real)

variable (P : ℕ → ℕ → EReal) (S : ℕ → EReal)

/-- The queries' and the keys' columns, zeros in place of the others. -/
def qk (a b : ℕ) : EReal := if b < 640 then P a b else 0

theorem qk_of {a b : ℕ} (hb : b < 640) : qk P a b = P a b := if_pos hb

/-- The weights are of the queries and the keys alone, in the kernel … -/
theorem pr_qk (n h g q j : ℕ) (hh : h < 2) (hg : g < 4) (hq : q < 128) : pr (qk P) S n h (128 * g + q) j = pr P S n h (128 * g + q) j := by
  have e : ∀ j, sm (qk P) n h (128 * g + q) j = sm P n h (128 * g + q) j := fun j => by
    unfold sm sc
    refine ite_congr rfl (fun _ => congrArg (· * c8) (Finset.sum_congr rfl fun l _ => congrArg₂ (· * ·) ?_ (qk_of P (by have := l.isLt; omega)))) fun _ => rfl
    unfold qs
    exact ite_congr rfl (fun _ => qk_of P (by omega)) fun _ => rfl
  unfold pr rs es ex mx
  simp only [e]

/-- … and in the reference. -/
theorem eR_qk (n h g q j : ℕ) (hh : h < 2) (hg : g < 4) : eR (qk P) S n h g q j = eR P S n h g q j ∧ sR (qk P) S n h g q = sR P S n h g q := by
  have e : ∀ j, xR (qk P) S n h g q j = xR P S n h g q j := fun j => by
    unfold xR scR
    refine ite_congr rfl (fun _ => ite_congr rfl (fun _ => congrArg (· * c8) (Finset.sum_congr rfl fun l _ => congrArg₂ (· * ·) ?_ (qk_of P (by have := l.isLt; omega)))) fun _ => rfl) fun _ => rfl
    have hl : 512 + (64 * h + l.val) < 640 := by have := l.isLt; omega
    unfold band
    rw [qk_of P hl, qk_of P hl]
  have e' : ∀ j, eR (qk P) S n h g q j = eR P S n h g q j := fun j => by unfold eR mR; simp only [e]
  exact ⟨e' j, by unfold sR; simp only [e']⟩

theorem go_eq (hP : ∀ a b, b < 640 → Real (P a b)) (hS : ∀ a, Real (S a)) (r x : ℕ) (hx : x < 512) :
    go P S r x = oR P S (r / 128) (x / 256) (x % 256 / 64) (r % 128) (x % 64) := by
  have hq : r % 128 < 128 := by omega
  have hh : x / 256 < 2 := by omega
  have hg : x % 256 / 64 < 4 := by omega
  unfold go ov oR
  refine Finset.sum_congr rfl fun j _ => ?_
  rw [mul_comm]
  by_cases ho : ok (r / 128) (128 * (x % 256 / 64) + r % 128) j.val
  · refine congrArg₂ (· * ·) (Cert.AttnEq.band_ok P _ _ ho).symm ?_
    have hP' : ∀ a b, Real (qk P a b) := fun a b => by
      unfold qk
      split_ifs with hb
      · exact hP a b hb
      · exact Real.coe 0
    have w := (Cert.AttnEq.row_eq (qk P) (fun _ _ => 0) S (r / 128) (x / 256) (x % 256 / 64) (r % 128) hP' (fun _ _ => Real.coe 0) hS hh hq).1 j.val j.isLt
    rw [pr_qk P S _ _ _ _ _ hh hg hq, (eR_qk P S _ _ _ _ j.val hh hg).1, (eR_qk P S _ _ _ _ j.val hh hg).2] at w
    exact w
  · rw [Cert.AttnEq.pr_masked P S _ _ _ _ ho]
    have z : Ideal.div (eR P S (r / 128) (x / 256) (x % 256 / 64) (r % 128) j.val) (sR P S (r / 128) (x / 256) (x % 256 / 64) (r % 128)) = 0 := by
      have hP' : ∀ a b, Real (qk P a b) := fun a b => by
        unfold qk
        split_ifs with hb
        · exact hP a b hb
        · exact Real.coe 0
      have w := (Cert.AttnEq.row_eq (qk P) (fun _ _ => 0) S (r / 128) (x / 256) (x % 256 / 64) (r % 128) hP' (fun _ _ => Real.coe 0) hS hh hq).1 j.val j.isLt
      rw [pr_qk P S _ _ _ _ _ hh hg hq, (eR_qk P S _ _ _ _ j.val hh hg).1, (eR_qk P S _ _ _ _ j.val hh hg).2, Cert.AttnEq.pr_masked P S _ _ _ _ ho] at w
      exact w.symm
    rw [z, mul_zero, mul_zero]

end Cert.AttnFwdEq

/-! ## The claims -/

namespace Cert.AttnFwdProof

open Idealize.ShloMosaic Idealize.ShloMosaic.TcCoe Idealize.SL.Sem
open Cert.AttnSpec Cert.AttnFwdKernel

theorem preserves : Cert.preserves_AttnFwd_AttnFwdIdeal :=
  IdealRules.named_const.statement Cert.AttnFwdIdeal.κ "mask" .f32 0xF149F2CA#32 ⊥ rfl

theorem finite_of_pre (m) (h : Cert.Pre_AttnFwdIdeal_attn_fwd_finite m) (c : Dev Cert.AttnFwdIdeal.nD) :
    (∀ a b, b < 640 → Common.Real (P m c a b)) ∧ ∀ a, Common.Real (S m c a) := by
  have e := congrFun (h c) ix0
  simp only [Cert.Pre_attn_fwd_finite.fn, andi] at e
  obtain ⟨e1, e2⟩ := IntOp.andi_eq_one.mp e
  have r1 := Common.real_of_all _ _ _ _ _ _ e1
  have r2 := Common.real_of_all _ _ _ _ _ _ e2
  refine ⟨fun a b hb => ?_, fun a => Cert.AttnProof.at2_real _ (fun a b => r2 _) 0 a⟩
  unfold P at2
  split_ifs with hab
  · have := r1 (ix3 0 ⟨a, hab.1⟩ ⟨b, hb⟩)
    simp only [pointwise] at this
    refine Eq.mp (congrArg Common.Real ?_) this
    exact congrArg (proj m c) (AttnRef.idx3_ext rfl (Nat.zero_add _) (Nat.zero_add _))
  · exact Common.Real.coe 0

open Cert.AttnFwdRefIdeal.Read in
/-- The two programs compute the same output. -/
theorem algebraic : Cert.algebraic_AttnFwdIdeal_AttnFwdRefIdeal_pre_attn_fwd_finite := by
  intro m g m' g' hpre hagree
  refine ⟨fun c => G m c, (θ_run Cert.AttnFwdIdeal.defs _ _).mono (fun r h c => ⟨(h c).1.trans (final_2 m c), (h c).2⟩) (Cert.AttnFwdIdeal.Value.run_blocks m g),
    (θ_run Cert.AttnFwdRefIdeal.defs _ _).mono (fun r h c => ⟨(h c).1.trans ?_, (h c).2⟩) (Cert.AttnFwdRefIdeal.Value.run (F := Ideal) m' g')⟩
  obtain ⟨e0, e1⟩ := hagree c
  obtain ⟨hP, hS⟩ := finite_of_pre m hpre c
  refine (val_main_v51_eq m' c).trans ?_
  rw [e0, e1]
  funext y
  obtain ⟨r, x, rfl⟩ : ∃ (r : Fin 2048) (x : Fin 512), y = ix2 r x := ⟨y 0, y 1, eq_ix2 y⟩
  exact (AttnFwdRef.v51_eq _ _ r x).trans (AttnFwdEq.go_eq (P m c) (S m c) hP hS r x x.isLt).symm

/-- The reference's frame. -/
theorem frame_ref : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

end Cert.AttnFwdProof

end
-- ==== Proof.ConvFwdTrip.lean ====
/-
  The convolution of the forward pass: what one trip of each loop of the kernel does to the buffers, and the loops'
  invariant. The kernel has eight loops, one a chunk of 256 rows, that sum the taps over blocks of 32 rows.
-/
module

public import proofs.«01_k».proof.Proof.Gen.ConvFwdIdeal.Loops

@[expose] public section

set_option maxRecDepth 16384
set_option warn.classDefReducibility false

noncomputable section

namespace Cert.ConvFwdTrip

open Cert.ConvFwdIdeal Cert.ConvFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The trips of one of the loops. -/
abbrev Trips := Fin k0_t1_loop.trips

/-- Where tap `j` reads the window at trip `k`: copy `j % 8`, from row `32 k + 8 (j / 8)` on. -/
def winOff (k : Trips) (j : ℕ) : Fin 3 → ℕ :=
  (match j % 8 with
    | 0 => k0_off1
    | 1 => k0_off2
    | 2 => k0_off3
    | 3 => k0_off4
    | 4 => k0_off5
    | 5 => k0_off6
    | 6 => k0_off7
    | _ => k0_off8) k (BitVec.ofNat 32 (8 * (j / 8)))

theorem winOff_eq (k : Trips) (j : ℕ) (hj : j < 31) : winOff k j = ![j % 8, 32 * k.val + 8 * (j / 8), 0] := by
  have h4 : j / 8 < 4 := by omega
  have h8 : j % 8 < 8 := by omega
  have h7 : j / 8 = 3 → j % 8 < 7 := by omega
  unfold winOff
  generalize j / 8 = q at *
  generalize j % 8 = b at *
  match b, h8 with
  | 0, _ => exact k0_off1_eq k ⟨q, h4⟩
  | 1, _ => exact k0_off2_eq k ⟨q, h4⟩
  | 2, _ => exact k0_off3_eq k ⟨q, h4⟩
  | 3, _ => exact k0_off4_eq k ⟨q, h4⟩
  | 4, _ => exact k0_off5_eq k ⟨q, h4⟩
  | 5, _ => exact k0_off6_eq k ⟨q, h4⟩
  | 6, _ => exact k0_off7_eq k ⟨q, h4⟩
  | 7, _ => exact k0_off8_eq k ⟨q, by omega⟩

theorem trips_lt (k : Trips) : k.val < 8 := Nat.lt_of_lt_of_le k.isLt k0_t1_abs.2.1

theorem winInb (k : Trips) (j : ℕ) (hj : j < 31) : ∀ a, winOff k j a + S1x32x512.size a ≤ S8x288x512.size a := by
  have hk := trips_lt k
  rw [winOff_eq k j hj]
  intro a
  match a with
  | ⟨0, _⟩ => show j % 8 + 1 ≤ 8; omega
  | ⟨1, _⟩ => show 32 * k.val + 8 * (j / 8) + 32 ≤ 288; omega
  | ⟨2, _⟩ => show 0 + 512 ≤ 512; omega

theorem tapInb (j : ℕ) (hj : j < 31) : ∀ a, ![j, 0] a + S1x512.size a ≤ S32x512.size a := by
  intro a
  match a with
  | ⟨0, _⟩ => show j + 1 ≤ 32; omega
  | ⟨1, _⟩ => show 0 + 512 ≤ 512; omega

section Mem

variable (c : Dev nD)
  (arg5 : Memref sig .tc .vmem S32x512 .f32) (arg12 : Memref sig .tc .vmem S8x288x512 .f32) (arg13 : Memref sig .tc .vmem S256x512 .f32)
  (X5 : BufTy.Contents (Elt F) arg5.view.ty) (X12 : BufTy.Contents (Elt F) arg12.view.ty)

/-- The whole of a buffer, held with its contents. -/
abbrev held {sp : Space} {s : Shape} {e : EltTy} (a : Memref sig .tc sp s e) (f : BufTy.Contents (Elt F) a.view.ty) : sProp 𝕄G :=
  (a.view.loc (c : Thread nD τ) ↦[a.view.set]{fullShare} f)

/-- The 32 rows of the window that tap `j` reads at trip `k`. -/
def window (k : Trips) (j : ℕ) (hj : j < 31) : Vec F S1x32x512 .f32 :=
  View.readAt (Elt F) arg12.view (Rect.unit (s := S8x288x512) (winOff k j) S1x32x512.size (winInb k j hj)).toLoadRect X12

/-- Tap `j`. -/
def tap (j : ℕ) (hj : j < 31) : Vec F S1x512 .f32 :=
  View.readAt (Elt F) arg5.view (Rect.unit (s := S32x512) ![j, 0] S1x512.size (tapInb j hj)).toLoadRect X5

variable (W : Trips → (j : ℕ) → j < 31 → Vec F S1x32x512 .f32) (T : (j : ℕ) → j < 31 → Vec F S1x512 .f32) (b : Vec F S1x512 .f32)

/-- The sum over the first `j` taps, from the bias. -/
def tapSum (k : Trips) : (j : ℕ) → j ≤ 31 → FVec F S32x512 .f32
  | 0, _ => broadcastTo S32x512 (shapeCast S1x512 b shapeCasts_S1x512_S1x512) broadcasts_S1x512_S32x512
  | j + 1, h => addf (tapSum k j (Nat.le_of_succ_le h))
      (mulf (broadcastTo S32x512 (shapeCast S1x512 (T j h) shapeCasts_S1x512_S1x512) broadcasts_S1x512_S32x512)
        (shapeCast S32x512 (W k j h) shapeCasts_S1x32x512_S32x512))

/-- What a trip stores. -/
def tapPiece (k : Trips) : View.Piece (Elt F) S256x512 .f32 :=
  ⟨Rect.unit (s := S256x512) (k0_off9 k) S32x512.size (k0_off9_inb k),
    shapeCast S32x512 (tapSum W T b k 31 (Nat.le_refl _)) shapeCasts_S32x512_S32x512⟩

/-- What `t` trips store, the latest first. -/
def tapPieces : ℕ → List (View.Piece (Elt F) S256x512 .f32)
  | 0 => []
  | t + 1 => if h : t < k0_t1_loop.trips then tapPiece W T b ⟨t, h⟩ :: tapPieces t else tapPieces t

/-- The invariant of a loop. -/
def tapInv (G : BufTy.Contents (Elt F) arg13.view.ty) (t : ℕ) : sProp 𝕄G :=
  iprop(held c arg5 X5 ∗ held c arg12 X12 ∗
    ∃ f, held c arg13 f ∗ ⌜f = arg13.view.writes (Elt F) G (tapPieces (window arg12 X12) (tap arg5 X5) b t)⌝)

/-- A trip carries its loop's invariant on. -/
theorem tap_step (G : BufTy.Contents (Elt F) arg13.view.ty) (E : Set ℕ) (k : Trips)
    (p : Prog (TpuEff nD τ sig (Elt F) Λ₀ .tc) Unit)
    (h : ∀ f : BufTy.Contents (Elt F) arg13.view.ty, iprop(held c arg5 X5 ∗ held c arg12 X12 ∗ held c arg13 f)
      ⊢ wp frame (wpE (defs₀ (F := F)) Variants.none (c : Thread nD τ) none) E p
          (fun _ => iprop(held c arg5 X5 ∗ held c arg12 X12 ∗ held c arg13 (arg13.view.writes (Elt F) f [tapPiece (window arg12 X12) (tap arg5 X5) b k])))) :
    tapInv c arg5 arg12 arg13 X5 X12 b G k.val
      ⊢ wp frame (wpE (defs₀ (F := F)) Variants.none (c : Thread nD τ) none) E p
          (fun _ => tapInv c arg5 arg12 arg13 X5 X12 b G (k.val + 1)) := by
  unfold tapInv
  iintro ⟨H5, H12, ⟨%f, H13, %hf⟩⟩
  iapply (wp_wand_r Idealize.ShloMosaic.frame (wpE (defs₀ (F := F)) Variants.none (c : Thread nD τ) none) E)
  isplitl [H5 H12 H13]
  · iapply (h f)
    isplitl [H5]; · iexact H5
    isplitl [H12]; · iexact H12
    iexact H13
  · iintro %_ ⟨H5, H12, H13⟩
    isplitl [H5]; · iexact H5
    isplitl [H12]; · iexact H12
    iexists _; isplitl [H13]; · iexact H13
    ipureintro
    rw [tapPieces, dif_pos k.isLt, hf, ← View.writes_append]; rfl

end Mem

section Bodies

variable (c : Dev nD) (i : grid0.Coords)
  (arg1 : Memref sig .tc .vmem S2048x256 .bf16) (harg1 : arg1.IsWhole)
  (arg2 : Memref sig .tc .vmem S2048x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S32x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S2048x512 .bf16) (harg9 : arg9.IsWhole)
  (arg10 : Memref sig .tc .vmem S2048x512 .f32) (harg10 : arg10.IsWhole)
  (arg11 : Memref sig .tc .vmem S2112x512 .f32) (harg11 : arg11.IsWhole)
  (arg12 : Memref sig .tc .vmem S8x288x512 .f32) (harg12 : arg12.IsWhole)
  (arg13 : Memref sig .tc .vmem S256x512 .f32) (harg13 : arg13.IsWhole)
  (X5 : BufTy.Contents (Elt F) arg5.view.ty) (X12 : BufTy.Contents (Elt F) arg12.view.ty)

set_option maxHeartbeats 4000000 in
theorem trip1 (v54 : Vec F S280x512 .f32) (v55 : Vec F S1x280x512 .f32) (v62 : Vec F S1x512 .f32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 v54 v55 v62 k PUnit.unit)
          (fun _ => iprop(held c arg5 X5 ∗ held c arg12 X12 ∗ held c arg13 (arg13.view.writes (Elt F) f [tapPiece (window arg12 X12) (tap arg5 X5) v62 k]))) := by
  have hk : k.val < 8 := trips_lt k
  unfold k0_t1_body
  iintro ⟨H5, H12, H13⟩
  sl_exec
  sl_step
  isplitl [H5]; · iexact H5
  isplitl [H12]; · iexact H12
  iexact H13

/-- The invariant of loop 1. -/
@[sl_loop] def loopInv1 (v54 : Vec F S280x512 .f32) (v55 : Vec F S1x280x512 .f32) (v62 : Vec F S1x512 .f32) (E : Set ℕ) (G : BufTy.Contents (Elt F) arg13.view.ty) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v54 v55 v62 where
  inv t _ := tapInv c arg5 arg12 arg13 X5 X12 v62 G t
  step k _ := tap_step c arg5 arg12 arg13 X5 X12 v62 G E k _ (fun f => by apply trip1)

set_option maxHeartbeats 4000000 in
theorem trip2 (v112 : Vec F S280x512 .f32) (v124 : Vec F S1x512 .f32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t2_body (F := F) i arg1 harg1 arg2 harg2 arg3 harg3 arg4 harg4 arg5 harg5 arg6 harg6 arg7 harg7 arg8 harg8 arg9 harg9 arg10 harg10 arg11 harg11 arg12 harg12 arg13 harg13 v112 v124 k PUnit.unit)
          (fun _ => iprop(held c arg5 X5 ∗ held c arg12 X12 ∗ held c arg13 (arg13.view.writes (Elt F) f [tapPiece (window arg12 X12) (tap arg5 X5) v124 k]))) := by
  have hk : k.val < 8 := trips_lt k
  unfold k0_t2_body
  iintro ⟨H5, H12, H13⟩
  sl_exec
  sl_step
  isplitl [H5]; · iexact H5
  isplitl [H12]; · iexact H12
  iexact H13

/-- The invariant of loop 2. -/
@[sl_loop] def loopInv2 (v112 : Vec F S280x512 .f32) (v124 : Vec F S1x512 .f32) (E : Set ℕ) (G : BufTy.Contents (Elt F) arg13.view.ty) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v112 v124 where
  inv t _ := tapInv c arg5 arg12 arg13 X5 X12 v124 G t
  step k _ := tap_step c arg5 arg12 arg13 X5 X12 v124 G E k _ (fun f => by apply trip2)

set_option maxHeartbeats 4000000 in
theorem trip3 (v169 : FVec F S1x280x512 .f32) (v186 : Vec F S1x512 .f32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t3_body (F := F) i arg1 harg1 arg2 harg2 arg3 harg3 arg4 harg4 arg5 harg5 arg6 harg6 arg7 harg7 arg8 harg8 arg9 harg9 arg10 harg10 arg11 harg11 arg12 harg12 arg13 harg13 v169 v186 k PUnit.unit)
          (fun _ => iprop(held c arg5 X5 ∗ held c arg12 X12 ∗ held c arg13 (arg13.view.writes (Elt F) f [tapPiece (window arg12 X12) (tap arg5 X5) v186 k]))) := by
  have hk : k.val < 8 := trips_lt k
  unfold k0_t3_body
  iintro ⟨H5, H12, H13⟩
  sl_exec
  sl_step
  isplitl [H5]; · iexact H5
  isplitl [H12]; · iexact H12
  iexact H13

/-- The invariant of loop 3. -/
@[sl_loop] def loopInv3 (v169 : FVec F S1x280x512 .f32) (v186 : Vec F S1x512 .f32) (E : Set ℕ) (G : BufTy.Contents (Elt F) arg13.view.ty) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v169 v186 where
  inv t _ := tapInv c arg5 arg12 arg13 X5 X12 v186 G t
  step k _ := tap_step c arg5 arg12 arg13 X5 X12 v186 G E k _ (fun f => by apply trip3)

set_option maxHeartbeats 4000000 in
theorem trip4 (v248 : Vec F S1x512 .f32) (c0_i32_201 : BitVec 32) (c8_i32_202 : BitVec 32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t4_body (F := F) i arg1 harg1 arg2 harg2 arg3 harg3 arg4 harg4 arg5 harg5 arg6 harg6 arg7 harg7 arg8 harg8 arg9 harg9 arg10 harg10 arg11 harg11 arg12 harg12 arg13 harg13 v248 c0_i32_201 c8_i32_202 k PUnit.unit)
          (fun _ => iprop(held c arg5 X5 ∗ held c arg12 X12 ∗ held c arg13 (arg13.view.writes (Elt F) f [tapPiece (window arg12 X12) (tap arg5 X5) v248 k]))) := by
  have hk : k.val < 8 := trips_lt k
  unfold k0_t4_body
  iintro ⟨H5, H12, H13⟩
  sl_exec
  sl_step
  isplitl [H5]; · iexact H5
  isplitl [H12]; · iexact H12
  iexact H13

/-- The invariant of loop 4. -/
@[sl_loop] def loopInv4 (v248 : Vec F S1x512 .f32) (c0_i32_201 : BitVec 32) (c8_i32_202 : BitVec 32) (E : Set ℕ) (G : BufTy.Contents (Elt F) arg13.view.ty) :
    LoopInvTy_k0_t4 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v248 c0_i32_201 c8_i32_202 where
  inv t _ := tapInv c arg5 arg12 arg13 X5 X12 v248 G t
  step k _ := tap_step c arg5 arg12 arg13 X5 X12 v248 G E k _ (fun f => by apply trip4)

set_option maxHeartbeats 4000000 in
theorem trip5 (v310 : Vec F S1x512 .f32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t5_body (F := F) i arg1 harg1 arg2 harg2 arg3 harg3 arg4 harg4 arg5 harg5 arg6 harg6 arg7 harg7 arg8 harg8 arg9 harg9 arg10 harg10 arg11 harg11 arg12 harg12 arg13 harg13 v310 k PUnit.unit)
          (fun _ => iprop(held c arg5 X5 ∗ held c arg12 X12 ∗ held c arg13 (arg13.view.writes (Elt F) f [tapPiece (window arg12 X12) (tap arg5 X5) v310 k]))) := by
  have hk : k.val < 8 := trips_lt k
  unfold k0_t5_body
  iintro ⟨H5, H12, H13⟩
  sl_exec
  sl_step
  isplitl [H5]; · iexact H5
  isplitl [H12]; · iexact H12
  iexact H13

/-- The invariant of loop 5. -/
@[sl_loop] def loopInv5 (v310 : Vec F S1x512 .f32) (E : Set ℕ) (G : BufTy.Contents (Elt F) arg13.view.ty) :
    LoopInvTy_k0_t5 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v310 where
  inv t _ := tapInv c arg5 arg12 arg13 X5 X12 v310 G t
  step k _ := tap_step c arg5 arg12 arg13 X5 X12 v310 G E k _ (fun f => by apply trip5)

set_option maxHeartbeats 4000000 in
theorem trip6 (v360 : Vec F S280x512 .f32) (v361 : Vec F S1x280x512 .f32) (v372 : Vec F S1x512 .f32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t6_body (F := F) i arg1 harg1 arg2 harg2 arg3 harg3 arg4 harg4 arg5 harg5 arg6 harg6 arg7 harg7 arg8 harg8 arg9 harg9 arg10 harg10 arg11 harg11 arg12 harg12 arg13 harg13 v360 v361 v372 k PUnit.unit)
          (fun _ => iprop(held c arg5 X5 ∗ held c arg12 X12 ∗ held c arg13 (arg13.view.writes (Elt F) f [tapPiece (window arg12 X12) (tap arg5 X5) v372 k]))) := by
  have hk : k.val < 8 := trips_lt k
  unfold k0_t6_body
  iintro ⟨H5, H12, H13⟩
  sl_exec
  sl_step
  isplitl [H5]; · iexact H5
  isplitl [H12]; · iexact H12
  iexact H13

/-- The invariant of loop 6. -/
@[sl_loop] def loopInv6 (v360 : Vec F S280x512 .f32) (v361 : Vec F S1x280x512 .f32) (v372 : Vec F S1x512 .f32) (E : Set ℕ) (G : BufTy.Contents (Elt F) arg13.view.ty) :
    LoopInvTy_k0_t6 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v360 v361 v372 where
  inv t _ := tapInv c arg5 arg12 arg13 X5 X12 v372 G t
  step k _ := tap_step c arg5 arg12 arg13 X5 X12 v372 G E k _ (fun f => by apply trip6)

set_option maxHeartbeats 4000000 in
theorem trip7 (v418 : Vec F S280x512 .f32) (v434 : Vec F S1x512 .f32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t7_body (F := F) i arg1 harg1 arg2 harg2 arg3 harg3 arg4 harg4 arg5 harg5 arg6 harg6 arg7 harg7 arg8 harg8 arg9 harg9 arg10 harg10 arg11 harg11 arg12 harg12 arg13 harg13 v418 v434 k PUnit.unit)
          (fun _ => iprop(held c arg5 X5 ∗ held c arg12 X12 ∗ held c arg13 (arg13.view.writes (Elt F) f [tapPiece (window arg12 X12) (tap arg5 X5) v434 k]))) := by
  have hk : k.val < 8 := trips_lt k
  unfold k0_t7_body
  iintro ⟨H5, H12, H13⟩
  sl_exec
  sl_step
  isplitl [H5]; · iexact H5
  isplitl [H12]; · iexact H12
  iexact H13

/-- The invariant of loop 7. -/
@[sl_loop] def loopInv7 (v418 : Vec F S280x512 .f32) (v434 : Vec F S1x512 .f32) (E : Set ℕ) (G : BufTy.Contents (Elt F) arg13.view.ty) :
    LoopInvTy_k0_t7 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v418 v434 where
  inv t _ := tapInv c arg5 arg12 arg13 X5 X12 v434 G t
  step k _ := tap_step c arg5 arg12 arg13 X5 X12 v434 G E k _ (fun f => by apply trip7)

set_option maxHeartbeats 4000000 in
theorem trip8 (v475 : FVec F S1x280x512 .f32) (v496 : Vec F S1x512 .f32) (k : Trips) (E : Set ℕ) (f : BufTy.Contents (Elt F) arg13.view.ty) :
    iprop(held c arg5 X5 ∗ held c arg12 X12 ∗ held c arg13 f)
      ⊢ wp frame (wpE (defs₀ (F := F)) Variants.none (c : Thread nD τ) none) E
          (k0_t8_body (F := F) i arg1 harg1 arg2 harg2 arg3 harg3 arg4 harg4 arg5 harg5 arg6 harg6 arg7 harg7 arg8 harg8 arg9 harg9 arg10 harg10 arg11 harg11 arg12 harg12 arg13 harg13 v475 v496 k PUnit.unit)
          (fun _ => iprop(held c arg5 X5 ∗ held c arg12 X12 ∗ held c arg13 (arg13.view.writes (Elt F) f [tapPiece (window arg12 X12) (tap arg5 X5) v496 k]))) := by
  have hk : k.val < 8 := trips_lt k
  unfold k0_t8_body
  iintro ⟨H5, H12, H13⟩
  sl_exec
  sl_step
  isplitl [H5]; · iexact H5
  isplitl [H12]; · iexact H12
  iexact H13

/-- The invariant of loop 8. -/
@[sl_loop] def loopInv8 (v475 : FVec F S1x280x512 .f32) (v496 : Vec F S1x512 .f32) (E : Set ℕ) (G : BufTy.Contents (Elt F) arg13.view.ty) :
    LoopInvTy_k0_t8 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 v475 v496 where
  inv t _ := tapInv c arg5 arg12 arg13 X5 X12 v496 G t
  step k _ := tap_step c arg5 arg12 arg13 X5 X12 v496 G E k _ (fun f => by apply trip8)

end Bodies

end Cert.ConvFwdTrip

end
-- ==== Proof.ConvFwdBody.lean ====
/-
  The convolution of the forward pass: the whole body of the kernel, run on any buffers.
-/
module

public import proofs.«01_k».proof.Proof.ConvFwdTrip

@[expose] public section

set_option maxRecDepth 16384

noncomputable section

namespace Cert.ConvFwdRun

open Cert.ConvFwdIdeal Cert.ConvFwdIdeal.Gen Cert.ConvFwdTrip
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (c : Dev nD) (i : grid0.Coords)
  (arg1 : Memref sig .tc .vmem S2048x256 .bf16) (harg1 : arg1.IsWhole)
  (arg2 : Memref sig .tc .vmem S2048x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S32x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S2048x512 .bf16) (harg9 : arg9.IsWhole)
  (arg10 : Memref sig .tc .vmem S2048x512 .f32) (harg10 : arg10.IsWhole)
  (arg11 : Memref sig .tc .vmem S2112x512 .f32) (harg11 : arg11.IsWhole)
  (arg12 : Memref sig .tc .vmem S8x288x512 .f32) (harg12 : arg12.IsWhole)
  (arg13 : Memref sig .tc .vmem S256x512 .f32) (harg13 : arg13.IsWhole)

set_option maxHeartbeats 40000000 in
/-- THE BODY on any buffers: what it leaves in the two results. -/
@[irreducible] def run (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) :
    Σ' (R9 : BufTy.Contents (Elt F) arg9.view.ty), { R10 : BufTy.Contents (Elt F) arg10.view.ty // ∀ (E : Set ℕ) (K : PUnit → sProp 𝕄G),
    iprop(held c arg1 x1 ∗ held c arg2 x2 ∗ held c arg3 x3 ∗ held c arg4 x4 ∗ held c arg5 x5 ∗ held c arg6 x6 ∗ held c arg7 x7 ∗ held c arg8 x8 ∗ held c arg9 f9 ∗ held c arg10 f10 ∗ held c arg11 f11 ∗ held c arg12 f12 ∗ held c arg13 f13 ∗ (iprop(held c arg1 x1 ∗ held c arg2 x2 ∗ held c arg3 x3 ∗ held c arg4 x4 ∗ held c arg5 x5 ∗ held c arg6 x6 ∗ held c arg7 x7 ∗ held c arg8 x8 ∗ held c arg9 R9 ∗ held c arg10 R10 ∗ (∃ f, held c arg11 f) ∗ (∃ f, held c arg12 f) ∗ (∃ f, held c arg13 f)) -∗ K ⟨⟩))
      ⊢ wp frame (wpE (defs₀ (F := F)) Variants.none c none) E (cc0_conv_fwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_conv_fwd_eq_skeleton]; unfold cc0_conv_fwd_skel
    iintro ⟨H1, H2, H3, H4, H5, H6, H7, H8, H9, H10, H11, H12, H13, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexists _; iexact H12
    iexists _; iexact H13

end Cert.ConvFwdRun

end
-- ==== Proof.ConvFwdWords.lean ====
/-
  The convolution of the forward pass: what the body leaves in its two results, chunk by chunk, in terms of what the
  input buffers hold alone.
-/
module

public import proofs.«01_k».proof.Proof.ConvFwdBody
public import Idealize.ShloMosaic.Lib.Pointwise
public import Idealize.ShloMosaic.Lib.WritesUnit

@[expose] public section

set_option maxRecDepth 16384

noncomputable section

namespace Cert.ConvFwdWords

open Cert.ConvFwdIdeal Cert.ConvFwdIdeal.Gen Cert.ConvFwdTrip Cert.ConvFwdRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

theorem rowsInb (n : ℕ) (hn : n < 8) : ∀ a, ![256 * n, 0] a + S256x512.size a ≤ S2048x512.size a := by
  intro a
  match a with
  | ⟨0, _⟩ => show 256 * n + 256 ≤ 2048; omega
  | ⟨1, _⟩ => show 0 + 512 ≤ 512; omega

theorem padInb (r : ℕ) (hr : r ≤ 1832) : ∀ a, ![r, 0] a + S280x512.size a ≤ S2112x512.size a := by
  intro a
  match a with
  | ⟨0, _⟩ => show r + 280 ≤ 2112; omega
  | ⟨1, _⟩ => show 0 + 512 ≤ 512; omega

theorem copyInb (b : ℕ) (hb : b < 8) : ∀ a, ![b, 0, 0] a + S1x280x512.size a ≤ S8x288x512.size a := by
  intro a
  match a with
  | ⟨0, _⟩ => show b + 1 ≤ 8; omega
  | ⟨1, _⟩ => show 0 + 280 ≤ 288; omega
  | ⟨2, _⟩ => show 0 + 512 ≤ 512; omega

section Words

variable
  (arg1 arg2 arg3 arg4 : Memref sig .tc .vmem S2048x256 .bf16)
  (arg5 : Memref sig .tc .vmem S32x512 .f32)
  (arg6 arg7 arg8 : Memref sig .tc .vmem S1x512 .f32)
  (arg11 : Memref sig .tc .vmem S2112x512 .f32)
  (arg12 : Memref sig .tc .vmem S8x288x512 .f32)
  (arg13 : Memref sig .tc .vmem S256x512 .f32)
  (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty)
  (f12 : BufTy.Contents (Elt F) arg12.view.ty)

/-- A row vector, read whole. -/
def vecOf (arg : Memref sig .tc .vmem S1x512 .f32) (x : BufTy.Contents (Elt F) arg.view.ty) : Vec F S1x512 .f32 :=
  View.readAt (Elt F) arg.view (Rect.unit (s := S1x512) ![0, 0] S1x512.size inb_S1x512_S1x512_0_0).toLoadRect x

/-- A block of the gate's inputs, read whole. -/
def gateOf (arg : Memref sig .tc .vmem S2048x256 .bf16) (x : BufTy.Contents (Elt F) arg.view.ty) : Vec F S2048x256 .bf16 :=
  View.readAt (Elt F) arg.view (Rect.unit (s := S2048x256) ![0, 0] S2048x256.size inb_S2048x256_S2048x256_0_0).toLoadRect x

/-- The pieces of the padded lines. -/
def padded : List (View.Piece (Elt F) S2112x512 .f32) :=
  [⟨Rect.unit (s := S2112x512) ![32, 256] S2048x256.size inb_S2112x512_S2048x256_32_256, k0_pay108 (gateOf arg2 x2) (gateOf arg4 x4)⟩,
    ⟨Rect.unit (s := S2112x512) ![32, 0] S2048x256.size inb_S2112x512_S2048x256_32_0, k0_pay107 (gateOf arg1 x1) (gateOf arg3 x3)⟩,
    ⟨Rect.unit (s := S2112x512) ![2080, 0] S32x512.size inb_S2112x512_S32x512_2080_0, k0_pay106⟩,
    ⟨Rect.unit (s := S2112x512) ![0, 0] S32x512.size inb_S2112x512_S32x512_0_0, k0_pay105⟩]

/-- The lines that copy `b` of the window of chunk `n` holds. -/
def zLines (n : ℕ) (hn : n < 8) (b : ℕ) (hb : b < 8) : Vec F S280x512 .f32 :=
  arg11.view.readCov (padded arg1 arg2 arg3 arg4 x1 x2 x3 x4)
    (Rect.unit (s := S2112x512) ![256 * n + 2 + b, 0] S280x512.size (padInb _ (by omega))).toLoadRect

/-- The first `b` copies of a window. -/
def copies (ld : (b : ℕ) → b < 8 → Vec F S280x512 .f32) : (b : ℕ) → b ≤ 8 → List (View.Piece (Elt F) S8x288x512 .f32)
  | 0, _ => []
  | b + 1, h => ⟨Rect.unit (s := S8x288x512) ![b, 0, 0] S1x280x512.size (copyInb b h), k0_pay109 (ld b h)⟩
      :: copies ld b (Nat.le_of_succ_le h)

variable (Z : (n : ℕ) → n < 8 → (b : ℕ) → b < 8 → Vec F S280x512 .f32)

/-- The window's pieces after `n` chunks. -/
def windows : (n : ℕ) → n ≤ 8 → List (View.Piece (Elt F) S8x288x512 .f32)
  | 0, _ => []
  | n + 1, h => copies (Z n h) 8 (Nat.le_refl _) ++ windows n (Nat.le_of_succ_le h)

variable (W : (n : ℕ) → n < 8 → Trips → (j : ℕ) → j < 31 → Vec F S1x32x512 .f32)

/-- The pieces of the taps' sums after `n` chunks. -/
def sums (W : (n : ℕ) → n < 8 → Trips → (j : ℕ) → j < 31 → Vec F S1x32x512 .f32) (T : (j : ℕ) → j < 31 → Vec F S1x512 .f32)
    (b : Vec F S1x512 .f32) : (n : ℕ) → n ≤ 8 → List (View.Piece (Elt F) S256x512 .f32)
  | 0, _ => []
  | n + 1, h => tapPieces (W n h) T b k0_t1_loop.trips ++ sums W T b n (Nat.le_of_succ_le h)

/-- The rows of chunk `n` of the convolution. -/
def rows (n : ℕ) (hn : n < 8) : Vec F S256x512 .f32 :=
  arg13.view.readCov (sums W (tap arg5 x5) (vecOf arg6 x6) (n + 1) hn)
    (Rect.unit (s := S256x512) ![0, 0] S256x512.size inb_S256x512_S256x512_0_0).toLoadRect

/-- The pieces of an output after `n` chunks of its rows. -/
def blocks {e : EltTy} (R : (n : ℕ) → n < 8 → Vec F S256x512 e) : (n : ℕ) → n ≤ 8 → List (View.Piece (Elt F) S2048x512 e)
  | 0, _ => []
  | n + 1, h => ⟨Rect.unit (s := S2048x512) ![256 * n, 0] S256x512.size (rowsInb n h), R n h⟩ :: blocks R n (Nat.le_of_succ_le h)

/-- What the taps of chunk `n` read, out of the buffer the windows are stored in. -/
def seen (n : ℕ) (hn : n < 8) : Trips → (j : ℕ) → j < 31 → Vec F S1x32x512 .f32 :=
  window arg12 (arg12.view.writes (Elt F) f12 (windows Z (n + 1) hn))

/-- The rows that tap `j` reads at trip `k`, of the copies `ld` of the lines. -/
def winOf (ld : (b : ℕ) → b < 8 → Vec F S280x512 .f32) (k : Trips) (j : ℕ) (hj : j < 31) : Vec F S1x32x512 .f32 :=
  fun y => ld (j % 8) (Nat.mod_lt _ (by decide))
    (ix2 ⟨32 * k.val + 8 * (j / 8) + (y 1).val, by have := trips_lt k; have : (y 1).val < 32 := (y 1).isLt; omega⟩ (y 2))

/-- Of the copies each is read back as it was stored. -/
theorem copies_read (ld : (b : ℕ) → b < 8 → Vec F S280x512 .f32) (rest : List (View.Piece (Elt F) S8x288x512 .f32)) (b : Fin 8)
    (r : Fin 280) (q : Fin 512) (h288 : r.val < 288) : ∀ (m : ℕ) (hm : m ≤ 8), b.val < m →
    arg12.view.read (Elt F) (arg12.view.writes (Elt F) f12 (copies ld m hm ++ rest)) (ix3 b ⟨r.val, h288⟩ q) = ld b.val b.isLt (ix2 r q)
  | 0, _, h => absurd h (Nat.not_lt_zero _)
  | m + 1, hm, h => by
    rw [copies, List.cons_append]
    rcases Nat.lt_succ_iff_lt_or_eq.mp h with h | h
    · exact (View.read_writes_cons_unit_of_not_mem _ _ _ _ _ _ rfl 0 (Or.inl h)).trans (copies_read ld rest b r q h288 m _ h)
    · obtain rfl : b = ⟨m, hm⟩ := Fin.ext h
      refine (View.read_writes_cons_unit_of_mem _ _ _ _ _ _ (ix3 0 r q) rfl ?_).trans ?_
      · exact fun a => match a with
          | ⟨0, _⟩ => rfl
          | ⟨1, _⟩ => (Nat.zero_add _).symm
          | ⟨2, _⟩ => (Nat.zero_add _).symm
      · unfold k0_pay109; simp only [pointwise, ↓reduceDIte, OfNat.ofNat_ne_one, Nat.reduceEqDiff]

/-- The taps read the window last stored, whatever lay under it. -/
theorem seen_eq : seen arg12 f12 Z = fun n hn => winOf (Z n hn) := by
  funext n hn k j hj y
  have hk := trips_lt k
  have hy : (y 1).val < 32 := (y 1).isLt
  have hw := winOff_eq k j hj
  refine (congrArg (arg12.view.read (Elt F) _) (funext fun a => Fin.ext ?_)).trans (copies_read arg12 f12 (Z n hn) _
    ⟨j % 8, Nat.mod_lt _ (by decide)⟩ ⟨32 * k.val + 8 * (j / 8) + (y 1).val, by omega⟩ (y 2) (by dsimp only; omega) 8 (Nat.le_refl _) (Nat.mod_lt _ (by decide)))
  match a with
  | ⟨0, _⟩ =>
    have h0 : (y 0).val < 1 := (y 0).isLt
    show winOff k j 0 + 1 * (y 0).val = j % 8
    rw [hw]; show j % 8 + 1 * (y 0).val = _; omega
  | ⟨1, _⟩ =>
    show winOff k j 1 + 1 * (y 1).val = _
    rw [hw]; show 32 * k.val + 8 * (j / 8) + 1 * (y 1).val = 32 * k.val + 8 * (j / 8) + (y 1).val; omega
  | ⟨2, _⟩ =>
    show winOff k j 2 + 1 * (y 2).val = (y 2).val
    rw [hw]; show 0 + 1 * (y 2).val = _; omega

/-- The rows of chunk `n` of the convolution, of the inputs' buffers alone. -/
abbrev uRows : (n : ℕ) → n < 8 → Vec F S256x512 .f32 :=
  rows arg5 arg6 arg13 x5 x6 (fun n hn => winOf (zLines arg1 arg2 arg3 arg4 arg11 x1 x2 x3 x4 n hn))

end Words

section Run

variable (c : Dev nD) (i : grid0.Coords)
  (arg1 : Memref sig .tc .vmem S2048x256 .bf16) (harg1 : arg1.IsWhole)
  (arg2 : Memref sig .tc .vmem S2048x256 .bf16) (harg2 : arg2.IsWhole)
  (arg3 : Memref sig .tc .vmem S2048x256 .bf16) (harg3 : arg3.IsWhole)
  (arg4 : Memref sig .tc .vmem S2048x256 .bf16) (harg4 : arg4.IsWhole)
  (arg5 : Memref sig .tc .vmem S32x512 .f32) (harg5 : arg5.IsWhole)
  (arg6 : Memref sig .tc .vmem S1x512 .f32) (harg6 : arg6.IsWhole)
  (arg7 : Memref sig .tc .vmem S1x512 .f32) (harg7 : arg7.IsWhole)
  (arg8 : Memref sig .tc .vmem S1x512 .f32) (harg8 : arg8.IsWhole)
  (arg9 : Memref sig .tc .vmem S2048x512 .bf16) (harg9 : arg9.IsWhole)
  (arg10 : Memref sig .tc .vmem S2048x512 .f32) (harg10 : arg10.IsWhole)
  (arg11 : Memref sig .tc .vmem S2112x512 .f32) (harg11 : arg11.IsWhole)
  (arg12 : Memref sig .tc .vmem S8x288x512 .f32) (harg12 : arg12.IsWhole)
  (arg13 : Memref sig .tc .vmem S256x512 .f32) (harg13 : arg13.IsWhole)
  (x1 : BufTy.Contents (Elt F) arg1.view.ty) (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty) (x8 : BufTy.Contents (Elt F) arg8.view.ty)
  (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)

set_option maxHeartbeats 8000000 in
/-- What the body leaves in the two results. -/
theorem run_eq :
    (run c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 f9 f10 f11 f12 f13).1
        = arg9.view.writes (Elt F) f9 (blocks (fun n hn => k0_pay195 (uRows arg1 arg2 arg3 arg4 arg5 arg6 arg11 arg13 x1 x2 x3 x4 x5 x6 n hn) (vecOf arg7 x7) (vecOf arg8 x8)) 8 (Nat.le_refl _))
    ∧ (run c i arg1 harg1 arg2 harg2 arg3 harg3 arg4 harg4 arg5 harg5 arg6 harg6 arg7 harg7 arg8 harg8 arg9 harg9 arg10 harg10 arg11 harg11 arg12 harg12 arg13 harg13 x1 x2 x3 x4 x5 x6 x7 x8 f9 f10 f11 f12 f13).2.1
        = arg10.view.writes (Elt F) f10 (blocks (uRows arg1 arg2 arg3 arg4 arg5 arg6 arg11 arg13 x1 x2 x3 x4 x5 x6) 8 (Nat.le_refl _)) := by
  unfold uRows
  rw [← seen_eq arg12 f12]
  unfold run
  exact ⟨rfl, rfl⟩

end Run

end Cert.ConvFwdWords

end
-- ==== Proof.ConvFwdFrame.lean ====
/-
  The convolution of the forward pass: its launch. The proof data of the one grid point, the run of @main, and what every
  final state of it holds.
-/
module

public import proofs.«01_k».proof.Proof.ConvFwdWords
public import proofs.«01_k».proof.Proof.Gen.ConvFwdIdeal.Frame
public import Idealize.ShloMosaic.Lib.Claim

@[expose] public section

set_option maxRecDepth 16384

noncomputable section

namespace Cert.ConvFwdFrame

open Cert.ConvFwdIdeal Cert.ConvFwdIdeal.Gen Cert.ConvFwdTrip Cert.ConvFwdRun Cert.ConvFwdWords
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄G" => MT nD τ sig Unit (Elt F) ℕ (UR sig nD τ) ℕ

/-! ## The staging and scratch memrefs -/

abbrev st0 (t : Fin cfg0.N) : Memref sig .tc .vmem S2048x256 .bf16 := win0_0.stage (cfg0.slots t 0)
abbrev sh0 (t : Fin cfg0.N) : (st0 t).IsWhole := hstage0_0 ((cfg0.slots t 0).cast nbuf0_0)
abbrev st1 (t : Fin cfg0.N) : Memref sig .tc .vmem S2048x256 .bf16 := win0_1.stage (cfg0.slots t 1)
abbrev sh1 (t : Fin cfg0.N) : (st1 t).IsWhole := hstage0_1 ((cfg0.slots t 1).cast nbuf0_1)
abbrev st2 (t : Fin cfg0.N) : Memref sig .tc .vmem S2048x256 .bf16 := win0_2.stage (cfg0.slots t 2)
abbrev sh2 (t : Fin cfg0.N) : (st2 t).IsWhole := hstage0_2 ((cfg0.slots t 2).cast nbuf0_2)
abbrev st3 (t : Fin cfg0.N) : Memref sig .tc .vmem S2048x256 .bf16 := win0_3.stage (cfg0.slots t 3)
abbrev sh3 (t : Fin cfg0.N) : (st3 t).IsWhole := hstage0_3 ((cfg0.slots t 3).cast nbuf0_3)
abbrev st4 (t : Fin cfg0.N) : Memref sig .tc .vmem S32x512 .f32 := win0_4.stage (cfg0.slots t 4)
abbrev sh4 (t : Fin cfg0.N) : (st4 t).IsWhole := hstage0_4 ((cfg0.slots t 4).cast nbuf0_4)
abbrev st5 (t : Fin cfg0.N) : Memref sig .tc .vmem S1x512 .f32 := win0_5.stage (cfg0.slots t 5)
abbrev sh5 (t : Fin cfg0.N) : (st5 t).IsWhole := hstage0_5 ((cfg0.slots t 5).cast nbuf0_5)
abbrev st6 (t : Fin cfg0.N) : Memref sig .tc .vmem S1x512 .f32 := win0_6.stage (cfg0.slots t 6)
abbrev sh6 (t : Fin cfg0.N) : (st6 t).IsWhole := hstage0_6 ((cfg0.slots t 6).cast nbuf0_6)
abbrev st7 (t : Fin cfg0.N) : Memref sig .tc .vmem S1x512 .f32 := win0_7.stage (cfg0.slots t 7)
abbrev sh7 (t : Fin cfg0.N) : (st7 t).IsWhole := hstage0_7 ((cfg0.slots t 7).cast nbuf0_7)
abbrev st8 (t : Fin cfg0.N) : Memref sig .tc .vmem S2048x512 .bf16 := win0_8.stage (cfg0.slots t 8)
abbrev sh8 (t : Fin cfg0.N) : (st8 t).IsWhole := hstage0_8 ((cfg0.slots t 8).cast nbuf0_8)
abbrev st9 (t : Fin cfg0.N) : Memref sig .tc .vmem S2048x512 .f32 := win0_9.stage (cfg0.slots t 9)
abbrev sh9 (t : Fin cfg0.N) : (st9 t).IsWhole := hstage0_9 ((cfg0.slots t 9).cast nbuf0_9)
abbrev sc0 : Memref sig .tc .vmem S2112x512 .f32 := Memref.whole cc0_scratch0
abbrev sc1 : Memref sig .tc .vmem S8x288x512 .f32 := Memref.whole cc0_scratch1
abbrev sc2 : Memref sig .tc .vmem S256x512 .f32 := Memref.whole cc0_scratch2

/-- What the launch holds beside the windows: the three scratch buffers and the generator's register. -/
theorem phi_eq (c : Dev nD) :
    (Pipeline.ΦA spec0 c : sProp 𝕄G)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

variable (c : Dev nD) (m : (ℓ : Loc nD τ sig) → Buf (Elt F) ℓ) (ρ : Dev nD → PrngReg)

/-- The contents of the buffer of window 0: its block. -/
abbrev X0 (t : Fin cfg0.N) : BufTy.Contents (Elt F) (st0 t).view.ty := (sh0 t).unread (iblk m c 0 t)
/-- The contents of the buffer of window 1: its block. -/
abbrev X1 (t : Fin cfg0.N) : BufTy.Contents (Elt F) (st1 t).view.ty := (sh1 t).unread (iblk m c 1 t)
/-- The contents of the buffer of window 2: its block. -/
abbrev X2 (t : Fin cfg0.N) : BufTy.Contents (Elt F) (st2 t).view.ty := (sh2 t).unread (iblk m c 2 t)
/-- The contents of the buffer of window 3: its block. -/
abbrev X3 (t : Fin cfg0.N) : BufTy.Contents (Elt F) (st3 t).view.ty := (sh3 t).unread (iblk m c 3 t)
/-- The contents of the buffer of window 4: its block. -/
abbrev X4 (t : Fin cfg0.N) : BufTy.Contents (Elt F) (st4 t).view.ty := (sh4 t).unread (iblk m c 4 t)
/-- The contents of the buffer of window 5: its block. -/
abbrev X5 (t : Fin cfg0.N) : BufTy.Contents (Elt F) (st5 t).view.ty := (sh5 t).unread (iblk m c 5 t)
/-- The contents of the buffer of window 6: its block. -/
abbrev X6 (t : Fin cfg0.N) : BufTy.Contents (Elt F) (st6 t).view.ty := (sh6 t).unread (iblk m c 6 t)
/-- The contents of the buffer of window 7: its block. -/
abbrev X7 (t : Fin cfg0.N) : BufTy.Contents (Elt F) (st7 t).view.ty := (sh7 t).unread (iblk m c 7 t)

/-! ## What the body leaves in the two results -/

theorem cover {e : EltTy} (R : (n : ℕ) → n < 8 → Vec F S256x512 e) (y : S2048x512.Idx) : ∀ (n : ℕ) (hn : n ≤ 8), (y 0).val < 256 * n →
    ∃ p ∈ blocks R n hn, y ∈ p.1.set
  | 0, _, h => absurd h (by omega)
  | n + 1, hn, h => by
    by_cases hb : (y 0).val < 256 * n
    · obtain ⟨p, hp, hy⟩ := cover R y n _ hb
      exact ⟨p, List.mem_cons_of_mem _ hp, hy⟩
    · refine ⟨⟨Rect.unit (s := S2048x512) ![256 * n, 0] S256x512.size (rowsInb n hn), R n hn⟩, List.mem_cons_self, ?_⟩
      rw [Rect.mem_set_unit]
      intro a
      match a with
      | ⟨0, _⟩ => exact ⟨Nat.le_of_not_lt hb, h⟩
      | ⟨1, _⟩ => exact ⟨Nat.zero_le _, (y 1).isLt⟩

/-- The rows of chunk `n` of the convolution, of the launch's blocks. -/
abbrev uAt (t : Fin cfg0.N) : (n : ℕ) → n < 8 → Vec F S256x512 .f32 :=
  uRows (st0 t) (st1 t) (st2 t) (st3 t) (st4 t) (st5 t) sc0 sc2 (X0 c m t) (X1 c m t) (X2 c m t) (X3 c m t) (X4 c m t) (X5 c m t)

/-- The gate of the norm of the convolution. -/
def out8 (t : Fin cfg0.N) : Vec F S2048x512 .bf16 :=
  (st8 t).view.read (Elt F) ((st8 t).view.writes (Elt F) (st8 t).view.junk
    (blocks (fun n hn => k0_pay195 (uAt c m t n hn) (vecOf (st6 t) (X6 c m t)) (vecOf (st7 t) (X7 c m t))) 8 (Nat.le_refl _)))

/-- The convolution. -/
def out9 (t : Fin cfg0.N) : Vec F S2048x512 .f32 :=
  (st9 t).view.read (Elt F) ((st9 t).view.writes (Elt F) (st9 t).view.junk (blocks (uAt c m t) 8 (Nat.le_refl _)))

/-! ## The proof data -/

/-- Each array as launched, what the body leaves in each window's buffer, and nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out8 c m t
    | ⟨9, _⟩ => out9 c m t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = out8 c m t := by dsimp only [dats]
theorem after9 (c : Dev nD) (t : Fin cfg0.N) : (dats m 0 c).after 9 t = out9 c m t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-! ## The body at a point -/

/-- What the pipeline hands the body at point `t`. -/
def bodyPre (c : Dev nD) (t : Fin cfg0.N) : sProp 𝕄G :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d)))

/-- What the body hands back at point `t`. -/
def bodyPost (c : Dev nD) (t : Fin cfg0.N) : sProp 𝕄G :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t))

/-- A whole buffer held with its contents is owned at what it reads. -/
theorem owns_of_held {sp : Space} {s : Shape} {e : EltTy} (a : Memref sig .tc sp s e) (f : BufTy.Contents (Elt F) a.view.ty) (d : s.Idx → Elt F e)
    (h : a.view.read (Elt F) f = d) : (held c a f : sProp 𝕄G) ⊢ owns (c : Thread nD τ) a fullShare d := by
  unfold owns
  iintro H
  iexists f; isplitr; swap; · iexact H
  ipureintro; exact h

/-- A whole buffer owned at what it reads is held with contents that read so. -/
theorem held_of_owns {sp : Space} {s : Shape} {e : EltTy} (a : Memref sig .tc sp s e) (ha : a.IsWhole) (d : s.Idx → Elt F e) :
    (owns (c : Thread nD τ) a fullShare d : sProp 𝕄G) ⊢ held c a (ha.unread d) := by
  unfold owns
  iintro ⟨%f, %h, H⟩
  obtain rfl := ha.eq_unread h
  iexact H

/-- The body's run at point `t`, on the pipeline's buffers. -/
abbrev runAt (t : Fin cfg0.N) (f9 : BufTy.Contents (Elt F) (st8 t).view.ty) (f10 : BufTy.Contents (Elt F) (st9 t).view.ty) (f11 : BufTy.Contents (Elt F) (sc0).view.ty) (f12 : BufTy.Contents (Elt F) (sc1).view.ty) (f13 : BufTy.Contents (Elt F) (sc2).view.ty) :=
  run (F := F) c (grid0.coords t) (st0 t) (sh0 t) (st1 t) (sh1 t) (st2 t) (sh2 t) (st3 t) (sh3 t) (st4 t) (sh4 t) (st5 t) (sh5 t) (st6 t) (sh6 t) (st7 t) (sh7 t) (st8 t) (sh8 t) (st9 t) (sh9 t) sc0 (Memref.isWhole_whole _) sc1 (Memref.isWhole_whole _) sc2 (Memref.isWhole_whole _) (X0 c m t) (X1 c m t) (X2 c m t) (X3 c m t) (X4 c m t) (X5 c m t) (X6 c m t) (X7 c m t) f9 f10 f11 f12 f13

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9]
  rw [show (dats m 0 c).Φ t.castSucc = Pipeline.ΦA spec0 c from rfl, phi_eq]
  iintro ⟨⟨⟨⟨%e0, S0⟩, ⟨%e1, S1⟩, ⟨%e2, S2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave H0 := (held_of_owns c (st0 t) (sh0 t) _) $$ [H0]; · iexact H0
  ihave H1 := (held_of_owns c (st1 t) (sh1 t) _) $$ [H1]; · iexact H1
  ihave H2 := (held_of_owns c (st2 t) (sh2 t) _) $$ [H2]; · iexact H2
  ihave H3 := (held_of_owns c (st3 t) (sh3 t) _) $$ [H3]; · iexact H3
  ihave H4 := (held_of_owns c (st4 t) (sh4 t) _) $$ [H4]; · iexact H4
  ihave H5 := (held_of_owns c (st5 t) (sh5 t) _) $$ [H5]; · iexact H5
  ihave H6 := (held_of_owns c (st6 t) (sh6 t) _) $$ [H6]; · iexact H6
  ihave H7 := (held_of_owns c (st7 t) (sh7 t) _) $$ [H7]; · iexact H7
  ihave H8 := (held_of_owns c (st8 t) (sh8 t) _) $$ [H8]; · iexact H8
  ihave H9 := (held_of_owns c (st9 t) (sh9 t) _) $$ [H9]; · iexact H9
  ihave S0 := (held_of_owns c sc0 (Memref.isWhole_whole _) _) $$ [S0]; · iexact S0
  ihave S1 := (held_of_owns c sc1 (Memref.isWhole_whole _) _) $$ [S1]; · iexact S1
  ihave S2 := (held_of_owns c sc2 (Memref.isWhole_whole _) _) $$ [S2]; · iexact S2
  iapply ((runAt c m t _ _ _ _ _).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [S0]; · iexact S0
  isplitl [S1]; · iexact S1
  isplitl [S2]; · iexact S2
  iintro ⟨H0, H1, H2, H3, H4, H5, H6, H7, H8, H9, ⟨%g0, S0⟩, ⟨%g1, S1⟩, ⟨%g2, S2⟩⟩
  isplitl [S0 S1 S2 Hg]
  · isplitl [S0 S1 S2]
    · isplitl [S0]; · iexists _; iapply (owns_of_held c sc0 _ _ rfl); iexact S0
      isplitl [S1]; · iexists _; iapply (owns_of_held c sc1 _ _ rfl); iexact S1
      iexists _; iapply (owns_of_held c sc2 _ _ rfl); iexact S2
    iexact Hg
  isplitl [Ho]; · iexact Ho
  isplitl [H0]; · iapply (owns_of_held c (st0 t) _ _ ((sh0 t).read_unread _)); iexact H0
  isplitl [H1]; · iapply (owns_of_held c (st1 t) _ _ ((sh1 t).read_unread _)); iexact H1
  isplitl [H2]; · iapply (owns_of_held c (st2 t) _ _ ((sh2 t).read_unread _)); iexact H2
  isplitl [H3]; · iapply (owns_of_held c (st3 t) _ _ ((sh3 t).read_unread _)); iexact H3
  isplitl [H4]; · iapply (owns_of_held c (st4 t) _ _ ((sh4 t).read_unread _)); iexact H4
  isplitl [H5]; · iapply (owns_of_held c (st5 t) _ _ ((sh5 t).read_unread _)); iexact H5
  isplitl [H6]; · iapply (owns_of_held c (st6 t) _ _ ((sh6 t).read_unread _)); iexact H6
  isplitl [H7]; · iapply (owns_of_held c (st7 t) _ _ ((sh7 t).read_unread _)); iexact H7
  isplitl [H8]
  · iapply (owns_of_held c (st8 t) _ _ ?_); swap; · iexact H8
    rw [(run_eq ..).1]
    exact View.read_writes_of_cover _ _ _ _ _ (fun y => cover _ y 8 (Nat.le_refl _) (y 0).isLt)
  iapply (owns_of_held c (st9 t) _ _ ?_); swap; · iexact H9
  rw [(run_eq ..).2]
  exact View.read_writes_of_cover _ _ _ _ _ (fun y => cover _ y 8 (Nat.le_refl _) (y 0).isLt)

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
/-- Every execution of @main ends, with each array as the proof data says and every counter at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: every execution ends, the arguments unchanged and every counter at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.ConvFwdFrame

end
-- ==== Proof.ConvFwdVal.lean ====
/-
  The convolution of the forward pass over the extended reals: what the chunks leave, in terms of the whole arrays.
-/
module

public import proofs.«01_k».proof.Proof.ConvFwdFrame
public import proofs.«01_k».proof.Proof.ConvVal

@[expose] public section

set_option maxRecDepth 16384

noncomputable section

namespace Cert.ConvFwdVal

open Cert.ConvFwdIdeal Cert.ConvFwdIdeal.Gen Cert.ConvFwdTrip Cert.ConvFwdWords
open Cert.ConvVal (zP wP cat)
open Idealize.ShloMosaic Idealize.ShloMosaic.TcCoe
open scoped BigOperators

/-- The convolution at row `s`: the bias and the sum over the taps. -/
def convP (b : Fin 512 → EReal) (w Z : ℕ → Fin 512 → EReal) (s : ℕ) (x : Fin 512) : EReal :=
  b x + ∑ j ∈ Finset.range 31, w j x * Z (s + j + 2) x

theorem trips_eq : k0_t1_loop.trips = 8 := by decide

theorem pay107_apply (a b : Vec Ideal S2048x256 .bf16) (r : Fin 2048) (x : Fin 256) :
    k0_pay107 a b (ix2 r x) = a (ix2 r x) * Ideal.logistic (b (ix2 r x)) := by
  unfold k0_pay107
  simp only [pointwise, ↓reduceDIte, OfNat.ofNat_ne_one, Nat.reduceEqDiff]

theorem pay108_apply (a b : Vec Ideal S2048x256 .bf16) (r : Fin 2048) (x : Fin 256) :
    k0_pay108 a b (ix2 r x) = a (ix2 r x) * Ideal.logistic (b (ix2 r x)) := by
  unfold k0_pay108
  simp only [pointwise, ↓reduceDIte, OfNat.ofNat_ne_one, Nat.reduceEqDiff]

/-- The gate of the norm of a chunk's rows. -/
theorem pay195_apply (u : Vec Ideal S256x512 .f32) (g b : Vec Ideal S1x512 .f32) (r : Fin 256) (x : Fin 512) :
    k0_pay195 u g b (ix2 r x)
      = ConvNorm.pre (fun x => u (ix2 r x)) (fun x => g (ix2 0 x)) (fun x => b (ix2 0 x)) x
        * Ideal.logistic (ConvNorm.pre (fun x => u (ix2 r x)) (fun x => g (ix2 0 x)) (fun x => b (ix2 0 x)) x) := by
  unfold k0_pay195
  simp only [pointwise, zero_add, ↓reduceDIte, OfNat.ofNat_ne_one, Nat.reduceEqDiff, ConvNorm.ofBits_512]
  rfl

theorem tapSum_apply (W : Trips → (j : ℕ) → j < 31 → Vec Ideal S1x32x512 .f32) (T : (j : ℕ) → j < 31 → Vec Ideal S1x512 .f32)
    (b : Vec Ideal S1x512 .f32) (f g : ℕ → EReal) (k : Trips) (r : Fin 32) (x : Fin 512) (hW : ∀ j hj, W k j hj (ix3 0 r x) = f j)
    (hT : ∀ j hj, T j hj (ix2 0 x) = g j) :
    ∀ (j : ℕ) (hj : j ≤ 31), tapSum W T b k j hj (ix2 r x) = b (ix2 0 x) + ∑ i ∈ Finset.range j, g i * f i := by
  intro j
  induction j with
  | zero =>
    intro _
    unfold tapSum
    simp only [pointwise, ↓reduceDIte, OfNat.ofNat_ne_one, Nat.reduceEqDiff, Finset.range_zero, Finset.sum_empty, add_zero]
  | succ j ih =>
    intro hj
    rw [tapSum, Finset.sum_range_succ, ← add_assoc, ← ih (Nat.le_of_succ_le hj), ← hW j hj, ← hT j hj]
    simp only [pointwise, ↓reduceDIte, OfNat.ofNat_ne_one, Nat.reduceEqDiff]

section Mem

variable
  (arg1 arg2 arg3 arg4 : Memref sig .tc .vmem S2048x256 .bf16)
  (arg5 : Memref sig .tc .vmem S32x512 .f32)
  (arg6 : Memref sig .tc .vmem S1x512 .f32)
  (arg11 : Memref sig .tc .vmem S2112x512 .f32)
  (arg13 : Memref sig .tc .vmem S256x512 .f32)
  (x1 : BufTy.Contents (Elt Ideal) arg1.view.ty)
  (x2 : BufTy.Contents (Elt Ideal) arg2.view.ty)
  (x3 : BufTy.Contents (Elt Ideal) arg3.view.ty)
  (x4 : BufTy.Contents (Elt Ideal) arg4.view.ty)
  (x5 : BufTy.Contents (Elt Ideal) arg5.view.ty)
  (x6 : BufTy.Contents (Elt Ideal) arg6.view.ty)

local notation "A0" => (arg1.view.read (Elt Ideal) x1 : S2048x256.Idx → EReal)
local notation "A1" => (arg2.view.read (Elt Ideal) x2 : S2048x256.Idx → EReal)
local notation "B0" => (arg3.view.read (Elt Ideal) x3 : S2048x256.Idx → EReal)
local notation "B1" => (arg4.view.read (Elt Ideal) x4 : S2048x256.Idx → EReal)

theorem gateOf_apply (arg : Memref sig .tc .vmem S2048x256 .bf16) (x : BufTy.Contents (Elt Ideal) arg.view.ty) (y : S2048x256.Idx) :
    gateOf arg x y = arg.view.read (Elt Ideal) x y := by
  refine congrArg (arg.view.read (Elt Ideal) x) (funext fun a => Fin.ext ?_)
  match a with
  | ⟨0, _⟩ => show 0 + 1 * (y 0).val = (y 0).val; omega
  | ⟨1, _⟩ => show 0 + 1 * (y 1).val = (y 1).val; omega

theorem vecOf_apply (arg : Memref sig .tc .vmem S1x512 .f32) (v : BufTy.Contents (Elt Ideal) arg.view.ty) (x : Fin 512) :
    vecOf arg v (ix2 0 x) = (arg.view.read (Elt Ideal) v : S1x512.Idx → EReal) (ix2 0 x) := by
  refine congrArg (arg.view.read (Elt Ideal) v) (funext fun a => Fin.ext ?_)
  match a with
  | ⟨0, _⟩ => rfl
  | ⟨1, _⟩ => show 0 + 1 * x.val = x.val; omega

theorem tap_apply (j : ℕ) (hj : j < 31) (x : Fin 512) :
    tap arg5 x5 j hj (ix2 0 x) = wP (arg5.view.read (Elt Ideal) x5 : S32x512.Idx → EReal) j x := by
  rw [wP, dif_pos (by omega)]
  refine congrArg (arg5.view.read (Elt Ideal) x5) (funext fun a => Fin.ext ?_)
  match a with
  | ⟨0, _⟩ => show j + 1 * 0 = j; omega
  | ⟨1, _⟩ => show 0 + 1 * x.val = x.val; omega

/-- The padded lines hold the gated values between rows of zeros. -/
theorem padded_read (f : BufTy.Contents (Elt Ideal) arg11.view.ty) (m : ℕ) (hm : m < 2112) (x : Fin 512) :
    arg11.view.read (Elt Ideal) (arg11.view.writes (Elt Ideal) f (padded arg1 arg2 arg3 arg4 x1 x2 x3 x4)) (ix2 ⟨m, hm⟩ x)
      = zP (cat A0 A1) (cat B0 B1) m x := by
  unfold padded zP
  have hx := x.isLt
  split
  · next hin =>
    unfold cat
    split
    · next hl =>
      refine (View.read_writes_cons_unit_of_not_mem _ _ _ _ _ _ rfl 1 (Or.inl hl)).trans
        ((View.read_writes_cons_unit_of_mem _ _ _ _ _ _ (ix2 ⟨m - 32, by omega⟩ ⟨x.val, hl⟩) rfl fun a => ?_).trans ?_)
      · match a with
        | ⟨0, _⟩ => show m = 32 + (m - 32); omega
        | ⟨1, _⟩ => exact (Nat.zero_add _).symm
      · rw [pay107_apply, gateOf_apply, gateOf_apply]
    · next hl =>
      refine (View.read_writes_cons_unit_of_mem _ _ _ _ _ _ (ix2 ⟨m - 32, by omega⟩ ⟨x.val - 256, by omega⟩) rfl fun a => ?_).trans ?_
      · match a with
        | ⟨0, _⟩ => show m = 32 + (m - 32); omega
        | ⟨1, _⟩ => show x.val = 256 + (x.val - 256); omega
      · rw [pay108_apply, gateOf_apply, gateOf_apply]
  · next hin =>
    have h0 : m < 32 ∨ 32 + 2048 ≤ m := by omega
    refine (View.read_writes_cons_unit_of_not_mem _ _ _ _ _ _ rfl 0 h0).trans
      ((View.read_writes_cons_unit_of_not_mem _ _ _ _ _ _ rfl 0 h0).trans ?_)
    rcases Nat.lt_or_ge m 32 with hl | hl
    · refine (View.read_writes_cons_unit_of_not_mem _ _ _ _ _ _ rfl 0 (Or.inl (show m < 2080 by omega))).trans
        ((View.read_writes_cons_unit_of_mem _ _ _ _ _ _ (ix2 ⟨m, hl⟩ x) rfl fun a => ?_).trans ?_)
      · match a with
        | ⟨0, _⟩ => exact (Nat.zero_add _).symm
        | ⟨1, _⟩ => exact (Nat.zero_add _).symm
      · unfold k0_pay105
        simp only [pointwise, ↓reduceDIte, OfNat.ofNat_ne_one, Nat.reduceEqDiff]
    · refine (View.read_writes_cons_unit_of_mem _ _ _ _ _ _ (ix2 ⟨m - 2080, by omega⟩ x) rfl fun a => ?_).trans ?_
      · match a with
        | ⟨0, _⟩ => show m = 2080 + (m - 2080); omega
        | ⟨1, _⟩ => exact (Nat.zero_add _).symm
      · unfold k0_pay106
        simp only [pointwise, ↓reduceDIte, OfNat.ofNat_ne_one, Nat.reduceEqDiff]

theorem zLines_apply (n : ℕ) (hn : n < 8) (c : ℕ) (hc : c < 8) (r : Fin 280) (x : Fin 512) :
    zLines arg1 arg2 arg3 arg4 arg11 x1 x2 x3 x4 n hn c hc (ix2 r x) = zP (cat A0 A1) (cat B0 B1) (256 * n + 2 + c + r.val) x := by
  refine (congrArg (arg11.view.read (Elt Ideal) _) (funext fun a => Fin.ext ?_)).trans
    (padded_read arg1 arg2 arg3 arg4 arg11 x1 x2 x3 x4 arg11.view.junk (256 * n + 2 + c + r.val) (by omega) x)
  match a with
  | ⟨0, _⟩ => show 256 * n + 2 + c + 1 * r.val = 256 * n + 2 + c + r.val; omega
  | ⟨1, _⟩ => show 0 + 1 * x.val = x.val; omega

/-- What the trips store of the taps' sums, row by row. -/
theorem tapPieces_read (W : Trips → (j : ℕ) → j < 31 → Vec Ideal S1x32x512 .f32) (T : (j : ℕ) → j < 31 → Vec Ideal S1x512 .f32)
    (b : Vec Ideal S1x512 .f32) (f : BufTy.Contents (Elt Ideal) arg13.view.ty) (rest : List (View.Piece (Elt Ideal) S256x512 .f32))
    (k : Trips) (q : Fin 32) (x : Fin 512) : ∀ t : ℕ, t ≤ 8 → k.val < t →
    arg13.view.read (Elt Ideal) (arg13.view.writes (Elt Ideal) f (tapPieces W T b t ++ rest))
        (ix2 ⟨32 * k.val + q.val, by have := trips_lt k; omega⟩ x)
      = tapSum W T b k 31 (Nat.le_refl _) (ix2 q x)
  | 0, _, h => absurd h (Nat.not_lt_zero _)
  | t + 1, ht, hkt => by
    have hlt : t < k0_t1_loop.trips := by rw [trips_eq]; omega
    have hk := trips_lt k
    rw [tapPieces, dif_pos hlt, tapPiece, List.cons_append]
    rcases Nat.lt_succ_iff_lt_or_eq.mp hkt with hl | hl
    · exact (View.read_writes_cons_unit_of_not_mem (off' := ![32 * t, 0]) arg13.view f (k0_off9_inb ⟨t, hlt⟩) _ _ _ (k0_off9_eq ⟨t, hlt⟩) 0
        (Or.inl (show 32 * k.val + q.val < 32 * t by omega))).trans (tapPieces_read W T b f rest k q x t (Nat.le_of_succ_le ht) hl)
    · obtain rfl : k = ⟨t, hlt⟩ := Fin.ext hl
      refine (View.read_writes_cons_unit_of_mem (off' := ![32 * t, 0]) arg13.view f (k0_off9_inb ⟨t, hlt⟩) _ _ _ (ix2 q x) (k0_off9_eq ⟨t, hlt⟩)
        fun a => ?_).trans ?_
      · match a with
        | ⟨0, _⟩ => rfl
        | ⟨1, _⟩ => exact (Nat.zero_add _).symm
      · simp only [pointwise]

/-- The convolution's rows of a chunk. -/
theorem uRows_apply (n : ℕ) (hn : n < 8) (r : Fin 256) (x : Fin 512) :
    uRows arg1 arg2 arg3 arg4 arg5 arg6 arg11 arg13 x1 x2 x3 x4 x5 x6 n hn (ix2 r x)
      = convP (fun x => (arg6.view.read (Elt Ideal) x6 : S1x512.Idx → EReal) (ix2 0 x)) (wP (arg5.view.read (Elt Ideal) x5 : S32x512.Idx → EReal))
          (zP (cat A0 A1) (cat B0 B1)) (256 * n + r.val) x := by
  have hk : r.val / 32 < k0_t1_loop.trips := by rw [trips_eq]; omega
  refine (congrArg (arg13.view.read (Elt Ideal) _) (funext fun a => Fin.ext ?_)).trans
    ((tapPieces_read arg13 (winOf (zLines arg1 arg2 arg3 arg4 arg11 x1 x2 x3 x4 n hn)) (tap arg5 x5) (vecOf arg6 x6) arg13.view.junk
      (sums (fun n hn => winOf (zLines arg1 arg2 arg3 arg4 arg11 x1 x2 x3 x4 n hn)) (tap arg5 x5) (vecOf arg6 x6) n (Nat.le_of_succ_le hn))
      ⟨r.val / 32, hk⟩ ⟨r.val % 32, Nat.mod_lt _ (by decide)⟩ x k0_t1_loop.trips (by rw [trips_eq]) hk).trans ?_)
  · match a with
    | ⟨0, _⟩ => show 0 + 1 * r.val = 32 * (r.val / 32) + r.val % 32; omega
    | ⟨1, _⟩ => show 0 + 1 * x.val = x.val; omega
  · refine (tapSum_apply _ _ _ (fun j => zP (cat A0 A1) (cat B0 B1) (256 * n + r.val + j + 2) x)
      (fun j => wP (arg5.view.read (Elt Ideal) x5 : S32x512.Idx → EReal) j x) ⟨r.val / 32, hk⟩ _ x (fun j hj => ?_)
      (fun j hj => tap_apply arg5 x5 j hj x) 31 (Nat.le_refl _)).trans ?_
    · show zLines arg1 arg2 arg3 arg4 arg11 x1 x2 x3 x4 n hn (j % 8) _ (ix2 ⟨32 * (r.val / 32) + 8 * (j / 8) + r.val % 32, _⟩ x) = _
      rw [zLines_apply]
      congr 1
      dsimp only; omega
    · rw [vecOf_apply]; rfl

end Mem

/-- An output stored chunk by chunk, read back. -/
theorem blocks_read {e : EltTy} (arg : Memref sig .tc .vmem S2048x512 e) (f : BufTy.Contents (Elt Ideal) arg.view.ty)
    (R : (n : ℕ) → n < 8 → Vec Ideal S256x512 e) (G : ℕ → Fin 512 → Elt Ideal e)
    (hR : ∀ n hn (r : Fin 256) (x : Fin 512), R n hn (ix2 r x) = G (256 * n + r.val) x) (s : Fin 2048) (x : Fin 512) :
    ∀ (n : ℕ) (hn : n ≤ 8), s.val < 256 * n →
      arg.view.read (Elt Ideal) (arg.view.writes (Elt Ideal) f (blocks R n hn)) (ix2 s x) = G s.val x
  | 0, _, h => absurd h (by omega)
  | n + 1, hn, h => by
    rw [blocks]
    rcases Nat.lt_or_ge s.val (256 * n) with hl | hl
    · exact (View.read_writes_cons_unit_of_not_mem _ _ _ _ _ _ rfl 0 (Or.inl hl)).trans (blocks_read arg f R G hR s x n _ hl)
    · refine (View.read_writes_cons_unit_of_mem _ _ _ _ _ _ (ix2 ⟨s.val - 256 * n, by omega⟩ x) rfl fun a => ?_).trans
        ((hR n hn _ x).trans (congrArg (G · x) ?_))
      · match a with
        | ⟨0, _⟩ => show s.val = 256 * n + (s.val - 256 * n); omega
        | ⟨1, _⟩ => exact (Nat.zero_add _).symm
      · show 256 * n + (s.val - 256 * n) = s.val; omega

end Cert.ConvFwdVal

end
-- ==== Proof.ConvFwdRef.lean ====
/-
  The convolution of the forward pass, reference: its two results, each element as a function of its row and column. The
  stages are those of the reference of the gradient, whose values are known.
-/
module

public import proofs.«01_k».proof.Proof.ConvFwdVal
public import proofs.«01_k».proof.Proof.ConvRefB
public import proofs.«01_k».proof.Proof.Gen.ConvFwdRefIdeal.Read

@[expose] public section

set_option maxRecDepth 16384

noncomputable section

namespace Cert.ConvFwdRef

open Cert.ConvFwdRefIdeal Cert.ConvVal
open Cert.ConvKernel (aV bV tapV)
open Cert.ConvRef (line rowU sum_zero_add)
open Cert.ConvFwdVal (convP)
open Cert.Common (idx2_ext)
open Cert.UnitAxes (ix3_ext)
open Idealize.ShloMosaic
open scoped BigOperators

variable (x0 : S1x2048x3840.Idx → EReal) (x1 : S1x31x512.Idx → EReal) (x2 x3 x4 : S1x512.Idx → EReal)

theorem v23_same : Read.val_main_v23 (F := Ideal) x0 x1 x2 = Cert.ConvBwdRefIdeal.Read.val_main_v27 (F := Ideal) x0 x1 x2 := rfl
theorem v43_same : Read.val_main_v43 (F := Ideal) x0 x1 x2 x3 x4 = Cert.ConvBwdRefIdeal.Read.val_main_v50 (F := Ideal) x0 x1 x2 x3 x4 := by
  unfold Read.val_main_v43 Read.val_main_v41 Read.val_main_v39 Read.val_main_v38 Read.val_main_v37 Read.val_main_v36 Read.val_main_v34
    Read.val_main_v32 Read.val_main_v31 Read.val_main_v30 Read.val_main_v29 Read.val_main_v28 Read.val_main_v27 Read.val_main_v25 Read.val_main_v24
  rw [v23_same]; rfl
theorem v49_same : Read.val_main_v49 (F := Ideal) x0 x1 x2 x3 x4 = Cert.ConvBwdRefIdeal.Read.val_main_v56 (F := Ideal) x0 x1 x2 x3 x4 := by
  unfold Read.val_main_v49 Read.val_main_v47 Read.val_main_v45 Read.val_main_v44
  rw [v43_same]; rfl

section Bwd

open Cert.ConvBwdRefIdeal.Read

theorem taps_eq (k : Fin 31) (s : Fin 2048) (x : Fin 512) : val_main_v23 (F := Ideal) x1 (ix3 k s x) = tapV x1 k.val x := by
  rw [val_main_v23_apply, val_main_v4_apply, tapV, dif_pos k.isLt]
  refine congrArg x1 (ix3_ext rfl ?_ ?_)
  · show ((k.val * 1 + 0) * 512 + x.val) / 512 % 31 = k.val; omega
  · show ((k.val * 1 + 0) * 512 + x.val) % 512 = x.val; omega

/-- The convolution's output. -/
theorem u_eq (s : Fin 2048) (x : Fin 512) :
    val_main_v27 (F := Ideal) x0 x1 x2 (ix2 s x) = convP (line x2) (tapV x1) (zP (aV x0) (bV x0)) s.val x := by
  rw [val_main_v27_apply, val_main_v26_apply, val_main_v25_apply, convP, Finset.sum_range, add_comm (line x2 x)]
  refine congrArg₂ (fun p q : EReal => p + q) ((sum_zero_add _).trans (Finset.sum_congr rfl fun k _ => ?_)) (congrArg x2 (idx2_ext rfl rfl))
  rw [show idx_main_v25 (ix2 s x) k = ix3 k s x from ix3_ext rfl rfl rfl, val_main_v24_apply, Cert.ConvRef.v22_eq, taps_eq]
  exact mul_comm (_ : EReal) _

end Bwd

/-- The two results. -/
theorem v23_eq (s : Fin 2048) (x : Fin 512) :
    Read.val_main_v23 (F := Ideal) x0 x1 x2 (ix2 s x) = convP (line x2) (tapV x1) (zP (aV x0) (bV x0)) s.val x := by
  rw [v23_same, u_eq]

theorem v51_eq (s : Fin 2048) (x : Fin 512) :
    Read.val_main_v51 (F := Ideal) x0 x1 x2 x3 x4 (ix2 s x)
      = ConvNorm.pre (convP (line x2) (tapV x1) (zP (aV x0) (bV x0)) s.val) (line x3) (line x4) x
        * Ideal.logistic (ConvNorm.pre (convP (line x2) (tapV x1) (zP (aV x0) (bV x0)) s.val) (line x3) (line x4) x) := by
  rw [Read.val_main_v51_apply, Read.val_main_v50_apply, v43_same, v49_same, Cert.ConvRef.v50_eq, Cert.ConvRef.v56_eq,
    show rowU x0 x1 x2 s = convP (line x2) (tapV x1) (zP (aV x0) (bV x0)) s.val from funext fun x => u_eq x0 x1 x2 s x]
  rfl

end Cert.ConvFwdRef

end
-- ==== Proof.ConvFwd.lean ====
/-
  The convolution of the forward pass: the kernel's two result arrays after the run, the frames, and the equation with the
  reference.
-/
module

public import proofs.«01_k».proof.Defs
public import proofs.«01_k».proof.Proof.ConvFwdRef
public import proofs.«01_k».proof.Proof.Gen.ConvFwd
public import Idealize.ShloMosaic.Lib.StableHlo.ReadAt

@[expose] public section

set_option maxRecDepth 16384

noncomputable section

namespace Cert.ConvFwdProof

open Cert.ConvFwdIdeal Cert.ConvFwdIdeal.Gen Cert.ConvFwdFrame Cert.ConvFwdWords Cert.ConvFwdVal
open Cert.ConvVal (zP wP cat)
open Cert.ConvKernel (aV bV tapV taps_aux)
open Cert.ConvRef (line)
open Idealize.ShloMosaic Idealize.ShloMosaic.TcCoe Idealize.ShloMosaic.Tactic Idealize.SL.Sem
open Cert.Common (idx2_ext)
open scoped BigOperators

variable (m : (ℓ : Loc nD τ sig) → Buf (Elt Ideal) ℓ) (ρ : Dev nD → PrngReg) (c : Dev nD)

/-- The arrays as launched. -/
abbrev proj : S1x2048x3840.Idx → EReal := m ((c : Thread nD τ).loc main_arg0)
abbrev taps : S1x31x512.Idx → EReal := m ((c : Thread nD τ).loc main_arg1)
abbrev bias : S1x512.Idx → EReal := m ((c : Thread nD τ).loc main_arg2)
abbrev gain : S1x512.Idx → EReal := m ((c : Thread nD τ).loc main_arg3)
abbrev offs : S1x512.Idx → EReal := m ((c : Thread nD τ).loc main_arg4)

theorem V_proj (r : Fin 2048) (x : Fin 3840) : V m c main_v1 (ix2 r x) = proj m c (ix3 0 r x) := by
  unfold V; after_reads_at
theorem V_taps (j : Fin 32) (x : Fin 512) : V m c main_v7 (ix2 j x) = tapV (taps m c) j.val x := by
  unfold V; after_reads_at
  refine taps_aux (taps m c) _ ?_ j x
  show (((0#32 : BitVec 32).toInt : ℝ) : EReal) = 0
  simp

theorem index_0 (t : Fin cfg0.N) : win0_0.index t = ![0, 3] := by revert t; decide +kernel
theorem index_1 (t : Fin cfg0.N) : win0_1.index t = ![0, 4] := by revert t; decide +kernel
theorem index_2 (t : Fin cfg0.N) : win0_2.index t = ![0, 5] := by revert t; decide +kernel
theorem index_3 (t : Fin cfg0.N) : win0_3.index t = ![0, 6] := by revert t; decide +kernel
theorem index_4 (t : Fin cfg0.N) : win0_4.index t = ![0, 0] := by revert t; decide +kernel
theorem index_5 (t : Fin cfg0.N) : win0_5.index t = ![0, 0] := by revert t; decide +kernel
theorem index_6 (t : Fin cfg0.N) : win0_6.index t = ![0, 0] := by revert t; decide +kernel
theorem index_7 (t : Fin cfg0.N) : win0_7.index t = ![0, 0] := by revert t; decide +kernel
theorem index_8 (t : Fin cfg0.N) : win0_8.index t = ![0, 0] := by revert t; decide +kernel
theorem index_9 (t : Fin cfg0.N) : win0_9.index t = ![0, 0] := by revert t; decide +kernel

/-- The grid's point. -/
abbrev t0 : Fin cfg0.N := ⟨0, by decide⟩

theorem iblk_0 (t : Fin cfg0.N) (s : Fin 2048) (x : Fin 256) : (iblk m c 0 t : S2048x256.Idx → EReal) (ix2 s x) = proj m c (ix3 0 s ⟨768 + x.val, by omega⟩) := by
  refine Eq.trans ?_ (V_proj m c s ⟨768 + x.val, by omega⟩)
  exact congrArg (V m c main_v1) (idx2_ext (by show win0_0.index t 0 * 2048 + 1 * s.val = s.val; rw [index_0]; simp)
    (by show win0_0.index t 1 * 256 + 1 * x.val = 768 + x.val; rw [index_0]; simp))
theorem iblk_1 (t : Fin cfg0.N) (s : Fin 2048) (x : Fin 256) : (iblk m c 1 t : S2048x256.Idx → EReal) (ix2 s x) = proj m c (ix3 0 s ⟨1024 + x.val, by omega⟩) := by
  refine Eq.trans ?_ (V_proj m c s ⟨1024 + x.val, by omega⟩)
  exact congrArg (V m c main_v1) (idx2_ext (by show win0_1.index t 0 * 2048 + 1 * s.val = s.val; rw [index_1]; simp)
    (by show win0_1.index t 1 * 256 + 1 * x.val = 1024 + x.val; rw [index_1]; simp))
theorem iblk_2 (t : Fin cfg0.N) (s : Fin 2048) (x : Fin 256) : (iblk m c 2 t : S2048x256.Idx → EReal) (ix2 s x) = proj m c (ix3 0 s ⟨1280 + x.val, by omega⟩) := by
  refine Eq.trans ?_ (V_proj m c s ⟨1280 + x.val, by omega⟩)
  exact congrArg (V m c main_v1) (idx2_ext (by show win0_2.index t 0 * 2048 + 1 * s.val = s.val; rw [index_2]; simp)
    (by show win0_2.index t 1 * 256 + 1 * x.val = 1280 + x.val; rw [index_2]; simp))
theorem iblk_3 (t : Fin cfg0.N) (s : Fin 2048) (x : Fin 256) : (iblk m c 3 t : S2048x256.Idx → EReal) (ix2 s x) = proj m c (ix3 0 s ⟨1536 + x.val, by omega⟩) := by
  refine Eq.trans ?_ (V_proj m c s ⟨1536 + x.val, by omega⟩)
  exact congrArg (V m c main_v1) (idx2_ext (by show win0_3.index t 0 * 2048 + 1 * s.val = s.val; rw [index_3]; simp)
    (by show win0_3.index t 1 * 256 + 1 * x.val = 1536 + x.val; rw [index_3]; simp))
theorem iblk_4 (t : Fin cfg0.N) (j : Fin 32) (x : Fin 512) : (iblk m c 4 t : S32x512.Idx → EReal) (ix2 j x) = tapV (taps m c) j.val x := by
  refine Eq.trans ?_ (V_taps m c j x)
  exact congrArg (V m c main_v7) (idx2_ext (by show win0_4.index t 0 * 32 + 1 * j.val = j.val; rw [index_4]; simp)
    (by show win0_4.index t 1 * 512 + 1 * x.val = x.val; rw [index_4]; simp))
theorem iblk_5 (t : Fin cfg0.N) (x : Fin 512) : (iblk m c 5 t : S1x512.Idx → EReal) (ix2 0 x) = line (bias m c) x := by
  refine Eq.trans ?_ (congrFun (V_main_arg2 m c) (ix2 0 x))
  exact congrArg (V m c main_arg2) (idx2_ext (by show win0_5.index t 0 * 1 + 1 * 0 = 0; rw [index_5]; simp)
    (by show win0_5.index t 1 * 512 + 1 * x.val = x.val; rw [index_5]; simp))
theorem iblk_6 (t : Fin cfg0.N) (x : Fin 512) : (iblk m c 6 t : S1x512.Idx → EReal) (ix2 0 x) = line (gain m c) x := by
  refine Eq.trans ?_ (congrFun (V_main_arg3 m c) (ix2 0 x))
  exact congrArg (V m c main_arg3) (idx2_ext (by show win0_6.index t 0 * 1 + 1 * 0 = 0; rw [index_6]; simp)
    (by show win0_6.index t 1 * 512 + 1 * x.val = x.val; rw [index_6]; simp))
theorem iblk_7 (t : Fin cfg0.N) (x : Fin 512) : (iblk m c 7 t : S1x512.Idx → EReal) (ix2 0 x) = line (offs m c) x := by
  refine Eq.trans ?_ (congrFun (V_main_arg4 m c) (ix2 0 x))
  exact congrArg (V m c main_arg4) (idx2_ext (by show win0_7.index t 0 * 1 + 1 * 0 = 0; rw [index_7]; simp)
    (by show win0_7.index t 1 * 512 + 1 * x.val = x.val; rw [index_7]; simp))

theorem cat_a (t : Fin cfg0.N) : cat (iblk m c 0 t) (iblk m c 1 t) = aV (proj m c) := by
  funext s x
  rw [cat, aV]
  split
  · rw [iblk_0]
  · rw [iblk_1]
    refine congrArg (fun q => proj m c (ix3 0 s q)) (Fin.ext ?_)
    show 1024 + (x.val - 256) = 768 + x.val; omega

theorem cat_b (t : Fin cfg0.N) : cat (iblk m c 2 t) (iblk m c 3 t) = bV (proj m c) := by
  funext s x
  rw [cat, bV]
  split
  · rw [iblk_2]
  · rw [iblk_3]
    refine congrArg (fun q => proj m c (ix3 0 s q)) (Fin.ext ?_)
    show 1536 + (x.val - 256) = 1280 + x.val; omega

theorem wP_eq (t : Fin cfg0.N) : wP (iblk m c 4 t) = tapV (taps m c) := by
  funext j x
  rw [wP]
  split
  · rw [iblk_4]
  · rw [tapV, dif_neg (by omega)]

/-! ## The results -/

/-- The convolution, row by row, and the gate of its norm. -/
abbrev row : ℕ → Fin 512 → EReal := convP (line (bias m c)) (tapV (taps m c)) (zP (aV (proj m c)) (bV (proj m c)))
abbrev gated (s : ℕ) (x : Fin 512) : EReal :=
  ConvNorm.pre (row m c s) (line (gain m c)) (line (offs m c)) x * Ideal.logistic (ConvNorm.pre (row m c s) (line (gain m c)) (line (offs m c)) x)
def G8 : S2048x512.Idx → EReal := fun y => gated m c (y 0).val (y 1)
def G9 : S2048x512.Idx → EReal := fun y => row m c (y 0).val (y 1)

theorem uAt_apply (t : Fin cfg0.N) (n : ℕ) (hn : n < 8) (r : Fin 256) (x : Fin 512) : uAt c m t n hn (ix2 r x) = row m c (256 * n + r.val) x := by
  refine (uRows_apply (st0 t) (st1 t) (st2 t) (st3 t) (st4 t) (st5 t) sc0 sc2 (X0 c m t) (X1 c m t) (X2 c m t) (X3 c m t) (X4 c m t) (X5 c m t)
    n hn r x).trans ?_
  rw [(sh0 t).read_unread, (sh1 t).read_unread, (sh2 t).read_unread, (sh3 t).read_unread, (sh4 t).read_unread, (sh5 t).read_unread, cat_a, cat_b,
    wP_eq, show (fun x => (iblk m c 5 t : S1x512.Idx → EReal) (ix2 0 x)) = line (bias m c) from funext (iblk_5 m c t)]

theorem gain_apply (t : Fin cfg0.N) (x : Fin 512) : vecOf (st6 t) (X6 c m t) (ix2 0 x) = line (gain m c) x := by
  rw [vecOf_apply, (sh6 t).read_unread, iblk_6]

theorem offs_apply (t : Fin cfg0.N) (x : Fin 512) : vecOf (st7 t) (X7 c m t) (ix2 0 x) = line (offs m c) x := by
  rw [vecOf_apply, (sh7 t).read_unread, iblk_7]

theorem out8_eq (t : Fin cfg0.N) (s : Fin 2048) (x : Fin 512) : out8 c m t (ix2 s x) = gated m c s.val x := by
  unfold out8
  refine blocks_read (st8 t) _ _ (gated m c) (fun n hn r x => ?_) s x 8 (Nat.le_refl _) s.isLt
  rw [pay195_apply]
  simp only [uAt_apply, gain_apply, offs_apply]

theorem out9_eq (t : Fin cfg0.N) (s : Fin 2048) (x : Fin 512) : out9 c m t (ix2 s x) = row m c s.val x := by
  unfold out9
  exact blocks_read (st9 t) _ _ (row m c) (uAt_apply m c t) s x 8 (Nat.le_refl _) s.isLt

theorem final_8 : (dats m 0 c).arrAt 8 cfg0.N = G8 m c :=
  (dats m 0 c).arrAt_eq_of_cover 8 (G8 m c) (fun t hf => by
      show (cfg0.win 8).cut (grid0.coords t) ((dats m 0 c).after 8 t) = _
      rw [after8]
      funext y
      refine (congrArg (out8 c m t) (eq_ix2 y)).trans ((out8_eq m c t (y 0) (y 1)).trans (congrArg (G8 m c) (idx2_ext (i := y) ?_ ?_)))
      · show (y 0).val = win0_8.index t 0 * 2048 + 1 * (y 0).val; rw [index_8]; simp
      · show (y 1).val = win0_8.index t 1 * 512 + 1 * (y 1).val; rw [index_8]; simp) fun i =>
    ⟨t0, flush0_8 _, by
      show i ∈ ((View.whole main_v8_0).slice (win0_8.rect t0)).set
      rw [View.set_slice_whole, Rect.mem_set_unit]
      have h0 : (i 0).val < 2048 := (i 0).isLt
      have h1 : (i 1).val < 512 := (i 1).isLt
      intro a
      match a with
      | ⟨0, _⟩ => show win0_8.index t0 0 * 2048 ≤ (i 0).val ∧ (i 0).val < win0_8.index t0 0 * 2048 + 2048; rw [index_8]; simp; omega
      | ⟨1, _⟩ => show win0_8.index t0 1 * 512 ≤ (i 1).val ∧ (i 1).val < win0_8.index t0 1 * 512 + 512; rw [index_8]; simp; omega⟩

theorem final_9 : (dats m 0 c).arrAt 9 cfg0.N = G9 m c :=
  (dats m 0 c).arrAt_eq_of_cover 9 (G9 m c) (fun t hf => by
      show (cfg0.win 9).cut (grid0.coords t) ((dats m 0 c).after 9 t) = _
      rw [after9]
      funext y
      refine (congrArg (out9 c m t) (eq_ix2 y)).trans ((out9_eq m c t (y 0) (y 1)).trans (congrArg (G9 m c) (idx2_ext (i := y) ?_ ?_)))
      · show (y 0).val = win0_9.index t 0 * 2048 + 1 * (y 0).val; rw [index_9]; simp
      · show (y 1).val = win0_9.index t 1 * 512 + 1 * (y 1).val; rw [index_9]; simp) fun i =>
    ⟨t0, flush0_9 _, by
      show i ∈ ((View.whole main_v8_1).slice (win0_9.rect t0)).set
      rw [View.set_slice_whole, Rect.mem_set_unit]
      have h0 : (i 0).val < 2048 := (i 0).isLt
      have h1 : (i 1).val < 512 := (i 1).isLt
      intro a
      match a with
      | ⟨0, _⟩ => show win0_9.index t0 0 * 2048 ≤ (i 0).val ∧ (i 0).val < win0_9.index t0 0 * 2048 + 2048; rw [index_9]; simp; omega
      | ⟨1, _⟩ => show win0_9.index t0 1 * 512 ≤ (i 1).val ∧ (i 1).val < win0_9.index t0 1 * 512 + 512; rw [index_9]; simp; omega⟩

/-! ## The claims -/

theorem frame_kernel : Cert.quiescent_ConvFwd := fun m ρ _ =>
  Eq.mp (by sl_kernel_rfl) (Cert.ConvFwdFrame.frame_main (F := Bits) m ρ)

theorem frame_ideal : Cert.quiescent_ConvFwdIdeal := fun m ρ _ => frame_main m ρ

theorem frame_ref : Cert.quiescent_ConvFwdRefIdeal := fun m ρ _ =>
  (θ_run Cert.ConvFwdRefIdeal.defs _ _).mono (fun r h => ⟨fun c => (h c).2.2, sem_eq_zero_of_no_sems (by decide) r.2⟩)
    (Cert.ConvFwdRefIdeal.Value.run (F := Ideal) m ρ)

open Cert.ConvFwdRefIdeal.Read in
/-- The two programs compute the same two arrays. -/
theorem algebraic : Cert.algebraic_ConvFwdIdeal_ConvFwdRefIdeal := by
  intro m g m' g' _ hagree
  refine ⟨fun c => G8 m c, fun c => G9 m c,
    (θ_run Cert.ConvFwdIdeal.defs _ _).mono
      (fun r h c => ⟨((h.2.1 c).1 8).trans (final_8 m c), ((h.2.1 c).1 9).trans (final_9 m c), h.1.1 c⟩)
      (θ_run_and (frame_main m g) (run_main m g)),
    (θ_run Cert.ConvFwdRefIdeal.defs _ _).mono (fun r h c => ?_) (Cert.ConvFwdRefIdeal.Value.run (F := Ideal) m' g')⟩
  obtain ⟨k8, k9, ha⟩ := h c
  obtain ⟨e0, e1, e2, e3, e4⟩ := hagree c
  refine ⟨k8.trans ?_, k9.trans ?_, ha⟩
  · refine (val_main_v51_eq m' c).trans ?_
    rw [e0, e1, e2, e3, e4]
    funext y
    obtain ⟨s, x, rfl⟩ : ∃ (s : Fin 2048) (x : Fin 512), y = ix2 s x := ⟨y 0, y 1, eq_ix2 y⟩
    exact Cert.ConvFwdRef.v51_eq (proj m c) (taps m c) (bias m c) (gain m c) (offs m c) s x
  · refine (val_main_v23_eq _ _ _).trans ?_
    rw [e0, e1, e2]
    funext y
    obtain ⟨s, x, rfl⟩ : ∃ (s : Fin 2048) (x : Fin 512), y = ix2 s x := ⟨y 0, y 1, eq_ix2 y⟩
    exact Cert.ConvFwdRef.v23_eq (proj m c) (taps m c) (bias m c) s x

end Cert.ConvFwdProof

end
-- ==== Proof.FirstNorm.lean ====
/-
  The first norm of the step: the kernel normalises eight chunks of 256 rows one after the other; its two result arrays
  are the normed and scaled rows and the inverse of the root mean square of each row.
-/
module

public import proofs.«01_k».proof.Defs
public import proofs.«01_k».proof.Proof.Common
public import proofs.«01_k».proof.Proof.Rms
public import proofs.«01_k».proof.Proof.Gen.FirstNormIdeal.Value
public import proofs.«01_k».proof.Proof.Gen.FirstNormRefIdeal.Run
public import proofs.«01_k».proof.Proof.Gen.FirstNormRefIdeal.Read
public import Idealize.ShloMosaic.Lib.Pointwise
public import Idealize.ShloMosaic.Lib.StableHlo.ReadAt
public import Idealize.ShloMosaic.Lib.Claim

@[expose] public section

set_option maxRecDepth 16384

noncomputable section

namespace Cert.FirstNormProof

open Idealize.ShloMosaic Idealize.ShloMosaic.TcCoe Idealize.SL.Sem
open Idealize.ShloMosaic.Pipeline (Dat)
open Cert.FirstNormIdeal Cert.FirstNormIdeal.Gen
open Cert.Common (idx2_ext)
open scoped BigOperators

variable (m : (ℓ : Loc nD τ sig) → Buf (Elt Ideal) ℓ) (c : Dev nD)

/-- The two arguments' contents on device `c`. -/
abbrev arr : Vec Ideal S1x2048x1024 .f32 := m ((c : Thread nD τ).loc main_arg0)
abbrev gain : Vec Ideal S1x1024 .f32 := m ((c : Thread nD τ).loc main_arg1)

theorem hz : (![0, 0] : Fin 2 → Nat) = fun _ => 0 := funext fun a => by fin_cases a <;> rfl

theorem V_arr (r : Fin 2048) (k : Fin 1024) : V m c main_v0 (ix2 r k) = arr m c (ix3 0 r k) := by
  unfold V; after_reads_at

/-! ## One chunk of rows -/

section Chunk

variable (v : Vec Ideal S256x1024 .f32) (g : Vec Ideal S1x1024 .f32) (r : Fin 256) (j : Fin 1024)

theorem pay1_apply : k0_pay1 (F := Ideal) v (ix2 r j) = v (ix2 r j) := by
  unfold k0_pay1; simp only [pointwise]

theorem pay2_apply : k0_pay2 (F := Ideal) v (ix2 r 0) = Rms.inv (fun k => v (ix2 r k)) := by
  unfold k0_pay2
  simp only [pointwise, zero_add, ↓reduceDIte, OfNat.ofNat_ne_one, pay1_apply, Rms.ofBits_1024]
  rfl

theorem pay3_apply : k0_pay3 (F := Ideal) v g (ix2 r j) = v (ix2 r j) * Rms.inv (fun k => v (ix2 r k)) * g (ix2 0 j) := by
  unfold k0_pay3
  simp only [pointwise, ↓reduceDIte, OfNat.ofNat_ne_one, pay1_apply, pay2_apply]

end Chunk

/-! ## The two output buffers -/

section Blocks

variable (x0 : Vec Ideal S2048x1024 .f32) (x1 : Vec Ideal S1x1024 .f32)

def E2 : Vec Ideal S2048x1024 .bf16 := fun y => x0 (ix2 (y 0) (y 1)) * Rms.inv (fun k => x0 (ix2 (y 0) k)) * x1 (ix2 0 (y 1))
def E3 : Vec Ideal S2048x1 .f32 := fun y => Rms.inv (fun k => x0 (ix2 (y 0) k))

/-- A row of the chunk from row `o` on. -/
theorem ld_apply (o : ℕ) (h : ∀ a, (![o, 0] : Fin 2 → ℕ) a + S256x1024.size a ≤ S2048x1024.size a) (r : Fin 256) (q : Fin 2048) (hq : q.val = o + r.val)
    (j : Fin 1024) : View.ld x0 (Rect.unit (s := S2048x1024) ![o, 0] S256x1024.size h) (ix2 r j) = x0 (ix2 q j) :=
  congrArg x0 (idx2_ext (by show o + 1 * r.val = q.val; omega) (by show 0 + 1 * j.val = j.val; omega))

theorem piece2 (o : ℕ) (h : ∀ a, (![o, 0] : Fin 2 → ℕ) a + S256x1024.size a ≤ S2048x1024.size a) (y : S256x1024.Idx) :
    k0_pay3 (F := Ideal) (View.ld x0 (Rect.unit (s := S2048x1024) ![o, 0] S256x1024.size h)) (View.ld x1 r0_1) y
      = E2 x0 x1 ((Rect.unit (s := S2048x1024) ![o, 0] S256x1024.size h).emb y) := by
  obtain ⟨r, j, rfl⟩ : ∃ (r : Fin 256) (j : Fin 1024), y = ix2 r j := ⟨y 0, y 1, eq_ix2 y⟩
  have ho : o + 256 ≤ 2048 := h 0
  rw [pay3_apply, View.ld_unit_zero (S := S1x1024) hz]
  simp only [ld_apply x0 o h r ⟨o + r.val, by omega⟩ rfl]
  refine congrArg (E2 x0 x1) (idx2_ext (i := ix2 (⟨o + r.val, by omega⟩ : Fin 2048) j) ?_ ?_)
  · show o + r.val = o + 1 * r.val; omega
  · show j.val = 0 + 1 * j.val; omega

theorem piece3 (o : ℕ) (h : ∀ a, (![o, 0] : Fin 2 → ℕ) a + S256x1024.size a ≤ S2048x1024.size a)
    (h' : ∀ a, (![o, 0] : Fin 2 → ℕ) a + S256x1.size a ≤ S2048x1.size a) (y : S256x1.Idx) :
    k0_pay2 (F := Ideal) (View.ld x0 (Rect.unit (s := S2048x1024) ![o, 0] S256x1024.size h)) y
      = E3 x0 ((Rect.unit (s := S2048x1) ![o, 0] S256x1.size h').emb y) := by
  obtain ⟨r, j, rfl⟩ : ∃ (r : Fin 256) (j : Fin 1), y = ix2 r j := ⟨y 0, y 1, eq_ix2 y⟩
  obtain rfl := Fin.fin_one_eq_zero j
  have ho : o + 256 ≤ 2048 := h 0
  rw [pay2_apply]
  have e : (Rect.unit (s := S2048x1) ![o, 0] S256x1.size h').emb (ix2 r 0) = ix2 (⟨o + r.val, by omega⟩ : Fin 2048) (0 : Fin 1) :=
    idx2_ext (by show o + 1 * r.val = o + r.val; omega) (by show 0 + 1 * 0 = 0; omega)
  rw [e]
  exact congrArg Rms.inv (funext fun k => ld_apply x0 o h r ⟨o + r.val, by omega⟩ rfl k)

theorem out2_eq : out0_2 x0 x1 = E2 x0 x1 := by
  funext y
  refine View.canon_apply_of_pieces (E2 x0 x1) _ ?_ y (cover0_2 _ _ _ _ _ _ _ _ y)
  simp only [List.forall_mem_cons]
  exact ⟨piece2 x0 x1 1792 _, piece2 x0 x1 1536 _, piece2 x0 x1 1280 _, piece2 x0 x1 1024 _, piece2 x0 x1 768 _, piece2 x0 x1 512 _,
    piece2 x0 x1 256 _, piece2 x0 x1 0 _, by simp⟩

theorem out3_eq : out0_3 x0 x1 = E3 x0 := by
  funext y
  refine View.canon_apply_of_pieces (E3 x0) _ ?_ y (cover0_3 _ _ _ _ _ _ _ _ y)
  simp only [List.forall_mem_cons]
  exact ⟨piece3 x0 1792 _ _, piece3 x0 1536 _ _, piece3 x0 1280 _ _, piece3 x0 1024 _ _, piece3 x0 768 _ _, piece3 x0 512 _ _,
    piece3 x0 256 _ _, piece3 x0 0 _ _, by simp⟩

end Blocks

/-! ## The two result arrays -/

abbrev t0 : Fin cfg0.N := ⟨0, by decide⟩

theorem index_0 (t : Fin cfg0.N) : win0_0.index t = ![0, 0] := by revert t; decide +kernel
theorem index_1 (t : Fin cfg0.N) : win0_1.index t = ![0, 0] := by revert t; decide +kernel
theorem index_2 (t : Fin cfg0.N) : win0_2.index t = ![0, 0] := by revert t; decide +kernel
theorem index_3 (t : Fin cfg0.N) : win0_3.index t = ![0, 0] := by revert t; decide +kernel

theorem iblk_0 (t : Fin cfg0.N) (r : Fin 2048) (k : Fin 1024) : iblk m c 0 t (ix2 r k) = arr m c (ix3 0 r k) := by
  rw [← V_arr]
  exact congrArg (V m c main_v0) (idx2_ext (by show win0_0.index t 0 * 2048 + 1 * r.val = _; rw [index_0]; simp)
    (by show win0_0.index t 1 * 1024 + 1 * k.val = _; rw [index_0]; simp))

theorem iblk_1 (t : Fin cfg0.N) (k : Fin 1024) : iblk m c 1 t (ix2 0 k) = gain m c (ix2 0 k) := by
  refine Eq.trans ?_ (congrFun (V_main_arg1 m c) (ix2 0 k))
  exact congrArg (V m c main_arg1) (idx2_ext (by show win0_1.index t 0 * 1 + 1 * 0 = _; rw [index_1]; simp)
    (by show win0_1.index t 1 * 1024 + 1 * k.val = _; rw [index_1]; simp))

/-- Row `r` of the argument. -/
abbrev row (r : Fin 2048) (k : Fin 1024) : EReal := arr m c (ix3 0 r k)

def G2 : Vec Ideal S2048x1024 .bf16 := fun y => row m c (y 0) (y 1) * Rms.inv (row m c (y 0)) * gain m c (ix2 0 (y 1))
def G3 : Vec Ideal S2048x1 .f32 := fun y => Rms.inv (row m c (y 0))

theorem E2_eq (t : Fin cfg0.N) : E2 (iblk m c 0 t) (iblk m c 1 t) = G2 m c := by
  funext y
  obtain ⟨r, j, rfl⟩ : ∃ (r : Fin 2048) (j : Fin 1024), y = ix2 r j := ⟨y 0, y 1, eq_ix2 y⟩
  have e := funext (iblk_0 m c t r)
  exact congrArg₂ (· * · : EReal → EReal → EReal) (congrArg₂ (· * · : EReal → EReal → EReal) (iblk_0 m c t r j) (congrArg Rms.inv e)) (iblk_1 m c t j)

theorem E3_eq (t : Fin cfg0.N) : E3 (iblk m c 0 t) = G3 m c := by
  funext y
  obtain ⟨r, j, rfl⟩ : ∃ (r : Fin 2048) (j : Fin 1), y = ix2 r j := ⟨y 0, y 1, eq_ix2 y⟩
  exact congrArg Rms.inv (funext fun k => iblk_0 m c t r k)

theorem final_2 : (dats m 0 c).arrAt 2 cfg0.N = G2 m c :=
  (dats m 0 c).arrAt_eq_of_cover 2 (G2 m c) (fun t _ => by
      rw [Value.flushed2, out2_eq, E2_eq]
      funext y
      refine congrArg (G2 m c) (idx2_ext (i := y) ?_ ?_)
      · show (y 0).val = win0_2.index t 0 * 2048 + 1 * (y 0).val; rw [index_2]; simp
      · show (y 1).val = win0_2.index t 1 * 1024 + 1 * (y 1).val; rw [index_2]; simp) fun i =>
    ⟨t0, flush0_2 _, by
      show i ∈ ((View.whole main_v1_0).slice (win0_2.rect t0)).set
      rw [View.set_slice_whole, Rect.mem_set_unit]
      have h0 : (i 0).val < 2048 := (i 0).isLt
      have h1 : (i 1).val < 1024 := (i 1).isLt
      intro a
      match a with
      | ⟨0, _⟩ => show win0_2.index t0 0 * 2048 ≤ (i 0).val ∧ (i 0).val < win0_2.index t0 0 * 2048 + 2048; rw [index_2]; simp; omega
      | ⟨1, _⟩ => show win0_2.index t0 1 * 1024 ≤ (i 1).val ∧ (i 1).val < win0_2.index t0 1 * 1024 + 1024; rw [index_2]; simp; omega⟩

theorem final_3 : (dats m 0 c).arrAt 3 cfg0.N = G3 m c :=
  (dats m 0 c).arrAt_eq_of_cover 3 (G3 m c) (fun t _ => by
      rw [Value.flushed3, out3_eq, E3_eq]
      funext y
      refine congrArg (G3 m c) (idx2_ext (i := y) ?_ ?_)
      · show (y 0).val = win0_3.index t 0 * 2048 + 1 * (y 0).val; rw [index_3]; simp
      · show (y 1).val = win0_3.index t 1 * 1 + 1 * (y 1).val; rw [index_3]; simp) fun i =>
    ⟨t0, flush0_3 _, by
      show i ∈ ((View.whole main_v1_1).slice (win0_3.rect t0)).set
      rw [View.set_slice_whole, Rect.mem_set_unit]
      have h0 : (i 0).val < 2048 := (i 0).isLt
      have h1 : (i 1).val < 1 := (i 1).isLt
      intro a
      match a with
      | ⟨0, _⟩ => show win0_3.index t0 0 * 2048 ≤ (i 0).val ∧ (i 0).val < win0_3.index t0 0 * 2048 + 2048; rw [index_3]; simp; omega
      | ⟨1, _⟩ => show win0_3.index t0 1 * 1 ≤ (i 1).val ∧ (i 1).val < win0_3.index t0 1 * 1 + 1; rw [index_3]; simp; omega⟩

/-! ## The reference's values at an index -/

section Ref

open Cert.FirstNormRefIdeal.Read

variable (X : Vec Ideal S1x2048x1024 .f32) (Γ : Vec Ideal S1x1024 .f32) (r : Fin 2048) (j : Fin 1024)

theorem ref_inv : val_main_v7 (F := Ideal) X (ix3 0 r 0) = Rms.inv (fun k => X (ix3 0 r k)) := by
  unfold val_main_v7 val_main_v6 val_main_v5 val_main_v4 val_main_v3 val_main_v2 val_main_v1 val_main_v0 val_main_cst val_main_cst_0 val_main_cst_1
  simp only [pointwise, ↓reduceDIte, OfNat.ofNat_ne_one, zero_add, Rms.ofBits_1024]
  rfl

theorem ref_r : val_main_v24 (F := Ideal) X (ix2 r 0) = Rms.inv (fun k => X (ix3 0 r k)) := by
  unfold val_main_v24
  simp only [pointwise, ↓reduceDIte, OfNat.ofNat_ne_one, ref_inv]

theorem ref_inv' : val_main_v16 (F := Ideal) X (ix3 0 r 0) = Rms.inv (fun k => X (ix3 0 r k)) := by
  unfold val_main_v16 val_main_v15 val_main_v14 val_main_v13 val_main_v12 val_main_v11 val_main_v10 val_main_v9 val_main_cst_2 val_main_cst_3 val_main_cst_4
  simp only [pointwise, ↓reduceDIte, OfNat.ofNat_ne_one, zero_add, Rms.ofBits_1024]
  rfl

theorem ref_h : val_main_v23 (F := Ideal) X Γ (ix2 r j) = X (ix3 0 r j) * Rms.inv (fun k => X (ix3 0 r k)) * Γ (ix2 0 j) := by
  unfold val_main_v23 val_main_v22 val_main_v21 val_main_v20 val_main_v19 val_main_v18 val_main_v17 val_main_v8
  simp only [pointwise, ↓reduceDIte, OfNat.ofNat_ne_one, ref_inv']

end Ref

/-! ## The claims -/

/-- **The kernel computes the normed rows and their inverse root mean squares**, over the extended reals. -/
theorem algebraic : Cert.algebraic_FirstNormIdeal_FirstNormRefIdeal := by
  intro m g m' g' _ hagree
  refine ⟨fun c => G2 m c, fun c => G3 m c,
    (θ_run Cert.FirstNormIdeal.defs _ _).mono (fun r h c => ?_) (Cert.FirstNormIdeal.Value.run_blocks m g),
    (θ_run Cert.FirstNormRefIdeal.defs _ _).mono (fun r h c => ?_) (Cert.FirstNormRefIdeal.Value.run (F := Ideal) m' g')⟩
  · obtain ⟨h2, h3, ha⟩ := h c
    exact ⟨h2.trans (final_2 m c), h3.trans (final_3 m c), ha⟩
  · obtain ⟨h2, h3, ha⟩ := h c
    obtain ⟨e0, e1⟩ := hagree c
    rw [Cert.FirstNormRefIdeal.Read.val_main_v23_eq, e0, e1] at h2
    rw [Cert.FirstNormRefIdeal.Read.val_main_v24_eq, e0] at h3
    refine ⟨h2.trans ?_, h3.trans ?_, ha⟩ <;> funext y
    · obtain ⟨r, j, rfl⟩ : ∃ (r : Fin 2048) (j : Fin 1024), y = ix2 r j := ⟨y 0, y 1, eq_ix2 y⟩
      exact ref_h (arr m c) (gain m c) r j
    · obtain ⟨r, j, rfl⟩ : ∃ (r : Fin 2048) (j : Fin 1), y = ix2 r j := ⟨y 0, y 1, eq_ix2 y⟩
      obtain rfl := Fin.fin_one_eq_zero j
      exact ref_r (arr m c) r

/-- The reference's frame. -/
theorem frame_ref : Cert.quiescent_FirstNormRefIdeal := fun m ρ _ =>
  (θ_run Cert.FirstNormRefIdeal.defs _ _).mono (fun r h => ⟨fun c => (h c).2.2, sem_eq_zero_of_no_sems (by decide) r.2⟩)
    (Cert.FirstNormRefIdeal.Value.run (F := Ideal) m ρ)

end Cert.FirstNormProof

end
-- ==== Proof.DownDw.lean ====
/-
  A weight's gradient as a plain product: the kernel's result is `actᵀ @ dx3`, of which each grid point computes 1408 rows.
-/
module

public import proofs.«01_k».proof.Defs
public import proofs.«01_k».proof.Proof.Common
public import proofs.«01_k».proof.Proof.Gen.DownDwIdeal.Value
public import proofs.«01_k».proof.Proof.Gen.DownDwRefIdeal.Run
public import proofs.«01_k».proof.Proof.Gen.DownDwRefIdeal.Read
public import Idealize.ShloMosaic.Lib.Pointwise
public import Idealize.ShloMosaic.Lib.StableHlo.ReadAt
public import Idealize.ShloMosaic.Lib.Claim

@[expose] public section

set_option maxRecDepth 16384

noncomputable section

namespace Cert.DownDwProof

open Idealize.ShloMosaic Idealize.ShloMosaic.TcCoe Idealize.SL.Sem
open Idealize.ShloMosaic.Pipeline (Dat)
open Cert.DownDwIdeal Cert.DownDwIdeal.Gen
open Cert.Common (idx2_ext)
open scoped BigOperators

variable (m : (ℓ : Loc nD τ sig) → Buf (Elt Ideal) ℓ) (c : Dev nD)

/-- The two arguments' contents on device `c`: the activations and the cotangent. -/
abbrev act : Vec Ideal S1x2048x2816 .f32 := m ((c : Thread nD τ).loc main_arg0)
abbrev cot : Vec Ideal S1x2048x1024 .f32 := m ((c : Thread nD τ).loc main_arg1)

theorem hz : (![0, 0] : Fin 2 → Nat) = fun _ => 0 := funext fun a => by fin_cases a <;> rfl

theorem V_act (k : Fin 2048) (i : Fin 2816) : V m c main_v1 (ix2 k i) = act m c (ix3 0 k i) := by
  unfold V; after_reads_at
theorem V_cot (k : Fin 2048) (j : Fin 1024) : V m c main_v3 (ix2 k j) = cot m c (ix3 0 k j) := by
  unfold V; after_reads_at

/-! ## One block of 1408 rows -/

section Block

variable (x0 : Vec Ideal S2048x1408 .bf16) (x1 : Vec Ideal S2048x1024 .bf16) (i : Fin 1408) (j : Fin 1024)

theorem pay_apply : k0_pay1 (F := Ideal) x1 x0 (ix2 i j) = (∑ k : Fin 2048, x0 (ix2 k i) * x1 (ix2 k j) : EReal) := by
  unfold k0_pay1; simp only [pointwise, zero_add]

theorem out_apply : out0_2 x0 x1 (ix2 i j) = (∑ k : Fin 2048, x0 (ix2 k i) * x1 (ix2 k j) : EReal) := by
  unfold out0_2
  rw [View.canon_unit_zero hz]
  simp only [View.ld_unit_zero (S := S2048x1408) hz, View.ld_unit_zero (S := S2048x1024) hz, pay_apply]

end Block

/-! ## The blocks that point `t` reads: columns `1408 t …` of the activations and the whole cotangent -/

theorem t_lt (t : Fin cfg0.N) : t.val < 2 := t.isLt

/-- Column `i` of the block of point `t`. -/
def colAt (t : Fin cfg0.N) (i : Fin 1408) : Fin 2816 := ⟨t.val * 1408 + i.val, by have := t_lt t; omega⟩

theorem index_0 : ∀ t : Fin grid0.N, win0_0.index t = ![0, t.val] := by decide +kernel
theorem index_1 : ∀ t : Fin grid0.N, win0_1.index t = ![0, 0] := by decide +kernel
theorem index_2 : ∀ t : Fin grid0.N, win0_2.index t = ![t.val, 0] := by decide +kernel

theorem iblk_0 (t : Fin cfg0.N) (k : Fin 2048) (i : Fin 1408) : iblk m c 0 t (ix2 k i) = act m c (ix3 0 k (colAt t i)) := by
  rw [← V_act]
  exact congrArg (V m c main_v1) (idx2_ext (by show win0_0.index t 0 * 2048 + 1 * k.val = _; rw [index_0]; simp)
    (by show win0_0.index t 1 * 1408 + 1 * i.val = _; rw [index_0]; simp [colAt]))

theorem iblk_1 (t : Fin cfg0.N) (k : Fin 2048) (j : Fin 1024) : iblk m c 1 t (ix2 k j) = cot m c (ix3 0 k j) := by
  rw [← V_cot]
  exact congrArg (V m c main_v3) (idx2_ext (by show win0_1.index t 0 * 2048 + 1 * k.val = _; rw [index_1]; simp)
    (by show win0_1.index t 1 * 1024 + 1 * j.val = _; rw [index_1]; simp))

/-! ## The result array -/

/-- The whole product. -/
def G (A : Vec Ideal S1x2048x2816 .f32) (D : Vec Ideal S1x2048x1024 .f32) : Vec Ideal S2816x1024 .bf16 := fun y =>
  (∑ k : Fin 2048, A (ix3 0 k (y 0)) * D (ix3 0 k (y 1)) : EReal)

/-- The point whose block holds row `r`. -/
def pt (r : Fin 2816) : Fin cfg0.N := ⟨r.val / 1408, by show _ < 2; omega⟩

theorem pt_bounds (r : Fin 2816) : (pt r).val * 1408 ≤ r.val ∧ r.val < (pt r).val * 1408 + 1408 := by
  simp only [pt]; omega

theorem final_2 : (dats m 0 c).arrAt 2 cfg0.N = G (act m c) (cot m c) :=
  (dats m 0 c).arrAt_eq_of_cover 2 (G (act m c) (cot m c)) (fun t _ => by
      rw [Value.flushed2]
      funext y
      obtain ⟨i, j, rfl⟩ : ∃ (i : Fin 1408) (j : Fin 1024), y = ix2 i j := ⟨y 0, y 1, eq_ix2 y⟩
      refine (out_apply (iblk m c 0 t) (iblk m c 1 t) i j).trans ?_
      refine Eq.trans ?_ (congrArg (G (act m c) (cot m c)) (idx2_ext (i := ix2 (colAt t i) j)
        (by show _ = win0_2.index t 0 * 1408 + 1 * i.val; rw [index_2]; simp [colAt])
        (by show _ = win0_2.index t 1 * 1024 + 1 * j.val; rw [index_2]; simp)))
      exact Finset.sum_congr rfl fun k _ => congrArg₂ (· * · : EReal → EReal → EReal) (iblk_0 m c t k i) (iblk_1 m c t k j)) fun i =>
    ⟨pt (i 0), flush0_2 _, by
      show i ∈ ((View.whole main_v4).slice (win0_2.rect (pt (i 0)))).set
      rw [View.set_slice_whole, Rect.mem_set_unit]
      have h0 := pt_bounds (i 0)
      have h1 : (i 1).val < 1024 := (i 1).isLt
      intro a
      match a with
      | ⟨0, _⟩ => show win0_2.index (pt (i 0)) 0 * 1408 ≤ (i 0 : Nat) ∧ (i 0 : Nat) < win0_2.index (pt (i 0)) 0 * 1408 + 1408
                  rw [index_2]; exact h0
      | ⟨1, _⟩ => show win0_2.index (pt (i 0)) 1 * 1024 ≤ (i 1 : Nat) ∧ (i 1 : Nat) < win0_2.index (pt (i 0)) 1 * 1024 + 1024
                  rw [index_2]; simp; omega⟩

/-! ## The reference and the claims -/

open Cert.DownDwRefIdeal.Read in
theorem ref_apply (A : Vec Ideal S1x2048x2816 .f32) (D : Vec Ideal S1x2048x1024 .f32) : val_main_v4 (F := Ideal) A D = G A D := by
  funext y
  obtain ⟨i, j, rfl⟩ : ∃ (i : Fin 2816) (j : Fin 1024), y = ix2 i j := ⟨y 0, y 1, eq_ix2 y⟩
  unfold val_main_v4 val_main_v3 val_main_v2 val_main_v1 val_main_v0
  simp only [pointwise, zero_add]
  rfl

/-- **The kernel computes the product of the transposed activations and the cotangent**, over the extended reals. -/
theorem algebraic : Cert.algebraic_DownDwIdeal_DownDwRefIdeal := by
  intro m g m' g' _ hagree
  refine ⟨fun c => G (act m c) (cot m c),
    (θ_run Cert.DownDwIdeal.defs _ _).mono (fun r h c => ?_) (Cert.DownDwIdeal.Value.run_blocks m g),
    (θ_run Cert.DownDwRefIdeal.defs _ _).mono (fun r h c => ?_) (Cert.DownDwRefIdeal.Value.run (F := Ideal) m' g')⟩
  · obtain ⟨h2, ha⟩ := h c
    exact ⟨h2.trans (final_2 m c), ha⟩
  · obtain ⟨h2, ha⟩ := h c
    obtain ⟨e0, e1⟩ := hagree c
    rw [Cert.DownDwRefIdeal.Read.val_main_v4_eq, e0, e1] at h2
    exact ⟨h2.trans (ref_apply (act m c) (cot m c)), ha⟩

/-- The reference terminates without fault and leaves its arguments unchanged. -/
theorem frame_ref : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

end Cert.DownDwProof

end
-- ==== Proof.AdamW.lean ====
/-
  The optimiser's update of one parameter: the kernel's three result arrays are the step, the new first moment and the
  new second moment.
-/
module

public import proofs.«01_k».proof.Defs
public import proofs.«01_k».proof.Proof.Common
public import proofs.«01_k».proof.Proof.Gen.AdamWIdeal.Value
public import proofs.«01_k».proof.Proof.Gen.AdamWRefIdeal.Run
public import proofs.«01_k».proof.Proof.Gen.AdamWRefIdeal.Read
public import Idealize.ShloMosaic.Lib.Pointwise
public import Idealize.ShloMosaic.Lib.StableHlo.ReadAt
public import Idealize.ShloMosaic.Lib.Claim

@[expose] public section

set_option maxRecDepth 16384

noncomputable section

namespace Cert.AdamWProof

open Idealize.ShloMosaic Idealize.ShloMosaic.TcCoe Idealize.SL.Sem
open Idealize.ShloMosaic.Pipeline (Dat)
open Cert.AdamWIdeal Cert.AdamWIdeal.Gen
open Cert.Common (idx2_ext)
open Cert.AdamWRefIdeal.Read

variable (m : (ℓ : Loc nD τ sig) → Buf (Elt Ideal) ℓ) (c : Dev nD)

/-- The four arguments' contents on device `c`: the parameter, its gradient and the two moments. -/
abbrev par : Vec Ideal S1x31x64 .f32 := m ((c : Thread nD τ).loc main_arg0)
abbrev grd : Vec Ideal S31x64 .f32 := m ((c : Thread nD τ).loc main_arg1)
abbrev mom1 : Vec Ideal S1x31x64 .f32 := m ((c : Thread nD τ).loc main_arg2)
abbrev mom2 : Vec Ideal S1x31x64 .f32 := m ((c : Thread nD τ).loc main_arg3)

theorem hz : (![0, 0] : Fin 2 → Nat) = fun _ => 0 := funext fun a => by fin_cases a <;> rfl

theorem V_par (r : Fin 31) (k : Fin 64) : V m c main_v0 (ix2 r k) = par m c (ix3 0 r k) := by
  unfold V; after_reads_at
theorem V_mom1 (r : Fin 31) (k : Fin 64) : V m c main_v1 (ix2 r k) = mom1 m c (ix3 0 r k) := by
  unfold V; after_reads_at
theorem V_mom2 (r : Fin 31) (k : Fin 64) : V m c main_v2 (ix2 r k) = mom2 m c (ix3 0 r k) := by
  unfold V; after_reads_at

/-! ## The update of one entry, in the kernel and in the reference -/

section Entry

variable (p g a b : Vec Ideal S31x64 .f32) (P A B : Vec Ideal S1x31x64 .f32) (r : Fin 31) (j : Fin 64)

theorem first_apply (ha : a (ix2 r j) = A (ix3 0 r j)) : k0_pay1 (F := Ideal) g a (ix2 r j) = val_main_v7 (F := Ideal) g A (ix2 r j) := by
  unfold k0_pay1 val_main_v7 val_main_v6 val_main_v5 val_main_v4 val_main_v3 val_main_v1 val_main_cst val_main_cst_0
  simp only [pointwise, ↓reduceDIte, OfNat.ofNat_ne_one, ha]

theorem second_apply (hb : b (ix2 r j) = B (ix3 0 r j)) : k0_pay2 (F := Ideal) g b (ix2 r j) = val_main_v13 (F := Ideal) g B (ix2 r j) := by
  unfold k0_pay2 val_main_v13 val_main_v12 val_main_v11 val_main_v10 val_main_v9 val_main_v8 val_main_v2 val_main_cst_1 val_main_cst_2
  simp only [pointwise, ↓reduceDIte, OfNat.ofNat_ne_one, hb]

theorem step_apply (hp : p (ix2 r j) = P (ix3 0 r j)) (ha : a (ix2 r j) = A (ix3 0 r j)) (hb : b (ix2 r j) = B (ix3 0 r j)) :
    k0_pay3 (F := Ideal) p g a b (ix2 r j) = val_main_v26 (F := Ideal) P g A B (ix2 r j) := by
  unfold k0_pay3 val_main_v26 val_main_v25 val_main_v24 val_main_v23 val_main_v22 val_main_v21 val_main_v20 val_main_v19 val_main_v18 val_main_v17
    val_main_v16 val_main_v15 val_main_v14 val_main_v0 val_main_cst_3 val_main_cst_4 val_main_cst_5 val_main_cst_6 val_main_cst_7
  simp only [pointwise, ↓reduceDIte, OfNat.ofNat_ne_one, hp, first_apply g a A r j ha, second_apply g b B r j hb]

end Entry

/-! ## The three result arrays -/

abbrev t0 : Fin cfg0.N := ⟨0, by decide⟩

theorem index_0 (t : Fin cfg0.N) : win0_0.index t = ![0, 0] := by revert t; decide +kernel
theorem index_1 (t : Fin cfg0.N) : win0_1.index t = ![0, 0] := by revert t; decide +kernel
theorem index_2 (t : Fin cfg0.N) : win0_2.index t = ![0, 0] := by revert t; decide +kernel
theorem index_3 (t : Fin cfg0.N) : win0_3.index t = ![0, 0] := by revert t; decide +kernel
theorem index_4 (t : Fin cfg0.N) : win0_4.index t = ![0, 0] := by revert t; decide +kernel
theorem index_5 (t : Fin cfg0.N) : win0_5.index t = ![0, 0] := by revert t; decide +kernel
theorem index_6 (t : Fin cfg0.N) : win0_6.index t = ![0, 0] := by revert t; decide +kernel

theorem iblk_0 (t : Fin cfg0.N) (r : Fin 31) (k : Fin 64) : iblk m c 0 t (ix2 r k) = par m c (ix3 0 r k) := by
  rw [← V_par]
  exact congrArg (V m c main_v0) (idx2_ext (by show win0_0.index t 0 * 31 + 1 * r.val = _; rw [index_0]; simp)
    (by show win0_0.index t 1 * 64 + 1 * k.val = _; rw [index_0]; simp))

theorem iblk_1 (t : Fin cfg0.N) (r : Fin 31) (k : Fin 64) : iblk m c 1 t (ix2 r k) = grd m c (ix2 r k) := by
  refine Eq.trans ?_ (congrFun (V_main_arg1 m c) (ix2 r k))
  exact congrArg (V m c main_arg1) (idx2_ext (by show win0_1.index t 0 * 31 + 1 * r.val = _; rw [index_1]; simp)
    (by show win0_1.index t 1 * 64 + 1 * k.val = _; rw [index_1]; simp))

theorem iblk_2 (t : Fin cfg0.N) (r : Fin 31) (k : Fin 64) : iblk m c 2 t (ix2 r k) = mom1 m c (ix3 0 r k) := by
  rw [← V_mom1]
  exact congrArg (V m c main_v1) (idx2_ext (by show win0_2.index t 0 * 31 + 1 * r.val = _; rw [index_2]; simp)
    (by show win0_2.index t 1 * 64 + 1 * k.val = _; rw [index_2]; simp))

theorem iblk_3 (t : Fin cfg0.N) (r : Fin 31) (k : Fin 64) : iblk m c 3 t (ix2 r k) = mom2 m c (ix3 0 r k) := by
  rw [← V_mom2]
  exact congrArg (V m c main_v2) (idx2_ext (by show win0_3.index t 0 * 31 + 1 * r.val = _; rw [index_3]; simp)
    (by show win0_3.index t 1 * 64 + 1 * k.val = _; rw [index_3]; simp))

theorem grd_eq (t : Fin cfg0.N) : iblk m c 1 t = grd m c := by
  funext y
  obtain ⟨r, j, rfl⟩ : ∃ (r : Fin 31) (j : Fin 64), y = ix2 r j := ⟨y 0, y 1, eq_ix2 y⟩
  exact iblk_1 m c t r j

def G4 : Vec Ideal S31x64 .f32 := val_main_v26 (F := Ideal) (par m c) (grd m c) (mom1 m c) (mom2 m c)
def G5 : Vec Ideal S31x64 .f32 := val_main_v7 (F := Ideal) (grd m c) (mom1 m c)
def G6 : Vec Ideal S31x64 .f32 := val_main_v13 (F := Ideal) (grd m c) (mom2 m c)

theorem out4_eq (t : Fin cfg0.N) : out0_4 (F := Ideal) (iblk m c 0 t) (iblk m c 1 t) (iblk m c 2 t) (iblk m c 3 t) = G4 m c := by
  unfold out0_4
  rw [View.canon_unit_zero hz]
  simp only [View.ld_unit_zero (S := S31x64) hz]
  funext y
  obtain ⟨r, j, rfl⟩ : ∃ (r : Fin 31) (j : Fin 64), y = ix2 r j := ⟨y 0, y 1, eq_ix2 y⟩
  unfold G4
  rw [← grd_eq m c t]
  exact step_apply _ _ _ _ _ _ _ r j (iblk_0 m c t r j) (iblk_2 m c t r j) (iblk_3 m c t r j)

theorem final_4 : (dats m 0 c).arrAt 4 cfg0.N = G4 m c :=
  (dats m 0 c).arrAt_eq_of_cover 4 (G4 m c) (fun t _ => by
      rw [Value.flushed4, out4_eq]
      funext y
      refine congrArg (G4 m c) (idx2_ext (i := y) ?_ ?_)
      · show (y 0).val = win0_4.index t 0 * 31 + 1 * (y 0).val; rw [index_4]; simp
      · show (y 1).val = win0_4.index t 1 * 64 + 1 * (y 1).val; rw [index_4]; simp) fun i =>
    ⟨t0, flush0_4 _, by
      show i ∈ ((View.whole main_v3_0).slice (win0_4.rect t0)).set
      rw [View.set_slice_whole, Rect.mem_set_unit]
      have h0 : (i 0).val < 31 := (i 0).isLt
      have h1 : (i 1).val < 64 := (i 1).isLt
      intro a
      match a with
      | ⟨0, _⟩ => show win0_4.index t0 0 * 31 ≤ (i 0).val ∧ (i 0).val < win0_4.index t0 0 * 31 + 31; rw [index_4]; simp; omega
      | ⟨1, _⟩ => show win0_4.index t0 1 * 64 ≤ (i 1).val ∧ (i 1).val < win0_4.index t0 1 * 64 + 64; rw [index_4]; simp; omega⟩

theorem out5_eq (t : Fin cfg0.N) : out0_5 (F := Ideal) (iblk m c 0 t) (iblk m c 1 t) (iblk m c 2 t) (iblk m c 3 t) = G5 m c := by
  unfold out0_5
  rw [View.canon_unit_zero hz]
  simp only [View.ld_unit_zero (S := S31x64) hz]
  funext y
  obtain ⟨r, j, rfl⟩ : ∃ (r : Fin 31) (j : Fin 64), y = ix2 r j := ⟨y 0, y 1, eq_ix2 y⟩
  unfold G5
  rw [← grd_eq m c t]
  exact first_apply _ _ _ r j (iblk_2 m c t r j)

theorem final_5 : (dats m 0 c).arrAt 5 cfg0.N = G5 m c :=
  (dats m 0 c).arrAt_eq_of_cover 5 (G5 m c) (fun t _ => by
      rw [Value.flushed5, out5_eq]
      funext y
      refine congrArg (G5 m c) (idx2_ext (i := y) ?_ ?_)
      · show (y 0).val = win0_5.index t 0 * 31 + 1 * (y 0).val; rw [index_5]; simp
      · show (y 1).val = win0_5.index t 1 * 64 + 1 * (y 1).val; rw [index_5]; simp) fun i =>
    ⟨t0, flush0_5 _, by
      show i ∈ ((View.whole main_v3_1).slice (win0_5.rect t0)).set
      rw [View.set_slice_whole, Rect.mem_set_unit]
      have h0 : (i 0).val < 31 := (i 0).isLt
      have h1 : (i 1).val < 64 := (i 1).isLt
      intro a
      match a with
      | ⟨0, _⟩ => show win0_5.index t0 0 * 31 ≤ (i 0).val ∧ (i 0).val < win0_5.index t0 0 * 31 + 31; rw [index_5]; simp; omega
      | ⟨1, _⟩ => show win0_5.index t0 1 * 64 ≤ (i 1).val ∧ (i 1).val < win0_5.index t0 1 * 64 + 64; rw [index_5]; simp; omega⟩

theorem out6_eq (t : Fin cfg0.N) : out0_6 (F := Ideal) (iblk m c 0 t) (iblk m c 1 t) (iblk m c 2 t) (iblk m c 3 t) = G6 m c := by
  unfold out0_6
  rw [View.canon_unit_zero hz]
  simp only [View.ld_unit_zero (S := S31x64) hz]
  funext y
  obtain ⟨r, j, rfl⟩ : ∃ (r : Fin 31) (j : Fin 64), y = ix2 r j := ⟨y 0, y 1, eq_ix2 y⟩
  unfold G6
  rw [← grd_eq m c t]
  exact second_apply _ _ _ r j (iblk_3 m c t r j)

theorem final_6 : (dats m 0 c).arrAt 6 cfg0.N = G6 m c :=
  (dats m 0 c).arrAt_eq_of_cover 6 (G6 m c) (fun t _ => by
      rw [Value.flushed6, out6_eq]
      funext y
      refine congrArg (G6 m c) (idx2_ext (i := y) ?_ ?_)
      · show (y 0).val = win0_6.index t 0 * 31 + 1 * (y 0).val; rw [index_6]; simp
      · show (y 1).val = win0_6.index t 1 * 64 + 1 * (y 1).val; rw [index_6]; simp) fun i =>
    ⟨t0, flush0_6 _, by
      show i ∈ ((View.whole main_v3_2).slice (win0_6.rect t0)).set
      rw [View.set_slice_whole, Rect.mem_set_unit]
      have h0 : (i 0).val < 31 := (i 0).isLt
      have h1 : (i 1).val < 64 := (i 1).isLt
      intro a
      match a with
      | ⟨0, _⟩ => show win0_6.index t0 0 * 31 ≤ (i 0).val ∧ (i 0).val < win0_6.index t0 0 * 31 + 31; rw [index_6]; simp; omega
      | ⟨1, _⟩ => show win0_6.index t0 1 * 64 ≤ (i 1).val ∧ (i 1).val < win0_6.index t0 1 * 64 + 64; rw [index_6]; simp; omega⟩

/-! ## The claims -/

/-- **The kernel computes AdamW's step and the two new moments**, over the extended reals. -/
theorem algebraic : Cert.algebraic_AdamWIdeal_AdamWRefIdeal := by
  intro m g m' g' _ hagree
  refine ⟨fun c => G4 m c, fun c => G5 m c, fun c => G6 m c,
    (θ_run Cert.AdamWIdeal.defs _ _).mono (fun r h c => ?_) (Cert.AdamWIdeal.Value.run_blocks m g),
    (θ_run Cert.AdamWRefIdeal.defs _ _).mono (fun r h c => ?_) (Cert.AdamWRefIdeal.Value.run (F := Ideal) m' g')⟩
  · obtain ⟨h4, h5, h6, ha⟩ := h c
    exact ⟨h4.trans (final_4 m c), h5.trans (final_5 m c), h6.trans (final_6 m c), ha⟩
  · obtain ⟨h4, h5, h6, ha⟩ := h c
    obtain ⟨e0, e1, e2, e3⟩ := hagree c
    rw [val_main_v26_eq, e0, e1, e2, e3] at h4
    rw [val_main_v7_eq, e1, e2] at h5
    rw [val_main_v13_eq, e1, e3] at h6
    exact ⟨h4, h5, h6, ha⟩

/-- The reference terminates without fault and leaves its arguments unchanged. -/
theorem frame_ref : Cert.quiescent_AdamWRefIdeal := fun m ρ _ =>
  (θ_run Cert.AdamWRefIdeal.defs _ _).mono (fun r h => ⟨fun c => (h c).2.2.2, sem_eq_zero_of_no_sems (by decide) r.2⟩)
    (Cert.AdamWRefIdeal.Value.run (F := Ideal) m ρ)

end Cert.AdamWProof

end
-- ==== Proof.StackedDw.lean ====
/-
  A weight's gradient of several segments side by side: the kernel's results are `[dgate | dup]ᵀ @ h`, of which each grid
  point computes 1408 rows from one of the two segments, and the column sums of `[dgate | dup]`.
-/
module

public import proofs.«01_k».proof.Defs
public import proofs.«01_k».proof.Proof.Common
public import proofs.«01_k».proof.Proof.Gen.StackedDwIdeal.Value
public import proofs.«01_k».proof.Proof.Gen.StackedDwRefIdeal.Run
public import proofs.«01_k».proof.Proof.Gen.StackedDwRefIdeal.Read
public import Idealize.ShloMosaic.Lib.Pointwise
public import Idealize.ShloMosaic.Lib.StableHlo.ReadAt
public import Idealize.ShloMosaic.Lib.Claim

@[expose] public section

set_option maxRecDepth 16384

noncomputable section

namespace Cert.StackedDwProof

open Idealize.ShloMosaic Idealize.ShloMosaic.TcCoe Idealize.SL.Sem Idealize.ShloMosaic.Tactic
open Idealize.ShloMosaic.Pipeline (Dat)
open Cert.StackedDwIdeal Cert.StackedDwIdeal.Gen
open Cert.Common (idx2_ext)
open scoped BigOperators

variable (m : (ℓ : Loc nD τ sig) → Buf (Elt Ideal) ℓ) (c : Dev nD)

/-- The three arguments' contents on device `c`: the two segments of the cotangent and the layer's input. -/
abbrev seg0 : Vec Ideal S1x2048x2816 .f32 := m ((c : Thread nD τ).loc main_arg0)
abbrev seg1 : Vec Ideal S1x2048x2816 .f32 := m ((c : Thread nD τ).loc main_arg1)
abbrev inp : Vec Ideal S1x2048x1024 .f32 := m ((c : Thread nD τ).loc main_arg2)

theorem hz : (![0, 0] : Fin 2 → Nat) = fun _ => 0 := funext fun a => by fin_cases a <;> rfl

theorem V_seg0 (k : Fin 2048) (i : Fin 2816) : V m c main_v1 (ix2 k i) = seg0 m c (ix3 0 k i) := by
  unfold V; after_reads_at
theorem V_seg1 (k : Fin 2048) (i : Fin 2816) : V m c main_v3 (ix2 k i) = seg1 m c (ix3 0 k i) := by
  unfold V; after_reads_at
theorem V_inp (k : Fin 2048) (j : Fin 1024) : V m c main_v5 (ix2 k j) = inp m c (ix3 0 k j) := by
  unfold V; after_reads_at

/-! ## One block of 1408 columns -/

section Block

variable (x0 x1 : Vec Ideal S2048x1408 .bf16) (x2 : Vec Ideal S2048x1024 .bf16)

/-- The block's product and its column sums. -/
def prod (x : Vec Ideal S2048x1408 .bf16) (h : Vec Ideal S2048x1024 .bf16) : Vec Ideal S1408x1024 .bf16 := fun y =>
  (∑ k : Fin 2048, x (ix2 k (y 0)) * h (ix2 k (y 1)) : EReal)
def sums (x : Vec Ideal S2048x1408 .bf16) : Vec Ideal S1x1408 .f32 := fun y => (∑ k : Fin 2048, x (ix2 k (y 1)) : EReal)

theorem pay2_eq : k0_pay2 (F := Ideal) x0 x2 = prod x0 x2 := by
  funext y
  obtain ⟨i, j, rfl⟩ : ∃ (i : Fin 1408) (j : Fin 1024), y = ix2 i j := ⟨y 0, y 1, eq_ix2 y⟩
  unfold k0_pay2 k0_pay1; simp only [pointwise, zero_add]; rfl

theorem pay3_eq : k0_pay3 (F := Ideal) x0 = sums x0 := by
  funext y
  obtain ⟨i, j, rfl⟩ : ∃ (i : Fin 1) (j : Fin 1408), y = ix2 i j := ⟨y 0, y 1, eq_ix2 y⟩
  unfold k0_pay3 k0_pay1; simp only [pointwise, zero_add]; rfl

theorem pay5_eq : k0_pay5 (F := Ideal) x0 x2 = prod x0 x2 := pay2_eq x0 x2
theorem pay6_eq : k0_pay6 (F := Ideal) x0 = sums x0 := pay3_eq x0

theorem outA3_eq (t : Fin cfg0.N) (hc0) (hc1) : out0_A_3 c (grid0.coords t) (ms0_0 t) (hs0_0 t) (ms0_1 t) (hs0_1 t) (ms0_2 t) (hs0_2 t) (ms0_3 t) (hs0_3 t) (ms0_4 t) (hs0_4 t)
    hc0 hc1 x0 x1 x2 = prod x0 x2 := by
  unfold out0_A_3
  rw [View.read_writes_eq_canon _ _ _ (fun y => cover0_A_3 (y := y) ..)]
  unfold kernelRun0_A
  dsimp only
  sl_unfold_words
  simp only [View.readAt_eq_ld, (hs0_0 t).read_unread, (hs0_1 t).read_unread, (hs0_2 t).read_unread, View.ld_unit_zero (S := S2048x1408) hz,
    View.ld_unit_zero (S := S2048x1024) hz]
  rw [View.canon_unit_zero hz]
  exact pay2_eq ..

theorem outA4_eq (t : Fin cfg0.N) (hc0) (hc1) : out0_A_4 c (grid0.coords t) (ms0_0 t) (hs0_0 t) (ms0_1 t) (hs0_1 t) (ms0_2 t) (hs0_2 t) (ms0_3 t) (hs0_3 t) (ms0_4 t) (hs0_4 t)
    hc0 hc1 x0 x1 x2 = sums x0 := by
  unfold out0_A_4
  rw [View.read_writes_eq_canon _ _ _ (fun y => cover0_A_4 (y := y) ..)]
  unfold kernelRun0_A
  dsimp only
  sl_unfold_words
  simp only [View.readAt_eq_ld, (hs0_0 t).read_unread, (hs0_1 t).read_unread, (hs0_2 t).read_unread, View.ld_unit_zero (S := S2048x1408) hz,
    View.ld_unit_zero (S := S2048x1024) hz]
  rw [View.canon_unit_zero hz]
  exact pay3_eq ..

theorem outB3_eq (t : Fin cfg0.N) (hc0) (hc1) : out0_B_3 c (grid0.coords t) (ms0_0 t) (hs0_0 t) (ms0_1 t) (hs0_1 t) (ms0_2 t) (hs0_2 t) (ms0_3 t) (hs0_3 t) (ms0_4 t) (hs0_4 t)
    hc0 hc1 x0 x1 x2 = prod x1 x2 := by
  unfold out0_B_3
  rw [View.read_writes_eq_canon _ _ _ (fun y => cover0_B_3 (y := y) ..)]
  unfold kernelRun0_B
  dsimp only
  sl_unfold_words
  simp only [View.readAt_eq_ld, (hs0_0 t).read_unread, (hs0_1 t).read_unread, (hs0_2 t).read_unread, View.ld_unit_zero (S := S2048x1408) hz,
    View.ld_unit_zero (S := S2048x1024) hz]
  rw [View.canon_unit_zero hz]
  exact pay5_eq ..

theorem outB4_eq (t : Fin cfg0.N) (hc0) (hc1) : out0_B_4 c (grid0.coords t) (ms0_0 t) (hs0_0 t) (ms0_1 t) (hs0_1 t) (ms0_2 t) (hs0_2 t) (ms0_3 t) (hs0_3 t) (ms0_4 t) (hs0_4 t)
    hc0 hc1 x0 x1 x2 = sums x1 := by
  unfold out0_B_4
  rw [View.read_writes_eq_canon _ _ _ (fun y => cover0_B_4 (y := y) ..)]
  unfold kernelRun0_B
  dsimp only
  sl_unfold_words
  simp only [View.readAt_eq_ld, (hs0_0 t).read_unread, (hs0_1 t).read_unread, (hs0_2 t).read_unread, View.ld_unit_zero (S := S2048x1408) hz,
    View.ld_unit_zero (S := S2048x1024) hz]
  rw [View.canon_unit_zero hz]
  exact pay6_eq ..

end Block

/-! ## The blocks that point `t` reads: of the first segment at points 0 and 1, of the second at 2 and 3 -/

theorem t_lt (t : Fin cfg0.N) : t.val < 4 := t.isLt

/-- Column `i` of the block of point `t`, of the two segments side by side. -/
def colAt (t : Fin cfg0.N) (i : Fin 1408) : Fin 5632 := ⟨t.val * 1408 + i.val, by have := t_lt t; omega⟩

/-- The two segments side by side. -/
def cat (A B : Vec Ideal S1x2048x2816 .f32) (k : Fin 2048) (n : Fin 5632) : EReal :=
  if h : n.val < 2816 then A (ix3 0 k ⟨n.val, h⟩) else B (ix3 0 k ⟨n.val - 2816, by omega⟩)

theorem index_0 : ∀ t : Fin grid0.N, t.val < 2 → win0_0.index t = ![0, t.val] := by decide +kernel
theorem index_1 : ∀ t : Fin grid0.N, 2 ≤ t.val → win0_1.index t = ![0, t.val - 2] := by decide +kernel
theorem index_2 : ∀ t : Fin grid0.N, win0_2.index t = ![0, 0] := by decide +kernel
theorem index_3 : ∀ t : Fin grid0.N, win0_3.index t = ![t.val, 0] := by decide +kernel
theorem index_4 : ∀ t : Fin grid0.N, win0_4.index t = ![0, t.val] := by decide +kernel

theorem iblk_0 (t : Fin cfg0.N) (h : t.val < 2) (k : Fin 2048) (i : Fin 1408) :
    iblk m c 0 t (ix2 k i) = cat (seg0 m c) (seg1 m c) k (colAt t i) := by
  have hi : (colAt t i).val < 2816 := by simp only [colAt]; omega
  rw [cat, dif_pos hi, ← V_seg0]
  exact congrArg (V m c main_v1) (idx2_ext (by show win0_0.index t 0 * 2048 + 1 * k.val = _; rw [index_0 t h]; simp)
    (by show win0_0.index t 1 * 1408 + 1 * i.val = _; rw [index_0 t h]; simp [colAt]))

theorem iblk_1 (t : Fin cfg0.N) (h : 2 ≤ t.val) (k : Fin 2048) (i : Fin 1408) :
    iblk m c 1 t (ix2 k i) = cat (seg0 m c) (seg1 m c) k (colAt t i) := by
  have hi : ¬(colAt t i).val < 2816 := by simp only [colAt]; omega
  rw [cat, dif_neg hi, ← V_seg1]
  exact congrArg (V m c main_v3) (idx2_ext (by show win0_1.index t 0 * 2048 + 1 * k.val = _; rw [index_1 t h]; simp)
    (by show win0_1.index t 1 * 1408 + 1 * i.val = (colAt t i).val - 2816; rw [index_1 t h]; simp [colAt]; omega))

theorem iblk_2 (t : Fin cfg0.N) (k : Fin 2048) (j : Fin 1024) : iblk m c 2 t (ix2 k j) = inp m c (ix3 0 k j) := by
  rw [← V_inp]
  exact congrArg (V m c main_v5) (idx2_ext (by show win0_2.index t 0 * 2048 + 1 * k.val = _; rw [index_2]; simp)
    (by show win0_2.index t 1 * 1024 + 1 * j.val = _; rw [index_2]; simp))

/-! ## The two result arrays -/

def G3 (A B : Vec Ideal S1x2048x2816 .f32) (H : Vec Ideal S1x2048x1024 .f32) : Vec Ideal S5632x1024 .bf16 := fun y =>
  (∑ k : Fin 2048, cat A B k (y 0) * H (ix3 0 k (y 1)) : EReal)
def G4 (A B : Vec Ideal S1x2048x2816 .f32) : Vec Ideal S1x5632 .f32 := fun y => (∑ k : Fin 2048, cat A B k (y 1) : EReal)

/-- The point whose block holds column `n`. -/
def pt (n : Fin 5632) : Fin cfg0.N := ⟨n.val / 1408, by show _ < 4; omega⟩

theorem pt_bounds (n : Fin 5632) : (pt n).val * 1408 ≤ n.val ∧ n.val < (pt n).val * 1408 + 1408 := by
  simp only [pt]; omega

/-- A block whose columns are those of point `t` gives the block of the product, and of the column sums, of point `t`. -/
theorem prod_blk (t : Fin cfg0.N) (x : Vec Ideal S2048x1408 .bf16) (hx : ∀ k i, x (ix2 k i) = cat (seg0 m c) (seg1 m c) k (colAt t i)) (y : S1408x1024.Idx) :
    prod x (iblk m c 2 t) y = G3 (seg0 m c) (seg1 m c) (inp m c) ((win0_3.rect t).emb y) := by
  obtain ⟨i, j, rfl⟩ : ∃ (i : Fin 1408) (j : Fin 1024), y = ix2 i j := ⟨y 0, y 1, eq_ix2 y⟩
  have e : (win0_3.rect t).emb (ix2 i j) = ix2 (colAt t i) j := idx2_ext
    (by show win0_3.index t 0 * 1408 + 1 * i.val = _; rw [index_3]; simp [colAt])
    (by show win0_3.index t 1 * 1024 + 1 * j.val = _; rw [index_3]; simp)
  rw [e]
  exact Finset.sum_congr rfl fun k _ => congrArg₂ (· * · : EReal → EReal → EReal) (hx k i) (iblk_2 m c t k j)

theorem sums_blk (t : Fin cfg0.N) (x : Vec Ideal S2048x1408 .bf16) (hx : ∀ k i, x (ix2 k i) = cat (seg0 m c) (seg1 m c) k (colAt t i)) (y : S1x1408.Idx) :
    sums x y = G4 (seg0 m c) (seg1 m c) ((win0_4.rect t).emb y) := by
  obtain ⟨i, j, rfl⟩ : ∃ (i : Fin 1) (j : Fin 1408), y = ix2 i j := ⟨y 0, y 1, eq_ix2 y⟩
  have e : (win0_4.rect t).emb (ix2 i j) = ix2 i (colAt t j) := idx2_ext
    (by show win0_4.index t 0 * 1 + 1 * i.val = _; rw [index_4]; simp)
    (by show win0_4.index t 1 * 1408 + 1 * j.val = _; rw [index_4]; simp [colAt])
  rw [e]
  exact Finset.sum_congr rfl fun k _ => hx k j

theorem final_3 : (dats m 0 c).arrAt 3 cfg0.N = G3 (seg0 m c) (seg1 m c) (inp m c) :=
  (dats m 0 c).arrAt_eq_of_cover 3 (G3 (seg0 m c) (seg1 m c) (inp m c)) (fun t _ => by
      rcases Nat.lt_or_ge t.val 2 with h | h
      · rw [Value.flushed3_A m c t h (by omega), outA3_eq]
        funext y
        exact prod_blk m c t _ (iblk_0 m c t h) y
      · rw [Value.flushed3_B m c t (by omega) h, outB3_eq]
        funext y
        exact prod_blk m c t _ (iblk_1 m c t h) y) fun i =>
    ⟨pt (i 0), flush0_3 _, by
      show i ∈ ((View.whole main_v6_0).slice (win0_3.rect (pt (i 0)))).set
      rw [View.set_slice_whole, Rect.mem_set_unit]
      have hb := pt_bounds (i 0)
      have h1 : (i 1).val < 1024 := (i 1).isLt
      intro a
      match a with
      | ⟨0, _⟩ => show win0_3.index (pt (i 0)) 0 * 1408 ≤ (i 0 : Nat) ∧ (i 0 : Nat) < win0_3.index (pt (i 0)) 0 * 1408 + 1408
                  rw [index_3]; exact hb
      | ⟨1, _⟩ => show win0_3.index (pt (i 0)) 1 * 1024 ≤ (i 1 : Nat) ∧ (i 1 : Nat) < win0_3.index (pt (i 0)) 1 * 1024 + 1024
                  rw [index_3]; simp; omega⟩

theorem final_4 : (dats m 0 c).arrAt 4 cfg0.N = G4 (seg0 m c) (seg1 m c) :=
  (dats m 0 c).arrAt_eq_of_cover 4 (G4 (seg0 m c) (seg1 m c)) (fun t _ => by
      rcases Nat.lt_or_ge t.val 2 with h | h
      · rw [Value.flushed4_A m c t h (by omega), outA4_eq]
        funext y
        exact sums_blk m c t _ (iblk_0 m c t h) y
      · rw [Value.flushed4_B m c t (by omega) h, outB4_eq]
        funext y
        exact sums_blk m c t _ (iblk_1 m c t h) y) fun i =>
    ⟨pt (i 1), flush0_4 _, by
      show i ∈ ((View.whole main_v6_1).slice (win0_4.rect (pt (i 1)))).set
      rw [View.set_slice_whole, Rect.mem_set_unit]
      have hb := pt_bounds (i 1)
      have h1 : (i 0).val < 1 := (i 0).isLt
      intro a
      match a with
      | ⟨0, _⟩ => show win0_4.index (pt (i 1)) 0 * 1 ≤ (i 0 : Nat) ∧ (i 0 : Nat) < win0_4.index (pt (i 1)) 0 * 1 + 1
                  rw [index_4]; simp; omega
      | ⟨1, _⟩ => show win0_4.index (pt (i 1)) 1 * 1408 ≤ (i 1 : Nat) ∧ (i 1 : Nat) < win0_4.index (pt (i 1)) 1 * 1408 + 1408
                  rw [index_4]; exact hb⟩

/-! ## The reference and the claims -/

section Ref

open Cert.StackedDwRefIdeal.Read

variable (A B : Vec Ideal S1x2048x2816 .f32) (H : Vec Ideal S1x2048x1024 .f32)

theorem ref_cat (k : Fin 2048) (n : Fin 5632) : val_main_v1 (F := Ideal) A B (ix2 k n) = cat A B k n := by
  unfold val_main_v1 val_main_v0 cat
  simp only [pointwise]
  rfl

theorem ref_prod : val_main_v5 (F := Ideal) A B H = G3 A B H := by
  funext y
  obtain ⟨i, j, rfl⟩ : ∃ (i : Fin 5632) (j : Fin 1024), y = ix2 i j := ⟨y 0, y 1, eq_ix2 y⟩
  unfold val_main_v5 val_main_v4 val_main_v3 val_main_v2
  simp only [pointwise, zero_add, ref_cat]
  rfl

theorem ref_sums : val_main_v7 (F := Ideal) A B = G4 A B := by
  funext y
  obtain ⟨i, j, rfl⟩ : ∃ (i : Fin 1) (j : Fin 5632), y = ix2 i j := ⟨y 0, y 1, eq_ix2 y⟩
  unfold val_main_v7 val_main_v6 val_main_cst
  simp only [pointwise, zero_add, ↓reduceDIte, OfNat.ofNat_ne_one, ref_cat]
  rfl

end Ref

/-- **The kernel computes the product and the column sums of the two segments side by side**, over the extended reals. -/
theorem algebraic : Cert.algebraic_StackedDwIdeal_StackedDwRefIdeal := by
  intro m g m' g' _ hagree
  refine ⟨fun c => G3 (seg0 m c) (seg1 m c) (inp m c), fun c => G4 (seg0 m c) (seg1 m c),
    (θ_run Cert.StackedDwIdeal.defs _ _).mono (fun r h c => ?_) (Cert.StackedDwIdeal.Value.run_blocks m g),
    (θ_run Cert.StackedDwRefIdeal.defs _ _).mono (fun r h c => ?_) (Cert.StackedDwRefIdeal.Value.run (F := Ideal) m' g')⟩
  · obtain ⟨h3, h4, ha⟩ := h c
    exact ⟨h3.trans (final_3 m c), h4.trans (final_4 m c), ha⟩
  · obtain ⟨h3, h4, ha⟩ := h c
    obtain ⟨e0, e1, e2⟩ := hagree c
    rw [Cert.StackedDwRefIdeal.Read.val_main_v5_eq, e0, e1, e2] at h3
    rw [Cert.StackedDwRefIdeal.Read.val_main_v7_eq, e0, e1] at h4
    exact ⟨h3.trans (ref_prod (seg0 m c) (seg1 m c) (inp m c)), h4.trans (ref_sums (seg0 m c) (seg1 m c)), ha⟩

/-- The reference terminates without fault and leaves its arguments unchanged. -/
theorem frame_ref : Cert.quiescent_StackedDwRefIdeal := fun m ρ _ =>
  (θ_run Cert.StackedDwRefIdeal.defs _ _).mono (fun r h => ⟨fun c => (h c).2.2, sem_eq_zero_of_no_sems (by decide) r.2⟩)
    (Cert.StackedDwRefIdeal.Value.run (F := Ideal) m ρ)

end Cert.StackedDwProof

end
-- ==== Proof.lean ====
module

public import proofs.«01_k».proof.Defs
public import proofs.«01_k».proof.Proof.Gen.ConvFwd
public import proofs.«01_k».proof.Proof.Gen.ConvFwdIdeal
public import proofs.«01_k».proof.Proof.Gen.ConvFwdRefIdeal
public import proofs.«01_k».proof.Proof.Gen.ConvFwdRefIdeal.Run
public import proofs.«01_k».proof.Proof.Gen.ConvFwdRefIdeal.Read
public import proofs.«01_k».proof.Proof.Gen.ConvFwdIdeal.Skeleton
public import proofs.«01_k».proof.Proof.Gen.ConvFwdIdeal.Launch
public import proofs.«01_k».proof.Proof.Gen.ConvFwdIdeal.Points
public import proofs.«01_k».proof.Proof.Gen.ConvFwdIdeal.Frame
public import proofs.«01_k».proof.Proof.Gen.ConvFwdIdeal.Loops
public import proofs.«01_k».proof.Proof.Gen.ConvBwd
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvBwdIdeal.Loops
public import proofs.«01_k».proof.Proof.Gen.ConvBwdRefIdeal
public import proofs.«01_k».proof.Proof.Gen.ConvBwdRefIdeal.Run
public import proofs.«01_k».proof.Proof.Gen.ConvBwdRefIdeal.Read
public import proofs.«01_k».proof.Proof.Gen.Pre_conv_finite
public import proofs.«01_k».proof.Proof.Gen.SwigluBwd
public import proofs.«01_k».proof.Proof.Gen.SwigluBwd.Skeleton
public import proofs.«01_k».proof.Proof.Gen.SwigluBwd.Launch
public import proofs.«01_k».proof.Proof.Gen.SwigluBwd.Points
public import proofs.«01_k».proof.Proof.Gen.SwigluBwd.Frame
public import proofs.«01_k».proof.Proof.Gen.SwigluBwdIdeal
public import proofs.«01_k».proof.Proof.Gen.SwigluBwdIdeal.Skeleton
public import proofs.«01_k».proof.Proof.Gen.SwigluBwdIdeal.Launch
public import proofs.«01_k».proof.Proof.Gen.SwigluBwdIdeal.Points
public import proofs.«01_k».proof.Proof.Gen.SwigluBwdIdeal.Frame
public import proofs.«01_k».proof.Proof.Gen.SwigluBwdRefIdeal
public import proofs.«01_k».proof.Proof.Gen.SwigluBwdIdeal.Value
public import proofs.«01_k».proof.Proof.Gen.SwigluBwdRefIdeal.Run
public import proofs.«01_k».proof.Proof.Gen.SwigluBwdRefIdeal.Read
public import proofs.«01_k».proof.Proof.Gen.MergeBwd
public import proofs.«01_k».proof.Proof.Gen.MergeBwd.Skeleton
public import proofs.«01_k».proof.Proof.Gen.MergeBwd.Launch
public import proofs.«01_k».proof.Proof.Gen.MergeBwd.Points
public import proofs.«01_k».proof.Proof.Gen.MergeBwd.Frame
public import proofs.«01_k».proof.Proof.Gen.MergeBwdIdeal
public import proofs.«01_k».proof.Proof.Gen.MergeBwdIdeal.Skeleton
public import proofs.«01_k».proof.Proof.Gen.MergeBwdIdeal.Launch
public import proofs.«01_k».proof.Proof.Gen.MergeBwdIdeal.Points
public import proofs.«01_k».proof.Proof.Gen.MergeBwdIdeal.Frame
public import proofs.«01_k».proof.Proof.Gen.MergeBwdIdeal.Value
public import proofs.«01_k».proof.Proof.Gen.MergeBwdRefIdeal
public import proofs.«01_k».proof.Proof.Gen.MergeBwdRefIdeal.Run
public import proofs.«01_k».proof.Proof.Gen.MergeBwdRefIdeal.Read
public import proofs.«01_k».proof.Proof.Gen.LossGrad
public import proofs.«01_k».proof.Proof.Gen.LossGrad.Skeleton
public import proofs.«01_k».proof.Proof.Gen.LossGrad.Launch
public import proofs.«01_k».proof.Proof.Gen.LossGrad.Points
public import proofs.«01_k».proof.Proof.Gen.LossGrad.Frame
public import proofs.«01_k».proof.Proof.Gen.LossGradIdeal
public import proofs.«01_k».proof.Proof.Gen.LossGradIdeal.Skeleton
public import proofs.«01_k».proof.Proof.Gen.LossGradIdeal.Launch
public import proofs.«01_k».proof.Proof.Gen.LossGradIdeal.Points
public import proofs.«01_k».proof.Proof.Gen.LossGradIdeal.Frame
public import proofs.«01_k».proof.Proof.Gen.LossGradIdeal.Value
public import proofs.«01_k».proof.Proof.Gen.LossGradRefIdeal
public import proofs.«01_k».proof.Proof.Gen.LossGradRefIdeal.Run
public import proofs.«01_k».proof.Proof.Gen.LossGradRefIdeal.Read
public import proofs.«01_k».proof.Proof.Gen.ProjInBwd
public import proofs.«01_k».proof.Proof.Gen.ProjInBwd.Skeleton
public import proofs.«01_k».proof.Proof.Gen.ProjInBwd.Launch
public import proofs.«01_k».proof.Proof.Gen.ProjInBwd.Points
public import proofs.«01_k».proof.Proof.Gen.ProjInBwd.Frame
public import proofs.«01_k».proof.Proof.Gen.ProjInBwdIdeal
public import proofs.«01_k».proof.Proof.Gen.ProjInBwdIdeal.Skeleton
public import proofs.«01_k».proof.Proof.Gen.ProjInBwdIdeal.Launch
public import proofs.«01_k».proof.Proof.Gen.ProjInBwdIdeal.Points
public import proofs.«01_k».proof.Proof.Gen.ProjInBwdIdeal.Frame
public import proofs.«01_k».proof.Proof.Gen.ProjInBwdIdeal.Value
public import proofs.«01_k».proof.Proof.Gen.ProjInBwdRefIdeal
public import proofs.«01_k».proof.Proof.Gen.ProjInBwdRefIdeal.Run
public import proofs.«01_k».proof.Proof.Gen.ProjInBwdRefIdeal.Read
public import proofs.«01_k».proof.Proof.Gen.FfnInBwd
public import proofs.«01_k».proof.Proof.Gen.FfnInBwd.Skeleton
public import proofs.«01_k».proof.Proof.Gen.FfnInBwd.Launch
public import proofs.«01_k».proof.Proof.Gen.FfnInBwd.Points
public import proofs.«01_k».proof.Proof.Gen.FfnInBwd.Frame
public import proofs.«01_k».proof.Proof.Gen.FfnInBwdIdeal
public import proofs.«01_k».proof.Proof.Gen.FfnInBwdIdeal.Skeleton
public import proofs.«01_k».proof.Proof.Gen.FfnInBwdIdeal.Launch
public import proofs.«01_k».proof.Proof.Gen.FfnInBwdIdeal.Points
public import proofs.«01_k».proof.Proof.Gen.FfnInBwdIdeal.Frame
public import proofs.«01_k».proof.Proof.Gen.FfnInBwdIdeal.Value
public import proofs.«01_k».proof.Proof.Gen.FfnInBwdRefIdeal
public import proofs.«01_k».proof.Proof.Gen.FfnInBwdRefIdeal.Run
public import proofs.«01_k».proof.Proof.Gen.FfnInBwdRefIdeal.Read
public import proofs.«01_k».proof.Proof.Swiglu
public import proofs.«01_k».proof.Proof.Gen.AttnBwd
public import proofs.«01_k».proof.Proof.Gen.AttnBwd.Skeleton
public import proofs.«01_k».proof.Proof.Gen.AttnBwd.Loops
public import proofs.«01_k».proof.Proof.Gen.AttnBwd.Launch
public import proofs.«01_k».proof.Proof.Gen.AttnBwd.Points
public import proofs.«01_k».proof.Proof.Gen.AttnBwd.Frame
public import proofs.«01_k».proof.Proof.Gen.AttnBwdIdeal
public import proofs.«01_k».proof.Proof.Gen.AttnBwdIdeal.Skeleton
public import proofs.«01_k».proof.Proof.Gen.AttnBwdIdeal.Loops
public import proofs.«01_k».proof.Proof.Gen.AttnBwdIdeal.Launch
public import proofs.«01_k».proof.Proof.Gen.AttnBwdIdeal.Points
public import proofs.«01_k».proof.Proof.Gen.AttnBwdIdeal.Frame
public import proofs.«01_k».proof.Proof.Gen.AttnBwdRefIdeal
public import proofs.«01_k».proof.Proof.Gen.AttnBwdRefIdeal.Run
public import proofs.«01_k».proof.Proof.Gen.AttnBwdRefIdeal.Read
public import proofs.«01_k».proof.Proof.Merge
public import proofs.«01_k».proof.Proof.Loss
public import proofs.«01_k».proof.Proof.ProjIn
public import proofs.«01_k».proof.Proof.FfnIn
public import proofs.«01_k».proof.Proof.Gen.Pre_swiglu_finite
public import proofs.«01_k».proof.Proof.Gen.Pre_attn_finite
public import proofs.«01_k».proof.Proof.Attn
public import proofs.«01_k».proof.Proof.Conv
public import proofs.«01_k».proof.Proof.Gen.OutProj
public import proofs.«01_k».proof.Proof.Gen.OutProjIdeal
public import proofs.«01_k».proof.Proof.Gen.FirstNormIdeal
public import proofs.«01_k».proof.Proof.Gen.OutProjRefIdeal
public import proofs.«01_k».proof.Proof.Gen.FirstNormRefIdeal
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.FirstNormRefIdeal.Read
public import proofs.«01_k».proof.Proof.Gen.SwigluFwd
public import proofs.«01_k».proof.Proof.Gen.SwigluFwdIdeal
public import proofs.«01_k».proof.Proof.Gen.SwigluFwdRefIdeal
public import proofs.«01_k».proof.Proof.Gen.SwigluFwdIdeal.Value
public import proofs.«01_k».proof.Proof.Gen.SwigluFwdRefIdeal.Run
public import proofs.«01_k».proof.Proof.Gen.SwigluFwdRefIdeal.Read
public import proofs.«01_k».proof.Proof.Gen.ProjMerge
public import proofs.«01_k».proof.Proof.Gen.ProjMergeIdeal
public import proofs.«01_k».proof.Proof.Gen.ProjMergeRefIdeal
public import proofs.«01_k».proof.Proof.Gen.ProjMergeIdeal.Value
public import proofs.«01_k».proof.Proof.Gen.ProjMergeRefIdeal.Run
public import proofs.«01_k».proof.Proof.Gen.ProjMergeRefIdeal.Read
public import proofs.«01_k».proof.Proof.Gen.AttnFwd
public import proofs.«01_k».proof.Proof.Gen.AttnFwdIdeal
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.Gen.Pre_attn_fwd_finite
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwd.Loops
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdIdeal.Loops
public import proofs.«01_k».proof.Proof.Gen.OutProj.Skeleton
public import proofs.«01_k».proof.Proof.Gen.FirstNorm.Skeleton
public import proofs.«01_k».proof.Proof.Gen.OutProj.Launch
public import proofs.«01_k».proof.Proof.Gen.FirstNorm.Launch
public import proofs.«01_k».proof.Proof.Gen.OutProj.Points
public import proofs.«01_k».proof.Proof.Gen.FirstNorm.Points
public import proofs.«01_k».proof.Proof.Gen.OutProj.Frame
public import proofs.«01_k».proof.Proof.Gen.FirstNorm.Frame
public import proofs.«01_k».proof.Proof.Gen.OutProjIdeal.Skeleton
public import proofs.«01_k».proof.Proof.Gen.FirstNormIdeal.Skeleton
public import proofs.«01_k».proof.Proof.Gen.OutProjIdeal.Launch
public import proofs.«01_k».proof.Proof.Gen.FirstNormIdeal.Launch
public import proofs.«01_k».proof.Proof.Gen.OutProjIdeal.Points
public import proofs.«01_k».proof.Proof.Gen.FirstNormIdeal.Points
public import proofs.«01_k».proof.Proof.Gen.OutProjIdeal.Frame
public import proofs.«01_k».proof.Proof.Gen.FirstNormIdeal.Frame
public import proofs.«01_k».proof.Proof.Gen.SwigluFwd.Skeleton
public import proofs.«01_k».proof.Proof.Gen.SwigluFwd.Launch
public import proofs.«01_k».proof.Proof.Gen.SwigluFwd.Points
public import proofs.«01_k».proof.Proof.Gen.SwigluFwd.Frame
public import proofs.«01_k».proof.Proof.Gen.SwigluFwdIdeal.Skeleton
public import proofs.«01_k».proof.Proof.Gen.SwigluFwdIdeal.Launch
public import proofs.«01_k».proof.Proof.Gen.SwigluFwdIdeal.Points
public import proofs.«01_k».proof.Proof.Gen.SwigluFwdIdeal.Frame
public import proofs.«01_k».proof.Proof.Gen.ProjMerge.Skeleton
public import proofs.«01_k».proof.Proof.Gen.ProjMerge.Launch
public import proofs.«01_k».proof.Proof.Gen.ProjMerge.Points
public import proofs.«01_k».proof.Proof.Gen.ProjMerge.Frame
public import proofs.«01_k».proof.Proof.Gen.ProjMergeIdeal.Skeleton
public import proofs.«01_k».proof.Proof.Gen.ProjMergeIdeal.Launch
public import proofs.«01_k».proof.Proof.Gen.ProjMergeIdeal.Points
public import proofs.«01_k».proof.Proof.Gen.ProjMergeIdeal.Frame
public import proofs.«01_k».proof.Proof.NormFwd
public import proofs.«01_k».proof.Proof.GateFwd
public import proofs.«01_k».proof.Proof.MergeFwd
public import proofs.«01_k».proof.Proof.AttnFwd
public import proofs.«01_k».proof.Proof.ConvFwd
public import proofs.«01_k».proof.Proof.Gen.FirstNorm
public import proofs.«01_k».proof.Proof.Gen.FirstNormIdeal.Value
public import proofs.«01_k».proof.Proof.Gen.FirstNormRefIdeal.Run
public import proofs.«01_k».proof.Proof.FirstNorm
public import proofs.«01_k».proof.Proof.Gen.DownDw
public import proofs.«01_k».proof.Proof.Gen.DownDwIdeal
public import proofs.«01_k».proof.Proof.Gen.DownDw.Skeleton
public import proofs.«01_k».proof.Proof.Gen.DownDwIdeal.Skeleton
public import proofs.«01_k».proof.Proof.Gen.DownDw.Launch
public import proofs.«01_k».proof.Proof.Gen.DownDwIdeal.Launch
public import proofs.«01_k».proof.Proof.Gen.DownDw.Points
public import proofs.«01_k».proof.Proof.Gen.DownDwIdeal.Points
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.AdamW
public import proofs.«01_k».proof.Proof.Gen.AdamWIdeal
public import proofs.«01_k».proof.Proof.Gen.AdamW.Skeleton
public import proofs.«01_k».proof.Proof.Gen.AdamWIdeal.Skeleton
public import proofs.«01_k».proof.Proof.Gen.AdamW.Launch
public import proofs.«01_k».proof.Proof.Gen.AdamWIdeal.Launch
public import proofs.«01_k».proof.Proof.Gen.AdamW.Points
public import proofs.«01_k».proof.Proof.Gen.AdamWIdeal.Points
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.StackedDw.Frame
public import proofs.«01_k».proof.Proof.Gen.StackedDwIdeal.Frame
public import proofs.«01_k».proof.Proof.Gen.StackedDwIdeal.Value
public import proofs.«01_k».proof.Proof.Gen.StackedDwRefIdeal.Run
public import proofs.«01_k».proof.Proof.Gen.StackedDwRefIdeal.Read
public import proofs.«01_k».proof.Proof.DownDw
public import proofs.«01_k».proof.Proof.AdamW
public import proofs.«01_k».proof.Proof.StackedDw
public import Idealize.ShloMosaic.Adequacy
public import Idealize.ShloMosaic.Init

@[expose] public section

noncomputable section

namespace Cert.Proof

open Idealize.ShloMosaic Idealize.SL.Sem

theorem claim : Cert.Claim := ⟨
  Cert.SwigluBwd.Gen.facts, Cert.SwigluBwdIdeal.Gen.facts, Cert.SwigluBwdRefIdeal.Gen.facts,
  Cert.MergeBwd.Gen.facts, Cert.MergeBwdIdeal.Gen.facts, Cert.MergeBwdRefIdeal.Gen.facts,
  Cert.LossGrad.Gen.facts, Cert.LossGradIdeal.Gen.facts, Cert.LossGradRefIdeal.Gen.facts,
  Cert.ProjInBwd.Gen.facts, Cert.ProjInBwdIdeal.Gen.facts, Cert.ProjInBwdRefIdeal.Gen.facts,
  Cert.FfnInBwd.Gen.facts, Cert.FfnInBwdIdeal.Gen.facts, Cert.FfnInBwdRefIdeal.Gen.facts,
  Cert.AttnBwd.Gen.facts, Cert.AttnBwdIdeal.Gen.facts, Cert.AttnBwdRefIdeal.Gen.facts,
  Cert.ConvBwd.Gen.facts, Cert.ConvBwdIdeal.Gen.facts, Cert.ConvBwdRefIdeal.Gen.facts,
  Cert.OutProj.Gen.facts, Cert.OutProjIdeal.Gen.facts, Cert.OutProjRefIdeal.Gen.facts,
  Cert.SwigluFwd.Gen.facts, Cert.SwigluFwdIdeal.Gen.facts, Cert.SwigluFwdRefIdeal.Gen.facts,
  Cert.ProjMerge.Gen.facts, Cert.ProjMergeIdeal.Gen.facts, Cert.ProjMergeRefIdeal.Gen.facts,
  Cert.AttnFwd.Gen.facts, Cert.AttnFwdIdeal.Gen.facts, Cert.AttnFwdRefIdeal.Gen.facts,
  Cert.ConvFwd.Gen.facts, Cert.ConvFwdIdeal.Gen.facts, Cert.ConvFwdRefIdeal.Gen.facts,
  Cert.FirstNorm.Gen.facts, Cert.FirstNormIdeal.Gen.facts, Cert.FirstNormRefIdeal.Gen.facts,
  Cert.DownDw.Gen.facts, Cert.DownDwIdeal.Gen.facts, Cert.DownDwRefIdeal.Gen.facts,
  Cert.AdamW.Gen.facts, Cert.AdamWIdeal.Gen.facts, Cert.AdamWRefIdeal.Gen.facts,
  Cert.StackedDw.Gen.facts, Cert.StackedDwIdeal.Gen.facts, Cert.StackedDwRefIdeal.Gen.facts,
  Cert.Pre_swiglu_finite.Gen.facts,
  Cert.Pre_attn_finite.Gen.facts,
  Cert.Pre_conv_finite.Gen.facts,
  Cert.Pre_attn_fwd_finite.Gen.facts,
  fun m ρ _ => Cert.SwigluBwd.Gen.frame m ρ, fun m ρ _ => Cert.SwigluBwdIdeal.Gen.frame m ρ, fun m ρ _ => Cert.SwigluBwdIdeal.Gen.frame m ρ, Cert.SwigluProof.frame_ref, fun m ρ _ => Cert.SwigluProof.frame_ref m ρ trivial,
  fun m ρ _ => Cert.MergeBwd.Gen.frame m ρ, fun m ρ _ => Cert.MergeBwdIdeal.Gen.frame m ρ, Cert.MergeProof.frame_ref,
  fun m ρ _ => Cert.LossGrad.Gen.frame m ρ, fun m ρ _ => Cert.LossGradIdeal.Gen.frame m ρ, Cert.LossProof.frame_ref,
  fun m ρ _ => Cert.ProjInBwd.Gen.frame m ρ, fun m ρ _ => Cert.ProjInBwdIdeal.Gen.frame m ρ, Cert.ProjInProof.frame_ref,
  fun m ρ _ => Cert.FfnInBwd.Gen.frame m ρ, fun m ρ _ => Cert.FfnInBwdIdeal.Gen.frame m ρ, Cert.FfnInProof.frame_ref,
  Cert.AttnProof.frame_kernel, Cert.AttnProof.frame_ideal, fun m ρ _ => Cert.AttnProof.frame_ideal m ρ trivial, Cert.AttnProof.frame_ref, fun m ρ _ => Cert.AttnProof.frame_ref m ρ trivial,
  Cert.ConvProof.frame_kernel, Cert.ConvProof.frame_ideal, fun m ρ _ => Cert.ConvProof.frame_ideal m ρ trivial, Cert.ConvProof.frame_ref, fun m ρ _ => Cert.ConvProof.frame_ref m ρ trivial,
  fun m ρ _ => Cert.OutProj.Gen.frame m ρ, fun m ρ _ => Cert.OutProjIdeal.Gen.frame m ρ, Cert.NormFwd.frame_ref,
  fun m ρ _ => Cert.SwigluFwd.Gen.frame m ρ, fun m ρ _ => Cert.SwigluFwdIdeal.Gen.frame m ρ, Cert.GateFwd.frame_ref,
  fun m ρ _ => Cert.ProjMerge.Gen.frame m ρ, fun m ρ _ => Cert.ProjMergeIdeal.Gen.frame m ρ, Cert.MergeFwd.frame_ref,
  fun m ρ _ => Cert.AttnFwd.Gen.frame m ρ, fun m ρ _ => Cert.AttnFwdIdeal.Gen.frame m ρ, fun m ρ _ => Cert.AttnFwdIdeal.Gen.frame m ρ, Cert.AttnFwdProof.frame_ref, fun m ρ _ => Cert.AttnFwdProof.frame_ref m ρ trivial,
  Cert.ConvFwdProof.frame_kernel, Cert.ConvFwdProof.frame_ideal, Cert.ConvFwdProof.frame_ref,
  fun m ρ _ => Cert.FirstNorm.Gen.frame m ρ, fun m ρ _ => Cert.FirstNormIdeal.Gen.frame m ρ, Cert.FirstNormProof.frame_ref,
  fun m ρ _ => Cert.DownDw.Gen.frame m ρ, fun m ρ _ => Cert.DownDwIdeal.Gen.frame m ρ, Cert.DownDwProof.frame_ref,
  fun m ρ _ => Cert.AdamW.Gen.frame m ρ, fun m ρ _ => Cert.AdamWIdeal.Gen.frame m ρ, Cert.AdamWProof.frame_ref,
  fun m ρ _ => Cert.StackedDw.Gen.frame m ρ, fun m ρ _ => Cert.StackedDwIdeal.Gen.frame m ρ, Cert.StackedDwProof.frame_ref,
  trivial, Cert.SwigluProof.algebraic,
  trivial, Cert.MergeProof.algebraic,
  trivial, Cert.LossProof.algebraic,
  trivial, Cert.ProjInProof.algebraic,
  trivial, Cert.FfnInProof.algebraic,
  Cert.AttnProof.preserves, Cert.AttnProof.algebraic,
  trivial, Cert.ConvProof.algebraic,
  trivial, Cert.NormFwd.algebraic,
  trivial, Cert.GateFwd.algebraic,
  trivial, Cert.MergeFwd.algebraic,
  Cert.AttnFwdProof.preserves, Cert.AttnFwdProof.algebraic,
  trivial, Cert.ConvFwdProof.algebraic,
  trivial, Cert.FirstNormProof.algebraic,
  trivial, Cert.DownDwProof.algebraic,
  trivial, Cert.AdamWProof.algebraic,
  trivial, Cert.StackedDwProof.algebraic⟩

end Cert.Proof

end
